-- ==== Defs.lean ====
def Pre_Kernel [hPre_counts_fit : Cert.Pre_counts_fit.Facts] (m : (ℓ : Loc Cert.Kernel.nD Cert.Kernel.τ Cert.Kernel.sig) → Buf (Elt Bits) ℓ) : Prop :=
  ∀ c : Dev Cert.Kernel.nD,
    (Cert.Pre_counts_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_counts_fit : Cert.Pre_counts_fit.Facts] (m : (ℓ : Loc Cert.KernelIdeal.nD Cert.KernelIdeal.τ Cert.KernelIdeal.sig) → Buf (Elt Ideal) ℓ) : Prop :=
  ∀ c : Dev Cert.KernelIdeal.nD,
    (Cert.Pre_counts_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_fit [hPre_counts_fit : Cert.Pre_counts_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Reference [hPre_counts_fit : Cert.Pre_counts_fit.Facts] (m : (ℓ : Loc Cert.Reference.nD Cert.Reference.τ Cert.Reference.sig) → Buf (Elt Bits) ℓ) : Prop :=
  ∀ c : Dev Cert.Reference.nD,
    (Cert.Pre_counts_fit.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))) = (fun _ => 1#1)

def Pre_Suppress (m : (ℓ : Loc Cert.Suppress.nD Cert.Suppress.τ Cert.Suppress.sig) → Buf (Elt Bits) ℓ) : Prop :=
  True

def Pre_SuppressIdeal (m : (ℓ : Loc Cert.SuppressIdeal.nD Cert.SuppressIdeal.τ Cert.SuppressIdeal.sig) → Buf (Elt Ideal) ℓ) : Prop :=
  True

def Pre_SuppressIdeal_candidates_differ [hPre_candidates_differ : Cert.Pre_candidates_differ.Facts] (m : (ℓ : Loc Cert.SuppressIdeal.nD Cert.SuppressIdeal.τ Cert.SuppressIdeal.sig) → Buf (Elt Ideal) ℓ) : Prop :=
  ∀ c : Dev Cert.SuppressIdeal.nD,
    (Cert.Pre_candidates_differ.fn (F := Ideal) (m ((c.tc : Thread Cert.SuppressIdeal.nD Cert.SuppressIdeal.τ).loc Cert.SuppressIdeal.main_arg0)) (m ((c.tc : Thread Cert.SuppressIdeal.nD Cert.SuppressIdeal.τ).loc Cert.SuppressIdeal.main_arg1)) (m ((c.tc : Thread Cert.SuppressIdeal.nD Cert.SuppressIdeal.τ).loc Cert.SuppressIdeal.main_arg2)) (m ((c.tc : Thread Cert.SuppressIdeal.nD Cert.SuppressIdeal.τ).loc Cert.SuppressIdeal.main_arg3)) (m ((c.tc : Thread Cert.SuppressIdeal.nD Cert.SuppressIdeal.τ).loc Cert.SuppressIdeal.main_arg4)) (m ((c.tc : Thread Cert.SuppressIdeal.nD Cert.SuppressIdeal.τ).loc Cert.SuppressIdeal.main_arg5))) = (fun _ => 1#1)

def Pre_GreedyIdeal (m : (ℓ : Loc Cert.GreedyIdeal.nD Cert.GreedyIdeal.τ Cert.GreedyIdeal.sig) → Buf (Elt Ideal) ℓ) : Prop :=
  True

def Pre_GreedyIdeal_candidates_differ [hPre_candidates_differ : Cert.Pre_candidates_differ.Facts] (m : (ℓ : Loc Cert.GreedyIdeal.nD Cert.GreedyIdeal.τ Cert.GreedyIdeal.sig) → Buf (Elt Ideal) ℓ) : Prop :=
  ∀ c : Dev Cert.GreedyIdeal.nD,
    (Cert.Pre_candidates_differ.fn (F := Ideal) (m ((c.tc : Thread Cert.GreedyIdeal.nD Cert.GreedyIdeal.τ).loc Cert.GreedyIdeal.main_arg0)) (m ((c.tc : Thread Cert.GreedyIdeal.nD Cert.GreedyIdeal.τ).loc Cert.GreedyIdeal.main_arg1)) (m ((c.tc : Thread Cert.GreedyIdeal.nD Cert.GreedyIdeal.τ).loc Cert.GreedyIdeal.main_arg2)) (m ((c.tc : Thread Cert.GreedyIdeal.nD Cert.GreedyIdeal.τ).loc Cert.GreedyIdeal.main_arg3)) (m ((c.tc : Thread Cert.GreedyIdeal.nD Cert.GreedyIdeal.τ).loc Cert.GreedyIdeal.main_arg4)) (m ((c.tc : Thread Cert.GreedyIdeal.nD Cert.GreedyIdeal.τ).loc Cert.GreedyIdeal.main_arg5))) = (fun _ => 1#1)

def Pre_Greedy (m : (ℓ : Loc Cert.Greedy.nD Cert.Greedy.τ Cert.Greedy.sig) → Buf (Elt Bits) ℓ) : Prop :=
  True

def Pre_Trunk (m : (ℓ : Loc Cert.Trunk.nD Cert.Trunk.τ Cert.Trunk.sig) → Buf (Elt Bits) ℓ) : Prop :=
  True

def Pre_TrunkIdeal (m : (ℓ : Loc Cert.TrunkIdeal.nD Cert.TrunkIdeal.τ Cert.TrunkIdeal.sig) → Buf (Elt Ideal) ℓ) : Prop :=
  True

def Pre_ProposalsIdeal (m : (ℓ : Loc Cert.ProposalsIdeal.nD Cert.ProposalsIdeal.τ Cert.ProposalsIdeal.sig) → Buf (Elt Ideal) ℓ) : Prop :=
  True

def Pre_Proposals (m : (ℓ : Loc Cert.Proposals.nD Cert.Proposals.τ Cert.Proposals.sig) → Buf (Elt Bits) ℓ) : Prop :=
  True

def Pre_Threshold (m : (ℓ : Loc Cert.Threshold.nD Cert.Threshold.τ Cert.Threshold.sig) → Buf (Elt Bits) ℓ) : Prop :=
  True

def Pre_ThresholdIdeal (m : (ℓ : Loc Cert.ThresholdIdeal.nD Cert.ThresholdIdeal.τ Cert.ThresholdIdeal.sig) → Buf (Elt Ideal) ℓ) : Prop :=
  True

def Pre_RankedIdeal (m : (ℓ : Loc Cert.RankedIdeal.nD Cert.RankedIdeal.τ Cert.RankedIdeal.sig) → Buf (Elt Ideal) ℓ) : Prop :=
  True

def Pre_Ranked (m : (ℓ : Loc Cert.Ranked.nD Cert.Ranked.τ Cert.Ranked.sig) → Buf (Elt Bits) ℓ) : Prop :=
  True

def quiescent_Kernel [hKernel : Cert.Kernel.Facts] [hPre_counts_fit : Cert.Pre_counts_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_counts_fit : Cert.Pre_counts_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_counts_fit [hReferenceIdeal : Cert.ReferenceIdeal.Facts] [hPre_counts_fit : Cert.Pre_counts_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] [hPre_counts_fit : Cert.Pre_counts_fit.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_Suppress [hSuppress : Cert.Suppress.Facts] : Prop :=
  ∀ (m : (ℓ : Loc Cert.Suppress.nD Cert.Suppress.τ Cert.Suppress.sig) → Buf (Elt Bits) ℓ) (g : Dev Cert.Suppress.nD → PrngReg), Pre_Suppress m →
    θ_run (Cert.Suppress.defs (F := Bits)) (onTc (τ := Cert.Suppress.τ) (Cert.Suppress.main (F := Bits))) ⟨m, fun _ => 0, g⟩ (fun r => (∀ c : Dev Cert.Suppress.nD,
      r.2.mem ((c.tc : Thread Cert.Suppress.nD Cert.Suppress.τ).loc Cert.Suppress.main_arg0) = m ((c.tc : Thread Cert.Suppress.nD Cert.Suppress.τ).loc Cert.Suppress.main_arg0)
      ∧ r.2.mem ((c.tc : Thread Cert.Suppress.nD Cert.Suppress.τ).loc Cert.Suppress.main_arg1) = m ((c.tc : Thread Cert.Suppress.nD Cert.Suppress.τ).loc Cert.Suppress.main_arg1)
      ∧ r.2.mem ((c.tc : Thread Cert.Suppress.nD Cert.Suppress.τ).loc Cert.Suppress.main_arg2) = m ((c.tc : Thread Cert.Suppress.nD Cert.Suppress.τ).loc Cert.Suppress.main_arg2)
      ∧ r.2.mem ((c.tc : Thread Cert.Suppress.nD Cert.Suppress.τ).loc Cert.Suppress.main_arg3) = m ((c.tc : Thread Cert.Suppress.nD Cert.Suppress.τ).loc Cert.Suppress.main_arg3)
      ∧ r.2.mem ((c.tc : Thread Cert.Suppress.nD Cert.Suppress.τ).loc Cert.Suppress.main_arg4) = m ((c.tc : Thread Cert.Suppress.nD Cert.Suppress.τ).loc Cert.Suppress.main_arg4)
      ∧ r.2.mem ((c.tc : Thread Cert.Suppress.nD Cert.Suppress.τ).loc Cert.Suppress.main_arg5) = m ((c.tc : Thread Cert.Suppress.nD Cert.Suppress.τ).loc Cert.Suppress.main_arg5))
      ∧ r.2.sem = fun _ => 0)

def quiescent_SuppressIdeal [hSuppressIdeal : Cert.SuppressIdeal.Facts] : Prop :=
  ∀ (m : (ℓ : Loc Cert.SuppressIdeal.nD Cert.SuppressIdeal.τ Cert.SuppressIdeal.sig) → Buf (Elt Ideal) ℓ) (g : Dev Cert.SuppressIdeal.nD → PrngReg), Pre_SuppressIdeal m →
    θ_run (Cert.SuppressIdeal.defs (F := Ideal)) (onTc (τ := Cert.SuppressIdeal.τ) (Cert.SuppressIdeal.main (F := Ideal))) ⟨m, fun _ => 0, g⟩ (fun r => (∀ c : Dev Cert.SuppressIdeal.nD,
      r.2.mem ((c.tc : Thread Cert.SuppressIdeal.nD Cert.SuppressIdeal.τ).loc Cert.SuppressIdeal.main_arg0) = m ((c.tc : Thread Cert.SuppressIdeal.nD Cert.SuppressIdeal.τ).loc Cert.SuppressIdeal.main_arg0)
      ∧ r.2.mem ((c.tc : Thread Cert.SuppressIdeal.nD Cert.SuppressIdeal.τ).loc Cert.SuppressIdeal.main_arg1) = m ((c.tc : Thread Cert.SuppressIdeal.nD Cert.SuppressIdeal.τ).loc Cert.SuppressIdeal.main_arg1)
      ∧ r.2.mem ((c.tc : Thread Cert.SuppressIdeal.nD Cert.SuppressIdeal.τ).loc Cert.SuppressIdeal.main_arg2) = m ((c.tc : Thread Cert.SuppressIdeal.nD Cert.SuppressIdeal.τ).loc Cert.SuppressIdeal.main_arg2)
      ∧ r.2.mem ((c.tc : Thread Cert.SuppressIdeal.nD Cert.SuppressIdeal.τ).loc Cert.SuppressIdeal.main_arg3) = m ((c.tc : Thread Cert.SuppressIdeal.nD Cert.SuppressIdeal.τ).loc Cert.SuppressIdeal.main_arg3)
      ∧ r.2.mem ((c.tc : Thread Cert.SuppressIdeal.nD Cert.SuppressIdeal.τ).loc Cert.SuppressIdeal.main_arg4) = m ((c.tc : Thread Cert.SuppressIdeal.nD Cert.SuppressIdeal.τ).loc Cert.SuppressIdeal.main_arg4)
      ∧ r.2.mem ((c.tc : Thread Cert.SuppressIdeal.nD Cert.SuppressIdeal.τ).loc Cert.SuppressIdeal.main_arg5) = m ((c.tc : Thread Cert.SuppressIdeal.nD Cert.SuppressIdeal.τ).loc Cert.SuppressIdeal.main_arg5))
      ∧ r.2.sem = fun _ => 0)

def quiescent_SuppressIdeal_pre_candidates_differ [hSuppressIdeal : Cert.SuppressIdeal.Facts] [hPre_candidates_differ : Cert.Pre_candidates_differ.Facts] : Prop :=
  ∀ (m : (ℓ : Loc Cert.SuppressIdeal.nD Cert.SuppressIdeal.τ Cert.SuppressIdeal.sig) → Buf (Elt Ideal) ℓ) (g : Dev Cert.SuppressIdeal.nD → PrngReg), Pre_SuppressIdeal_candidates_differ m →
    θ_run (Cert.SuppressIdeal.defs (F := Ideal)) (onTc (τ := Cert.SuppressIdeal.τ) (Cert.SuppressIdeal.main (F := Ideal))) ⟨m, fun _ => 0, g⟩ (fun r => (∀ c : Dev Cert.SuppressIdeal.nD,
      r.2.mem ((c.tc : Thread Cert.SuppressIdeal.nD Cert.SuppressIdeal.τ).loc Cert.SuppressIdeal.main_arg0) = m ((c.tc : Thread Cert.SuppressIdeal.nD Cert.SuppressIdeal.τ).loc Cert.SuppressIdeal.main_arg0)
      ∧ r.2.mem ((c.tc : Thread Cert.SuppressIdeal.nD Cert.SuppressIdeal.τ).loc Cert.SuppressIdeal.main_arg1) = m ((c.tc : Thread Cert.SuppressIdeal.nD Cert.SuppressIdeal.τ).loc Cert.SuppressIdeal.main_arg1)
      ∧ r.2.mem ((c.tc : Thread Cert.SuppressIdeal.nD Cert.SuppressIdeal.τ).loc Cert.SuppressIdeal.main_arg2) = m ((c.tc : Thread Cert.SuppressIdeal.nD Cert.SuppressIdeal.τ).loc Cert.SuppressIdeal.main_arg2)
      ∧ r.2.mem ((c.tc : Thread Cert.SuppressIdeal.nD Cert.SuppressIdeal.τ).loc Cert.SuppressIdeal.main_arg3) = m ((c.tc : Thread Cert.SuppressIdeal.nD Cert.SuppressIdeal.τ).loc Cert.SuppressIdeal.main_arg3)
      ∧ r.2.mem ((c.tc : Thread Cert.SuppressIdeal.nD Cert.SuppressIdeal.τ).loc Cert.SuppressIdeal.main_arg4) = m ((c.tc : Thread Cert.SuppressIdeal.nD Cert.SuppressIdeal.τ).loc Cert.SuppressIdeal.main_arg4)
      ∧ r.2.mem ((c.tc : Thread Cert.SuppressIdeal.nD Cert.SuppressIdeal.τ).loc Cert.SuppressIdeal.main_arg5) = m ((c.tc : Thread Cert.SuppressIdeal.nD Cert.SuppressIdeal.τ).loc Cert.SuppressIdeal.main_arg5))
      ∧ r.2.sem = fun _ => 0)

def quiescent_GreedyIdeal [hGreedyIdeal : Cert.GreedyIdeal.Facts] : Prop :=
  ∀ (m : (ℓ : Loc Cert.GreedyIdeal.nD Cert.GreedyIdeal.τ Cert.GreedyIdeal.sig) → Buf (Elt Ideal) ℓ) (g : Dev Cert.GreedyIdeal.nD → PrngReg), Pre_GreedyIdeal m →
    θ_run (Cert.GreedyIdeal.defs (F := Ideal)) (onTc (τ := Cert.GreedyIdeal.τ) (Cert.GreedyIdeal.main (F := Ideal))) ⟨m, fun _ => 0, g⟩ (fun r => (∀ c : Dev Cert.GreedyIdeal.nD,
      r.2.mem ((c.tc : Thread Cert.GreedyIdeal.nD Cert.GreedyIdeal.τ).loc Cert.GreedyIdeal.main_arg0) = m ((c.tc : Thread Cert.GreedyIdeal.nD Cert.GreedyIdeal.τ).loc Cert.GreedyIdeal.main_arg0)
      ∧ r.2.mem ((c.tc : Thread Cert.GreedyIdeal.nD Cert.GreedyIdeal.τ).loc Cert.GreedyIdeal.main_arg1) = m ((c.tc : Thread Cert.GreedyIdeal.nD Cert.GreedyIdeal.τ).loc Cert.GreedyIdeal.main_arg1)
      ∧ r.2.mem ((c.tc : Thread Cert.GreedyIdeal.nD Cert.GreedyIdeal.τ).loc Cert.GreedyIdeal.main_arg2) = m ((c.tc : Thread Cert.GreedyIdeal.nD Cert.GreedyIdeal.τ).loc Cert.GreedyIdeal.main_arg2)
      ∧ r.2.mem ((c.tc : Thread Cert.GreedyIdeal.nD Cert.GreedyIdeal.τ).loc Cert.GreedyIdeal.main_arg3) = m ((c.tc : Thread Cert.GreedyIdeal.nD Cert.GreedyIdeal.τ).loc Cert.GreedyIdeal.main_arg3)
      ∧ r.2.mem ((c.tc : Thread Cert.GreedyIdeal.nD Cert.GreedyIdeal.τ).loc Cert.GreedyIdeal.main_arg4) = m ((c.tc : Thread Cert.GreedyIdeal.nD Cert.GreedyIdeal.τ).loc Cert.GreedyIdeal.main_arg4)
      ∧ r.2.mem ((c.tc : Thread Cert.GreedyIdeal.nD Cert.GreedyIdeal.τ).loc Cert.GreedyIdeal.main_arg5) = m ((c.tc : Thread Cert.GreedyIdeal.nD Cert.GreedyIdeal.τ).loc Cert.GreedyIdeal.main_arg5))
      ∧ r.2.sem = fun _ => 0)

def quiescent_GreedyIdeal_pre_candidates_differ [hGreedyIdeal : Cert.GreedyIdeal.Facts] [hPre_candidates_differ : Cert.Pre_candidates_differ.Facts] : Prop :=
  ∀ (m : (ℓ : Loc Cert.GreedyIdeal.nD Cert.GreedyIdeal.τ Cert.GreedyIdeal.sig) → Buf (Elt Ideal) ℓ) (g : Dev Cert.GreedyIdeal.nD → PrngReg), Pre_GreedyIdeal_candidates_differ m →
    θ_run (Cert.GreedyIdeal.defs (F := Ideal)) (onTc (τ := Cert.GreedyIdeal.τ) (Cert.GreedyIdeal.main (F := Ideal))) ⟨m, fun _ => 0, g⟩ (fun r => (∀ c : Dev Cert.GreedyIdeal.nD,
      r.2.mem ((c.tc : Thread Cert.GreedyIdeal.nD Cert.GreedyIdeal.τ).loc Cert.GreedyIdeal.main_arg0) = m ((c.tc : Thread Cert.GreedyIdeal.nD Cert.GreedyIdeal.τ).loc Cert.GreedyIdeal.main_arg0)
      ∧ r.2.mem ((c.tc : Thread Cert.GreedyIdeal.nD Cert.GreedyIdeal.τ).loc Cert.GreedyIdeal.main_arg1) = m ((c.tc : Thread Cert.GreedyIdeal.nD Cert.GreedyIdeal.τ).loc Cert.GreedyIdeal.main_arg1)
      ∧ r.2.mem ((c.tc : Thread Cert.GreedyIdeal.nD Cert.GreedyIdeal.τ).loc Cert.GreedyIdeal.main_arg2) = m ((c.tc : Thread Cert.GreedyIdeal.nD Cert.GreedyIdeal.τ).loc Cert.GreedyIdeal.main_arg2)
      ∧ r.2.mem ((c.tc : Thread Cert.GreedyIdeal.nD Cert.GreedyIdeal.τ).loc Cert.GreedyIdeal.main_arg3) = m ((c.tc : Thread Cert.GreedyIdeal.nD Cert.GreedyIdeal.τ).loc Cert.GreedyIdeal.main_arg3)
      ∧ r.2.mem ((c.tc : Thread Cert.GreedyIdeal.nD Cert.GreedyIdeal.τ).loc Cert.GreedyIdeal.main_arg4) = m ((c.tc : Thread Cert.GreedyIdeal.nD Cert.GreedyIdeal.τ).loc Cert.GreedyIdeal.main_arg4)
      ∧ r.2.mem ((c.tc : Thread Cert.GreedyIdeal.nD Cert.GreedyIdeal.τ).loc Cert.GreedyIdeal.main_arg5) = m ((c.tc : Thread Cert.GreedyIdeal.nD Cert.GreedyIdeal.τ).loc Cert.GreedyIdeal.main_arg5))
      ∧ r.2.sem = fun _ => 0)

def quiescent_Greedy [hGreedy : Cert.Greedy.Facts] : Prop :=
  ∀ (m : (ℓ : Loc Cert.Greedy.nD Cert.Greedy.τ Cert.Greedy.sig) → Buf (Elt Bits) ℓ) (g : Dev Cert.Greedy.nD → PrngReg), Pre_Greedy m →
    θ_run (Cert.Greedy.defs (F := Bits)) (onTc (τ := Cert.Greedy.τ) (Cert.Greedy.main (F := Bits))) ⟨m, fun _ => 0, g⟩ (fun r => (∀ c : Dev Cert.Greedy.nD,
      r.2.mem ((c.tc : Thread Cert.Greedy.nD Cert.Greedy.τ).loc Cert.Greedy.main_arg0) = m ((c.tc : Thread Cert.Greedy.nD Cert.Greedy.τ).loc Cert.Greedy.main_arg0)
      ∧ r.2.mem ((c.tc : Thread Cert.Greedy.nD Cert.Greedy.τ).loc Cert.Greedy.main_arg1) = m ((c.tc : Thread Cert.Greedy.nD Cert.Greedy.τ).loc Cert.Greedy.main_arg1)
      ∧ r.2.mem ((c.tc : Thread Cert.Greedy.nD Cert.Greedy.τ).loc Cert.Greedy.main_arg2) = m ((c.tc : Thread Cert.Greedy.nD Cert.Greedy.τ).loc Cert.Greedy.main_arg2)
      ∧ r.2.mem ((c.tc : Thread Cert.Greedy.nD Cert.Greedy.τ).loc Cert.Greedy.main_arg3) = m ((c.tc : Thread Cert.Greedy.nD Cert.Greedy.τ).loc Cert.Greedy.main_arg3)
      ∧ r.2.mem ((c.tc : Thread Cert.Greedy.nD Cert.Greedy.τ).loc Cert.Greedy.main_arg4) = m ((c.tc : Thread Cert.Greedy.nD Cert.Greedy.τ).loc Cert.Greedy.main_arg4)
      ∧ r.2.mem ((c.tc : Thread Cert.Greedy.nD Cert.Greedy.τ).loc Cert.Greedy.main_arg5) = m ((c.tc : Thread Cert.Greedy.nD Cert.Greedy.τ).loc Cert.Greedy.main_arg5))
      ∧ r.2.sem = fun _ => 0)

def quiescent_Trunk [hTrunk : Cert.Trunk.Facts] : Prop :=
  ∀ (m : (ℓ : Loc Cert.Trunk.nD Cert.Trunk.τ Cert.Trunk.sig) → Buf (Elt Bits) ℓ) (g : Dev Cert.Trunk.nD → PrngReg), Pre_Trunk m →
    θ_run (Cert.Trunk.defs (F := Bits)) (onTc (τ := Cert.Trunk.τ) (Cert.Trunk.main (F := Bits))) ⟨m, fun _ => 0, g⟩ (fun r => (∀ c : Dev Cert.Trunk.nD,
      r.2.mem ((c.tc : Thread Cert.Trunk.nD Cert.Trunk.τ).loc Cert.Trunk.main_arg0) = m ((c.tc : Thread Cert.Trunk.nD Cert.Trunk.τ).loc Cert.Trunk.main_arg0)
      ∧ r.2.mem ((c.tc : Thread Cert.Trunk.nD Cert.Trunk.τ).loc Cert.Trunk.main_arg1) = m ((c.tc : Thread Cert.Trunk.nD Cert.Trunk.τ).loc Cert.Trunk.main_arg1)
      ∧ r.2.mem ((c.tc : Thread Cert.Trunk.nD Cert.Trunk.τ).loc Cert.Trunk.main_arg2) = m ((c.tc : Thread Cert.Trunk.nD Cert.Trunk.τ).loc Cert.Trunk.main_arg2)
      ∧ r.2.mem ((c.tc : Thread Cert.Trunk.nD Cert.Trunk.τ).loc Cert.Trunk.main_arg3) = m ((c.tc : Thread Cert.Trunk.nD Cert.Trunk.τ).loc Cert.Trunk.main_arg3)
      ∧ r.2.mem ((c.tc : Thread Cert.Trunk.nD Cert.Trunk.τ).loc Cert.Trunk.main_arg4) = m ((c.tc : Thread Cert.Trunk.nD Cert.Trunk.τ).loc Cert.Trunk.main_arg4)
      ∧ r.2.mem ((c.tc : Thread Cert.Trunk.nD Cert.Trunk.τ).loc Cert.Trunk.main_arg5) = m ((c.tc : Thread Cert.Trunk.nD Cert.Trunk.τ).loc Cert.Trunk.main_arg5)
      ∧ r.2.mem ((c.tc : Thread Cert.Trunk.nD Cert.Trunk.τ).loc Cert.Trunk.main_arg6) = m ((c.tc : Thread Cert.Trunk.nD Cert.Trunk.τ).loc Cert.Trunk.main_arg6)
      ∧ r.2.mem ((c.tc : Thread Cert.Trunk.nD Cert.Trunk.τ).loc Cert.Trunk.main_arg7) = m ((c.tc : Thread Cert.Trunk.nD Cert.Trunk.τ).loc Cert.Trunk.main_arg7)
      ∧ r.2.mem ((c.tc : Thread Cert.Trunk.nD Cert.Trunk.τ).loc Cert.Trunk.main_arg8) = m ((c.tc : Thread Cert.Trunk.nD Cert.Trunk.τ).loc Cert.Trunk.main_arg8)
      ∧ r.2.mem ((c.tc : Thread Cert.Trunk.nD Cert.Trunk.τ).loc Cert.Trunk.main_arg9) = m ((c.tc : Thread Cert.Trunk.nD Cert.Trunk.τ).loc Cert.Trunk.main_arg9)
      ∧ r.2.mem ((c.tc : Thread Cert.Trunk.nD Cert.Trunk.τ).loc Cert.Trunk.main_arg10) = m ((c.tc : Thread Cert.Trunk.nD Cert.Trunk.τ).loc Cert.Trunk.main_arg10)
      ∧ r.2.mem ((c.tc : Thread Cert.Trunk.nD Cert.Trunk.τ).loc Cert.Trunk.main_arg11) = m ((c.tc : Thread Cert.Trunk.nD Cert.Trunk.τ).loc Cert.Trunk.main_arg11))
      ∧ r.2.sem = fun _ => 0)

def quiescent_TrunkIdeal [hTrunkIdeal : Cert.TrunkIdeal.Facts] : Prop :=
  ∀ (m : (ℓ : Loc Cert.TrunkIdeal.nD Cert.TrunkIdeal.τ Cert.TrunkIdeal.sig) → Buf (Elt Ideal) ℓ) (g : Dev Cert.TrunkIdeal.nD → PrngReg), Pre_TrunkIdeal m →
    θ_run (Cert.TrunkIdeal.defs (F := Ideal)) (onTc (τ := Cert.TrunkIdeal.τ) (Cert.TrunkIdeal.main (F := Ideal))) ⟨m, fun _ => 0, g⟩ (fun r => (∀ c : Dev Cert.TrunkIdeal.nD,
      r.2.mem ((c.tc : Thread Cert.TrunkIdeal.nD Cert.TrunkIdeal.τ).loc Cert.TrunkIdeal.main_arg0) = m ((c.tc : Thread Cert.TrunkIdeal.nD Cert.TrunkIdeal.τ).loc Cert.TrunkIdeal.main_arg0)
      ∧ r.2.mem ((c.tc : Thread Cert.TrunkIdeal.nD Cert.TrunkIdeal.τ).loc Cert.TrunkIdeal.main_arg1) = m ((c.tc : Thread Cert.TrunkIdeal.nD Cert.TrunkIdeal.τ).loc Cert.TrunkIdeal.main_arg1)
      ∧ r.2.mem ((c.tc : Thread Cert.TrunkIdeal.nD Cert.TrunkIdeal.τ).loc Cert.TrunkIdeal.main_arg2) = m ((c.tc : Thread Cert.TrunkIdeal.nD Cert.TrunkIdeal.τ).loc Cert.TrunkIdeal.main_arg2)
      ∧ r.2.mem ((c.tc : Thread Cert.TrunkIdeal.nD Cert.TrunkIdeal.τ).loc Cert.TrunkIdeal.main_arg3) = m ((c.tc : Thread Cert.TrunkIdeal.nD Cert.TrunkIdeal.τ).loc Cert.TrunkIdeal.main_arg3)
      ∧ r.2.mem ((c.tc : Thread Cert.TrunkIdeal.nD Cert.TrunkIdeal.τ).loc Cert.TrunkIdeal.main_arg4) = m ((c.tc : Thread Cert.TrunkIdeal.nD Cert.TrunkIdeal.τ).loc Cert.TrunkIdeal.main_arg4)
      ∧ r.2.mem ((c.tc : Thread Cert.TrunkIdeal.nD Cert.TrunkIdeal.τ).loc Cert.TrunkIdeal.main_arg5) = m ((c.tc : Thread Cert.TrunkIdeal.nD Cert.TrunkIdeal.τ).loc Cert.TrunkIdeal.main_arg5)
      ∧ r.2.mem ((c.tc : Thread Cert.TrunkIdeal.nD Cert.TrunkIdeal.τ).loc Cert.TrunkIdeal.main_arg6) = m ((c.tc : Thread Cert.TrunkIdeal.nD Cert.TrunkIdeal.τ).loc Cert.TrunkIdeal.main_arg6)
      ∧ r.2.mem ((c.tc : Thread Cert.TrunkIdeal.nD Cert.TrunkIdeal.τ).loc Cert.TrunkIdeal.main_arg7) = m ((c.tc : Thread Cert.TrunkIdeal.nD Cert.TrunkIdeal.τ).loc Cert.TrunkIdeal.main_arg7)
      ∧ r.2.mem ((c.tc : Thread Cert.TrunkIdeal.nD Cert.TrunkIdeal.τ).loc Cert.TrunkIdeal.main_arg8) = m ((c.tc : Thread Cert.TrunkIdeal.nD Cert.TrunkIdeal.τ).loc Cert.TrunkIdeal.main_arg8)
      ∧ r.2.mem ((c.tc : Thread Cert.TrunkIdeal.nD Cert.TrunkIdeal.τ).loc Cert.TrunkIdeal.main_arg9) = m ((c.tc : Thread Cert.TrunkIdeal.nD Cert.TrunkIdeal.τ).loc Cert.TrunkIdeal.main_arg9)
      ∧ r.2.mem ((c.tc : Thread Cert.TrunkIdeal.nD Cert.TrunkIdeal.τ).loc Cert.TrunkIdeal.main_arg10) = m ((c.tc : Thread Cert.TrunkIdeal.nD Cert.TrunkIdeal.τ).loc Cert.TrunkIdeal.main_arg10)
      ∧ r.2.mem ((c.tc : Thread Cert.TrunkIdeal.nD Cert.TrunkIdeal.τ).loc Cert.TrunkIdeal.main_arg11) = m ((c.tc : Thread Cert.TrunkIdeal.nD Cert.TrunkIdeal.τ).loc Cert.TrunkIdeal.main_arg11))
      ∧ r.2.sem = fun _ => 0)

def quiescent_ProposalsIdeal [hProposalsIdeal : Cert.ProposalsIdeal.Facts] : Prop :=
  ∀ (m : (ℓ : Loc Cert.ProposalsIdeal.nD Cert.ProposalsIdeal.τ Cert.ProposalsIdeal.sig) → Buf (Elt Ideal) ℓ) (g : Dev Cert.ProposalsIdeal.nD → PrngReg), Pre_ProposalsIdeal m →
    θ_run (Cert.ProposalsIdeal.defs (F := Ideal)) (onTc (τ := Cert.ProposalsIdeal.τ) (Cert.ProposalsIdeal.main (F := Ideal))) ⟨m, fun _ => 0, g⟩ (fun r => (∀ c : Dev Cert.ProposalsIdeal.nD,
      r.2.mem ((c.tc : Thread Cert.ProposalsIdeal.nD Cert.ProposalsIdeal.τ).loc Cert.ProposalsIdeal.main_arg0) = m ((c.tc : Thread Cert.ProposalsIdeal.nD Cert.ProposalsIdeal.τ).loc Cert.ProposalsIdeal.main_arg0)
      ∧ r.2.mem ((c.tc : Thread Cert.ProposalsIdeal.nD Cert.ProposalsIdeal.τ).loc Cert.ProposalsIdeal.main_arg1) = m ((c.tc : Thread Cert.ProposalsIdeal.nD Cert.ProposalsIdeal.τ).loc Cert.ProposalsIdeal.main_arg1)
      ∧ r.2.mem ((c.tc : Thread Cert.ProposalsIdeal.nD Cert.ProposalsIdeal.τ).loc Cert.ProposalsIdeal.main_arg2) = m ((c.tc : Thread Cert.ProposalsIdeal.nD Cert.ProposalsIdeal.τ).loc Cert.ProposalsIdeal.main_arg2)
      ∧ r.2.mem ((c.tc : Thread Cert.ProposalsIdeal.nD Cert.ProposalsIdeal.τ).loc Cert.ProposalsIdeal.main_arg3) = m ((c.tc : Thread Cert.ProposalsIdeal.nD Cert.ProposalsIdeal.τ).loc Cert.ProposalsIdeal.main_arg3)
      ∧ r.2.mem ((c.tc : Thread Cert.ProposalsIdeal.nD Cert.ProposalsIdeal.τ).loc Cert.ProposalsIdeal.main_arg4) = m ((c.tc : Thread Cert.ProposalsIdeal.nD Cert.ProposalsIdeal.τ).loc Cert.ProposalsIdeal.main_arg4)
      ∧ r.2.mem ((c.tc : Thread Cert.ProposalsIdeal.nD Cert.ProposalsIdeal.τ).loc Cert.ProposalsIdeal.main_arg5) = m ((c.tc : Thread Cert.ProposalsIdeal.nD Cert.ProposalsIdeal.τ).loc Cert.ProposalsIdeal.main_arg5)
      ∧ r.2.mem ((c.tc : Thread Cert.ProposalsIdeal.nD Cert.ProposalsIdeal.τ).loc Cert.ProposalsIdeal.main_arg6) = m ((c.tc : Thread Cert.ProposalsIdeal.nD Cert.ProposalsIdeal.τ).loc Cert.ProposalsIdeal.main_arg6)
      ∧ r.2.mem ((c.tc : Thread Cert.ProposalsIdeal.nD Cert.ProposalsIdeal.τ).loc Cert.ProposalsIdeal.main_arg7) = m ((c.tc : Thread Cert.ProposalsIdeal.nD Cert.ProposalsIdeal.τ).loc Cert.ProposalsIdeal.main_arg7)
      ∧ r.2.mem ((c.tc : Thread Cert.ProposalsIdeal.nD Cert.ProposalsIdeal.τ).loc Cert.ProposalsIdeal.main_arg8) = m ((c.tc : Thread Cert.ProposalsIdeal.nD Cert.ProposalsIdeal.τ).loc Cert.ProposalsIdeal.main_arg8)
      ∧ r.2.mem ((c.tc : Thread Cert.ProposalsIdeal.nD Cert.ProposalsIdeal.τ).loc Cert.ProposalsIdeal.main_arg9) = m ((c.tc : Thread Cert.ProposalsIdeal.nD Cert.ProposalsIdeal.τ).loc Cert.ProposalsIdeal.main_arg9)
      ∧ r.2.mem ((c.tc : Thread Cert.ProposalsIdeal.nD Cert.ProposalsIdeal.τ).loc Cert.ProposalsIdeal.main_arg10) = m ((c.tc : Thread Cert.ProposalsIdeal.nD Cert.ProposalsIdeal.τ).loc Cert.ProposalsIdeal.main_arg10)
      ∧ r.2.mem ((c.tc : Thread Cert.ProposalsIdeal.nD Cert.ProposalsIdeal.τ).loc Cert.ProposalsIdeal.main_arg11) = m ((c.tc : Thread Cert.ProposalsIdeal.nD Cert.ProposalsIdeal.τ).loc Cert.ProposalsIdeal.main_arg11))
      ∧ r.2.sem = fun _ => 0)

def quiescent_Proposals [hProposals : Cert.Proposals.Facts] : Prop :=
  ∀ (m : (ℓ : Loc Cert.Proposals.nD Cert.Proposals.τ Cert.Proposals.sig) → Buf (Elt Bits) ℓ) (g : Dev Cert.Proposals.nD → PrngReg), Pre_Proposals m →
    θ_run (Cert.Proposals.defs (F := Bits)) (onTc (τ := Cert.Proposals.τ) (Cert.Proposals.main (F := Bits))) ⟨m, fun _ => 0, g⟩ (fun r => (∀ c : Dev Cert.Proposals.nD,
      r.2.mem ((c.tc : Thread Cert.Proposals.nD Cert.Proposals.τ).loc Cert.Proposals.main_arg0) = m ((c.tc : Thread Cert.Proposals.nD Cert.Proposals.τ).loc Cert.Proposals.main_arg0)
      ∧ r.2.mem ((c.tc : Thread Cert.Proposals.nD Cert.Proposals.τ).loc Cert.Proposals.main_arg1) = m ((c.tc : Thread Cert.Proposals.nD Cert.Proposals.τ).loc Cert.Proposals.main_arg1)
      ∧ r.2.mem ((c.tc : Thread Cert.Proposals.nD Cert.Proposals.τ).loc Cert.Proposals.main_arg2) = m ((c.tc : Thread Cert.Proposals.nD Cert.Proposals.τ).loc Cert.Proposals.main_arg2)
      ∧ r.2.mem ((c.tc : Thread Cert.Proposals.nD Cert.Proposals.τ).loc Cert.Proposals.main_arg3) = m ((c.tc : Thread Cert.Proposals.nD Cert.Proposals.τ).loc Cert.Proposals.main_arg3)
      ∧ r.2.mem ((c.tc : Thread Cert.Proposals.nD Cert.Proposals.τ).loc Cert.Proposals.main_arg4) = m ((c.tc : Thread Cert.Proposals.nD Cert.Proposals.τ).loc Cert.Proposals.main_arg4)
      ∧ r.2.mem ((c.tc : Thread Cert.Proposals.nD Cert.Proposals.τ).loc Cert.Proposals.main_arg5) = m ((c.tc : Thread Cert.Proposals.nD Cert.Proposals.τ).loc Cert.Proposals.main_arg5)
      ∧ r.2.mem ((c.tc : Thread Cert.Proposals.nD Cert.Proposals.τ).loc Cert.Proposals.main_arg6) = m ((c.tc : Thread Cert.Proposals.nD Cert.Proposals.τ).loc Cert.Proposals.main_arg6)
      ∧ r.2.mem ((c.tc : Thread Cert.Proposals.nD Cert.Proposals.τ).loc Cert.Proposals.main_arg7) = m ((c.tc : Thread Cert.Proposals.nD Cert.Proposals.τ).loc Cert.Proposals.main_arg7)
      ∧ r.2.mem ((c.tc : Thread Cert.Proposals.nD Cert.Proposals.τ).loc Cert.Proposals.main_arg8) = m ((c.tc : Thread Cert.Proposals.nD Cert.Proposals.τ).loc Cert.Proposals.main_arg8)
      ∧ r.2.mem ((c.tc : Thread Cert.Proposals.nD Cert.Proposals.τ).loc Cert.Proposals.main_arg9) = m ((c.tc : Thread Cert.Proposals.nD Cert.Proposals.τ).loc Cert.Proposals.main_arg9)
      ∧ r.2.mem ((c.tc : Thread Cert.Proposals.nD Cert.Proposals.τ).loc Cert.Proposals.main_arg10) = m ((c.tc : Thread Cert.Proposals.nD Cert.Proposals.τ).loc Cert.Proposals.main_arg10)
      ∧ r.2.mem ((c.tc : Thread Cert.Proposals.nD Cert.Proposals.τ).loc Cert.Proposals.main_arg11) = m ((c.tc : Thread Cert.Proposals.nD Cert.Proposals.τ).loc Cert.Proposals.main_arg11))
      ∧ r.2.sem = fun _ => 0)

def quiescent_Threshold [hThreshold : Cert.Threshold.Facts] : Prop :=
  ∀ (m : (ℓ : Loc Cert.Threshold.nD Cert.Threshold.τ Cert.Threshold.sig) → Buf (Elt Bits) ℓ) (g : Dev Cert.Threshold.nD → PrngReg), Pre_Threshold m →
    θ_run (Cert.Threshold.defs (F := Bits)) (onTc (τ := Cert.Threshold.τ) (Cert.Threshold.main (F := Bits))) ⟨m, fun _ => 0, g⟩ (fun r => (∀ c : Dev Cert.Threshold.nD,
      r.2.mem ((c.tc : Thread Cert.Threshold.nD Cert.Threshold.τ).loc Cert.Threshold.main_arg0) = m ((c.tc : Thread Cert.Threshold.nD Cert.Threshold.τ).loc Cert.Threshold.main_arg0))
      ∧ r.2.sem = fun _ => 0)

def quiescent_ThresholdIdeal [hThresholdIdeal : Cert.ThresholdIdeal.Facts] : Prop :=
  ∀ (m : (ℓ : Loc Cert.ThresholdIdeal.nD Cert.ThresholdIdeal.τ Cert.ThresholdIdeal.sig) → Buf (Elt Ideal) ℓ) (g : Dev Cert.ThresholdIdeal.nD → PrngReg), Pre_ThresholdIdeal m →
    θ_run (Cert.ThresholdIdeal.defs (F := Ideal)) (onTc (τ := Cert.ThresholdIdeal.τ) (Cert.ThresholdIdeal.main (F := Ideal))) ⟨m, fun _ => 0, g⟩ (fun r => (∀ c : Dev Cert.ThresholdIdeal.nD,
      r.2.mem ((c.tc : Thread Cert.ThresholdIdeal.nD Cert.ThresholdIdeal.τ).loc Cert.ThresholdIdeal.main_arg0) = m ((c.tc : Thread Cert.ThresholdIdeal.nD Cert.ThresholdIdeal.τ).loc Cert.ThresholdIdeal.main_arg0))
      ∧ r.2.sem = fun _ => 0)

def quiescent_RankedIdeal [hRankedIdeal : Cert.RankedIdeal.Facts] : Prop :=
  ∀ (m : (ℓ : Loc Cert.RankedIdeal.nD Cert.RankedIdeal.τ Cert.RankedIdeal.sig) → Buf (Elt Ideal) ℓ) (g : Dev Cert.RankedIdeal.nD → PrngReg), Pre_RankedIdeal m →
    θ_run (Cert.RankedIdeal.defs (F := Ideal)) (onTc (τ := Cert.RankedIdeal.τ) (Cert.RankedIdeal.main (F := Ideal))) ⟨m, fun _ => 0, g⟩ (fun r => (∀ c : Dev Cert.RankedIdeal.nD,
      r.2.mem ((c.tc : Thread Cert.RankedIdeal.nD Cert.RankedIdeal.τ).loc Cert.RankedIdeal.main_arg0) = m ((c.tc : Thread Cert.RankedIdeal.nD Cert.RankedIdeal.τ).loc Cert.RankedIdeal.main_arg0))
      ∧ r.2.sem = fun _ => 0)

def quiescent_Ranked [hRanked : Cert.Ranked.Facts] : Prop :=
  ∀ (m : (ℓ : Loc Cert.Ranked.nD Cert.Ranked.τ Cert.Ranked.sig) → Buf (Elt Bits) ℓ) (g : Dev Cert.Ranked.nD → PrngReg), Pre_Ranked m →
    θ_run (Cert.Ranked.defs (F := Bits)) (onTc (τ := Cert.Ranked.τ) (Cert.Ranked.main (F := Bits))) ⟨m, fun _ => 0, g⟩ (fun r => (∀ c : Dev Cert.Ranked.nD,
      r.2.mem ((c.tc : Thread Cert.Ranked.nD Cert.Ranked.τ).loc Cert.Ranked.main_arg0) = m ((c.tc : Thread Cert.Ranked.nD Cert.Ranked.τ).loc Cert.Ranked.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_fit : Cert.Pre_counts_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_v50) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def bitexact_Kernel_Reference [hKernel : Cert.Kernel.Facts] [hReference : Cert.Reference.Facts] [hPre_counts_fit : Cert.Pre_counts_fit.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)) →
    ∃ (v0 : (c : Dev Cert.Kernel.nD) → Buf (Elt Bits) ((c.tc : Thread Cert.Kernel.nD Cert.Kernel.τ).loc Cert.Kernel.main_v1_0)) (v1 : (c : Dev Cert.Kernel.nD) → Buf (Elt Bits) ((c.tc : Thread Cert.Kernel.nD Cert.Kernel.τ).loc Cert.Kernel.main_v1_1)) (v2 : (c : Dev Cert.Kernel.nD) → Buf (Elt Bits) ((c.tc : Thread Cert.Kernel.nD Cert.Kernel.τ).loc Cert.Kernel.main_v1_2)) (v3 : (c : Dev Cert.Kernel.nD) → Buf (Elt Bits) ((c.tc : Thread Cert.Kernel.nD Cert.Kernel.τ).loc Cert.Kernel.main_v1_3)) (v4 : (c : Dev Cert.Kernel.nD) → Buf (Elt Bits) ((c.tc : Thread Cert.Kernel.nD Cert.Kernel.τ).loc Cert.Kernel.main_v1_4)) (v5 : (c : Dev Cert.Kernel.nD) → Buf (Elt Bits) ((c.tc : Thread Cert.Kernel.nD Cert.Kernel.τ).loc Cert.Kernel.main_v1_5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1_0) = v0 c
          ∧ r.2.mem ((c.tc : Thread Cert.Kernel.nD Cert.Kernel.τ).loc Cert.Kernel.main_v1_1) = v1 c
          ∧ r.2.mem ((c.tc : Thread Cert.Kernel.nD Cert.Kernel.τ).loc Cert.Kernel.main_v1_2) = v2 c
          ∧ r.2.mem ((c.tc : Thread Cert.Kernel.nD Cert.Kernel.τ).loc Cert.Kernel.main_v1_3) = v3 c
          ∧ r.2.mem ((c.tc : Thread Cert.Kernel.nD Cert.Kernel.τ).loc Cert.Kernel.main_v1_4) = v4 c
          ∧ r.2.mem ((c.tc : Thread Cert.Kernel.nD Cert.Kernel.τ).loc Cert.Kernel.main_v1_5) = v5 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v24) = v0 c
          ∧ r.2.mem ((c.tc : Thread Cert.Reference.nD Cert.Reference.τ).loc Cert.Reference.main_v30) = v1 c
          ∧ r.2.mem ((c.tc : Thread Cert.Reference.nD Cert.Reference.τ).loc Cert.Reference.main_v35) = v2 c
          ∧ r.2.mem ((c.tc : Thread Cert.Reference.nD Cert.Reference.τ).loc Cert.Reference.main_v40) = v3 c
          ∧ r.2.mem ((c.tc : Thread Cert.Reference.nD Cert.Reference.τ).loc Cert.Reference.main_v45) = v4 c
          ∧ r.2.mem ((c.tc : Thread Cert.Reference.nD Cert.Reference.τ).loc Cert.Reference.main_v50) = v5 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6))

def preserves_Suppress_SuppressIdeal : Prop :=
  True

def algebraic_SuppressIdeal_GreedyIdeal_pre_candidates_differ [hSuppressIdeal : Cert.SuppressIdeal.Facts] [hGreedyIdeal : Cert.GreedyIdeal.Facts] [hPre_candidates_differ : Cert.Pre_candidates_differ.Facts] : Prop :=
  ∀ (m : (ℓ : Loc Cert.SuppressIdeal.nD Cert.SuppressIdeal.τ Cert.SuppressIdeal.sig) → Buf (Elt Ideal) ℓ) (g : Dev Cert.SuppressIdeal.nD → PrngReg)
    (m' : (ℓ : Loc Cert.GreedyIdeal.nD Cert.GreedyIdeal.τ Cert.GreedyIdeal.sig) → Buf (Elt Ideal) ℓ) (g' : Dev Cert.GreedyIdeal.nD → PrngReg), Pre_SuppressIdeal_candidates_differ m →
    (∀ c : Dev Cert.SuppressIdeal.nD,
      m' ((c.tc : Thread Cert.GreedyIdeal.nD Cert.GreedyIdeal.τ).loc Cert.GreedyIdeal.main_arg0) = m ((c.tc : Thread Cert.SuppressIdeal.nD Cert.SuppressIdeal.τ).loc Cert.SuppressIdeal.main_arg0)
      ∧ m' ((c.tc : Thread Cert.GreedyIdeal.nD Cert.GreedyIdeal.τ).loc Cert.GreedyIdeal.main_arg1) = m ((c.tc : Thread Cert.SuppressIdeal.nD Cert.SuppressIdeal.τ).loc Cert.SuppressIdeal.main_arg1)
      ∧ m' ((c.tc : Thread Cert.GreedyIdeal.nD Cert.GreedyIdeal.τ).loc Cert.GreedyIdeal.main_arg2) = m ((c.tc : Thread Cert.SuppressIdeal.nD Cert.SuppressIdeal.τ).loc Cert.SuppressIdeal.main_arg2)
      ∧ m' ((c.tc : Thread Cert.GreedyIdeal.nD Cert.GreedyIdeal.τ).loc Cert.GreedyIdeal.main_arg3) = m ((c.tc : Thread Cert.SuppressIdeal.nD Cert.SuppressIdeal.τ).loc Cert.SuppressIdeal.main_arg3)
      ∧ m' ((c.tc : Thread Cert.GreedyIdeal.nD Cert.GreedyIdeal.τ).loc Cert.GreedyIdeal.main_arg4) = m ((c.tc : Thread Cert.SuppressIdeal.nD Cert.SuppressIdeal.τ).loc Cert.SuppressIdeal.main_arg4)
      ∧ m' ((c.tc : Thread Cert.GreedyIdeal.nD Cert.GreedyIdeal.τ).loc Cert.GreedyIdeal.main_arg5) = m ((c.tc : Thread Cert.SuppressIdeal.nD Cert.SuppressIdeal.τ).loc Cert.SuppressIdeal.main_arg5)) →
    ∃ (v0 : (c : Dev Cert.SuppressIdeal.nD) → Buf (Elt Ideal) ((c.tc : Thread Cert.SuppressIdeal.nD Cert.SuppressIdeal.τ).loc Cert.SuppressIdeal.main_v11)),
      θ_run (Cert.SuppressIdeal.defs (F := Ideal)) (onTc (τ := Cert.SuppressIdeal.τ) (Cert.SuppressIdeal.main (F := Ideal))) ⟨m, fun _ => 0, g⟩ (fun r => ∀ c : Dev Cert.SuppressIdeal.nD,
          r.2.mem ((c.tc : Thread Cert.SuppressIdeal.nD Cert.SuppressIdeal.τ).loc Cert.SuppressIdeal.main_v11) = v0 c
          ∧ r.2.mem ((c.tc : Thread Cert.SuppressIdeal.nD Cert.SuppressIdeal.τ).loc Cert.SuppressIdeal.main_arg0) = m ((c.tc : Thread Cert.SuppressIdeal.nD Cert.SuppressIdeal.τ).loc Cert.SuppressIdeal.main_arg0)
          ∧ r.2.mem ((c.tc : Thread Cert.SuppressIdeal.nD Cert.SuppressIdeal.τ).loc Cert.SuppressIdeal.main_arg1) = m ((c.tc : Thread Cert.SuppressIdeal.nD Cert.SuppressIdeal.τ).loc Cert.SuppressIdeal.main_arg1)
          ∧ r.2.mem ((c.tc : Thread Cert.SuppressIdeal.nD Cert.SuppressIdeal.τ).loc Cert.SuppressIdeal.main_arg2) = m ((c.tc : Thread Cert.SuppressIdeal.nD Cert.SuppressIdeal.τ).loc Cert.SuppressIdeal.main_arg2)
          ∧ r.2.mem ((c.tc : Thread Cert.SuppressIdeal.nD Cert.SuppressIdeal.τ).loc Cert.SuppressIdeal.main_arg3) = m ((c.tc : Thread Cert.SuppressIdeal.nD Cert.SuppressIdeal.τ).loc Cert.SuppressIdeal.main_arg3)
          ∧ r.2.mem ((c.tc : Thread Cert.SuppressIdeal.nD Cert.SuppressIdeal.τ).loc Cert.SuppressIdeal.main_arg4) = m ((c.tc : Thread Cert.SuppressIdeal.nD Cert.SuppressIdeal.τ).loc Cert.SuppressIdeal.main_arg4)
          ∧ r.2.mem ((c.tc : Thread Cert.SuppressIdeal.nD Cert.SuppressIdeal.τ).loc Cert.SuppressIdeal.main_arg5) = m ((c.tc : Thread Cert.SuppressIdeal.nD Cert.SuppressIdeal.τ).loc Cert.SuppressIdeal.main_arg5))
      ∧ θ_run (Cert.GreedyIdeal.defs (F := Ideal)) (onTc (τ := Cert.GreedyIdeal.τ) (Cert.GreedyIdeal.main (F := Ideal))) ⟨m', fun _ => 0, g'⟩ (fun r => ∀ c : Dev Cert.GreedyIdeal.nD,
          r.2.mem ((c.tc : Thread Cert.GreedyIdeal.nD Cert.GreedyIdeal.τ).loc Cert.GreedyIdeal.main_v79) = v0 c
          ∧ r.2.mem ((c.tc : Thread Cert.GreedyIdeal.nD Cert.GreedyIdeal.τ).loc Cert.GreedyIdeal.main_arg0) = m' ((c.tc : Thread Cert.GreedyIdeal.nD Cert.GreedyIdeal.τ).loc Cert.GreedyIdeal.main_arg0)
          ∧ r.2.mem ((c.tc : Thread Cert.GreedyIdeal.nD Cert.GreedyIdeal.τ).loc Cert.GreedyIdeal.main_arg1) = m' ((c.tc : Thread Cert.GreedyIdeal.nD Cert.GreedyIdeal.τ).loc Cert.GreedyIdeal.main_arg1)
          ∧ r.2.mem ((c.tc : Thread Cert.GreedyIdeal.nD Cert.GreedyIdeal.τ).loc Cert.GreedyIdeal.main_arg2) = m' ((c.tc : Thread Cert.GreedyIdeal.nD Cert.GreedyIdeal.τ).loc Cert.GreedyIdeal.main_arg2)
          ∧ r.2.mem ((c.tc : Thread Cert.GreedyIdeal.nD Cert.GreedyIdeal.τ).loc Cert.GreedyIdeal.main_arg3) = m' ((c.tc : Thread Cert.GreedyIdeal.nD Cert.GreedyIdeal.τ).loc Cert.GreedyIdeal.main_arg3)
          ∧ r.2.mem ((c.tc : Thread Cert.GreedyIdeal.nD Cert.GreedyIdeal.τ).loc Cert.GreedyIdeal.main_arg4) = m' ((c.tc : Thread Cert.GreedyIdeal.nD Cert.GreedyIdeal.τ).loc Cert.GreedyIdeal.main_arg4)
          ∧ r.2.mem ((c.tc : Thread Cert.GreedyIdeal.nD Cert.GreedyIdeal.τ).loc Cert.GreedyIdeal.main_arg5) = m' ((c.tc : Thread Cert.GreedyIdeal.nD Cert.GreedyIdeal.τ).loc Cert.GreedyIdeal.main_arg5))

def preserves_Trunk_TrunkIdeal : Prop :=
  True

def algebraic_TrunkIdeal_ProposalsIdeal [hTrunkIdeal : Cert.TrunkIdeal.Facts] [hProposalsIdeal : Cert.ProposalsIdeal.Facts] : Prop :=
  ∀ (m : (ℓ : Loc Cert.TrunkIdeal.nD Cert.TrunkIdeal.τ Cert.TrunkIdeal.sig) → Buf (Elt Ideal) ℓ) (g : Dev Cert.TrunkIdeal.nD → PrngReg)
    (m' : (ℓ : Loc Cert.ProposalsIdeal.nD Cert.ProposalsIdeal.τ Cert.ProposalsIdeal.sig) → Buf (Elt Ideal) ℓ) (g' : Dev Cert.ProposalsIdeal.nD → PrngReg), Pre_TrunkIdeal m →
    (∀ c : Dev Cert.TrunkIdeal.nD,
      m' ((c.tc : Thread Cert.ProposalsIdeal.nD Cert.ProposalsIdeal.τ).loc Cert.ProposalsIdeal.main_arg0) = m ((c.tc : Thread Cert.TrunkIdeal.nD Cert.TrunkIdeal.τ).loc Cert.TrunkIdeal.main_arg0)
      ∧ m' ((c.tc : Thread Cert.ProposalsIdeal.nD Cert.ProposalsIdeal.τ).loc Cert.ProposalsIdeal.main_arg1) = m ((c.tc : Thread Cert.TrunkIdeal.nD Cert.TrunkIdeal.τ).loc Cert.TrunkIdeal.main_arg1)
      ∧ m' ((c.tc : Thread Cert.ProposalsIdeal.nD Cert.ProposalsIdeal.τ).loc Cert.ProposalsIdeal.main_arg2) = m ((c.tc : Thread Cert.TrunkIdeal.nD Cert.TrunkIdeal.τ).loc Cert.TrunkIdeal.main_arg2)
      ∧ m' ((c.tc : Thread Cert.ProposalsIdeal.nD Cert.ProposalsIdeal.τ).loc Cert.ProposalsIdeal.main_arg3) = m ((c.tc : Thread Cert.TrunkIdeal.nD Cert.TrunkIdeal.τ).loc Cert.TrunkIdeal.main_arg3)
      ∧ m' ((c.tc : Thread Cert.ProposalsIdeal.nD Cert.ProposalsIdeal.τ).loc Cert.ProposalsIdeal.main_arg4) = m ((c.tc : Thread Cert.TrunkIdeal.nD Cert.TrunkIdeal.τ).loc Cert.TrunkIdeal.main_arg4)
      ∧ m' ((c.tc : Thread Cert.ProposalsIdeal.nD Cert.ProposalsIdeal.τ).loc Cert.ProposalsIdeal.main_arg5) = m ((c.tc : Thread Cert.TrunkIdeal.nD Cert.TrunkIdeal.τ).loc Cert.TrunkIdeal.main_arg5)
      ∧ m' ((c.tc : Thread Cert.ProposalsIdeal.nD Cert.ProposalsIdeal.τ).loc Cert.ProposalsIdeal.main_arg6) = m ((c.tc : Thread Cert.TrunkIdeal.nD Cert.TrunkIdeal.τ).loc Cert.TrunkIdeal.main_arg6)
      ∧ m' ((c.tc : Thread Cert.ProposalsIdeal.nD Cert.ProposalsIdeal.τ).loc Cert.ProposalsIdeal.main_arg7) = m ((c.tc : Thread Cert.TrunkIdeal.nD Cert.TrunkIdeal.τ).loc Cert.TrunkIdeal.main_arg7)
      ∧ m' ((c.tc : Thread Cert.ProposalsIdeal.nD Cert.ProposalsIdeal.τ).loc Cert.ProposalsIdeal.main_arg8) = m ((c.tc : Thread Cert.TrunkIdeal.nD Cert.TrunkIdeal.τ).loc Cert.TrunkIdeal.main_arg8)
      ∧ m' ((c.tc : Thread Cert.ProposalsIdeal.nD Cert.ProposalsIdeal.τ).loc Cert.ProposalsIdeal.main_arg9) = m ((c.tc : Thread Cert.TrunkIdeal.nD Cert.TrunkIdeal.τ).loc Cert.TrunkIdeal.main_arg9)
      ∧ m' ((c.tc : Thread Cert.ProposalsIdeal.nD Cert.ProposalsIdeal.τ).loc Cert.ProposalsIdeal.main_arg10) = m ((c.tc : Thread Cert.TrunkIdeal.nD Cert.TrunkIdeal.τ).loc Cert.TrunkIdeal.main_arg10)
      ∧ m' ((c.tc : Thread Cert.ProposalsIdeal.nD Cert.ProposalsIdeal.τ).loc Cert.ProposalsIdeal.main_arg11) = m ((c.tc : Thread Cert.TrunkIdeal.nD Cert.TrunkIdeal.τ).loc Cert.TrunkIdeal.main_arg11)) →
    ∃ (v0 : (c : Dev Cert.TrunkIdeal.nD) → Buf (Elt Ideal) ((c.tc : Thread Cert.TrunkIdeal.nD Cert.TrunkIdeal.τ).loc Cert.TrunkIdeal.main_v34_0)) (v1 : (c : Dev Cert.TrunkIdeal.nD) → Buf (Elt Ideal) ((c.tc : Thread Cert.TrunkIdeal.nD Cert.TrunkIdeal.τ).loc Cert.TrunkIdeal.main_v34_1)) (v2 : (c : Dev Cert.TrunkIdeal.nD) → Buf (Elt Ideal) ((c.tc : Thread Cert.TrunkIdeal.nD Cert.TrunkIdeal.τ).loc Cert.TrunkIdeal.main_v34_2)) (v3 : (c : Dev Cert.TrunkIdeal.nD) → Buf (Elt Ideal) ((c.tc : Thread Cert.TrunkIdeal.nD Cert.TrunkIdeal.τ).loc Cert.TrunkIdeal.main_v34_3)) (v4 : (c : Dev Cert.TrunkIdeal.nD) → Buf (Elt Ideal) ((c.tc : Thread Cert.TrunkIdeal.nD Cert.TrunkIdeal.τ).loc Cert.TrunkIdeal.main_v34_4)),
      θ_run (Cert.TrunkIdeal.defs (F := Ideal)) (onTc (τ := Cert.TrunkIdeal.τ) (Cert.TrunkIdeal.main (F := Ideal))) ⟨m, fun _ => 0, g⟩ (fun r => ∀ c : Dev Cert.TrunkIdeal.nD,
          r.2.mem ((c.tc : Thread Cert.TrunkIdeal.nD Cert.TrunkIdeal.τ).loc Cert.TrunkIdeal.main_v34_0) = v0 c
          ∧ r.2.mem ((c.tc : Thread Cert.TrunkIdeal.nD Cert.TrunkIdeal.τ).loc Cert.TrunkIdeal.main_v34_1) = v1 c
          ∧ r.2.mem ((c.tc : Thread Cert.TrunkIdeal.nD Cert.TrunkIdeal.τ).loc Cert.TrunkIdeal.main_v34_2) = v2 c
          ∧ r.2.mem ((c.tc : Thread Cert.TrunkIdeal.nD Cert.TrunkIdeal.τ).loc Cert.TrunkIdeal.main_v34_3) = v3 c
          ∧ r.2.mem ((c.tc : Thread Cert.TrunkIdeal.nD Cert.TrunkIdeal.τ).loc Cert.TrunkIdeal.main_v34_4) = v4 c
          ∧ r.2.mem ((c.tc : Thread Cert.TrunkIdeal.nD Cert.TrunkIdeal.τ).loc Cert.TrunkIdeal.main_arg0) = m ((c.tc : Thread Cert.TrunkIdeal.nD Cert.TrunkIdeal.τ).loc Cert.TrunkIdeal.main_arg0)
          ∧ r.2.mem ((c.tc : Thread Cert.TrunkIdeal.nD Cert.TrunkIdeal.τ).loc Cert.TrunkIdeal.main_arg1) = m ((c.tc : Thread Cert.TrunkIdeal.nD Cert.TrunkIdeal.τ).loc Cert.TrunkIdeal.main_arg1)
          ∧ r.2.mem ((c.tc : Thread Cert.TrunkIdeal.nD Cert.TrunkIdeal.τ).loc Cert.TrunkIdeal.main_arg2) = m ((c.tc : Thread Cert.TrunkIdeal.nD Cert.TrunkIdeal.τ).loc Cert.TrunkIdeal.main_arg2)
          ∧ r.2.mem ((c.tc : Thread Cert.TrunkIdeal.nD Cert.TrunkIdeal.τ).loc Cert.TrunkIdeal.main_arg3) = m ((c.tc : Thread Cert.TrunkIdeal.nD Cert.TrunkIdeal.τ).loc Cert.TrunkIdeal.main_arg3)
          ∧ r.2.mem ((c.tc : Thread Cert.TrunkIdeal.nD Cert.TrunkIdeal.τ).loc Cert.TrunkIdeal.main_arg4) = m ((c.tc : Thread Cert.TrunkIdeal.nD Cert.TrunkIdeal.τ).loc Cert.TrunkIdeal.main_arg4)
          ∧ r.2.mem ((c.tc : Thread Cert.TrunkIdeal.nD Cert.TrunkIdeal.τ).loc Cert.TrunkIdeal.main_arg5) = m ((c.tc : Thread Cert.TrunkIdeal.nD Cert.TrunkIdeal.τ).loc Cert.TrunkIdeal.main_arg5)
          ∧ r.2.mem ((c.tc : Thread Cert.TrunkIdeal.nD Cert.TrunkIdeal.τ).loc Cert.TrunkIdeal.main_arg6) = m ((c.tc : Thread Cert.TrunkIdeal.nD Cert.TrunkIdeal.τ).loc Cert.TrunkIdeal.main_arg6)
          ∧ r.2.mem ((c.tc : Thread Cert.TrunkIdeal.nD Cert.TrunkIdeal.τ).loc Cert.TrunkIdeal.main_arg7) = m ((c.tc : Thread Cert.TrunkIdeal.nD Cert.TrunkIdeal.τ).loc Cert.TrunkIdeal.main_arg7)
          ∧ r.2.mem ((c.tc : Thread Cert.TrunkIdeal.nD Cert.TrunkIdeal.τ).loc Cert.TrunkIdeal.main_arg8) = m ((c.tc : Thread Cert.TrunkIdeal.nD Cert.TrunkIdeal.τ).loc Cert.TrunkIdeal.main_arg8)
          ∧ r.2.mem ((c.tc : Thread Cert.TrunkIdeal.nD Cert.TrunkIdeal.τ).loc Cert.TrunkIdeal.main_arg9) = m ((c.tc : Thread Cert.TrunkIdeal.nD Cert.TrunkIdeal.τ).loc Cert.TrunkIdeal.main_arg9)
          ∧ r.2.mem ((c.tc : Thread Cert.TrunkIdeal.nD Cert.TrunkIdeal.τ).loc Cert.TrunkIdeal.main_arg10) = m ((c.tc : Thread Cert.TrunkIdeal.nD Cert.TrunkIdeal.τ).loc Cert.TrunkIdeal.main_arg10)
          ∧ r.2.mem ((c.tc : Thread Cert.TrunkIdeal.nD Cert.TrunkIdeal.τ).loc Cert.TrunkIdeal.main_arg11) = m ((c.tc : Thread Cert.TrunkIdeal.nD Cert.TrunkIdeal.τ).loc Cert.TrunkIdeal.main_arg11))
      ∧ θ_run (Cert.ProposalsIdeal.defs (F := Ideal)) (onTc (τ := Cert.ProposalsIdeal.τ) (Cert.ProposalsIdeal.main (F := Ideal))) ⟨m', fun _ => 0, g'⟩ (fun r => ∀ c : Dev Cert.ProposalsIdeal.nD,
          r.2.mem ((c.tc : Thread Cert.ProposalsIdeal.nD Cert.ProposalsIdeal.τ).loc Cert.ProposalsIdeal.main_v32) = v0 c
          ∧ r.2.mem ((c.tc : Thread Cert.ProposalsIdeal.nD Cert.ProposalsIdeal.τ).loc Cert.ProposalsIdeal.main_v79) = v1 c
          ∧ r.2.mem ((c.tc : Thread Cert.ProposalsIdeal.nD Cert.ProposalsIdeal.τ).loc Cert.ProposalsIdeal.main_v86) = v2 c
          ∧ r.2.mem ((c.tc : Thread Cert.ProposalsIdeal.nD Cert.ProposalsIdeal.τ).loc Cert.ProposalsIdeal.main_v93) = v3 c
          ∧ r.2.mem ((c.tc : Thread Cert.ProposalsIdeal.nD Cert.ProposalsIdeal.τ).loc Cert.ProposalsIdeal.main_v100) = v4 c
          ∧ r.2.mem ((c.tc : Thread Cert.ProposalsIdeal.nD Cert.ProposalsIdeal.τ).loc Cert.ProposalsIdeal.main_arg0) = m' ((c.tc : Thread Cert.ProposalsIdeal.nD Cert.ProposalsIdeal.τ).loc Cert.ProposalsIdeal.main_arg0)
          ∧ r.2.mem ((c.tc : Thread Cert.ProposalsIdeal.nD Cert.ProposalsIdeal.τ).loc Cert.ProposalsIdeal.main_arg1) = m' ((c.tc : Thread Cert.ProposalsIdeal.nD Cert.ProposalsIdeal.τ).loc Cert.ProposalsIdeal.main_arg1)
          ∧ r.2.mem ((c.tc : Thread Cert.ProposalsIdeal.nD Cert.ProposalsIdeal.τ).loc Cert.ProposalsIdeal.main_arg2) = m' ((c.tc : Thread Cert.ProposalsIdeal.nD Cert.ProposalsIdeal.τ).loc Cert.ProposalsIdeal.main_arg2)
          ∧ r.2.mem ((c.tc : Thread Cert.ProposalsIdeal.nD Cert.ProposalsIdeal.τ).loc Cert.ProposalsIdeal.main_arg3) = m' ((c.tc : Thread Cert.ProposalsIdeal.nD Cert.ProposalsIdeal.τ).loc Cert.ProposalsIdeal.main_arg3)
          ∧ r.2.mem ((c.tc : Thread Cert.ProposalsIdeal.nD Cert.ProposalsIdeal.τ).loc Cert.ProposalsIdeal.main_arg4) = m' ((c.tc : Thread Cert.ProposalsIdeal.nD Cert.ProposalsIdeal.τ).loc Cert.ProposalsIdeal.main_arg4)
          ∧ r.2.mem ((c.tc : Thread Cert.ProposalsIdeal.nD Cert.ProposalsIdeal.τ).loc Cert.ProposalsIdeal.main_arg5) = m' ((c.tc : Thread Cert.ProposalsIdeal.nD Cert.ProposalsIdeal.τ).loc Cert.ProposalsIdeal.main_arg5)
          ∧ r.2.mem ((c.tc : Thread Cert.ProposalsIdeal.nD Cert.ProposalsIdeal.τ).loc Cert.ProposalsIdeal.main_arg6) = m' ((c.tc : Thread Cert.ProposalsIdeal.nD Cert.ProposalsIdeal.τ).loc Cert.ProposalsIdeal.main_arg6)
          ∧ r.2.mem ((c.tc : Thread Cert.ProposalsIdeal.nD Cert.ProposalsIdeal.τ).loc Cert.ProposalsIdeal.main_arg7) = m' ((c.tc : Thread Cert.ProposalsIdeal.nD Cert.ProposalsIdeal.τ).loc Cert.ProposalsIdeal.main_arg7)
          ∧ r.2.mem ((c.tc : Thread Cert.ProposalsIdeal.nD Cert.ProposalsIdeal.τ).loc Cert.ProposalsIdeal.main_arg8) = m' ((c.tc : Thread Cert.ProposalsIdeal.nD Cert.ProposalsIdeal.τ).loc Cert.ProposalsIdeal.main_arg8)
          ∧ r.2.mem ((c.tc : Thread Cert.ProposalsIdeal.nD Cert.ProposalsIdeal.τ).loc Cert.ProposalsIdeal.main_arg9) = m' ((c.tc : Thread Cert.ProposalsIdeal.nD Cert.ProposalsIdeal.τ).loc Cert.ProposalsIdeal.main_arg9)
          ∧ r.2.mem ((c.tc : Thread Cert.ProposalsIdeal.nD Cert.ProposalsIdeal.τ).loc Cert.ProposalsIdeal.main_arg10) = m' ((c.tc : Thread Cert.ProposalsIdeal.nD Cert.ProposalsIdeal.τ).loc Cert.ProposalsIdeal.main_arg10)
          ∧ r.2.mem ((c.tc : Thread Cert.ProposalsIdeal.nD Cert.ProposalsIdeal.τ).loc Cert.ProposalsIdeal.main_arg11) = m' ((c.tc : Thread Cert.ProposalsIdeal.nD Cert.ProposalsIdeal.τ).loc Cert.ProposalsIdeal.main_arg11))

def preserves_Threshold_ThresholdIdeal : Prop :=
  True

def algebraic_ThresholdIdeal_RankedIdeal [hThresholdIdeal : Cert.ThresholdIdeal.Facts] [hRankedIdeal : Cert.RankedIdeal.Facts] : Prop :=
  ∀ (m : (ℓ : Loc Cert.ThresholdIdeal.nD Cert.ThresholdIdeal.τ Cert.ThresholdIdeal.sig) → Buf (Elt Ideal) ℓ) (g : Dev Cert.ThresholdIdeal.nD → PrngReg)
    (m' : (ℓ : Loc Cert.RankedIdeal.nD Cert.RankedIdeal.τ Cert.RankedIdeal.sig) → Buf (Elt Ideal) ℓ) (g' : Dev Cert.RankedIdeal.nD → PrngReg), Pre_ThresholdIdeal m →
    (∀ c : Dev Cert.ThresholdIdeal.nD,
      m' ((c.tc : Thread Cert.RankedIdeal.nD Cert.RankedIdeal.τ).loc Cert.RankedIdeal.main_arg0) = m ((c.tc : Thread Cert.ThresholdIdeal.nD Cert.ThresholdIdeal.τ).loc Cert.ThresholdIdeal.main_arg0)) →
    ∃ (v0 : (c : Dev Cert.ThresholdIdeal.nD) → Buf (Elt Ideal) ((c.tc : Thread Cert.ThresholdIdeal.nD Cert.ThresholdIdeal.τ).loc Cert.ThresholdIdeal.main_v0_0)) (v1 : (c : Dev Cert.ThresholdIdeal.nD) → Buf (Elt Ideal) ((c.tc : Thread Cert.ThresholdIdeal.nD Cert.ThresholdIdeal.τ).loc Cert.ThresholdIdeal.main_v0_1)),
      θ_run (Cert.ThresholdIdeal.defs (F := Ideal)) (onTc (τ := Cert.ThresholdIdeal.τ) (Cert.ThresholdIdeal.main (F := Ideal))) ⟨m, fun _ => 0, g⟩ (fun r => ∀ c : Dev Cert.ThresholdIdeal.nD,
          r.2.mem ((c.tc : Thread Cert.ThresholdIdeal.nD Cert.ThresholdIdeal.τ).loc Cert.ThresholdIdeal.main_v0_0) = v0 c
          ∧ r.2.mem ((c.tc : Thread Cert.ThresholdIdeal.nD Cert.ThresholdIdeal.τ).loc Cert.ThresholdIdeal.main_v0_1) = v1 c
          ∧ r.2.mem ((c.tc : Thread Cert.ThresholdIdeal.nD Cert.ThresholdIdeal.τ).loc Cert.ThresholdIdeal.main_arg0) = m ((c.tc : Thread Cert.ThresholdIdeal.nD Cert.ThresholdIdeal.τ).loc Cert.ThresholdIdeal.main_arg0))
      ∧ θ_run (Cert.RankedIdeal.defs (F := Ideal)) (onTc (τ := Cert.RankedIdeal.τ) (Cert.RankedIdeal.main (F := Ideal))) ⟨m', fun _ => 0, g'⟩ (fun r => ∀ c : Dev Cert.RankedIdeal.nD,
          r.2.mem ((c.tc : Thread Cert.RankedIdeal.nD Cert.RankedIdeal.τ).loc Cert.RankedIdeal.main_v6) = v0 c
          ∧ r.2.mem ((c.tc : Thread Cert.RankedIdeal.nD Cert.RankedIdeal.τ).loc Cert.RankedIdeal.main_v4) = v1 c
          ∧ r.2.mem ((c.tc : Thread Cert.RankedIdeal.nD Cert.RankedIdeal.τ).loc Cert.RankedIdeal.main_arg0) = m' ((c.tc : Thread Cert.RankedIdeal.nD Cert.RankedIdeal.τ).loc Cert.RankedIdeal.main_arg0))

def bitexact_Threshold_Ranked [hThreshold : Cert.Threshold.Facts] [hRanked : Cert.Ranked.Facts] : Prop :=
  ∀ (m : (ℓ : Loc Cert.Threshold.nD Cert.Threshold.τ Cert.Threshold.sig) → Buf (Elt Bits) ℓ) (g : Dev Cert.Threshold.nD → PrngReg)
    (m' : (ℓ : Loc Cert.Ranked.nD Cert.Ranked.τ Cert.Ranked.sig) → Buf (Elt Bits) ℓ) (g' : Dev Cert.Ranked.nD → PrngReg), Pre_Threshold m →
    (∀ c : Dev Cert.Threshold.nD,
      m' ((c.tc : Thread Cert.Ranked.nD Cert.Ranked.τ).loc Cert.Ranked.main_arg0) = m ((c.tc : Thread Cert.Threshold.nD Cert.Threshold.τ).loc Cert.Threshold.main_arg0)) →
    ∃ (v0 : (c : Dev Cert.Threshold.nD) → Buf (Elt Bits) ((c.tc : Thread Cert.Threshold.nD Cert.Threshold.τ).loc Cert.Threshold.main_v0_0)) (v1 : (c : Dev Cert.Threshold.nD) → Buf (Elt Bits) ((c.tc : Thread Cert.Threshold.nD Cert.Threshold.τ).loc Cert.Threshold.main_v0_1)),
      θ_run (Cert.Threshold.defs (F := Bits)) (onTc (τ := Cert.Threshold.τ) (Cert.Threshold.main (F := Bits))) ⟨m, fun _ => 0, g⟩ (fun r => ∀ c : Dev Cert.Threshold.nD,
          r.2.mem ((c.tc : Thread Cert.Threshold.nD Cert.Threshold.τ).loc Cert.Threshold.main_v0_0) = v0 c
          ∧ r.2.mem ((c.tc : Thread Cert.Threshold.nD Cert.Threshold.τ).loc Cert.Threshold.main_v0_1) = v1 c
          ∧ r.2.mem ((c.tc : Thread Cert.Threshold.nD Cert.Threshold.τ).loc Cert.Threshold.main_arg0) = m ((c.tc : Thread Cert.Threshold.nD Cert.Threshold.τ).loc Cert.Threshold.main_arg0))
      ∧ θ_run (Cert.Ranked.defs (F := Bits)) (onTc (τ := Cert.Ranked.τ) (Cert.Ranked.main (F := Bits))) ⟨m', fun _ => 0, g'⟩ (fun r => ∀ c : Dev Cert.Ranked.nD,
          r.2.mem ((c.tc : Thread Cert.Ranked.nD Cert.Ranked.τ).loc Cert.Ranked.main_v6) = v0 c
          ∧ r.2.mem ((c.tc : Thread Cert.Ranked.nD Cert.Ranked.τ).loc Cert.Ranked.main_v4) = v1 c
          ∧ r.2.mem ((c.tc : Thread Cert.Ranked.nD Cert.Ranked.τ).loc Cert.Ranked.main_arg0) = m' ((c.tc : Thread Cert.Ranked.nD Cert.Ranked.τ).loc Cert.Ranked.main_arg0))

def Claim : Prop :=
  ∃ (hKernel : Cert.Kernel.Facts) (hKernelIdeal : Cert.KernelIdeal.Facts) (hReferenceIdeal : Cert.ReferenceIdeal.Facts) (hReference : Cert.Reference.Facts) (hSuppress : Cert.Suppress.Facts) (hSuppressIdeal : Cert.SuppressIdeal.Facts) (hGreedyIdeal : Cert.GreedyIdeal.Facts) (hGreedy : Cert.Greedy.Facts) (hTrunk : Cert.Trunk.Facts) (hTrunkIdeal : Cert.TrunkIdeal.Facts) (hProposalsIdeal : Cert.ProposalsIdeal.Facts) (hProposals : Cert.Proposals.Facts) (hThreshold : Cert.Threshold.Facts) (hThresholdIdeal : Cert.ThresholdIdeal.Facts) (hRankedIdeal : Cert.RankedIdeal.Facts) (hRanked : Cert.Ranked.Facts) (hPre_counts_fit : Cert.Pre_counts_fit.Facts) (hPre_candidates_differ : Cert.Pre_candidates_differ.Facts),
    quiescent_Kernel (hKernel := hKernel) (hPre_counts_fit := hPre_counts_fit)
    ∧ quiescent_KernelIdeal (hKernelIdeal := hKernelIdeal) (hPre_counts_fit := hPre_counts_fit)
    ∧ quiescent_ReferenceIdeal (hReferenceIdeal := hReferenceIdeal)
    ∧ quiescent_ReferenceIdeal_pre_counts_fit (hReferenceIdeal := hReferenceIdeal) (hPre_counts_fit := hPre_counts_fit)
    ∧ quiescent_Reference (hReference := hReference) (hPre_counts_fit := hPre_counts_fit)
    ∧ quiescent_Suppress (hSuppress := hSuppress)
    ∧ quiescent_SuppressIdeal (hSuppressIdeal := hSuppressIdeal)
    ∧ quiescent_SuppressIdeal_pre_candidates_differ (hSuppressIdeal := hSuppressIdeal) (hPre_candidates_differ := hPre_candidates_differ)
    ∧ quiescent_GreedyIdeal (hGreedyIdeal := hGreedyIdeal)
    ∧ quiescent_GreedyIdeal_pre_candidates_differ (hGreedyIdeal := hGreedyIdeal) (hPre_candidates_differ := hPre_candidates_differ)
    ∧ quiescent_Greedy (hGreedy := hGreedy)
    ∧ quiescent_Trunk (hTrunk := hTrunk)
    ∧ quiescent_TrunkIdeal (hTrunkIdeal := hTrunkIdeal)
    ∧ quiescent_ProposalsIdeal (hProposalsIdeal := hProposalsIdeal)
    ∧ quiescent_Proposals (hProposals := hProposals)
    ∧ quiescent_Threshold (hThreshold := hThreshold)
    ∧ quiescent_ThresholdIdeal (hThresholdIdeal := hThresholdIdeal)
    ∧ quiescent_RankedIdeal (hRankedIdeal := hRankedIdeal)
    ∧ quiescent_Ranked (hRanked := hRanked)
    ∧ preserves_Kernel_KernelIdeal
    ∧ algebraic_KernelIdeal_ReferenceIdeal (hKernelIdeal := hKernelIdeal) (hReferenceIdeal := hReferenceIdeal) (hPre_counts_fit := hPre_counts_fit)
    ∧ bitexact_Kernel_Reference (hKernel := hKernel) (hReference := hReference) (hPre_counts_fit := hPre_counts_fit)
    ∧ preserves_Suppress_SuppressIdeal
    ∧ algebraic_SuppressIdeal_GreedyIdeal_pre_candidates_differ (hSuppressIdeal := hSuppressIdeal) (hGreedyIdeal := hGreedyIdeal) (hPre_candidates_differ := hPre_candidates_differ)
    ∧ preserves_Trunk_TrunkIdeal
    ∧ algebraic_TrunkIdeal_ProposalsIdeal (hTrunkIdeal := hTrunkIdeal) (hProposalsIdeal := hProposalsIdeal)
    ∧ preserves_Threshold_ThresholdIdeal
    ∧ algebraic_ThresholdIdeal_RankedIdeal (hThresholdIdeal := hThresholdIdeal) (hRankedIdeal := hRankedIdeal)
    ∧ bitexact_Threshold_Ranked (hThreshold := hThreshold) (hRanked := hRanked)
-- ==== Pre_candidates_differ.lean ====
abbrev S4x640 : Shape := ⟨2, ![4, 640]⟩
abbrev S4x640x1 : Shape := ⟨3, ![4, 640, 1]⟩
abbrev S4x1x640 : Shape := ⟨3, ![4, 1, 640]⟩
abbrev S4x640x640 : Shape := ⟨3, ![4, 640, 640]⟩
abbrev S640x640 : Shape := ⟨2, ![640, 640]⟩
abbrev S_ : Shape := ⟨0, ![]⟩
abbrev S1x640x640 : Shape := ⟨3, ![1, 640, 640]⟩

class Facts : Prop where
  bcast_S4x640_S4x640x1_0_1 : S4x640.BroadcastsInDim S4x640x1 (![0, 1] : Fin 2 → Fin S4x640x1.rank)
  bcast_S4x640_S4x1x640_0_2 : S4x640.BroadcastsInDim S4x1x640 (![0, 2] : Fin 2 → Fin S4x1x640.rank)
  bcast_S4x640x1_S4x640x640_0_1_2 : S4x640x1.BroadcastsInDim S4x640x640 (![0, 1, 2] : Fin 3 → Fin S4x640x640.rank)
  bcast_S4x1x640_S4x640x640_0_1_2 : S4x1x640.BroadcastsInDim S4x640x640 (![0, 1, 2] : Fin 3 → Fin S4x640x640.rank)
  bcast_S_S640x640 : S_.BroadcastsInDim S640x640 (![] : Fin 0 → Fin S640x640.rank)
  bcast_S640x640_S1x640x640_1_2 : S640x640.BroadcastsInDim S1x640x640 (![1, 2] : Fin 2 → Fin S1x640x640.rank)
  bcast_S1x640x640_S4x640x640_0_1_2 : S1x640x640.BroadcastsInDim S4x640x640 (![0, 1, 2] : Fin 3 → Fin S4x640x640.rank)
  reducesTo_S4x640x640_S_d0_1_2 : S4x640x640.ReducesTo [0, 1, 2] S_
  h_S_ : 0 < S_.numel

variable [Facts]

def fn {F : FTy → Type} [FloatOps F] (main_arg0 : FVec F S4x640 .f32) (main_arg1 : IVec S4x640 32) (main_arg2 : FVec F S4x640 .f32) (main_arg3 : FVec F S4x640 .f32) (main_arg4 : FVec F S4x640 .f32) (main_arg5 : FVec F S4x640 .f32) : IVec S_ 1 :=
  let main_v0 : FVec F S4x640x1 .f32 := broadcastInDim S4x640x1 ![0, 1] bcast_S4x640_S4x640x1_0_1 main_arg0
  let main_v1 : FVec F S4x1x640 .f32 := broadcastInDim S4x1x640 ![0, 2] bcast_S4x640_S4x1x640_0_2 main_arg0
  let main_v2 : FVec F S4x640x640 .f32 := broadcastInDim S4x640x640 ![0, 1, 2] bcast_S4x640x1_S4x640x640_0_1_2 main_v0
  let main_v3 : FVec F S4x640x640 .f32 := broadcastInDim S4x640x640 ![0, 1, 2] bcast_S4x1x640_S4x640x640_0_1_2 main_v1
  let main_v4 : IVec S4x640x640 1 := cmpf .oeq main_v2 main_v3
  let main_v5 : IVec S4x640x1 32 := broadcastInDim S4x640x1 ![0, 1] bcast_S4x640_S4x640x1_0_1 main_arg1
  let main_v6 : IVec S4x1x640 32 := broadcastInDim S4x1x640 ![0, 2] bcast_S4x640_S4x1x640_0_2 main_arg1
  let main_v7 : IVec S4x640x640 32 := broadcastInDim S4x640x640 ![0, 1, 2] bcast_S4x640x1_S4x640x640_0_1_2 main_v5
  let main_v8 : IVec S4x640x640 32 := broadcastInDim S4x640x640 ![0, 1, 2] bcast_S4x1x640_S4x640x640_0_1_2 main_v6
  let main_v9 : IVec S4x640x640 1 := cmpi .eq main_v7 main_v8
  let main_v10 : IVec S4x640x640 1 := andi main_v4 main_v9
  let main_v11 : IVec S4x640x640 1 := noti main_v10
  let main_v12 : IVec S640x640 32 := iotaInDim S640x640 32 0
  let main_v13 : IVec S640x640 32 := iotaInDim S640x640 32 1
  let main_c : IVec S_ 32 := constantI S_ 32 0#32
  let main_v14 : IVec S640x640 32 := broadcastInDim S640x640 ![] bcast_S_S640x640 main_c
  let main_v15 : IVec S640x640 32 := addi main_v12 main_v14
  let main_v16 : IVec S640x640 1 := cmpi .eq main_v15 main_v13
  let main_v17 : IVec S1x640x640 1 := broadcastInDim S1x640x640 ![1, 2] bcast_S640x640_S1x640x640_1_2 main_v16
  let main_v18 : IVec S4x640x640 1 := broadcastInDim S4x640x640 ![0, 1, 2] bcast_S1x640x640_S4x640x640_0_1_2 main_v17
  let main_v19 : IVec S4x640x640 1 := ori main_v11 main_v18
  let main_c_0 : IVec S_ 1 := constantI S_ 1 1#1
  let main_v20 : IVec S_ 1 := (fun x v => Host.reduce IntOp.andi x v reducesTo_S4x640x640_S_d0_1_2 h_S_) main_v19 main_c_0
  main_v20
-- ==== Pre_counts_fit.lean ====
abbrev S4x9216 : Shape := ⟨2, ![4, 9216]⟩
abbrev S4x1 : Shape := ⟨2, ![4, 1]⟩
abbrev S_ : Shape := ⟨0, ![]⟩
abbrev S4 : Shape := ⟨1, ![4]⟩

class Facts : Prop where
  bcast_S4x1_S4x9216_0_1 : S4x1.BroadcastsInDim S4x9216 (![0, 1] : Fin 2 → Fin S4x9216.rank)
  natLt_1_32 : 1 < 32
  reducesTo_S4x9216_S4_d1 : S4x9216.ReducesTo [1] S4
  h_S_ : 0 < S_.numel
  bcast_S_S4 : S_.BroadcastsInDim S4 (![] : Fin 0 → Fin S4.rank)

variable [Facts]

def fn {F : FTy → Type} [FloatOps F] (main_arg0 : FVec F S4x9216 .f32) (main_arg1 : IVec S4x9216 32) (main_arg2 : FVec F S4x9216 .f32) (main_arg3 : FVec F S4x9216 .f32) (main_arg4 : FVec F S4x9216 .f32) (main_arg5 : FVec F S4x9216 .f32) (main_arg6 : IVec S4x1 32) : IVec S4 1 :=
  let main_v0 : IVec S4x9216 32 := broadcastInDim S4x9216 ![0, 1] bcast_S4x1_S4x9216_0_1 main_arg6
  let main_v1 : IVec S4x9216 1 := cmpi .sgt main_arg1 main_v0
  let main_v2 : IVec S4x9216 32 := (extui 32 · natLt_1_32) main_v1
  let main_c : IVec S_ 32 := constantI S_ 32 0#32
  let main_v3 : IVec S4 32 := (fun x v => Host.reduce IntOp.addi x v reducesTo_S4x9216_S4_d1 h_S_) main_v2 main_c
  let main_v4 : IVec S4x9216 32 := broadcastInDim S4x9216 ![0, 1] bcast_S4x1_S4x9216_0_1 main_arg6
  let main_v5 : IVec S4x9216 1 := cmpi .eq main_arg1 main_v4
  let main_v6 : IVec S4x9216 32 := (extui 32 · natLt_1_32) main_v5
  let main_c_0 : IVec S_ 32 := constantI S_ 32 0#32
  let main_v7 : IVec S4 32 := (fun x v => Host.reduce IntOp.addi x v reducesTo_S4x9216_S4_d1 h_S_) main_v6 main_c_0
  let main_c_1 : IVec S_ 32 := constantI S_ 32 640#32
  let main_v8 : IVec S4 32 := broadcastInDim S4 ![] bcast_S_S4 main_c_1
  let main_v9 : IVec S4 1 := cmpi .slt main_v3 main_v8
  let main_c_2 : IVec S_ 32 := constantI S_ 32 640#32
  let main_v10 : IVec S4 32 := broadcastInDim S4 ![] bcast_S_S4 main_c_2
  let main_v11 : IVec S4 1 := cmpi .slt main_v7 main_v10
  let main_v12 : IVec S4 1 := andi main_v9 main_v11
  main_v12
-- ==== Kernel.lean ====
abbrev S4x9216 : Shape := ⟨2, ![4, 9216]⟩
abbrev S4x1 : Shape := ⟨2, ![4, 1]⟩
abbrev S4x16 : Shape := ⟨2, ![4, 16]⟩
abbrev S4x640 : Shape := ⟨2, ![4, 640]⟩
abbrev S9216 : Shape := ⟨1, ![9216]⟩
abbrev S16 : Shape := ⟨1, ![16]⟩
abbrev S640 : Shape := ⟨1, ![640]⟩
abbrev S_ : Shape := ⟨0, ![]⟩
abbrev S1x9216 : Shape := ⟨2, ![1, 9216]⟩
abbrev S1x16 : Shape := ⟨2, ![1, 16]⟩
abbrev S1x640 : Shape := ⟨2, ![1, 640]⟩

abbrev nBuf : Table → Nat
  | .hbm => 14
  | .local .scVector .vmem => 25
  | _ => 0

abbrev bufTy : (tb : Table) → Fin (nBuf tb) → BufTy
  | .hbm, ⟨0, _⟩ => ⟨S4x9216, .f32⟩
  | .hbm, ⟨1, _⟩ => ⟨S4x9216, .i32⟩
  | .hbm, ⟨2, _⟩ => ⟨S4x9216, .f32⟩
  | .hbm, ⟨3, _⟩ => ⟨S4x9216, .f32⟩
  | .hbm, ⟨4, _⟩ => ⟨S4x9216, .f32⟩
  | .hbm, ⟨5, _⟩ => ⟨S4x9216, .f32⟩
  | .hbm, ⟨6, _⟩ => ⟨S4x1, .i32⟩
  | .hbm, ⟨7, _⟩ => ⟨S4x16, .i32⟩
  | .hbm, ⟨8, _⟩ => ⟨S4x640, .f32⟩
  | .hbm, ⟨9, _⟩ => ⟨S4x640, .i32⟩
  | .hbm, ⟨10, _⟩ => ⟨S4x640, .f32⟩
  | .hbm, ⟨11, _⟩ => ⟨S4x640, .f32⟩
  | .hbm, ⟨12, _⟩ => ⟨S4x640, .f32⟩
  | .hbm, ⟨13, _⟩ => ⟨S4x640, .f32⟩
  | .local .scVector .vmem, ⟨0, _⟩ => ⟨S9216, .f32⟩
  | .local .scVector .vmem, ⟨1, _⟩ => ⟨S9216, .i32⟩
  | .local .scVector .vmem, ⟨2, _⟩ => ⟨S9216, .f32⟩
  | .local .scVector .vmem, ⟨3, _⟩ => ⟨S9216, .f32⟩
  | .local .scVector .vmem, ⟨4, _⟩ => ⟨S9216, .f32⟩
  | .local .scVector .vmem, ⟨5, _⟩ => ⟨S9216, .f32⟩
  | .local .scVector .vmem, ⟨6, _⟩ => ⟨S16, .i32⟩
  | .local .scVector .vmem, ⟨7, _⟩ => ⟨S640, .f32⟩
  | .local .scVector .vmem, ⟨8, _⟩ => ⟨S640, .i32⟩
  | .local .scVector .vmem, ⟨9, _⟩ => ⟨S640, .f32⟩
  | .local .scVector .vmem, ⟨10, _⟩ => ⟨S640, .f32⟩
  | .local .scVector .vmem, ⟨11, _⟩ => ⟨S640, .f32⟩
  | .local .scVector .vmem, ⟨12, _⟩ => ⟨S640, .f32⟩
  | .local .scVector .vmem, ⟨13, _⟩ => ⟨S640, .f32⟩
  | .local .scVector .vmem, ⟨14, _⟩ => ⟨S640, .i32⟩
  | .local .scVector .vmem, ⟨15, _⟩ => ⟨S640, .f32⟩
  | .local .scVector .vmem, ⟨16, _⟩ => ⟨S640, .f32⟩
  | .local .scVector .vmem, ⟨17, _⟩ => ⟨S640, .f32⟩
  | .local .scVector .vmem, ⟨18, _⟩ => ⟨S640, .f32⟩
  | .local .scVector .vmem, ⟨19, _⟩ => ⟨S640, .f32⟩
  | .local .scVector .vmem, ⟨20, _⟩ => ⟨S640, .i32⟩
  | .local .scVector .vmem, ⟨21, _⟩ => ⟨S640, .f32⟩
  | .local .scVector .vmem, ⟨22, _⟩ => ⟨S640, .f32⟩
  | .local .scVector .vmem, ⟨23, _⟩ => ⟨S640, .f32⟩
  | .local .scVector .vmem, ⟨24, _⟩ => ⟨S640, .f32⟩
  | _, _ => ⟨S4x9216, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_v0_scv : Ref sig .scVector := ⟨.hbm, 7, rfl⟩
abbrev main_v1_0_scv : Ref sig .scVector := ⟨.hbm, 8, rfl⟩
abbrev main_v1_1_scv : Ref sig .scVector := ⟨.hbm, 9, rfl⟩
abbrev main_v1_2_scv : Ref sig .scVector := ⟨.hbm, 10, rfl⟩
abbrev main_v1_3_scv : Ref sig .scVector := ⟨.hbm, 11, rfl⟩
abbrev main_v1_4_scv : Ref sig .scVector := ⟨.hbm, 12, rfl⟩
abbrev main_v1_5_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc0_scratch22 : Ref sig .scVector := ⟨.vmem, 22, rfl⟩
abbrev cc0_scratch23 : Ref sig .scVector := ⟨.vmem, 23, rfl⟩
abbrev cc0_scratch24 : Ref sig .scVector := ⟨.vmem, 24, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 1 := Scalar.cmpi .slt v1 c4_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18_r0 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18_r6 : BitVec 32 := 0#32
  ![v1.toNat, 0]
@[reducible] def k0_t1_loop : Scf.Loop 32 :=
  let c0_i32_2 : BitVec 32 := 0#32
  let c576_i32 : BitVec 32 := 576#32
  let v7 : BitVec 32 := Scalar.addi c0_i32_2 c576_i32
  let c1_i32 : BitVec 32 := 1#32
  ⟨c0_i32_2, v7, c1_i32⟩
def k0_off3 (k0_t1 : Fin k0_t1_loop.trips) : Fin 1 → Nat :=
  let c0_i32_2 : BitVec 32 := 0#32
  let c1_i32 : BitVec 32 := 1#32
  let arg40 : BitVec 32 := Scf.iv c0_i32_2 c1_i32 k0_t1
  let c16_i32 : BitVec 32 := 16#32
  let v17 : BitVec 32 := Scalar.muli arg40 c16_i32
  let v18 : Index := Scalar.indexCast v17
  ![v18.toNat]
def k0_off4 (k0_t1 : Fin k0_t1_loop.trips) : Fin 1 → Nat :=
  let c0_i32_2 : BitVec 32 := 0#32
  let c1_i32 : BitVec 32 := 1#32
  let arg40 : BitVec 32 := Scf.iv c0_i32_2 c1_i32 k0_t1
  let c16_i32_22 : BitVec 32 := 16#32
  let v46 : BitVec 32 := Scalar.muli arg40 c16_i32_22
  let v47 : Index := Scalar.indexCast v46
  ![v47.toNat]

def k0_chk1 (i : grid0.Coords) (v33 : IVec S16 32) : Prop :=
  (∀ (k0_h1 : k0_cond1 i = 1#1), ∀ a x, ((![v33] : Fin 1 → IVec S16 32) a x).toNat < S640.size a) ∧
  (∀ (k0_h1 : k0_cond1 i = 1#1), ∀ a x, ((![v33] : Fin 1 → IVec S16 32) a x).toNat < S640.size a) ∧
  (∀ (k0_h1 : k0_cond1 i = 1#1), ∀ a x, ((![v33] : Fin 1 → IVec S16 32) a x).toNat < S640.size a) ∧
  (∀ (k0_h1 : k0_cond1 i = 1#1), ∀ a x, ((![v33] : Fin 1 → IVec S16 32) a x).toNat < S640.size a) ∧
  (∀ (k0_h1 : k0_cond1 i = 1#1), ∀ a x, ((![v33] : Fin 1 → IVec S16 32) a x).toNat < S640.size a) ∧
  (∀ (k0_h1 : k0_cond1 i = 1#1), ∀ a x, ((![v33] : Fin 1 → IVec S16 32) a x).toNat < S640.size a)
theorem k0_idx1_inb : ∀ (i : grid0.Coords) (v33 : IVec S16 32) (k0_hw1 : k0_chk1 i v33), ∀ (k0_h1 : k0_cond1 i = 1#1), ∀ a x, ((![v33] : Fin 1 → IVec S16 32) a x).toNat < S640.size a := fun i v33 k0_hw1 k0_h1 => k0_hw1.1 k0_h1
theorem k0_idx2_inb : ∀ (i : grid0.Coords) (v33 : IVec S16 32) (k0_hw1 : k0_chk1 i v33), ∀ (k0_h1 : k0_cond1 i = 1#1), ∀ a x, ((![v33] : Fin 1 → IVec S16 32) a x).toNat < S640.size a := fun i v33 k0_hw1 k0_h1 => k0_hw1.2.1 k0_h1
theorem k0_idx3_inb : ∀ (i : grid0.Coords) (v33 : IVec S16 32) (k0_hw1 : k0_chk1 i v33), ∀ (k0_h1 : k0_cond1 i = 1#1), ∀ a x, ((![v33] : Fin 1 → IVec S16 32) a x).toNat < S640.size a := fun i v33 k0_hw1 k0_h1 => k0_hw1.2.2.1 k0_h1
theorem k0_idx4_inb : ∀ (i : grid0.Coords) (v33 : IVec S16 32) (k0_hw1 : k0_chk1 i v33), ∀ (k0_h1 : k0_cond1 i = 1#1), ∀ a x, ((![v33] : Fin 1 → IVec S16 32) a x).toNat < S640.size a := fun i v33 k0_hw1 k0_h1 => k0_hw1.2.2.2.1 k0_h1
theorem k0_idx5_inb : ∀ (i : grid0.Coords) (v33 : IVec S16 32) (k0_hw1 : k0_chk1 i v33), ∀ (k0_h1 : k0_cond1 i = 1#1), ∀ a x, ((![v33] : Fin 1 → IVec S16 32) a x).toNat < S640.size a := fun i v33 k0_hw1 k0_h1 => k0_hw1.2.2.2.2.1 k0_h1
theorem k0_idx6_inb : ∀ (i : grid0.Coords) (v33 : IVec S16 32) (k0_hw1 : k0_chk1 i v33), ∀ (k0_h1 : k0_cond1 i = 1#1), ∀ a x, ((![v33] : Fin 1 → IVec S16 32) a x).toNat < S640.size a := fun i v33 k0_hw1 k0_h1 => k0_hw1.2.2.2.2.2 k0_h1
def k0_off5 (k0_t1 : Fin k0_t1_loop.trips) : Fin 1 → Nat :=
  let c0_i32_2 : BitVec 32 := 0#32
  let c1_i32 : BitVec 32 := 1#32
  let arg40 : BitVec 32 := Scf.iv c0_i32_2 c1_i32 k0_t1
  let c16_i32_26 : BitVec 32 := 16#32
  let v58 : BitVec 32 := Scalar.muli arg40 c16_i32_26
  let v59 : Index := Scalar.indexCast v58
  ![v59.toNat]

def k0_chk2 (i : grid0.Coords) (v36 : IVec S16 32) : Prop :=
  (∀ (k0_h1 : k0_cond1 i = 1#1), ∀ a x, ((![v36] : Fin 1 → IVec S16 32) a x).toNat < S640.size a) ∧
  (∀ (k0_h1 : k0_cond1 i = 1#1), ∀ a x, ((![v36] : Fin 1 → IVec S16 32) a x).toNat < S640.size a) ∧
  (∀ (k0_h1 : k0_cond1 i = 1#1), ∀ a x, ((![v36] : Fin 1 → IVec S16 32) a x).toNat < S640.size a) ∧
  (∀ (k0_h1 : k0_cond1 i = 1#1), ∀ a x, ((![v36] : Fin 1 → IVec S16 32) a x).toNat < S640.size a) ∧
  (∀ (k0_h1 : k0_cond1 i = 1#1), ∀ a x, ((![v36] : Fin 1 → IVec S16 32) a x).toNat < S640.size a) ∧
  (∀ (k0_h1 : k0_cond1 i = 1#1), ∀ a x, ((![v36] : Fin 1 → IVec S16 32) a x).toNat < S640.size a)
theorem k0_idx7_inb : ∀ (i : grid0.Coords) (v36 : IVec S16 32) (k0_hw2 : k0_chk2 i v36), ∀ (k0_h1 : k0_cond1 i = 1#1), ∀ a x, ((![v36] : Fin 1 → IVec S16 32) a x).toNat < S640.size a := fun i v36 k0_hw2 k0_h1 => k0_hw2.1 k0_h1
theorem k0_idx8_inb : ∀ (i : grid0.Coords) (v36 : IVec S16 32) (k0_hw2 : k0_chk2 i v36), ∀ (k0_h1 : k0_cond1 i = 1#1), ∀ a x, ((![v36] : Fin 1 → IVec S16 32) a x).toNat < S640.size a := fun i v36 k0_hw2 k0_h1 => k0_hw2.2.1 k0_h1
theorem k0_idx9_inb : ∀ (i : grid0.Coords) (v36 : IVec S16 32) (k0_hw2 : k0_chk2 i v36), ∀ (k0_h1 : k0_cond1 i = 1#1), ∀ a x, ((![v36] : Fin 1 → IVec S16 32) a x).toNat < S640.size a := fun i v36 k0_hw2 k0_h1 => k0_hw2.2.2.1 k0_h1
theorem k0_idx10_inb : ∀ (i : grid0.Coords) (v36 : IVec S16 32) (k0_hw2 : k0_chk2 i v36), ∀ (k0_h1 : k0_cond1 i = 1#1), ∀ a x, ((![v36] : Fin 1 → IVec S16 32) a x).toNat < S640.size a := fun i v36 k0_hw2 k0_h1 => k0_hw2.2.2.2.1 k0_h1
theorem k0_idx11_inb : ∀ (i : grid0.Coords) (v36 : IVec S16 32) (k0_hw2 : k0_chk2 i v36), ∀ (k0_h1 : k0_cond1 i = 1#1), ∀ a x, ((![v36] : Fin 1 → IVec S16 32) a x).toNat < S640.size a := fun i v36 k0_hw2 k0_h1 => k0_hw2.2.2.2.2.1 k0_h1
theorem k0_idx12_inb : ∀ (i : grid0.Coords) (v36 : IVec S16 32) (k0_hw2 : k0_chk2 i v36), ∀ (k0_h1 : k0_cond1 i = 1#1), ∀ a x, ((![v36] : Fin 1 → IVec S16 32) a x).toNat < S640.size a := fun i v36 k0_hw2 k0_h1 => k0_hw2.2.2.2.2.2 k0_h1
@[reducible] def k0_t2_loop : Scf.Loop 32 :=
  let c0_i32_5 : BitVec 32 := 0#32
  let c40_i32 : BitVec 32 := 40#32
  let v9 : BitVec 32 := Scalar.addi c0_i32_5 c40_i32
  let c1_i32_6 : BitVec 32 := 1#32
  ⟨c0_i32_5, v9, c1_i32_6⟩
def k0_off6 (k0_t2 : Fin k0_t2_loop.trips) : Fin 1 → Nat :=
  let c0_i32_5 : BitVec 32 := 0#32
  let c1_i32_6 : BitVec 32 := 1#32
  let arg40 : BitVec 32 := Scf.iv c0_i32_5 c1_i32_6 k0_t2
  let c16_i32 : BitVec 32 := 16#32
  let v17 : BitVec 32 := Scalar.muli arg40 c16_i32
  let v22 : Index := Scalar.indexCast v17
  ![v22.toNat]
@[reducible] def k0_t3_loop : Scf.Loop 32 :=
  let c0_i32_9 : BitVec 32 := 0#32
  let c40_i32_10 : BitVec 32 := 40#32
  let v11 : BitVec 32 := Scalar.addi c0_i32_9 c40_i32_10
  let c1_i32_11 : BitVec 32 := 1#32
  ⟨c0_i32_9, v11, c1_i32_11⟩
def k0_off7 (k0_t3 : Fin k0_t3_loop.trips) : Fin 1 → Nat :=
  let c0_i32_9 : BitVec 32 := 0#32
  let c1_i32_11 : BitVec 32 := 1#32
  let arg40 : BitVec 32 := Scf.iv c0_i32_9 c1_i32_11 k0_t3
  let c16_i32 : BitVec 32 := 16#32
  let v17 : BitVec 32 := Scalar.muli arg40 c16_i32
  let v23 : Index := Scalar.indexCast v17
  ![v23.toNat]
def k0_off8 (k0_t3 : Fin k0_t3_loop.trips) : Fin 1 → Nat :=
  let c0_i32_9 : BitVec 32 := 0#32
  let c1_i32_11 : BitVec 32 := 1#32
  let arg40 : BitVec 32 := Scf.iv c0_i32_9 c1_i32_11 k0_t3
  let c16_i32 : BitVec 32 := 16#32
  let v17 : BitVec 32 := Scalar.muli arg40 c16_i32
  let v25 : Index := Scalar.indexCast v17
  ![v25.toNat]

def k0_chk3 (i : grid0.Coords) (v20 : IVec S16 32) : Prop :=
  (∀ (k0_h1 : k0_cond1 i = 1#1), ∀ a x, ((![v20] : Fin 1 → IVec S16 32) a x).toNat < S640.size a) ∧
  (∀ (k0_h1 : k0_cond1 i = 1#1), ∀ a x, ((![v20] : Fin 1 → IVec S16 32) a x).toNat < S640.size a) ∧
  (∀ (k0_h1 : k0_cond1 i = 1#1), ∀ a x, ((![v20] : Fin 1 → IVec S16 32) a x).toNat < S640.size a) ∧
  (∀ (k0_h1 : k0_cond1 i = 1#1), ∀ a x, ((![v20] : Fin 1 → IVec S16 32) a x).toNat < S640.size a) ∧
  (∀ (k0_h1 : k0_cond1 i = 1#1), ∀ a x, ((![v20] : Fin 1 → IVec S16 32) a x).toNat < S640.size a) ∧
  (∀ (k0_h1 : k0_cond1 i = 1#1), ∀ a x, ((![v20] : Fin 1 → IVec S16 32) a x).toNat < S640.size a)
theorem k0_idx13_inb : ∀ (i : grid0.Coords) (v20 : IVec S16 32) (k0_hw3 : k0_chk3 i v20), ∀ (k0_h1 : k0_cond1 i = 1#1), ∀ a x, ((![v20] : Fin 1 → IVec S16 32) a x).toNat < S640.size a := fun i v20 k0_hw3 k0_h1 => k0_hw3.1 k0_h1
theorem k0_idx14_inb : ∀ (i : grid0.Coords) (v20 : IVec S16 32) (k0_hw3 : k0_chk3 i v20), ∀ (k0_h1 : k0_cond1 i = 1#1), ∀ a x, ((![v20] : Fin 1 → IVec S16 32) a x).toNat < S640.size a := fun i v20 k0_hw3 k0_h1 => k0_hw3.2.1 k0_h1
theorem k0_idx15_inb : ∀ (i : grid0.Coords) (v20 : IVec S16 32) (k0_hw3 : k0_chk3 i v20), ∀ (k0_h1 : k0_cond1 i = 1#1), ∀ a x, ((![v20] : Fin 1 → IVec S16 32) a x).toNat < S640.size a := fun i v20 k0_hw3 k0_h1 => k0_hw3.2.2.1 k0_h1
theorem k0_idx16_inb : ∀ (i : grid0.Coords) (v20 : IVec S16 32) (k0_hw3 : k0_chk3 i v20), ∀ (k0_h1 : k0_cond1 i = 1#1), ∀ a x, ((![v20] : Fin 1 → IVec S16 32) a x).toNat < S640.size a := fun i v20 k0_hw3 k0_h1 => k0_hw3.2.2.2.1 k0_h1
theorem k0_idx17_inb : ∀ (i : grid0.Coords) (v20 : IVec S16 32) (k0_hw3 : k0_chk3 i v20), ∀ (k0_h1 : k0_cond1 i = 1#1), ∀ a x, ((![v20] : Fin 1 → IVec S16 32) a x).toNat < S640.size a := fun i v20 k0_hw3 k0_h1 => k0_hw3.2.2.2.2.1 k0_h1
theorem k0_idx18_inb : ∀ (i : grid0.Coords) (v20 : IVec S16 32) (k0_hw3 : k0_chk3 i v20), ∀ (k0_h1 : k0_cond1 i = 1#1), ∀ a x, ((![v20] : Fin 1 → IVec S16 32) a x).toNat < S640.size a := fun i v20 k0_hw3 k0_h1 => k0_hw3.2.2.2.2.2 k0_h1
@[reducible] def k0_t4_loop : Scf.Loop 32 :=
  let c0_i32_14 : BitVec 32 := 0#32
  let c40_i32_15 : BitVec 32 := 40#32
  let v15 : BitVec 32 := Scalar.addi c0_i32_14 c40_i32_15
  let c1_i32_16 : BitVec 32 := 1#32
  ⟨c0_i32_14, v15, c1_i32_16⟩
def k0_off9 (k0_t4 : Fin k0_t4_loop.trips) : Fin 1 → Nat :=
  let c0_i32_14 : BitVec 32 := 0#32
  let c1_i32_16 : BitVec 32 := 1#32
  let arg40 : BitVec 32 := Scf.iv c0_i32_14 c1_i32_16 k0_t4
  let c16_i32 : BitVec 32 := 16#32
  let v17 : BitVec 32 := Scalar.muli arg40 c16_i32
  let v27 : Index := Scalar.indexCast v17
  ![v27.toNat]
def k0_off10 (k0_t4 : Fin k0_t4_loop.trips) : Fin 1 → Nat :=
  let c0_i32_14 : BitVec 32 := 0#32
  let c1_i32_16 : BitVec 32 := 1#32
  let arg40 : BitVec 32 := Scf.iv c0_i32_14 c1_i32_16 k0_t4
  let c16_i32 : BitVec 32 := 16#32
  let v17 : BitVec 32 := Scalar.muli arg40 c16_i32
  let v29 : Index := Scalar.indexCast v17
  ![v29.toNat]

def k0_chk4 (i : grid0.Coords) (v26 : IVec S16 32) : Prop :=
  (∀ (k0_h1 : k0_cond1 i = 1#1), ∀ a x, ((![v26] : Fin 1 → IVec S16 32) a x).toNat < S640.size a) ∧
  (∀ (k0_h1 : k0_cond1 i = 1#1), ∀ a x, ((![v26] : Fin 1 → IVec S16 32) a x).toNat < S640.size a) ∧
  (∀ (k0_h1 : k0_cond1 i = 1#1), ∀ a x, ((![v26] : Fin 1 → IVec S16 32) a x).toNat < S640.size a) ∧
  (∀ (k0_h1 : k0_cond1 i = 1#1), ∀ a x, ((![v26] : Fin 1 → IVec S16 32) a x).toNat < S640.size a) ∧
  (∀ (k0_h1 : k0_cond1 i = 1#1), ∀ a x, ((![v26] : Fin 1 → IVec S16 32) a x).toNat < S640.size a) ∧
  (∀ (k0_h1 : k0_cond1 i = 1#1), ∀ a x, ((![v26] : Fin 1 → IVec S16 32) a x).toNat < S640.size a)
theorem k0_idx19_inb : ∀ (i : grid0.Coords) (v26 : IVec S16 32) (k0_hw4 : k0_chk4 i v26), ∀ (k0_h1 : k0_cond1 i = 1#1), ∀ a x, ((![v26] : Fin 1 → IVec S16 32) a x).toNat < S640.size a := fun i v26 k0_hw4 k0_h1 => k0_hw4.1 k0_h1
theorem k0_idx20_inb : ∀ (i : grid0.Coords) (v26 : IVec S16 32) (k0_hw4 : k0_chk4 i v26), ∀ (k0_h1 : k0_cond1 i = 1#1), ∀ a x, ((![v26] : Fin 1 → IVec S16 32) a x).toNat < S640.size a := fun i v26 k0_hw4 k0_h1 => k0_hw4.2.1 k0_h1
theorem k0_idx21_inb : ∀ (i : grid0.Coords) (v26 : IVec S16 32) (k0_hw4 : k0_chk4 i v26), ∀ (k0_h1 : k0_cond1 i = 1#1), ∀ a x, ((![v26] : Fin 1 → IVec S16 32) a x).toNat < S640.size a := fun i v26 k0_hw4 k0_h1 => k0_hw4.2.2.1 k0_h1
theorem k0_idx22_inb : ∀ (i : grid0.Coords) (v26 : IVec S16 32) (k0_hw4 : k0_chk4 i v26), ∀ (k0_h1 : k0_cond1 i = 1#1), ∀ a x, ((![v26] : Fin 1 → IVec S16 32) a x).toNat < S640.size a := fun i v26 k0_hw4 k0_h1 => k0_hw4.2.2.2.1 k0_h1
theorem k0_idx23_inb : ∀ (i : grid0.Coords) (v26 : IVec S16 32) (k0_hw4 : k0_chk4 i v26), ∀ (k0_h1 : k0_cond1 i = 1#1), ∀ a x, ((![v26] : Fin 1 → IVec S16 32) a x).toNat < S640.size a := fun i v26 k0_hw4 k0_h1 => k0_hw4.2.2.2.2.1 k0_h1
theorem k0_idx24_inb : ∀ (i : grid0.Coords) (v26 : IVec S16 32) (k0_hw4 : k0_chk4 i v26), ∀ (k0_h1 : k0_cond1 i = 1#1), ∀ a x, ((![v26] : Fin 1 → IVec S16 32) a x).toNat < S640.size a := fun i v26 k0_hw4 k0_h1 => k0_hw4.2.2.2.2.2 k0_h1
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18_r7 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x9216 : Shape := ⟨2, ![4, 9216]⟩
abbrev S4x1 : Shape := ⟨2, ![4, 1]⟩
abbrev S_ : Shape := ⟨0, ![]⟩
abbrev S4 : Shape := ⟨1, ![4]⟩
abbrev S4x640 : Shape := ⟨2, ![4, 640]⟩
abbrev S640 : Shape := ⟨1, ![640]⟩
abbrev S1x640 : Shape := ⟨2, ![1, 640]⟩
abbrev S4x640x1 : Shape := ⟨3, ![4, 640, 1]⟩
abbrev S1 : Shape := ⟨1, ![1]⟩
abbrev S1x1x1 : Shape := ⟨3, ![1, 1, 1]⟩

abbrev nBuf : Space → Nat
  | .hbm => 191
  | .vmem => 0
  | .smem => 0
  | _ => 0

abbrev hbmTy0_0 (i : Nat) : BufTy := match i % 128 with
  | 0 => ⟨S4x9216, .f32⟩
  | 1 => ⟨S4x9216, .i32⟩
  | 2 => ⟨S4x9216, .f32⟩
  | 3 => ⟨S4x9216, .f32⟩
  | 4 => ⟨S4x9216, .f32⟩
  | 5 => ⟨S4x9216, .f32⟩
  | 6 => ⟨S4x1, .i32⟩
  | 7 => ⟨S4x9216, .i32⟩
  | 8 => ⟨S4x9216, .i1⟩
  | 9 => ⟨S4x9216, .i32⟩
  | 10 => ⟨S4x9216, .i1⟩
  | 11 => ⟨S4x9216, .i32⟩
  | 12 => ⟨S_, .i32⟩
  | 13 => ⟨S4, .i32⟩
  | 14 => ⟨S4x1, .i32⟩
  | 15 => ⟨S4x9216, .i32⟩
  | 16 => ⟨S_, .i32⟩
  | 17 => ⟨S4, .i32⟩
  | 18 => ⟨S4x1, .i32⟩
  | 19 => ⟨S4x1, .i32⟩
  | 20 => ⟨S_, .i32⟩
  | 21 => ⟨S4x1, .i32⟩
  | 22 => ⟨S4x1, .i32⟩
  | 23 => ⟨S4x1, .i32⟩
  | 24 => ⟨S_, .i32⟩
  | 25 => ⟨S_, .i32⟩
  | 26 => ⟨S4x9216, .i32⟩
  | 27 => ⟨S4x9216, .i32⟩
  | 28 => ⟨S4x9216, .i32⟩
  | 29 => ⟨S_, .i32⟩
  | 30 => ⟨S4x9216, .i32⟩
  | 31 => ⟨S4x9216, .i32⟩
  | 32 => ⟨S4x9216, .i32⟩
  | 33 => ⟨S4x9216, .i32⟩
  | 34 => ⟨S4x9216, .i32⟩
  | 35 => ⟨S4x640, .i32⟩
  | 36 => ⟨S640, .i32⟩
  | 37 => ⟨S1x640, .i32⟩
  | 38 => ⟨S4x640, .i32⟩
  | 39 => ⟨S4x640, .i32⟩
  | 40 => ⟨S4x640, .i1⟩
  | 41 => ⟨S_, .i32⟩
  | 42 => ⟨S4x640, .i32⟩
  | 43 => ⟨S4x640, .i1⟩
  | 44 => ⟨S_, .i32⟩
  | 45 => ⟨S4x640, .i32⟩
  | 46 => ⟨S4x640, .i32⟩
  | 47 => ⟨S4x640, .i32⟩
  | 48 => ⟨S4x640x1, .i32⟩
  | 49 => ⟨S1, .i32⟩
  | 50 => ⟨S_, .i32⟩
  | 51 => ⟨S4x640x1, .i32⟩
  | 52 => ⟨S4x640x1, .i1⟩
  | 53 => ⟨S1x1x1, .i32⟩
  | 54 => ⟨S4x640x1, .i32⟩
  | 55 => ⟨S4x640x1, .i1⟩
  | 56 => ⟨S4x640x1, .i1⟩
  | 57 => ⟨S_, .i1⟩
  | 58 => ⟨S4x640, .i1⟩
  | 59 => ⟨S4x640, .f32⟩
  | 60 => ⟨S_, .f32⟩
  | 61 => ⟨S4x640, .f32⟩
  | 62 => ⟨S4x640, .f32⟩
  | 63 => ⟨S_, .f32⟩
  | 64 => ⟨S_, .f32⟩
  | 65 => ⟨S4x640, .f32⟩
  | 66 => ⟨S4x640, .f32⟩
  | 67 => ⟨S4x640, .i32⟩
  | 68 => ⟨S4x640, .i32⟩
  | 69 => ⟨S4x640, .i1⟩
  | 70 => ⟨S_, .i32⟩
  | 71 => ⟨S1x640, .i32⟩
  | 72 => ⟨S1x640, .i32⟩
  | 73 => ⟨S4x640, .i32⟩
  | 74 => ⟨S4x640, .i32⟩
  | 75 => ⟨S4x640, .i32⟩
  | 76 => ⟨S4x640, .i32⟩
  | 77 => ⟨S4x640, .i1⟩
  | 78 => ⟨S_, .i32⟩
  | 79 => ⟨S4x640, .i32⟩
  | 80 => ⟨S4x640, .i1⟩
  | 81 => ⟨S_, .i32⟩
  | 82 => ⟨S4x640, .i32⟩
  | 83 => ⟨S4x640, .i32⟩
  | 84 => ⟨S4x640, .i32⟩
  | 85 => ⟨S4x640x1, .i32⟩
  | 86 => ⟨S1, .i32⟩
  | 87 => ⟨S_, .i32⟩
  | 88 => ⟨S4x640x1, .i32⟩
  | 89 => ⟨S4x640x1, .i1⟩
  | 90 => ⟨S1x1x1, .i32⟩
  | 91 => ⟨S4x640x1, .i32⟩
  | 92 => ⟨S4x640x1, .i1⟩
  | 93 => ⟨S4x640x1, .i1⟩
  | 94 => ⟨S_, .i1⟩
  | 95 => ⟨S4x640, .i1⟩
  | 96 => ⟨S4x640, .f32⟩
  | 97 => ⟨S_, .f32⟩
  | 98 => ⟨S4x640, .f32⟩
  | 99 => ⟨S4x640, .f32⟩
  | 100 => ⟨S_, .f32⟩
  | 101 => ⟨S_, .f32⟩
  | 102 => ⟨S4x640, .f32⟩
  | 103 => ⟨S4x640, .f32⟩
  | 104 => ⟨S4x640, .i32⟩
  | 105 => ⟨S4x640, .i32⟩
  | 106 => ⟨S4x640, .i1⟩
  | 107 => ⟨S_, .i32⟩
  | 108 => ⟨S4x640, .i32⟩
  | 109 => ⟨S4x640, .i1⟩
  | 110 => ⟨S_, .i32⟩
  | 111 => ⟨S4x640, .i32⟩
  | 112 => ⟨S4x640, .i32⟩
  | 113 => ⟨S4x640, .i32⟩
  | 114 => ⟨S4x640x1, .i32⟩
  | 115 => ⟨S1, .i32⟩
  | 116 => ⟨S_, .i32⟩
  | 117 => ⟨S4x640x1, .i32⟩
  | 118 => ⟨S4x640x1, .i1⟩
  | 119 => ⟨S1x1x1, .i32⟩
  | 120 => ⟨S4x640x1, .i32⟩
  | 121 => ⟨S4x640x1, .i1⟩
  | 122 => ⟨S4x640x1, .i1⟩
  | 123 => ⟨S_, .i1⟩
  | 124 => ⟨S4x640, .i1⟩
  | 125 => ⟨S4x640, .f32⟩
  | 126 => ⟨S_, .f32⟩
  | 127 => ⟨S4x640, .f32⟩
  | _ => ⟨S4x9216, .f32⟩

abbrev hbmTy0_1 (i : Nat) : BufTy := match i % 128 with
  | 0 => ⟨S4x640, .f32⟩
  | 1 => ⟨S_, .f32⟩
  | 2 => ⟨S_, .f32⟩
  | 3 => ⟨S4x640, .f32⟩
  | 4 => ⟨S4x640, .f32⟩
  | 5 => ⟨S4x640, .i32⟩
  | 6 => ⟨S4x640, .i32⟩
  | 7 => ⟨S4x640, .i1⟩
  | 8 => ⟨S_, .i32⟩
  | 9 => ⟨S4x640, .i32⟩
  | 10 => ⟨S4x640, .i1⟩
  | 11 => ⟨S_, .i32⟩
  | 12 => ⟨S4x640, .i32⟩
  | 13 => ⟨S4x640, .i32⟩
  | 14 => ⟨S4x640, .i32⟩
  | 15 => ⟨S4x640x1, .i32⟩
  | 16 => ⟨S1, .i32⟩
  | 17 => ⟨S_, .i32⟩
  | 18 => ⟨S4x640x1, .i32⟩
  | 19 => ⟨S4x640x1, .i1⟩
  | 20 => ⟨S1x1x1, .i32⟩
  | 21 => ⟨S4x640x1, .i32⟩
  | 22 => ⟨S4x640x1, .i1⟩
  | 23 => ⟨S4x640x1, .i1⟩
  | 24 => ⟨S_, .i1⟩
  | 25 => ⟨S4x640, .i1⟩
  | 26 => ⟨S4x640, .f32⟩
  | 27 => ⟨S_, .f32⟩
  | 28 => ⟨S4x640, .f32⟩
  | 29 => ⟨S4x640, .f32⟩
  | 30 => ⟨S_, .f32⟩
  | 31 => ⟨S_, .f32⟩
  | 32 => ⟨S4x640, .f32⟩
  | 33 => ⟨S4x640, .f32⟩
  | 34 => ⟨S4x640, .i32⟩
  | 35 => ⟨S4x640, .i32⟩
  | 36 => ⟨S4x640, .i1⟩
  | 37 => ⟨S_, .i32⟩
  | 38 => ⟨S4x640, .i32⟩
  | 39 => ⟨S4x640, .i1⟩
  | 40 => ⟨S_, .i32⟩
  | 41 => ⟨S4x640, .i32⟩
  | 42 => ⟨S4x640, .i32⟩
  | 43 => ⟨S4x640, .i32⟩
  | 44 => ⟨S4x640x1, .i32⟩
  | 45 => ⟨S1, .i32⟩
  | 46 => ⟨S_, .i32⟩
  | 47 => ⟨S4x640x1, .i32⟩
  | 48 => ⟨S4x640x1, .i1⟩
  | 49 => ⟨S1x1x1, .i32⟩
  | 50 => ⟨S4x640x1, .i32⟩
  | 51 => ⟨S4x640x1, .i1⟩
  | 52 => ⟨S4x640x1, .i1⟩
  | 53 => ⟨S_, .i1⟩
  | 54 => ⟨S4x640, .i1⟩
  | 55 => ⟨S4x640, .f32⟩
  | 56 => ⟨S_, .f32⟩
  | 57 => ⟨S4x640, .f32⟩
  | 58 => ⟨S4x640, .f32⟩
  | 59 => ⟨S_, .f32⟩
  | 60 => ⟨S_, .f32⟩
  | 61 => ⟨S4x640, .f32⟩
  | 62 => ⟨S4x640, .f32⟩
  | _ => ⟨S4x9216, .f32⟩

abbrev hbmTy (i : Nat) : BufTy := match i / 128 with
  | 0 => hbmTy0_0 i
  | 1 => hbmTy0_1 i
  | _ => ⟨S4x9216, .f32⟩

abbrev bufTy : (tb : Table) → Fin (tcTables nBuf tb) → BufTy
  | .hbm, ⟨i, _⟩ => hbmTy i
  | _, _ => ⟨S4x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_c_3 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c_4 : Ref sig .tc := ⟨.hbm, 29, rfl⟩
abbrev main_call1_v0 : Ref sig .tc := ⟨.hbm, 30, rfl⟩
abbrev main_v15 : Ref sig .tc := ⟨.hbm, 31, rfl⟩
abbrev main_call2_v0 : Ref sig .tc := ⟨.hbm, 32, rfl⟩
abbrev main_call2_v1_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call3_c : Ref sig .tc := ⟨.hbm, 41, rfl⟩
abbrev main_call3_v0 : Ref sig .tc := ⟨.hbm, 42, rfl⟩
abbrev main_call3_v1 : Ref sig .tc := ⟨.hbm, 43, rfl⟩
abbrev main_call3_c_0 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_call3_v5 : Ref sig .tc := ⟨.hbm, 48, rfl⟩
abbrev main_call3_c_1 : Ref sig .tc := ⟨.hbm, 49, rfl⟩
abbrev main_call3_c_2 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_c_3 : Ref sig .tc := ⟨.hbm, 57, rfl⟩
abbrev main_call3_v12 : Ref sig .tc := ⟨.hbm, 58, rfl⟩
abbrev main_call3_v13 : Ref sig .tc := ⟨.hbm, 59, rfl⟩
abbrev main_call3_cst : Ref sig .tc := ⟨.hbm, 60, rfl⟩
abbrev main_call3_v14 : Ref sig .tc := ⟨.hbm, 61, rfl⟩
abbrev main_v23 : Ref sig .tc := ⟨.hbm, 62, rfl⟩
abbrev main_cst : Ref sig .tc := ⟨.hbm, 63, rfl⟩
abbrev main_call4_v0 : Ref sig .tc := ⟨.hbm, 64, rfl⟩
abbrev main_call4_v1 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c_5 : Ref sig .tc := ⟨.hbm, 70, rfl⟩
abbrev main_v28 : Ref sig .tc := ⟨.hbm, 71, rfl⟩
abbrev main_v29 : Ref sig .tc := ⟨.hbm, 72, rfl⟩
abbrev main_call5_v0 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_call6_c : Ref sig .tc := ⟨.hbm, 78, rfl⟩
abbrev main_call6_v0 : Ref sig .tc := ⟨.hbm, 79, rfl⟩
abbrev main_call6_v1 : Ref sig .tc := ⟨.hbm, 80, rfl⟩
abbrev main_call6_c_0 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_call6_v5 : Ref sig .tc := ⟨.hbm, 85, rfl⟩
abbrev main_call6_c_1 : Ref sig .tc := ⟨.hbm, 86, rfl⟩
abbrev main_call6_c_2 : Ref sig .tc := ⟨.hbm, 87, rfl⟩
abbrev main_call6_v6 : Ref sig .tc := ⟨.hbm, 88, rfl⟩
abbrev main_call6_v7 : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_v11 : Ref sig .tc := ⟨.hbm, 93, rfl⟩
abbrev main_call6_c_3 : Ref sig .tc := ⟨.hbm, 94, rfl⟩
abbrev main_call6_v12 : Ref sig .tc := ⟨.hbm, 95, rfl⟩
abbrev main_call6_v13 : Ref sig .tc := ⟨.hbm, 96, rfl⟩
abbrev main_call6_cst : Ref sig .tc := ⟨.hbm, 97, rfl⟩
abbrev main_call6_v14 : Ref sig .tc := ⟨.hbm, 98, rfl⟩
abbrev main_v34 : Ref sig .tc := ⟨.hbm, 99, rfl⟩
abbrev main_cst_6 : Ref sig .tc := ⟨.hbm, 100, rfl⟩
abbrev main_call7_v0 : Ref sig .tc := ⟨.hbm, 101, rfl⟩
abbrev main_call7_v1 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_call8_c : Ref sig .tc := ⟨.hbm, 107, rfl⟩
abbrev main_call8_v0 : Ref sig .tc := ⟨.hbm, 108, rfl⟩
abbrev main_call8_v1 : Ref sig .tc := ⟨.hbm, 109, rfl⟩
abbrev main_call8_c_0 : Ref sig .tc := ⟨.hbm, 110, rfl⟩
abbrev main_call8_v2 : Ref sig .tc := ⟨.hbm, 111, rfl⟩
abbrev main_call8_v3 : Ref sig .tc := ⟨.hbm, 112, rfl⟩
abbrev main_call8_v4 : Ref sig .tc := ⟨.hbm, 113, rfl⟩
abbrev main_call8_v5 : Ref sig .tc := ⟨.hbm, 114, rfl⟩
abbrev main_call8_c_1 : Ref sig .tc := ⟨.hbm, 115, rfl⟩
abbrev main_call8_c_2 : Ref sig .tc := ⟨.hbm, 116, rfl⟩
abbrev main_call8_v6 : Ref sig .tc := ⟨.hbm, 117, rfl⟩
abbrev main_call8_v7 : Ref sig .tc := ⟨.hbm, 118, rfl⟩
abbrev main_call8_v8 : Ref sig .tc := ⟨.hbm, 119, rfl⟩
abbrev main_call8_v9 : Ref sig .tc := ⟨.hbm, 120, rfl⟩
abbrev main_call8_v10 : Ref sig .tc := ⟨.hbm, 121, rfl⟩
abbrev main_call8_v11 : Ref sig .tc := ⟨.hbm, 122, rfl⟩
abbrev main_call8_c_3 : Ref sig .tc := ⟨.hbm, 123, rfl⟩
abbrev main_call8_v12 : Ref sig .tc := ⟨.hbm, 124, rfl⟩
abbrev main_call8_v13 : Ref sig .tc := ⟨.hbm, 125, rfl⟩
abbrev main_call8_cst : Ref sig .tc := ⟨.hbm, 126, rfl⟩
abbrev main_call8_v14 : Ref sig .tc := ⟨.hbm, 127, rfl⟩
abbrev main_v39 : Ref sig .tc := ⟨.hbm, 128, rfl⟩
abbrev main_cst_7 : Ref sig .tc := ⟨.hbm, 129, rfl⟩
abbrev main_call9_v0 : Ref sig .tc := ⟨.hbm, 130, rfl⟩
abbrev main_call9_v1 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_call10_c : Ref sig .tc := ⟨.hbm, 136, rfl⟩
abbrev main_call10_v0 : Ref sig .tc := ⟨.hbm, 137, rfl⟩
abbrev main_call10_v1 : Ref sig .tc := ⟨.hbm, 138, rfl⟩
abbrev main_call10_c_0 : Ref sig .tc := ⟨.hbm, 139, rfl⟩
abbrev main_call10_v2 : Ref sig .tc := ⟨.hbm, 140, rfl⟩
abbrev main_call10_v3 : Ref sig .tc := ⟨.hbm, 141, rfl⟩
abbrev main_call10_v4 : Ref sig .tc := ⟨.hbm, 142, rfl⟩
abbrev main_call10_v5 : Ref sig .tc := ⟨.hbm, 143, rfl⟩
abbrev main_call10_c_1 : Ref sig .tc := ⟨.hbm, 144, rfl⟩
abbrev main_call10_c_2 : Ref sig .tc := ⟨.hbm, 145, rfl⟩
abbrev main_call10_v6 : Ref sig .tc := ⟨.hbm, 146, rfl⟩
abbrev main_call10_v7 : Ref sig .tc := ⟨.hbm, 147, rfl⟩
abbrev main_call10_v8 : Ref sig .tc := ⟨.hbm, 148, rfl⟩
abbrev main_call10_v9 : Ref sig .tc := ⟨.hbm, 149, rfl⟩
abbrev main_call10_v10 : Ref sig .tc := ⟨.hbm, 150, rfl⟩
abbrev main_call10_v11 : Ref sig .tc := ⟨.hbm, 151, rfl⟩
abbrev main_call10_c_3 : Ref sig .tc := ⟨.hbm, 152, rfl⟩
abbrev main_call10_v12 : Ref sig .tc := ⟨.hbm, 153, rfl⟩
abbrev main_call10_v13 : Ref sig .tc := ⟨.hbm, 154, rfl⟩
abbrev main_call10_cst : Ref sig .tc := ⟨.hbm, 155, rfl⟩
abbrev main_call10_v14 : Ref sig .tc := ⟨.hbm, 156, rfl⟩
abbrev main_v44 : Ref sig .tc := ⟨.hbm, 157, rfl⟩
abbrev main_cst_8 : Ref sig .tc := ⟨.hbm, 158, rfl⟩
abbrev main_call11_v0 : Ref sig .tc := ⟨.hbm, 159, rfl⟩
abbrev main_call11_v1 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_call12_c : Ref sig .tc := ⟨.hbm, 165, rfl⟩
abbrev main_call12_v0 : Ref sig .tc := ⟨.hbm, 166, rfl⟩
abbrev main_call12_v1 : Ref sig .tc := ⟨.hbm, 167, rfl⟩
abbrev main_call12_c_0 : Ref sig .tc := ⟨.hbm, 168, rfl⟩
abbrev main_call12_v2 : Ref sig .tc := ⟨.hbm, 169, rfl⟩
abbrev main_call12_v3 : Ref sig .tc := ⟨.hbm, 170, rfl⟩
abbrev main_call12_v4 : Ref sig .tc := ⟨.hbm, 171, rfl⟩
abbrev main_call12_v5 : Ref sig .tc := ⟨.hbm, 172, rfl⟩
abbrev main_call12_c_1 : Ref sig .tc := ⟨.hbm, 173, rfl⟩
abbrev main_call12_c_2 : Ref sig .tc := ⟨.hbm, 174, rfl⟩
abbrev main_call12_v6 : Ref sig .tc := ⟨.hbm, 175, rfl⟩
abbrev main_call12_v7 : Ref sig .tc := ⟨.hbm, 176, rfl⟩
abbrev main_call12_v8 : Ref sig .tc := ⟨.hbm, 177, rfl⟩
abbrev main_call12_v9 : Ref sig .tc := ⟨.hbm, 178, rfl⟩
abbrev main_call12_v10 : Ref sig .tc := ⟨.hbm, 179, rfl⟩
abbrev main_call12_v11 : Ref sig .tc := ⟨.hbm, 180, rfl⟩
abbrev main_call12_c_3 : Ref sig .tc := ⟨.hbm, 181, rfl⟩
abbrev main_call12_v12 : Ref sig .tc := ⟨.hbm, 182, rfl⟩
abbrev main_call12_v13 : Ref sig .tc := ⟨.hbm, 183, rfl⟩
abbrev main_call12_cst : Ref sig .tc := ⟨.hbm, 184, rfl⟩
abbrev main_call12_v14 : Ref sig .tc := ⟨.hbm, 185, rfl⟩
abbrev main_v49 : Ref sig .tc := ⟨.hbm, 186, rfl⟩
abbrev main_cst_9 : Ref sig .tc := ⟨.hbm, 187, rfl⟩
abbrev main_call13_v0 : Ref sig .tc := ⟨.hbm, 188, rfl⟩
abbrev main_call13_v1 : Ref sig .tc := ⟨.hbm, 189, rfl⟩
abbrev main_v50 : Ref sig .tc := ⟨.hbm, 190, rfl⟩

abbrev nD : Nat := 1
abbrev τ : Topo := Topo.v7x

variable {F : FTy → Type} [FloatOps F]
-- ==== Suppress.lean ====
abbrev S4x640 : Shape := ⟨2, ![4, 640]⟩
abbrev S4x640x1 : Shape := ⟨3, ![4, 640, 1]⟩
abbrev S4x640x4 : Shape := ⟨3, ![4, 640, 4]⟩
abbrev S4x4x640 : Shape := ⟨3, ![4, 4, 640]⟩
abbrev S4x1x640 : Shape := ⟨3, ![4, 1, 640]⟩
abbrev S4x104x4 : Shape := ⟨3, ![4, 104, 4]⟩
abbrev S1x1x640 : Shape := ⟨3, ![1, 1, 640]⟩
abbrev S1x640x1 : Shape := ⟨3, ![1, 640, 1]⟩
abbrev S1x640x4 : Shape := ⟨3, ![1, 640, 4]⟩
abbrev S1x4x640 : Shape := ⟨3, ![1, 4, 640]⟩
abbrev S4x640x640 : Shape := ⟨3, ![4, 640, 640]⟩
abbrev S1x640 : Shape := ⟨2, ![1, 640]⟩
abbrev S640x1 : Shape := ⟨2, ![640, 1]⟩
abbrev S640x4 : Shape := ⟨2, ![640, 4]⟩
abbrev S640x640 : Shape := ⟨2, ![640, 640]⟩
abbrev S640 : Shape := ⟨1, ![640]⟩
abbrev S1x640x640 : Shape := ⟨3, ![1, 640, 640]⟩
abbrev S4 : Shape := ⟨1, ![4]⟩
abbrev S4x1 : Shape := ⟨2, ![4, 1]⟩
abbrev S104x1 : Shape := ⟨2, ![104, 1]⟩
abbrev S104x640 : Shape := ⟨2, ![104, 640]⟩
abbrev S104x4 : Shape := ⟨2, ![104, 4]⟩
abbrev S1x104x4 : Shape := ⟨3, ![1, 104, 4]⟩
abbrev S4x100x4 : Shape := ⟨3, ![4, 100, 4]⟩

abbrev nBuf : Space → Nat
  | .hbm => 18
  | .vmem => 15
  | .smem => 0
  | _ => 0

abbrev bufTy : (tb : Table) → Fin (tcTables nBuf tb) → BufTy
  | .hbm, ⟨0, _⟩ => ⟨S4x640, .f32⟩
  | .hbm, ⟨1, _⟩ => ⟨S4x640, .i32⟩
  | .hbm, ⟨2, _⟩ => ⟨S4x640, .f32⟩
  | .hbm, ⟨3, _⟩ => ⟨S4x640, .f32⟩
  | .hbm, ⟨4, _⟩ => ⟨S4x640, .f32⟩
  | .hbm, ⟨5, _⟩ => ⟨S4x640, .f32⟩
  | .hbm, ⟨6, _⟩ => ⟨S4x640x1, .f32⟩
  | .hbm, ⟨7, _⟩ => ⟨S4x640x1, .f32⟩
  | .hbm, ⟨8, _⟩ => ⟨S4x640x1, .f32⟩
  | .hbm, ⟨9, _⟩ => ⟨S4x640x1, .f32⟩
  | .hbm, ⟨10, _⟩ => ⟨S4x640x4, .f32⟩
  | .hbm, ⟨11, _⟩ => ⟨S4x4x640, .f32⟩
  | .hbm, ⟨12, _⟩ => ⟨S4x1x640, .f32⟩
  | .hbm, ⟨13, _⟩ => ⟨S4x640x1, .f32⟩
  | .hbm, ⟨14, _⟩ => ⟨S4x1x640, .i32⟩
  | .hbm, ⟨15, _⟩ => ⟨S4x640x1, .i32⟩
  | .hbm, ⟨16, _⟩ => ⟨S4x104x4, .f32⟩
  | .hbm, ⟨17, _⟩ => ⟨S4x100x4, .f32⟩
  | .local _ .vmem, ⟨0, _⟩ => ⟨S1x1x640, .f32⟩
  | .local _ .vmem, ⟨1, _⟩ => ⟨S1x1x640, .f32⟩
  | .local _ .vmem, ⟨2, _⟩ => ⟨S1x640x1, .f32⟩
  | .local _ .vmem, ⟨3, _⟩ => ⟨S1x640x1, .f32⟩
  | .local _ .vmem, ⟨4, _⟩ => ⟨S1x1x640, .i32⟩
  | .local _ .vmem, ⟨5, _⟩ => ⟨S1x1x640, .i32⟩
  | .local _ .vmem, ⟨6, _⟩ => ⟨S1x640x1, .i32⟩
  | .local _ .vmem, ⟨7, _⟩ => ⟨S1x640x1, .i32⟩
  | .local _ .vmem, ⟨8, _⟩ => ⟨S1x640x4, .f32⟩
  | .local _ .vmem, ⟨9, _⟩ => ⟨S1x640x4, .f32⟩
  | .local _ .vmem, ⟨10, _⟩ => ⟨S1x4x640, .f32⟩
  | .local _ .vmem, ⟨11, _⟩ => ⟨S1x4x640, .f32⟩
  | .local _ .vmem, ⟨12, _⟩ => ⟨S4x104x4, .f32⟩
  | .local _ .vmem, ⟨13, _⟩ => ⟨S4x640x640, .f32⟩
  | .local _ .vmem, ⟨14, _⟩ => ⟨S4x640x4, .f32⟩
  | _, _ => ⟨S4x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let arg0 : BitVec 32 := BitVec.ofNat 32 (i 0).val
  let v108 : Index := Scalar.indexCast arg0
  let c0_27 : Index := 0#32
  let c0_28 : Index := 0#32
  ![v108.toNat, 0, 0]
def k0_off2 (i : grid0.Coords) : Fin 3 → Nat :=
  let arg0 : BitVec 32 := BitVec.ofNat 32 (i 0).val
  let v112 : Index := Scalar.indexCast arg0
  let c0_29 : Index := 0#32
  let c0_30 : Index := 0#32
  ![v112.toNat, 0, 0]
def k0_cond1 (i : grid0.Coords) : BitVec 1 :=
  let arg0 : BitVec 32 := BitVec.ofNat 32 (i 0).val
  let c3_i32 : BitVec 32 := 3#32
  let v116 : BitVec 1 := Scalar.cmpi .eq arg0 c3_i32
  let v117 : BitVec 32 := Scalar.extui v116
  let c0_i32 : BitVec 32 := 0#32
  let v118 : BitVec 1 := Scalar.cmpi .ne v117 c0_i32
  v118

@[reducible] def k0_t1_loop : Scf.Loop 32 :=
  let c0_i32_31 : BitVec 32 := 0#32
  let c600_i32_32 : BitVec 32 := 600#32
  let v126 : BitVec 32 := Scalar.addi c0_i32_31 c600_i32_32
  let c1_i32 : BitVec 32 := 1#32
  ⟨c0_i32_31, v126, c1_i32⟩
def k0_off3 (k0_t1 : Fin k0_t1_loop.trips) : Fin 3 → Nat :=
  let c0_65 : Index := 0#32
  let c0_i32_31 : BitVec 32 := 0#32
  let c1_i32 : BitVec 32 := 1#32
  let arg10 : BitVec 32 := Scf.iv c0_i32_31 c1_i32 k0_t1
  let v213 : Index := Scalar.indexCast arg10
  let c0_66 : Index := 0#32
  ![0, v213.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x640 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x640x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x640x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x104x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Greedy.lean ====
abbrev S4x640 : Shape := ⟨2, ![4, 640]⟩
abbrev S_ : Shape := ⟨0, ![]⟩
abbrev S4x640x1 : Shape := ⟨3, ![4, 640, 1]⟩
abbrev S4x600 : Shape := ⟨2, ![4, 600]⟩
abbrev S4x600x1 : Shape := ⟨3, ![4, 600, 1]⟩
abbrev S4x1x600 : Shape := ⟨3, ![4, 1, 600]⟩
abbrev S4x600x600 : Shape := ⟨3, ![4, 600, 600]⟩
abbrev S4x1 : Shape := ⟨2, ![4, 1]⟩
abbrev S600 : Shape := ⟨1, ![600]⟩
abbrev S1x600 : Shape := ⟨2, ![1, 600]⟩
abbrev S4x100 : Shape := ⟨2, ![4, 100]⟩
abbrev S4x100x1 : Shape := ⟨3, ![4, 100, 1]⟩
abbrev S4x100x4 : Shape := ⟨3, ![4, 100, 4]⟩

abbrev nBuf : Space → Nat
  | .hbm => 232
  | .vmem => 0
  | .smem => 0
  | _ => 0

abbrev hbmTy0_0 (i : Nat) : BufTy := match i % 128 with
  | 0 => ⟨S4x640, .f32⟩
  | 1 => ⟨S4x640, .i32⟩
  | 2 => ⟨S4x640, .f32⟩
  | 3 => ⟨S4x640, .f32⟩
  | 4 => ⟨S4x640, .f32⟩
  | 5 => ⟨S4x640, .f32⟩
  | 6 => ⟨S4x640, .i32⟩
  | 7 => ⟨S4x640, .i32⟩
  | 8 => ⟨S4x640, .i32⟩
  | 9 => ⟨S_, .i32⟩
  | 10 => ⟨S4x640, .i32⟩
  | 11 => ⟨S4x640, .i1⟩
  | 12 => ⟨S_, .i32⟩
  | 13 => ⟨S4x640, .i32⟩
  | 14 => ⟨S4x640, .i32⟩
  | 15 => ⟨S4x640, .i32⟩
  | 16 => ⟨S4x640x1, .i32⟩
  | 17 => ⟨S4x640, .f32⟩
  | 18 => ⟨S4x640, .f32⟩
  | 19 => ⟨S4x640, .i32⟩
  | 20 => ⟨S4x640, .f32⟩
  | 21 => ⟨S4x640, .i32⟩
  | 22 => ⟨S_, .i32⟩
  | 23 => ⟨S4x640, .i32⟩
  | 24 => ⟨S4x640, .i1⟩
  | 25 => ⟨S_, .i32⟩
  | 26 => ⟨S4x640, .i32⟩
  | 27 => ⟨S4x640, .i32⟩
  | 28 => ⟨S4x640, .i32⟩
  | 29 => ⟨S4x640x1, .i32⟩
  | 30 => ⟨S4x640, .i32⟩
  | 31 => ⟨S4x600, .i32⟩
  | 32 => ⟨S_, .i32⟩
  | 33 => ⟨S4x600, .i32⟩
  | 34 => ⟨S4x600, .i1⟩
  | 35 => ⟨S_, .i32⟩
  | 36 => ⟨S4x600, .i32⟩
  | 37 => ⟨S4x600, .i32⟩
  | 38 => ⟨S4x600, .i32⟩
  | 39 => ⟨S4x600x1, .i32⟩
  | 40 => ⟨S4x600, .f32⟩
  | 41 => ⟨S_, .i32⟩
  | 42 => ⟨S4x600, .i32⟩
  | 43 => ⟨S4x600, .i1⟩
  | 44 => ⟨S_, .i32⟩
  | 45 => ⟨S4x600, .i32⟩
  | 46 => ⟨S4x600, .i32⟩
  | 47 => ⟨S4x600, .i32⟩
  | 48 => ⟨S4x600x1, .i32⟩
  | 49 => ⟨S4x600, .f32⟩
  | 50 => ⟨S_, .i32⟩
  | 51 => ⟨S4x600, .i32⟩
  | 52 => ⟨S4x600, .i1⟩
  | 53 => ⟨S_, .i32⟩
  | 54 => ⟨S4x600, .i32⟩
  | 55 => ⟨S4x600, .i32⟩
  | 56 => ⟨S4x600, .i32⟩
  | 57 => ⟨S4x600x1, .i32⟩
  | 58 => ⟨S4x600, .f32⟩
  | 59 => ⟨S_, .i32⟩
  | 60 => ⟨S4x600, .i32⟩
  | 61 => ⟨S4x600, .i1⟩
  | 62 => ⟨S_, .i32⟩
  | 63 => ⟨S4x600, .i32⟩
  | 64 => ⟨S4x600, .i32⟩
  | 65 => ⟨S4x600, .i32⟩
  | 66 => ⟨S4x600x1, .i32⟩
  | 67 => ⟨S4x600, .f32⟩
  | 68 => ⟨S4x600, .f32⟩
  | 69 => ⟨S4x600, .f32⟩
  | 70 => ⟨S4x600, .f32⟩
  | 71 => ⟨S4x600x1, .f32⟩
  | 72 => ⟨S4x1x600, .f32⟩
  | 73 => ⟨S4x600x600, .f32⟩
  | 74 => ⟨S4x600x600, .f32⟩
  | 75 => ⟨S4x600x600, .f32⟩
  | 76 => ⟨S4x600x1, .f32⟩
  | 77 => ⟨S4x1x600, .f32⟩
  | 78 => ⟨S4x600x600, .f32⟩
  | 79 => ⟨S4x600x600, .f32⟩
  | 80 => ⟨S4x600x600, .f32⟩
  | 81 => ⟨S4x600x600, .f32⟩
  | 82 => ⟨S4x600x1, .f32⟩
  | 83 => ⟨S4x1x600, .f32⟩
  | 84 => ⟨S4x600x600, .f32⟩
  | 85 => ⟨S4x600x600, .f32⟩
  | 86 => ⟨S4x600x600, .f32⟩
  | 87 => ⟨S4x600x1, .f32⟩
  | 88 => ⟨S4x1x600, .f32⟩
  | 89 => ⟨S4x600x600, .f32⟩
  | 90 => ⟨S4x600x600, .f32⟩
  | 91 => ⟨S4x600x600, .f32⟩
  | 92 => ⟨S4x600x600, .f32⟩
  | 93 => ⟨S_, .f32⟩
  | 94 => ⟨S4x600x600, .f32⟩
  | 95 => ⟨S4x600x600, .f32⟩
  | 96 => ⟨S_, .f32⟩
  | 97 => ⟨S4x600x600, .f32⟩
  | 98 => ⟨S4x600x600, .f32⟩
  | 99 => ⟨S4x600x600, .f32⟩
  | 100 => ⟨S4x600x1, .f32⟩
  | 101 => ⟨S4x1x600, .f32⟩
  | 102 => ⟨S4x600x600, .f32⟩
  | 103 => ⟨S4x600x600, .f32⟩
  | 104 => ⟨S4x600x600, .f32⟩
  | 105 => ⟨S4x600x600, .f32⟩
  | 106 => ⟨S_, .f32⟩
  | 107 => ⟨S4x600x600, .f32⟩
  | 108 => ⟨S4x600x600, .i1⟩
  | 109 => ⟨S_, .f32⟩
  | 110 => ⟨S4x600x600, .f32⟩
  | 111 => ⟨S4x600x600, .i1⟩
  | 112 => ⟨S_, .f32⟩
  | 113 => ⟨S_, .f32⟩
  | 114 => ⟨S4x600x600, .f32⟩
  | 115 => ⟨S4x600x600, .f32⟩
  | 116 => ⟨S4x600x600, .f32⟩
  | 117 => ⟨S_, .f32⟩
  | 118 => ⟨S_, .f32⟩
  | 119 => ⟨S4x600x600, .f32⟩
  | 120 => ⟨S4x600x600, .f32⟩
  | 121 => ⟨S_, .f32⟩
  | 122 => ⟨S4x600x600, .f32⟩
  | 123 => ⟨S4x600x600, .i1⟩
  | 124 => ⟨S_, .i1⟩
  | 125 => ⟨S4x600, .i1⟩
  | 126 => ⟨S_, .i32⟩
  | 127 => ⟨S_, .i32⟩
  | _ => ⟨S4x640, .f32⟩

abbrev hbmTy0_1 (i : Nat) : BufTy := match i % 128 with
  | 0 => ⟨S4x600, .f32⟩
  | 1 => ⟨S4x600, .f32⟩
  | 2 => ⟨S4x600, .f32⟩
  | 3 => ⟨S4x600, .f32⟩
  | 4 => ⟨S4x600x600, .i1⟩
  | 5 => ⟨S_, .i32⟩
  | 6 => ⟨S_, .i32⟩
  | 7 => ⟨S4x600, .i1⟩
  | 8 => ⟨S_, .i32⟩
  | 9 => ⟨S_, .i1⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S4x1x600, .i1⟩
  | 21 => ⟨S4x600, .i1⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S4x1, .i1⟩
  | 30 => ⟨S600, .i32⟩
  | 31 => ⟨S_, .i32⟩
  | 32 => ⟨S600, .i32⟩
  | 33 => ⟨S600, .i1⟩
  | 34 => ⟨S4x600, .i1⟩
  | 35 => ⟨S4x600, .i1⟩
  | 36 => ⟨S1x600, .i1⟩
  | 37 => ⟨S4x600, .i1⟩
  | 38 => ⟨S4x600, .i1⟩
  | 39 => ⟨S4x600, .i1⟩
  | 40 => ⟨S4x600, .i1⟩
  | 41 => ⟨S_, .i32⟩
  | 42 => ⟨S_, .i32⟩
  | 43 => ⟨S600, .i32⟩
  | 44 => ⟨S1x600, .i32⟩
  | 45 => ⟨S_, .i32⟩
  | 46 => ⟨S_, .i32⟩
  | 47 => ⟨S4x600, .i32⟩
  | 48 => ⟨S4x600, .i32⟩
  | 49 => ⟨S4x600, .i32⟩
  | 50 => ⟨S4x600, .i32⟩
  | 51 => ⟨S4x100, .i32⟩
  | 52 => ⟨S_, .i32⟩
  | 53 => ⟨S4x100, .i32⟩
  | 54 => ⟨S4x100, .i1⟩
  | 55 => ⟨S4x100, .f32⟩
  | 56 => ⟨S_, .i32⟩
  | 57 => ⟨S4x100, .i32⟩
  | 58 => ⟨S4x100, .i32⟩
  | 59 => ⟨S_, .i32⟩
  | 60 => ⟨S4x100, .i32⟩
  | 61 => ⟨S4x100, .i1⟩
  | 62 => ⟨S_, .i32⟩
  | 63 => ⟨S4x100, .i32⟩
  | 64 => ⟨S4x100, .i32⟩
  | 65 => ⟨S4x100, .i32⟩
  | 66 => ⟨S4x100x1, .i32⟩
  | 67 => ⟨S4x100, .f32⟩
  | 68 => ⟨S4x100, .f32⟩
  | 69 => ⟨S_, .i32⟩
  | 70 => ⟨S4x100, .i32⟩
  | 71 => ⟨S4x100, .i1⟩
  | 72 => ⟨S_, .i32⟩
  | 73 => ⟨S4x100, .i32⟩
  | 74 => ⟨S4x100, .i32⟩
  | 75 => ⟨S4x100, .i32⟩
  | 76 => ⟨S4x100x1, .i32⟩
  | 77 => ⟨S4x100, .f32⟩
  | 78 => ⟨S4x100, .f32⟩
  | 79 => ⟨S_, .i32⟩
  | 80 => ⟨S4x100, .i32⟩
  | 81 => ⟨S4x100, .i1⟩
  | 82 => ⟨S_, .i32⟩
  | 83 => ⟨S4x100, .i32⟩
  | 84 => ⟨S4x100, .i32⟩
  | 85 => ⟨S4x100, .i32⟩
  | 86 => ⟨S4x100x1, .i32⟩
  | 87 => ⟨S4x100, .f32⟩
  | 88 => ⟨S4x100, .f32⟩
  | 89 => ⟨S_, .i32⟩
  | 90 => ⟨S4x100, .i32⟩
  | 91 => ⟨S4x100, .i1⟩
  | 92 => ⟨S_, .i32⟩
  | 93 => ⟨S4x100, .i32⟩
  | 94 => ⟨S4x100, .i32⟩
  | 95 => ⟨S4x100, .i32⟩
  | 96 => ⟨S4x100x1, .i32⟩
  | 97 => ⟨S4x100, .f32⟩
  | 98 => ⟨S4x100, .f32⟩
  | 99 => ⟨S4x100x1, .f32⟩
  | 100 => ⟨S4x100x1, .f32⟩
  | 101 => ⟨S4x100x1, .f32⟩
  | 102 => ⟨S4x100x1, .f32⟩
  | 103 => ⟨S4x100x4, .f32⟩
  | _ => ⟨S4x640, .f32⟩

abbrev hbmTy (i : Nat) : BufTy := match i / 128 with
  | 0 => hbmTy0_0 i
  | 1 => hbmTy0_1 i
  | _ => ⟨S4x640, .f32⟩

abbrev bufTy : (tb : Table) → Fin (tcTables nBuf tb) → BufTy
  | .hbm, ⟨i, _⟩ => hbmTy i
  | _, _ => ⟨S4x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1_0 : Ref sig .tc := ⟨.hbm, 7, rfl⟩
abbrev main_v0 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_v1 : Ref sig .tc := ⟨.hbm, 17, rfl⟩
abbrev main_v2 : Ref sig .tc := ⟨.hbm, 18, rfl⟩
abbrev main_call2_v0 : Ref sig .tc := ⟨.hbm, 19, rfl⟩
abbrev main_call2_v1_0 : Ref sig .tc := ⟨.hbm, 20, rfl⟩
abbrev main_v3 : Ref sig .tc := ⟨.hbm, 21, rfl⟩
abbrev main_call3_c : Ref sig .tc := ⟨.hbm, 22, rfl⟩
abbrev main_call3_v0 : Ref sig .tc := ⟨.hbm, 23, rfl⟩
abbrev main_call3_v1 : Ref sig .tc := ⟨.hbm, 24, rfl⟩
abbrev main_call3_c_0 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_call3_v5 : Ref sig .tc := ⟨.hbm, 29, rfl⟩
abbrev main_v4 : Ref sig .tc := ⟨.hbm, 30, rfl⟩
abbrev main_v5 : Ref sig .tc := ⟨.hbm, 31, rfl⟩
abbrev main_call4_c : Ref sig .tc := ⟨.hbm, 32, rfl⟩
abbrev main_call4_v0 : Ref sig .tc := ⟨.hbm, 33, rfl⟩
abbrev main_call4_v1 : Ref sig .tc := ⟨.hbm, 34, rfl⟩
abbrev main_call4_c_0 : Ref sig .tc := ⟨.hbm, 35, rfl⟩
abbrev main_call4_v2 : Ref sig .tc := ⟨.hbm, 36, rfl⟩
abbrev main_call4_v3 : Ref sig .tc := ⟨.hbm, 37, rfl⟩
abbrev main_call4_v4 : Ref sig .tc := ⟨.hbm, 38, rfl⟩
abbrev main_call4_v5 : Ref sig .tc := ⟨.hbm, 39, rfl⟩
abbrev main_v6 : Ref sig .tc := ⟨.hbm, 40, rfl⟩
abbrev main_call5_c : Ref sig .tc := ⟨.hbm, 41, rfl⟩
abbrev main_call5_v0 : Ref sig .tc := ⟨.hbm, 42, rfl⟩
abbrev main_call5_v1 : Ref sig .tc := ⟨.hbm, 43, rfl⟩
abbrev main_call5_c_0 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_call5_v5 : Ref sig .tc := ⟨.hbm, 48, rfl⟩
abbrev main_v7 : Ref sig .tc := ⟨.hbm, 49, rfl⟩
abbrev main_call6_c : Ref sig .tc := ⟨.hbm, 50, rfl⟩
abbrev main_call6_v0 : Ref sig .tc := ⟨.hbm, 51, rfl⟩
abbrev main_call6_v1 : Ref sig .tc := ⟨.hbm, 52, rfl⟩
abbrev main_call6_c_0 : Ref sig .tc := ⟨.hbm, 53, rfl⟩
abbrev main_call6_v2 : Ref sig .tc := ⟨.hbm, 54, rfl⟩
abbrev main_call6_v3 : Ref sig .tc := ⟨.hbm, 55, rfl⟩
abbrev main_call6_v4 : Ref sig .tc := ⟨.hbm, 56, rfl⟩
abbrev main_call6_v5 : Ref sig .tc := ⟨.hbm, 57, rfl⟩
abbrev main_v8 : Ref sig .tc := ⟨.hbm, 58, rfl⟩
abbrev main_call7_c : Ref sig .tc := ⟨.hbm, 59, rfl⟩
abbrev main_call7_v0 : Ref sig .tc := ⟨.hbm, 60, rfl⟩
abbrev main_call7_v1 : Ref sig .tc := ⟨.hbm, 61, rfl⟩
abbrev main_call7_c_0 : Ref sig .tc := ⟨.hbm, 62, rfl⟩
abbrev main_call7_v2 : Ref sig .tc := ⟨.hbm, 63, rfl⟩
abbrev main_call7_v3 : Ref sig .tc := ⟨.hbm, 64, rfl⟩
abbrev main_call7_v4 : Ref sig .tc := ⟨.hbm, 65, rfl⟩
abbrev main_call7_v5 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst : Ref sig .tc := ⟨.hbm, 93, rfl⟩
abbrev main_v35 : Ref sig .tc := ⟨.hbm, 94, rfl⟩
abbrev main_v36 : Ref sig .tc := ⟨.hbm, 95, rfl⟩
abbrev main_cst_0 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_cst_1 : Ref sig .tc := ⟨.hbm, 106, rfl⟩
abbrev main_v46 : Ref sig .tc := ⟨.hbm, 107, rfl⟩
abbrev main_v47 : Ref sig .tc := ⟨.hbm, 108, rfl⟩
abbrev main_cst_2 : Ref sig .tc := ⟨.hbm, 109, rfl⟩
abbrev main_v48 : Ref sig .tc := ⟨.hbm, 110, rfl⟩
abbrev main_v49 : Ref sig .tc := ⟨.hbm, 111, rfl⟩
abbrev main_cst_3 : Ref sig .tc := ⟨.hbm, 112, rfl⟩
abbrev main_call8_v0 : Ref sig .tc := ⟨.hbm, 113, rfl⟩
abbrev main_call8_v1 : Ref sig .tc := ⟨.hbm, 114, rfl⟩
abbrev main_v50 : Ref sig .tc := ⟨.hbm, 115, rfl⟩
abbrev main_v51 : Ref sig .tc := ⟨.hbm, 116, rfl⟩
abbrev main_cst_4 : Ref sig .tc := ⟨.hbm, 117, rfl⟩
abbrev main_call9_v0 : Ref sig .tc := ⟨.hbm, 118, rfl⟩
abbrev main_call9_v1 : Ref sig .tc := ⟨.hbm, 119, rfl⟩
abbrev main_v52 : Ref sig .tc := ⟨.hbm, 120, rfl⟩
abbrev main_cst_5 : Ref sig .tc := ⟨.hbm, 121, rfl⟩
abbrev main_v53 : Ref sig .tc := ⟨.hbm, 122, rfl⟩
abbrev main_v54 : Ref sig .tc := ⟨.hbm, 123, rfl⟩
abbrev main_c : Ref sig .tc := ⟨.hbm, 124, rfl⟩
abbrev main_v55 : Ref sig .tc := ⟨.hbm, 125, rfl⟩
abbrev main_c_6 : Ref sig .tc := ⟨.hbm, 126, rfl⟩
abbrev main_c_7 : Ref sig .tc := ⟨.hbm, 127, rfl⟩
abbrev main_v56_0 : Ref sig .tc := ⟨.hbm, 128, rfl⟩
abbrev main_v56_1 : Ref sig .tc := ⟨.hbm, 129, rfl⟩
abbrev main_v56_2 : Ref sig .tc := ⟨.hbm, 130, rfl⟩
abbrev main_v56_3 : Ref sig .tc := ⟨.hbm, 131, rfl⟩
abbrev main_v56_4 : Ref sig .tc := ⟨.hbm, 132, rfl⟩
abbrev main_v56_5 : Ref sig .tc := ⟨.hbm, 133, rfl⟩
abbrev main_v56_6 : Ref sig .tc := ⟨.hbm, 134, rfl⟩
abbrev main_v56_7 : Ref sig .tc := ⟨.hbm, 135, rfl⟩
abbrev main_while0c_c_18 : Ref sig .tc := ⟨.hbm, 136, rfl⟩
abbrev main_while0c_v80 : Ref sig .tc := ⟨.hbm, 137, rfl⟩
abbrev main_while0b_c_18 : Ref sig .tc := ⟨.hbm, 138, rfl⟩
abbrev main_while0b_v80 : Ref sig .tc := ⟨.hbm, 139, rfl⟩
abbrev main_while0b_call10_c : Ref sig .tc := ⟨.hbm, 140, rfl⟩
abbrev main_while0b_call10_v0 : Ref sig .tc := ⟨.hbm, 141, rfl⟩
abbrev main_while0b_call10_v1 : Ref sig .tc := ⟨.hbm, 142, rfl⟩
abbrev main_while0b_call10_c_0 : Ref sig .tc := ⟨.hbm, 143, rfl⟩
abbrev main_while0b_call10_v2 : Ref sig .tc := ⟨.hbm, 144, rfl⟩
abbrev main_while0b_call10_v3 : Ref sig .tc := ⟨.hbm, 145, rfl⟩
abbrev main_while0b_call10_c_1 : Ref sig .tc := ⟨.hbm, 146, rfl⟩
abbrev main_while0b_call10_c_2 : Ref sig .tc := ⟨.hbm, 147, rfl⟩
abbrev main_while0b_call10_v4 : Ref sig .tc := ⟨.hbm, 148, rfl⟩
abbrev main_while0b_v81 : Ref sig .tc := ⟨.hbm, 149, rfl⟩
abbrev main_while0b_call11_c : Ref sig .tc := ⟨.hbm, 150, rfl⟩
abbrev main_while0b_call11_v0 : Ref sig .tc := ⟨.hbm, 151, rfl⟩
abbrev main_while0b_call11_v1 : Ref sig .tc := ⟨.hbm, 152, rfl⟩
abbrev main_while0b_call11_c_0 : Ref sig .tc := ⟨.hbm, 153, rfl⟩
abbrev main_while0b_call11_v2 : Ref sig .tc := ⟨.hbm, 154, rfl⟩
abbrev main_while0b_call11_v3 : Ref sig .tc := ⟨.hbm, 155, rfl⟩
abbrev main_while0b_call11_c_1 : Ref sig .tc := ⟨.hbm, 156, rfl⟩
abbrev main_while0b_v82 : Ref sig .tc := ⟨.hbm, 157, rfl⟩
abbrev main_while0b_v83 : Ref sig .tc := ⟨.hbm, 158, rfl⟩
abbrev main_while0b_v84 : Ref sig .tc := ⟨.hbm, 159, rfl⟩
abbrev main_while0b_v85 : Ref sig .tc := ⟨.hbm, 160, rfl⟩
abbrev main_while0b_v86 : Ref sig .tc := ⟨.hbm, 161, rfl⟩
abbrev main_while0b_v87 : Ref sig .tc := ⟨.hbm, 162, rfl⟩
abbrev main_while0b_v88 : Ref sig .tc := ⟨.hbm, 163, rfl⟩
abbrev main_while0b_v89 : Ref sig .tc := ⟨.hbm, 164, rfl⟩
abbrev main_while0b_v90 : Ref sig .tc := ⟨.hbm, 165, rfl⟩
abbrev main_while0b_v91 : Ref sig .tc := ⟨.hbm, 166, rfl⟩
abbrev main_while0b_v92 : Ref sig .tc := ⟨.hbm, 167, rfl⟩
abbrev main_while0b_v93 : Ref sig .tc := ⟨.hbm, 168, rfl⟩
abbrev main_while0b_c_19 : Ref sig .tc := ⟨.hbm, 169, rfl⟩
abbrev main_while0b_v94 : Ref sig .tc := ⟨.hbm, 170, rfl⟩
abbrev main_v57 : Ref sig .tc := ⟨.hbm, 171, rfl⟩
abbrev main_v58 : Ref sig .tc := ⟨.hbm, 172, rfl⟩
abbrev main_c_8 : Ref sig .tc := ⟨.hbm, 173, rfl⟩
abbrev main_call12_v0 : Ref sig .tc := ⟨.hbm, 174, rfl⟩
abbrev main_call12_v1 : Ref sig .tc := ⟨.hbm, 175, rfl⟩
abbrev main_call12_v2 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_c_9 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_c_10 : Ref sig .tc := ⟨.hbm, 184, rfl⟩
abbrev main_v65 : Ref sig .tc := ⟨.hbm, 185, rfl⟩
abbrev main_v66 : Ref sig .tc := ⟨.hbm, 186, rfl⟩
abbrev main_call14_c : Ref sig .tc := ⟨.hbm, 187, rfl⟩
abbrev main_call14_v0 : Ref sig .tc := ⟨.hbm, 188, rfl⟩
abbrev main_call14_v1 : Ref sig .tc := ⟨.hbm, 189, rfl⟩
abbrev main_call14_c_0 : Ref sig .tc := ⟨.hbm, 190, rfl⟩
abbrev main_call14_v2 : Ref sig .tc := ⟨.hbm, 191, rfl⟩
abbrev main_call14_v3 : Ref sig .tc := ⟨.hbm, 192, rfl⟩
abbrev main_call14_v4 : Ref sig .tc := ⟨.hbm, 193, rfl⟩
abbrev main_call14_v5 : Ref sig .tc := ⟨.hbm, 194, rfl⟩
abbrev main_v67 : Ref sig .tc := ⟨.hbm, 195, rfl⟩
abbrev main_v68 : Ref sig .tc := ⟨.hbm, 196, rfl⟩
abbrev main_call15_c : Ref sig .tc := ⟨.hbm, 197, rfl⟩
abbrev main_call15_v0 : Ref sig .tc := ⟨.hbm, 198, rfl⟩
abbrev main_call15_v1 : Ref sig .tc := ⟨.hbm, 199, rfl⟩
abbrev main_call15_c_0 : Ref sig .tc := ⟨.hbm, 200, rfl⟩
abbrev main_call15_v2 : Ref sig .tc := ⟨.hbm, 201, rfl⟩
abbrev main_call15_v3 : Ref sig .tc := ⟨.hbm, 202, rfl⟩
abbrev main_call15_v4 : Ref sig .tc := ⟨.hbm, 203, rfl⟩
abbrev main_call15_v5 : Ref sig .tc := ⟨.hbm, 204, rfl⟩
abbrev main_v69 : Ref sig .tc := ⟨.hbm, 205, rfl⟩
abbrev main_v70 : Ref sig .tc := ⟨.hbm, 206, rfl⟩
abbrev main_call16_c : Ref sig .tc := ⟨.hbm, 207, rfl⟩
abbrev main_call16_v0 : Ref sig .tc := ⟨.hbm, 208, rfl⟩
abbrev main_call16_v1 : Ref sig .tc := ⟨.hbm, 209, rfl⟩
abbrev main_call16_c_0 : Ref sig .tc := ⟨.hbm, 210, rfl⟩
abbrev main_call16_v2 : Ref sig .tc := ⟨.hbm, 211, rfl⟩
abbrev main_call16_v3 : Ref sig .tc := ⟨.hbm, 212, rfl⟩
abbrev main_call16_v4 : Ref sig .tc := ⟨.hbm, 213, rfl⟩
abbrev main_call16_v5 : Ref sig .tc := ⟨.hbm, 214, rfl⟩
abbrev main_v71 : Ref sig .tc := ⟨.hbm, 215, rfl⟩
abbrev main_v72 : Ref sig .tc := ⟨.hbm, 216, rfl⟩
abbrev main_call17_c : Ref sig .tc := ⟨.hbm, 217, rfl⟩
abbrev main_call17_v0 : Ref sig .tc := ⟨.hbm, 218, rfl⟩
abbrev main_call17_v1 : Ref sig .tc := ⟨.hbm, 219, rfl⟩
abbrev main_call17_c_0 : Ref sig .tc := ⟨.hbm, 220, rfl⟩
abbrev main_call17_v2 : Ref sig .tc := ⟨.hbm, 221, rfl⟩
abbrev main_call17_v3 : Ref sig .tc := ⟨.hbm, 222, rfl⟩
abbrev main_call17_v4 : Ref sig .tc := ⟨.hbm, 223, rfl⟩
abbrev main_call17_v5 : Ref sig .tc := ⟨.hbm, 224, rfl⟩
abbrev main_v73 : Ref sig .tc := ⟨.hbm, 225, rfl⟩
abbrev main_v74 : Ref sig .tc := ⟨.hbm, 226, rfl⟩
abbrev main_v75 : Ref sig .tc := ⟨.hbm, 227, rfl⟩
abbrev main_v76 : Ref sig .tc := ⟨.hbm, 228, rfl⟩
abbrev main_v77 : Ref sig .tc := ⟨.hbm, 229, rfl⟩
abbrev main_v78 : Ref sig .tc := ⟨.hbm, 230, rfl⟩
abbrev main_v79 : Ref sig .tc := ⟨.hbm, 231, rfl⟩

abbrev nD : Nat := 1
abbrev τ : Topo := Topo.v7x

variable {F : FTy → Type} [FloatOps F]

abbrev main_while0_count : Scf.Loop 32 := ⟨0#32, 600#32, 1#32⟩
-- ==== Trunk.lean ====
abbrev S4x384x32x32 : Shape := ⟨4, ![4, 384, 32, 32]⟩
abbrev S2 : Shape := ⟨1, ![2]⟩
abbrev S256x384x3x3 : Shape := ⟨4, ![256, 384, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S1x9 : Shape := ⟨2, ![1, 9]⟩
abbrev S1024x9 : Shape := ⟨2, ![1024, 9]⟩
abbrev S4x32x32x384 : Shape := ⟨4, ![4, 32, 32, 384]⟩
abbrev S4x1024x384 : Shape := ⟨3, ![4, 1024, 384]⟩
abbrev S3x3x384x256 : Shape := ⟨4, ![3, 3, 384, 256]⟩
abbrev S9x384x256 : Shape := ⟨3, ![9, 384, 256]⟩
abbrev S9x256 : Shape := ⟨2, ![9, 256]⟩
abbrev S256x9 : Shape := ⟨2, ![256, 9]⟩
abbrev S9x4x256 : Shape := ⟨3, ![9, 4, 256]⟩
abbrev S_ : Shape := ⟨0, ![]⟩
abbrev S256x7 : Shape := ⟨2, ![256, 7]⟩
abbrev S9x1x256 : Shape := ⟨3, ![9, 1, 256]⟩
abbrev S256x80 : Shape := ⟨2, ![256, 80]⟩
abbrev S9x4 : Shape := ⟨2, ![9, 4]⟩
abbrev S7 : Shape := ⟨1, ![7]⟩
abbrev S9x1 : Shape := ⟨2, ![9, 1]⟩
abbrev S80 : Shape := ⟨1, ![80]⟩
abbrev S1x80 : Shape := ⟨2, ![1, 80]⟩
abbrev S1x256 : Shape := ⟨2, ![1, 256]⟩
abbrev S4x1024x9 : Shape := ⟨3, ![4, 1024, 9]⟩
abbrev S1x1024x384 : Shape := ⟨3, ![1, 1024, 384]⟩
abbrev S1x1024x9 : Shape := ⟨3, ![1, 1024, 9]⟩
abbrev S1024x384 : Shape := ⟨2, ![1024, 384]⟩
abbrev S1024x1 : Shape := ⟨2, ![1024, 1]⟩
abbrev S1024x256 : Shape := ⟨2, ![1024, 256]⟩
abbrev S33x384 : Shape := ⟨2, ![33, 384]⟩
abbrev S991x384 : Shape := ⟨2, ![991, 384]⟩
abbrev S1x384x256 : Shape := ⟨3, ![1, 384, 256]⟩
abbrev S384x256 : Shape := ⟨2, ![384, 256]⟩
abbrev S32x384 : Shape := ⟨2, ![32, 384]⟩
abbrev S992x384 : Shape := ⟨2, ![992, 384]⟩
abbrev S31x384 : Shape := ⟨2, ![31, 384]⟩
abbrev S993x384 : Shape := ⟨2, ![993, 384]⟩
abbrev S1x384 : Shape := ⟨2, ![1, 384]⟩
abbrev S1023x384 : Shape := ⟨2, ![1023, 384]⟩
abbrev S1024x80 : Shape := ⟨2, ![1024, 80]⟩
abbrev S1 : Shape := ⟨1, ![1]⟩

abbrev nBuf : Space → Nat
  | .hbm => 53
  | .vmem => 20
  | .smem => 1
  | _ => 0

abbrev bufTy : (tb : Table) → Fin (tcTables nBuf tb) → BufTy
  | .hbm, ⟨0, _⟩ => ⟨S4x384x32x32, .f32⟩
  | .hbm, ⟨1, _⟩ => ⟨S2, .i32⟩
  | .hbm, ⟨2, _⟩ => ⟨S256x384x3x3, .f32⟩
  | .hbm, ⟨3, _⟩ => ⟨S256, .f32⟩
  | .hbm, ⟨4, _⟩ => ⟨S9x256x1x1, .f32⟩
  | .hbm, ⟨5, _⟩ => ⟨S9, .f32⟩
  | .hbm, ⟨6, _⟩ => ⟨S36x256x1x1, .f32⟩
  | .hbm, ⟨7, _⟩ => ⟨S36, .f32⟩
  | .hbm, ⟨8, _⟩ => ⟨S1x9, .f32⟩
  | .hbm, ⟨9, _⟩ => ⟨S1x9, .f32⟩
  | .hbm, ⟨10, _⟩ => ⟨S1024x9, .f32⟩
  | .hbm, ⟨11, _⟩ => ⟨S1024x9, .f32⟩
  | .hbm, ⟨12, _⟩ => ⟨S4x32x32x384, .f32⟩
  | .hbm, ⟨13, _⟩ => ⟨S4x1024x384, .f32⟩
  | .hbm, ⟨14, _⟩ => ⟨S3x3x384x256, .f32⟩
  | .hbm, ⟨15, _⟩ => ⟨S9x384x256, .f32⟩
  | .hbm, ⟨16, _⟩ => ⟨S9x256, .f32⟩
  | .hbm, ⟨17, _⟩ => ⟨S256x9, .f32⟩
  | .hbm, ⟨18, _⟩ => ⟨S9x4x256, .f32⟩
  | .hbm, ⟨19, _⟩ => ⟨S_, .f32⟩
  | .hbm, ⟨20, _⟩ => ⟨S256x7, .f32⟩
  | .hbm, ⟨21, _⟩ => ⟨S9x1x256, .f32⟩
  | .hbm, ⟨22, _⟩ => ⟨S9x256, .f32⟩
  | .hbm, ⟨23, _⟩ => ⟨S256x9, .f32⟩
  | .hbm, ⟨24, _⟩ => ⟨S9x1x256, .f32⟩
  | .hbm, ⟨25, _⟩ => ⟨S9x256, .f32⟩
  | .hbm, ⟨26, _⟩ => ⟨S256x9, .f32⟩
  | .hbm, ⟨27, _⟩ => ⟨S9x1x256, .f32⟩
  | .hbm, ⟨28, _⟩ => ⟨S9x256, .f32⟩
  | .hbm, ⟨29, _⟩ => ⟨S256x9, .f32⟩
  | .hbm, ⟨30, _⟩ => ⟨S9x1x256, .f32⟩
  | .hbm, ⟨31, _⟩ => ⟨S9x256, .f32⟩
  | .hbm, ⟨32, _⟩ => ⟨S256x9, .f32⟩
  | .hbm, ⟨33, _⟩ => ⟨S256x80, .f32⟩
  | .hbm, ⟨34, _⟩ => ⟨S9x4, .f32⟩
  | .hbm, ⟨35, _⟩ => ⟨S_, .f32⟩
  | .hbm, ⟨36, _⟩ => ⟨S7, .f32⟩
  | .hbm, ⟨37, _⟩ => ⟨S9x1, .f32⟩
  | .hbm, ⟨38, _⟩ => ⟨S9, .f32⟩
  | .hbm, ⟨39, _⟩ => ⟨S9x1, .f32⟩
  | .hbm, ⟨40, _⟩ => ⟨S9, .f32⟩
  | .hbm, ⟨41, _⟩ => ⟨S9x1, .f32⟩
  | .hbm, ⟨42, _⟩ => ⟨S9, .f32⟩
  | .hbm, ⟨43, _⟩ => ⟨S9x1, .f32⟩
  | .hbm, ⟨44, _⟩ => ⟨S9, .f32⟩
  | .hbm, ⟨45, _⟩ => ⟨S80, .f32⟩
  | .hbm, ⟨46, _⟩ => ⟨S1x80, .f32⟩
  | .hbm, ⟨47, _⟩ => ⟨S1x256, .f32⟩
  | .hbm, ⟨48, _⟩ => ⟨S4x1024x9, .f32⟩
  | .hbm, ⟨49, _⟩ => ⟨S4x1024x9, .f32⟩
  | .hbm, ⟨50, _⟩ => ⟨S4x1024x9, .f32⟩
  | .hbm, ⟨51, _⟩ => ⟨S4x1024x9, .f32⟩
  | .hbm, ⟨52, _⟩ => ⟨S4x1024x9, .f32⟩
  | .local _ .vmem, ⟨0, _⟩ => ⟨S1x1024x384, .f32⟩
  | .local _ .vmem, ⟨1, _⟩ => ⟨S1x1024x384, .f32⟩
  | .local _ .vmem, ⟨2, _⟩ => ⟨S9x384x256, .f32⟩
  | .local _ .vmem, ⟨3, _⟩ => ⟨S256x80, .f32⟩
  | .local _ .vmem, ⟨4, _⟩ => ⟨S1x256, .f32⟩
  | .local _ .vmem, ⟨5, _⟩ => ⟨S1x80, .f32⟩
  | .local _ .vmem, ⟨6, _⟩ => ⟨S1x9, .f32⟩
  | .local _ .vmem, ⟨7, _⟩ => ⟨S1x9, .f32⟩
  | .local _ .vmem, ⟨8, _⟩ => ⟨S1024x9, .f32⟩
  | .local _ .vmem, ⟨9, _⟩ => ⟨S1024x9, .f32⟩
  | .local _ .vmem, ⟨10, _⟩ => ⟨S1x1024x9, .f32⟩
  | .local _ .vmem, ⟨11, _⟩ => ⟨S1x1024x9, .f32⟩
  | .local _ .vmem, ⟨12, _⟩ => ⟨S1x1024x9, .f32⟩
  | .local _ .vmem, ⟨13, _⟩ => ⟨S1x1024x9, .f32⟩
  | .local _ .vmem, ⟨14, _⟩ => ⟨S1x1024x9, .f32⟩
  | .local _ .vmem, ⟨15, _⟩ => ⟨S1x1024x9, .f32⟩
  | .local _ .vmem, ⟨16, _⟩ => ⟨S1x1024x9, .f32⟩
  | .local _ .vmem, ⟨17, _⟩ => ⟨S1x1024x9, .f32⟩
  | .local _ .vmem, ⟨18, _⟩ => ⟨S1x1024x9, .f32⟩
  | .local _ .vmem, ⟨19, _⟩ => ⟨S1x1024x9, .f32⟩
  | .local _ .smem, ⟨0, _⟩ => ⟨S2, .i32⟩
  | _, _ => ⟨S4x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev main_v34_3 : Ref sig .tc := ⟨.hbm, 51, rfl⟩
abbrev main_v34_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S2 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x9 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x9 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x9 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x9 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x9 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x9 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Proposals.lean ====
abbrev S4x384x32x32 : Shape := ⟨4, ![4, 384, 32, 32]⟩
abbrev S2 : Shape := ⟨1, ![2]⟩
abbrev S256x384x3x3 : Shape := ⟨4, ![256, 384, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S1x9 : Shape := ⟨2, ![1, 9]⟩
abbrev S1024x9 : Shape := ⟨2, ![1024, 9]⟩
abbrev S_ : Shape := ⟨0, ![]⟩
abbrev S4x384x34x34 : Shape := ⟨4, ![4, 384, 34, 34]⟩
abbrev S4x384x1x32x32 : Shape := ⟨5, ![4, 384, 1, 32, 32]⟩
abbrev S4x384x9x32x32 : Shape := ⟨5, ![4, 384, 9, 32, 32]⟩
abbrev S256x384x9 : Shape := ⟨3, ![256, 384, 9]⟩
abbrev S4x32x32x256 : Shape := ⟨4, ![4, 32, 32, 256]⟩
abbrev S1x1x1x256 : Shape := ⟨4, ![1, 1, 1, 256]⟩
abbrev S4x1024x256 : Shape := ⟨3, ![4, 1024, 256]⟩
abbrev S9x256 : Shape := ⟨2, ![9, 256]⟩
abbrev S4x1024x9 : Shape := ⟨3, ![4, 1024, 9]⟩
abbrev S1x1x9 : Shape := ⟨3, ![1, 1, 9]⟩
abbrev S36x256 : Shape := ⟨2, ![36, 256]⟩
abbrev S4x1024x36 : Shape := ⟨3, ![4, 1024, 36]⟩
abbrev S1x1x36 : Shape := ⟨3, ![1, 1, 36]⟩
abbrev S4x1024x9x4 : Shape := ⟨4, ![4, 1024, 9, 4]⟩
abbrev S4x1024x9x1 : Shape := ⟨4, ![4, 1024, 9, 1]⟩
abbrev S1x1024x9 : Shape := ⟨3, ![1, 1024, 9]⟩
abbrev S1 : Shape := ⟨1, ![1]⟩

abbrev nBuf : Space → Nat
  | .hbm => 123
  | .vmem => 0
  | .smem => 0
  | _ => 0

abbrev bufTy : (tb : Table) → Fin (tcTables nBuf tb) → BufTy
  | .hbm, ⟨0, _⟩ => ⟨S4x384x32x32, .f32⟩
  | .hbm, ⟨1, _⟩ => ⟨S2, .i32⟩
  | .hbm, ⟨2, _⟩ => ⟨S256x384x3x3, .f32⟩
  | .hbm, ⟨3, _⟩ => ⟨S256, .f32⟩
  | .hbm, ⟨4, _⟩ => ⟨S9x256x1x1, .f32⟩
  | .hbm, ⟨5, _⟩ => ⟨S9, .f32⟩
  | .hbm, ⟨6, _⟩ => ⟨S36x256x1x1, .f32⟩
  | .hbm, ⟨7, _⟩ => ⟨S36, .f32⟩
  | .hbm, ⟨8, _⟩ => ⟨S1x9, .f32⟩
  | .hbm, ⟨9, _⟩ => ⟨S1x9, .f32⟩
  | .hbm, ⟨10, _⟩ => ⟨S1024x9, .f32⟩
  | .hbm, ⟨11, _⟩ => ⟨S1024x9, .f32⟩
  | .hbm, ⟨12, _⟩ => ⟨S_, .f32⟩
  | .hbm, ⟨13, _⟩ => ⟨S4x384x34x34, .f32⟩
  | .hbm, ⟨14, _⟩ => ⟨S4x384x32x32, .f32⟩
  | .hbm, ⟨15, _⟩ => ⟨S4x384x32x32, .f32⟩
  | .hbm, ⟨16, _⟩ => ⟨S4x384x32x32, .f32⟩
  | .hbm, ⟨17, _⟩ => ⟨S4x384x32x32, .f32⟩
  | .hbm, ⟨18, _⟩ => ⟨S4x384x32x32, .f32⟩
  | .hbm, ⟨19, _⟩ => ⟨S4x384x32x32, .f32⟩
  | .hbm, ⟨20, _⟩ => ⟨S4x384x32x32, .f32⟩
  | .hbm, ⟨21, _⟩ => ⟨S4x384x32x32, .f32⟩
  | .hbm, ⟨22, _⟩ => ⟨S4x384x32x32, .f32⟩
  | .hbm, ⟨23, _⟩ => ⟨S4x384x1x32x32, .f32⟩
  | .hbm, ⟨24, _⟩ => ⟨S4x384x1x32x32, .f32⟩
  | .hbm, ⟨25, _⟩ => ⟨S4x384x1x32x32, .f32⟩
  | .hbm, ⟨26, _⟩ => ⟨S4x384x1x32x32, .f32⟩
  | .hbm, ⟨27, _⟩ => ⟨S4x384x1x32x32, .f32⟩
  | .hbm, ⟨28, _⟩ => ⟨S4x384x1x32x32, .f32⟩
  | .hbm, ⟨29, _⟩ => ⟨S4x384x1x32x32, .f32⟩
  | .hbm, ⟨30, _⟩ => ⟨S4x384x1x32x32, .f32⟩
  | .hbm, ⟨31, _⟩ => ⟨S4x384x1x32x32, .f32⟩
  | .hbm, ⟨32, _⟩ => ⟨S4x384x9x32x32, .f32⟩
  | .hbm, ⟨33, _⟩ => ⟨S256x384x9, .f32⟩
  | .hbm, ⟨34, _⟩ => ⟨S4x32x32x256, .f32⟩
  | .hbm, ⟨35, _⟩ => ⟨S1x1x1x256, .f32⟩
  | .hbm, ⟨36, _⟩ => ⟨S4x32x32x256, .f32⟩
  | .hbm, ⟨37, _⟩ => ⟨S4x32x32x256, .f32⟩
  | .hbm, ⟨38, _⟩ => ⟨S_, .f32⟩
  | .hbm, ⟨39, _⟩ => ⟨S4x32x32x256, .f32⟩
  | .hbm, ⟨40, _⟩ => ⟨S4x32x32x256, .f32⟩
  | .hbm, ⟨41, _⟩ => ⟨S4x1024x256, .f32⟩
  | .hbm, ⟨42, _⟩ => ⟨S9x256, .f32⟩
  | .hbm, ⟨43, _⟩ => ⟨S4x1024x9, .f32⟩
  | .hbm, ⟨44, _⟩ => ⟨S1x1x9, .f32⟩
  | .hbm, ⟨45, _⟩ => ⟨S4x1024x9, .f32⟩
  | .hbm, ⟨46, _⟩ => ⟨S4x1024x9, .f32⟩
  | .hbm, ⟨47, _⟩ => ⟨S36x256, .f32⟩
  | .hbm, ⟨48, _⟩ => ⟨S4x1024x36, .f32⟩
  | .hbm, ⟨49, _⟩ => ⟨S1x1x36, .f32⟩
  | .hbm, ⟨50, _⟩ => ⟨S4x1024x36, .f32⟩
  | .hbm, ⟨51, _⟩ => ⟨S4x1024x36, .f32⟩
  | .hbm, ⟨52, _⟩ => ⟨S4x1024x9x4, .f32⟩
  | .hbm, ⟨53, _⟩ => ⟨S4x1024x9x1, .f32⟩
  | .hbm, ⟨54, _⟩ => ⟨S4x1024x9, .f32⟩
  | .hbm, ⟨55, _⟩ => ⟨S4x1024x9x1, .f32⟩
  | .hbm, ⟨56, _⟩ => ⟨S4x1024x9, .f32⟩
  | .hbm, ⟨57, _⟩ => ⟨S4x1024x9x1, .f32⟩
  | .hbm, ⟨58, _⟩ => ⟨S4x1024x9, .f32⟩
  | .hbm, ⟨59, _⟩ => ⟨S4x1024x9x1, .f32⟩
  | .hbm, ⟨60, _⟩ => ⟨S4x1024x9, .f32⟩
  | .hbm, ⟨61, _⟩ => ⟨S1x1x9, .f32⟩
  | .hbm, ⟨62, _⟩ => ⟨S4x1024x9, .f32⟩
  | .hbm, ⟨63, _⟩ => ⟨S4x1024x9, .f32⟩
  | .hbm, ⟨64, _⟩ => ⟨S1x1024x9, .f32⟩
  | .hbm, ⟨65, _⟩ => ⟨S4x1024x9, .f32⟩
  | .hbm, ⟨66, _⟩ => ⟨S4x1024x9, .f32⟩
  | .hbm, ⟨67, _⟩ => ⟨S1x1x9, .f32⟩
  | .hbm, ⟨68, _⟩ => ⟨S4x1024x9, .f32⟩
  | .hbm, ⟨69, _⟩ => ⟨S4x1024x9, .f32⟩
  | .hbm, ⟨70, _⟩ => ⟨S1x1024x9, .f32⟩
  | .hbm, ⟨71, _⟩ => ⟨S4x1024x9, .f32⟩
  | .hbm, ⟨72, _⟩ => ⟨S4x1024x9, .f32⟩
  | .hbm, ⟨73, _⟩ => ⟨S4x1024x9, .f32⟩
  | .hbm, ⟨74, _⟩ => ⟨S1x1x9, .f32⟩
  | .hbm, ⟨75, _⟩ => ⟨S4x1024x9, .f32⟩
  | .hbm, ⟨76, _⟩ => ⟨S4x1024x9, .f32⟩
  | .hbm, ⟨77, _⟩ => ⟨S4x1024x9, .f32⟩
  | .hbm, ⟨78, _⟩ => ⟨S1x1x9, .f32⟩
  | .hbm, ⟨79, _⟩ => ⟨S4x1024x9, .f32⟩
  | .hbm, ⟨80, _⟩ => ⟨S4x1024x9, .f32⟩
  | .hbm, ⟨81, _⟩ => ⟨S1, .i32⟩
  | .hbm, ⟨82, _⟩ => ⟨S_, .i32⟩
  | .hbm, ⟨83, _⟩ => ⟨S_, .f32⟩
  | .hbm, ⟨84, _⟩ => ⟨S1, .i32⟩
  | .hbm, ⟨85, _⟩ => ⟨S_, .i32⟩
  | .hbm, ⟨86, _⟩ => ⟨S_, .f32⟩
  | .hbm, ⟨87, _⟩ => ⟨S_, .f32⟩
  | .hbm, ⟨88, _⟩ => ⟨S4x1024x9, .f32⟩
  | .hbm, ⟨89, _⟩ => ⟨S4x1024x9, .f32⟩
  | .hbm, ⟨90, _⟩ => ⟨S4x1024x9, .f32⟩
  | .hbm, ⟨91, _⟩ => ⟨S_, .f32⟩
  | .hbm, ⟨92, _⟩ => ⟨S4x1024x9, .f32⟩
  | .hbm, ⟨93, _⟩ => ⟨S4x1024x9, .f32⟩
  | .hbm, ⟨94, _⟩ => ⟨S4x1024x9, .f32⟩
  | .hbm, ⟨95, _⟩ => ⟨S4x1024x9, .f32⟩
  | .hbm, ⟨96, _⟩ => ⟨S_, .f32⟩
  | .hbm, ⟨97, _⟩ => ⟨S4x1024x9, .f32⟩
  | .hbm, ⟨98, _⟩ => ⟨S4x1024x9, .f32⟩
  | .hbm, ⟨99, _⟩ => ⟨S4x1024x9, .f32⟩
  | .hbm, ⟨100, _⟩ => ⟨S_, .f32⟩
  | .hbm, ⟨101, _⟩ => ⟨S4x1024x9, .f32⟩
  | .hbm, ⟨102, _⟩ => ⟨S4x1024x9, .f32⟩
  | .hbm, ⟨103, _⟩ => ⟨S4x1024x9, .f32⟩
  | .hbm, ⟨104, _⟩ => ⟨S4x1024x9, .f32⟩
  | .hbm, ⟨105, _⟩ => ⟨S_, .f32⟩
  | .hbm, ⟨106, _⟩ => ⟨S4x1024x9, .f32⟩
  | .hbm, ⟨107, _⟩ => ⟨S4x1024x9, .f32⟩
  | .hbm, ⟨108, _⟩ => ⟨S4x1024x9, .f32⟩
  | .hbm, ⟨109, _⟩ => ⟨S_, .f32⟩
  | .hbm, ⟨110, _⟩ => ⟨S4x1024x9, .f32⟩
  | .hbm, ⟨111, _⟩ => ⟨S4x1024x9, .f32⟩
  | .hbm, ⟨112, _⟩ => ⟨S4x1024x9, .f32⟩
  | .hbm, ⟨113, _⟩ => ⟨S4x1024x9, .f32⟩
  | .hbm, ⟨114, _⟩ => ⟨S_, .f32⟩
  | .hbm, ⟨115, _⟩ => ⟨S4x1024x9, .f32⟩
  | .hbm, ⟨116, _⟩ => ⟨S4x1024x9, .f32⟩
  | .hbm, ⟨117, _⟩ => ⟨S4x1024x9, .f32⟩
  | .hbm, ⟨118, _⟩ => ⟨S_, .f32⟩
  | .hbm, ⟨119, _⟩ => ⟨S4x1024x9, .f32⟩
  | .hbm, ⟨120, _⟩ => ⟨S4x1024x9, .f32⟩
  | .hbm, ⟨121, _⟩ => ⟨S4x1024x9, .f32⟩
  | .hbm, ⟨122, _⟩ => ⟨S4x1024x9, .f32⟩
  | _, _ => ⟨S4x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_1 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_2 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_3 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_4 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_5 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_6 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_7 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_8 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩

abbrev nD : Nat := 1
abbrev τ : Topo := Topo.v7x

variable {F : FTy → Type} [FloatOps F]
-- ==== Threshold.lean ====
abbrev S4x9216 : Shape := ⟨2, ![4, 9216]⟩
abbrev S4x1 : Shape := ⟨2, ![4, 1]⟩
abbrev S4 : Shape := ⟨1, ![4]⟩

abbrev nBuf : Space → Nat
  | .hbm => 3
  | .vmem => 3
  | .smem => 0
  | _ => 0

abbrev bufTy : (tb : Table) → Fin (tcTables nBuf tb) → BufTy
  | .hbm, ⟨0, _⟩ => ⟨S4x9216, .i32⟩
  | .hbm, ⟨1, _⟩ => ⟨S4x1, .i32⟩
  | .hbm, ⟨2, _⟩ => ⟨S4x9216, .i32⟩
  | .local _ .vmem, ⟨0, _⟩ => ⟨S4x9216, .i32⟩
  | .local _ .vmem, ⟨1, _⟩ => ⟨S4x1, .i32⟩
  | .local _ .vmem, ⟨2, _⟩ => ⟨S4x9216, .i32⟩
  | _, _ => ⟨S4x9216, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_3 : BitVec 32 := 0#32
  let c32_i32 : BitVec 32 := 32#32
  let v10 : BitVec 32 := Scalar.addi c0_i32_3 c32_i32
  let c1_i32 : BitVec 32 := 1#32
  ⟨c0_i32_3, v10, c1_i32⟩
abbrev stage0_0 : Fin 1 → Memref sig .tc .vmem S4x9216 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x9216 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Ranked.lean ====
abbrev S4x9216 : Shape := ⟨2, ![4, 9216]⟩
abbrev S_ : Shape := ⟨0, ![]⟩
abbrev S4x1 : Shape := ⟨2, ![4, 1]⟩

abbrev nBuf : Space → Nat
  | .hbm => 10
  | .vmem => 0
  | .smem => 0
  | _ => 0

abbrev bufTy : (tb : Table) → Fin (tcTables nBuf tb) → BufTy
  | .hbm, ⟨0, _⟩ => ⟨S4x9216, .i32⟩
  | .hbm, ⟨1, _⟩ => ⟨S_, .i32⟩
  | .hbm, ⟨2, _⟩ => ⟨S4x9216, .i32⟩
  | .hbm, ⟨3, _⟩ => ⟨S4x9216, .i1⟩
  | .hbm, ⟨4, _⟩ => ⟨S_, .i32⟩
  | .hbm, ⟨5, _⟩ => ⟨S4x9216, .i32⟩
  | .hbm, ⟨6, _⟩ => ⟨S4x9216, .i32⟩
  | .hbm, ⟨7, _⟩ => ⟨S4x9216, .i32⟩
  | .hbm, ⟨8, _⟩ => ⟨S4x9216, .i32⟩
  | .hbm, ⟨9, _⟩ => ⟨S4x1, .i32⟩
  | _, _ => ⟨S4x9216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Pack.lean ====
/-
  The arithmetic of the selection, with no program in it: a masked indexed store of sixteen lanes read back one index at a
  time, the running sum of sixteen bits as a count, and the packing itself — the elements of a row above a threshold, in index
  order, then those level with it.
-/
module

public import proofs.«01_k».proof.Defs
public import Idealize.ShloMosaic.Lib.ValueIdx
public import Idealize.ShloMosaic.Lib.StableHlo.Predicate

@[expose] public section

noncomputable section

namespace Cert.Proof.Select

open Cert.KernelIdeal
open Idealize.ShloMosaic
open Idealize.ShloMosaic.ValueIdx

/-! ## Sixteen lanes -/

/-- Lane `k` of a vector of sixteen. -/
abbrev lane (k : Fin 16) : S16.Idx := ix1 k

theorem ofLane_eq (k : Fin 16) : (Shape.ofLane (d := ![16]) k : S16.Idx) = lane k := by
  funext a; fin_cases a; rfl

theorem eq_lane (x : S16.Idx) : x = lane (x 0) := by
  funext a; fin_cases a; rfl

section Store

variable {F : FTy → Type} [FloatOps F] {e : EltTy}

/-- One lane's part of the store: what is at `j` after lane `k` has had its turn. -/
def putLane (ix : IVec S16 32) (v : Vec F S16 e) (mask : IVec S16 1) (j : S640.Idx) (y : Elt F e) (k : Fin 16) : Elt F e :=
  if mask (lane k) = 1 ∧ (j 0).val = (ix (lane k)).toNat then v (lane k) else y

theorem storeIdx_apply (f : Vec F S640 e) (ix : IVec S16 32) (v : Vec F S16 e) (mask : IVec S16 1)
    (h : ∀ a x, ((![ix] : Fin 1 → IVec S16 32) a x).toNat < S640.size a) (j : S640.Idx) :
    storeIdx f ![ix] v mask false h j = (List.finRange 16).foldl (putLane ix v mask j) (f j) := by
  have hs : storeIdx f ![ix] v mask false h = (List.finRange 16).foldl (fun g k j => putLane ix v mask j (g j) k) f := by
    unfold storeIdx
    refine congrArg (fun s : Vec F S640 e → Fin 16 → Vec F S640 e => List.foldl s f (List.finRange 16)) ?_
    refine funext fun g => funext fun (k : Fin 16) => funext fun j => ?_
    show (if mask (Shape.ofLane (d := ![16]) k) = 1 then _ else _ : Vec F S640 e) j = _
    unfold putLane
    rw [ofLane_eq]
    by_cases hm : mask (lane k) = 1
    · rw [if_pos hm]
      by_cases hj : (j 0).val = (ix (lane k)).toNat
      · refine Eq.trans (if_pos (fun a => ?_)) (if_pos ⟨hm, hj⟩).symm
        fin_cases a; exact hj
      · exact Eq.trans (if_neg (fun hh => hj (hh 0))) (if_neg (fun hh => hj hh.2)).symm
    · rw [if_neg hm, if_neg (fun hh => hm hh.1)]
  rw [hs]
  clear hs
  induction List.finRange 16 generalizing f with
  | nil => rfl
  | cons k l ih => rw [List.foldl_cons, List.foldl_cons, ih]

theorem foldl_miss (ix : IVec S16 32) (v : Vec F S16 e) (mask : IVec S16 1) (j : S640.Idx) (l : List (Fin 16))
    (hl : ∀ k ∈ l, mask (lane k) = 1 → (j 0).val ≠ (ix (lane k)).toNat) (y : Elt F e) :
    l.foldl (putLane ix v mask j) y = y := by
  induction l generalizing y with
  | nil => rfl
  | cons k l ih =>
    rw [List.foldl_cons, ih (fun k' hk' => hl k' (List.mem_cons_of_mem _ hk'))]
    unfold putLane
    rw [if_neg]
    rintro ⟨hm, he⟩
    exact hl k List.mem_cons_self hm he

theorem foldl_hit (ix : IVec S16 32) (v : Vec F S16 e) (mask : IVec S16 1) (j : S640.Idx) (k : Fin 16) (l : List (Fin 16))
    (hmem : k ∈ l) (hm : mask (lane k) = 1) (hk : (j 0).val = (ix (lane k)).toNat)
    (hl : ∀ k' ∈ l, mask (lane k') = 1 → (j 0).val = (ix (lane k')).toNat → k' = k) (y : Elt F e) :
    l.foldl (putLane ix v mask j) y = v (lane k) := by
  induction l generalizing y with
  | nil => simp at hmem
  | cons k₀ l ih =>
    rw [List.foldl_cons]
    by_cases hin : k ∈ l
    · exact ih hin (fun k' hk' => hl k' (List.mem_cons_of_mem _ hk')) _
    · have hk₀ : k₀ = k := by
        rcases List.mem_cons.mp hmem with h | h
        · exact h.symm
        · exact absurd h hin
      subst hk₀
      rw [foldl_miss]
      · unfold putLane; rw [if_pos ⟨hm, hk⟩]
      · intro k' hk' hm' he'
        exact hin (hl k' (List.mem_cons_of_mem _ hk') hm' he' ▸ hk')

/-- At an index no set lane names, the store leaves what was there. -/
theorem storeIdx_miss (f : Vec F S640 e) (ix : IVec S16 32) (v : Vec F S16 e) (mask : IVec S16 1)
    (h : ∀ a x, ((![ix] : Fin 1 → IVec S16 32) a x).toNat < S640.size a) (j : S640.Idx)
    (hl : ∀ k, mask (lane k) = 1 → (j 0).val ≠ (ix (lane k)).toNat) :
    storeIdx f ![ix] v mask false h j = f j := by
  rw [storeIdx_apply, foldl_miss _ _ _ _ _ (fun k _ => hl k)]

/-- At the index one set lane names and no other does, the store puts that lane's value. -/
theorem storeIdx_hit (f : Vec F S640 e) (ix : IVec S16 32) (v : Vec F S16 e) (mask : IVec S16 1)
    (h : ∀ a x, ((![ix] : Fin 1 → IVec S16 32) a x).toNat < S640.size a) (j : S640.Idx) (k : Fin 16)
    (hm : mask (lane k) = 1) (hk : (j 0).val = (ix (lane k)).toNat)
    (hl : ∀ k', mask (lane k') = 1 → (j 0).val = (ix (lane k')).toNat → k' = k) :
    storeIdx f ![ix] v mask false h j = v (lane k) := by
  rw [storeIdx_apply, foldl_hit _ _ _ _ k _ (List.mem_finRange k) hm hk (fun k' _ => hl k')]

end Store

/-! ## The running sum of sixteen bits -/

open Classical in
/-- The bits of `p` at the sixteen positions from `n`, as words. -/
def bitsAt (p : ℕ → Prop) (n : ℕ) : IVec S16 32 := fun x => BitVec.ofNat 32 (if p (n + (x 0).val) then 1 else 0)

open Classical in
/-- How many of the positions below `n` have `p`. -/
def cnt (p : ℕ → Prop) (n : ℕ) : ℕ := Nat.count p n

theorem cnt_succ (p : ℕ → Prop) (n : ℕ) [Decidable (p n)] : cnt p (n + 1) = cnt p n + if p n then 1 else 0 := by
  unfold cnt; rw [Nat.count_succ]; congr

theorem cnt_mono (p : ℕ → Prop) {m n : ℕ} (h : m ≤ n) : cnt p m ≤ cnt p n := by
  classical exact Nat.count_monotone p h

theorem cnt_lt (p : ℕ → Prop) {m n : ℕ} (hp : p m) (h : m < n) : cnt p m < cnt p n := by
  classical exact Nat.count_strict_mono hp h

theorem cnt_inj (p : ℕ → Prop) {m n : ℕ} (hm : p m) (hn : p n) (h : cnt p m = cnt p n) : m = n := by
  classical exact Nat.count_injective hm hn h

theorem cnt_zero (p : ℕ → Prop) : cnt p 0 = 0 := by
  classical exact Nat.count_zero p

open Classical in
/-- The position with `p` that has `q` others with `p` before it (zero where there is none). -/
def pos (p : ℕ → Prop) (q : ℕ) : ℕ := if h : ∃ i, p i ∧ cnt p i = q then h.choose else 0

theorem pos_cnt (p : ℕ → Prop) {i : ℕ} (hi : p i) : pos p (cnt p i) = i := by
  have h : ∃ i', p i' ∧ cnt p i' = cnt p i := ⟨i, hi, rfl⟩
  unfold pos
  rw [dif_pos h]
  exact cnt_inj p h.choose_spec.1 hi h.choose_spec.2

theorem exists_cnt (p : ℕ → Prop) (n q : ℕ) (h : q < cnt p n) : ∃ i, i < n ∧ p i ∧ cnt p i = q := by
  classical
  induction n with
  | zero => rw [cnt_zero] at h; omega
  | succ n ih =>
    rw [cnt_succ] at h
    by_cases hq : q < cnt p n
    · obtain ⟨i, hi, hpi, hc⟩ := ih hq
      exact ⟨i, by omega, hpi, hc⟩
    · by_cases hp : p n
      · rw [if_pos hp] at h
        exact ⟨n, by omega, hp, by omega⟩
      · rw [if_neg hp] at h; omega

theorem scan_zero (v : IVec S16 32) (h : 0 < 16) : scan .sum v (lane ⟨0, h⟩) = v (lane ⟨0, h⟩) := by
  unfold scan
  have : ((List.finRange 16).filter fun k => decide (0 < k.val ∧ k.val ≤ 0)) = [] := by decide
  show List.foldl _ _ ((List.finRange 16).filter fun k => decide (0 < k.val ∧ k.val ≤ 0)) = _
  rw [this]; exact congrArg v (ofLane_eq _)

theorem filter_succ : ∀ k : Fin 16, (h : k.val + 1 < 16) →
    ((List.finRange 16).filter fun l => decide (0 < l.val ∧ l.val ≤ k.val + 1))
      = ((List.finRange 16).filter fun l => decide (0 < l.val ∧ l.val ≤ k.val)) ++ [⟨k.val + 1, h⟩] := by decide

theorem scan_succ (v : IVec S16 32) (k : ℕ) (h : k + 1 < 16) :
    scan .sum v (lane ⟨k + 1, h⟩) = scan .sum v (lane ⟨k, by omega⟩) + v (lane ⟨k + 1, h⟩) := by
  unfold scan
  show List.foldl _ _ ((List.finRange 16).filter fun l => decide (0 < l.val ∧ l.val ≤ k + 1)) = _
  rw [filter_succ ⟨k, by omega⟩ h]
  refine (List.foldl_append ..).trans ?_
  show ScanKind.step .sum _ (v (Shape.ofLane (d := ![16]) ⟨k + 1, h⟩)) = _
  rw [show (Shape.ofLane (d := ![16]) ⟨k + 1, h⟩ : S16.Idx) = lane ⟨k + 1, h⟩ from ofLane_eq _]
  rfl

/-- The inclusive running sum of the bits of `p` from `n`: at lane `k`, how many of the `k + 1` positions have `p`. -/
theorem scan_bits (p : ℕ → Prop) (n : ℕ) (k : ℕ) (h : k < 16) :
    BitVec.ofNat 32 (cnt p n) + scan .sum (bitsAt p n) (lane ⟨k, h⟩) = BitVec.ofNat 32 (cnt p (n + k + 1)) := by
  classical
  induction k with
  | zero =>
    rw [scan_zero, cnt_succ, BitVec.ofNat_add]
    congr 1
  | succ k ih =>
    rw [scan_succ, ← BitVec.add_assoc, ih (by omega), show n + (k + 1) + 1 = (n + k + 1) + 1 by omega, cnt_succ p (n + k + 1),
      BitVec.ofNat_add]
    congr 1

/-- The exclusive running sum: at lane `k`, how many of the first `k` positions from `n` have `p`, over the count before `n`. -/
theorem scan_bits_excl (p : ℕ → Prop) (n : ℕ) (k : Fin 16) :
    BitVec.ofNat 32 (cnt p n) + (scan .sum (bitsAt p n) (lane k) - bitsAt p n (lane k)) = BitVec.ofNat 32 (cnt p (n + k.val)) := by
  classical
  have h := scan_bits p n k.val k.isLt
  rw [cnt_succ, BitVec.ofNat_add] at h
  have hb : bitsAt p n (lane k) = BitVec.ofNat 32 (if p (n + k.val) then 1 else 0) := by unfold bitsAt; congr
  rw [hb, BitVec.sub_eq_add_neg, ← BitVec.add_assoc, h, ← BitVec.sub_eq_add_neg, BitVec.add_sub_cancel]

/-! ## The packing -/

section Row

variable {α : Type}

/-- Element `i` of a row (`i` taken modulo the row's extent, so that no bound is carried). -/
def rd (a : S9216.Idx → α) (i : ℕ) : α := a (ix1 ⟨i % 9216, Nat.mod_lt _ (by decide)⟩)

theorem rd_of_lt (a : S9216.Idx → α) {i : ℕ} (h : i < 9216) : rd a i = a (ix1 ⟨i, h⟩) := by
  unfold rd; congr; exact Nat.mod_eq_of_lt h

/-- Position `i` of the row is above the threshold `t`. -/
def above (key : IVec S9216 32) (t : BitVec 32) (i : ℕ) : Prop := IntOp.cmpi .sgt (rd key i) t = 1#1

/-- Position `i` of the row is level with the threshold `t`. -/
def level (key : IVec S9216 32) (t : BitVec 32) (i : ℕ) : Prop := IntOp.cmpi .eq (rd key i) t = 1#1

/-- How many of the row are above. -/
def nGt (key : IVec S9216 32) (t : BitVec 32) : ℕ := cnt (above key t) 9216

/-- How many of the row are level. -/
def nEq (key : IVec S9216 32) (t : BitVec 32) : ℕ := cnt (level key t) 9216

/-- How many level ones are taken: as many as there is room for among the first six hundred. -/
def nTake (key : IVec S9216 32) (t : BitVec 32) : ℕ := min (nEq key t) (600 - nGt key t)

open Classical in
/-- The row position that slot `q` of the packed row is taken from. -/
def src (key : IVec S9216 32) (t : BitVec 32) (q : ℕ) : ℕ :=
  if q < nGt key t then pos (above key t) q else pos (level key t) (q - nGt key t)

theorem src_above (key : IVec S9216 32) (t : BitVec 32) {i : ℕ} (h : i < 9216) (hi : above key t i) :
    src key t (cnt (above key t) i) = i := by
  unfold src
  rw [if_pos (show cnt (above key t) i < nGt key t from cnt_lt _ hi h)]
  exact pos_cnt _ hi

theorem src_level (key : IVec S9216 32) (t : BitVec 32) {i : ℕ} (hi : level key t i) :
    src key t (nGt key t + cnt (level key t) i) = i := by
  unfold src
  rw [if_neg (by omega), Nat.add_sub_cancel_left]
  exact pos_cnt _ hi

/-- Row `a` packed by `key` against `t`: the selected elements in order, then `pad`. -/
def packed (key : IVec S9216 32) (t : BitVec 32) (a : S9216.Idx → α) (pad : ℕ → α) : S640.Idx → α := fun j =>
  if (j 0).val < nGt key t + nTake key t then rd a (src key t (j 0).val) else pad (j 0).val

/-- A slot buffer holds, at each slot, the row's element whose rank among those with `p` it is, as far as `n`. -/
def Slots (p : ℕ → Prop) (a : S9216.Idx → α) (n : ℕ) (g : S640.Idx → α) : Prop :=
  ∀ i, i < n → p i → ∀ h : cnt p i < 640, g (ix1 ⟨cnt p i, h⟩) = rd a i

/-- A packed row is filled up to `lim`: the selected elements below it, the pad from it on. -/
def Filled (key : IVec S9216 32) (t : BitVec 32) (a : S9216.Idx → α) (pad : ℕ → α) (lim : ℕ) (f : S640.Idx → α) : Prop :=
  ∀ j : S640.Idx, f j = if (j 0).val < lim then rd a (src key t (j 0).val) else pad (j 0).val

theorem Slots.zero (p : ℕ → Prop) (a : S9216.Idx → α) (g : S640.Idx → α) : Slots p a 0 g := fun i hi => absurd hi (by omega)

theorem Filled.eq_packed {key : IVec S9216 32} {t : BitVec 32} {a : S9216.Idx → α} {pad : ℕ → α} {f : S640.Idx → α}
    (h : Filled key t a pad (nGt key t + nTake key t) f) : f = packed key t a pad := funext h

/-- Every slot below the count of the full row is some position's. -/
theorem Slots.get_above {key : IVec S9216 32} {t : BitVec 32} {a : S9216.Idx → α} {g : S640.Idx → α}
    (h : Slots (above key t) a 9216 g) (q : ℕ) (hq : q < nGt key t) (hq' : q < 640) : g (ix1 ⟨q, hq'⟩) = rd a (src key t q) := by
  obtain ⟨i, hi, hp, rfl⟩ := exists_cnt _ _ _ hq
  rw [h i hi hp hq', src_above key t hi hp]

theorem Slots.get_level {key : IVec S9216 32} {t : BitVec 32} {a : S9216.Idx → α} {e : S640.Idx → α}
    (h : Slots (level key t) a 9216 e) (q : ℕ) (hq : q < nEq key t) (hq' : q < 640) :
    e (ix1 ⟨q, hq'⟩) = rd a (src key t (nGt key t + q)) := by
  obtain ⟨i, hi, hp, rfl⟩ := exists_cnt _ _ _ hq
  rw [h i hi hp hq', src_level key t hp]

end Row

section Trips

variable {F : FTy → Type} [FloatOps F] {e : EltTy}

/-- One trip of the scan: sixteen further positions, each with `p` stored at its rank. -/
theorem Slots.store {p : ℕ → Prop} {a : S9216.Idx → Elt F e} {g : Vec F S640 e} {n : ℕ} (hs : Slots p a n g) (hc : cnt p 9216 < 640)
    (hn : n + 16 ≤ 9216)
    (ix : IVec S16 32) (v : Vec F S16 e) (mask : IVec S16 1)
    (h : ∀ a x, ((![ix] : Fin 1 → IVec S16 32) a x).toNat < S640.size a)
    (hix : ∀ k, ix (lane k) = BitVec.ofNat 32 (cnt p (n + k.val))) (hm : ∀ k, mask (lane k) = 1 ↔ p (n + k.val))
    (hv : ∀ k : Fin 16, v (lane k) = rd a (n + k.val)) :
    Slots p a (n + 16) (storeIdx g ![ix] v mask false h) := by
  have hix' : ∀ k : Fin 16, (ix (lane k)).toNat = cnt p (n + k.val) := fun k => by
    have := cnt_mono p (show n + k.val ≤ 9216 by have := k.isLt; omega)
    rw [hix, BitVec.toNat_ofNat]; omega
  intro i hi hp hlt
  by_cases hin : i < n
  · rw [storeIdx_miss, hs i hin hp]
    intro k hmk he
    rw [hix' k] at he
    have := cnt_inj p hp ((hm k).mp hmk) he
    omega
  · have hk : i - n < 16 := by omega
    rw [storeIdx_hit g ix v mask h _ ⟨i - n, hk⟩, hv]
    · show rd a (n + (i - n)) = _; congr 1; omega
    · rw [hm]; show p (n + (i - n)); rwa [show n + (i - n) = i by omega]
    · rw [hix']; show cnt p i = cnt p (n + (i - n)); rw [show n + (i - n) = i by omega]
    · intro k' hmk he
      rw [hix' k'] at he
      have := cnt_inj p hp ((hm k').mp hmk) he
      apply Fin.ext; show k'.val = i - n; omega

/-- One trip of a copy of the slots into the packed row: slots `n … n + 15` of those below `N`, at `b` further on. -/
theorem Filled.store {key : IVec S9216 32} {t : BitVec 32} {a : S9216.Idx → Elt F e} {pad : ℕ → Elt F e} {f : Vec F S640 e}
    {b N n : ℕ} (hf : Filled key t a pad (b + min n N) f) (hb : b + N < 640)
    (ix : IVec S16 32) (v : Vec F S16 e) (mask : IVec S16 1)
    (h : ∀ a x, ((![ix] : Fin 1 → IVec S16 32) a x).toNat < S640.size a)
    (hm : ∀ k : Fin 16, mask (lane k) = 1 ↔ n + k.val < N)
    (hix : ∀ k : Fin 16, n + k.val < N → ix (lane k) = BitVec.ofNat 32 (b + (n + k.val)))
    (hv : ∀ k : Fin 16, n + k.val < N → v (lane k) = rd a (src key t (b + (n + k.val)))) :
    Filled key t a pad (b + min (n + 16) N) (storeIdx f ![ix] v mask false h) := by
  have hix' : ∀ k : Fin 16, mask (lane k) = 1 → (ix (lane k)).toNat = b + (n + k.val) := fun k hk => by
    have := (hm k).mp hk
    rw [hix k this, BitVec.toNat_ofNat]; omega
  intro j
  by_cases hlo : (j 0).val < b + min n N
  · rw [storeIdx_miss, hf j, if_pos hlo, if_pos (by omega)]
    intro k hmk
    have := hix' k hmk
    omega
  · by_cases hhi : (j 0).val < b + min (n + 16) N
    · have hk : (j 0).val - b - n < 16 := by omega
      have hjn : n + ((j 0).val - b - n) < N := by omega
      rw [if_pos hhi, storeIdx_hit f ix v mask h j ⟨(j 0).val - b - n, hk⟩, hv _ hjn]
      · show rd a (src key t (b + (n + ((j 0).val - b - n)))) = _
        rw [show b + (n + ((j 0).val - b - n)) = (j 0).val by omega]
      · rw [hm]; exact hjn
      · rw [hix' _ ((hm _).mpr hjn)]; show _ = b + (n + ((j 0).val - b - n)); omega
      · intro k' hmk he
        rw [hix' k' hmk] at he
        apply Fin.ext; show k'.val = (j 0).val - b - n; omega
    · rw [storeIdx_miss, hf j, if_neg hlo, if_neg hhi]
      intro k hmk
      have h1 := hix' k hmk
      have h2 := (hm k).mp hmk
      have := k.isLt
      omega

end Trips

end Cert.Proof.Select
-- ==== Proof.Setup.lean ====
/-
  The pieces of the selection kernel the other modules name: the launch's configuration, the kernel's operands as its body
  table passes them, and the body's loops at those operands.
-/
module

public import proofs.«01_k».proof.Proof.Pack
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Select

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

/-- The assertions' algebra. -/
abbrev 𝕄 (F : FTy → Type) : Type := MT nD τ sig (HIx 1) (Elt F) ℕ UU ℕ

/-! ## The operands -/

/-- The scores: the whole array, one row of it in the task's memory, the rows of those above and of those level, and the packed row; then the result. -/
abbrev inS : Memref sig .scVector .hbm S4x9216 .f32 := Memref.whole main_arg0_scv
abbrev rowS : Memref sig .scVector .vmem S9216 .f32 := Memref.whole cc0_scratch0
abbrev abvS : Memref sig .scVector .vmem S640 .f32 := Memref.whole cc0_scratch7
abbrev levS : Memref sig .scVector .vmem S640 .f32 := Memref.whole cc0_scratch13
abbrev pckS : Memref sig .scVector .vmem S640 .f32 := Memref.whole cc0_scratch19
abbrev outS : Memref sig .scVector .hbm S4x640 .f32 := Memref.whole main_v1_0_scv
/-- The keys: the whole array, one row of it in the task's memory, the rows of those above and of those level, and the packed row; then the result. -/
abbrev inK : Memref sig .scVector .hbm S4x9216 .i32 := Memref.whole main_arg1_scv
abbrev rowK : Memref sig .scVector .vmem S9216 .i32 := Memref.whole cc0_scratch1
abbrev abvK : Memref sig .scVector .vmem S640 .i32 := Memref.whole cc0_scratch8
abbrev levK : Memref sig .scVector .vmem S640 .i32 := Memref.whole cc0_scratch14
abbrev pckK : Memref sig .scVector .vmem S640 .i32 := Memref.whole cc0_scratch20
abbrev outK : Memref sig .scVector .hbm S4x640 .i32 := Memref.whole main_v1_1_scv
/-- The first box edge: the whole array, one row of it in the task's memory, the rows of those above and of those level, and the packed row; then the result. -/
abbrev inA : Memref sig .scVector .hbm S4x9216 .f32 := Memref.whole main_arg2_scv
abbrev rowA : Memref sig .scVector .vmem S9216 .f32 := Memref.whole cc0_scratch2
abbrev abvA : Memref sig .scVector .vmem S640 .f32 := Memref.whole cc0_scratch9
abbrev levA : Memref sig .scVector .vmem S640 .f32 := Memref.whole cc0_scratch15
abbrev pckA : Memref sig .scVector .vmem S640 .f32 := Memref.whole cc0_scratch21
abbrev outA : Memref sig .scVector .hbm S4x640 .f32 := Memref.whole main_v1_2_scv
/-- The second box edge: the whole array, one row of it in the task's memory, the rows of those above and of those level, and the packed row; then the result. -/
abbrev inB : Memref sig .scVector .hbm S4x9216 .f32 := Memref.whole main_arg3_scv
abbrev rowB : Memref sig .scVector .vmem S9216 .f32 := Memref.whole cc0_scratch3
abbrev abvB : Memref sig .scVector .vmem S640 .f32 := Memref.whole cc0_scratch10
abbrev levB : Memref sig .scVector .vmem S640 .f32 := Memref.whole cc0_scratch16
abbrev pckB : Memref sig .scVector .vmem S640 .f32 := Memref.whole cc0_scratch22
abbrev outB : Memref sig .scVector .hbm S4x640 .f32 := Memref.whole main_v1_3_scv
/-- The third box edge: the whole array, one row of it in the task's memory, the rows of those above and of those level, and the packed row; then the result. -/
abbrev inC : Memref sig .scVector .hbm S4x9216 .f32 := Memref.whole main_arg4_scv
abbrev rowC : Memref sig .scVector .vmem S9216 .f32 := Memref.whole cc0_scratch4
abbrev abvC : Memref sig .scVector .vmem S640 .f32 := Memref.whole cc0_scratch11
abbrev levC : Memref sig .scVector .vmem S640 .f32 := Memref.whole cc0_scratch17
abbrev pckC : Memref sig .scVector .vmem S640 .f32 := Memref.whole cc0_scratch23
abbrev outC : Memref sig .scVector .hbm S4x640 .f32 := Memref.whole main_v1_4_scv
/-- The fourth box edge: the whole array, one row of it in the task's memory, the rows of those above and of those level, and the packed row; then the result. -/
abbrev inD : Memref sig .scVector .hbm S4x9216 .f32 := Memref.whole main_arg5_scv
abbrev rowD : Memref sig .scVector .vmem S9216 .f32 := Memref.whole cc0_scratch5
abbrev abvD : Memref sig .scVector .vmem S640 .f32 := Memref.whole cc0_scratch12
abbrev levD : Memref sig .scVector .vmem S640 .f32 := Memref.whole cc0_scratch18
abbrev pckD : Memref sig .scVector .vmem S640 .f32 := Memref.whole cc0_scratch24
abbrev outD : Memref sig .scVector .hbm S4x640 .f32 := Memref.whole main_v1_5_scv
/-- The thresholds, sixteen lanes to a row: the whole array and one row of it. -/
abbrev inT : Memref sig .scVector .hbm S4x16 .i32 := Memref.whole main_v0_scv
abbrev rowT : Memref sig .scVector .vmem S16 .i32 := Memref.whole cc0_scratch6

/-- The thread of the task at coordinates `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

variable [FloatOps F]

/-- The task's body at these operands. -/
abbrev body (L : grid0.Coords) := cc0__select_body (F := F) L
    inS (Memref.isWhole_whole _) inK (Memref.isWhole_whole _) inA (Memref.isWhole_whole _) inB (Memref.isWhole_whole _) inC
    (Memref.isWhole_whole _) inD (Memref.isWhole_whole _) inT (Memref.isWhole_whole _) outS (Memref.isWhole_whole _) outK
    (Memref.isWhole_whole _) outA (Memref.isWhole_whole _) outB (Memref.isWhole_whole _) outC (Memref.isWhole_whole _) outD
    (Memref.isWhole_whole _) rowS (Memref.isWhole_whole _) rowK (Memref.isWhole_whole _) rowA (Memref.isWhole_whole _) rowB
    (Memref.isWhole_whole _) rowC (Memref.isWhole_whole _) rowD (Memref.isWhole_whole _) rowT (Memref.isWhole_whole _) abvS
    (Memref.isWhole_whole _) abvK (Memref.isWhole_whole _) abvA (Memref.isWhole_whole _) abvB (Memref.isWhole_whole _) abvC
    (Memref.isWhole_whole _) abvD (Memref.isWhole_whole _) levS (Memref.isWhole_whole _) levK (Memref.isWhole_whole _) levA
    (Memref.isWhole_whole _) levB (Memref.isWhole_whole _) levC (Memref.isWhole_whole _) levD (Memref.isWhole_whole _) pckS
    (Memref.isWhole_whole _) pckK (Memref.isWhole_whole _) pckA (Memref.isWhole_whole _) pckB (Memref.isWhole_whole _) pckC
    (Memref.isWhole_whole _) pckD (Memref.isWhole_whole _) cc0_scoped0 cc0_scoped1 cc0_scoped2 cc0_scoped3 cc0_scoped4
    cc0_scoped5 cc0_scoped6 cc0_scoped7 cc0_scoped8 cc0_scoped9 cc0_scoped10 cc0_scoped11 cc0_scoped12

/-- One trip of the scan: sixteen positions classified, ranked and stored. -/
abbrev trip1 (L : grid0.Coords) (h : k0_cond1 L = 1#1) (v5 : Vec F S16 .i32) (v6 : IVec S16 32) := k0_t1_body (F := F) L
    inS (Memref.isWhole_whole _) inK (Memref.isWhole_whole _) inA (Memref.isWhole_whole _) inB (Memref.isWhole_whole _) inC
    (Memref.isWhole_whole _) inD (Memref.isWhole_whole _) inT (Memref.isWhole_whole _) outS (Memref.isWhole_whole _) outK
    (Memref.isWhole_whole _) outA (Memref.isWhole_whole _) outB (Memref.isWhole_whole _) outC (Memref.isWhole_whole _) outD
    (Memref.isWhole_whole _) rowS (Memref.isWhole_whole _) rowK (Memref.isWhole_whole _) rowA (Memref.isWhole_whole _) rowB
    (Memref.isWhole_whole _) rowC (Memref.isWhole_whole _) rowD (Memref.isWhole_whole _) rowT (Memref.isWhole_whole _) abvS
    (Memref.isWhole_whole _) abvK (Memref.isWhole_whole _) abvA (Memref.isWhole_whole _) abvB (Memref.isWhole_whole _) abvC
    (Memref.isWhole_whole _) abvD (Memref.isWhole_whole _) levS (Memref.isWhole_whole _) levK (Memref.isWhole_whole _) levA
    (Memref.isWhole_whole _) levB (Memref.isWhole_whole _) levC (Memref.isWhole_whole _) levD (Memref.isWhole_whole _) pckS
    (Memref.isWhole_whole _) pckK (Memref.isWhole_whole _) pckA (Memref.isWhole_whole _) pckB (Memref.isWhole_whole _) pckC
    (Memref.isWhole_whole _) pckD (Memref.isWhole_whole _) cc0_scoped0 cc0_scoped1 cc0_scoped2 cc0_scoped3 cc0_scoped4
    cc0_scoped5 cc0_scoped6 cc0_scoped7 cc0_scoped8 cc0_scoped9 cc0_scoped10 cc0_scoped11 cc0_scoped12 h v5 v6

/-- One trip of the pad: sixteen slots of the packed row set. -/
abbrev trip2 (L : grid0.Coords) (h : k0_cond1 L = 1#1) := k0_t2_body (F := F) L
    inS (Memref.isWhole_whole _) inK (Memref.isWhole_whole _) inA (Memref.isWhole_whole _) inB (Memref.isWhole_whole _) inC
    (Memref.isWhole_whole _) inD (Memref.isWhole_whole _) inT (Memref.isWhole_whole _) outS (Memref.isWhole_whole _) outK
    (Memref.isWhole_whole _) outA (Memref.isWhole_whole _) outB (Memref.isWhole_whole _) outC (Memref.isWhole_whole _) outD
    (Memref.isWhole_whole _) rowS (Memref.isWhole_whole _) rowK (Memref.isWhole_whole _) rowA (Memref.isWhole_whole _) rowB
    (Memref.isWhole_whole _) rowC (Memref.isWhole_whole _) rowD (Memref.isWhole_whole _) rowT (Memref.isWhole_whole _) abvS
    (Memref.isWhole_whole _) abvK (Memref.isWhole_whole _) abvA (Memref.isWhole_whole _) abvB (Memref.isWhole_whole _) abvC
    (Memref.isWhole_whole _) abvD (Memref.isWhole_whole _) levS (Memref.isWhole_whole _) levK (Memref.isWhole_whole _) levA
    (Memref.isWhole_whole _) levB (Memref.isWhole_whole _) levC (Memref.isWhole_whole _) levD (Memref.isWhole_whole _) pckS
    (Memref.isWhole_whole _) pckK (Memref.isWhole_whole _) pckA (Memref.isWhole_whole _) pckB (Memref.isWhole_whole _) pckC
    (Memref.isWhole_whole _) pckD (Memref.isWhole_whole _) cc0_scoped0 cc0_scoped1 cc0_scoped2 cc0_scoped3 cc0_scoped4
    cc0_scoped5 cc0_scoped6 cc0_scoped7 cc0_scoped8 cc0_scoped9 cc0_scoped10 cc0_scoped11 cc0_scoped12 h

/-- One trip of the first copy: sixteen slots of those above. -/
abbrev trip3 (L : grid0.Coords) (h : k0_cond1 L = 1#1) (v6 : IVec S16 32) (n₁ n₂ : BitVec 32) := k0_t3_body (F := F) L
    inS (Memref.isWhole_whole _) inK (Memref.isWhole_whole _) inA (Memref.isWhole_whole _) inB (Memref.isWhole_whole _) inC
    (Memref.isWhole_whole _) inD (Memref.isWhole_whole _) inT (Memref.isWhole_whole _) outS (Memref.isWhole_whole _) outK
    (Memref.isWhole_whole _) outA (Memref.isWhole_whole _) outB (Memref.isWhole_whole _) outC (Memref.isWhole_whole _) outD
    (Memref.isWhole_whole _) rowS (Memref.isWhole_whole _) rowK (Memref.isWhole_whole _) rowA (Memref.isWhole_whole _) rowB
    (Memref.isWhole_whole _) rowC (Memref.isWhole_whole _) rowD (Memref.isWhole_whole _) rowT (Memref.isWhole_whole _) abvS
    (Memref.isWhole_whole _) abvK (Memref.isWhole_whole _) abvA (Memref.isWhole_whole _) abvB (Memref.isWhole_whole _) abvC
    (Memref.isWhole_whole _) abvD (Memref.isWhole_whole _) levS (Memref.isWhole_whole _) levK (Memref.isWhole_whole _) levA
    (Memref.isWhole_whole _) levB (Memref.isWhole_whole _) levC (Memref.isWhole_whole _) levD (Memref.isWhole_whole _) pckS
    (Memref.isWhole_whole _) pckK (Memref.isWhole_whole _) pckA (Memref.isWhole_whole _) pckB (Memref.isWhole_whole _) pckC
    (Memref.isWhole_whole _) pckD (Memref.isWhole_whole _) cc0_scoped0 cc0_scoped1 cc0_scoped2 cc0_scoped3 cc0_scoped4
    cc0_scoped5 cc0_scoped6 cc0_scoped7 cc0_scoped8 cc0_scoped9 cc0_scoped10 cc0_scoped11 cc0_scoped12 h v6 n₁ n₂ 0#32 0#32

/-- One trip of the second copy: sixteen slots of those level. -/
abbrev trip4 (L : grid0.Coords) (h : k0_cond1 L = 1#1) (v6 : IVec S16 32) (n₁ n₂ : BitVec 32) := k0_t4_body (F := F) L
    inS (Memref.isWhole_whole _) inK (Memref.isWhole_whole _) inA (Memref.isWhole_whole _) inB (Memref.isWhole_whole _) inC
    (Memref.isWhole_whole _) inD (Memref.isWhole_whole _) inT (Memref.isWhole_whole _) outS (Memref.isWhole_whole _) outK
    (Memref.isWhole_whole _) outA (Memref.isWhole_whole _) outB (Memref.isWhole_whole _) outC (Memref.isWhole_whole _) outD
    (Memref.isWhole_whole _) rowS (Memref.isWhole_whole _) rowK (Memref.isWhole_whole _) rowA (Memref.isWhole_whole _) rowB
    (Memref.isWhole_whole _) rowC (Memref.isWhole_whole _) rowD (Memref.isWhole_whole _) rowT (Memref.isWhole_whole _) abvS
    (Memref.isWhole_whole _) abvK (Memref.isWhole_whole _) abvA (Memref.isWhole_whole _) abvB (Memref.isWhole_whole _) abvC
    (Memref.isWhole_whole _) abvD (Memref.isWhole_whole _) levS (Memref.isWhole_whole _) levK (Memref.isWhole_whole _) levA
    (Memref.isWhole_whole _) levB (Memref.isWhole_whole _) levC (Memref.isWhole_whole _) levD (Memref.isWhole_whole _) pckS
    (Memref.isWhole_whole _) pckK (Memref.isWhole_whole _) pckA (Memref.isWhole_whole _) pckB (Memref.isWhole_whole _) pckC
    (Memref.isWhole_whole _) pckD (Memref.isWhole_whole _) cc0_scoped0 cc0_scoped1 cc0_scoped2 cc0_scoped3 cc0_scoped4
    cc0_scoped5 cc0_scoped6 cc0_scoped7 cc0_scoped8 cc0_scoped9 cc0_scoped10 cc0_scoped11 cc0_scoped12 h v6 n₁ n₂ 0#32 0#32

end Cert.Proof.Select
-- ==== Proof.Lanes.lean ====
/-
  What each trip computes before it touches memory, lane by lane: the bits, the ranks, the masks and the slots, as numbers.
-/
module

public import proofs.«01_k».proof.Proof.Setup

@[expose] public section

noncomputable section

namespace Cert.Proof.Select

open Cert.KernelIdeal Cert.KernelIdeal.Gen

open Idealize.ShloMosaic
open Idealize.ShloMosaic.ValueIdx
open Idealize.ShloMosaic.StableHlo.Predicate

variable {F : FTy → Type} [FloatOps F]

/-- The lane numbers. -/
abbrev iota16 : IVec S16 32 := iota .scVector S16 32 [0] iota_S16_d0_w32_scVector

theorem iota16_lane (k : Fin 16) : iota16 (lane k) = BitVec.ofNat 32 k.val := by revert k; decide

theorem setWidth_bit (b : BitVec 1) [Decidable (b = 1#1)] : b.setWidth 32 = BitVec.ofNat 32 (if b = 1#1 then 1 else 0) := by
  rcases (by decide : ∀ b : BitVec 1, b = 0#1 ∨ b = 1#1) b with rfl | rfl <;> simp

theorem iv_zero_one (n : ℕ) : Scf.iv 0#32 1#32 n = BitVec.ofNat 32 n := by
  unfold Scf.iv; simp

theorem iv_mul_16 (n : ℕ) : Scalar.muli (Scf.iv 0#32 1#32 n) 16#32 = BitVec.ofNat 32 (16 * n) := by
  rw [iv_zero_one]
  apply BitVec.eq_of_toNat_eq
  show ((BitVec.ofNat 32 n) * 16#32).toNat = _
  rw [BitVec.toNat_mul, BitVec.toNat_ofNat, BitVec.toNat_ofNat, BitVec.toNat_ofNat]
  omega

/-- A word of the sixteen from `16 n`. -/
theorem base_lane (n : ℕ) (k : Fin 16) : addi (broadcast S16 (Scalar.muli (Scf.iv 0#32 1#32 n) 16#32)) iota16 (lane k)
    = BitVec.ofNat 32 (16 * n + k.val) := by
  show IntOp.addi (Scalar.muli (Scf.iv 0#32 1#32 n) 16#32) (iota16 (lane k)) = _
  rw [iota16_lane, iv_mul_16, BitVec.ofNat_add]; rfl

section Scan

variable {key : IVec S9216 32} {t : BitVec 32} {v5 v22 : Vec F S16 .i32} {n : ℕ}

theorem pay3_eq (h5 : ∀ k, v5 (lane k) = t) (h22 : ∀ k : Fin 16, v22 (lane k) = rd key (16 * n + k.val)) :
    k0_pay3 (F := F) v5 v22 = bitsAt (above key t) (16 * n) := by
  classical
  funext x
  obtain ⟨k, rfl⟩ : ∃ k : Fin 16, x = lane k := ⟨x 0, eq_lane x⟩
  show (IntOp.cmpi .sgt (v22 (lane k)) (v5 (lane k))).setWidth 32 = _
  rw [setWidth_bit, h5, h22]
  unfold bitsAt above
  congr

theorem pay4_eq (h5 : ∀ k, v5 (lane k) = t) (h22 : ∀ k : Fin 16, v22 (lane k) = rd key (16 * n + k.val)) :
    k0_pay4 (F := F) v5 v22 = bitsAt (level key t) (16 * n) := by
  classical
  funext x
  obtain ⟨k, rfl⟩ : ∃ k : Fin 16, x = lane k := ⟨x 0, eq_lane x⟩
  show (IntOp.cmpi .eq (v22 (lane k)) (v5 (lane k))).setWidth 32 = _
  rw [setWidth_bit, h5, h22]
  unfold bitsAt level
  congr

theorem pay5_lane (h5 : ∀ k, v5 (lane k) = t) (h22 : ∀ k : Fin 16, v22 (lane k) = rd key (16 * n + k.val)) (k : Fin 16) :
    k0_pay5 (F := F) v5 (BitVec.ofNat 32 (cnt (above key t) (16 * n))) v22 (lane k)
      = BitVec.ofNat 32 (cnt (above key t) (16 * n + k.val)) := by
  unfold k0_pay5
  rw [pay3_eq h5 h22]
  exact scan_bits_excl _ _ k

theorem pay6_lane (h5 : ∀ k, v5 (lane k) = t) (h22 : ∀ k : Fin 16, v22 (lane k) = rd key (16 * n + k.val)) (k : Fin 16) :
    k0_pay6 (F := F) v5 (BitVec.ofNat 32 (cnt (level key t) (16 * n))) v22 (lane k)
      = BitVec.ofNat 32 (cnt (level key t) (16 * n + k.val)) := by
  unfold k0_pay6
  rw [pay4_eq h5 h22]
  exact scan_bits_excl _ _ k

theorem andi_one_iff (a b : BitVec 1) : IntOp.andi a b = 1#1 ↔ a = 1#1 ∧ b = 1#1 := by revert a b; decide

theorem pay8_lane (h5 : ∀ k, v5 (lane k) = t) (h22 : ∀ k : Fin 16, v22 (lane k) = rd key (16 * n + k.val)) {v33 : IVec S16 32}
    (h33 : ∀ k : Fin 16, v33 (lane k) = BitVec.ofNat 32 (cnt (above key t) (16 * n + k.val)))
    (hlt : ∀ k : Fin 16, cnt (above key t) (16 * n + k.val) < 640) (k : Fin 16) :
    k0_pay8 (F := F) v5 v22 v33 (lane k) = 1#1 ↔ above key t (16 * n + k.val) := by
  show IntOp.andi (IntOp.cmpi .sgt (v22 (lane k)) (v5 (lane k))) (IntOp.cmpi .slt (v33 (lane k)) 640#32) = 1#1 ↔ _
  have := hlt k
  rw [andi_one_iff, h5, h22, h33, and_iff_left]
  · exact Iff.rfl
  · exact (slt_ofNat_iff _ 640 (by omega) (by omega)).mpr this

theorem pay9_lane (h5 : ∀ k, v5 (lane k) = t) (h22 : ∀ k : Fin 16, v22 (lane k) = rd key (16 * n + k.val)) {v36 : IVec S16 32}
    (h36 : ∀ k : Fin 16, v36 (lane k) = BitVec.ofNat 32 (cnt (level key t) (16 * n + k.val)))
    (hlt : ∀ k : Fin 16, cnt (level key t) (16 * n + k.val) < 640) (k : Fin 16) :
    k0_pay9 (F := F) v5 v22 v36 (lane k) = 1#1 ↔ level key t (16 * n + k.val) := by
  show IntOp.andi (IntOp.cmpi .eq (v22 (lane k)) (v5 (lane k))) (IntOp.cmpi .slt (v36 (lane k)) 640#32) = 1#1 ↔ _
  have := hlt k
  rw [andi_one_iff, h5, h22, h36, and_iff_left]
  · exact Iff.rfl
  · exact (slt_ofNat_iff _ 640 (by omega) (by omega)).mpr this

theorem extract_15 {α : Type} (v : S16.Idx → α) : extractAt ![15] v inpos_S16_p15 = v (lane 15) := by
  show v _ = v _
  congr 1
  funext a
  fin_cases a
  rfl

theorem pay10_run (h5 : ∀ k, v5 (lane k) = t) (h22 : ∀ k : Fin 16, v22 (lane k) = rd key (16 * n + k.val)) :
    Scalar.addi (BitVec.ofNat 32 (cnt (above key t) (16 * n))) (extractAt ![15] (k0_pay10 (k0_pay3 (F := F) v5 v22)) inpos_S16_p15)
      = BitVec.ofNat 32 (cnt (above key t) (16 * (n + 1))) := by
  rw [extract_15, pay3_eq h5 h22, show 16 * (n + 1) = 16 * n + 15 + 1 by omega, ← scan_bits (above key t) (16 * n) 15 (by decide)]
  rfl

theorem pay11_run (h5 : ∀ k, v5 (lane k) = t) (h22 : ∀ k : Fin 16, v22 (lane k) = rd key (16 * n + k.val)) :
    Scalar.addi (BitVec.ofNat 32 (cnt (level key t) (16 * n))) (extractAt ![15] (k0_pay11 (k0_pay4 (F := F) v5 v22)) inpos_S16_p15)
      = BitVec.ofNat 32 (cnt (level key t) (16 * (n + 1))) := by
  rw [extract_15, pay4_eq h5 h22, show 16 * (n + 1) = 16 * n + 15 + 1 by omega, ← scan_bits (level key t) (16 * n) 15 (by decide)]
  rfl

end Scan

theorem pay7_lane (n : Fin k0_t1_loop.trips) (k : Fin 16) :
    k0_pay7 iota16 0#32 1#32 n (lane k) = BitVec.ofNat 32 (16 * n.val + k.val) := base_lane n.val k

theorem pay13_lane (n : Fin k0_t2_loop.trips) (k : Fin 16) :
    k0_pay13 n (lane k) = 4194304#32 + BitVec.ofNat 32 (16 * n.val + k.val) :=
  congrArg (4194304#32 + ·) (base_lane n.val k)

theorem pay15_lane (n : Fin k0_t3_loop.trips) (k : Fin 16) :
    k0_pay15 iota16 0#32 n (lane k) = BitVec.ofNat 32 (16 * n.val + k.val) := base_lane n.val k

theorem pay17_lane (n : Fin k0_t4_loop.trips) (k : Fin 16) :
    k0_pay17 iota16 n (lane k) = BitVec.ofNat 32 (16 * n.val + k.val) := base_lane n.val k

theorem trips3 (n : Fin k0_t3_loop.trips) : n.val < 40 := Nat.lt_of_lt_of_le n.isLt k0_t3_abs.2.1
theorem trips4 (n : Fin k0_t4_loop.trips) : n.val < 40 := Nat.lt_of_lt_of_le n.isLt k0_t4_abs.2.1

theorem pay16_lane (n : Fin k0_t3_loop.trips) (N : ℕ) (hN : N < 640) (k : Fin 16) :
    k0_pay16 (BitVec.ofNat 32 N) (k0_pay15 iota16 0#32 n) (lane k) = 1#1 ↔ 16 * n.val + k.val < N := by
  show IntOp.cmpi .slt (k0_pay15 iota16 0#32 n (lane k)) (BitVec.ofNat 32 N) = 1#1 ↔ _
  have := trips3 n
  have := k.isLt
  rw [pay15_lane]
  exact slt_ofNat_iff _ _ (by omega) (by omega)

/-- A slot number against how many are taken, the difference read signed: where there is no room it is below zero and no slot
    is below it. -/
theorem slt_take (p N₁ N₂ : ℕ) (hp : p < 640) (h₁ : N₁ < 640) (h₂ : N₂ < 640) :
    IntOp.cmpi .slt (BitVec.ofNat 32 p) (Scalar.minsi (BitVec.ofNat 32 N₂) (Scalar.subi 600#32 (BitVec.ofNat 32 N₁))) = 1#1
      ↔ p < min N₂ (600 - N₁) := by
  have hs : (Scalar.subi 600#32 (BitVec.ofNat 32 N₁)).toInt = 600 - (N₁ : ℤ) := by
    show (600#32 - BitVec.ofNat 32 N₁).toInt = _
    rw [BitVec.toInt_sub, toInt_ofNat_small 600 (by omega), toInt_ofNat_small N₁ (by omega)]
    apply Int.bmod_eq_of_le <;> omega
  show BitVec.ofBool (BitVec.slt _ (if BitVec.slt _ _ then _ else _)) = 1#1 ↔ _
  by_cases hc : (BitVec.ofNat 32 N₂).slt (Scalar.subi 600#32 (BitVec.ofNat 32 N₁)) = true
  · rw [if_pos hc, slt_ofNat_iff _ _ (by omega) (by omega)]
    simp only [BitVec.slt, hs, toInt_ofNat_small N₂ (by omega), decide_eq_true_eq] at hc
    omega
  · rw [if_neg hc, ofBool_eq_one_iff]
    simp only [BitVec.slt, hs, toInt_ofNat_small N₂ (by omega), decide_eq_true_eq] at hc
    simp only [BitVec.slt, hs, toInt_ofNat_small p (by omega), decide_eq_true_eq]
    omega

theorem pay18_lane (n : Fin k0_t4_loop.trips) (N₁ N₂ : ℕ) (h₁ : N₁ < 640) (h₂ : N₂ < 640) (k : Fin 16) :
    k0_pay18 iota16 (BitVec.ofNat 32 N₁) (BitVec.ofNat 32 N₂) n (lane k) = 1#1 ↔ 16 * n.val + k.val < min N₂ (600 - N₁) := by
  show IntOp.cmpi .slt (k0_pay17 iota16 n (lane k)) _ = 1#1 ↔ _
  have := trips4 n
  have := k.isLt
  rw [pay17_lane]
  exact slt_take _ _ _ (by omega) h₁ h₂

theorem pay19_lane (n : Fin k0_t4_loop.trips) (N₁ N₂ : ℕ) (h₁ : N₁ < 640) (h₂ : N₂ < 640) (k : Fin 16) :
    k0_pay19 iota16 (BitVec.ofNat 32 N₁) (BitVec.ofNat 32 N₂) n (lane k)
      = if 16 * n.val + k.val < min N₂ (600 - N₁) then BitVec.ofNat 32 (N₁ + (16 * n.val + k.val)) else 0#32 := by
  show Scalar.select (k0_pay18 iota16 (BitVec.ofNat 32 N₁) (BitVec.ofNat 32 N₂) n (lane k))
    (BitVec.ofNat 32 N₁ + k0_pay17 iota16 n (lane k)) 0#32 = _
  rw [pay17_lane, ← BitVec.ofNat_add]
  exact if_congr (pay18_lane n N₁ N₂ h₁ h₂ k) rfl rfl

/-! ## The stores' indices are slots of the buffers -/

theorem inb_of_lanes {v : IVec S16 32} (h : ∀ k, (v (lane k)).toNat < 640) :
    ∀ a x, ((![v] : Fin 1 → IVec S16 32) a x).toNat < S640.size a := by
  intro a x
  fin_cases a
  show (v x).toNat < 640
  rw [eq_lane x]; exact h _

theorem toNat_lt_640 {n : ℕ} (h : n < 640) : (BitVec.ofNat 32 n).toNat < 640 := by
  rw [BitVec.toNat_ofNat]; omega

theorem chk1_of (L : grid0.Coords) {v : IVec S16 32} (h : ∀ k, (v (lane k)).toNat < 640) : k0_chk1 L v :=
  have := inb_of_lanes h
  ⟨fun _ => this, fun _ => this, fun _ => this, fun _ => this, fun _ => this, fun _ => this⟩

theorem chk2_of (L : grid0.Coords) {v : IVec S16 32} (h : ∀ k, (v (lane k)).toNat < 640) : k0_chk2 L v :=
  have := inb_of_lanes h
  ⟨fun _ => this, fun _ => this, fun _ => this, fun _ => this, fun _ => this, fun _ => this⟩

theorem chk3_of (L : grid0.Coords) (n : Fin k0_t3_loop.trips) : k0_chk3 L (k0_pay15 iota16 0#32 n) :=
  have := inb_of_lanes (v := k0_pay15 iota16 0#32 n) fun k => by
    have := trips3 n
    have := k.isLt
    rw [pay15_lane]; exact toNat_lt_640 (by omega)
  ⟨fun _ => this, fun _ => this, fun _ => this, fun _ => this, fun _ => this, fun _ => this⟩

theorem chk4_of (L : grid0.Coords) (n : Fin k0_t4_loop.trips) (N₁ N₂ : ℕ) (h₁ : N₁ < 640) (h₂ : N₂ < 640) :
    k0_chk4 L (k0_pay19 iota16 (BitVec.ofNat 32 N₁) (BitVec.ofNat 32 N₂) n) :=
  have := inb_of_lanes (v := k0_pay19 iota16 (BitVec.ofNat 32 N₁) (BitVec.ofNat 32 N₂) n) fun k => by
    rw [pay19_lane n N₁ N₂ h₁ h₂]
    split
    · exact toNat_lt_640 (by omega)
    · decide
  ⟨fun _ => this, fun _ => this, fun _ => this, fun _ => this, fun _ => this, fun _ => this⟩

/-! ## Sixteen elements of a buffer -/

/-- Where lane `k` of an access of sixteen at `n` lies. -/
theorem emb_16 {N : ℕ} {off : Fin 1 → ℕ} {n : ℕ} (h : off = ![n]) (inb : ∀ a, off a + S16.size a ≤ (⟨1, ![N]⟩ : Shape).size a)
    (k : Fin 16) (hk : n + k.val < N) :
    (Rect.unit (s := ⟨1, ![N]⟩) off S16.size inb).emb (lane k) = ix1 ⟨n + k.val, hk⟩ := by
  subst h
  funext a
  fin_cases a
  exact Fin.ext (by show n + 1 * k.val = n + k.val; omega)

end Cert.Proof.Select
-- ==== Proof.Trips.lean ====
/-
  The kernel's four loops, one trip at a time: what each leaves in the task's buffers. The scan keeps, in a buffer for the
  elements above and one for those level, every element seen so far at its rank; the pad sets the packed rows; the two copies
  fill them from those buffers.
-/
module

public import proofs.«01_k».proof.Proof.Lanes
public import Idealize.ShloMosaic.Lib.WritesUnit

@[expose] public section

noncomputable section

namespace Cert.Proof.Select

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## One masked indexed store into a whole buffer of 640 -/

/-- The store, over a buffer held whole: it continues at the scatter of what was there. (`toV` and `ofV` say that the buffer's
    contents and the memref's vector are the same thing; at a whole buffer both are the identity.) -/
theorem wp_put (d : Dev nD) (L : grid0.Coords) {e : EltTy} {base : Memref sig (thr d L).2.kind .vmem S640 e} {ix : IVec S16 32}
    {v : Vec F S16 e} {mask : IVec S16 1} {h : ∀ a x, ((![ix] : Fin 1 → IVec S16 32) a x).toNat < S640.size a}
    {hs : (base.access (.whole S640)).Stores Finset.univ}
    {α : Type} {k : PUnit → Prog (TpuEff nD τ sig (Elt F) Λ₀ (thr d L).2) α} {Q : α → sProp (𝕄 F)}
    {toV : Buf (Elt F) (base.view.loc (thr d L)) → Vec F S640 e} {ofV : Vec F S640 e → Buf (Elt F) (base.view.loc (thr d L))}
    (hset : (base.access (.whole S640)).set = Finset.univ)
    (hr : ∀ f, (base.access (.whole S640)).read (Elt F) f = toV f)
    (hw : ∀ f w, (base.access (.whole S640)).write (Elt F) f w Finset.univ = ofV w)
    {f : Buf (Elt F) (base.view.loc (thr d L))} :
    (base.view.loc (thr d L) ↦{fullShare} f)
      ⊢ iprop(((base.view.loc (thr d L) ↦{fullShare} ofV (storeIdx (toV f) ![ix] v mask false h))
          -∗ wp frame (wpE (defs₀ (F := F)) 𝒱₀ (thr d L) none) Set.univ (k ⟨⟩) Q)
        -∗ wp frame (wpE (defs₀ (F := F)) 𝒱₀ (thr d L) none) Set.univ (SparseCore.vectorStoreIdx base ![ix] v mask false h hs >>= k) Q) := by
  have := SparseCore.wp_vectorStoreIdx (defs := defs₀ (F := F)) 𝒱₀ (thr d L) none Set.univ (base := base) (idxs := ![ix]) (v := v) (mask := mask)
    (add := false) (h := h) (hs := hs) (k := k) (Q := Q) (f := f)
  rw [hset, hr, hw] at this
  exact this

/-! ## Sixteen elements loaded -/

theorem load_row {α : Type} (f : S9216.Idx → α) {off : Fin 1 → ℕ} {n : ℕ} (h : off = ![n])
    (inb : ∀ a, off a + S16.size a ≤ S9216.size a) (hn : n + 16 ≤ 9216) (k : Fin 16) :
    f ((Rect.unit (s := S9216) off S16.size inb).emb (lane k)) = rd f (n + k.val) := by
  have hk : n + k.val < 9216 := by have := k.isLt; omega
  rw [rd_of_lt _ hk]
  exact congrArg f (emb_16 h inb k hk)

theorem load_slot {α : Type} (f : S640.Idx → α) {off : Fin 1 → ℕ} {n : ℕ} (h : off = ![n])
    (inb : ∀ a, off a + S16.size a ≤ S640.size a) (k : Fin 16) (hk : n + k.val < 640) :
    f ((Rect.unit (s := S640) off S16.size inb).emb (lane k)) = f (ix1 ⟨n + k.val, hk⟩) :=
  congrArg f (emb_16 h inb k hk)

/-! ## The task's row -/

/-- What the task has of its row: the six arrays' rows and the threshold. -/
structure Row (F : FTy → Type) where
  S : Vec F S9216 .f32
  K : IVec S9216 32
  A : Vec F S9216 .f32
  B : Vec F S9216 .f32
  C : Vec F S9216 .f32
  D : Vec F S9216 .f32
  t : BitVec 32

/-- The positions of the row, as words. -/
def posRow : IVec S9216 32 := fun x => BitVec.ofNat 32 (x 0).val

theorem rd_posRow {i : ℕ} (h : i < 9216) : rd posRow i = BitVec.ofNat 32 i := rd_of_lt posRow h

/-- What an unfilled slot holds: the score minus infinity, the index past every index, the edges zero. -/
def padS : ℕ → F .f32 := fun _ => Scalar.ofBits .f32 0xFF800000#32
def padK : ℕ → BitVec 32 := fun j => 4194304#32 + BitVec.ofNat 32 j
def padE : ℕ → F .f32 := fun _ => Scalar.ofBits .f32 0x00000000#32

/-- At most 639 of the row are above the threshold, and at most 639 level with it: every rank is a slot. -/
structure Row.Fits (R : Row F) : Prop where
  gt : nGt R.K R.t < 640
  eq : nEq R.K R.t < 640

section Assertions

variable (d : Dev nD) (L : grid0.Coords) (R : Row F)

/-- The row's six arrays, in the task's memory. -/
def rowPts : sProp (𝕄 F) :=
  iprop(((rowS).view.loc (thr d L) ↦{fullShare} R.S)
    ∗ ((rowK).view.loc (thr d L) ↦{fullShare} R.K)
    ∗ ((rowA).view.loc (thr d L) ↦{fullShare} R.A)
    ∗ ((rowB).view.loc (thr d L) ↦{fullShare} R.B)
    ∗ ((rowC).view.loc (thr d L) ↦{fullShare} R.C)
    ∗ ((rowD).view.loc (thr d L) ↦{fullShare} R.D))

/-- The buffers of those above, every one of the first `n` positions' at its rank. -/
def abvPts (n : ℕ) : sProp (𝕄 F) :=
  iprop((∃ f, ⌜Slots (above R.K R.t) R.S n f⌝ ∗ (abvS).view.loc (thr d L) ↦{fullShare} f)
    ∗ (∃ f, ⌜Slots (above R.K R.t) posRow n f⌝ ∗ (abvK).view.loc (thr d L) ↦{fullShare} f)
    ∗ (∃ f, ⌜Slots (above R.K R.t) R.A n f⌝ ∗ (abvA).view.loc (thr d L) ↦{fullShare} f)
    ∗ (∃ f, ⌜Slots (above R.K R.t) R.B n f⌝ ∗ (abvB).view.loc (thr d L) ↦{fullShare} f)
    ∗ (∃ f, ⌜Slots (above R.K R.t) R.C n f⌝ ∗ (abvC).view.loc (thr d L) ↦{fullShare} f)
    ∗ (∃ f, ⌜Slots (above R.K R.t) R.D n f⌝ ∗ (abvD).view.loc (thr d L) ↦{fullShare} f))

/-- The buffers of those level, likewise. -/
def levPts (n : ℕ) : sProp (𝕄 F) :=
  iprop((∃ f, ⌜Slots (level R.K R.t) R.S n f⌝ ∗ (levS).view.loc (thr d L) ↦{fullShare} f)
    ∗ (∃ f, ⌜Slots (level R.K R.t) posRow n f⌝ ∗ (levK).view.loc (thr d L) ↦{fullShare} f)
    ∗ (∃ f, ⌜Slots (level R.K R.t) R.A n f⌝ ∗ (levA).view.loc (thr d L) ↦{fullShare} f)
    ∗ (∃ f, ⌜Slots (level R.K R.t) R.B n f⌝ ∗ (levB).view.loc (thr d L) ↦{fullShare} f)
    ∗ (∃ f, ⌜Slots (level R.K R.t) R.C n f⌝ ∗ (levC).view.loc (thr d L) ↦{fullShare} f)
    ∗ (∃ f, ⌜Slots (level R.K R.t) R.D n f⌝ ∗ (levD).view.loc (thr d L) ↦{fullShare} f))

/-- The packed rows, filled up to `lim`. -/
def pckPts (lim : ℕ) : sProp (𝕄 F) :=
  iprop((∃ f, ⌜Filled R.K R.t R.S padS lim f⌝ ∗ (pckS).view.loc (thr d L) ↦{fullShare} f)
    ∗ (∃ f, ⌜Filled R.K R.t posRow padK lim f⌝ ∗ (pckK).view.loc (thr d L) ↦{fullShare} f)
    ∗ (∃ f, ⌜Filled R.K R.t R.A padE lim f⌝ ∗ (pckA).view.loc (thr d L) ↦{fullShare} f)
    ∗ (∃ f, ⌜Filled R.K R.t R.B padE lim f⌝ ∗ (pckB).view.loc (thr d L) ↦{fullShare} f)
    ∗ (∃ f, ⌜Filled R.K R.t R.C padE lim f⌝ ∗ (pckC).view.loc (thr d L) ↦{fullShare} f)
    ∗ (∃ f, ⌜Filled R.K R.t R.D padE lim f⌝ ∗ (pckD).view.loc (thr d L) ↦{fullShare} f))

/-- The packed rows, padded below `n`. -/
def padPts (n : ℕ) : sProp (𝕄 F) :=
  iprop((∃ f, ⌜∀ j : S640.Idx, (j 0).val < n → f j = padS (j 0).val⌝ ∗ (pckS).view.loc (thr d L) ↦{fullShare} f)
    ∗ (∃ f, ⌜∀ j : S640.Idx, (j 0).val < n → f j = padK (j 0).val⌝ ∗ (pckK).view.loc (thr d L) ↦{fullShare} f)
    ∗ (∃ f, ⌜∀ j : S640.Idx, (j 0).val < n → f j = padE (j 0).val⌝ ∗ (pckA).view.loc (thr d L) ↦{fullShare} f)
    ∗ (∃ f, ⌜∀ j : S640.Idx, (j 0).val < n → f j = padE (j 0).val⌝ ∗ (pckB).view.loc (thr d L) ↦{fullShare} f)
    ∗ (∃ f, ⌜∀ j : S640.Idx, (j 0).val < n → f j = padE (j 0).val⌝ ∗ (pckC).view.loc (thr d L) ↦{fullShare} f)
    ∗ (∃ f, ⌜∀ j : S640.Idx, (j 0).val < n → f j = padE (j 0).val⌝ ∗ (pckD).view.loc (thr d L) ↦{fullShare} f))

/-- The counts before the scan's trip `n`. -/
def runs (n : ℕ) : BitVec 32 × BitVec 32 :=
  (BitVec.ofNat 32 (cnt (above R.K R.t) (16 * n)), BitVec.ofNat 32 (cnt (level R.K R.t) (16 * n)))

def scanInv (n : ℕ) (acc : BitVec 32 × BitVec 32) : sProp (𝕄 F) :=
  iprop(⌜acc = runs R n⌝ ∗ rowPts d L R ∗ abvPts d L R (16 * n) ∗ levPts d L R (16 * n))
def padInv (n : ℕ) (_ : BitVec 32) : sProp (𝕄 F) := padPts d L (16 * n)
def copyInv (n : ℕ) (_ : BitVec 32) : sProp (𝕄 F) :=
  iprop(pckPts d L R (0 + min (16 * n) (nGt R.K R.t)) ∗ abvPts d L R 9216)
def takeInv (n : ℕ) (_ : BitVec 32) : sProp (𝕄 F) :=
  iprop(pckPts d L R (nGt R.K R.t + min (16 * n) (nTake R.K R.t)) ∗ levPts d L R 9216)

end Assertions

/-! ## The trips -/

section Trips

variable (d : Dev nD) (L : grid0.Coords) (h1 : k0_cond1 L = 1#1) (R : Row F)

theorem trips1 (n : Fin k0_t1_loop.trips) : n.val < 576 := Nat.lt_of_lt_of_le n.isLt k0_t1_abs.2.1
theorem trips2 (n : Fin k0_t2_loop.trips) : n.val < 40 := Nat.lt_of_lt_of_le n.isLt k0_t2_abs.2.1

/-- Sixteen slots padded. -/
theorem pad_store {α : Type} {pad : ℕ → α} {f g : S640.Idx → α} {n : ℕ}
    (hf : ∀ j : S640.Idx, (j 0).val < 16 * n → f j = pad (j 0).val) (v : S16.Idx → α)
    (hv : ∀ k : Fin 16, v (lane k) = pad (16 * n + k.val))
    (hin : ∀ (j : S640.Idx) (k : Fin 16), (j 0).val = 16 * n + k.val → g j = v (lane k))
    (hout : ∀ j : S640.Idx, (j 0).val < 16 * n → g j = f j) :
    ∀ j : S640.Idx, (j 0).val < 16 * (n + 1) → g j = pad (j 0).val := by
  intro j hj
  by_cases h : (j 0).val < 16 * n
  · rw [hout j h, hf j h]
  · have hk : (j 0).val - 16 * n < 16 := by omega
    rw [hin j ⟨(j 0).val - 16 * n, hk⟩ (by show _ = 16 * n + ((j 0).val - 16 * n); omega), hv]
    show pad (16 * n + ((j 0).val - 16 * n)) = _
    congr 1; omega

theorem unit_in {e : EltTy} (v : View sig .scVector .vmem S640 e) (f : v.ty.Contents (Elt F)) {off : Fin 1 → ℕ} {n : ℕ}
    (h : off = ![16 * n]) (inb : ∀ a, off a + S16.size a ≤ S640.size a) (w : S16.Idx → Elt F e) (j : S640.Idx) (k : Fin 16)
    (hj : (j 0).val = 16 * n + k.val) :
    v.read (Elt F) (v.writes (Elt F) f [⟨Rect.unit off S16.size inb, w⟩]) j = w (lane k) :=
  View.read_writes_cons_unit_of_mem v f inb w [] j (lane k) h fun a => by fin_cases a; exact hj

theorem unit_out {e : EltTy} (v : View sig .scVector .vmem S640 e) (f : v.ty.Contents (Elt F)) {off : Fin 1 → ℕ} {n : ℕ}
    (h : off = ![16 * n]) (inb : ∀ a, off a + S16.size a ≤ S640.size a) (w : S16.Idx → Elt F e) (j : S640.Idx)
    (hj : (j 0).val < 16 * n) :
    v.read (Elt F) (v.writes (Elt F) f [⟨Rect.unit off S16.size inb, w⟩]) j = v.read (Elt F) f j :=
  View.read_writes_cons_unit_of_not_mem v f inb w [] j h 0 (.inl hj)

theorem pad_trip (n : Fin k0_t2_loop.trips) (acc : BitVec 32) :
    padInv (F := F) d L n.val acc
      ⊢ wp frame (wpE (defs₀ (F := F)) 𝒱₀ (thr d L) none) Set.univ (trip2 (F := F) L h1 n acc) (padInv d L (n.val + 1)) := by
  unfold padInv padPts trip2 k0_t2_body
  iintro ⟨⟨%fS, %hS, HS⟩, ⟨%fK, %hK, HK⟩, ⟨%fA, %hA, HA⟩, ⟨%fB, %hB, HB⟩, ⟨%fC, %hC, HC⟩, ⟨%fD, %hD, HD⟩⟩
  sl_exec
  sl_step
  isplitl [HS]
  · iexists _; isplitr
    · ipureintro
      exact pad_store hS k0_pay12 (fun _ => rfl)
        (fun j k hj => unit_in (pckS).view fS (k0_off6_eq n) (k0_off6_inb L n h1) k0_pay12 j k hj)
        (fun j hj => unit_out (pckS).view fS (k0_off6_eq n) (k0_off6_inb L n h1) k0_pay12 j hj)
    iexact HS
  isplitl [HK]
  · iexists _; isplitr
    · ipureintro
      exact pad_store hK (k0_pay13 n) (fun k => pay13_lane n k)
        (fun j k hj => unit_in (pckK).view fK (k0_off6_eq n) (k0_off6_inb L n h1) (k0_pay13 n) j k hj)
        (fun j hj => unit_out (pckK).view fK (k0_off6_eq n) (k0_off6_inb L n h1) (k0_pay13 n) j hj)
    iexact HK
  isplitl [HA]
  · iexists _; isplitr
    · ipureintro
      exact pad_store hA k0_pay14 (fun _ => rfl)
        (fun j k hj => unit_in (pckA).view fA (k0_off6_eq n) (k0_off6_inb L n h1) k0_pay14 j k hj)
        (fun j hj => unit_out (pckA).view fA (k0_off6_eq n) (k0_off6_inb L n h1) k0_pay14 j hj)
    iexact HA
  isplitl [HB]
  · iexists _; isplitr
    · ipureintro
      exact pad_store hB k0_pay14 (fun _ => rfl)
        (fun j k hj => unit_in (pckB).view fB (k0_off6_eq n) (k0_off6_inb L n h1) k0_pay14 j k hj)
        (fun j hj => unit_out (pckB).view fB (k0_off6_eq n) (k0_off6_inb L n h1) k0_pay14 j hj)
    iexact HB
  isplitl [HC]
  · iexists _; isplitr
    · ipureintro
      exact pad_store hC k0_pay14 (fun _ => rfl)
        (fun j k hj => unit_in (pckC).view fC (k0_off6_eq n) (k0_off6_inb L n h1) k0_pay14 j k hj)
        (fun j hj => unit_out (pckC).view fC (k0_off6_eq n) (k0_off6_inb L n h1) k0_pay14 j hj)
    iexact HC
  · iexists _; isplitr
    · ipureintro
      exact pad_store hD k0_pay14 (fun _ => rfl)
        (fun j k hj => unit_in (pckD).view fD (k0_off6_eq n) (k0_off6_inb L n h1) k0_pay14 j k hj)
        (fun j hj => unit_out (pckD).view fD (k0_off6_eq n) (k0_off6_inb L n h1) k0_pay14 j hj)
    iexact HD

theorem copy_trip (hR : R.Fits) (n : Fin k0_t3_loop.trips) (acc n₂ : BitVec 32) :
    copyInv d L R n.val acc
      ⊢ wp frame (wpE (defs₀ (F := F)) 𝒱₀ (thr d L) none) Set.univ
          (trip3 (F := F) L h1 iota16 (BitVec.ofNat 32 (nGt R.K R.t)) n₂ n acc) (copyInv d L R (n.val + 1)) := by
  have hw := chk3_of L n
  have hn := trips3 n
  have hN := hR.gt
  have hN0 : 0 + nGt R.K R.t < 640 := by omega
  have hm : ∀ k : Fin 16, k0_pay16 (BitVec.ofNat 32 (nGt R.K R.t)) (k0_pay15 iota16 0#32 n) (lane k) = 1#1
      ↔ 16 * n.val + k.val < nGt R.K R.t := fun k => pay16_lane n _ hN k
  have hix : ∀ k : Fin 16, 16 * n.val + k.val < nGt R.K R.t →
      k0_pay15 iota16 0#32 n (lane k) = BitVec.ofNat 32 (0 + (16 * n.val + k.val)) := fun k _ => by rw [pay15_lane, Nat.zero_add]
  have hsl : ∀ k : Fin 16, 16 * n.val + k.val < 640 := fun k => by have := k.isLt; omega
  unfold copyInv pckPts abvPts trip3 k0_t3_body
  iintro ⟨⟨⟨%fS, %hS, HS⟩, ⟨%fK, %hK, HK⟩, ⟨%fA, %hA, HA⟩, ⟨%fB, %hB, HB⟩, ⟨%fC, %hC, HC⟩, ⟨%fD, %hD, HD⟩⟩, ⟨%gS, %iS, GS⟩, ⟨%gK, %iK, GK⟩, ⟨%gA, %iA, GA⟩, ⟨%gB, %iB, GB⟩, ⟨%gC, %iC, GC⟩, ⟨%gD, %iD, GD⟩⟩
  sl_exec (disch := exact hw)
  iapply (wp_put (F := F) d L (base := pckS) (toV := fun f => f) (ofV := fun f => f) (Memref.set_access_whole cc0_scratch19) (Memref.read_access_whole (Elt F) cc0_scratch19) (Memref.write_access_whole_univ (Elt F) cc0_scratch19)) $$ HS
  iintro HS
  sl_exec (disch := exact hw)
  iapply (wp_put (F := F) d L (base := pckK) (toV := fun f => f) (ofV := fun f => f) (Memref.set_access_whole cc0_scratch20) (Memref.read_access_whole (Elt F) cc0_scratch20) (Memref.write_access_whole_univ (Elt F) cc0_scratch20)) $$ HK
  iintro HK
  sl_exec (disch := exact hw)
  iapply (wp_put (F := F) d L (base := pckA) (toV := fun f => f) (ofV := fun f => f) (Memref.set_access_whole cc0_scratch21) (Memref.read_access_whole (Elt F) cc0_scratch21) (Memref.write_access_whole_univ (Elt F) cc0_scratch21)) $$ HA
  iintro HA
  sl_exec (disch := exact hw)
  iapply (wp_put (F := F) d L (base := pckB) (toV := fun f => f) (ofV := fun f => f) (Memref.set_access_whole cc0_scratch22) (Memref.read_access_whole (Elt F) cc0_scratch22) (Memref.write_access_whole_univ (Elt F) cc0_scratch22)) $$ HB
  iintro HB
  sl_exec (disch := exact hw)
  iapply (wp_put (F := F) d L (base := pckC) (toV := fun f => f) (ofV := fun f => f) (Memref.set_access_whole cc0_scratch23) (Memref.read_access_whole (Elt F) cc0_scratch23) (Memref.write_access_whole_univ (Elt F) cc0_scratch23)) $$ HC
  iintro HC
  sl_exec (disch := exact hw)
  iapply (wp_put (F := F) d L (base := pckD) (toV := fun f => f) (ofV := fun f => f) (Memref.set_access_whole cc0_scratch24) (Memref.read_access_whole (Elt F) cc0_scratch24) (Memref.write_access_whole_univ (Elt F) cc0_scratch24)) $$ HD
  iintro HD
  sl_exec
  sl_step
  isplitl [HS HK HA HB HC HD]
  · isplitl [HS]
    · iexists _; isplitr
      · ipureintro
        exact Filled.store (F := F) (e := .f32) hS (n := 16 * n.val) (hN0) _ (fun x => gS ((Rect.unit (s := S640) (k0_off7 n) S16.size (k0_off7_inb L n h1)).emb x)) _ (hw.1 h1)
          (hm) (hix) (fun k hk => (load_slot gS (k0_off7_eq n) (k0_off7_inb L n h1) k (hsl k)).trans (by rw [Nat.zero_add]; exact iS.get_above _ hk _))
      iexact HS
    isplitl [HK]
    · iexists _; isplitr
      · ipureintro
        exact Filled.store (F := F) (e := .i32) hK (n := 16 * n.val) (hN0) _ (fun x => gK ((Rect.unit (s := S640) (k0_off8 n) S16.size (k0_off8_inb L n h1)).emb x)) _ (hw.1 h1)
          (hm) (hix) (fun k hk => (load_slot gK (k0_off8_eq n) (k0_off8_inb L n h1) k (hsl k)).trans (by rw [Nat.zero_add]; exact iK.get_above _ hk _))
      iexact HK
    isplitl [HA]
    · iexists _; isplitr
      · ipureintro
        exact Filled.store (F := F) (e := .f32) hA (n := 16 * n.val) (hN0) _ (fun x => gA ((Rect.unit (s := S640) (k0_off8 n) S16.size (k0_off8_inb L n h1)).emb x)) _ (hw.1 h1)
          (hm) (hix) (fun k hk => (load_slot gA (k0_off8_eq n) (k0_off8_inb L n h1) k (hsl k)).trans (by rw [Nat.zero_add]; exact iA.get_above _ hk _))
      iexact HA
    isplitl [HB]
    · iexists _; isplitr
      · ipureintro
        exact Filled.store (F := F) (e := .f32) hB (n := 16 * n.val) (hN0) _ (fun x => gB ((Rect.unit (s := S640) (k0_off8 n) S16.size (k0_off8_inb L n h1)).emb x)) _ (hw.1 h1)
          (hm) (hix) (fun k hk => (load_slot gB (k0_off8_eq n) (k0_off8_inb L n h1) k (hsl k)).trans (by rw [Nat.zero_add]; exact iB.get_above _ hk _))
      iexact HB
    isplitl [HC]
    · iexists _; isplitr
      · ipureintro
        exact Filled.store (F := F) (e := .f32) hC (n := 16 * n.val) (hN0) _ (fun x => gC ((Rect.unit (s := S640) (k0_off8 n) S16.size (k0_off8_inb L n h1)).emb x)) _ (hw.1 h1)
          (hm) (hix) (fun k hk => (load_slot gC (k0_off8_eq n) (k0_off8_inb L n h1) k (hsl k)).trans (by rw [Nat.zero_add]; exact iC.get_above _ hk _))
      iexact HC
    · iexists _; isplitr
      · ipureintro
        exact Filled.store (F := F) (e := .f32) hD (n := 16 * n.val) (hN0) _ (fun x => gD ((Rect.unit (s := S640) (k0_off8 n) S16.size (k0_off8_inb L n h1)).emb x)) _ (hw.1 h1)
          (hm) (hix) (fun k hk => (load_slot gD (k0_off8_eq n) (k0_off8_inb L n h1) k (hsl k)).trans (by rw [Nat.zero_add]; exact iD.get_above _ hk _))
      iexact HD
  isplitl [GS]
  · iexists _; isplitr
    · ipureintro; exact iS
    iexact GS
  isplitl [GK]
  · iexists _; isplitr
    · ipureintro; exact iK
    iexact GK
  isplitl [GA]
  · iexists _; isplitr
    · ipureintro; exact iA
    iexact GA
  isplitl [GB]
  · iexists _; isplitr
    · ipureintro; exact iB
    iexact GB
  isplitl [GC]
  · iexists _; isplitr
    · ipureintro; exact iC
    iexact GC
  iexists _; isplitr
  · ipureintro; exact iD
  iexact GD

theorem take_trip (hR : R.Fits) (n : Fin k0_t4_loop.trips) (acc : BitVec 32) :
    takeInv d L R n.val acc
      ⊢ wp frame (wpE (defs₀ (F := F)) 𝒱₀ (thr d L) none) Set.univ
          (trip4 (F := F) L h1 iota16 (BitVec.ofNat 32 (nGt R.K R.t)) (BitVec.ofNat 32 (nEq R.K R.t)) n acc)
          (takeInv d L R (n.val + 1)) := by
  have hw := chk4_of L n _ _ hR.gt hR.eq
  have hn := trips4 n
  have hN := hR.gt
  have hN' := hR.eq
  have hT : nTake R.K R.t = min (nEq R.K R.t) (600 - nGt R.K R.t) := rfl
  have hN0 : nGt R.K R.t + nTake R.K R.t < 640 := by rw [hT]; omega
  have hle : ∀ q, q < nTake R.K R.t → q < nEq R.K R.t := fun q h => by rw [hT] at h; omega
  have hsl : ∀ k : Fin 16, 16 * n.val + k.val < 640 := fun k => by have := k.isLt; omega
  have hm : ∀ k : Fin 16, k0_pay18 iota16 (BitVec.ofNat 32 (nGt R.K R.t)) (BitVec.ofNat 32 (nEq R.K R.t)) n (lane k) = 1#1
      ↔ 16 * n.val + k.val < nTake R.K R.t := fun k => pay18_lane n _ _ hR.gt hR.eq k
  have hix : ∀ k : Fin 16, 16 * n.val + k.val < nTake R.K R.t
      → k0_pay19 iota16 (BitVec.ofNat 32 (nGt R.K R.t)) (BitVec.ofNat 32 (nEq R.K R.t)) n (lane k)
        = BitVec.ofNat 32 (nGt R.K R.t + (16 * n.val + k.val)) := fun k hk => by
    rw [pay19_lane n _ _ hR.gt hR.eq k]; exact if_pos hk
  unfold takeInv pckPts levPts trip4 k0_t4_body
  iintro ⟨⟨⟨%fS, %hS, HS⟩, ⟨%fK, %hK, HK⟩, ⟨%fA, %hA, HA⟩, ⟨%fB, %hB, HB⟩, ⟨%fC, %hC, HC⟩, ⟨%fD, %hD, HD⟩⟩, ⟨%gS, %iS, GS⟩, ⟨%gK, %iK, GK⟩, ⟨%gA, %iA, GA⟩, ⟨%gB, %iB, GB⟩, ⟨%gC, %iC, GC⟩, ⟨%gD, %iD, GD⟩⟩
  sl_exec (disch := exact hw)
  iapply (wp_put (F := F) d L (base := pckS) (toV := fun f => f) (ofV := fun f => f) (Memref.set_access_whole cc0_scratch19) (Memref.read_access_whole (Elt F) cc0_scratch19) (Memref.write_access_whole_univ (Elt F) cc0_scratch19)) $$ HS
  iintro HS
  sl_exec (disch := exact hw)
  iapply (wp_put (F := F) d L (base := pckK) (toV := fun f => f) (ofV := fun f => f) (Memref.set_access_whole cc0_scratch20) (Memref.read_access_whole (Elt F) cc0_scratch20) (Memref.write_access_whole_univ (Elt F) cc0_scratch20)) $$ HK
  iintro HK
  sl_exec (disch := exact hw)
  iapply (wp_put (F := F) d L (base := pckA) (toV := fun f => f) (ofV := fun f => f) (Memref.set_access_whole cc0_scratch21) (Memref.read_access_whole (Elt F) cc0_scratch21) (Memref.write_access_whole_univ (Elt F) cc0_scratch21)) $$ HA
  iintro HA
  sl_exec (disch := exact hw)
  iapply (wp_put (F := F) d L (base := pckB) (toV := fun f => f) (ofV := fun f => f) (Memref.set_access_whole cc0_scratch22) (Memref.read_access_whole (Elt F) cc0_scratch22) (Memref.write_access_whole_univ (Elt F) cc0_scratch22)) $$ HB
  iintro HB
  sl_exec (disch := exact hw)
  iapply (wp_put (F := F) d L (base := pckC) (toV := fun f => f) (ofV := fun f => f) (Memref.set_access_whole cc0_scratch23) (Memref.read_access_whole (Elt F) cc0_scratch23) (Memref.write_access_whole_univ (Elt F) cc0_scratch23)) $$ HC
  iintro HC
  sl_exec (disch := exact hw)
  iapply (wp_put (F := F) d L (base := pckD) (toV := fun f => f) (ofV := fun f => f) (Memref.set_access_whole cc0_scratch24) (Memref.read_access_whole (Elt F) cc0_scratch24) (Memref.write_access_whole_univ (Elt F) cc0_scratch24)) $$ HD
  iintro HD
  sl_exec
  sl_step
  isplitl [HS HK HA HB HC HD]
  · isplitl [HS]
    · iexists _; isplitr
      · ipureintro
        exact Filled.store (F := F) (e := .f32) hS (n := 16 * n.val) (hN0) _ (fun x => gS ((Rect.unit (s := S640) (k0_off9 n) S16.size (k0_off9_inb L n h1)).emb x)) _ (hw.1 h1)
          (hm) (hix) (fun k hk => (load_slot gS (k0_off9_eq n) (k0_off9_inb L n h1) k (hsl k)).trans (iS.get_level _ (hle _ hk) _))
      iexact HS
    isplitl [HK]
    · iexists _; isplitr
      · ipureintro
        exact Filled.store (F := F) (e := .i32) hK (n := 16 * n.val) (hN0) _ (fun x => gK ((Rect.unit (s := S640) (k0_off10 n) S16.size (k0_off10_inb L n h1)).emb x)) _ (hw.1 h1)
          (hm) (hix) (fun k hk => (load_slot gK (k0_off10_eq n) (k0_off10_inb L n h1) k (hsl k)).trans (iK.get_level _ (hle _ hk) _))
      iexact HK
    isplitl [HA]
    · iexists _; isplitr
      · ipureintro
        exact Filled.store (F := F) (e := .f32) hA (n := 16 * n.val) (hN0) _ (fun x => gA ((Rect.unit (s := S640) (k0_off10 n) S16.size (k0_off10_inb L n h1)).emb x)) _ (hw.1 h1)
          (hm) (hix) (fun k hk => (load_slot gA (k0_off10_eq n) (k0_off10_inb L n h1) k (hsl k)).trans (iA.get_level _ (hle _ hk) _))
      iexact HA
    isplitl [HB]
    · iexists _; isplitr
      · ipureintro
        exact Filled.store (F := F) (e := .f32) hB (n := 16 * n.val) (hN0) _ (fun x => gB ((Rect.unit (s := S640) (k0_off10 n) S16.size (k0_off10_inb L n h1)).emb x)) _ (hw.1 h1)
          (hm) (hix) (fun k hk => (load_slot gB (k0_off10_eq n) (k0_off10_inb L n h1) k (hsl k)).trans (iB.get_level _ (hle _ hk) _))
      iexact HB
    isplitl [HC]
    · iexists _; isplitr
      · ipureintro
        exact Filled.store (F := F) (e := .f32) hC (n := 16 * n.val) (hN0) _ (fun x => gC ((Rect.unit (s := S640) (k0_off10 n) S16.size (k0_off10_inb L n h1)).emb x)) _ (hw.1 h1)
          (hm) (hix) (fun k hk => (load_slot gC (k0_off10_eq n) (k0_off10_inb L n h1) k (hsl k)).trans (iC.get_level _ (hle _ hk) _))
      iexact HC
    · iexists _; isplitr
      · ipureintro
        exact Filled.store (F := F) (e := .f32) hD (n := 16 * n.val) (hN0) _ (fun x => gD ((Rect.unit (s := S640) (k0_off10 n) S16.size (k0_off10_inb L n h1)).emb x)) _ (hw.1 h1)
          (hm) (hix) (fun k hk => (load_slot gD (k0_off10_eq n) (k0_off10_inb L n h1) k (hsl k)).trans (iD.get_level _ (hle _ hk) _))
      iexact HD
  isplitl [GS]
  · iexists _; isplitr
    · ipureintro; exact iS
    iexact GS
  isplitl [GK]
  · iexists _; isplitr
    · ipureintro; exact iK
    iexact GK
  isplitl [GA]
  · iexists _; isplitr
    · ipureintro; exact iA
    iexact GA
  isplitl [GB]
  · iexists _; isplitr
    · ipureintro; exact iB
    iexact GB
  isplitl [GC]
  · iexists _; isplitr
    · ipureintro; exact iC
    iexact GC
  iexists _; isplitr
  · ipureintro; exact iD
  iexact GD

theorem scan_trip (hR : R.Fits) (v5 : Vec F S16 .i32) (h5 : ∀ k, v5 (lane k) = R.t) (n : Fin k0_t1_loop.trips) (acc : BitVec 32 × BitVec 32) :
    scanInv d L R n.val acc
      ⊢ wp frame (wpE (defs₀ (F := F)) 𝒱₀ (thr d L) none) Set.univ (trip1 (F := F) L h1 v5 iota16 n acc)
          (scanInv d L R (n.val + 1)) := by
  have hn := trips1 n
  have hb : 16 * n.val + 16 ≤ 9216 := by omega
  have hN : cnt (above R.K R.t) 9216 < 640 := hR.gt
  have hN' : cnt (level R.K R.t) 9216 < 640 := hR.eq
  have hlt : ∀ k : Fin 16, cnt (above R.K R.t) (16 * n.val + k.val) < 640 := fun k =>
    lt_of_le_of_lt (cnt_mono _ (by have := k.isLt; omega)) hN
  have hlt' : ∀ k : Fin 16, cnt (level R.K R.t) (16 * n.val + k.val) < 640 := fun k =>
    lt_of_le_of_lt (cnt_mono _ (by have := k.isLt; omega)) hN'
  have h22 := load_row R.K (k0_off3_eq n) (k0_off3_inb L n h1) (by omega)
  have h33 := pay5_lane (F := F) (n := n.val) (v22 := fun x => R.K ((Rect.unit (s := S9216) (k0_off3 n) S16.size (k0_off3_inb L n h1)).emb x)) h5 h22
  have h36 := pay6_lane (F := F) (n := n.val) (v22 := fun x => R.K ((Rect.unit (s := S9216) (k0_off3 n) S16.size (k0_off3_inb L n h1)).emb x)) h5 h22
  have hw1 : k0_chk1 L (k0_pay5 (F := F) v5 (BitVec.ofNat 32 (cnt (above R.K R.t) (16 * n.val)))
        (fun x => R.K ((Rect.unit (s := S9216) (k0_off3 n) S16.size (k0_off3_inb L n h1)).emb x))) := chk1_of L (fun k => (congrArg BitVec.toNat (h33 k)).trans_lt (toNat_lt_640 (hlt k)))
  have hw2 : k0_chk2 L (k0_pay6 (F := F) v5 (BitVec.ofNat 32 (cnt (level R.K R.t) (16 * n.val)))
        (fun x => R.K ((Rect.unit (s := S9216) (k0_off3 n) S16.size (k0_off3_inb L n h1)).emb x))) := chk2_of L (fun k => (congrArg BitVec.toNat (h36 k)).trans_lt (toNat_lt_640 (hlt' k)))
  have hm : ∀ k : Fin 16, k0_pay8 (F := F) v5 (fun x => R.K ((Rect.unit (s := S9216) (k0_off3 n) S16.size (k0_off3_inb L n h1)).emb x))
      (k0_pay5 (F := F) v5 (BitVec.ofNat 32 (cnt (above R.K R.t) (16 * n.val)))
        (fun x => R.K ((Rect.unit (s := S9216) (k0_off3 n) S16.size (k0_off3_inb L n h1)).emb x))) (lane k) = 1#1
      ↔ above R.K R.t (16 * n.val + k.val) := fun k => pay8_lane (F := F) (n := n.val) (v22 := fun x => R.K ((Rect.unit (s := S9216) (k0_off3 n) S16.size (k0_off3_inb L n h1)).emb x)) h5 h22 h33 hlt k
  have hm' : ∀ k : Fin 16, k0_pay9 (F := F) v5 (fun x => R.K ((Rect.unit (s := S9216) (k0_off3 n) S16.size (k0_off3_inb L n h1)).emb x))
      (k0_pay6 (F := F) v5 (BitVec.ofNat 32 (cnt (level R.K R.t) (16 * n.val)))
        (fun x => R.K ((Rect.unit (s := S9216) (k0_off3 n) S16.size (k0_off3_inb L n h1)).emb x))) (lane k) = 1#1
      ↔ level R.K R.t (16 * n.val + k.val) := fun k => pay9_lane (F := F) (n := n.val) (v22 := fun x => R.K ((Rect.unit (s := S9216) (k0_off3 n) S16.size (k0_off3_inb L n h1)).emb x)) h5 h22 h36 hlt' k
  have hpos : ∀ k : Fin 16, k0_pay7 iota16 0#32 1#32 n (lane k) = rd posRow (16 * n.val + k.val) := fun k => by
    rw [pay7_lane, rd_posRow (by have := k.isLt; omega)]
  unfold trip1 k0_t1_body
  simp only [k0_part1_eq_skeleton, k0_part1_skel, Prog.lift, Prog.bind_op, Prog.bind_ret, Prog.pure_eq_ret, Prog.bind_assoc]
  unfold scanInv rowPts abvPts levPts
  iintro ⟨%hacc, ⟨HS, HK, HA, HB, HC, HD⟩, ⟨⟨%fS, %iS, GS⟩, ⟨%fK, %iK, GK⟩, ⟨%fA, %iA, GA⟩, ⟨%fB, %iB, GB⟩, ⟨%fC, %iC, GC⟩, ⟨%fD, %iD, GD⟩⟩, ⟨%eS, %jS, ES⟩, ⟨%eK, %jK, EK⟩, ⟨%eA, %jA, EA⟩, ⟨%eB, %jB, EB⟩, ⟨%eC, %jC, EC⟩, ⟨%eD, %jD, ED⟩⟩
  subst hacc
  sl_exec (disch := first | exact hw1 | exact hw2)
  iapply (wp_put (F := F) d L (base := abvS) (toV := fun f => f) (ofV := fun f => f) (Memref.set_access_whole cc0_scratch7) (Memref.read_access_whole (Elt F) cc0_scratch7) (Memref.write_access_whole_univ (Elt F) cc0_scratch7)) $$ GS
  iintro GS
  try sl_exec (disch := first | exact hw1 | exact hw2)
  iapply (wp_put (F := F) d L (base := abvK) (toV := fun f => f) (ofV := fun f => f) (Memref.set_access_whole cc0_scratch8) (Memref.read_access_whole (Elt F) cc0_scratch8) (Memref.write_access_whole_univ (Elt F) cc0_scratch8)) $$ GK
  iintro GK
  try sl_exec (disch := first | exact hw1 | exact hw2)
  iapply (wp_put (F := F) d L (base := abvA) (toV := fun f => f) (ofV := fun f => f) (Memref.set_access_whole cc0_scratch9) (Memref.read_access_whole (Elt F) cc0_scratch9) (Memref.write_access_whole_univ (Elt F) cc0_scratch9)) $$ GA
  iintro GA
  try sl_exec (disch := first | exact hw1 | exact hw2)
  iapply (wp_put (F := F) d L (base := abvB) (toV := fun f => f) (ofV := fun f => f) (Memref.set_access_whole cc0_scratch10) (Memref.read_access_whole (Elt F) cc0_scratch10) (Memref.write_access_whole_univ (Elt F) cc0_scratch10)) $$ GB
  iintro GB
  try sl_exec (disch := first | exact hw1 | exact hw2)
  iapply (wp_put (F := F) d L (base := abvC) (toV := fun f => f) (ofV := fun f => f) (Memref.set_access_whole cc0_scratch11) (Memref.read_access_whole (Elt F) cc0_scratch11) (Memref.write_access_whole_univ (Elt F) cc0_scratch11)) $$ GC
  iintro GC
  try sl_exec (disch := first | exact hw1 | exact hw2)
  iapply (wp_put (F := F) d L (base := abvD) (toV := fun f => f) (ofV := fun f => f) (Memref.set_access_whole cc0_scratch12) (Memref.read_access_whole (Elt F) cc0_scratch12) (Memref.write_access_whole_univ (Elt F) cc0_scratch12)) $$ GD
  iintro GD
  try sl_exec (disch := first | exact hw1 | exact hw2)
  iapply (wp_put (F := F) d L (base := levS) (toV := fun f => f) (ofV := fun f => f) (Memref.set_access_whole cc0_scratch13) (Memref.read_access_whole (Elt F) cc0_scratch13) (Memref.write_access_whole_univ (Elt F) cc0_scratch13)) $$ ES
  iintro ES
  try sl_exec (disch := first | exact hw1 | exact hw2)
  iapply (wp_put (F := F) d L (base := levK) (toV := fun f => f) (ofV := fun f => f) (Memref.set_access_whole cc0_scratch14) (Memref.read_access_whole (Elt F) cc0_scratch14) (Memref.write_access_whole_univ (Elt F) cc0_scratch14)) $$ EK
  iintro EK
  try sl_exec (disch := first | exact hw1 | exact hw2)
  iapply (wp_put (F := F) d L (base := levA) (toV := fun f => f) (ofV := fun f => f) (Memref.set_access_whole cc0_scratch15) (Memref.read_access_whole (Elt F) cc0_scratch15) (Memref.write_access_whole_univ (Elt F) cc0_scratch15)) $$ EA
  iintro EA
  try sl_exec (disch := first | exact hw1 | exact hw2)
  iapply (wp_put (F := F) d L (base := levB) (toV := fun f => f) (ofV := fun f => f) (Memref.set_access_whole cc0_scratch16) (Memref.read_access_whole (Elt F) cc0_scratch16) (Memref.write_access_whole_univ (Elt F) cc0_scratch16)) $$ EB
  iintro EB
  try sl_exec (disch := first | exact hw1 | exact hw2)
  iapply (wp_put (F := F) d L (base := levC) (toV := fun f => f) (ofV := fun f => f) (Memref.set_access_whole cc0_scratch17) (Memref.read_access_whole (Elt F) cc0_scratch17) (Memref.write_access_whole_univ (Elt F) cc0_scratch17)) $$ EC
  iintro EC
  try sl_exec (disch := first | exact hw1 | exact hw2)
  iapply (wp_put (F := F) d L (base := levD) (toV := fun f => f) (ofV := fun f => f) (Memref.set_access_whole cc0_scratch18) (Memref.read_access_whole (Elt F) cc0_scratch18) (Memref.write_access_whole_univ (Elt F) cc0_scratch18)) $$ ED
  iintro ED
  sl_exec
  sl_step
  isplitr
  · ipureintro
    exact Prod.ext (pay10_run (F := F) (n := n.val) (key := R.K) (t := R.t) (v5 := v5) (v22 := fun x => R.K ((Rect.unit (s := S9216) (k0_off3 n) S16.size (k0_off3_inb L n h1)).emb x)) h5 h22)
      (pay11_run (F := F) (n := n.val) (key := R.K) (t := R.t) (v5 := v5) (v22 := fun x => R.K ((Rect.unit (s := S9216) (k0_off3 n) S16.size (k0_off3_inb L n h1)).emb x)) h5 h22)
  isplitl [HS HK HA HB HC HD]
  · isplitl [HS]
    · iexact HS
    isplitl [HK]
    · iexact HK
    isplitl [HA]
    · iexact HA
    isplitl [HB]
    · iexact HB
    isplitl [HC]
    · iexact HC
    iexact HD
  isplitl [GS GK GA GB GC GD]
  · isplitl [GS]
    · iexists _; isplitr
      · ipureintro
        exact Slots.store (F := F) (e := .f32) iS (n := 16 * n.val) hN hb _ (fun x => R.S ((Rect.unit (s := S9216) (k0_off3 n) S16.size (k0_off3_inb L n h1)).emb x)) _ (hw1.1 h1) h33 hm (load_row R.S (k0_off3_eq n) (k0_off3_inb L n h1) hb)
      iexact GS
    isplitl [GK]
    · iexists _; isplitr
      · ipureintro
        exact Slots.store (F := F) (e := .i32) iK (n := 16 * n.val) hN hb _ (k0_pay7 iota16 0#32 1#32 n) _ (hw1.1 h1) h33 hm hpos
      iexact GK
    isplitl [GA]
    · iexists _; isplitr
      · ipureintro
        exact Slots.store (F := F) (e := .f32) iA (n := 16 * n.val) hN hb _ (fun x => R.A ((Rect.unit (s := S9216) (k0_off4 n) S16.size (k0_off4_inb L n h1)).emb x)) _ (hw1.1 h1) h33 hm (load_row R.A (k0_off4_eq n) (k0_off4_inb L n h1) hb)
      iexact GA
    isplitl [GB]
    · iexists _; isplitr
      · ipureintro
        exact Slots.store (F := F) (e := .f32) iB (n := 16 * n.val) hN hb _ (fun x => R.B ((Rect.unit (s := S9216) (k0_off4 n) S16.size (k0_off4_inb L n h1)).emb x)) _ (hw1.1 h1) h33 hm (load_row R.B (k0_off4_eq n) (k0_off4_inb L n h1) hb)
      iexact GB
    isplitl [GC]
    · iexists _; isplitr
      · ipureintro
        exact Slots.store (F := F) (e := .f32) iC (n := 16 * n.val) hN hb _ (fun x => R.C ((Rect.unit (s := S9216) (k0_off4 n) S16.size (k0_off4_inb L n h1)).emb x)) _ (hw1.1 h1) h33 hm (load_row R.C (k0_off4_eq n) (k0_off4_inb L n h1) hb)
      iexact GC
    iexists _; isplitr
    · ipureintro
      exact Slots.store (F := F) (e := .f32) iD (n := 16 * n.val) hN hb _ (fun x => R.D ((Rect.unit (s := S9216) (k0_off4 n) S16.size (k0_off4_inb L n h1)).emb x)) _ (hw1.1 h1) h33 hm (load_row R.D (k0_off4_eq n) (k0_off4_inb L n h1) hb)
    iexact GD
  isplitl [ES]
  · iexists _; isplitr
    · ipureintro
      exact Slots.store (F := F) (e := .f32) jS (n := 16 * n.val) hN' hb _ (fun x => R.S ((Rect.unit (s := S9216) (k0_off3 n) S16.size (k0_off3_inb L n h1)).emb x)) _ (hw2.1 h1) h36 hm' (load_row R.S (k0_off3_eq n) (k0_off3_inb L n h1) hb)
    iexact ES
  isplitl [EK]
  · iexists _; isplitr
    · ipureintro
      exact Slots.store (F := F) (e := .i32) jK (n := 16 * n.val) hN' hb _ (k0_pay7 iota16 0#32 1#32 n) _ (hw2.1 h1) h36 hm' hpos
    iexact EK
  isplitl [EA]
  · iexists _; isplitr
    · ipureintro
      exact Slots.store (F := F) (e := .f32) jA (n := 16 * n.val) hN' hb _ (fun x => R.A ((Rect.unit (s := S9216) (k0_off5 n) S16.size (k0_off5_inb L n h1)).emb x)) _ (hw2.1 h1) h36 hm' (load_row R.A (k0_off5_eq n) (k0_off5_inb L n h1) hb)
    iexact EA
  isplitl [EB]
  · iexists _; isplitr
    · ipureintro
      exact Slots.store (F := F) (e := .f32) jB (n := 16 * n.val) hN' hb _ (fun x => R.B ((Rect.unit (s := S9216) (k0_off5 n) S16.size (k0_off5_inb L n h1)).emb x)) _ (hw2.1 h1) h36 hm' (load_row R.B (k0_off5_eq n) (k0_off5_inb L n h1) hb)
    iexact EB
  isplitl [EC]
  · iexists _; isplitr
    · ipureintro
      exact Slots.store (F := F) (e := .f32) jC (n := 16 * n.val) hN' hb _ (fun x => R.C ((Rect.unit (s := S9216) (k0_off5 n) S16.size (k0_off5_inb L n h1)).emb x)) _ (hw2.1 h1) h36 hm' (load_row R.C (k0_off5_eq n) (k0_off5_inb L n h1) hb)
    iexact EC
  iexists _; isplitr
  · ipureintro
    exact Slots.store (F := F) (e := .f32) jD (n := 16 * n.val) hN' hb _ (fun x => R.D ((Rect.unit (s := S9216) (k0_off5 n) S16.size (k0_off5_inb L n h1)).emb x)) _ (hw2.1 h1) h36 hm' (load_row R.D (k0_off5_eq n) (k0_off5_inb L n h1) hb)
  iexact ED

end Trips

end Cert.Proof.Select
-- ==== Proof.Task.lean ====
/-
  One task of the kernel, start to end: its row of every array fetched, the four loops, and the packed row written out.
-/
module

public import proofs.«01_k».proof.Proof.Trips

@[expose] public section

noncomputable section

namespace Cert.Proof.Select

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The task's rows of the arrays, as its body addresses them -/

abbrev srcS (L : grid0.Coords) (h : k0_cond1 L = 1#1) : Memref sig .scVector .hbm S9216 .f32 :=
  ((inS).slice (Rect.unit (s := S4x9216) (k0_off1 L) S1x9216.size (k0_off1_inb L h)) (fun _ => rfl)).squeeze S9216 squeezes_S1x9216_S9216
abbrev dstS (L : grid0.Coords) (h : k0_cond1 L = 1#1) : Memref sig .scVector .hbm S640 .f32 :=
  ((outS).slice (Rect.unit (s := S4x640) (k0_off11 L) S1x640.size (k0_off11_inb L h)) (fun _ => rfl)).squeeze S640 squeezes_S1x640_S640
abbrev srcK (L : grid0.Coords) (h : k0_cond1 L = 1#1) : Memref sig .scVector .hbm S9216 .i32 :=
  ((inK).slice (Rect.unit (s := S4x9216) (k0_off1 L) S1x9216.size (k0_off1_inb L h)) (fun _ => rfl)).squeeze S9216 squeezes_S1x9216_S9216
abbrev dstK (L : grid0.Coords) (h : k0_cond1 L = 1#1) : Memref sig .scVector .hbm S640 .i32 :=
  ((outK).slice (Rect.unit (s := S4x640) (k0_off11 L) S1x640.size (k0_off11_inb L h)) (fun _ => rfl)).squeeze S640 squeezes_S1x640_S640
abbrev srcA (L : grid0.Coords) (h : k0_cond1 L = 1#1) : Memref sig .scVector .hbm S9216 .f32 :=
  ((inA).slice (Rect.unit (s := S4x9216) (k0_off1 L) S1x9216.size (k0_off1_inb L h)) (fun _ => rfl)).squeeze S9216 squeezes_S1x9216_S9216
abbrev dstA (L : grid0.Coords) (h : k0_cond1 L = 1#1) : Memref sig .scVector .hbm S640 .f32 :=
  ((outA).slice (Rect.unit (s := S4x640) (k0_off11 L) S1x640.size (k0_off11_inb L h)) (fun _ => rfl)).squeeze S640 squeezes_S1x640_S640
abbrev srcB (L : grid0.Coords) (h : k0_cond1 L = 1#1) : Memref sig .scVector .hbm S9216 .f32 :=
  ((inB).slice (Rect.unit (s := S4x9216) (k0_off1 L) S1x9216.size (k0_off1_inb L h)) (fun _ => rfl)).squeeze S9216 squeezes_S1x9216_S9216
abbrev dstB (L : grid0.Coords) (h : k0_cond1 L = 1#1) : Memref sig .scVector .hbm S640 .f32 :=
  ((outB).slice (Rect.unit (s := S4x640) (k0_off11 L) S1x640.size (k0_off11_inb L h)) (fun _ => rfl)).squeeze S640 squeezes_S1x640_S640
abbrev srcC (L : grid0.Coords) (h : k0_cond1 L = 1#1) : Memref sig .scVector .hbm S9216 .f32 :=
  ((inC).slice (Rect.unit (s := S4x9216) (k0_off1 L) S1x9216.size (k0_off1_inb L h)) (fun _ => rfl)).squeeze S9216 squeezes_S1x9216_S9216
abbrev dstC (L : grid0.Coords) (h : k0_cond1 L = 1#1) : Memref sig .scVector .hbm S640 .f32 :=
  ((outC).slice (Rect.unit (s := S4x640) (k0_off11 L) S1x640.size (k0_off11_inb L h)) (fun _ => rfl)).squeeze S640 squeezes_S1x640_S640
abbrev srcD (L : grid0.Coords) (h : k0_cond1 L = 1#1) : Memref sig .scVector .hbm S9216 .f32 :=
  ((inD).slice (Rect.unit (s := S4x9216) (k0_off1 L) S1x9216.size (k0_off1_inb L h)) (fun _ => rfl)).squeeze S9216 squeezes_S1x9216_S9216
abbrev dstD (L : grid0.Coords) (h : k0_cond1 L = 1#1) : Memref sig .scVector .hbm S640 .f32 :=
  ((outD).slice (Rect.unit (s := S4x640) (k0_off11 L) S1x640.size (k0_off11_inb L h)) (fun _ => rfl)).squeeze S640 squeezes_S1x640_S640
abbrev srcT (L : grid0.Coords) (h : k0_cond1 L = 1#1) : Memref sig .scVector .hbm S16 .i32 :=
  ((inT).slice (Rect.unit (s := S4x16) (k0_off2 L) S1x16.size (k0_off2_inb L h)) (fun _ => rfl)).squeeze S16 squeezes_S1x16_S16

section Task

variable (d : Dev nD) (L : grid0.Coords) (h1 : k0_cond1 L = 1#1) (R : Row F)

/-- The task's thirteen counters, each at zero. -/
def semPts : sProp (𝕄 F) :=
  iprop(semVal (thr d L, SemLoc.dma cc0_scoped0.sem) 0
    ∗ semVal (thr d L, SemLoc.dma cc0_scoped1.sem) 0
    ∗ semVal (thr d L, SemLoc.dma cc0_scoped2.sem) 0
    ∗ semVal (thr d L, SemLoc.dma cc0_scoped3.sem) 0
    ∗ semVal (thr d L, SemLoc.dma cc0_scoped4.sem) 0
    ∗ semVal (thr d L, SemLoc.dma cc0_scoped5.sem) 0
    ∗ semVal (thr d L, SemLoc.dma cc0_scoped6.sem) 0
    ∗ semVal (thr d L, SemLoc.dma cc0_scoped7.sem) 0
    ∗ semVal (thr d L, SemLoc.dma cc0_scoped8.sem) 0
    ∗ semVal (thr d L, SemLoc.dma cc0_scoped9.sem) 0
    ∗ semVal (thr d L, SemLoc.dma cc0_scoped10.sem) 0
    ∗ semVal (thr d L, SemLoc.dma cc0_scoped11.sem) 0
    ∗ semVal (thr d L, SemLoc.dma cc0_scoped12.sem) 0)

/-- The task's buffers, whatever they hold. -/
def bufPts : sProp (𝕄 F) :=
  iprop((∃ f, (rowS).view.loc (thr d L) ↦{fullShare} f)
    ∗ (∃ f, (rowK).view.loc (thr d L) ↦{fullShare} f)
    ∗ (∃ f, (rowA).view.loc (thr d L) ↦{fullShare} f)
    ∗ (∃ f, (rowB).view.loc (thr d L) ↦{fullShare} f)
    ∗ (∃ f, (rowC).view.loc (thr d L) ↦{fullShare} f)
    ∗ (∃ f, (rowD).view.loc (thr d L) ↦{fullShare} f)
    ∗ (∃ f, (abvS).view.loc (thr d L) ↦{fullShare} f)
    ∗ (∃ f, (abvK).view.loc (thr d L) ↦{fullShare} f)
    ∗ (∃ f, (abvA).view.loc (thr d L) ↦{fullShare} f)
    ∗ (∃ f, (abvB).view.loc (thr d L) ↦{fullShare} f)
    ∗ (∃ f, (abvC).view.loc (thr d L) ↦{fullShare} f)
    ∗ (∃ f, (abvD).view.loc (thr d L) ↦{fullShare} f)
    ∗ (∃ f, (levS).view.loc (thr d L) ↦{fullShare} f)
    ∗ (∃ f, (levK).view.loc (thr d L) ↦{fullShare} f)
    ∗ (∃ f, (levA).view.loc (thr d L) ↦{fullShare} f)
    ∗ (∃ f, (levB).view.loc (thr d L) ↦{fullShare} f)
    ∗ (∃ f, (levC).view.loc (thr d L) ↦{fullShare} f)
    ∗ (∃ f, (levD).view.loc (thr d L) ↦{fullShare} f)
    ∗ (∃ f, (pckS).view.loc (thr d L) ↦{fullShare} f)
    ∗ (∃ f, (pckK).view.loc (thr d L) ↦{fullShare} f)
    ∗ (∃ f, (pckA).view.loc (thr d L) ↦{fullShare} f)
    ∗ (∃ f, (pckB).view.loc (thr d L) ↦{fullShare} f)
    ∗ (∃ f, (pckC).view.loc (thr d L) ↦{fullShare} f)
    ∗ (∃ f, (pckD).view.loc (thr d L) ↦{fullShare} f)
    ∗ (∃ f, (rowT).view.loc (thr d L) ↦{fullShare} f))

variable (xS : Buf (Elt F) ((srcS L h1).view.loc (thr d L))) (xK : Buf (Elt F) ((srcK L h1).view.loc (thr d L))) (xA : Buf (Elt F) ((srcA L h1).view.loc (thr d L))) (xB : Buf (Elt F) ((srcB L h1).view.loc (thr d L))) (xC : Buf (Elt F) ((srcC L h1).view.loc (thr d L))) (xD : Buf (Elt F) ((srcD L h1).view.loc (thr d L))) (xT : Buf (Elt F) ((srcT L h1).view.loc (thr d L)))

/-- The task's rows of the arguments. -/
def srcPts : sProp (𝕄 F) :=
  iprop(((srcS L h1).view.loc (thr d L) ↦[(srcS L h1).view.set]{fullShare} xS)
    ∗ ((srcK L h1).view.loc (thr d L) ↦[(srcK L h1).view.set]{fullShare} xK)
    ∗ ((srcA L h1).view.loc (thr d L) ↦[(srcA L h1).view.set]{fullShare} xA)
    ∗ ((srcB L h1).view.loc (thr d L) ↦[(srcB L h1).view.set]{fullShare} xB)
    ∗ ((srcC L h1).view.loc (thr d L) ↦[(srcC L h1).view.set]{fullShare} xC)
    ∗ ((srcD L h1).view.loc (thr d L) ↦[(srcD L h1).view.set]{fullShare} xD)
    ∗ ((srcT L h1).view.loc (thr d L) ↦[(srcT L h1).view.set]{fullShare} xT))

/-- The task's rows of the results, before and after. -/
def dstPts : sProp (𝕄 F) :=
  iprop((∃ f, (dstS L h1).view.loc (thr d L) ↦[(dstS L h1).view.set]{fullShare} f)
    ∗ (∃ f, (dstK L h1).view.loc (thr d L) ↦[(dstK L h1).view.set]{fullShare} f)
    ∗ (∃ f, (dstA L h1).view.loc (thr d L) ↦[(dstA L h1).view.set]{fullShare} f)
    ∗ (∃ f, (dstB L h1).view.loc (thr d L) ↦[(dstB L h1).view.set]{fullShare} f)
    ∗ (∃ f, (dstC L h1).view.loc (thr d L) ↦[(dstC L h1).view.set]{fullShare} f)
    ∗ (∃ f, (dstD L h1).view.loc (thr d L) ↦[(dstD L h1).view.set]{fullShare} f))
def resPts : sProp (𝕄 F) :=
  iprop((∃ f, ⌜(dstS L h1).view.read (Elt F) f = packed R.K R.t R.S padS⌝ ∗ (dstS L h1).view.loc (thr d L) ↦[(dstS L h1).view.set]{fullShare} f)
    ∗ (∃ f, ⌜(dstK L h1).view.read (Elt F) f = packed R.K R.t posRow padK⌝ ∗ (dstK L h1).view.loc (thr d L) ↦[(dstK L h1).view.set]{fullShare} f)
    ∗ (∃ f, ⌜(dstA L h1).view.read (Elt F) f = packed R.K R.t R.A padE⌝ ∗ (dstA L h1).view.loc (thr d L) ↦[(dstA L h1).view.set]{fullShare} f)
    ∗ (∃ f, ⌜(dstB L h1).view.read (Elt F) f = packed R.K R.t R.B padE⌝ ∗ (dstB L h1).view.loc (thr d L) ↦[(dstB L h1).view.set]{fullShare} f)
    ∗ (∃ f, ⌜(dstC L h1).view.read (Elt F) f = packed R.K R.t R.C padE⌝ ∗ (dstC L h1).view.loc (thr d L) ↦[(dstC L h1).view.set]{fullShare} f)
    ∗ (∃ f, ⌜(dstD L h1).view.read (Elt F) f = packed R.K R.t R.D padE⌝ ∗ (dstD L h1).view.loc (thr d L) ↦[(dstD L h1).view.set]{fullShare} f))

/-! ## Between the loops -/

theorem t1_trips : k0_t1_loop.trips = 576 := by decide
theorem t2_trips : k0_t2_loop.trips = 40 := by decide
theorem t3_trips : k0_t3_loop.trips = 40 := by decide
theorem t4_trips : k0_t4_loop.trips = 40 := by decide

/-- A buffer written whole holds what was written. -/
theorem fetched {b : Ref sig (thr d L).2.kind} {f w w' : b.ty.Contents (Elt F)} (h : w = w') :
    (((Memref.whole b).view.loc (thr d L) ↦{fullShare} View.write (Elt F) (Memref.whole b).view f w Finset.univ) : sProp (𝕄 F))
      ⊢ ((Memref.whole b).view.loc (thr d L) ↦{fullShare} w') := by
  subst h
  exact Entails.of_eq (congrArg (fun g => ((Memref.whole b).view.loc (thr d L) ↦{fullShare} g : sProp (𝕄 F)))
    (View.write_whole_univ (Val := Elt F) b f w))

/-- The threshold's sixteen lanes, loaded. -/
theorem load_t {f w : S16.Idx → Elt F .i32} {t : BitVec 32} (h : ∀ k, w (lane k) = t) (k : Fin 16) :
    (View.readAt (Elt F) (rowT).view (Rect.unit (s := S16) ![0] S16.size inb_S16_S16_0).toLoadRect
      (View.write (Elt F) (rowT).view f w Finset.univ)) (lane k) = t := by
  rw [show View.write (Elt F) (rowT).view f w Finset.univ = w from View.write_whole_univ (Val := Elt F) cc0_scratch6 f w]
  refine Eq.trans ?_ (h k)
  show w _ = w _
  exact congrArg w ((eq_lane _).trans (congrArg lane (Fin.ext (by show 0 + 1 * k.val = k.val; omega))))

theorem scan_init :
    iprop(rowPts d L R ∗ ((∃ f, (abvS).view.loc (thr d L) ↦{fullShare} f) ∗ (∃ f, (abvK).view.loc (thr d L) ↦{fullShare} f) ∗ (∃ f, (abvA).view.loc (thr d L) ↦{fullShare} f) ∗ (∃ f, (abvB).view.loc (thr d L) ↦{fullShare} f) ∗ (∃ f, (abvC).view.loc (thr d L) ↦{fullShare} f) ∗ (∃ f, (abvD).view.loc (thr d L) ↦{fullShare} f)) ∗ ((∃ f, (levS).view.loc (thr d L) ↦{fullShare} f) ∗ (∃ f, (levK).view.loc (thr d L) ↦{fullShare} f) ∗ (∃ f, (levA).view.loc (thr d L) ↦{fullShare} f) ∗ (∃ f, (levB).view.loc (thr d L) ↦{fullShare} f) ∗ (∃ f, (levC).view.loc (thr d L) ↦{fullShare} f) ∗ (∃ f, (levD).view.loc (thr d L) ↦{fullShare} f))) ⊢ scanInv d L R 0 (0#32, 0#32) := by
  unfold scanInv abvPts levPts
  iintro ⟨HR, ⟨⟨%gS, GS⟩, ⟨%gK, GK⟩, ⟨%gA, GA⟩, ⟨%gB, GB⟩, ⟨%gC, GC⟩, ⟨%gD, GD⟩⟩, ⟨⟨%eS, ES⟩, ⟨%eK, EK⟩, ⟨%eA, EA⟩, ⟨%eB, EB⟩, ⟨%eC, EC⟩, ⟨%eD, ED⟩⟩⟩
  isplitr
  · ipureintro; exact Prod.ext (congrArg (BitVec.ofNat 32) (cnt_zero _)).symm (congrArg (BitVec.ofNat 32) (cnt_zero _)).symm
  isplitl [HR]; · iexact HR
  isplitl [GS GK GA GB GC GD]
  · isplitl [GS]
    · iexists gS; isplitr
      · ipureintro; exact Slots.zero (α := Elt F EltTy.f32) _ _ gS
      iexact GS
    isplitl [GK]
    · iexists gK; isplitr
      · ipureintro; exact Slots.zero (α := Elt F EltTy.i32) _ _ gK
      iexact GK
    isplitl [GA]
    · iexists gA; isplitr
      · ipureintro; exact Slots.zero (α := Elt F EltTy.f32) _ _ gA
      iexact GA
    isplitl [GB]
    · iexists gB; isplitr
      · ipureintro; exact Slots.zero (α := Elt F EltTy.f32) _ _ gB
      iexact GB
    isplitl [GC]
    · iexists gC; isplitr
      · ipureintro; exact Slots.zero (α := Elt F EltTy.f32) _ _ gC
      iexact GC
    iexists gD; isplitr
    · ipureintro; exact Slots.zero (α := Elt F EltTy.f32) _ _ gD
    iexact GD
  isplitl [ES]
  · iexists eS; isplitr
    · ipureintro; exact Slots.zero (α := Elt F EltTy.f32) _ _ eS
    iexact ES
  isplitl [EK]
  · iexists eK; isplitr
    · ipureintro; exact Slots.zero (α := Elt F EltTy.i32) _ _ eK
    iexact EK
  isplitl [EA]
  · iexists eA; isplitr
    · ipureintro; exact Slots.zero (α := Elt F EltTy.f32) _ _ eA
    iexact EA
  isplitl [EB]
  · iexists eB; isplitr
    · ipureintro; exact Slots.zero (α := Elt F EltTy.f32) _ _ eB
    iexact EB
  isplitl [EC]
  · iexists eC; isplitr
    · ipureintro; exact Slots.zero (α := Elt F EltTy.f32) _ _ eC
    iexact EC
  iexists eD; isplitr
  · ipureintro; exact Slots.zero (α := Elt F EltTy.f32) _ _ eD
  iexact ED

theorem pad_init : iprop((∃ f, (pckS).view.loc (thr d L) ↦{fullShare} f) ∗ (∃ f, (pckK).view.loc (thr d L) ↦{fullShare} f) ∗ (∃ f, (pckA).view.loc (thr d L) ↦{fullShare} f) ∗ (∃ f, (pckB).view.loc (thr d L) ↦{fullShare} f) ∗ (∃ f, (pckC).view.loc (thr d L) ↦{fullShare} f) ∗ (∃ f, (pckD).view.loc (thr d L) ↦{fullShare} f)) ⊢ padInv (F := F) d L 0 0#32 := by
  unfold padInv padPts
  iintro ⟨⟨%fS, PS⟩, ⟨%fK, PK⟩, ⟨%fA, PA⟩, ⟨%fB, PB⟩, ⟨%fC, PC⟩, ⟨%fD, PD⟩⟩
  isplitl [PS]
  · iexists fS; isplitr
    · ipureintro; exact (fun j h => absurd h (Nat.not_lt_zero _))
    iexact PS
  isplitl [PK]
  · iexists fK; isplitr
    · ipureintro; exact (fun j h => absurd h (Nat.not_lt_zero _))
    iexact PK
  isplitl [PA]
  · iexists fA; isplitr
    · ipureintro; exact (fun j h => absurd h (Nat.not_lt_zero _))
    iexact PA
  isplitl [PB]
  · iexists fB; isplitr
    · ipureintro; exact (fun j h => absurd h (Nat.not_lt_zero _))
    iexact PB
  isplitl [PC]
  · iexists fC; isplitr
    · ipureintro; exact (fun j h => absurd h (Nat.not_lt_zero _))
    iexact PC
  iexists fD; isplitr
  · ipureintro; exact (fun j h => absurd h (Nat.not_lt_zero _))
  iexact PD

theorem Filled.none {α : Type} {key : IVec S9216 32} {t : BitVec 32} {a : S9216.Idx → α} {pad : ℕ → α} {lim : ℕ} {f : S640.Idx → α}
    (hl : lim = 0) (h : ∀ j : S640.Idx, (j 0).val < 16 * 40 → f j = pad (j 0).val) : Filled key t a pad lim f := by
  subst hl
  intro j
  exact (h j (j 0).isLt).trans (if_neg (Nat.not_lt_zero _)).symm

theorem pad_done (acc : BitVec 32) : padInv (F := F) d L k0_t2_loop.trips acc ⊢ pckPts d L R (0 + min (16 * 0) (nGt R.K R.t)) := by
  have h0 : 0 + min (16 * 0) (nGt R.K R.t) = 0 := by omega
  unfold padInv padPts pckPts
  rw [t2_trips]
  iintro ⟨⟨%fS, %hS, PS⟩, ⟨%fK, %hK, PK⟩, ⟨%fA, %hA, PA⟩, ⟨%fB, %hB, PB⟩, ⟨%fC, %hC, PC⟩, ⟨%fD, %hD, PD⟩⟩
  isplitl [PS]
  · iexists fS; isplitr
    · ipureintro; exact Filled.none (α := Elt F EltTy.f32) h0 hS
    iexact PS
  isplitl [PK]
  · iexists fK; isplitr
    · ipureintro; exact Filled.none (α := Elt F EltTy.i32) h0 hK
    iexact PK
  isplitl [PA]
  · iexists fA; isplitr
    · ipureintro; exact Filled.none (α := Elt F EltTy.f32) h0 hA
    iexact PA
  isplitl [PB]
  · iexists fB; isplitr
    · ipureintro; exact Filled.none (α := Elt F EltTy.f32) h0 hB
    iexact PB
  isplitl [PC]
  · iexists fC; isplitr
    · ipureintro; exact Filled.none (α := Elt F EltTy.f32) h0 hC
    iexact PC
  iexists fD; isplitr
  · ipureintro; exact Filled.none (α := Elt F EltTy.f32) h0 hD
  iexact PD

theorem copy_done (hR : R.Fits) (acc : BitVec 32) : copyInv d L R k0_t3_loop.trips acc
    ⊢ iprop(pckPts d L R (nGt R.K R.t + min (16 * 0) (nTake R.K R.t)) ∗ abvPts d L R 9216) := by
  have := hR.gt
  unfold copyInv
  rw [t3_trips, show 0 + min (16 * 40) (nGt R.K R.t) = nGt R.K R.t + min (16 * 0) (nTake R.K R.t) by omega]

theorem take_done (hR : R.Fits) (acc : BitVec 32) : takeInv d L R k0_t4_loop.trips acc
    ⊢ iprop(pckPts d L R (nGt R.K R.t + nTake R.K R.t) ∗ levPts d L R 9216) := by
  have : nTake R.K R.t ≤ 640 := by unfold nTake; omega
  unfold takeInv
  rw [t4_trips, show min (16 * 40) (nTake R.K R.t) = nTake R.K R.t by omega]

theorem scan_done (acc : BitVec 32 × BitVec 32) : scanInv d L R k0_t1_loop.trips acc
    ⊢ iprop(⌜acc = (BitVec.ofNat 32 (nGt R.K R.t), BitVec.ofNat 32 (nEq R.K R.t))⌝ ∗ rowPts d L R ∗ abvPts d L R 9216 ∗ levPts d L R 9216) := by
  unfold scanInv
  rw [t1_trips]
  exact Entails.of_eq rfl

theorem task_run (O : CellTallies nD τ sig (HIx 1)) (W : Waits sig (HIx 1)) (hR : R.Fits)
    (hS : (srcS L h1).view.read (Elt F) xS = R.S)
    (hK : (srcK L h1).view.read (Elt F) xK = R.K)
    (hA : (srcA L h1).view.read (Elt F) xA = R.A)
    (hB : (srcB L h1).view.read (Elt F) xB = R.B)
    (hC : (srcC L h1).view.read (Elt F) xC = R.C)
    (hD : (srcD L h1).view.read (Elt F) xD = R.D)
    (hT : ∀ k, (srcT L h1).view.read (Elt F) xT (lane k) = R.t) :
    iprop(Transfers.MayWaits (thr d L) (default : HIx 1) O ∗ srcPts d L h1 xS xK xA xB xC xD xT ∗ dstPts d L h1 ∗ bufPts d L ∗ semPts d L
        ∗ owes (thr d L) O W)
      ⊢ wp frame (wpE (defs₀ (F := F)) 𝒱₀ (thr d L) none) Set.univ (body L)
          fun _ => iprop(srcPts d L h1 xS xK xA xB xC xD xT ∗ resPts d L h1 R ∗ bufPts d L ∗ semPts d L
            ∗ ∃ W', owes (thr d L) O W') := by
  have k0_h1 := h1
  unfold body
  sl_unfold [cc0__select_body]
  unfold srcPts dstPts bufPts semPts
  iintro ⟨Hmw, ⟨IS, IK, IA, IB, IC, ID, IT⟩, ⟨⟨%oS, OS⟩, ⟨%oK, OK⟩, ⟨%oA, OA⟩, ⟨%oB, OB⟩, ⟨%oC, OC⟩, ⟨%oD, OD⟩⟩, ⟨⟨%rS, HS⟩, ⟨%rK, HK⟩, ⟨%rA, HA⟩, ⟨%rB, HB⟩, ⟨%rC, HC⟩, ⟨%rD, HD⟩, ⟨%gS, GS⟩, ⟨%gK, GK⟩, ⟨%gA, GA⟩, ⟨%gB, GB⟩, ⟨%gC, GC⟩, ⟨%gD, GD⟩, ⟨%eS, ES⟩, ⟨%eK, EK⟩, ⟨%eA, EA⟩, ⟨%eB, EB⟩, ⟨%eC, EC⟩, ⟨%eD, ED⟩, ⟨%fS, PS⟩, ⟨%fK, PK⟩, ⟨%fA, PA⟩, ⟨%fB, PB⟩, ⟨%fC, PC⟩, ⟨%fD, PD⟩, ⟨%rT, HT⟩⟩, ⟨S0, S1, S2, S3, S4, S5, S6, S7, S8, S9, S10, S11, S12⟩, HO⟩
  sl_exec (disch := first | exact View.amount_pos _ _ (show 0 < S9216.numel by decide) | exact View.amount_pos _ _ (show 0 < S640.numel by decide) | exact View.amount_pos _ _ (show 0 < S16.numel by decide))
  have h5 := load_t (F := F) (f := rT) hT
  ihave HS := (fetched d L (b := cc0_scratch0) (f := rS) (w := task_run.sl.dma0 d L h1 xS) hS) $$ HS
  ihave HK := (fetched d L (b := cc0_scratch1) (f := rK) (w := task_run.sl.dma0_1 d L h1 xK) hK) $$ HK
  ihave HA := (fetched d L (b := cc0_scratch2) (f := rA) (w := task_run.sl.dma0_2 d L h1 xA) hA) $$ HA
  ihave HB := (fetched d L (b := cc0_scratch3) (f := rB) (w := task_run.sl.dma0_3 d L h1 xB) hB) $$ HB
  ihave HC := (fetched d L (b := cc0_scratch4) (f := rC) (w := task_run.sl.dma0_4 d L h1 xC) hC) $$ HC
  ihave HD := (fetched d L (b := cc0_scratch5) (f := rD) (w := task_run.sl.dma0_5 d L h1 xD) hD) $$ HD
  sl_for (scanInv d L R) $$ [HS HK HA HB HC HD GS GK GA GB GC GD ES EK EA EB EC ED]
  case region => intro k acc; exact scan_trip d L h1 R hR _ h5 k acc
  · iapply (scan_init d L R)
    unfold rowPts
    isplitl [HS HK HA HB HC HD]
    · isplitl [HS]; · iexact HS
      isplitl [HK]; · iexact HK
      isplitl [HA]; · iexact HA
      isplitl [HB]; · iexact HB
      isplitl [HC]; · iexact HC
      iexact HD
    isplitl [GS GK GA GB GC GD]
    · isplitl [GS]; · iexists gS; iexact GS
      isplitl [GK]; · iexists gK; iexact GK
      isplitl [GA]; · iexists gA; iexact GA
      isplitl [GB]; · iexists gB; iexact GB
      isplitl [GC]; · iexists gC; iexact GC
      iexists gD; iexact GD
    isplitl [ES]; · iexists eS; iexact ES
    isplitl [EK]; · iexists eK; iexact EK
    isplitl [EA]; · iexists eA; iexact EA
    isplitl [EB]; · iexists eB; iexact EB
    isplitl [EC]; · iexists eC; iexact EC
    iexists eD; iexact ED
  iintro %acc HI
  ihave HI' := (scan_done d L R acc) $$ HI
  icases HI' with ⟨%hacc, HR, HG, HE⟩
  subst hacc
  sl_exec
  sl_for (padInv (F := F) d L) $$ [PS PK PA PB PC PD]
  case region => intro k acc; exact pad_trip d L h1 k acc
  · iapply (pad_init (F := F) d L)
    isplitl [PS]; · iexists fS; iexact PS
    isplitl [PK]; · iexists fK; iexact PK
    isplitl [PA]; · iexists fA; iexact PA
    isplitl [PB]; · iexists fB; iexact PB
    isplitl [PC]; · iexists fC; iexact PC
    iexists fD; iexact PD
  iintro %acc2 HI
  ihave HP := (pad_done (F := F) d L R acc2) $$ HI
  sl_exec
  sl_for (copyInv d L R) $$ [HP HG]
  case region => intro k acc; exact copy_trip d L h1 R hR k acc _
  · unfold copyInv
    isplitl [HP]; · iexact HP
    iexact HG
  iintro %acc3 HI
  ihave HI' := (copy_done d L R hR acc3) $$ HI
  icases HI' with ⟨HP, HG⟩
  sl_exec
  sl_for (takeInv d L R) $$ [HP HE]
  case region => intro k acc; exact take_trip d L h1 R hR k acc
  · unfold takeInv
    isplitl [HP]; · iexact HP
    iexact HE
  iintro %acc4 HI
  ihave HI' := (take_done d L R hR acc4) $$ HI
  unfold pckPts
  icases HI' with ⟨⟨⟨%pS, %qS, PS⟩, ⟨%pK, %qK, PK⟩, ⟨%pA, %qA, PA⟩, ⟨%pB, %qB, PB⟩, ⟨%pC, %qC, PC⟩, ⟨%pD, %qD, PD⟩⟩, HE⟩
  sl_exec (disch := first | exact View.amount_pos _ _ (show 0 < S9216.numel by decide) | exact View.amount_pos _ _ (show 0 < S640.numel by decide) | exact View.amount_pos _ _ (show 0 < S16.numel by decide))
  sl_step
  unfold rowPts abvPts levPts resPts
  icases HR with ⟨HS, HK, HA, HB, HC, HD⟩
  icases HG with ⟨⟨%gS', %_, GS⟩, ⟨%gK', %_, GK⟩, ⟨%gA', %_, GA⟩, ⟨%gB', %_, GB⟩, ⟨%gC', %_, GC⟩, ⟨%gD', %_, GD⟩⟩
  icases HE with ⟨⟨%eS', %_, ES⟩, ⟨%eK', %_, EK⟩, ⟨%eA', %_, EA⟩, ⟨%eB', %_, EB⟩, ⟨%eC', %_, EC⟩, ⟨%eD', %_, ED⟩⟩
  isplitl [IS IK IA IB IC ID IT]
  · isplitl [IS]; · iexact IS
    isplitl [IK]; · iexact IK
    isplitl [IA]; · iexact IA
    isplitl [IB]; · iexact IB
    isplitl [IC]; · iexact IC
    isplitl [ID]; · iexact ID
    iexact IT
  isplitl [OS OK OA OB OC OD]
  · isplitl [OS]
    · iexists _; isplitr
      · ipureintro; exact (View.read_writes_whole _ oS _).trans (Filled.eq_packed qS)
      iexact OS
    isplitl [OK]
    · iexists _; isplitr
      · ipureintro; exact (View.read_writes_whole _ oK _).trans (Filled.eq_packed qK)
      iexact OK
    isplitl [OA]
    · iexists _; isplitr
      · ipureintro; exact (View.read_writes_whole _ oA _).trans (Filled.eq_packed qA)
      iexact OA
    isplitl [OB]
    · iexists _; isplitr
      · ipureintro; exact (View.read_writes_whole _ oB _).trans (Filled.eq_packed qB)
      iexact OB
    isplitl [OC]
    · iexists _; isplitr
      · ipureintro; exact (View.read_writes_whole _ oC _).trans (Filled.eq_packed qC)
      iexact OC
    iexists _; isplitr
    · ipureintro; exact (View.read_writes_whole _ oD _).trans (Filled.eq_packed qD)
    iexact OD
  isplitl [HS HK HA HB HC HD GS GK GA GB GC GD ES EK EA EB EC ED PS PK PA PB PC PD HT]
  · isplitl [HS]; · iexists _; iexact HS
    isplitl [HK]; · iexists _; iexact HK
    isplitl [HA]; · iexists _; iexact HA
    isplitl [HB]; · iexists _; iexact HB
    isplitl [HC]; · iexists _; iexact HC
    isplitl [HD]; · iexists _; iexact HD
    isplitl [GS]; · iexists _; iexact GS
    isplitl [GK]; · iexists _; iexact GK
    isplitl [GA]; · iexists _; iexact GA
    isplitl [GB]; · iexists _; iexact GB
    isplitl [GC]; · iexists _; iexact GC
    isplitl [GD]; · iexists _; iexact GD
    isplitl [ES]; · iexists _; iexact ES
    isplitl [EK]; · iexists _; iexact EK
    isplitl [EA]; · iexists _; iexact EA
    isplitl [EB]; · iexists _; iexact EB
    isplitl [EC]; · iexists _; iexact EC
    isplitl [ED]; · iexists _; iexact ED
    isplitl [PS]; · iexists _; iexact PS
    isplitl [PK]; · iexists _; iexact PK
    isplitl [PA]; · iexists _; iexact PA
    isplitl [PB]; · iexists _; iexact PB
    isplitl [PC]; · iexists _; iexact PC
    isplitl [PD]; · iexists _; iexact PD
    iexists _; iexact HT
  isplitl [S0 S1 S2 S3 S4 S5 S6 S7 S8 S9 S10 S11 S12]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  iexists _; iexact HO
end Task

end Cert.Proof.Select
-- ==== Proof.Rows.lean ====
/-
  One row of an array of four rows: its set of indices, the tile that holds it, and the array split into its rows.
-/
module

public import proofs.«01_k».proof.Proof.Task

@[expose] public section

noncomputable section

namespace Cert.Proof.Select

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## A row's indices -/

theorem div4 (n : ℕ) : 4 ∣ (⟨2, ![4, n]⟩ : Shape).size 0 := ⟨1, rfl⟩

/-- Row `r` of an array of four rows. -/
abbrev rowRect (n : ℕ) (r : Fin 4) : Rect ⟨2, ![4, n]⟩ := Rect.part (s := ⟨2, ![4, n]⟩) (a₀ := 0) (div4 n) r
abbrev rowSet (n : ℕ) (r : Fin 4) : Finset (⟨2, ![4, n]⟩ : Shape).Idx := (rowRect n r).set

theorem rows_disjoint (n : ℕ) : ∀ i ∈ (Finset.univ : Finset (Fin 4)), ∀ j ∈ (Finset.univ : Finset (Fin 4)), i ≠ j → Disjoint (rowSet n i) (rowSet n j) :=
  fun _ _ _ _ h => Rect.part_disjoint (div4 n) h

theorem rows_cover (n : ℕ) : (Finset.univ : Finset (Fin 4)).biUnion (rowSet n) = Finset.univ := Rect.biUnion_part (div4 n)

theorem rowRect_eq {n : ℕ} {r : Fin 4} {off : Fin 2 → ℕ} (h : off = ![r.val, 0])
    (inb : ∀ a, off a + (![1, n] : Fin 2 → ℕ) a ≤ (⟨2, ![4, n]⟩ : Shape).size a) :
    Rect.unit (s := ⟨2, ![4, n]⟩) off ![1, n] inb = rowRect n r := by
  subst h
  unfold rowRect Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem reshape_row {n : ℕ} (hn : (⟨1, ![n]⟩ : Shape).numel = (⟨2, ![1, n]⟩ : Shape).numel) (y : (⟨1, ![n]⟩ : Shape).Idx) :
    Shape.reshapeEquiv hn y = ix2 (⟨0, Nat.one_pos⟩ : Fin 1) (y 0) := by
  obtain ⟨k, rfl⟩ : ∃ k : Fin n, y = ix1 k := ⟨y 0, funext fun a => by fin_cases a; rfl⟩
  show Shape.reshapeEquiv hn (ix1 k) = ix2 (⟨0, Nat.one_pos⟩ : Fin 1) k
  exact Shape.reshapeEquiv_eq_of_rowMajor hn (by
    rw [Shape.rowMajor_val_two, Shape.rowMajor_val_one]
    show 0 * n + k.val = k.val
    omega)

theorem row_emb {n : ℕ} {r : Fin 4} {off : Fin 2 → ℕ} (h : off = ![r.val, 0])
    (inb : ∀ a, off a + (![1, n] : Fin 2 → ℕ) a ≤ (⟨2, ![4, n]⟩ : Shape).size a)
    (hn : (⟨1, ![n]⟩ : Shape).numel = (⟨2, ![1, n]⟩ : Shape).numel) (y : (⟨1, ![n]⟩ : Shape).Idx) :
    (Rect.unit (s := ⟨2, ![4, n]⟩) off ![1, n] inb).emb (Shape.reshapeEquiv hn y) = ix2 r (y 0) := by
  subst h
  rw [show Shape.reshapeEquiv hn y = ix2 (⟨0, Nat.one_pos⟩ : Fin 1) (y 0) from reshape_row hn y]
  funext a
  fin_cases a
  · exact Fin.ext (by show r.val + 1 * 0 = r.val; omega)
  · exact Fin.ext (by show 0 + 1 * (y 0).val = (y 0).val; omega)

/-! ## The tile of a row -/

theorem cond_iff (c : Fin 2) (s : Fin 16) :
    k0_cond1 (fun | 0 => c | 1 => s | ⟨_ + 2, h⟩ => absurd h (Nat.not_lt.2 (Nat.le_add_left _ _))) = 1#1 ↔ 2 * s.val + c.val < 4 := by
  revert c s; decide

theorem cond_lt (L : grid0.Coords) : k0_cond1 L = 1#1 ↔ 2 * (L 1).val + (L 0).val < 4 := cond_iff (L 0) (L 1)

/-- The row of the tile at `L`. -/
abbrev rI (L : grid0.Coords) (h : k0_cond1 L = 1#1) : Fin 4 := ⟨2 * (L 1).val + (L 0).val, (cond_lt L).mp h⟩

section Sets

variable (d : Dev nD) (L : grid0.Coords) (h : k0_cond1 L = 1#1)

theorem set_srcS : (srcS L h).view.set = rowSet 9216 (rI L h) := by
  show (((inS).view.slice (Rect.unit (s := S4x9216) (k0_off1 L) S1x9216.size (k0_off1_inb L h))).reshape S9216 squeezes_S1x9216_S9216.numel_eq).set = _
  rw [View.set_reshape, View.set_slice_whole]
  exact congrArg (fun R : Rect _ => R.set) (rowRect_eq (n := 9216) (r := rI L h) (k0_off1_eq L) _)
theorem emb_srcS (y : S9216.Idx) : (srcS L h).view.emb y = ix2 (rI L h) (y 0) :=
  row_emb (n := 9216) (r := rI L h) (k0_off1_eq L) _ squeezes_S1x9216_S9216.numel_eq y
theorem set_srcK : (srcK L h).view.set = rowSet 9216 (rI L h) := by
  show (((inK).view.slice (Rect.unit (s := S4x9216) (k0_off1 L) S1x9216.size (k0_off1_inb L h))).reshape S9216 squeezes_S1x9216_S9216.numel_eq).set = _
  rw [View.set_reshape, View.set_slice_whole]
  exact congrArg (fun R : Rect _ => R.set) (rowRect_eq (n := 9216) (r := rI L h) (k0_off1_eq L) _)
theorem emb_srcK (y : S9216.Idx) : (srcK L h).view.emb y = ix2 (rI L h) (y 0) :=
  row_emb (n := 9216) (r := rI L h) (k0_off1_eq L) _ squeezes_S1x9216_S9216.numel_eq y
theorem set_srcA : (srcA L h).view.set = rowSet 9216 (rI L h) := by
  show (((inA).view.slice (Rect.unit (s := S4x9216) (k0_off1 L) S1x9216.size (k0_off1_inb L h))).reshape S9216 squeezes_S1x9216_S9216.numel_eq).set = _
  rw [View.set_reshape, View.set_slice_whole]
  exact congrArg (fun R : Rect _ => R.set) (rowRect_eq (n := 9216) (r := rI L h) (k0_off1_eq L) _)
theorem emb_srcA (y : S9216.Idx) : (srcA L h).view.emb y = ix2 (rI L h) (y 0) :=
  row_emb (n := 9216) (r := rI L h) (k0_off1_eq L) _ squeezes_S1x9216_S9216.numel_eq y
theorem set_srcB : (srcB L h).view.set = rowSet 9216 (rI L h) := by
  show (((inB).view.slice (Rect.unit (s := S4x9216) (k0_off1 L) S1x9216.size (k0_off1_inb L h))).reshape S9216 squeezes_S1x9216_S9216.numel_eq).set = _
  rw [View.set_reshape, View.set_slice_whole]
  exact congrArg (fun R : Rect _ => R.set) (rowRect_eq (n := 9216) (r := rI L h) (k0_off1_eq L) _)
theorem emb_srcB (y : S9216.Idx) : (srcB L h).view.emb y = ix2 (rI L h) (y 0) :=
  row_emb (n := 9216) (r := rI L h) (k0_off1_eq L) _ squeezes_S1x9216_S9216.numel_eq y
theorem set_srcC : (srcC L h).view.set = rowSet 9216 (rI L h) := by
  show (((inC).view.slice (Rect.unit (s := S4x9216) (k0_off1 L) S1x9216.size (k0_off1_inb L h))).reshape S9216 squeezes_S1x9216_S9216.numel_eq).set = _
  rw [View.set_reshape, View.set_slice_whole]
  exact congrArg (fun R : Rect _ => R.set) (rowRect_eq (n := 9216) (r := rI L h) (k0_off1_eq L) _)
theorem emb_srcC (y : S9216.Idx) : (srcC L h).view.emb y = ix2 (rI L h) (y 0) :=
  row_emb (n := 9216) (r := rI L h) (k0_off1_eq L) _ squeezes_S1x9216_S9216.numel_eq y
theorem set_srcD : (srcD L h).view.set = rowSet 9216 (rI L h) := by
  show (((inD).view.slice (Rect.unit (s := S4x9216) (k0_off1 L) S1x9216.size (k0_off1_inb L h))).reshape S9216 squeezes_S1x9216_S9216.numel_eq).set = _
  rw [View.set_reshape, View.set_slice_whole]
  exact congrArg (fun R : Rect _ => R.set) (rowRect_eq (n := 9216) (r := rI L h) (k0_off1_eq L) _)
theorem emb_srcD (y : S9216.Idx) : (srcD L h).view.emb y = ix2 (rI L h) (y 0) :=
  row_emb (n := 9216) (r := rI L h) (k0_off1_eq L) _ squeezes_S1x9216_S9216.numel_eq y
theorem set_srcT : (srcT L h).view.set = rowSet 16 (rI L h) := by
  show (((inT).view.slice (Rect.unit (s := S4x16) (k0_off2 L) S1x16.size (k0_off2_inb L h))).reshape S16 squeezes_S1x16_S16.numel_eq).set = _
  rw [View.set_reshape, View.set_slice_whole]
  exact congrArg (fun R : Rect _ => R.set) (rowRect_eq (n := 16) (r := rI L h) (k0_off2_eq L) _)
theorem emb_srcT (y : S16.Idx) : (srcT L h).view.emb y = ix2 (rI L h) (y 0) :=
  row_emb (n := 16) (r := rI L h) (k0_off2_eq L) _ squeezes_S1x16_S16.numel_eq y
theorem set_dstS : (dstS L h).view.set = rowSet 640 (rI L h) := by
  show (((outS).view.slice (Rect.unit (s := S4x640) (k0_off11 L) S1x640.size (k0_off11_inb L h))).reshape S640 squeezes_S1x640_S640.numel_eq).set = _
  rw [View.set_reshape, View.set_slice_whole]
  exact congrArg (fun R : Rect _ => R.set) (rowRect_eq (n := 640) (r := rI L h) (k0_off11_eq L) _)
theorem emb_dstS (y : S640.Idx) : (dstS L h).view.emb y = ix2 (rI L h) (y 0) :=
  row_emb (n := 640) (r := rI L h) (k0_off11_eq L) _ squeezes_S1x640_S640.numel_eq y
theorem set_dstK : (dstK L h).view.set = rowSet 640 (rI L h) := by
  show (((outK).view.slice (Rect.unit (s := S4x640) (k0_off11 L) S1x640.size (k0_off11_inb L h))).reshape S640 squeezes_S1x640_S640.numel_eq).set = _
  rw [View.set_reshape, View.set_slice_whole]
  exact congrArg (fun R : Rect _ => R.set) (rowRect_eq (n := 640) (r := rI L h) (k0_off11_eq L) _)
theorem emb_dstK (y : S640.Idx) : (dstK L h).view.emb y = ix2 (rI L h) (y 0) :=
  row_emb (n := 640) (r := rI L h) (k0_off11_eq L) _ squeezes_S1x640_S640.numel_eq y
theorem set_dstA : (dstA L h).view.set = rowSet 640 (rI L h) := by
  show (((outA).view.slice (Rect.unit (s := S4x640) (k0_off11 L) S1x640.size (k0_off11_inb L h))).reshape S640 squeezes_S1x640_S640.numel_eq).set = _
  rw [View.set_reshape, View.set_slice_whole]
  exact congrArg (fun R : Rect _ => R.set) (rowRect_eq (n := 640) (r := rI L h) (k0_off11_eq L) _)
theorem emb_dstA (y : S640.Idx) : (dstA L h).view.emb y = ix2 (rI L h) (y 0) :=
  row_emb (n := 640) (r := rI L h) (k0_off11_eq L) _ squeezes_S1x640_S640.numel_eq y
theorem set_dstB : (dstB L h).view.set = rowSet 640 (rI L h) := by
  show (((outB).view.slice (Rect.unit (s := S4x640) (k0_off11 L) S1x640.size (k0_off11_inb L h))).reshape S640 squeezes_S1x640_S640.numel_eq).set = _
  rw [View.set_reshape, View.set_slice_whole]
  exact congrArg (fun R : Rect _ => R.set) (rowRect_eq (n := 640) (r := rI L h) (k0_off11_eq L) _)
theorem emb_dstB (y : S640.Idx) : (dstB L h).view.emb y = ix2 (rI L h) (y 0) :=
  row_emb (n := 640) (r := rI L h) (k0_off11_eq L) _ squeezes_S1x640_S640.numel_eq y
theorem set_dstC : (dstC L h).view.set = rowSet 640 (rI L h) := by
  show (((outC).view.slice (Rect.unit (s := S4x640) (k0_off11 L) S1x640.size (k0_off11_inb L h))).reshape S640 squeezes_S1x640_S640.numel_eq).set = _
  rw [View.set_reshape, View.set_slice_whole]
  exact congrArg (fun R : Rect _ => R.set) (rowRect_eq (n := 640) (r := rI L h) (k0_off11_eq L) _)
theorem emb_dstC (y : S640.Idx) : (dstC L h).view.emb y = ix2 (rI L h) (y 0) :=
  row_emb (n := 640) (r := rI L h) (k0_off11_eq L) _ squeezes_S1x640_S640.numel_eq y
theorem set_dstD : (dstD L h).view.set = rowSet 640 (rI L h) := by
  show (((outD).view.slice (Rect.unit (s := S4x640) (k0_off11 L) S1x640.size (k0_off11_inb L h))).reshape S640 squeezes_S1x640_S640.numel_eq).set = _
  rw [View.set_reshape, View.set_slice_whole]
  exact congrArg (fun R : Rect _ => R.set) (rowRect_eq (n := 640) (r := rI L h) (k0_off11_eq L) _)
theorem emb_dstD (y : S640.Idx) : (dstD L h).view.emb y = ix2 (rI L h) (y 0) :=
  row_emb (n := 640) (r := rI L h) (k0_off11_eq L) _ squeezes_S1x640_S640.numel_eq y

end Sets

/-! ## Four rows over the thirty-two tiles -/

section Shares

variable {F : FTy → Type}

theorem bigSep_four (Φ : Fin 4 → sProp (𝕄 F)) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The tile's share: row `2 i + c` where there is one. -/
def share (Φ : Fin 4 → sProp (𝕄 F)) (c i : ℕ) : sProp (𝕄 F) :=
  if h : 2 * i + c < 4 then Φ ⟨2 * i + c, h⟩ else iprop(emp)

theorem share_of_lt (Φ : Fin 4 → sProp (𝕄 F)) {c i : ℕ} (h : 2 * i + c < 4) : share Φ c i = Φ ⟨2 * i + c, h⟩ := dif_pos h
theorem share_of_not_lt (Φ : Fin 4 → sProp (𝕄 F)) {c i : ℕ} (h : ¬ 2 * i + c < 4) : share Φ c i = iprop(emp) := dif_neg h

theorem bigSep_nothing {I : Type} (s : Finset I) : (bigSep s fun _ => iprop(emp)) = (iprop(emp) : sProp (𝕄 F)) := bigSep_emp_const s

theorem core_shares (Φ : Fin 4 → sProp (𝕄 F)) (c : ℕ) (hc : c < 2) :
    (bigSep Finset.univ fun i : Fin 16 => share Φ c i.val) = iprop(Φ ⟨c, by omega⟩ ∗ Φ ⟨2 + c, by omega⟩) := by
  rw [SparseCore.bigSep_sdiff_split' (t := {0, 1}) (Finset.subset_univ _), SparseCore.bigSep_insert' (by decide), bigSep_singleton,
    show (bigSep (Finset.univ \ {0, 1} : Finset (Fin 16)) fun i => share Φ c i.val) = bigSep (Finset.univ \ {0, 1} : Finset (Fin 16)) fun _ => iprop(emp) from
      bigSep_congr fun i hi => share_of_not_lt Φ (by
        have : i ≠ 0 ∧ i ≠ 1 := by simpa using hi
        have h0 := fun e => this.1 (Fin.ext e)
        have h1 := fun e => this.2 (Fin.ext e)
        have h0' : i.val ≠ 0 := h0
        have h1' : i.val ≠ 1 := h1
        omega),
    bigSep_nothing]
  have e0 : share Φ c (0 : Fin 16).val = Φ ⟨c, by omega⟩ := (share_of_lt Φ (c := c) (i := 0) (by omega)).trans (congrArg Φ (Fin.ext (by show 2 * 0 + c = c; omega)))
  have e1 : share Φ c (1 : Fin 16).val = Φ ⟨2 + c, by omega⟩ := share_of_lt Φ (c := c) (i := 1) (by omega)
  rw [e0, e1]
  exact equiv_iff.mp sep_emp

theorem all_shares (Φ : Fin 4 → sProp (𝕄 F)) :
    (bigSep Finset.univ fun c : Fin 2 => bigSep Finset.univ fun i : Fin 16 => share Φ c.val i.val) = bigSep Finset.univ Φ := by
  rw [bigSep_congr fun c _ => core_shares Φ c.val c.isLt, BI.bigSep_fin_two, bigSep_four]
  have h1 : iprop((Φ 0 ∗ Φ 2) ∗ Φ 1 ∗ Φ 3) ⊢ iprop(Φ 0 ∗ Φ 1 ∗ Φ 2 ∗ Φ 3) := by
    iintro ⟨⟨H0, H2⟩, H1, H3⟩
    isplitl [H0]; · iexact H0
    isplitl [H1]; · iexact H1
    isplitl [H2]; · iexact H2
    iexact H3
  have h2 : iprop(Φ 0 ∗ Φ 1 ∗ Φ 2 ∗ Φ 3) ⊢ iprop((Φ 0 ∗ Φ 2) ∗ Φ 1 ∗ Φ 3) := by
    iintro ⟨H0, H1, H2, H3⟩
    isplitl [H0 H2]
    · isplitl [H0]; · iexact H0
      iexact H2
    isplitl [H1]; · iexact H1
    iexact H3
  exact equiv_iff.mp ⟨h1, h2⟩

end Shares

end Cert.Proof.Select
-- ==== Proof.Launch.lean ====
/-
  The launch: what a tile owns, what the call hands it and takes back, @main around the call, and the run of the whole
  program: the arguments stay, and each result holds the packed rows.
-/
module

public import proofs.«01_k».proof.Proof.Rows

@[expose] public section

noncomputable section

namespace Cert.Proof.Select

open Cert.KernelIdeal Cert.KernelIdeal.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.ShloMosaic.StableHlo (wp_hlo_within held)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (𝕄 F) := embL

/-! ## What a tile owns -/

section Own

variable (d : Dev nD) (L : grid0.Coords)

theorem bigSep_cells (Φ : Fin 13 → sProp (𝕄 F)) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [show (Finset.univ : Finset (Fin 13)) = {0, 1, 2, 3, 4, 5, 6, 7, 8, 9, 10, 11, 12} by decide,
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide), bigSep_singleton]

theorem bigSep_bufs (Φ : Fin 25 → sProp (𝕄 F)) : bigSep Finset.univ Φ
    = iprop(Φ 0 ∗ Φ 1 ∗ Φ 2 ∗ Φ 3 ∗ Φ 4 ∗ Φ 5 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 6) := by
  rw [show (Finset.univ : Finset (Fin 25)) = {0, 1, 2, 3, 4, 5, 7, 8, 9, 10, 11, 12, 13, 14, 15, 16, 17, 18, 19, 20, 21, 22, 23, 24, 6} by decide,
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide), bigSep_singleton]

/-- The tile's copies' counters. -/
abbrev cellV (i : Fin 13) : GSem nD τ sig := (thr d L, SemLoc.dma ⟨i.val, i.isLt⟩)

theorem cellV_injective : Function.Injective (cellV d L) := fun i j h => by
  have h2 : (SemLoc.dma ⟨i.val, i.isLt⟩ : SemLoc sig) = SemLoc.dma ⟨j.val, j.isLt⟩ := congrArg Prod.snd h
  have h3 := SemLoc.dma.inj h2
  exact Fin.ext (congrArg Fin.val h3)

theorem ownSems_split : (ownSems0 (thr d L) : sProp (𝕄 F))
    = iprop(semPts d L ∗ bigSep (ownCells (thr d L) \ Finset.univ.image (cellV d L)) fun g => semVal g 0) := by
  unfold SparseCore.Cfg.ownSems0
  rw [SparseCore.bigSep_sdiff_split' (t := Finset.univ.image (cellV d L)) (fun g hg => by
      obtain ⟨i, -, rfl⟩ := Finset.mem_image.mp hg
      refine mem_ownCells.mpr ⟨rfl, ?_⟩
      show (SemLoc.dma ⟨i.val, i.isLt⟩ : SemLoc sig).isScoped .scVector = true
      clear hg; revert i; decide),
    bigSep_image_of_injOn ((cellV_injective d L).injOn), bigSep_cells]
  rfl

/-- The tile's scratch buffers. -/
abbrev refV (i : Fin 25) : Ref sig .scVector := ⟨.vmem, ⟨i.val, i.isLt⟩, rfl⟩

abbrev bufV (i : Fin 25) : DevRef τ sig := (Proc.scVector (cV L) (jV L)).devRef (refV i)

theorem bufV_injective : Function.Injective (bufV L) := fun i j h => by
  have h2 : refV i = refV j := Proc.devRef_injective _ h
  clear h; revert i j; decide

theorem ownBufs_split : (ownBufs (thr d L) : sProp (𝕄 F))
    = iprop(bufPts d L ∗ bigSep (ownRefs (thr d L).2 \ Finset.univ.image (bufV L)) fun b => iprop(∃ f, ((d, b) : Loc nD τ sig) ↦{fullShare} f)) := by
  unfold SparseCore.Cfg.ownBufs
  rw [SparseCore.bigSep_sdiff_split' (t := Finset.univ.image (bufV L)) (fun g hg => by
      obtain ⟨i, -, rfl⟩ := Finset.mem_image.mp hg
      exact SparseCore.Cfg.mem_ownRefs_of_owner (p := Proc.scVector (cV L) (jV L)) rfl),
    bigSep_image_of_injOn ((bufV_injective L).injOn), bigSep_bufs]
  rfl

end Own

/-! ## The launch memory, the rows, and the results -/

variable (m : (ℓ : Loc nD τ sig) → Buf (Elt F) ℓ) (ρ : Dev nD → PrngReg)

abbrev iS (d : Dev nD) : Loc nD τ sig := (SparseCore.T d).loc main_arg0
abbrev oS (d : Dev nD) : Loc nD τ sig := (SparseCore.T d).loc main_v1_0
abbrev iK (d : Dev nD) : Loc nD τ sig := (SparseCore.T d).loc main_arg1
abbrev oK (d : Dev nD) : Loc nD τ sig := (SparseCore.T d).loc main_v1_1
abbrev iA (d : Dev nD) : Loc nD τ sig := (SparseCore.T d).loc main_arg2
abbrev oA (d : Dev nD) : Loc nD τ sig := (SparseCore.T d).loc main_v1_2
abbrev iB (d : Dev nD) : Loc nD τ sig := (SparseCore.T d).loc main_arg3
abbrev oB (d : Dev nD) : Loc nD τ sig := (SparseCore.T d).loc main_v1_3
abbrev iC (d : Dev nD) : Loc nD τ sig := (SparseCore.T d).loc main_arg4
abbrev oC (d : Dev nD) : Loc nD τ sig := (SparseCore.T d).loc main_v1_4
abbrev iD (d : Dev nD) : Loc nD τ sig := (SparseCore.T d).loc main_arg5
abbrev oD (d : Dev nD) : Loc nD τ sig := (SparseCore.T d).loc main_v1_5
abbrev iT (d : Dev nD) : Loc nD τ sig := (SparseCore.T d).loc main_arg6
abbrev bT (d : Dev nD) : Loc nD τ sig := (SparseCore.T d).loc main_v0

/-- Row `r` of the arguments. -/
def argRow (d : Dev nD) (r : Fin 4) : Row F where
  S := fun x => m (iS d) (ix2 r (x 0))
  K := fun x => m (iK d) (ix2 r (x 0))
  A := fun x => m (iA d) (ix2 r (x 0))
  B := fun x => m (iB d) (ix2 r (x 0))
  C := fun x => m (iC d) (ix2 r (x 0))
  D := fun x => m (iD d) (ix2 r (x 0))
  t := m (iT d) (ix2 r 0)

/-- The thresholds, sixteen lanes to a row. -/
def lanesT (d : Dev nD) : Buf (Elt F) (bT d) :=
  (broadcastInDim S4x16 ![0, 1] bcast_S4x1_S4x16_0_1 : (⟨S4x1, .i32⟩ : BufTy).Contents (Elt F) → (⟨S4x16, .i32⟩ : BufTy).Contents (Elt F)) (m (iT d))

theorem lanesT_apply (d : Dev nD) (r : Fin 4) (k : Fin 16) : lanesT m d (ix2 r k) = m (iT d) (ix2 r 0) := by
  unfold lanesT
  show m (iT d) _ = m (iT d) _
  exact congrArg (m (iT d)) (funext fun a => by fin_cases a <;> rfl)

variable [FloatOps F]

def resS (d : Dev nD) : Buf (Elt F) (oS d) :=
  (fun j => packed (argRow m d (j 0)).K (argRow m d (j 0)).t (argRow m d (j 0)).S padS (ix1 (j 1)) : S4x640.Idx → Elt F .f32)
def resK (d : Dev nD) : Buf (Elt F) (oK d) :=
  (fun j => packed (argRow m d (j 0)).K (argRow m d (j 0)).t posRow padK (ix1 (j 1)) : S4x640.Idx → Elt F .i32)
def resA (d : Dev nD) : Buf (Elt F) (oA d) :=
  (fun j => packed (argRow m d (j 0)).K (argRow m d (j 0)).t (argRow m d (j 0)).A padE (ix1 (j 1)) : S4x640.Idx → Elt F .f32)
def resB (d : Dev nD) : Buf (Elt F) (oB d) :=
  (fun j => packed (argRow m d (j 0)).K (argRow m d (j 0)).t (argRow m d (j 0)).B padE (ix1 (j 1)) : S4x640.Idx → Elt F .f32)
def resC (d : Dev nD) : Buf (Elt F) (oC d) :=
  (fun j => packed (argRow m d (j 0)).K (argRow m d (j 0)).t (argRow m d (j 0)).C padE (ix1 (j 1)) : S4x640.Idx → Elt F .f32)
def resD (d : Dev nD) : Buf (Elt F) (oD d) :=
  (fun j => packed (argRow m d (j 0)).K (argRow m d (j 0)).t (argRow m d (j 0)).D padE (ix1 (j 1)) : S4x640.Idx → Elt F .f32)

/-! ## What the handshakes carry -/

/-- Row `r` of the arguments and of the broadcast thresholds. -/
def argPts (d : Dev nD) (r : Fin 4) : sProp (𝕄 F) :=
  iprop((iS d ↦[rowSet 9216 r]{fullShare} m (iS d)) ∗ (iK d ↦[rowSet 9216 r]{fullShare} m (iK d)) ∗ (iA d ↦[rowSet 9216 r]{fullShare} m (iA d)) ∗ (iB d ↦[rowSet 9216 r]{fullShare} m (iB d)) ∗ (iC d ↦[rowSet 9216 r]{fullShare} m (iC d)) ∗ (iD d ↦[rowSet 9216 r]{fullShare} m (iD d)) ∗ (bT d ↦[rowSet 16 r]{fullShare} lanesT m d))

/-- Row `r` of the results at `f…`. -/
def outPts (d : Dev nD) (r : Fin 4) (fS : Buf (Elt F) (oS d)) (fK : Buf (Elt F) (oK d)) (fA : Buf (Elt F) (oA d)) (fB : Buf (Elt F) (oB d)) (fC : Buf (Elt F) (oC d)) (fD : Buf (Elt F) (oD d)) : sProp (𝕄 F) :=
  iprop((oS d ↦[rowSet 640 r]{fullShare} fS) ∗ (oK d ↦[rowSet 640 r]{fullShare} fK) ∗ (oA d ↦[rowSet 640 r]{fullShare} fA) ∗ (oB d ↦[rowSet 640 r]{fullShare} fB) ∗ (oC d ↦[rowSet 640 r]{fullShare} fC) ∗ (oD d ↦[rowSet 640 r]{fullShare} fD))

abbrev goRow (d : Dev nD) (r : Fin 4) : sProp (𝕄 F) := iprop(argPts m d r ∗ outPts d r (m (oS d)) (m (oK d)) (m (oA d)) (m (oB d)) (m (oC d)) (m (oD d)))
abbrev tdRow (d : Dev nD) (r : Fin 4) : sProp (𝕄 F) := iprop(argPts m d r ∗ outPts d r (resS m d) (resK m d) (resA m d) (resB m d) (resC m d) (resD m d))

/-- The call deals each tile its share of the rows and takes it back with the results' rows filled. -/
def P : (K (F := F)).Pay (nD := nD) (Val := Elt F) (Name := ℕ) (U := UU) where
  st := fun q d c => match q with | 0 => bigSep Finset.univ fun i : Fin 16 => share (goRow m d) c.val i.val
  dn := fun q d c => match q with | 0 => bigSep Finset.univ fun i : Fin 16 => share (tdRow m d) c.val i.val
  go := fun q d c i => match q with | 0 => share (goRow m d) c.val i.val
  td := fun q d c i => match q with | 0 => share (tdRow m d) c.val i.val
  x := fun _ _ => iprop(emp)

instance goRow_storable (d : Dev nD) (r : Fin 4) : BI.Storable (upEmb : UEmb _ (𝕄 F)) (goRow m d r) := by
  unfold goRow argPts outPts; infer_instance
instance tdRow_storable (d : Dev nD) (r : Fin 4) : BI.Storable (upEmb : UEmb _ (𝕄 F)) (tdRow m d r) := by
  unfold tdRow argPts outPts; infer_instance
instance share_storable (Φ : Fin 4 → sProp (𝕄 F)) [∀ r, BI.Storable (upEmb : UEmb _ (𝕄 F)) (Φ r)] (c i : ℕ) :
    BI.Storable (upEmb : UEmb _ (𝕄 F)) (share Φ c i) := by
  unfold share; split <;> infer_instance

instance P_storable : (P (F := F) m).IsStorable where
  st q d c := match q with | 0 => (inferInstance : BI.Storable (upEmb : UEmb _ (𝕄 F)) (bigSep Finset.univ fun i : Fin 16 => share (goRow m d) c.val i.val))
  dn q d c := match q with | 0 => (inferInstance : BI.Storable (upEmb : UEmb _ (𝕄 F)) (bigSep Finset.univ fun i : Fin 16 => share (tdRow m d) c.val i.val))
  go q d c i := match q with | 0 => (inferInstance : BI.Storable (upEmb : UEmb _ (𝕄 F)) (share (goRow m d) c.val i.val))
  td q d c i := match q with | 0 => (inferInstance : BI.Storable (upEmb : UEmb _ (𝕄 F)) (share (tdRow m d) c.val i.val))

/-! ## The task -/

section Tile

variable (d : Dev nD) (L : grid0.Coords)

theorem pts_srcS (h : k0_cond1 L = 1#1) (f : Buf (Elt F) (iS d)) :
    ((srcS L h).view.loc (thr d L) ↦[(srcS L h).view.set]{fullShare} f : sProp (𝕄 F)) = iS d ↦[rowSet 9216 (rI L h)]{fullShare} f := by
  rw [set_srcS]
theorem pts_srcK (h : k0_cond1 L = 1#1) (f : Buf (Elt F) (iK d)) :
    ((srcK L h).view.loc (thr d L) ↦[(srcK L h).view.set]{fullShare} f : sProp (𝕄 F)) = iK d ↦[rowSet 9216 (rI L h)]{fullShare} f := by
  rw [set_srcK]
theorem pts_srcA (h : k0_cond1 L = 1#1) (f : Buf (Elt F) (iA d)) :
    ((srcA L h).view.loc (thr d L) ↦[(srcA L h).view.set]{fullShare} f : sProp (𝕄 F)) = iA d ↦[rowSet 9216 (rI L h)]{fullShare} f := by
  rw [set_srcA]
theorem pts_srcB (h : k0_cond1 L = 1#1) (f : Buf (Elt F) (iB d)) :
    ((srcB L h).view.loc (thr d L) ↦[(srcB L h).view.set]{fullShare} f : sProp (𝕄 F)) = iB d ↦[rowSet 9216 (rI L h)]{fullShare} f := by
  rw [set_srcB]
theorem pts_srcC (h : k0_cond1 L = 1#1) (f : Buf (Elt F) (iC d)) :
    ((srcC L h).view.loc (thr d L) ↦[(srcC L h).view.set]{fullShare} f : sProp (𝕄 F)) = iC d ↦[rowSet 9216 (rI L h)]{fullShare} f := by
  rw [set_srcC]
theorem pts_srcD (h : k0_cond1 L = 1#1) (f : Buf (Elt F) (iD d)) :
    ((srcD L h).view.loc (thr d L) ↦[(srcD L h).view.set]{fullShare} f : sProp (𝕄 F)) = iD d ↦[rowSet 9216 (rI L h)]{fullShare} f := by
  rw [set_srcD]
theorem pts_srcT (h : k0_cond1 L = 1#1) (f : Buf (Elt F) (bT d)) :
    ((srcT L h).view.loc (thr d L) ↦[(srcT L h).view.set]{fullShare} f : sProp (𝕄 F)) = bT d ↦[rowSet 16 (rI L h)]{fullShare} f := by
  rw [set_srcT]
theorem pts_dstS (h : k0_cond1 L = 1#1) (f : Buf (Elt F) (oS d)) :
    ((dstS L h).view.loc (thr d L) ↦[(dstS L h).view.set]{fullShare} f : sProp (𝕄 F)) = oS d ↦[rowSet 640 (rI L h)]{fullShare} f := by
  rw [set_dstS]
theorem res_dstS (h : k0_cond1 L = 1#1) (f : Buf (Elt F) (oS d))
    (hf : (dstS L h).view.read (Elt F) f = packed (argRow m d (rI L h)).K (argRow m d (rI L h)).t (argRow m d (rI L h)).S padS) :
    ((dstS L h).view.loc (thr d L) ↦[(dstS L h).view.set]{fullShare} f : sProp (𝕄 F)) = oS d ↦[rowSet 640 (rI L h)]{fullShare} resS m d := by
  rw [← pts_dstS d L h]
  refine pointsTo_congr fun i hi => ?_
  obtain ⟨y, -, rfl⟩ := Finset.mem_map.mp hi
  refine (congrFun hf y).trans ?_
  refine Eq.trans ?_ (congrArg (resS m d) (emb_dstS L h y)).symm
  exact congrArg (packed (argRow m d (rI L h)).K (argRow m d (rI L h)).t (argRow m d (rI L h)).S padS) (eq_ix1 y)
theorem pts_dstK (h : k0_cond1 L = 1#1) (f : Buf (Elt F) (oK d)) :
    ((dstK L h).view.loc (thr d L) ↦[(dstK L h).view.set]{fullShare} f : sProp (𝕄 F)) = oK d ↦[rowSet 640 (rI L h)]{fullShare} f := by
  rw [set_dstK]
theorem res_dstK (h : k0_cond1 L = 1#1) (f : Buf (Elt F) (oK d))
    (hf : (dstK L h).view.read (Elt F) f = packed (argRow m d (rI L h)).K (argRow m d (rI L h)).t posRow padK) :
    ((dstK L h).view.loc (thr d L) ↦[(dstK L h).view.set]{fullShare} f : sProp (𝕄 F)) = oK d ↦[rowSet 640 (rI L h)]{fullShare} resK m d := by
  rw [← pts_dstK d L h]
  refine pointsTo_congr fun i hi => ?_
  obtain ⟨y, -, rfl⟩ := Finset.mem_map.mp hi
  refine (congrFun hf y).trans ?_
  refine Eq.trans ?_ (congrArg (resK m d) (emb_dstK L h y)).symm
  exact congrArg (packed (argRow m d (rI L h)).K (argRow m d (rI L h)).t posRow padK) (eq_ix1 y)
theorem pts_dstA (h : k0_cond1 L = 1#1) (f : Buf (Elt F) (oA d)) :
    ((dstA L h).view.loc (thr d L) ↦[(dstA L h).view.set]{fullShare} f : sProp (𝕄 F)) = oA d ↦[rowSet 640 (rI L h)]{fullShare} f := by
  rw [set_dstA]
theorem res_dstA (h : k0_cond1 L = 1#1) (f : Buf (Elt F) (oA d))
    (hf : (dstA L h).view.read (Elt F) f = packed (argRow m d (rI L h)).K (argRow m d (rI L h)).t (argRow m d (rI L h)).A padE) :
    ((dstA L h).view.loc (thr d L) ↦[(dstA L h).view.set]{fullShare} f : sProp (𝕄 F)) = oA d ↦[rowSet 640 (rI L h)]{fullShare} resA m d := by
  rw [← pts_dstA d L h]
  refine pointsTo_congr fun i hi => ?_
  obtain ⟨y, -, rfl⟩ := Finset.mem_map.mp hi
  refine (congrFun hf y).trans ?_
  refine Eq.trans ?_ (congrArg (resA m d) (emb_dstA L h y)).symm
  exact congrArg (packed (argRow m d (rI L h)).K (argRow m d (rI L h)).t (argRow m d (rI L h)).A padE) (eq_ix1 y)
theorem pts_dstB (h : k0_cond1 L = 1#1) (f : Buf (Elt F) (oB d)) :
    ((dstB L h).view.loc (thr d L) ↦[(dstB L h).view.set]{fullShare} f : sProp (𝕄 F)) = oB d ↦[rowSet 640 (rI L h)]{fullShare} f := by
  rw [set_dstB]
theorem res_dstB (h : k0_cond1 L = 1#1) (f : Buf (Elt F) (oB d))
    (hf : (dstB L h).view.read (Elt F) f = packed (argRow m d (rI L h)).K (argRow m d (rI L h)).t (argRow m d (rI L h)).B padE) :
    ((dstB L h).view.loc (thr d L) ↦[(dstB L h).view.set]{fullShare} f : sProp (𝕄 F)) = oB d ↦[rowSet 640 (rI L h)]{fullShare} resB m d := by
  rw [← pts_dstB d L h]
  refine pointsTo_congr fun i hi => ?_
  obtain ⟨y, -, rfl⟩ := Finset.mem_map.mp hi
  refine (congrFun hf y).trans ?_
  refine Eq.trans ?_ (congrArg (resB m d) (emb_dstB L h y)).symm
  exact congrArg (packed (argRow m d (rI L h)).K (argRow m d (rI L h)).t (argRow m d (rI L h)).B padE) (eq_ix1 y)
theorem pts_dstC (h : k0_cond1 L = 1#1) (f : Buf (Elt F) (oC d)) :
    ((dstC L h).view.loc (thr d L) ↦[(dstC L h).view.set]{fullShare} f : sProp (𝕄 F)) = oC d ↦[rowSet 640 (rI L h)]{fullShare} f := by
  rw [set_dstC]
theorem res_dstC (h : k0_cond1 L = 1#1) (f : Buf (Elt F) (oC d))
    (hf : (dstC L h).view.read (Elt F) f = packed (argRow m d (rI L h)).K (argRow m d (rI L h)).t (argRow m d (rI L h)).C padE) :
    ((dstC L h).view.loc (thr d L) ↦[(dstC L h).view.set]{fullShare} f : sProp (𝕄 F)) = oC d ↦[rowSet 640 (rI L h)]{fullShare} resC m d := by
  rw [← pts_dstC d L h]
  refine pointsTo_congr fun i hi => ?_
  obtain ⟨y, -, rfl⟩ := Finset.mem_map.mp hi
  refine (congrFun hf y).trans ?_
  refine Eq.trans ?_ (congrArg (resC m d) (emb_dstC L h y)).symm
  exact congrArg (packed (argRow m d (rI L h)).K (argRow m d (rI L h)).t (argRow m d (rI L h)).C padE) (eq_ix1 y)
theorem pts_dstD (h : k0_cond1 L = 1#1) (f : Buf (Elt F) (oD d)) :
    ((dstD L h).view.loc (thr d L) ↦[(dstD L h).view.set]{fullShare} f : sProp (𝕄 F)) = oD d ↦[rowSet 640 (rI L h)]{fullShare} f := by
  rw [set_dstD]
theorem res_dstD (h : k0_cond1 L = 1#1) (f : Buf (Elt F) (oD d))
    (hf : (dstD L h).view.read (Elt F) f = packed (argRow m d (rI L h)).K (argRow m d (rI L h)).t (argRow m d (rI L h)).D padE) :
    ((dstD L h).view.loc (thr d L) ↦[(dstD L h).view.set]{fullShare} f : sProp (𝕄 F)) = oD d ↦[rowSet 640 (rI L h)]{fullShare} resD m d := by
  rw [← pts_dstD d L h]
  refine pointsTo_congr fun i hi => ?_
  obtain ⟨y, -, rfl⟩ := Finset.mem_map.mp hi
  refine (congrFun hf y).trans ?_
  refine Eq.trans ?_ (congrArg (resD m d) (emb_dstD L h y)).symm
  exact congrArg (packed (argRow m d (rI L h)).K (argRow m d (rI L h)).t (argRow m d (rI L h)).D padE) (eq_ix1 y)

theorem read_srcT (h : k0_cond1 L = 1#1) (k : Fin 16) : (srcT L h).view.read (Elt F) (lanesT m d) (lane k) = (argRow m d (rI L h)).t :=
  (congrArg (lanesT m d) (emb_srcT L h (lane k))).trans (lanesT_apply m d (rI L h) k)

theorem read_srcS (h : k0_cond1 L = 1#1) : (srcS L h).view.read (Elt F) (m (iS d)) = (argRow m d (rI L h)).S :=
  funext fun y => congrArg (m (iS d)) (emb_srcS L h y)
theorem read_srcK (h : k0_cond1 L = 1#1) : (srcK L h).view.read (Elt F) (m (iK d)) = (argRow m d (rI L h)).K :=
  funext fun y => congrArg (m (iK d)) (emb_srcK L h y)
theorem read_srcA (h : k0_cond1 L = 1#1) : (srcA L h).view.read (Elt F) (m (iA d)) = (argRow m d (rI L h)).A :=
  funext fun y => congrArg (m (iA d)) (emb_srcA L h y)
theorem read_srcB (h : k0_cond1 L = 1#1) : (srcB L h).view.read (Elt F) (m (iB d)) = (argRow m d (rI L h)).B :=
  funext fun y => congrArg (m (iB d)) (emb_srcB L h y)
theorem read_srcC (h : k0_cond1 L = 1#1) : (srcC L h).view.read (Elt F) (m (iC d)) = (argRow m d (rI L h)).C :=
  funext fun y => congrArg (m (iC d)) (emb_srcC L h y)
theorem read_srcD (h : k0_cond1 L = 1#1) : (srcD L h).view.read (Elt F) (m (iD d)) = (argRow m d (rI L h)).D :=
  funext fun y => congrArg (m (iD d)) (emb_srcD L h y)

/-- What remains of the tile's own when the task's buffers and counters are taken out. -/
abbrev restBufs : sProp (𝕄 F) := bigSep (ownRefs (thr d L).2 \ Finset.univ.image (bufV L)) fun b => iprop(∃ f, ((d, b) : Loc nD τ sig) ↦{fullShare} f)
abbrev restSems : sProp (𝕄 F) := bigSep (ownCells (thr d L) \ Finset.univ.image (cellV d L)) fun g => semVal g 0

/-- Every wait of the one call is recorded at no call's index or at the one call's. -/
theorem waits_ok (W W' : Waits sig (HIx 1)) : ∀ p ∈ W', p ∈ W ∨ p.2 = none ∨ p.2 = some (0 : Fin 1) := fun p _ => by
  rcases p.2 with _ | q
  · exact .inr (.inl rfl)
  · exact .inr (.inr (congrArg some (Subsingleton.elim q 0)))

theorem tile_body (hfit : ∀ r, (argRow m d r).Fits) (O : CellTallies nD τ sig (HIx 1)) (W : Waits sig (HIx 1)) (hO : ∀ g, O g none = 0) :
    iprop(levAts (K (F := F)).L (K (F := F)).lev ∗ emp ∗ share (goRow m d) (L 0).val (L 1).val
        ∗ scopedBufs (thr d L) ∗ scopedSems0 (thr d L) ∗ owes (thr d L) O W)
      ⊢ wp frame (wpE (defs₀ (F := F)) 𝒱₀ (thr d L) none) Set.univ (body L)
          fun _ => iprop(share (tdRow m d) (L 0).val (L 1).val
            ∗ scopedBufs (thr d L) ∗ scopedSems0 (thr d L)
            ∗ ∃ W', ⌜∀ p ∈ W', p ∈ W ∨ p.2 = none ∨ p.2 = some (0 : Fin 1)⌝ ∗ owes (thr d L) O W') := by
  by_cases h : k0_cond1 L = 1#1
  · rw [share_of_lt _ ((cond_lt L).mp h), share_of_lt _ ((cond_lt L).mp h), (K (F := F)).scopedBufs_V facts d (cV L) (jV L),
      SparseCore.Cfg.scopedSems0_V (Val := Elt F) d (cV L) (jV L), ownSems_split, ownBufs_split]
    have run := task_run d L h (argRow m d (rI L h)) (m (iS d)) (m (iK d)) (m (iA d)) (m (iB d)) (m (iC d)) (m (iD d)) (lanesT m d) O W (hfit _)
      (read_srcS m d L h) (read_srcK m d L h) (read_srcA m d L h) (read_srcB m d L h) (read_srcC m d L h) (read_srcD m d L h) (read_srcT m d L h)
    unfold goRow tdRow argPts outPts
    iintro ⟨#Hlv, -, ⟨⟨IS, IK, IA, IB, IC, ID, IT⟩, OS, OK, OA, OB, OC, OD⟩, ⟨HB, HRB⟩, ⟨HS, HRS⟩, HO⟩
    ihave Hmw := (show levAts (K (F := F)).L (K (F := F)).lev ⊢ Transfers.MayWaits (thr d L) (default : HIx 1) O from
      (K (F := F)).mayWaits_none (thr := thr d L) hO) $$ Hlv
    iapply (wp_wand_r frame (wpE (defs₀ (F := F)) 𝒱₀ (thr d L) none) Set.univ)
    isplitl [Hmw HB HS HO IS IK IA IB IC ID IT OS OK OA OB OC OD]
    · iapply run
      isplitl [Hmw]; · iexact Hmw
      isplitl [IS IK IA IB IC ID IT]
      · unfold srcPts
        isplitl [IS]; · iapply (Entails.of_eq (pts_srcS (F := F) d L h _).symm); iexact IS
        isplitl [IK]; · iapply (Entails.of_eq (pts_srcK (F := F) d L h _).symm); iexact IK
        isplitl [IA]; · iapply (Entails.of_eq (pts_srcA (F := F) d L h _).symm); iexact IA
        isplitl [IB]; · iapply (Entails.of_eq (pts_srcB (F := F) d L h _).symm); iexact IB
        isplitl [IC]; · iapply (Entails.of_eq (pts_srcC (F := F) d L h _).symm); iexact IC
        isplitl [ID]; · iapply (Entails.of_eq (pts_srcD (F := F) d L h _).symm); iexact ID
        iapply (Entails.of_eq (pts_srcT (F := F) d L h _).symm); iexact IT
      isplitl [OS OK OA OB OC OD]
      · unfold dstPts
        isplitl [OS]; · iexists (m (oS d)); iapply (Entails.of_eq (pts_dstS (F := F) d L h _).symm); iexact OS
        isplitl [OK]; · iexists (m (oK d)); iapply (Entails.of_eq (pts_dstK (F := F) d L h _).symm); iexact OK
        isplitl [OA]; · iexists (m (oA d)); iapply (Entails.of_eq (pts_dstA (F := F) d L h _).symm); iexact OA
        isplitl [OB]; · iexists (m (oB d)); iapply (Entails.of_eq (pts_dstB (F := F) d L h _).symm); iexact OB
        isplitl [OC]; · iexists (m (oC d)); iapply (Entails.of_eq (pts_dstC (F := F) d L h _).symm); iexact OC
        iexists (m (oD d)); iapply (Entails.of_eq (pts_dstD (F := F) d L h _).symm); iexact OD
      isplitl [HB]; · iexact HB
      isplitl [HS]; · iexact HS
      iexact HO
    unfold srcPts resPts
    iintro %_ ⟨⟨IS, IK, IA, IB, IC, ID, IT⟩, ⟨⟨%fS, %hS, OS⟩, ⟨%fK, %hK, OK⟩, ⟨%fA, %hA, OA⟩, ⟨%fB, %hB, OB⟩, ⟨%fC, %hC, OC⟩, ⟨%fD, %hD, OD⟩⟩, HB, HS, ⟨%W', HO⟩⟩
    isplitl [IS IK IA IB IC ID IT OS OK OA OB OC OD]
    · isplitl [IS IK IA IB IC ID IT]
      · isplitl [IS]; · iapply (Entails.of_eq (pts_srcS (F := F) d L h _)); iexact IS
        isplitl [IK]; · iapply (Entails.of_eq (pts_srcK (F := F) d L h _)); iexact IK
        isplitl [IA]; · iapply (Entails.of_eq (pts_srcA (F := F) d L h _)); iexact IA
        isplitl [IB]; · iapply (Entails.of_eq (pts_srcB (F := F) d L h _)); iexact IB
        isplitl [IC]; · iapply (Entails.of_eq (pts_srcC (F := F) d L h _)); iexact IC
        isplitl [ID]; · iapply (Entails.of_eq (pts_srcD (F := F) d L h _)); iexact ID
        iapply (Entails.of_eq (pts_srcT (F := F) d L h _)); iexact IT
      isplitl [OS]; · iapply (Entails.of_eq (res_dstS (F := F) m d L h fS hS)); iexact OS
      isplitl [OK]; · iapply (Entails.of_eq (res_dstK (F := F) m d L h fK hK)); iexact OK
      isplitl [OA]; · iapply (Entails.of_eq (res_dstA (F := F) m d L h fA hA)); iexact OA
      isplitl [OB]; · iapply (Entails.of_eq (res_dstB (F := F) m d L h fB hB)); iexact OB
      isplitl [OC]; · iapply (Entails.of_eq (res_dstC (F := F) m d L h fC hC)); iexact OC
      iapply (Entails.of_eq (res_dstD (F := F) m d L h fD hD)); iexact OD
    isplitl [HB HRB]
    · isplitl [HB]; · iexact HB
      iexact HRB
    isplitl [HS HRS]
    · isplitl [HS]; · iexact HS
      iexact HRS
    iexists W'; isplitr
    · ipureintro; exact waits_ok W W'
    iexact HO
  · have k0_h1 : ¬ k0_cond1 L = 1#1 := h
    rw [share_of_not_lt _ (fun h' => h ((cond_lt L).mpr h')), share_of_not_lt _ (fun h' => h ((cond_lt L).mpr h'))]
    unfold body
    sl_unfold [cc0__select_body]
    iintro ⟨-, -, -, HB, HS, HO⟩
    sl_exec
    sl_step
    isplitr; · iempintro
    isplitl [HB]; · iexact HB
    isplitl [HS]; · iexact HS
    iexists W; isplitr
    · ipureintro; exact waits_ok W W
    iexact HO

end Tile

/-! ## The obligation -/

abbrev coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => body (F := F) (coordsV c s)) ⟨⟩ c s := rfl

theorem tileObl (hfit : ∀ d r, (argRow m d r).Fits) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) (hfit d) O W hO

theorem vecSplit : (K (F := F)).VecSplit' (P m) 0 := by
  intro d c
  show (bigSep Finset.univ fun i : Fin 16 => share (goRow m d) c.val i.val) ⊢ |={Set.univ}=> iprop(
      (bigSep Finset.univ fun i : Fin 16 => share (goRow m d) c.val i.val)
      ∗ ((bigSep Finset.univ fun i : Fin 16 => share (tdRow m d) c.val i.val)
          -∗ (bigSep Finset.univ fun i : Fin 16 => share (tdRow m d) c.val i.val)))
  iintro H; imodintro
  isplitl [H]; · iexact H
  iintro H'
  iexact H'

/-! ## The launch element: the handshakes' rounds -/

def u₀ : UU := (initOf (K (F := F)).hsCells (K (F := F)).hsToks, 1)

theorem hu₀ : (ownU (u₀ (F := F)) : sProp (𝕄 F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## An array of four rows is its rows -/

theorem rows_iS (d : Dev nD) (f : Buf (Elt F) (iS d)) :
    (iS d ↦{fullShare} f : sProp (𝕄 F)) = bigSep Finset.univ fun r : Fin 4 => iS d ↦[rowSet 9216 r]{fullShare} f := by
  rw [← pointsTo_biUnion Finset.univ (ℓ := iS d) (rowSet 9216) (rows_disjoint 9216), rows_cover]; try rfl
theorem rows_iK (d : Dev nD) (f : Buf (Elt F) (iK d)) :
    (iK d ↦{fullShare} f : sProp (𝕄 F)) = bigSep Finset.univ fun r : Fin 4 => iK d ↦[rowSet 9216 r]{fullShare} f := by
  rw [← pointsTo_biUnion Finset.univ (ℓ := iK d) (rowSet 9216) (rows_disjoint 9216), rows_cover]; try rfl
theorem rows_iA (d : Dev nD) (f : Buf (Elt F) (iA d)) :
    (iA d ↦{fullShare} f : sProp (𝕄 F)) = bigSep Finset.univ fun r : Fin 4 => iA d ↦[rowSet 9216 r]{fullShare} f := by
  rw [← pointsTo_biUnion Finset.univ (ℓ := iA d) (rowSet 9216) (rows_disjoint 9216), rows_cover]; try rfl
theorem rows_iB (d : Dev nD) (f : Buf (Elt F) (iB d)) :
    (iB d ↦{fullShare} f : sProp (𝕄 F)) = bigSep Finset.univ fun r : Fin 4 => iB d ↦[rowSet 9216 r]{fullShare} f := by
  rw [← pointsTo_biUnion Finset.univ (ℓ := iB d) (rowSet 9216) (rows_disjoint 9216), rows_cover]; try rfl
theorem rows_iC (d : Dev nD) (f : Buf (Elt F) (iC d)) :
    (iC d ↦{fullShare} f : sProp (𝕄 F)) = bigSep Finset.univ fun r : Fin 4 => iC d ↦[rowSet 9216 r]{fullShare} f := by
  rw [← pointsTo_biUnion Finset.univ (ℓ := iC d) (rowSet 9216) (rows_disjoint 9216), rows_cover]; try rfl
theorem rows_iD (d : Dev nD) (f : Buf (Elt F) (iD d)) :
    (iD d ↦{fullShare} f : sProp (𝕄 F)) = bigSep Finset.univ fun r : Fin 4 => iD d ↦[rowSet 9216 r]{fullShare} f := by
  rw [← pointsTo_biUnion Finset.univ (ℓ := iD d) (rowSet 9216) (rows_disjoint 9216), rows_cover]; try rfl
theorem rows_bT (d : Dev nD) (f : Buf (Elt F) (bT d)) :
    (bT d ↦{fullShare} f : sProp (𝕄 F)) = bigSep Finset.univ fun r : Fin 4 => bT d ↦[rowSet 16 r]{fullShare} f := by
  rw [← pointsTo_biUnion Finset.univ (ℓ := bT d) (rowSet 16) (rows_disjoint 16), rows_cover]; try rfl
theorem rows_oS (d : Dev nD) (f : Buf (Elt F) (oS d)) :
    (oS d ↦{fullShare} f : sProp (𝕄 F)) = bigSep Finset.univ fun r : Fin 4 => oS d ↦[rowSet 640 r]{fullShare} f := by
  rw [← pointsTo_biUnion Finset.univ (ℓ := oS d) (rowSet 640) (rows_disjoint 640), rows_cover]; try rfl
theorem rows_oK (d : Dev nD) (f : Buf (Elt F) (oK d)) :
    (oK d ↦{fullShare} f : sProp (𝕄 F)) = bigSep Finset.univ fun r : Fin 4 => oK d ↦[rowSet 640 r]{fullShare} f := by
  rw [← pointsTo_biUnion Finset.univ (ℓ := oK d) (rowSet 640) (rows_disjoint 640), rows_cover]; try rfl
theorem rows_oA (d : Dev nD) (f : Buf (Elt F) (oA d)) :
    (oA d ↦{fullShare} f : sProp (𝕄 F)) = bigSep Finset.univ fun r : Fin 4 => oA d ↦[rowSet 640 r]{fullShare} f := by
  rw [← pointsTo_biUnion Finset.univ (ℓ := oA d) (rowSet 640) (rows_disjoint 640), rows_cover]; try rfl
theorem rows_oB (d : Dev nD) (f : Buf (Elt F) (oB d)) :
    (oB d ↦{fullShare} f : sProp (𝕄 F)) = bigSep Finset.univ fun r : Fin 4 => oB d ↦[rowSet 640 r]{fullShare} f := by
  rw [← pointsTo_biUnion Finset.univ (ℓ := oB d) (rowSet 640) (rows_disjoint 640), rows_cover]; try rfl
theorem rows_oC (d : Dev nD) (f : Buf (Elt F) (oC d)) :
    (oC d ↦{fullShare} f : sProp (𝕄 F)) = bigSep Finset.univ fun r : Fin 4 => oC d ↦[rowSet 640 r]{fullShare} f := by
  rw [← pointsTo_biUnion Finset.univ (ℓ := oC d) (rowSet 640) (rows_disjoint 640), rows_cover]; try rfl
theorem rows_oD (d : Dev nD) (f : Buf (Elt F) (oD d)) :
    (oD d ↦{fullShare} f : sProp (𝕄 F)) = bigSep Finset.univ fun r : Fin 4 => oD d ↦[rowSet 640 r]{fullShare} f := by
  rw [← pointsTo_biUnion Finset.univ (ℓ := oD d) (rowSet 640) (rows_disjoint 640), rows_cover]; try rfl

/-- The arguments whole, with the broadcast thresholds; and the results whole. -/
abbrev argsPts (d : Dev nD) : sProp (𝕄 F) := iprop((iS d ↦{fullShare} m (iS d)) ∗ (iK d ↦{fullShare} m (iK d)) ∗ (iA d ↦{fullShare} m (iA d)) ∗ (iB d ↦{fullShare} m (iB d)) ∗ (iC d ↦{fullShare} m (iC d)) ∗ (iD d ↦{fullShare} m (iD d)) ∗ (bT d ↦{fullShare} lanesT m d))
abbrev outsPts (d : Dev nD) (fS : Buf (Elt F) (oS d)) (fK : Buf (Elt F) (oK d)) (fA : Buf (Elt F) (oA d)) (fB : Buf (Elt F) (oB d)) (fC : Buf (Elt F) (oC d)) (fD : Buf (Elt F) (oD d)) : sProp (𝕄 F) := iprop((oS d ↦{fullShare} fS) ∗ (oK d ↦{fullShare} fK) ∗ (oA d ↦{fullShare} fA) ∗ (oB d ↦{fullShare} fB) ∗ (oC d ↦{fullShare} fC) ∗ (oD d ↦{fullShare} fD))

theorem rows_split (d : Dev nD) (fS : Buf (Elt F) (oS d)) (fK : Buf (Elt F) (oK d)) (fA : Buf (Elt F) (oA d)) (fB : Buf (Elt F) (oB d)) (fC : Buf (Elt F) (oC d)) (fD : Buf (Elt F) (oD d)) :
    (bigSep Finset.univ fun r : Fin 4 => iprop(argPts m d r ∗ outPts d r fS fK fA fB fC fD) : sProp (𝕄 F))
      = iprop(argsPts m d ∗ outsPts d fS fK fA fB fC fD) := by
  unfold argsPts outsPts argPts outPts
  rw [rows_iS, rows_iK, rows_iA, rows_iB, rows_iC, rows_iD, rows_bT, rows_oS, rows_oK, rows_oA, rows_oB, rows_oC, rows_oD]
  simp only [bigSep_sep']

theorem st0_eq (d : Dev nD) : (bigSep Finset.univ fun c : Fin ((K (F := F)).nCore 0) => (P m).st 0 d c)
    = iprop(argsPts m d ∗ outsPts d (m (oS d)) (m (oK d)) (m (oA d)) (m (oB d)) (m (oC d)) (m (oD d))) :=
  (all_shares (goRow m d)).trans (rows_split m d _ _ _ _ _ _)
theorem dn0_eq (d : Dev nD) : (bigSep Finset.univ fun c : Fin ((K (F := F)).nCore 0) => (P m).dn 0 d c)
    = iprop(argsPts m d ∗ outsPts d (resS m d) (resK m d) (resA m d) (resB m d) (resC m d) (resD m d)) :=
  (all_shares (tdRow m d)).trans (rows_split m d _ _ _ _ _ _)

/-! ## @main on the TensorCore -/

abbrev r_iS : DevRef τ sig := Proc.devRef .tc (main_arg0 : Ref sig .tc)
abbrev r_iK : DevRef τ sig := Proc.devRef .tc (main_arg1 : Ref sig .tc)
abbrev r_iA : DevRef τ sig := Proc.devRef .tc (main_arg2 : Ref sig .tc)
abbrev r_iB : DevRef τ sig := Proc.devRef .tc (main_arg3 : Ref sig .tc)
abbrev r_iC : DevRef τ sig := Proc.devRef .tc (main_arg4 : Ref sig .tc)
abbrev r_iD : DevRef τ sig := Proc.devRef .tc (main_arg5 : Ref sig .tc)
abbrev r_iT : DevRef τ sig := Proc.devRef .tc (main_arg6 : Ref sig .tc)
abbrev r_bT : DevRef τ sig := Proc.devRef .tc (main_v0 : Ref sig .tc)
abbrev r_oS : DevRef τ sig := Proc.devRef .tc (main_v1_0 : Ref sig .tc)
abbrev r_oK : DevRef τ sig := Proc.devRef .tc (main_v1_1 : Ref sig .tc)
abbrev r_oA : DevRef τ sig := Proc.devRef .tc (main_v1_2 : Ref sig .tc)
abbrev r_oB : DevRef τ sig := Proc.devRef .tc (main_v1_3 : Ref sig .tc)
abbrev r_oC : DevRef τ sig := Proc.devRef .tc (main_v1_4 : Ref sig .tc)
abbrev r_oD : DevRef τ sig := Proc.devRef .tc (main_v1_5 : Ref sig .tc)

abbrev arrays : Finset (DevRef τ sig) := {r_iS, r_iK, r_iA, r_iB, r_iC, r_iD, r_iT, r_bT, r_oS, r_oK, r_oA, r_oB, r_oC, r_oD}

theorem held_arrays (d : Dev nD) (W : Valuation τ sig (Elt F)) : (held (T d) arrays W : sProp (𝕄 F))
      = iprop((iS d ↦{fullShare} W r_iS) ∗ (iK d ↦{fullShare} W r_iK) ∗ (iA d ↦{fullShare} W r_iA) ∗ (iB d ↦{fullShare} W r_iB) ∗ (iC d ↦{fullShare} W r_iC) ∗ (iD d ↦{fullShare} W r_iD) ∗ (iT d ↦{fullShare} W r_iT) ∗ (bT d ↦{fullShare} W r_bT) ∗ (oS d ↦{fullShare} W r_oS) ∗ (oK d ↦{fullShare} W r_oK) ∗ (oA d ↦{fullShare} W r_oA) ∗ (oB d ↦{fullShare} W r_oB) ∗ (oC d ↦{fullShare} W r_oC) ∗ (oD d ↦{fullShare} W r_oD)) := by
  unfold held arrays
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp (𝕄 F)) = held (T d) arrays (V0 m d) := by
  rw [held_arrays]
  unfold unscopedBufs
  rw [show (Finset.univ.filter fun b : Ref sig .tc => ¬ b.isScoped) = {main_arg0, main_arg1, main_arg2, main_arg3, main_arg4, main_arg5, main_arg6, main_v0, main_v1_0, main_v1_1, main_v1_2, main_v1_3, main_v1_4, main_v1_5} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

abbrev opT : HloOp τ sig (Elt F) := StableHlo.unary main_arg6 main_v0 (broadcastInDim S4x16 ![0, 1] bcast_S4x1_S4x16_0_1 : (⟨S4x1, .i32⟩ : BufTy).Contents (Elt F) → (⟨S4x16, .i32⟩ : BufTy).Contents (Elt F))

theorem opT_bufs : (opT (F := F)).bufs ⊆ arrays := show ({r_iT, r_bT} : Finset (DevRef τ sig)) ⊆ arrays by decide

/-- The arrays before the call: the thresholds broadcast, all else as launched. -/
theorem held_V1 (d : Dev nD) : (held (T d) arrays ((opT (F := F)).result (V0 m d)) : sProp (𝕄 F))
    = iprop((iS d ↦{fullShare} m (iS d)) ∗ (iK d ↦{fullShare} m (iK d)) ∗ (iA d ↦{fullShare} m (iA d)) ∗ (iB d ↦{fullShare} m (iB d)) ∗ (iC d ↦{fullShare} m (iC d)) ∗ (iD d ↦{fullShare} m (iD d)) ∗ (iT d ↦{fullShare} m (iT d)) ∗ (bT d ↦{fullShare} lanesT m d) ∗ (oS d ↦{fullShare} m (oS d)) ∗ (oK d ↦{fullShare} m (oK d)) ∗ (oA d ↦{fullShare} m (oA d)) ∗ (oB d ↦{fullShare} m (oB d)) ∗ (oC d ↦{fullShare} m (oC d)) ∗ (oD d ↦{fullShare} m (oD d))) := by
  rw [held_arrays,
    (opT (F := F)).result_of_not_mem _ (show r_iS ∉ ({r_bT} : Finset (DevRef τ sig)) by decide),
    (opT (F := F)).result_of_not_mem _ (show r_iK ∉ ({r_bT} : Finset (DevRef τ sig)) by decide),
    (opT (F := F)).result_of_not_mem _ (show r_iA ∉ ({r_bT} : Finset (DevRef τ sig)) by decide),
    (opT (F := F)).result_of_not_mem _ (show r_iB ∉ ({r_bT} : Finset (DevRef τ sig)) by decide),
    (opT (F := F)).result_of_not_mem _ (show r_iC ∉ ({r_bT} : Finset (DevRef τ sig)) by decide),
    (opT (F := F)).result_of_not_mem _ (show r_iD ∉ ({r_bT} : Finset (DevRef τ sig)) by decide),
    (opT (F := F)).result_of_not_mem _ (show r_iT ∉ ({r_bT} : Finset (DevRef τ sig)) by decide),
    show (opT (F := F)).result (V0 m d) r_bT = lanesT m d from StableHlo.unary_result _ _ _ _ _ _,
    (opT (F := F)).result_of_not_mem _ (show r_oS ∉ ({r_bT} : Finset (DevRef τ sig)) by decide),
    (opT (F := F)).result_of_not_mem _ (show r_oK ∉ ({r_bT} : Finset (DevRef τ sig)) by decide),
    (opT (F := F)).result_of_not_mem _ (show r_oA ∉ ({r_bT} : Finset (DevRef τ sig)) by decide),
    (opT (F := F)).result_of_not_mem _ (show r_oB ∉ ({r_bT} : Finset (DevRef τ sig)) by decide),
    (opT (F := F)).result_of_not_mem _ (show r_oC ∉ ({r_bT} : Finset (DevRef τ sig)) by decide),
    (opT (F := F)).result_of_not_mem _ (show r_oD ∉ ({r_bT} : Finset (DevRef τ sig)) by decide)]
  rfl

/-- What @main leaves: the arguments as launched, the results at their values. -/
abbrev FIN (d : Dev nD) : sProp (𝕄 F) := iprop((iS d ↦{fullShare} m (iS d)) ∗ (iK d ↦{fullShare} m (iK d)) ∗ (iA d ↦{fullShare} m (iA d)) ∗ (iB d ↦{fullShare} m (iB d)) ∗ (iC d ↦{fullShare} m (iC d)) ∗ (iD d ↦{fullShare} m (iD d)) ∗ (iT d ↦{fullShare} m (iT d)) ∗ (oS d ↦{fullShare} resS m d) ∗ (oK d ↦{fullShare} resK m d) ∗ (oA d ↦{fullShare} resA m d) ∗ (oB d ↦{fullShare} resB m d) ∗ (oC d ↦{fullShare} resC m d) ∗ (oD d ↦{fullShare} resD m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := arrays) opT_bufs (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨HiS, HiK, HiA, HiB, HiC, HiD, HiT, HbT, HoS, HoK, HoA, HoB, HoC, HoD⟩
  iapply ((K (F := F)).wp_run (D (F := F)) 𝒱 (EH := EH) (P := P m) κ d 0) $$ [Hst Hb Hts HiS HiK HiA HiB HiC HiD HiT HbT HoS HoK HoA HoB HoC HoD]
  isplitr; · iexact Hctx
  isplitl [Hst]; · iexact Hst
  isplitl [HiS HiK HiA HiB HiC HiD HbT HoS HoK HoA HoB HoC HoD]
  · rw [st0_eq]
    unfold argsPts outsPts
    isplitl [HiS HiK HiA HiB HiC HiD HbT]
    · isplitl [HiS]; · iexact HiS
      isplitl [HiK]; · iexact HiK
      isplitl [HiA]; · iexact HiA
      isplitl [HiB]; · iexact HiB
      isplitl [HiC]; · iexact HiC
      isplitl [HiD]; · iexact HiD
      iexact HbT
    isplitl [HoS]; · iexact HoS
    isplitl [HoK]; · iexact HoK
    isplitl [HoA]; · iexact HoA
    isplitl [HoB]; · iexact HoB
    isplitl [HoC]; · iexact HoC
    iexact HoD
  iintro ⟨Hst, Hdn⟩
  ihave Hdn' := (Entails.of_eq (dn0_eq m d)) $$ Hdn
  unfold argsPts outsPts
  icases Hdn' with ⟨⟨HiS, HiK, HiA, HiB, HiC, HiD, -⟩, HoS, HoK, HoA, HoB, HoC, HoD⟩
  imodintro
  isplitl [Hst]; · iexact Hst
  isplitr [Hb Hts]
  · isplitl [HiS]; · iexact HiS
    isplitl [HiK]; · iexact HiK
    isplitl [HiA]; · iexact HiA
    isplitl [HiB]; · iexact HiB
    isplitl [HiC]; · iexact HiC
    isplitl [HiD]; · iexact HiD
    isplitl [HiT]; · iexact HiT
    isplitl [HoS]; · iexact HoS
    isplitl [HoK]; · iexact HoK
    isplitl [HoA]; · iexact HoA
    isplitl [HoB]; · iexact HoB
    isplitl [HoC]; · iexact HoC
    iexact HoD
  isplitl [Hb] <;> iassumption

/-- The final memory of device `d`. -/
def Final (d : Dev nD) (s : MemSt nD τ sig (Elt F)) : Prop :=
  s.mem (iS d) = m (iS d) ∧ s.mem (iK d) = m (iK d) ∧ s.mem (iA d) = m (iA d) ∧ s.mem (iB d) = m (iB d) ∧ s.mem (iC d) = m (iC d) ∧ s.mem (iD d) = m (iD d) ∧ s.mem (iT d) = m (iT d) ∧ s.mem (oS d) = resS m d ∧ s.mem (oK d) = resK m d ∧ s.mem (oA d) = resA m d ∧ s.mem (oB d) = resB m d ∧ s.mem (oC d) = resC m d ∧ s.mem (oD d) = resD m d

def fq (d : Dev nD) (s' : Phys nD τ sig (Elt F)) : Prop := Final m d s'.mem

theorem hfin (d : Dev nD) (s' : Phys nD τ sig (Elt F)) : iprop(FIN m d ∗ SI s') ⊢ (⌜fq m d s'⌝ : sProp (𝕄 F)) := by
  iintro ⟨⟨HiS, HiK, HiA, HiB, HiC, HiD, HiT, HoS, HoK, HoA, HoB, HoC, HoD⟩, HSI⟩
  ihave H := (persistent_entails_right (SI_pointsTo_agree (st := s') (ℓ := iS d) (I := Finset.univ) (q := fullShare) (f := m (iS d)))) $$ [HSI HiS]
  · isplitl [HSI] <;> iassumption
  icases H with ⟨%hiS, HSI, -⟩
  ihave H := (persistent_entails_right (SI_pointsTo_agree (st := s') (ℓ := iK d) (I := Finset.univ) (q := fullShare) (f := m (iK d)))) $$ [HSI HiK]
  · isplitl [HSI] <;> iassumption
  icases H with ⟨%hiK, HSI, -⟩
  ihave H := (persistent_entails_right (SI_pointsTo_agree (st := s') (ℓ := iA d) (I := Finset.univ) (q := fullShare) (f := m (iA d)))) $$ [HSI HiA]
  · isplitl [HSI] <;> iassumption
  icases H with ⟨%hiA, HSI, -⟩
  ihave H := (persistent_entails_right (SI_pointsTo_agree (st := s') (ℓ := iB d) (I := Finset.univ) (q := fullShare) (f := m (iB d)))) $$ [HSI HiB]
  · isplitl [HSI] <;> iassumption
  icases H with ⟨%hiB, HSI, -⟩
  ihave H := (persistent_entails_right (SI_pointsTo_agree (st := s') (ℓ := iC d) (I := Finset.univ) (q := fullShare) (f := m (iC d)))) $$ [HSI HiC]
  · isplitl [HSI] <;> iassumption
  icases H with ⟨%hiC, HSI, -⟩
  ihave H := (persistent_entails_right (SI_pointsTo_agree (st := s') (ℓ := iD d) (I := Finset.univ) (q := fullShare) (f := m (iD d)))) $$ [HSI HiD]
  · isplitl [HSI] <;> iassumption
  icases H with ⟨%hiD, HSI, -⟩
  ihave H := (persistent_entails_right (SI_pointsTo_agree (st := s') (ℓ := iT d) (I := Finset.univ) (q := fullShare) (f := m (iT d)))) $$ [HSI HiT]
  · isplitl [HSI] <;> iassumption
  icases H with ⟨%hiT, HSI, -⟩
  ihave H := (persistent_entails_right (SI_pointsTo_agree (st := s') (ℓ := oS d) (I := Finset.univ) (q := fullShare) (f := resS m d))) $$ [HSI HoS]
  · isplitl [HSI] <;> iassumption
  icases H with ⟨%hoS, HSI, -⟩
  ihave H := (persistent_entails_right (SI_pointsTo_agree (st := s') (ℓ := oK d) (I := Finset.univ) (q := fullShare) (f := resK m d))) $$ [HSI HoK]
  · isplitl [HSI] <;> iassumption
  icases H with ⟨%hoK, HSI, -⟩
  ihave H := (persistent_entails_right (SI_pointsTo_agree (st := s') (ℓ := oA d) (I := Finset.univ) (q := fullShare) (f := resA m d))) $$ [HSI HoA]
  · isplitl [HSI] <;> iassumption
  icases H with ⟨%hoA, HSI, -⟩
  ihave H := (persistent_entails_right (SI_pointsTo_agree (st := s') (ℓ := oB d) (I := Finset.univ) (q := fullShare) (f := resB m d))) $$ [HSI HoB]
  · isplitl [HSI] <;> iassumption
  icases H with ⟨%hoB, HSI, -⟩
  ihave H := (persistent_entails_right (SI_pointsTo_agree (st := s') (ℓ := oC d) (I := Finset.univ) (q := fullShare) (f := resC m d))) $$ [HSI HoC]
  · isplitl [HSI] <;> iassumption
  icases H with ⟨%hoC, HSI, -⟩
  ihave H := (persistent_entails_right (SI_pointsTo_agree (st := s') (ℓ := oD d) (I := Finset.univ) (q := fullShare) (f := resD m d))) $$ [HSI HoD]
  · isplitl [HSI] <;> iassumption
  icases H with ⟨%hoD, HSI, -⟩
  ipureintro
  exact ⟨funext fun i => hiS i (Finset.mem_univ i), funext fun i => hiK i (Finset.mem_univ i), funext fun i => hiA i (Finset.mem_univ i), funext fun i => hiB i (Finset.mem_univ i), funext fun i => hiC i (Finset.mem_univ i), funext fun i => hiD i (Finset.mem_univ i), funext fun i => hiT i (Finset.mem_univ i), funext fun i => hoS i (Finset.mem_univ i), funext fun i => hoK i (Finset.mem_univ i), funext fun i => hoA i (Finset.mem_univ i), funext fun i => hoB i (Finset.mem_univ i), funext fun i => hoC i (Finset.mem_univ i), funext fun i => hoD i (Finset.mem_univ i)⟩

/-! ## The run -/

def QC : PUnit × MemSt nD τ sig (Elt F) → Prop := fun r => (∀ d : Dev nD, Final m d r.2) ∧ r.2.sem = fun _ => 0

theorem run_main [∀ e, Nonempty (Elt F e)] (hfit : ∀ d r, (argRow m d r).Fits) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hfit)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Select
-- ==== Proof.Counts.lean ====
/-
  What the printed counts are: a column sum of widened bits is the count of the row, so the precondition says that both
  counts of every row stay below 640.
-/
module

public import proofs.«01_k».proof.Proof.Trips
public import proofs.«01_k».proof.Proof.Gen.Pre_counts_fit

@[expose] public section

noncomputable section

namespace Cert.Proof.Select

open Cert.KernelIdeal (S9216 S640)
open Idealize.ShloMosaic
open Idealize.ShloMosaic.ValueIdx
open Idealize.ShloMosaic.StableHlo.Predicate

/-- A four-row matrix of words, and a four-row column. -/
abbrev Mat : Shape := ⟨2, ![4, 9216]⟩
abbrev Col : Shape := ⟨2, ![4, 1]⟩

/-- Row `r` of a matrix. -/
def rowOf {α : Type} (a : Mat.Idx → α) (r : Fin 4) : S9216.Idx → α := fun x => a (ix2 r (x 0))

/-- The row's threshold. -/
def thrOf (t : IVec Col 32) (r : Fin 4) : BitVec 32 := t (ix2 r 0)

theorem rd_rowOf {α : Type} (a : Mat.Idx → α) (r : Fin 4) (q : Fin 9216) : rd (rowOf a r) q.val = a (ix2 r q) :=
  rd_of_lt _ q.isLt

theorem ij_eq {n m : ℕ} (p : Fin n) (q : Fin m) : (ij p q : (⟨2, ![n, m]⟩ : Shape).Idx) = ix2 p q := by
  funext b; match b with | ⟨0, _⟩ => rfl | ⟨1, _⟩ => rfl

theorem card_cnt (p : ℕ → Prop) [DecidablePred p] (n : ℕ) : (Finset.univ.filter fun q : Fin n => p q.val).card = cnt p n := by
  classical
  induction n with
  | zero => rw [cnt_zero]; rfl
  | succ n ih =>
    rw [cnt_succ, ← ih, Fin.univ_castSuccEmb, Finset.filter_cons]
    by_cases h : p n
    · rw [if_pos h]
      simp only [Fin.val_last, h, if_true, Finset.card_cons, Finset.filter_map, Finset.card_map]
      rfl
    · rw [if_neg h]
      simp only [Fin.val_last, h, if_false, Finset.filter_map, Finset.card_map]
      rfl

theorem cnt_le (p : ℕ → Prop) (n : ℕ) : cnt p n ≤ n := by
  classical
  rw [← card_cnt]
  exact (Finset.card_le_univ _).trans (by simp)

/-- The column sum of a row's widened bits is how many of the row have the property. -/
theorem toNat_count (mask : IVec Mat 1) (p : ℕ → Prop) (r : Fin 4) (hp : ∀ q : Fin 9216, mask (ix2 r q) = 1#1 ↔ p q.val)
    (hw : 1 < 32) (h : Mat.ReducesTo [1] ⟨1, ![4]⟩) {u : Shape} (hu : 0 < u.numel) :
    (Host.reduce IntOp.addi (extui 32 mask hw) (constantI u 32 0#32) h hu (ix1 r)).toNat = cnt p 9216 := by
  classical
  rw [toNat_reduce_count_cols (by norm_num) mask hw h hu (ix1 r), ← card_cnt]
  refine congrArg Finset.card (Finset.filter_congr fun q _ => ?_)
  rw [ij_eq]
  exact hp q

section Masks

variable (K : IVec Mat 32) (T : IVec Col 32) (hb : Col.BroadcastsInDim Mat ![0, 1]) (r : Fin 4)

theorem thr_apply (q : Fin 9216) : broadcastInDim Mat ![0, 1] hb T (ix2 r q) = thrOf T r := by
  rw [← ij_eq, bcast_of_col]
  refine congrArg T ?_
  funext b; match b with | ⟨0, _⟩ => rfl | ⟨1, _⟩ => rfl

theorem above_iff (q : Fin 9216) :
    cmpi .sgt K (broadcastInDim Mat ![0, 1] hb T) (ix2 r q) = 1#1 ↔ above (rowOf K r) (thrOf T r) q.val := by
  unfold above
  rw [rd_rowOf, ← thr_apply T hb r q]
  rfl

theorem level_iff (q : Fin 9216) :
    cmpi .eq K (broadcastInDim Mat ![0, 1] hb T) (ix2 r q) = 1#1 ↔ level (rowOf K r) (thrOf T r) q.val := by
  unfold level
  rw [rd_rowOf, ← thr_apply T hb r q]
  rfl

theorem toNat_above (hw : 1 < 32) (h : Mat.ReducesTo [1] ⟨1, ![4]⟩) {u : Shape} (hu : 0 < u.numel) :
    (Host.reduce IntOp.addi (extui 32 (cmpi .sgt K (broadcastInDim Mat ![0, 1] hb T)) hw) (constantI u 32 0#32) h hu (ix1 r)).toNat
      = nGt (rowOf K r) (thrOf T r) :=
  toNat_count _ _ r (above_iff K T hb r) hw h hu

theorem toNat_level (hw : 1 < 32) (h : Mat.ReducesTo [1] ⟨1, ![4]⟩) {u : Shape} (hu : 0 < u.numel) :
    (Host.reduce IntOp.addi (extui 32 (cmpi .eq K (broadcastInDim Mat ![0, 1] hb T)) hw) (constantI u 32 0#32) h hu (ix1 r)).toNat
      = nEq (rowOf K r) (thrOf T r) :=
  toNat_count _ _ r (level_iff K T hb r) hw h hu

end Masks

theorem and_one (a b : BitVec 1) (h : IntOp.andi a b = 1#1) : a = 1#1 ∧ b = 1#1 := by
  revert a b; decide

/-- The precondition, read: both counts of every row stay below 640. -/
theorem counts_fit_read {F : FTy → Type} [FloatOps F] (a0 : FVec F Mat .f32) (K : IVec Mat 32) (a2 a3 a4 a5 : FVec F Mat .f32)
    (T : IVec Col 32) (h : Cert.Pre_counts_fit.fn (F := F) a0 K a2 a3 a4 a5 T = fun _ => 1#1) (r : Fin 4) :
    nGt (rowOf K r) (thrOf T r) < 640 ∧ nEq (rowOf K r) (thrOf T r) < 640 := by
  have h1 := congrFun h (ix1 r)
  unfold Cert.Pre_counts_fit.fn at h1
  dsimp only at h1
  obtain ⟨hg, he⟩ := and_one _ _ h1
  have hG := toNat_above K T Cert.Pre_counts_fit.Facts.bcast_S4x1_S4x9216_0_1 r Cert.Pre_counts_fit.Facts.natLt_1_32
    Cert.Pre_counts_fit.Facts.reducesTo_S4x9216_S4_d1 Cert.Pre_counts_fit.Facts.h_S_
  have hE := toNat_level K T Cert.Pre_counts_fit.Facts.bcast_S4x1_S4x9216_0_1 r Cert.Pre_counts_fit.Facts.natLt_1_32
    Cert.Pre_counts_fit.Facts.reducesTo_S4x9216_S4_d1 Cert.Pre_counts_fit.Facts.h_S_
  have bG : nGt (rowOf K r) (thrOf T r) ≤ 9216 := cnt_le _ _
  have bE : nEq (rowOf K r) (thrOf T r) ≤ 9216 := cnt_le _ _
  constructor
  · have := (slt_iff_toNat (by rw [hG]; omega) (show (640#32 : BitVec 32).toNat < 2 ^ 31 by decide)).mp hg
    rw [hG] at this
    exact this
  · have := (slt_iff_toNat (by rw [hE]; omega) (show (640#32 : BitVec 32).toNat < 2 ^ 31 by decide)).mp he
    rw [hE] at this
    exact this

end Cert.Proof.Select
-- ==== Proof.Order.lean ====
/-
  A stable sort of a row by grade — above the threshold, level with it, below — begins with the packing: its first entries
  are the positions above in index order, then as many of the level ones as are taken.
-/
module

public import proofs.«01_k».proof.Proof.Counts
public import Idealize.ShloMosaic.Lib.SortPrefix

@[expose] public section

noncomputable section

namespace Cert.Proof.Select

open Cert.KernelIdeal (S9216 S640)
open Idealize.ShloMosaic
open Idealize.ShloMosaic.ValueIdx
open Idealize.ShloMosaic.StableHlo.Predicate

/-! ## A sort by a key that ties, as a sort by key and then position -/

theorem stableSort_of_later {n : ℕ} (B B' : Fin n → Fin n → Bool) (h : ∀ a b, a < b → B b a = B' b a) (l : List (Fin n))
    (hl : l.Pairwise (· < ·)) : stableSort B l = stableSort B' l := by
  induction l with
  | nil => rfl
  | cons a l ih =>
    obtain ⟨ha, hl'⟩ := List.pairwise_cons.mp hl
    unfold stableSort
    rw [ih hl']
    exact insertBefore_congr B B' a _ fun b hb => h a b (ha b ((perm_stableSort B' l).mem_iff.mp hb))

/-- A sort by a natural number alone is the sort by that number and then the position. -/
theorem sortedFrom_key {n : ℕ} (B : Fin n → Fin n → Bool) (key : Fin n → ℕ) (hB : ∀ a b, B a b = decide (key a < key b)) :
    sortedFrom B = sortedFrom fun a b : Fin n => decide (key a < key b) || (decide (key a = key b) && decide (a < b)) := by
  have hs : sortPositions n B = sortPositions n fun a b : Fin n =>
      decide (key a < key b) || (decide (key a = key b) && decide (a < b)) := by
    refine stableSort_of_later _ _ (fun a b hab => ?_) _ (List.pairwise_lt_finRange n)
    have hn : decide (b < a) = false := decide_eq_false (by omega)
    rw [hB, hn, Bool.and_false, Bool.or_false]
  funext k
  exact List.getElem_of_eq hs _

/-! ## The grades of a row -/

section Row

variable (key : IVec S9216 32) (t : BitVec 32)

open Classical in
/-- Zero above the threshold, one level with it, two below. -/
def grade (i : ℕ) : ℕ := if above key t i then 0 else if level key t i then 1 else 2

theorem not_above_of_level {i : ℕ} (h : level key t i) : ¬ above key t i := by
  unfold level at h
  unfold above
  rw [cmpi_eq_iff.mp h]
  unfold IntOp.cmpi
  rw [ofBool_eq_one_iff]
  simp [BitVec.slt]

theorem grade_above {i : ℕ} (h : above key t i) : grade key t i = 0 := if_pos h

theorem grade_level {i : ℕ} (h : level key t i) : grade key t i = 1 := by
  unfold grade; rw [if_neg (not_above_of_level key t h), if_pos h]

theorem above_of_grade {i : ℕ} (h : grade key t i = 0) : above key t i := by
  unfold grade at h
  by_contra ha
  rw [if_neg ha] at h
  split at h <;> omega

theorem level_of_grade {i : ℕ} (h : grade key t i = 1) : level key t i := by
  unfold grade at h
  split at h
  · omega
  · by_contra hl
    rw [if_neg hl] at h
    omega

/-- How many a row's packing holds. -/
def nSel : ℕ := nGt key t + nTake key t

/-- What stands behind a slot: a position above whose rank the slot is, or a level one, behind all of those. -/
theorem src_spec {q : ℕ} (h : q < nSel key t) : src key t q < 9216 ∧
    ((above key t (src key t q) ∧ cnt (above key t) (src key t q) = q)
      ∨ (level key t (src key t q) ∧ nGt key t + cnt (level key t) (src key t q) = q)) := by
  by_cases hq : q < nGt key t
  · obtain ⟨i, hi, hp, rfl⟩ := exists_cnt _ _ _ hq
    rw [src_above key t hi hp]
    exact ⟨hi, Or.inl ⟨hp, rfl⟩⟩
  · have hq' : q - nGt key t < nEq key t := by unfold nSel nTake at h; omega
    obtain ⟨i, hi, hp, he⟩ := exists_cnt _ _ _ hq'
    have hqe : q = nGt key t + cnt (level key t) i := by omega
    rw [hqe, src_level key t hp]
    exact ⟨hi, Or.inr ⟨hp, rfl⟩⟩

theorem lt_of_cnt_lt (p : ℕ → Prop) {i j : ℕ} (h : cnt p i < cnt p j) : i < j := by
  by_contra hn
  have := cnt_mono p (show j ≤ i by omega)
  omega

theorem nSel_le (hE : nEq key t < 640) (hG : nGt key t < 640) : nSel key t ≤ 9216 := by
  unfold nSel nTake; omega

/-- A slot's source, as a position of the row. -/
def srcPos (q : Fin (nSel key t)) : Fin 9216 := ⟨src key t q.val, (src_spec key t q.isLt).1⟩

theorem srcPos_val (q : Fin (nSel key t)) : (srcPos key t q).val = src key t q.val := by simp only [srcPos]

/-- The first entries of the sort by grade are the packing's sources. -/
theorem sortedFrom_grade (hG : nGt key t < 640) (hE : nEq key t < 640) (B : Fin 9216 → Fin 9216 → Bool)
    (hB : ∀ a b : Fin 9216, B a b = decide (grade key t a.val < grade key t b.val)) (q : Fin 9216) (hq : q.val < nSel key t) :
    (sortedFrom B q).val = src key t q.val := by
  rw [sortedFrom_key B (fun a => grade key t a.val) hB]
  have hT := StrictTotalBefore.of_key_then_position (n := 9216) (fun a b : ℕ => decide (a < b)) (fun a => grade key t a.val)
    (by intro a; simp) (by intro a b c; simp only [decide_eq_true_eq]; omega) (by intro a b; simp only [decide_eq_true_eq]; omega)
  have key_lemma := hT.sortedFrom_eq_of_prefix (nSel_le key t hE hG)
    (srcPos key t) ?_ ?_ ?_ ⟨q.val, hq⟩
  · have hc : (Fin.castLE (nSel_le key t hE hG) ⟨q.val, hq⟩ : Fin 9216) = q := Fin.ext (Fin.val_castLE _ _)
    rw [hc] at key_lemma
    rw [key_lemma, srcPos_val]
  · intro i j hij
    have hs : src key t i.val = src key t j.val := by rw [← srcPos_val, ← srcPos_val, hij]
    apply Fin.ext
    rcases (src_spec key t i.isLt).2 with ⟨hi, ei⟩ | ⟨hi, ei⟩ <;> rcases (src_spec key t j.isLt).2 with ⟨hj, ej⟩ | ⟨hj, ej⟩
    · rw [← ei, ← ej, hs]
    · exact absurd (by rw [← hs]; exact hi) (not_above_of_level key t hj)
    · exact absurd (by rw [hs]; exact hj) (not_above_of_level key t hi)
    · rw [← ei, ← ej, hs]
  · intro i j hij
    have hij' : i.val < j.val := hij
    simp only [Bool.or_eq_false_iff, Bool.and_eq_false_iff, decide_eq_false_iff_not, Fin.lt_def, srcPos_val]
    rcases (src_spec key t i.isLt).2 with ⟨hi, ei⟩ | ⟨hi, ei⟩ <;> rcases (src_spec key t j.isLt).2 with ⟨hj, ej⟩ | ⟨hj, ej⟩
    · rw [grade_above key t hi, grade_above key t hj]
      have := lt_of_cnt_lt (above key t) (i := src key t i.val) (j := src key t j.val) (by omega)
      omega
    · rw [grade_above key t hi, grade_level key t hj]; omega
    · have := cnt_lt (above key t) hj (src_spec key t j.isLt).1
      unfold nGt at ei
      omega
    · rw [grade_level key t hi, grade_level key t hj]
      have := lt_of_cnt_lt (level key t) (i := src key t i.val) (j := src key t j.val) (by omega)
      omega
  · intro i p hp
    have hmem : ∀ j, j < nSel key t → src key t j ≠ p.val := fun j hj he => hp ⟨j, hj⟩ (Fin.ext (by rw [srcPos_val]; exact he))
    have habv : ¬ above key t p.val := fun ha => by
      have := cnt_lt (above key t) ha p.isLt
      exact hmem (cnt (above key t) p.val) (by unfold nSel nGt; omega) (src_above key t p.isLt ha)
    have hlev : level key t p.val → nSel key t ≤ nGt key t + cnt (level key t) p.val := fun hl => by
      by_contra hn
      exact hmem _ (by omega) (src_level key t hl)
    have hi := (src_spec key t i.isLt).2
    have hil := i.isLt
    simp only [Bool.or_eq_false_iff, Bool.and_eq_false_iff, decide_eq_false_iff_not, Fin.lt_def, srcPos_val]
    have hg : grade key t p.val = 1 ∨ grade key t p.val = 2 := by
      unfold grade; rw [if_neg habv]; split <;> simp
    rcases hi with ⟨hi, ei⟩ | ⟨hi, ei⟩
    · rw [grade_above key t hi]; omega
    · rw [grade_level key t hi]
      refine ⟨by omega, ?_⟩
      by_cases hg1 : grade key t p.val = 1
      · have h1 := hlev (level_of_grade key t hg1)
        refine Or.inr fun hlt => ?_
        have := cnt_mono (level key t) (show p.val ≤ src key t i.val by omega)
        omega
      · exact Or.inl hg1

end Row

end Cert.Proof.Select
-- ==== Proof.Reference.lean ====
/-
  What the reference computes: its sort by grade, its takes along the row and its pads are the packed rows.
-/
module

public import proofs.«01_k».proof.Proof.Order
public import proofs.«01_k».proof.Proof.Gen.ReferenceIdeal
public import proofs.«01_k».proof.Proof.Gen.ReferenceIdeal.Run
public import Idealize.ShloMosaic.Lib.ReduceAll
public import Idealize.ShloMosaic.Lib.Pipeline.Value

@[expose] public section

noncomputable section

namespace Cert.Proof.Select

open Cert.ReferenceIdeal Cert.ReferenceIdeal.Value Cert.ReferenceIdeal.Facts₀
open Idealize.ShloMosaic Idealize.SL.Sem
open Idealize.ShloMosaic.ValueIdx
open Idealize.ShloMosaic.StableHlo
open Idealize.ShloMosaic.StableHlo.Predicate

variable {F : FTy → Type} [FloatOps F] (V0 : Valuation τ sig (Elt F))

/-- The keys and the thresholds the reference is given. -/
def keyM : IVec Mat 32 := V0 (Proc.devRef .tc main_arg1)
def thrM : IVec Col 32 := V0 (Proc.devRef .tc main_arg6)

/-- Row `r`'s keys and its threshold. -/
def keyR (r : Fin 4) : IVec Cert.KernelIdeal.S9216 32 := rowOf (keyM V0) r
def thrR (r : Fin 4) : BitVec 32 := thrOf (thrM V0) r

/-- Both counts of every row stay below 640. -/
def RowsFit : Prop := ∀ r, nGt (keyR V0 r) (thrR V0 r) < 640 ∧ nEq (keyR V0 r) (thrR V0 r) < 640

theorem scalar_apply {α : Type} {t : Shape} (h : (⟨0, ![]⟩ : Shape).BroadcastsInDim t ![]) (v : (⟨0, ![]⟩ : Shape).Idx → α)
    (j : t.Idx) (c : α) (hc : ∀ i, v i = c) : broadcastInDim t ![] h v j = c := by
  rw [bcast_scalar h (by decide)]; exact hc _

theorem select_pos {α : Type} {s : Shape} {c : IVec s 1} (x y : s.Idx → α) {i : s.Idx} (h : c i = 1#1) :
    select c x y i = x i := if_pos h

theorem select_neg {α : Type} {s : Shape} {c : IVec s 1} (x y : s.Idx → α) {i : s.Idx} (h : ¬ c i = 1#1) :
    select c x y i = y i := if_neg h

/-! ## The grades, and the sort by them -/

theorem v1_iff (r : Fin 4) (q : Fin 9216) : res_main_v1 V0 (ix2 r q) = 1#1 ↔ above (keyR V0 r) (thrR V0 r) q.val :=
  above_iff (keyM V0) (thrM V0) _ r q

theorem v3_iff (r : Fin 4) (q : Fin 9216) : res_main_v3 V0 (ix2 r q) = 1#1 ↔ level (keyR V0 r) (thrR V0 r) q.val :=
  level_iff (keyM V0) (thrM V0) _ r q

theorem v15_apply (r : Fin 4) (q : Fin 9216) :
    res_main_v15 V0 (ix2 r q) = BitVec.ofNat 32 (grade (keyR V0 r) (thrR V0 r) q.val) := by
  unfold res_main_v15
  by_cases h1 : above (keyR V0 r) (thrR V0 r) q.val
  · refine (select_pos _ _ ((v1_iff V0 r q).mpr h1)).trans ?_
    rw [grade_above _ _ h1]
    exact scalar_apply _ _ _ _ fun _ => rfl
  · refine (select_neg _ _ (fun h => h1 ((v1_iff V0 r q).mp h))).trans ?_
    by_cases h2 : level (keyR V0 r) (thrR V0 r) q.val
    · refine (select_pos _ _ ((v3_iff V0 r q).mpr h2)).trans ?_
      rw [grade_level _ _ h2]
      exact scalar_apply _ _ _ _ fun _ => rfl
    · refine (select_neg _ _ (fun h => h2 ((v3_iff V0 r q).mp h))).trans ?_
      unfold grade
      rw [if_neg h1, if_neg h2]
      exact scalar_apply _ _ _ _ fun _ => rfl

theorem grade_le (key : IVec Cert.KernelIdeal.S9216 32) (t : BitVec 32) (i : ℕ) : grade key t i ≤ 2 := by
  unfold grade; split
  · omega
  · split <;> omega

/-- Position `a` of row `r` goes before position `b`: its grade is smaller. -/
def before (r : Fin 4) (a b : Fin 9216) : Bool :=
  decide (grade (keyR V0 r) (thrR V0 r) a.val < grade (keyR V0 r) (thrR V0 r) b.val)

theorem along_ix2 (r : Fin 4) (q k : Fin 9216) : (ix2 r q : Mat.Idx).along 1 k = ix2 r k := by
  funext b; match b with | ⟨0, _⟩ => rfl | ⟨1, _⟩ => rfl

theorem iota_col (r : Fin 4) (k : Fin 9216) : iotaInDim S4x9216 32 1 (ix2 r k) = BitVec.ofNat 32 k.val := rfl

theorem column_along (r : Fin 4) (q k : Fin 9216) :
    res_main_call2_v0 V0 ((ix2 r q : Mat.Idx).along 1 k) = BitVec.ofNat 32 k.val := by
  rw [along_ix2]
  unfold res_main_call2_v0
  exact iota_col r k

theorem sort_apply (r : Fin 4) (q : Fin 9216) :
    (Host.sort2 S4x9216 1 comparator_i32_i32_d1 (res_main_v15 V0) (res_main_call2_v0 V0)).2 (ix2 r q)
      = BitVec.ofNat 32 (sortedFrom (before V0 r) q).val := by
  unfold Host.sort2
  rw [dif_pos (show 1 < S4x9216.rank by decide)]
  have hb : (fun k k' : Fin 9216 => comparator_i32_i32_d1
        (res_main_v15 V0 ((ix2 r q : Mat.Idx).along 1 k), res_main_call2_v0 V0 ((ix2 r q : Mat.Idx).along 1 k))
        (res_main_v15 V0 ((ix2 r q : Mat.Idx).along 1 k'), res_main_call2_v0 V0 ((ix2 r q : Mat.Idx).along 1 k')) == 1#1) = before V0 r := by
    funext k k'
    rw [along_ix2, along_ix2, v15_apply, v15_apply]
    unfold comparator_i32_i32_d1 before
    have h1 := grade_le (keyR V0 r) (thrR V0 r) k.val
    have h2 := grade_le (keyR V0 r) (thrR V0 r) k'.val
    rw [Bool.eq_iff_iff, beq_iff_eq, decide_eq_true_eq]
    exact slt_ofNat_iff _ _ (by omega) (by omega)
  show res_main_call2_v0 V0 ((ix2 r q : Mat.Idx).along 1 (sortedFrom (fun k k' : Fin 9216 => comparator_i32_i32_d1
        (res_main_v15 V0 ((ix2 r q : Mat.Idx).along 1 k), res_main_call2_v0 V0 ((ix2 r q : Mat.Idx).along 1 k))
        (res_main_v15 V0 ((ix2 r q : Mat.Idx).along 1 k'), res_main_call2_v0 V0 ((ix2 r q : Mat.Idx).along 1 k')) == 1#1) q)) = _
  rw [hb]
  exact column_along V0 r q _

/-- A slot of the packed row, as a position of the row. -/
def wide (j : Fin 640) : Fin 9216 := ⟨j.val, by have := j.isLt; omega⟩

/-- The row position slot `j` of row `r` is taken from, in the reference. -/
def taken (r : Fin 4) (j : Fin 640) : Fin 9216 := sortedFrom (before V0 r) (wide j)

theorem v17_apply (r : Fin 4) (j : Fin 640) : res_main_v17 V0 (ix2 r j) = BitVec.ofNat 32 (taken V0 r j).val := by
  unfold res_main_v17 taken
  rw [← sort_apply]
  unfold extractStridedSlice
  refine congrArg _ ?_
  funext b
  match b with
  | ⟨0, _⟩ => exact Fin.ext (Nat.zero_add _)
  | ⟨1, _⟩ => exact Fin.ext (Nat.zero_add _)

theorem taken_eq (hf : RowsFit V0) (r : Fin 4) (j : Fin 640) (hj : j.val < nSel (keyR V0 r) (thrR V0 r)) :
    (taken V0 r j).val = src (keyR V0 r) (thrR V0 r) j.val :=
  sortedFrom_grade _ _ (hf r).1 (hf r).2 _ (fun _ _ => rfl) (wide j) hj

/-! ## How many slots are filled -/

theorem v6_apply (r : Fin 4) : (res_main_v6 V0 (ix2 r 0)).toNat = nGt (keyR V0 r) (thrR V0 r) := by
  unfold res_main_v6
  have h := bcast_col1 (n := 4) bcast_S4_S4x1_0 (Host.reduce IntOp.addi (extui 32 (res_main_v1 V0) natLt_1_32) (constantI S_ 32 0#32) reducesTo_S4x9216_S4_d1 h_S_) r
  have hi : (ixP r : Col.Idx) = ix2 r 0 := by funext b; match b with | ⟨0, _⟩ => rfl | ⟨1, _⟩ => rfl
  rw [hi] at h
  rw [h]
  have hr : (Shape.Idx.ofFin r : (⟨1, ![4]⟩ : Shape).Idx) = ix1 r := by funext b; match b with | ⟨0, _⟩ => rfl
  rw [hr]
  exact toNat_above (keyM V0) (thrM V0) _ r _ _ _

theorem v9_apply (r : Fin 4) : (broadcastInDim S4x1 ![0] bcast_S4_S4x1_0 (Host.reduce IntOp.addi (extui 32 (res_main_v3 V0) natLt_1_32) (constantI S_ 32 0#32) reducesTo_S4x9216_S4_d1 h_S_) (ix2 r 0)).toNat
    = nEq (keyR V0 r) (thrR V0 r) := by
  have h := bcast_col1 (n := 4) bcast_S4_S4x1_0 (Host.reduce IntOp.addi (extui 32 (res_main_v3 V0) natLt_1_32) (constantI S_ 32 0#32) reducesTo_S4x9216_S4_d1 h_S_) r
  have hi : (ixP r : Col.Idx) = ix2 r 0 := by funext b; match b with | ⟨0, _⟩ => rfl | ⟨1, _⟩ => rfl
  rw [hi] at h
  rw [h]
  have hr : (Shape.Idx.ofFin r : (⟨1, ![4]⟩ : Shape).Idx) = ix1 r := by funext b; match b with | ⟨0, _⟩ => rfl
  rw [hr]
  exact toNat_level (keyM V0) (thrM V0) _ r _ _ _

/-- The larger of the first and the smaller of the sum and six hundred, of small counts. -/
theorem filled_word (g e : BitVec 32) (hg : g.toNat < 640) (he : e.toNat < 640) :
    IntOp.maxsi g (IntOp.minsi (IntOp.addi g e) 600#32) = BitVec.ofNat 32 (g.toNat + min e.toNat (600 - g.toNat)) := by
  have hs : (g + e).toNat = g.toNat + e.toNat := by rw [BitVec.toNat_add]; omega
  have i1 : (g + e).toInt = (g.toNat + e.toNat : ℕ) := by rw [toInt_eq_toNat_of_lt (by omega), hs]
  have i2 : (600#32 : BitVec 32).toInt = 600 := by decide
  have i3 : g.toInt = g.toNat := toInt_eq_toNat_of_lt (by omega)
  have n2 : (600#32 : BitVec 32).toNat = 600 := by decide
  apply BitVec.eq_of_toNat_eq
  rw [BitVec.toNat_ofNat]
  unfold IntOp.maxsi IntOp.minsi IntOp.addi
  simp only [BitVec.sle, BitVec.slt]
  split <;> split <;> simp_all <;> omega

theorem v13_apply (hf : RowsFit V0) (r : Fin 4) :
    res_main_v13 V0 (ix2 r 0) = BitVec.ofNat 32 (nSel (keyR V0 r) (thrR V0 r)) := by
  have h6 := v6_apply V0 r
  have h9 := v9_apply V0 r
  have h600 : broadcastInDim S4x1 ![] bcast_S_S4x1 (constantI S_ 32 600#32) (ix2 r 0) = 600#32 := scalar_apply _ _ _ _ fun _ => rfl
  show IntOp.maxsi (res_main_v6 V0 (ix2 r 0)) (IntOp.minsi (IntOp.addi (res_main_v6 V0 (ix2 r 0))
    (broadcastInDim S4x1 ![0] bcast_S4_S4x1_0 (Host.reduce IntOp.addi (extui 32 (res_main_v3 V0) natLt_1_32) (constantI S_ 32 0#32) reducesTo_S4x9216_S4_d1 h_S_) (ix2 r 0)))
    (broadcastInDim S4x1 ![] bcast_S_S4x1 (constantI S_ 32 600#32) (ix2 r 0))) = _
  rw [h600, filled_word _ _ (by rw [h6]; exact (hf r).1) (by rw [h9]; exact (hf r).2), h6, h9]
  rfl

theorem v19_apply (j : Fin 640) : res_main_v19 V0 (i1q j) = BitVec.ofNat 32 j.val := by
  unfold res_main_v19
  rw [bcast_row1]
  rfl

theorem slot_apply (r : Fin 4) (j : Fin 640) :
    broadcastInDim S4x640 ![0, 1] bcast_S1x640_S4x640_0_1 (res_main_v19 V0) (ix2 r j) = BitVec.ofNat 32 j.val := by
  rw [← ij_eq, bcast_of_row, v19_apply]

/-- Slot `j` of row `r` is filled. -/
theorem filled_iff (hf : RowsFit V0) (r : Fin 4) (j : Fin 640) :
    cmpi .slt (broadcastInDim S4x640 ![0, 1] bcast_S1x640_S4x640_0_1 (res_main_v19 V0))
      (broadcastInDim S4x640 ![0, 1] bcast_S4x1_S4x640_0_1 (res_main_v13 V0)) (ix2 r j) = 1#1
      ↔ j.val < nSel (keyR V0 r) (thrR V0 r) := by
  have h13 : broadcastInDim S4x640 ![0, 1] bcast_S4x1_S4x640_0_1 (res_main_v13 V0) (ix2 r j)
      = BitVec.ofNat 32 (nSel (keyR V0 r) (thrR V0 r)) := by
    rw [← ij_eq, bcast_of_col]
    have hi : (ixP r : Col.Idx) = ix2 r 0 := by funext b; match b with | ⟨0, _⟩ => rfl | ⟨1, _⟩ => rfl
    rw [hi, v13_apply V0 hf]
  show IntOp.cmpi .slt _ _ = 1#1 ↔ _
  rw [slot_apply, h13]
  have := j.isLt
  have := nSel_le _ _ (hf r).2 (hf r).1
  exact slt_ofNat_iff _ _ (by omega) (by omega)

/-! ## The take along the row -/

/-- The start indices, which are the positions taken. -/
abbrev starts : IVec S4x640x1 32 := res_main_call3_v5 V0

theorem starts_apply (r : Fin 4) (j : Fin 640) (z : S4x640x1.Idx) (h0 : (z 0).val = r.val) (h1 : (z 1).val = j.val) :
    starts V0 z = BitVec.ofNat 32 (taken V0 r j).val := by
  unfold starts res_main_call3_v5
  refine (shapeCast_apply _ _ z (ix2 r j) ?_).trans ?_
  rotate_left
  · have ht := (taken V0 r j).isLt
    refine (select_neg _ _ fun h => ?_).trans (v17_apply V0 r j)
    have hz : broadcastInDim S4x640 ![] bcast_S_S4x640 (constantI S_ 32 0#32) (ix2 r j) = BitVec.ofNat 32 0 := scalar_apply _ _ _ _ fun _ => rfl
    have h' : IntOp.cmpi .slt (res_main_v17 V0 (ix2 r j)) (broadcastInDim S4x640 ![] bcast_S_S4x640 (constantI S_ 32 0#32) (ix2 r j)) = 1#1 := h
    rw [hz, v17_apply] at h'
    have := (slt_ofNat_iff _ _ (by omega) (by omega)).mp h'
    omega
  · rw [Shape.rowMajor_val_two, Shape.rowMajor_val_three]
    have h2 : (z 2).val = 0 := by have := (z 2).isLt; change (z 2).val < 1 at this; omega
    simp only [h0, h1, h2]
    simp [Shape.size]

/-- Every start index is in the row's range. -/
theorem in_range (y : S4x640.Idx) :
    Host.reduce IntOp.andi (andi (cmpi .sge (starts V0) (broadcastInDim S4x640x1 ![] bcast_S_S4x640x1 (constantI S_ 32 0#32)))
      (cmpi .sle (starts V0) (broadcastInDim S4x640x1 ![0, 1, 2] bcast_S1x1x1_S4x640x1_0_1_2 (broadcastInDim S1x1x1 ![2] bcast_S1_S1x1x1_2 (constantI S1 32 9215#32)))))
      (constantI S_ 1 1#1) reducesTo_S4x640x1_S4x640_d2 h_S_ y = 1#1 := by
  refine Host.reduce_andi_one _ _ _ _ _ rfl fun z => ?_
  have hs := starts_apply V0 (z 0) (z 1) z rfl rfl
  have ht := (taken V0 (z 0) (z 1)).isLt
  show IntOp.andi (IntOp.cmpi .sge (starts V0 z) _) (IntOp.cmpi .sle (starts V0 z) 9215#32) = 1#1
  rw [hs, scalar_apply bcast_S_S4x640x1 (constantI S_ 32 0#32) z 0#32 fun _ => rfl]
  have n : (BitVec.ofNat 32 (taken V0 (z 0) (z 1)).val).toNat = (taken V0 (z 0) (z 1)).val := by
    rw [BitVec.toNat_ofNat]; omega
  have a1 := (sge_iff_toNat (a := BitVec.ofNat 32 (taken V0 (z 0) (z 1)).val) (b := 0#32) (by omega) (by decide)).mpr (by simp)
  have a2 := (sle_iff_toNat (a := BitVec.ofNat 32 (taken V0 (z 0) (z 1)).val) (b := 9215#32) (by omega) (by decide)).mpr (by
    rw [n]; show _ ≤ 9215; omega)
  rw [a1, a2]
  decide

/-- The take at slot `j` of row `r` reads the row at the position taken. -/
theorem gather_row_apply {α : Type} (x : Mat.Idx → α) (r : Fin 4) (j : Fin 640) :
    Host.gather gather_S4x9216_S4x640x1_S4x640_n_1_0_0_1_2_11 x (starts V0) (ix2 r j) = x (ix2 r (taken V0 r j)) := by
  unfold Host.gather
  refine congrArg x ?_
  have ht := (taken V0 r j).isLt
  funext a
  refine Fin.ext ?_
  show GatherDims.start _ (ix2 r j) (starts V0) a + GatherDims.batchCoord _ (ix2 r j) a + GatherDims.offCoord _ (ix2 r j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S4x9216_S4x640x1_S4x640_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4x9216_S4x640x1_S4x640_n_1_0_0_1_2_11.startIndexMap from List.mem_singleton.mpr rfl),
      starts_apply V0 r j _ rfl rfl, toInt_ofNat_small _ (by omega)]
    show min (taken V0 r j).val (9216 - 1) = (taken V0 r j).val
    omega

/-! ## The results -/

theorem ext_rows {α : Type} {f g : S4x640.Idx → α} (h : ∀ (r : Fin 4) (j : Fin 640), f (ix2 r j) = g (ix2 r j)) : f = g :=
  funext fun y => (congrArg f (eq_ix2 y)).trans ((h (y 0) (y 1)).trans (congrArg g (eq_ix2 y)).symm)

/-- A matrix packed row by row. -/
def packedM {α : Type} (a : Mat.Idx → α) (pad : ℕ → α) : S4x640.Idx → α := fun y =>
  packed (keyR V0 (y 0)) (thrR V0 (y 0)) (rowOf a (y 0)) pad (ix1 (y 1))

theorem packed_pos {α : Type} (key : IVec Cert.KernelIdeal.S9216 32) (t : BitVec 32) (a : Cert.KernelIdeal.S9216.Idx → α) (pad : ℕ → α)
    (j : Fin 640) (hj : j.val < nSel key t) : packed key t a pad (ix1 j) = rd a (src key t j.val) := by
  unfold packed
  exact if_pos hj

theorem packed_neg {α : Type} (key : IVec Cert.KernelIdeal.S9216 32) (t : BitVec 32) (a : Cert.KernelIdeal.S9216.Idx → α) (pad : ℕ → α)
    (j : Fin 640) (hj : ¬ j.val < nSel key t) : packed key t a pad (ix1 j) = pad j.val := by
  unfold packed
  exact if_neg hj

theorem packedM_filled {α : Type} (a : Mat.Idx → α) (pad : ℕ → α) (hf : RowsFit V0) (r : Fin 4) (j : Fin 640)
    (hj : j.val < nSel (keyR V0 r) (thrR V0 r)) : packedM V0 a pad (ix2 r j) = a (ix2 r (taken V0 r j)) := by
  rw [← rd_rowOf a r (taken V0 r j), taken_eq V0 hf r j hj]
  exact packed_pos _ _ _ _ j hj

theorem packedM_pad {α : Type} (a : Mat.Idx → α) (pad : ℕ → α) (r : Fin 4) (j : Fin 640)
    (hj : ¬ j.val < nSel (keyR V0 r) (thrR V0 r)) : packedM V0 a pad (ix2 r j) = pad j.val := packed_neg _ _ _ _ j hj

/-- A taken and padded result is its array packed. -/
theorem take_eq (hf : RowsFit V0) (x : FVec F Mat .f32) (b : BitVec 32) :
    select (cmpi .slt (broadcastInDim S4x640 ![0, 1] bcast_S1x640_S4x640_0_1 (res_main_v19 V0)) (broadcastInDim S4x640 ![0, 1] bcast_S4x1_S4x640_0_1 (res_main_v13 V0)))
      (select (Host.reduce IntOp.andi (andi (cmpi .sge (starts V0) (broadcastInDim S4x640x1 ![] bcast_S_S4x640x1 (constantI S_ 32 0#32)))
          (cmpi .sle (starts V0) (broadcastInDim S4x640x1 ![0, 1, 2] bcast_S1x1x1_S4x640x1_0_1_2 (broadcastInDim S1x1x1 ![2] bcast_S1_S1x1x1_2 (constantI S1 32 9215#32)))))
          (constantI S_ 1 1#1) reducesTo_S4x640x1_S4x640_d2 h_S_)
        (Host.gather gather_S4x9216_S4x640x1_S4x640_n_1_0_0_1_2_11 x (starts V0))
        (broadcastInDim S4x640 ![] bcast_S_S4x640 (constant S_ .f32 0x7FC00000#32)))
      (broadcastInDim S4x640 ![] bcast_S_S4x640 (id (constant S_ .f32 b)))
    = packedM V0 x (fun _ => Scalar.ofBits .f32 b) := by
  refine ext_rows fun r j => ?_
  by_cases hj : j.val < nSel (keyR V0 r) (thrR V0 r)
  · refine (select_pos _ _ ((filled_iff V0 hf r j).mpr hj)).trans ?_
    refine (select_pos _ _ (in_range V0 (ix2 r j))).trans ?_
    rw [packedM_filled V0 _ _ hf r j hj]
    exact gather_row_apply V0 x r j
  · refine (select_neg _ _ (fun h => hj ((filled_iff V0 hf r j).mp h))).trans ?_
    rw [packedM_pad V0 _ _ r j hj]
    exact scalar_apply _ _ _ _ fun _ => rfl

/-- The result of positions is the positions packed. -/
theorem positions_eq (hf : RowsFit V0) :
    select (cmpi .slt (broadcastInDim S4x640 ![0, 1] bcast_S1x640_S4x640_0_1 (res_main_v19 V0)) (broadcastInDim S4x640 ![0, 1] bcast_S4x1_S4x640_0_1 (res_main_v13 V0)))
      (res_main_v17 V0) (broadcastInDim S4x640 ![0, 1] bcast_S1x640_S4x640_0_1 (addi (broadcastInDim S1x640 ![] bcast_S_S1x640 (constantI S_ 32 4194304#32)) (res_main_v19 V0)))
    = packedM V0 (fun z => posRow (ix1 (z 1))) padK := by
  refine ext_rows fun r j => ?_
  by_cases hj : j.val < nSel (keyR V0 r) (thrR V0 r)
  · refine (select_pos _ _ ((filled_iff V0 hf r j).mpr hj)).trans ?_
    rw [packedM_filled V0 _ _ hf r j hj, v17_apply]
    rfl
  · refine (select_neg _ _ (fun h => hj ((filled_iff V0 hf r j).mp h))).trans ?_
    rw [packedM_pad V0 _ _ r j hj, ← ij_eq, bcast_of_row]
    show IntOp.addi (broadcastInDim S1x640 ![] bcast_S_S1x640 (constantI S_ 32 4194304#32) (i1q j)) (res_main_v19 V0 (i1q j)) = _
    rw [v19_apply, scalar_apply bcast_S_S1x640 (constantI S_ 32 4194304#32) (i1q j) 4194304#32 fun _ => rfl]
    rfl

end Cert.Proof.Select
-- ==== Proof.SelectClaims.lean ====
/-
  What is proved of the selection: both frames of the kernel from one run of it over any float values, the
  reference's from its straight-line run, and the value claims from the two together, both ending with the
  packed rows.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_counts_fit
public import proofs.«01_k».proof.Proof.Gen.Reference
public import proofs.«01_k».proof.Proof.Launch
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem Cert.Proof.Select
open Idealize.ShloMosaic.ValueIdx

section Values

variable {F : FTy → Type} [FloatOps F]

/-- The reference's packing, of given keys, thresholds and contents. -/
theorem packedM_congr {α : Type} (V0 : Valuation Cert.ReferenceIdeal.τ Cert.ReferenceIdeal.sig (Elt F)) (K : IVec Mat 32) (T : IVec Col 32) (a a' : Mat.Idx → α)
    (pad : ℕ → α) (hK : keyM V0 = K) (hT : thrM V0 = T) (ha : a = a') :
    packedM V0 a pad = fun y => packed (rowOf K (y 0)) (thrOf T (y 0)) (rowOf a' (y 0)) pad (ix1 (y 1)) := by
  subst hK hT ha; rfl

/-- The reference's packing of the positions. -/
theorem packedM_positions (V0 : Valuation Cert.ReferenceIdeal.τ Cert.ReferenceIdeal.sig (Elt F)) (K : IVec Mat 32) (T : IVec Col 32)
    (hK : keyM V0 = K) (hT : thrM V0 = T) :
    packedM V0 (fun z => posRow (ix1 (z 1))) padK = fun y => packed (rowOf K (y 0)) (thrOf T (y 0)) posRow padK (ix1 (y 1)) := by
  have hr : ∀ r : Fin 4, rowOf (fun z : Mat.Idx => posRow (ix1 (z 1))) r = posRow := fun r => funext fun x => congrArg posRow (eq_ix1 x).symm
  rw [packedM_congr V0 K T _ _ padK hK hT rfl]
  exact funext fun y => congrArg (fun a => packed (rowOf K (y 0)) (thrOf T (y 0)) a padK (ix1 (y 1))) (hr (y 0))

variable (m' : (ℓ : Loc Cert.ReferenceIdeal.nD Cert.ReferenceIdeal.τ Cert.ReferenceIdeal.sig) → Buf (Elt F) ℓ)

/-- An argument of the reference. -/
abbrev rArg (c : Dev Cert.ReferenceIdeal.nD) (b : Ref Cert.ReferenceIdeal.sig .tc) :=
  m' ((c.tc : Thread Cert.ReferenceIdeal.nD Cert.ReferenceIdeal.τ).loc b)

/-- The reference ends with the packed rows of its arguments, which it leaves unchanged. -/
theorem reference_run (ρ : Dev Cert.ReferenceIdeal.nD → PrngReg) (hf : ∀ c, RowsFit (launchContents m' c)) :
    θ_run (Cert.ReferenceIdeal.defs (F := F)) (onTc (τ := Cert.ReferenceIdeal.τ) (Cert.ReferenceIdeal.main (F := F))) ⟨m', fun _ => 0, ρ⟩
      fun r => ∀ c : Dev Cert.ReferenceIdeal.nD,
        rArg r.2.mem c Cert.ReferenceIdeal.main_v24 = packedM (launchContents m' c) (rArg m' c Cert.ReferenceIdeal.main_arg0) padS
        ∧ rArg r.2.mem c Cert.ReferenceIdeal.main_v30 = packedM (launchContents m' c) (fun z => posRow (ix1 (z 1))) padK
        ∧ rArg r.2.mem c Cert.ReferenceIdeal.main_v35 = packedM (launchContents m' c) (rArg m' c Cert.ReferenceIdeal.main_arg2) padE
        ∧ rArg r.2.mem c Cert.ReferenceIdeal.main_v40 = packedM (launchContents m' c) (rArg m' c Cert.ReferenceIdeal.main_arg3) padE
        ∧ rArg r.2.mem c Cert.ReferenceIdeal.main_v45 = packedM (launchContents m' c) (rArg m' c Cert.ReferenceIdeal.main_arg4) padE
        ∧ rArg r.2.mem c Cert.ReferenceIdeal.main_v50 = packedM (launchContents m' c) (rArg m' c Cert.ReferenceIdeal.main_arg5) padE
        ∧ rArg r.2.mem c Cert.ReferenceIdeal.main_arg0 = rArg m' c Cert.ReferenceIdeal.main_arg0
        ∧ rArg r.2.mem c Cert.ReferenceIdeal.main_arg1 = rArg m' c Cert.ReferenceIdeal.main_arg1
        ∧ rArg r.2.mem c Cert.ReferenceIdeal.main_arg2 = rArg m' c Cert.ReferenceIdeal.main_arg2
        ∧ rArg r.2.mem c Cert.ReferenceIdeal.main_arg3 = rArg m' c Cert.ReferenceIdeal.main_arg3
        ∧ rArg r.2.mem c Cert.ReferenceIdeal.main_arg4 = rArg m' c Cert.ReferenceIdeal.main_arg4
        ∧ rArg r.2.mem c Cert.ReferenceIdeal.main_arg5 = rArg m' c Cert.ReferenceIdeal.main_arg5
        ∧ rArg r.2.mem c Cert.ReferenceIdeal.main_arg6 = rArg m' c Cert.ReferenceIdeal.main_arg6 :=
  (θ_run Cert.ReferenceIdeal.defs _ _).mono (fun _ h c => by
    obtain ⟨h0, h1, h2, h3, h4, h5, hargs⟩ := h c
    exact ⟨h0.trans (take_eq _ (hf c) _ _), h1.trans (positions_eq _ (hf c)), h2.trans (take_eq _ (hf c) _ _), h3.trans (take_eq _ (hf c) _ _),
      h4.trans (take_eq _ (hf c) _ _), h5.trans (take_eq _ (hf c) _ _), hargs⟩)
    (Cert.ReferenceIdeal.Value.run m' ρ)

variable (m : (ℓ : Loc Cert.KernelIdeal.nD Cert.KernelIdeal.τ Cert.KernelIdeal.sig) → Buf (Elt F) ℓ)

/-- An argument or a result of the kernel. -/
abbrev kArg (c : Dev Cert.KernelIdeal.nD) (b : Ref Cert.KernelIdeal.sig .tc) :=
  m ((c.tc : Thread Cert.KernelIdeal.nD Cert.KernelIdeal.τ).loc b)

/-- The kernel ends with the packed rows of its arguments, which it leaves unchanged. -/
theorem kernel_run [∀ e, Nonempty (Elt F e)] (ρ : Dev Cert.KernelIdeal.nD → PrngReg) (hfit : ∀ d r, (argRow m d r).Fits) :
    θ_run (Cert.KernelIdeal.defs (F := F)) (Cert.KernelIdeal.threads (F := F)) ⟨m, fun _ => 0, ρ⟩
      fun r => ∀ c : Dev Cert.KernelIdeal.nD,
        kArg r.2.mem c Cert.KernelIdeal.main_v1_0 = resS m c ∧ kArg r.2.mem c Cert.KernelIdeal.main_v1_1 = resK m c
        ∧ kArg r.2.mem c Cert.KernelIdeal.main_v1_2 = resA m c ∧ kArg r.2.mem c Cert.KernelIdeal.main_v1_3 = resB m c
        ∧ kArg r.2.mem c Cert.KernelIdeal.main_v1_4 = resC m c ∧ kArg r.2.mem c Cert.KernelIdeal.main_v1_5 = resD m c
        ∧ kArg r.2.mem c Cert.KernelIdeal.main_arg0 = kArg m c Cert.KernelIdeal.main_arg0
        ∧ kArg r.2.mem c Cert.KernelIdeal.main_arg1 = kArg m c Cert.KernelIdeal.main_arg1
        ∧ kArg r.2.mem c Cert.KernelIdeal.main_arg2 = kArg m c Cert.KernelIdeal.main_arg2
        ∧ kArg r.2.mem c Cert.KernelIdeal.main_arg3 = kArg m c Cert.KernelIdeal.main_arg3
        ∧ kArg r.2.mem c Cert.KernelIdeal.main_arg4 = kArg m c Cert.KernelIdeal.main_arg4
        ∧ kArg r.2.mem c Cert.KernelIdeal.main_arg5 = kArg m c Cert.KernelIdeal.main_arg5
        ∧ kArg r.2.mem c Cert.KernelIdeal.main_arg6 = kArg m c Cert.KernelIdeal.main_arg6 :=
  (θ_run (Cert.KernelIdeal.defs (F := F)) _ _).mono (fun _ h c => by
    obtain ⟨a0, a1, a2, a3, a4, a5, a6, r0, r1, r2, r3, r4, r5⟩ := h.1 c
    exact ⟨r0, r1, r2, r3, r4, r5, a0, a1, a2, a3, a4, a5, a6⟩) (run_main (F := F) m ρ hfit)

/-- From equal arguments the reference ends with what the kernel ends with. -/
theorem reference_agrees (ρ : Dev Cert.ReferenceIdeal.nD → PrngReg) (hfit : ∀ d r, (argRow m d r).Fits)
    (hargs : ∀ c : Dev Cert.KernelIdeal.nD,
      rArg m' c Cert.ReferenceIdeal.main_arg0 = kArg m c Cert.KernelIdeal.main_arg0 ∧ rArg m' c Cert.ReferenceIdeal.main_arg1 = kArg m c Cert.KernelIdeal.main_arg1
      ∧ rArg m' c Cert.ReferenceIdeal.main_arg2 = kArg m c Cert.KernelIdeal.main_arg2 ∧ rArg m' c Cert.ReferenceIdeal.main_arg3 = kArg m c Cert.KernelIdeal.main_arg3
      ∧ rArg m' c Cert.ReferenceIdeal.main_arg4 = kArg m c Cert.KernelIdeal.main_arg4 ∧ rArg m' c Cert.ReferenceIdeal.main_arg5 = kArg m c Cert.KernelIdeal.main_arg5
      ∧ rArg m' c Cert.ReferenceIdeal.main_arg6 = kArg m c Cert.KernelIdeal.main_arg6) :
    θ_run (Cert.ReferenceIdeal.defs (F := F)) (onTc (τ := Cert.ReferenceIdeal.τ) (Cert.ReferenceIdeal.main (F := F))) ⟨m', fun _ => 0, ρ⟩
      fun r => ∀ c : Dev Cert.ReferenceIdeal.nD,
        rArg r.2.mem c Cert.ReferenceIdeal.main_v24 = resS m c ∧ rArg r.2.mem c Cert.ReferenceIdeal.main_v30 = resK m c
        ∧ rArg r.2.mem c Cert.ReferenceIdeal.main_v35 = resA m c ∧ rArg r.2.mem c Cert.ReferenceIdeal.main_v40 = resB m c
        ∧ rArg r.2.mem c Cert.ReferenceIdeal.main_v45 = resC m c ∧ rArg r.2.mem c Cert.ReferenceIdeal.main_v50 = resD m c
        ∧ rArg r.2.mem c Cert.ReferenceIdeal.main_arg0 = rArg m' c Cert.ReferenceIdeal.main_arg0
        ∧ rArg r.2.mem c Cert.ReferenceIdeal.main_arg1 = rArg m' c Cert.ReferenceIdeal.main_arg1
        ∧ rArg r.2.mem c Cert.ReferenceIdeal.main_arg2 = rArg m' c Cert.ReferenceIdeal.main_arg2
        ∧ rArg r.2.mem c Cert.ReferenceIdeal.main_arg3 = rArg m' c Cert.ReferenceIdeal.main_arg3
        ∧ rArg r.2.mem c Cert.ReferenceIdeal.main_arg4 = rArg m' c Cert.ReferenceIdeal.main_arg4
        ∧ rArg r.2.mem c Cert.ReferenceIdeal.main_arg5 = rArg m' c Cert.ReferenceIdeal.main_arg5
        ∧ rArg r.2.mem c Cert.ReferenceIdeal.main_arg6 = rArg m' c Cert.ReferenceIdeal.main_arg6 := by
  have hf : ∀ c, RowsFit (launchContents m' c) := fun c r => by
    obtain ⟨_, e1, _, _, _, _, e6⟩ := hargs c
    have h := hfit c r
    have hk : keyR (launchContents m' c) r = (argRow m c r).K := congrArg (fun K : IVec Mat 32 => rowOf K r) e1
    have ht : thrR (launchContents m' c) r = (argRow m c r).t := congrArg (fun T : IVec Col 32 => thrOf T r) e6
    rw [hk, ht]
    exact ⟨h.gt, h.eq⟩
  refine (θ_run (Cert.ReferenceIdeal.defs (F := F)) _ _).mono (fun _ h c => ?_) (reference_run m' ρ hf)
  obtain ⟨e0, e1, e2, e3, e4, e5, e6⟩ := hargs c
  obtain ⟨r0, r1, r2, r3, r4, r5, hkeep⟩ := h c
  exact ⟨r0.trans (packedM_congr _ _ _ _ _ _ e1 e6 e0), r1.trans (packedM_positions _ _ _ e1 e6), r2.trans (packedM_congr _ _ _ _ _ _ e1 e6 e2),
    r3.trans (packedM_congr _ _ _ _ _ _ e1 e6 e3), r4.trans (packedM_congr _ _ _ _ _ _ e1 e6 e4), r5.trans (packedM_congr _ _ _ _ _ _ e1 e6 e5), hkeep⟩

end Values

/-! ## The claims -/

theorem fits_bits (m : (ℓ : Loc Cert.KernelIdeal.nD Cert.KernelIdeal.τ Cert.KernelIdeal.sig) → Buf (Elt Bits) ℓ)
    (hp : Cert.Pre_Kernel (hPre_counts_fit := Cert.Pre_counts_fit.Gen.facts) m) (d : Dev Cert.KernelIdeal.nD) (r : Fin 4) : (argRow m d r).Fits := by
  obtain ⟨h1, h2⟩ := counts_fit_read _ _ _ _ _ _ _ (hp d) r
  exact ⟨h1, h2⟩

theorem fits_ideal (m : (ℓ : Loc Cert.KernelIdeal.nD Cert.KernelIdeal.τ Cert.KernelIdeal.sig) → Buf (Elt Ideal) ℓ)
    (hp : Cert.Pre_KernelIdeal (hPre_counts_fit := Cert.Pre_counts_fit.Gen.facts) m) (d : Dev Cert.KernelIdeal.nD) (r : Fin 4) : (argRow m d r).Fits := by
  obtain ⟨h1, h2⟩ := counts_fit_read _ _ _ _ _ _ _ (hp d) r
  exact ⟨h1, h2⟩

theorem frame_kernel : Cert.quiescent_Kernel (hKernel := Cert.Kernel.Gen.facts) (hPre_counts_fit := Cert.Pre_counts_fit.Gen.facts) := fun m ρ hp =>
  (θ_run (Cert.KernelIdeal.defs (F := Bits)) _ _).mono
    (fun _ h => ⟨fun c => by
      obtain ⟨a0, a1, a2, a3, a4, a5, a6, _⟩ := h.1 c
      exact ⟨a0, a1, a2, a3, a4, a5, a6⟩, h.2⟩)
    (run_main (F := Bits) m ρ (fits_bits m hp))

theorem frame_kernelIdeal : Cert.quiescent_KernelIdeal (hKernelIdeal := Cert.KernelIdeal.Gen.facts) (hPre_counts_fit := Cert.Pre_counts_fit.Gen.facts) := fun m ρ hp =>
  (θ_run (Cert.KernelIdeal.defs (F := Ideal)) _ _).mono
    (fun _ h => ⟨fun c => by
      obtain ⟨a0, a1, a2, a3, a4, a5, a6, _⟩ := h.1 c
      exact ⟨a0, a1, a2, a3, a4, a5, a6⟩, h.2⟩)
    (run_main (F := Ideal) m ρ (fits_ideal m hp))

theorem frame_referenceIdeal : Cert.quiescent_ReferenceIdeal (hReferenceIdeal := Cert.ReferenceIdeal.Gen.facts) := fun m ρ _ =>
  (θ_run (Cert.ReferenceIdeal.defs (F := Ideal)) _ _).mono
    (fun r h => ⟨fun c => by
      obtain ⟨_, _, _, _, _, _, hargs⟩ := h c
      exact hargs, sem_eq_zero_of_no_sems (by decide) r.2⟩)
    (Cert.ReferenceIdeal.Value.run (F := Ideal) m ρ)

theorem frame_reference : Cert.quiescent_Reference (hReference := Cert.Reference.Gen.facts) (hPre_counts_fit := Cert.Pre_counts_fit.Gen.facts) := fun m ρ _ =>
  (θ_run (Cert.ReferenceIdeal.defs (F := Bits)) _ _).mono
    (fun r h => ⟨fun c => by
      obtain ⟨_, _, _, _, _, _, hargs⟩ := h c
      exact hargs, sem_eq_zero_of_no_sems (by decide) r.2⟩)
    (Cert.ReferenceIdeal.Value.run (F := Bits) m ρ)

theorem algebraic : Cert.algebraic_KernelIdeal_ReferenceIdeal (hKernelIdeal := Cert.KernelIdeal.Gen.facts) (hReferenceIdeal := Cert.ReferenceIdeal.Gen.facts)
    (hPre_counts_fit := Cert.Pre_counts_fit.Gen.facts) := fun m ρ m' ρ' hp hargs =>
  ⟨fun c => resS m c, fun c => resK m c, fun c => resA m c, fun c => resB m c, fun c => resC m c, fun c => resD m c,
    kernel_run (F := Ideal) m ρ (fits_ideal m hp), reference_agrees (F := Ideal) m' m ρ' (fits_ideal m hp) hargs⟩

theorem bitexact : Cert.bitexact_Kernel_Reference (hKernel := Cert.Kernel.Gen.facts) (hReference := Cert.Reference.Gen.facts)
    (hPre_counts_fit := Cert.Pre_counts_fit.Gen.facts) := fun m ρ m' ρ' hp hargs =>
  ⟨fun c => resS (F := Bits) m c, fun c => resK (F := Bits) m c, fun c => resA (F := Bits) m c, fun c => resB (F := Bits) m c, fun c => resC (F := Bits) m c, fun c => resD (F := Bits) m c,
    kernel_run (F := Bits) m ρ (fits_bits m hp), reference_agrees (F := Bits) m' m ρ' (fits_bits m hp) hargs⟩

end Cert.Proof

end
-- ==== Proof.NmsBody.lean ====
/-
  The suppression kernel's body, run at one point of its grid of four: the points that only file a batch's overlaps and
  sorted boxes (`midRun`), and the last one, which files its own and then keeps, counts and writes (`lastRun`).
-/
module

public import proofs.«01_k».proof.Proof.Gen.SuppressIdeal.Frame
public import proofs.«01_k».proof.Proof.Gen.SuppressIdeal.Loops

@[expose] public section

noncomputable section

namespace Cert.SuppressIdeal.Hand

open Cert.SuppressIdeal Cert.SuppressIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of memref `M`'s buffer on core `c`, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section
variable (c : Dev nD) (i : grid0.Coords)
  (M1 : Memref sig .tc .vmem S1x1x640 .f32) (h1 : M1.IsWhole) (M2 : Memref sig .tc .vmem S1x640x1 .f32) (h2 : M2.IsWhole)
  (M3 : Memref sig .tc .vmem S1x1x640 .i32) (h3 : M3.IsWhole) (M4 : Memref sig .tc .vmem S1x640x1 .i32) (h4 : M4.IsWhole)
  (M5 : Memref sig .tc .vmem S1x640x4 .f32) (h5 : M5.IsWhole) (M6 : Memref sig .tc .vmem S1x4x640 .f32) (h6 : M6.IsWhole)
  (M7 : Memref sig .tc .vmem S4x104x4 .f32) (h7 : M7.IsWhole) (M8 : Memref sig .tc .vmem S4x640x640 .f32) (h8 : M8.IsWhole)
  (M9 : Memref sig .tc .vmem S4x640x4 .f32) (h9 : M9.IsWhole)
  (f1 : Bf (F := F) c M1) (f2 : Bf (F := F) c M2) (f3 : Bf (F := F) c M3) (f4 : Bf (F := F) c M4) (f5 : Bf (F := F) c M5)
  (f6 : Bf (F := F) c M6) (f8 : Bf (F := F) c M8) (f9 : Bf (F := F) c M9)

/-- A point before the last: the two scratch buffers are left at `W`, everything else as found. -/
noncomputable def midRun (hc : ¬ k0_cond1 i = 1#1) :
    { W : Bf (F := F) c M8 × Bf (F := F) c M9 // ∀ (f7 : Bf (F := F) c M7) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9
            ∗ (iprop(pt c M1 f1 ∗ pt c M2 f2 ∗ pt c M3 f3 ∗ pt c M4 f4 ∗ pt c M5 f5 ∗ pt c M6 f6 ∗ pt c M7 f7 ∗ pt c M8 W.1 ∗ pt c M9 W.2) -∗ Q ⟨⟩))
          ⊢ wp frame (wpE (defs₀ (F := F)) Variants.none c none) E
              (cc0__nms_body i M1 h1 M2 h2 M3 h3 M4 h4 M5 h5 M6 h6 M7 h7 M8 h8 M9 h9) Q } := by
  refine ⟨⟨?_, ?_⟩, fun f7 E Q => ?run⟩
  case run =>
    iintro ⟨H1, H2, H3, H4, H5, H6, H7, H8, H9, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The overlaps' scratch once the point's batch is filed, and the boxes' one: names for what the last point's run has
    written by the time it reads them back. -/
@[irreducible] def file8 (v90 v94 : FVec F S640x640 .f32) : Bf (F := F) c M8 :=
  M8.view.writes (Elt F) f8 [⟨Rect.unit (k0_off1 i) S1x640x640.size (k0_off1_inb i), k0_pay1 v90 v94⟩]
@[irreducible] def file9 (v56 : FVec F S640x4 .f32) : Bf (F := F) c M9 :=
  M9.view.writes (Elt F) f9 [⟨Rect.unit (k0_off2 i) S1x640x4.size (k0_off2_inb i), k0_pay2 v56⟩]

include h8 in
theorem pt_file8 (v90 v94 : FVec F S640x640 .f32) :
    (pt c M8 (M8.view.writes (Elt F) f8 [⟨Rect.unit (k0_off1 i) S1x640x640.size (k0_off1_inb i), k0_pay1 v90 v94⟩]) : sProp 𝕄)
      ⊢ M8.view.loc (c : Thread nD τ) ↦[M8.view.set]{fullShare} (file8 c i M8 f8 v90 v94) := by
  unfold file8; rw [h8.set_eq_univ]
include h9 in
theorem pt_file9 (v56 : FVec F S640x4 .f32) :
    (pt c M9 (M9.view.writes (Elt F) f9 [⟨Rect.unit (k0_off2 i) S1x640x4.size (k0_off2_inb i), k0_pay2 v56⟩]) : sProp 𝕄)
      ⊢ M9.view.loc (c : Thread nD τ) ↦[M9.view.set]{fullShare} (file9 c i M9 f9 v56) := by
  unfold file9; rw [h9.set_eq_univ]

/-- A whole buffer held through its memref's set is that buffer held. -/
theorem pt_whole {sp : Space} {S : Shape} {e : EltTy} (M : Memref sig .tc sp S e) (h : M.IsWhole) (f : Bf (F := F) c M) :
    (M.view.loc (c : Thread nD τ) ↦[M.view.set]{fullShare} f : sProp 𝕄) ⊢ pt c M f := by
  rw [h.set_eq_univ]

set_option maxHeartbeats 1000000 in
/-- The last point: the two scratch buffers and the result's staging buffer are left at `W`. -/
noncomputable def lastRun (hc : k0_cond1 i = 1#1) :
    { W : Bf (F := F) c M7 × Bf (F := F) c M8 × Bf (F := F) c M9 // ∀ (f7 : Bf (F := F) c M7) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9
            ∗ (iprop(pt c M1 f1 ∗ pt c M2 f2 ∗ pt c M3 f3 ∗ pt c M4 f4 ∗ pt c M5 f5 ∗ pt c M6 f6 ∗ pt c M7 W.1 ∗ pt c M8 W.2.1 ∗ pt c M9 W.2.2) -∗ Q ⟨⟩))
          ⊢ wp frame (wpE (defs₀ (F := F)) Variants.none c none) E
              (cc0__nms_body i M1 h1 M2 h2 M3 h3 M4 h4 M5 h5 M6 h6 M7 h7 M8 h8 M9 h9) Q } := by
  refine ⟨⟨?_, ?_, ?_⟩, fun f7 E Q => ?run⟩
  case run =>
    iintro ⟨H1, H2, H3, H4, H5, H6, H7, H8, H9, Hk⟩
    sl_exec!
    ihave H8 := (pt_file8 c i M8 h8 f8 _ _) $$ H8
    ihave H9 := (pt_file9 c i M9 h9 f9 _) $$ H9
    sl_exec!
    sl_step
    ihave H8 := (pt_whole c M8 h8 _) $$ H8
    ihave H9 := (pt_whole c M9 h9 _) $$ H9
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end
end Cert.SuppressIdeal.Hand
end
-- ==== Proof.NmsFiled.lean ====
/-
  What the suppression kernel's two kinds of points leave behind, as plain functions of the blocks they read: a batch's
  overlaps and sorted boxes, filed in the scratch at the batch's row; the 600 passes over the overlaps of all four; and the
  four rows of the result.
-/
module

public import proofs.«01_k».proof.Proof.NmsBody
public import Idealize.ShloMosaic.Lib.WholeRead
public import Idealize.ShloMosaic.Lib.WritesUnit
public import Idealize.ShloMosaic.Lib.ValueIdxCore

@[expose] public section

noncomputable section

namespace Cert.SuppressIdeal.Hand

open Cert.SuppressIdeal Cert.SuppressIdeal.Gen

open Idealize.ShloMosaic Idealize.ShloMosaic.TcCoe Idealize.ShloMosaic.Tactic Idealize.ShloMosaic.ValueIdx
open Idealize.SL Idealize.SL.Sem

variable {F : FTy → Type} [FloatOps F]

section
variable (X1 : Vec F S1x1x640 .f32) (X2 : Vec F S1x640x1 .f32) (X3 : Vec F S1x1x640 .i32) (X4 : Vec F S1x640x1 .i32)
  (X5 : Vec F S1x640x4 .f32) (X6 : Vec F S1x4x640 .f32)

/-- The intersections and the unions of a batch's sorted boxes, the sorted boxes, and what is filed of them. -/
def inters : FVec F S640x640 .f32 := k0_pay33 (k0_pay19 X5) (k0_pay20 X6) (k0_pay21 X1 X2 X3 X4) (k0_pay22 X1 X2 X3 X4)
def unions : FVec F S640x640 .f32 := k0_pay34 (k0_pay19 X5) (k0_pay20 X6) (k0_pay21 X1 X2 X3 X4) (k0_pay22 X1 X2 X3 X4)
def ranked : FVec F S640x4 .f32 := k0_pay23 (k0_pay19 X5) (k0_pay22 X1 X2 X3 X4)
def overlaps : FVec F S1x640x640 .f32 := k0_pay1 (inters X1 X2 X3 X4 X5 X6) (unions X1 X2 X3 X4 X5 X6)
def boxes : FVec F S1x640x4 .f32 := k0_pay2 (ranked X1 X2 X3 X4 X5)
end

/-- Row `k` of the overlaps of every batch, as the pass of that number loads it. -/
def rowOf (X : Vec F S4x640x640 .f32) (k : Fin 640) : Vec F S4x1x640 .f32 := fun x => X (ix3 (x 0) k (x 2))

/-- What is kept before pass `k`. -/
def keepAt (X : Vec F S4x640x640 .f32) : ℕ → FVec F S4x640 .f32
  | 0 => k0_pay4
  | k + 1 => if h : k < k0_t1_loop.trips then k0_pay5 ⟨k, h⟩ (keepAt X k) (rowOf X ⟨k, lt_of_lt_of_le h (k0_t1_abs.2.1.trans (by decide))⟩) else keepAt X k

/-- Batch `b` of the sorted boxes. -/
def batchOf (Y : Vec F S4x640x4 .f32) (b : Fin 4) : Vec F S1x640x4 .f32 := fun x => Y (ix3 b (x 1) (x 2))

/-- The four rows written, of what is kept and a batch's sorted boxes. -/
def outRow (K : FVec F S4x640 .f32) : (b : Fin 4) → Vec F S1x640x4 .f32 → FVec F S1x104x4 .f32
  | 0 => fun v => k0_pay8 K v
  | 1 => fun v => k0_pay11 (k0_pay9 K) (k0_pay10 K) v
  | 2 => fun v => k0_pay12 K (k0_pay6 K) (k0_pay7 (F := F)) v
  | 3 => fun v => k0_pay3 (k0_pay13 K (k0_pay6 K) (k0_pay7 (F := F))) (k0_pay14 v) (constant S104x4 .f32 0x00000000#32)

/-- The result's block of all four batches. -/
def outAll (X : Vec F S4x640x640 .f32) (Y : Vec F S4x640x4 .f32) : Vec F S4x104x4 .f32 := fun x =>
  outRow (keepAt X k0_t1_loop.trips) (x 0) (batchOf Y (x 0)) (ix3 0 (x 1) (x 2))

section
variable {sp : Space} {e : EltTy} {n p q : ℕ} (v : View sig .tc sp (⟨3, ![n, p, q]⟩ : Shape) e) (f : v.ty.Contents (Elt F))

/-- One row of a three-axis buffer written last: that row reads what was written, the others what the earlier writes left. -/
theorem read_row {off : Fin 3 → ℕ} {r : ℕ} (ho : off = ![r, 0, 0]) (inb : ∀ a, off a + (![1, p, q] : Fin 3 → ℕ) a ≤ (⟨3, ![n, p, q]⟩ : Shape).size a)
    (w : (⟨3, ![1, p, q]⟩ : Shape).Idx → Elt F e) (L : List (View.Piece (Elt F) (⟨3, ![n, p, q]⟩ : Shape) e)) (b : Fin n) (x : Fin p) (y : Fin q) :
    v.read (Elt F) (v.writes (Elt F) f (⟨Rect.unit off ![1, p, q] inb, w⟩ :: L)) (ix3 b x y)
      = if b.val = r then w (ix3 0 x y) else v.read (Elt F) (v.writes (Elt F) f L) (ix3 b x y) := by
  split
  · rename_i hb
    refine View.read_writes_cons_unit_of_mem v f inb w L (ix3 b x y) (ix3 0 x y) ho fun a => ?_
    fin_cases a
    · exact hb.trans (Nat.add_zero _).symm
    · exact (Nat.zero_add _).symm
    · exact (Nat.zero_add _).symm
  · rename_i hb
    refine View.read_writes_cons_unit_of_not_mem v f inb w L (ix3 b x y) ho (0 : Fin 3) ?_
    show b.val < r ∨ r + 1 ≤ b.val
    omega
end

section
variable (c : Dev nD) (i : grid0.Coords)
  (M1 : Memref sig .tc .vmem S1x1x640 .f32) (h1 : M1.IsWhole) (M2 : Memref sig .tc .vmem S1x640x1 .f32) (h2 : M2.IsWhole)
  (M3 : Memref sig .tc .vmem S1x1x640 .i32) (h3 : M3.IsWhole) (M4 : Memref sig .tc .vmem S1x640x1 .i32) (h4 : M4.IsWhole)
  (M5 : Memref sig .tc .vmem S1x640x4 .f32) (h5 : M5.IsWhole) (M6 : Memref sig .tc .vmem S1x4x640 .f32) (h6 : M6.IsWhole)
  (M7 : Memref sig .tc .vmem S4x104x4 .f32) (h7 : M7.IsWhole) (M8 : Memref sig .tc .vmem S4x640x640 .f32) (h8 : M8.IsWhole)
  (M9 : Memref sig .tc .vmem S4x640x4 .f32) (h9 : M9.IsWhole)
  (f1 : Bf (F := F) c M1) (f2 : Bf (F := F) c M2) (f3 : Bf (F := F) c M3) (f4 : Bf (F := F) c M4) (f5 : Bf (F := F) c M5)
  (f6 : Bf (F := F) c M6) (f8 : Bf (F := F) c M8) (f9 : Bf (F := F) c M9)

/-- A load of a whole block reads the block. -/
theorem readAt_all {sp : Space} {S : Shape} {e : EltTy} (M : Memref sig .tc sp S e) {off : Fin S.rank → ℕ} (h0 : ∀ a, off a = 0)
    (inb : ∀ a, off a + S.size a ≤ S.size a) (f : M.view.ty.Contents (Elt F)) :
    M.view.readAt (Elt F) (Rect.unit off S.size inb).toLoadRect f = M.view.read (Elt F) f := by
  funext x
  rw [View.readAt_apply]
  congr 1
  funext a
  apply Fin.ext
  show off a + 1 * (x a).val = (x a).val
  rw [h0]; omega

/-- The scratch of the overlaps after a point's batch is filed: the batch's row new, the others as before. -/
theorem read_file8 (v90 v94 : FVec F S640x640 .f32) (b : Fin 4) (p q : Fin 640) :
    (View.read (Elt F) (Memref.view M8) (file8 c i M8 f8 v90 v94)) (ix3 b p q) = if b.val = (i 0).val then k0_pay1 v90 v94 (ix3 0 p q) else (View.read (Elt F) (Memref.view M8) f8) (ix3 b p q) := by
  unfold file8
  exact read_row M8.view f8 (k0_off1_eq i) _ _ [] b p q
theorem read_file9 (v56 : FVec F S640x4 .f32) (b : Fin 4) (p : Fin 640) (q : Fin 4) :
    (View.read (Elt F) (Memref.view M9) (file9 c i M9 f9 v56)) (ix3 b p q) = if b.val = (i 0).val then k0_pay2 v56 (ix3 0 p q) else (View.read (Elt F) (Memref.view M9) f9) (ix3 b p q) := by
  unfold file9
  exact read_row M9.view f9 (k0_off2_eq i) _ _ [] b p q

/-- A point before the last files its batch. -/
theorem midRun_W (hc : ¬ k0_cond1 i = 1#1) :
    (midRun c i M1 h1 M2 h2 M3 h3 M4 h4 M5 h5 M6 h6 M7 h7 M8 h8 M9 h9 f1 f2 f3 f4 f5 f6 f8 f9 hc).1
      = (file8 c i M8 f8 (inters (View.read (Elt F) (Memref.view M1) f1) (View.read (Elt F) (Memref.view M2) f2) (View.read (Elt F) (Memref.view M3) f3) (View.read (Elt F) (Memref.view M4) f4) (View.read (Elt F) (Memref.view M5) f5) (View.read (Elt F) (Memref.view M6) f6))
            (unions (View.read (Elt F) (Memref.view M1) f1) (View.read (Elt F) (Memref.view M2) f2) (View.read (Elt F) (Memref.view M3) f3) (View.read (Elt F) (Memref.view M4) f4) (View.read (Elt F) (Memref.view M5) f5) (View.read (Elt F) (Memref.view M6) f6)),
          file9 c i M9 f9 (ranked (View.read (Elt F) (Memref.view M1) f1) (View.read (Elt F) (Memref.view M2) f2) (View.read (Elt F) (Memref.view M3) f3) (View.read (Elt F) (Memref.view M4) f4) (View.read (Elt F) (Memref.view M5) f5))) := by
  unfold midRun file8 file9 inters unions ranked
  dsimp only
  sl_unfold_words
  simp only [readAt_all M1 (off := ![0, 0, 0]) (by decide), readAt_all M2 (off := ![0, 0, 0]) (by decide),
    readAt_all M3 (off := ![0, 0, 0]) (by decide), readAt_all M4 (off := ![0, 0, 0]) (by decide),
    readAt_all M5 (off := ![0, 0, 0]) (by decide), readAt_all M6 (off := ![0, 0, 0]) (by decide)]

/-- So does the last. -/
theorem lastRun_W (hc : k0_cond1 i = 1#1) :
    (lastRun c i M1 h1 M2 h2 M3 h3 M4 h4 M5 h5 M6 h6 M7 h7 M8 h8 M9 h9 f1 f2 f3 f4 f5 f6 f8 f9 hc).1.2
      = (file8 c i M8 f8 (inters (View.read (Elt F) (Memref.view M1) f1) (View.read (Elt F) (Memref.view M2) f2) (View.read (Elt F) (Memref.view M3) f3) (View.read (Elt F) (Memref.view M4) f4) (View.read (Elt F) (Memref.view M5) f5) (View.read (Elt F) (Memref.view M6) f6))
            (unions (View.read (Elt F) (Memref.view M1) f1) (View.read (Elt F) (Memref.view M2) f2) (View.read (Elt F) (Memref.view M3) f3) (View.read (Elt F) (Memref.view M4) f4) (View.read (Elt F) (Memref.view M5) f5) (View.read (Elt F) (Memref.view M6) f6)),
          file9 c i M9 f9 (ranked (View.read (Elt F) (Memref.view M1) f1) (View.read (Elt F) (Memref.view M2) f2) (View.read (Elt F) (Memref.view M3) f3) (View.read (Elt F) (Memref.view M4) f4) (View.read (Elt F) (Memref.view M5) f5))) := by
  unfold lastRun inters unions ranked
  dsimp only
  sl_unfold_words
  simp only [readAt_all M1 (off := ![0, 0, 0]) (by decide), readAt_all M2 (off := ![0, 0, 0]) (by decide),
    readAt_all M3 (off := ![0, 0, 0]) (by decide), readAt_all M4 (off := ![0, 0, 0]) (by decide),
    readAt_all M5 (off := ![0, 0, 0]) (by decide), readAt_all M6 (off := ![0, 0, 0]) (by decide)]

/-- The pass reads its row of the overlaps. -/
theorem trip_eq (hc : k0_cond1 i = 1#1) (X : Bf (F := F) c M8) (k : Fin k0_t1_loop.trips) (a : FVec F S4x640 .f32) :
    tripR_k0_t1 (F := F) Variants.none c none i M1 h1 M2 h2 M3 h3 M4 h4 M5 h5 M6 h6 M7 h7 M8 h8 M9 h9 hc X k a
      = k0_pay5 k a (rowOf (View.read (Elt F) (Memref.view M8) X) ⟨k.val, lt_of_lt_of_le k.isLt (k0_t1_abs.2.1.trans (by decide))⟩) := by
  unfold tripR_k0_t1 trip_k0_t1
  dsimp only
  sl_unfold_words
  congr 1
  funext x
  rw [View.readAt_apply]
  unfold rowOf
  congr 1
  funext d
  apply Fin.ext
  show (k0_off3 k) d + 1 * (x d).val = _
  rw [k0_off3_eq]
  fin_cases d
  · show 0 + 1 * (x 0).val = (x 0).val; omega
  · have := (x 1).isLt
    show k.val + 1 * (x 1).val = k.val
    have h : (x 1).val < 1 := (x 1).isLt
    omega
  · show 0 + 1 * (x 2).val = (x 2).val; omega

theorem st_eq (hc : k0_cond1 i = 1#1) (X : Bf (F := F) c M8) (k : ℕ) (hk : k ≤ k0_t1_loop.trips) :
    st_k0_t1 (F := F) Variants.none c none i M1 h1 M2 h2 M3 h3 M4 h4 M5 h5 M6 h6 M7 h7 M8 h8 M9 h9 hc X k0_pay4 k = keepAt (View.read (Elt F) (Memref.view M8) X) k := by
  induction k with
  | zero => exact st_k0_t1_zero ..
  | succ k ih =>
    have := st_k0_t1_succ (F := F) Variants.none c none i M1 h1 M2 h2 M3 h3 M4 h4 M5 h5 M6 h6 M7 h7 M8 h8 M9 h9 hc X k0_pay4 ⟨k, hk⟩
    rw [this, trip_eq, keepAt, dif_pos (show k < k0_t1_loop.trips from hk), ih (Nat.le_of_lt hk)]

/-- A load of batch `b` of the sorted boxes. -/
theorem readAt_batch (b : Fin 4) (inb) (Y : Bf (F := F) c M9) :
    M9.view.readAt (Elt F) (Rect.unit (s := S4x640x4) ![b.val, 0, 0] S1x640x4.size inb).toLoadRect Y = batchOf (View.read (Elt F) (Memref.view M9) Y) b := by
  funext x
  rw [View.readAt_apply]
  unfold batchOf
  congr 1
  funext d
  apply Fin.ext
  show (![b.val, 0, 0] : Fin 3 → ℕ) d + 1 * (x d).val = _
  fin_cases d
  · have h : (x 0).val < 1 := (x 0).isLt
    show b.val + 1 * (x 0).val = b.val
    omega
  · show 0 + 1 * (x 1).val = (x 1).val; omega
  · show 0 + 1 * (x 2).val = (x 2).val; omega

set_option maxHeartbeats 1000000 in
/-- The last point leaves in the result's staging buffer the block of all four batches. -/
theorem lastRun_out (hc : k0_cond1 i = 1#1) (X : Vec F S4x640x640 .f32) (Y : Vec F S4x640x4 .f32)
    (hX : (View.read (Elt F) (Memref.view M8) (file8 c i M8 f8 (inters (View.read (Elt F) (Memref.view M1) f1) (View.read (Elt F) (Memref.view M2) f2) (View.read (Elt F) (Memref.view M3) f3) (View.read (Elt F) (Memref.view M4) f4) (View.read (Elt F) (Memref.view M5) f5) (View.read (Elt F) (Memref.view M6) f6))
            (unions (View.read (Elt F) (Memref.view M1) f1) (View.read (Elt F) (Memref.view M2) f2) (View.read (Elt F) (Memref.view M3) f3) (View.read (Elt F) (Memref.view M4) f4) (View.read (Elt F) (Memref.view M5) f5) (View.read (Elt F) (Memref.view M6) f6)))) = X)
    (hY : (View.read (Elt F) (Memref.view M9) (file9 c i M9 f9 (ranked (View.read (Elt F) (Memref.view M1) f1) (View.read (Elt F) (Memref.view M2) f2) (View.read (Elt F) (Memref.view M3) f3) (View.read (Elt F) (Memref.view M4) f4) (View.read (Elt F) (Memref.view M5) f5)))) = Y) :
    (View.read (Elt F) (Memref.view M7) ((lastRun c i M1 h1 M2 h2 M3 h3 M4 h4 M5 h5 M6 h6 M7 h7 M8 h8 M9 h9 f1 f2 f3 f4 f5 f6 f8 f9 hc).1.1)) = outAll X Y := by
  subst hX hY
  unfold lastRun inters unions ranked
  dsimp only
  sl_unfold_words
  simp only [readAt_all M1 (off := ![0, 0, 0]) (by decide), readAt_all M2 (off := ![0, 0, 0]) (by decide),
    readAt_all M3 (off := ![0, 0, 0]) (by decide), readAt_all M4 (off := ![0, 0, 0]) (by decide),
    readAt_all M5 (off := ![0, 0, 0]) (by decide), readAt_all M6 (off := ![0, 0, 0]) (by decide)]
  generalize file8 c i M8 f8 _ _ = g8
  generalize file9 c i M9 f9 _ = g9
  rw [show Scf.trips k0_t1_loop.lb k0_t1_loop.ub k0_t1_loop.st = k0_t1_loop.trips from rfl]
  simp only [st_eq c i M1 h1 M2 h2 M3 h3 M4 h4 M5 h5 M6 h6 M7 h7 M8 h8 M9 h9 hc g8 k0_t1_loop.trips le_rfl]
  rw [show M9.view.readAt (Elt F) (Rect.unit (s := S4x640x4) ![0, 0, 0] S1x640x4.size inb_S4x640x4_S1x640x4_0_0_0).toLoadRect g9 = _ from readAt_batch c M9 0 _ g9,
    show M9.view.readAt (Elt F) (Rect.unit (s := S4x640x4) ![1, 0, 0] S1x640x4.size inb_S4x640x4_S1x640x4_1_0_0).toLoadRect g9 = _ from readAt_batch c M9 1 _ g9,
    show M9.view.readAt (Elt F) (Rect.unit (s := S4x640x4) ![2, 0, 0] S1x640x4.size inb_S4x640x4_S1x640x4_2_0_0).toLoadRect g9 = _ from readAt_batch c M9 2 _ g9,
    show M9.view.readAt (Elt F) (Rect.unit (s := S4x640x4) ![3, 0, 0] S1x640x4.size inb_S4x640x4_S1x640x4_3_0_0).toLoadRect g9 = _ from readAt_batch c M9 3 _ g9]
  generalize hK : keepAt (View.read (Elt F) (Memref.view M8) g8) k0_t1_loop.trips = K
  funext x
  obtain ⟨b, o, q, rfl⟩ : ∃ (b : Fin 4) (o : Fin 104) (q : Fin 4), x = ix3 b o q := ⟨x 0, x 1, x 2, by funext d; fin_cases d <;> rfl⟩
  have hval : outAll (View.read (Elt F) (Memref.view M8) g8) (View.read (Elt F) (Memref.view M9) g9) (ix3 b o q) = outRow K b (batchOf (View.read (Elt F) (Memref.view M9) g9) b) (ix3 0 o q) := by rw [← hK]; rfl
  rw [hval]
  rw [read_row M7.view M7.view.junk (off := ![3, 0, 0]) rfl, read_row M7.view M7.view.junk (off := ![2, 0, 0]) rfl,
    read_row M7.view M7.view.junk (off := ![1, 0, 0]) rfl, read_row M7.view M7.view.junk (off := ![0, 0, 0]) rfl]
  have hb4 := b.isLt
  by_cases e3 : b.val = 3
  · rw [if_pos e3]; obtain rfl : b = 3 := Fin.ext e3; unfold outRow; rfl
  rw [if_neg e3]
  by_cases e2 : b.val = 2
  · rw [if_pos e2]; obtain rfl : b = 2 := Fin.ext e2; unfold outRow; rfl
  rw [if_neg e2]
  by_cases e1 : b.val = 1
  · rw [if_pos e1]; obtain rfl : b = 1 := Fin.ext e1; unfold outRow; rfl
  rw [if_neg e1]
  by_cases e0 : b.val = 0
  · rw [if_pos e0]; obtain rfl : b = 0 := Fin.ext e0; unfold outRow; rfl
  omega

end
end Cert.SuppressIdeal.Hand
end
-- ==== Proof.NmsRegion.lean ====
/-
  The suppression kernel's region: the invariant between its points (the batches filed so far), the body's obligation from
  the two runs, and the run of the whole program, which leaves the arguments as they were and the result's array at the
  block of all four batches.
-/
module

public import proofs.«01_k».proof.Proof.NmsFiled

@[expose] public section

noncomputable section

namespace Cert.SuppressIdeal.Hand

open Cert.SuppressIdeal Cert.SuppressIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A staging buffer owned at a block is held whole at contents that read the block, and back. -/
theorem owns_open (c : Dev nD) {sp : Space} {S : Shape} {e : EltTy} (M : Memref sig .tc sp S e) (h : M.IsWhole) (X : S.Idx → Elt F e) :
    (owns c M fullShare X : sProp 𝕄) ⊢ iprop(∃ f : Bf (F := F) c M, ⌜M.view.read (Elt F) f = X⌝ ∗ pt c M f) := by
  unfold owns
  iintro ⟨%f, %hf, H⟩
  iexists f
  isplitr; · ipureintro; exact hf
  iapply (pt_whole c M h f)
  iexact H
theorem owns_close (c : Dev nD) {sp : Space} {S : Shape} {e : EltTy} (M : Memref sig .tc sp S e) (h : M.IsWhole) (X : S.Idx → Elt F e)
    (f : Bf (F := F) c M) (hf : M.view.read (Elt F) f = X) : (pt c M f : sProp 𝕄) ⊢ owns c M fullShare X := by
  unfold owns
  iintro H
  iexists f
  isplitr; · ipureintro; exact hf
  rw [h.set_eq_univ]
  iexact H

variable (m : (ℓ : Loc nD τ sig) → Buf (Elt F) ℓ) (ρ : Dev nD → PrngReg)

/-- The point of batch `b`. -/
def point (b : Fin 4) : Fin cfg0.N := ⟨b.val, lt_of_lt_of_eq b.isLt N_0.symm⟩

/-- The overlaps and the sorted boxes of all four batches, as they stand in the scratch at the last point. -/
def allOverlaps (c : Dev nD) : Vec F S4x640x640 .f32 := fun x =>
  overlaps (iblk m c 0 (point (x 0))) (iblk m c 1 (point (x 0))) (iblk m c 2 (point (x 0))) (iblk m c 3 (point (x 0))) (iblk m c 4 (point (x 0)))
    (iblk m c 5 (point (x 0))) (ix3 0 (x 1) (x 2))
def allBoxes (c : Dev nD) : Vec F S4x640x4 .f32 := fun x =>
  boxes (iblk m c 0 (point (x 0))) (iblk m c 1 (point (x 0))) (iblk m c 2 (point (x 0))) (iblk m c 3 (point (x 0))) (iblk m c 4 (point (x 0)))
    (ix3 0 (x 1) (x 2))

/-- The batches before `n` are filed. -/
def Filed (c : Dev nD) (n : ℕ) (X : Vec F S4x640x640 .f32) (Y : Vec F S4x640x4 .f32) : Prop :=
  ∀ b : Fin 4, b.val < n → (∀ p q : Fin 640, X (ix3 b p q) = allOverlaps m c (ix3 b p q))
    ∧ ∀ (p : Fin 640) (q : Fin 4), Y (ix3 b p q) = allBoxes m c (ix3 b p q)

/-- The two scratch buffers. -/
abbrev scrA : Memref sig .tc .vmem S4x640x640 .f32 := Memref.whole cc0_scratch0
abbrev scrB : Memref sig .tc .vmem S4x640x4 .f32 := Memref.whole cc0_scratch1

/-- Between the points: the scratch with the batches so far, and the generator's register. -/
def between (c : Dev nD) (n : ℕ) : sProp 𝕄 :=
  iprop(∃ (g : Bf (F := F) c scrA) (g' : Bf (F := F) c scrB), pt c scrA g ∗ pt c scrB g'
    ∗ ⌜Filed m c n (scrA.view.read (Elt F) g) (scrB.view.read (Elt F) g')⌝ ∗ ∃ r, prngReg c r)

/-- The region's proof data. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAll (allOverlaps m c) (allBoxes m c)
  Φ t := between m c t.val
  q _ := fullShare
  owed _ := 0

def dats (p : Fin 1) (c : Dev nD) : Dat τ (Elt F) Unit ℕ (UR sig nD τ) ℕ (cfgs p) c := match p with
  | ⟨0, _⟩ => dat m c

theorem coord_val : ∀ t : Fin grid0.N, (grid0.coords t 0).val = t.val := by decide
theorem cond_iff : ∀ t : Fin grid0.N, k0_cond1 (grid0.coords t) = 1#1 ↔ t.val = 3 := by decide

section filing
variable (c : Dev nD) (t : Fin cfg0.N)

theorem filed_succ (g : Bf (F := F) c scrA) (g' : Bf (F := F) c scrB)
    (h : Filed m c t.val (scrA.view.read (Elt F) g) (scrB.view.read (Elt F) g')) :
    Filed m c (t.val + 1) (scrA.view.read (Elt F) (file8 c (grid0.coords t) scrA g (inters (F := F) (iblk m c 0 t) (iblk m c 1 t) (iblk m c 2 t) (iblk m c 3 t) (iblk m c 4 t) (iblk m c 5 t)) (unions (F := F) (iblk m c 0 t) (iblk m c 1 t) (iblk m c 2 t) (iblk m c 3 t) (iblk m c 4 t) (iblk m c 5 t)))) (scrB.view.read (Elt F) (file9 c (grid0.coords t) scrB g' (ranked (F := F) (iblk m c 0 t) (iblk m c 1 t) (iblk m c 2 t) (iblk m c 3 t) (iblk m c 4 t)))) := by
  intro b hb
  have hp : b.val = t.val → point b = t := fun e => Fin.ext e
  constructor
  · intro p q
    rw [read_file8 c (grid0.coords t) scrA g (inters (F := F) (iblk m c 0 t) (iblk m c 1 t) (iblk m c 2 t) (iblk m c 3 t) (iblk m c 4 t) (iblk m c 5 t)) (unions (F := F) (iblk m c 0 t) (iblk m c 1 t) (iblk m c 2 t) (iblk m c 3 t) (iblk m c 4 t) (iblk m c 5 t)) b p q, coord_val]
    split
    · rename_i e
      show _ = overlaps (iblk m c 0 (point b)) (iblk m c 1 (point b)) (iblk m c 2 (point b)) (iblk m c 3 (point b)) (iblk m c 4 (point b)) (iblk m c 5 (point b)) (ix3 0 p q)
      rw [hp e]
      rfl
    · exact (h b (by omega)).1 p q
  · intro p q
    rw [read_file9 c (grid0.coords t) scrB g' (ranked (F := F) (iblk m c 0 t) (iblk m c 1 t) (iblk m c 2 t) (iblk m c 3 t) (iblk m c 4 t)) b p q, coord_val]
    split
    · rename_i e
      show _ = boxes (iblk m c 0 (point b)) (iblk m c 1 (point b)) (iblk m c 2 (point b)) (iblk m c 3 (point b)) (iblk m c 4 (point b)) (ix3 0 p q)
      rw [hp e]
      rfl
    · exact (h b (by omega)).2 p q

end filing

/-- All four filed, the scratch is what it is to be. -/
theorem filed_all (c : Dev nD) (X : Vec F S4x640x640 .f32) (Y : Vec F S4x640x4 .f32) (h : Filed m c 4 X Y) :
    X = allOverlaps m c ∧ Y = allBoxes m c := by
  constructor
  · funext x
    rw [eq_ix3 x]; exact (h (x 0) (x 0).isLt).1 (x 1) (x 2)
  · funext x
    rw [eq_ix3 x]; exact (h (x 0) (x 0).isLt).2 (x 1) (x 2)

section
variable (M1 : Memref sig .tc .vmem S1x1x640 .f32) (q0 : M1.IsWhole) (M2 : Memref sig .tc .vmem S1x640x1 .f32) (q1 : M2.IsWhole)
  (M3 : Memref sig .tc .vmem S1x1x640 .i32) (q2 : M3.IsWhole) (M4 : Memref sig .tc .vmem S1x640x1 .i32) (q3 : M4.IsWhole)
  (M5 : Memref sig .tc .vmem S1x640x4 .f32) (q4 : M5.IsWhole) (M6 : Memref sig .tc .vmem S1x4x640 .f32) (q5 : M6.IsWhole)
  (M7 : Memref sig .tc .vmem S4x104x4 .f32) (q6 : M7.IsWhole)

set_option maxHeartbeats 2000000 in
/-- The body's obligation at a point before the last. -/
theorem body_mid (c : Dev nD) (t : Fin cfg0.N) (hc : ¬ k0_cond1 (grid0.coords t) = 1#1) (Z6 : S4x104x4.Idx → Elt F .f32) :
    iprop(between m c t.val
      ∗ owns c M1 fullShare (iblk m c 0 t : Vec F S1x1x640 .f32) ∗ owns c M2 fullShare (iblk m c 1 t : Vec F S1x640x1 .f32) ∗ owns c M3 fullShare (iblk m c 2 t : Vec F S1x1x640 .i32)
      ∗ owns c M4 fullShare (iblk m c 3 t : Vec F S1x640x1 .i32) ∗ owns c M5 fullShare (iblk m c 4 t : Vec F S1x640x4 .f32) ∗ owns c M6 fullShare (iblk m c 5 t : Vec F S1x4x640 .f32)
      ∗ owns c M7 fullShare Z6)
      ⊢ wp frame (wpE (defs₀ (F := F)) Variants.none c none) Set.univ (cc0__nms_body (grid0.coords t) M1 q0 M2 q1 M3 q2 M4 q3 M5 q4 M6 q5 M7 q6 scrA (Memref.isWhole_whole _) scrB (Memref.isWhole_whole _)) fun _ =>
        iprop(between m c (t.val + 1)
          ∗ owns c M1 fullShare (iblk m c 0 t : Vec F S1x1x640 .f32) ∗ owns c M2 fullShare (iblk m c 1 t : Vec F S1x640x1 .f32) ∗ owns c M3 fullShare (iblk m c 2 t : Vec F S1x1x640 .i32)
          ∗ owns c M4 fullShare (iblk m c 3 t : Vec F S1x640x1 .i32) ∗ owns c M5 fullShare (iblk m c 4 t : Vec F S1x640x4 .f32) ∗ owns c M6 fullShare (iblk m c 5 t : Vec F S1x4x640 .f32)
          ∗ owns c M7 fullShare Z6) := by
  unfold between
  iintro ⟨⟨%g, %g', HA, HB, %hF, HR⟩, H0, H1, H2, H3, H4, H5, H6⟩
  ihave H0 := (owns_open c _ q0 _) $$ H0
  icases H0 with ⟨%f0, %e0, H0⟩
  ihave H1 := (owns_open c _ q1 _) $$ H1
  icases H1 with ⟨%f1, %e1, H1⟩
  ihave H2 := (owns_open c _ q2 _) $$ H2
  icases H2 with ⟨%f2, %e2, H2⟩
  ihave H3 := (owns_open c _ q3 _) $$ H3
  icases H3 with ⟨%f3, %e3, H3⟩
  ihave H4 := (owns_open c _ q4 _) $$ H4
  icases H4 with ⟨%f4, %e4, H4⟩
  ihave H5 := (owns_open c _ q5 _) $$ H5
  icases H5 with ⟨%f5, %e5, H5⟩
  ihave H6 := (owns_open c _ q6 _) $$ H6
  icases H6 with ⟨%f6, %e6, H6⟩
  have hW := midRun_W c (grid0.coords t) _ q0 _ q1 _ q2 _ q3 _ q4 _ q5 _ q6 scrA (Memref.isWhole_whole _) scrB (Memref.isWhole_whole _) f0 f1 f2 f3 f4 f5 g g' hc
  rw [e0, e1, e2, e3, e4, e5] at hW
  iapply ((midRun c (grid0.coords t) _ q0 _ q1 _ q2 _ q3 _ q4 _ q5 _ q6 scrA (Memref.isWhole_whole _) scrB (Memref.isWhole_whole _) f0 f1 f2 f3 f4 f5 g g' hc).2 f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexact HB
  rw [hW]
  iintro ⟨H0, H1, H2, H3, H4, H5, H6, HA, HB⟩
  isplitl [HA HB HR]
  · iexists _; iexists _
    isplitl [HA]; · iexact HA
    isplitl [HB]; · iexact HB
    isplitr; · ipureintro; exact filed_succ m c t g g' hF
    iexact HR
  isplitl [H0]; · iapply (owns_close c _ q0 _ f0 e0); iexact H0
  isplitl [H1]; · iapply (owns_close c _ q1 _ f1 e1); iexact H1
  isplitl [H2]; · iapply (owns_close c _ q2 _ f2 e2); iexact H2
  isplitl [H3]; · iapply (owns_close c _ q3 _ f3 e3); iexact H3
  isplitl [H4]; · iapply (owns_close c _ q4 _ f4 e4); iexact H4
  isplitl [H5]; · iapply (owns_close c _ q5 _ f5 e5); iexact H5
  iapply (owns_close c _ q6 _ f6 e6); iexact H6

set_option maxHeartbeats 2000000 in
/-- And at the last. -/
theorem body_last (c : Dev nD) (t : Fin cfg0.N) (hc : k0_cond1 (grid0.coords t) = 1#1) (Z6 : S4x104x4.Idx → Elt F .f32) :
    iprop(between m c t.val
      ∗ owns c M1 fullShare (iblk m c 0 t : Vec F S1x1x640 .f32) ∗ owns c M2 fullShare (iblk m c 1 t : Vec F S1x640x1 .f32) ∗ owns c M3 fullShare (iblk m c 2 t : Vec F S1x1x640 .i32)
      ∗ owns c M4 fullShare (iblk m c 3 t : Vec F S1x640x1 .i32) ∗ owns c M5 fullShare (iblk m c 4 t : Vec F S1x640x4 .f32) ∗ owns c M6 fullShare (iblk m c 5 t : Vec F S1x4x640 .f32)
      ∗ owns c M7 fullShare Z6)
      ⊢ wp frame (wpE (defs₀ (F := F)) Variants.none c none) Set.univ (cc0__nms_body (grid0.coords t) M1 q0 M2 q1 M3 q2 M4 q3 M5 q4 M6 q5 M7 q6 scrA (Memref.isWhole_whole _) scrB (Memref.isWhole_whole _)) fun _ =>
        iprop(between m c (t.val + 1)
          ∗ owns c M1 fullShare (iblk m c 0 t : Vec F S1x1x640 .f32) ∗ owns c M2 fullShare (iblk m c 1 t : Vec F S1x640x1 .f32) ∗ owns c M3 fullShare (iblk m c 2 t : Vec F S1x1x640 .i32)
          ∗ owns c M4 fullShare (iblk m c 3 t : Vec F S1x640x1 .i32) ∗ owns c M5 fullShare (iblk m c 4 t : Vec F S1x640x4 .f32) ∗ owns c M6 fullShare (iblk m c 5 t : Vec F S1x4x640 .f32)
          ∗ owns c M7 fullShare (outAll (allOverlaps m c) (allBoxes m c))) := by
  have ht : t.val = 3 := (cond_iff t).mp hc
  unfold between
  iintro ⟨⟨%g, %g', HA, HB, %hF, HR⟩, H0, H1, H2, H3, H4, H5, H6⟩
  ihave H0 := (owns_open c _ q0 _) $$ H0
  icases H0 with ⟨%f0, %e0, H0⟩
  ihave H1 := (owns_open c _ q1 _) $$ H1
  icases H1 with ⟨%f1, %e1, H1⟩
  ihave H2 := (owns_open c _ q2 _) $$ H2
  icases H2 with ⟨%f2, %e2, H2⟩
  ihave H3 := (owns_open c _ q3 _) $$ H3
  icases H3 with ⟨%f3, %e3, H3⟩
  ihave H4 := (owns_open c _ q4 _) $$ H4
  icases H4 with ⟨%f4, %e4, H4⟩
  ihave H5 := (owns_open c _ q5 _) $$ H5
  icases H5 with ⟨%f5, %e5, H5⟩
  ihave H6 := (owns_open c _ q6 _) $$ H6
  icases H6 with ⟨%f6, %e6, H6⟩
  have hG := filed_succ m c t g g' hF
  have hall := filed_all m c _ _ (by rw [ht] at hG; exact hG)
  have hW := lastRun_W c (grid0.coords t) _ q0 _ q1 _ q2 _ q3 _ q4 _ q5 _ q6 scrA (Memref.isWhole_whole _) scrB (Memref.isWhole_whole _) f0 f1 f2 f3 f4 f5 g g' hc
  rw [e0, e1, e2, e3, e4, e5] at hW
  have hO := lastRun_out c (grid0.coords t) _ q0 _ q1 _ q2 _ q3 _ q4 _ q5 _ q6 scrA (Memref.isWhole_whole _) scrB (Memref.isWhole_whole _) f0 f1 f2 f3 f4 f5 g g' hc
    (allOverlaps m c) (allBoxes m c) (by rw [e0, e1, e2, e3, e4, e5]; exact hall.1) (by rw [e0, e1, e2, e3, e4]; exact hall.2)
  iapply ((lastRun c (grid0.coords t) _ q0 _ q1 _ q2 _ q3 _ q4 _ q5 _ q6 scrA (Memref.isWhole_whole _) scrB (Memref.isWhole_whole _) f0 f1 f2 f3 f4 f5 g g' hc).2 f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexact HB
  rw [hW]
  iintro ⟨H0, H1, H2, H3, H4, H5, H6, HA, HB⟩
  isplitl [HA HB HR]
  · iexists _; iexists _
    isplitl [HA]; · iexact HA
    isplitl [HB]; · iexact HB
    isplitr; · ipureintro; exact hG
    iexact HR
  isplitl [H0]; · iapply (owns_close c _ q0 _ f0 e0); iexact H0
  isplitl [H1]; · iapply (owns_close c _ q1 _ f1 e1); iexact H1
  isplitl [H2]; · iapply (owns_close c _ q2 _ f2 e2); iexact H2
  isplitl [H3]; · iapply (owns_close c _ q3 _ f3 e3); iexact H3
  isplitl [H4]; · iapply (owns_close c _ q4 _ f4 e4); iexact H4
  isplitl [H5]; · iapply (owns_close c _ q5 _ f5 e5); iexact H5
  iapply (owns_close c _ q6 _ _ hO); iexact H6

end

theorem before0 (c : Dev nD) (t d) : (dat m c).before 0 t d = iblk m c 0 t := before0_0_of m (dat m c) rfl (fun _ => rfl) t d
theorem before1 (c : Dev nD) (t d) : (dat m c).before 1 t d = iblk m c 1 t := before0_1_of m (dat m c) rfl (fun _ => rfl) t d
theorem before2 (c : Dev nD) (t d) : (dat m c).before 2 t d = iblk m c 2 t := before0_2_of m (dat m c) rfl (fun _ => rfl) t d
theorem before3 (c : Dev nD) (t d) : (dat m c).before 3 t d = iblk m c 3 t := before0_3_of m (dat m c) rfl (fun _ => rfl) t d
theorem before4 (c : Dev nD) (t d) : (dat m c).before 4 t d = iblk m c 4 t := before0_4_of m (dat m c) rfl (fun _ => rfl) t d
theorem before5 (c : Dev nD) (t d) : (dat m c).before 5 t d = iblk m c 5 t := before0_5_of m (dat m c) rfl (fun _ => rfl) t d

/-- The result's window is left alone before the last point, and written back only there. -/
theorem idle_of (t : Fin cfg0.N) (h : ¬ k0_cond1 (grid0.coords t) = 1#1) : idle0 6 (grid0.coords t) = true := by
  show (!(k0_cond1 (grid0.coords t) == 1#1)) = true
  simp [h]
theorem live_of (t : Fin cfg0.N) (h : k0_cond1 (grid0.coords t) = 1#1) : idle0 6 (grid0.coords t) = false := by
  show (!(k0_cond1 (grid0.coords t) == 1#1)) = false
  simp [h]
theorem noflush (t : Fin cfg0.N) (h : ¬ k0_cond1 (grid0.coords t) = 1#1) : (win0 6).flush t = false := by
  rw [cond_iff] at h
  have hN : t.val < 4 := lt_of_lt_of_eq t.isLt N_0
  have := (flush0_6 t).not.mpr (by omega)
  simpa using this

set_option maxHeartbeats 1000000 in
theorem body_obligation (c : Dev nD) : BodyObligation (dat m c) (defs₀ (F := F)) Variants.none () Set.univ := fun t => by
  rw [bigSep_W0, bigSep_W0]
  rw [show (dat m c).owesAt () t.succ = (dat m c).owesAt () t.castSucc from rfl, show (dat m c).Φ t.castSucc = between m c t.val from rfl,
    show (dat m c).Φ t.succ = between m c (t.val + 1) from rfl]
  iintro ⟨HΦ, HO, ⟨%d0, H0⟩, ⟨%d1, H1⟩, ⟨%d2, H2⟩, ⟨%d3, H3⟩, ⟨%d4, H4⟩, ⟨%d5, H5⟩, ⟨%d6, H6⟩⟩
  rw [before0, before1, before2, before3, before4, before5]
  by_cases hc : k0_cond1 (grid0.coords t) = 1#1
  · iapply (wp_wand_r frame (wpE (defs₀ (F := F)) Variants.none (c : Thread nD τ) none) Set.univ)
    isplitr [HO]
    · iapply (body_last m _ (hstage0_0 ((cfg0.slots t 0).cast nbuf0_0)) _ (hstage0_1 ((cfg0.slots t 1).cast nbuf0_1)) _ (hstage0_2 ((cfg0.slots t 2).cast nbuf0_2))
        _ (hstage0_3 ((cfg0.slots t 3).cast nbuf0_3)) _ (hstage0_4 ((cfg0.slots t 4).cast nbuf0_4)) _ (hstage0_5 ((cfg0.slots t 5).cast nbuf0_5))
        _ (hstage0_6 ((cfg0.slots t 6).cast nbuf0_6)) c t hc ((dat m c).before 6 t d6))
      isplitl [HΦ]; · iexact HΦ
      isplitl [H0]; · iexact H0
      isplitl [H1]; · iexact H1
      isplitl [H2]; · iexact H2
      isplitl [H3]; · iexact H3
      isplitl [H4]; · iexact H4
      isplitl [H5]; · iexact H5
      iexact H6
    · iintro %u ⟨HΦ, H0, H1, H2, H3, H4, H5, H6⟩
      simp only [live_of t hc]
      isplitl [HΦ]; · iexact HΦ
      isplitl [HO]; · iexact HO
      isplitl [H0]; · iexact H0
      isplitl [H1]; · iexact H1
      isplitl [H2]; · iexact H2
      isplitl [H3]; · iexact H3
      isplitl [H4]; · iexact H4
      isplitl [H5]; · iexact H5
      iexact H6
  · iapply (wp_wand_r frame (wpE (defs₀ (F := F)) Variants.none (c : Thread nD τ) none) Set.univ)
    isplitr [HO]
    · iapply (body_mid m _ (hstage0_0 ((cfg0.slots t 0).cast nbuf0_0)) _ (hstage0_1 ((cfg0.slots t 1).cast nbuf0_1)) _ (hstage0_2 ((cfg0.slots t 2).cast nbuf0_2))
        _ (hstage0_3 ((cfg0.slots t 3).cast nbuf0_3)) _ (hstage0_4 ((cfg0.slots t 4).cast nbuf0_4)) _ (hstage0_5 ((cfg0.slots t 5).cast nbuf0_5))
        _ (hstage0_6 ((cfg0.slots t 6).cast nbuf0_6)) c t hc ((dat m c).before 6 t d6))
      isplitl [HΦ]; · iexact HΦ
      isplitl [H0]; · iexact H0
      isplitl [H1]; · iexact H1
      isplitl [H2]; · iexact H2
      isplitl [H3]; · iexact H3
      isplitl [H4]; · iexact H4
      isplitl [H5]; · iexact H5
      iexact H6
    · iintro %u ⟨HΦ, H0, H1, H2, H3, H4, H5, H6⟩
      simp only [idle_of t hc, noflush t hc]
      isplitl [HΦ]; · iexact HΦ
      isplitl [HO]; · iexact HO
      isplitl [H0]; · iexact H0
      isplitl [H1]; · iexact H1
      isplitl [H2]; · iexact H2
      isplitl [H3]; · iexact H3
      isplitl [H4]; · iexact H4
      isplitl [H5]; · iexact H5
      iexists _
      iexact H6

/-- The invariant starts from any contents of the scratch, and gives them up at the end. -/
theorem start (c : Dev nD) : (Pipeline.ΦA spec0 c : sProp 𝕄) ⊢ (dat m c).Φ 0 := by
  show _ ⊢ between m c 0
  unfold Pipeline.ΦA between
  rw [scopedRest0_eq]
  iintro ⟨⟨⟨%g, HA⟩, ⟨%g', HB⟩⟩, HR⟩
  iexists g; iexists g'
  isplitl [HA]; · iexact HA
  isplitl [HB]; · iexact HB
  isplitr; · ipureintro; exact fun b hb => absurd hb (Nat.not_lt_zero _)
  iexact HR
theorem finish (c : Dev nD) : (dat m c).Φ (Fin.last cfg0.N) ⊢ (Pipeline.ΦA spec0 c : sProp 𝕄) := by
  show between m c _ ⊢ _
  unfold Pipeline.ΦA between
  rw [scopedRest0_eq]
  iintro ⟨%g, %g', HA, HB, -, HR⟩
  isplitl [HA HB]
  · isplitl [HA]
    · iexists g; iexact HA
    · iexists g'; iexact HB
  iexact HR

/-- What the library accounts for every buffer at the end. -/
abbrev account (r : PUnit × MemSt nD τ sig (Elt F)) : Prop :=
  Pipeline.FramePost cfgs (dats m) 0 (Pipeline.afterTail₀ cfgs (dats m) 0 (V0 m) [hostOps1]) r

/-- The program's run, to that account, with every counter at zero. -/
theorem run : θ_run defs (onTc (τ := τ) (main (F := F))) (s₀ m ρ) (fun r => account m r ∧ r.2.sem = fun _ => 0) :=
  Pipeline.θ_run_frame_around_track cfgs (dats m) 0 launch0 defs₀ Variants.none m ρ main
    (fun c => (body_obligation m c).loose) (fun c => (dat m c).share_full fun _ => rfl) (fun _ _ => rfl) (V0 m) [hostOps1] sfx_sub sfx_fresh
    sfx_keeps (hmain m Variants.none) (fun _ _ => rfl) (start m) (finish m) _ (fun _ h => h)

/-- By that account the arguments end as they were. -/
theorem args_kept (r : PUnit × MemSt nD τ sig (Elt F)) (h : account m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine ⟨?_, ?_, ?_, ?_, ?_, ?_⟩
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)
  · exact ((h c).2 main_arg5 (Pipeline.mem_restRefs_of main_arg5 (by decide) (by decide))).trans (W_main_arg5 m (dats m) c)

end Cert.SuppressIdeal.Hand
end
-- ==== Proof.NmsSpec.lean ====
/-
  The greedy choice among boxes in an order, without any program: the rank of a candidate, the passes of the choice, and
  the two ways of listing what is kept — by counting up to a place, and by a sort that sends the rest to the end.
-/
module

public import Mathlib.Data.EReal.Operations
public import Mathlib.Algebra.BigOperators.Fin
public import Mathlib.Data.Fintype.Card

@[expose] public section

noncomputable section

namespace Cert.Proof.Choice

open Finset

/-- A sum of ones and zeros counts. -/
theorem sum_bits {ι : Type} (A : Finset ι) (b : ι → Bool) :
    (∑ i ∈ A, if b i = true then (1 : EReal) else 0) = (((A.filter fun i => b i = true).card : ℝ) : EReal) := by
  classical
  induction A using Finset.induction_on with
  | empty => simp
  | insert a A ha ih =>
    rw [sum_insert ha, ih, filter_insert]
    split
    · rw [card_insert_of_notMem (by simp [ha]), Nat.cast_add, Nat.cast_one, EReal.coe_add, EReal.coe_one, add_comm]
    · rw [zero_add]

/-- A candidate beats another by a higher score, or at the same score by a lower position. -/
def beats (s : Fin 640 → EReal) (p : Fin 640 → BitVec 32) (k i : Fin 640) : Bool :=
  decide (s i < s k) || (decide (s k = s i) && (p k).slt (p i))

/-- How many beat a candidate. -/
def rank (s : Fin 640 → EReal) (p : Fin 640 → BitVec 32) (i : Fin 640) : ℕ := (univ.filter fun k => beats s p k i = true).card

theorem beats_asymm (s : Fin 640 → EReal) (p : Fin 640 → BitVec 32) (k i : Fin 640) (h : beats s p k i = true) : beats s p i k = false := by
  unfold beats at *
  simp only [Bool.or_eq_true, decide_eq_true_eq, Bool.and_eq_true, Bool.or_eq_false_iff, decide_eq_false_iff_not, Bool.and_eq_false_iff] at *
  rcases h with h | ⟨h, h'⟩
  · exact ⟨not_lt.mpr h.le, Or.inl h.ne⟩
  · refine ⟨by rw [h]; exact lt_irrefl _, Or.inr ?_⟩
    simp only [BitVec.slt, decide_eq_true_eq, decide_eq_false_iff_not] at *
    omega

/-- Of candidates listed so that each beats those behind it, the rank is the place. -/
theorem rank_of_order (s : Fin 640 → EReal) (p : Fin 640 → BitVec 32) (σ : Fin 640 → Fin 640) (hσ : Function.Injective σ)
    (h : ∀ i j, i < j → beats s p (σ i) (σ j) = true) (j : Fin 640) : rank s p (σ j) = j.val := by
  have hb : Function.Bijective σ := Finite.injective_iff_bijective.mp hσ
  have h1 : (univ.filter fun k => beats s p k (σ j) = true) = (univ.filter fun i : Fin 640 => i < j).image σ := by
    ext k
    obtain ⟨i, rfl⟩ := hb.2 k
    simp only [mem_filter, mem_univ, true_and, mem_image]
    constructor
    · intro hk
      refine ⟨i, ?_, rfl⟩
      rcases lt_trichotomy i j with hij | hij | hij
      · exact hij
      · subst hij
        have := beats_asymm s p _ _ hk
        rw [hk] at this; exact absurd this (by simp)
      · have := beats_asymm s p _ _ hk
        rw [h j i hij] at this; exact absurd this (by simp)
    · rintro ⟨i', hi', e⟩
      rw [← e]; exact h i' j hi'
  unfold rank
  rw [h1, card_image_of_injective _ hσ]
  have : (univ.filter fun i : Fin 640 => i < j) = Finset.Iio j := by ext; simp
  rw [this, Fin.card_Iio]

/-- What is kept after so many passes: at first the first 600, then without those behind the pass's place that overlap it,
if it is itself kept. -/
def kept (O : Fin 640 → Fin 640 → Bool) : ℕ → Fin 640 → Bool
  | 0, j => decide (j.val < 600)
  | k + 1, j => kept O k j && !(if h : k < 640 then (kept O k ⟨k, h⟩ && O ⟨k, h⟩ j) && decide (k < j.val) else false)

theorem kept_lt (O : Fin 640 → Fin 640 → Bool) (k : ℕ) (j : Fin 640) (h : kept O k j = true) : j.val < 600 := by
  induction k with
  | zero => simpa [kept] using h
  | succ k ih =>
    rw [kept, Bool.and_eq_true] at h
    exact ih h.1

/-- How many are kept up to a place. -/
def upTo (K : Fin 640 → Bool) (j : Fin 640) : ℕ := (univ.filter fun i => (K i && decide (i ≤ j)) = true).card

/-- The kept one before which stand `o` others, or zero. -/
def nth (K : Fin 640 → Bool) (x : Fin 640 → EReal) (o : ℕ) : EReal := ∑ j, if (K j && decide (upTo K j = o + 1)) = true then x j else 0

theorem upTo_lt (K : Fin 640 → Bool) {i j : Fin 640} (hij : i < j) (hj : K j = true) : upTo K i < upTo K j := by
  refine card_lt_card ((ssubset_iff_of_subset fun a ha => ?_).mpr ⟨j, ?_, ?_⟩)
  · simp only [mem_filter, mem_univ, true_and, Bool.and_eq_true, decide_eq_true_eq] at *
    exact ⟨ha.1, ha.2.trans hij.le⟩
  · simp [hj]
  · simp [hj, hij]

section Sorted
variable (K : Fin 640 → Bool) (hK : ∀ j, K j = true → j.val < 600) (τ : Fin 600 → Fin 600) (hτ : Function.Injective τ)

/-- A place in the list of the first 600 as one of all. -/
def up (a : Fin 600) : Fin 640 := ⟨a.val, by omega⟩

/-- The place of a kept one, and 600 of the others. -/
def mark (a : Fin 600) : ℕ := if K (up a) = true then a.val else 600

variable (hs : ∀ i j, i < j → mark K (τ i) ≤ mark K (τ j))

include hK hτ hs

theorem upTo_sorted (i : Fin 600) (h : mark K (τ i) < 600) : K (up (τ i)) = true ∧ mark K (τ i) = (τ i).val ∧ upTo K (up (τ i)) = i.val + 1 := by
  have hk : ∀ a, mark K a < 600 → K (up a) = true ∧ mark K a = a.val := fun a ha => by
    unfold mark at *
    split at ha
    · rename_i e; exact ⟨e, if_pos e⟩
    · omega
  obtain ⟨h1, h2⟩ := hk _ h
  refine ⟨h1, h2, ?_⟩
  have hb : Function.Bijective τ := Finite.injective_iff_bijective.mp hτ
  have e : (univ.filter fun a => (K a && decide (a ≤ up (τ i))) = true) = (Finset.Iic i).image fun j => up (τ j) := by
    ext a
    simp only [mem_filter, mem_univ, true_and, Bool.and_eq_true, decide_eq_true_eq, mem_image, mem_Iic]
    constructor
    · rintro ⟨ha, hle⟩
      have hal := hK a ha
      obtain ⟨j, hj⟩ := hb.2 ⟨a.val, hal⟩
      have hup : up (τ j) = a := by rw [hj]; rfl
      refine ⟨j, ?_, hup⟩
      by_contra hn
      have := hs i j (not_le.mp hn)
      have hm : mark K (τ j) = (τ j).val := by unfold mark; rw [hup, if_pos ha]
      have hle' : a.val ≤ (τ i).val := hle
      rw [← hup] at hle'
      have : (τ j).val = (τ i).val := by
        have : (up (τ j)).val = (τ j).val := rfl
        omega
      exact hn (hτ (Fin.ext this)).le
    · rintro ⟨j, hj, rfl⟩
      have hm : mark K (τ j) ≤ mark K (τ i) := by
        rcases hj.lt_or_eq with hj | rfl
        · exact hs j i hj
        · exact le_rfl
      obtain ⟨h3, h4⟩ := hk _ (lt_of_le_of_lt hm h)
      refine ⟨h3, ?_⟩
      show (τ j).val ≤ (τ i).val
      omega
  unfold upTo
  rw [e, card_image_of_injective, Fin.card_Iic]
  intro a b hab
  exact hτ (Fin.ext (congrArg (fun q : Fin 640 => q.val) hab))

/-- What stands at a place of the list sorted by the marks. -/
theorem nth_sorted (x : Fin 640 → EReal) (o : Fin 600) :
    nth K x o.val = if mark K (τ o) < 600 then x (up (τ o)) else 0 := by
  unfold nth
  split
  · rename_i h
    obtain ⟨h1, h2, h3⟩ := upTo_sorted K hK τ hτ hs o h
    rw [sum_eq_single (up (τ o))]
    · simp [h1, h3]
    · intro j _ hj
      rw [if_neg]
      simp only [Bool.and_eq_true, decide_eq_true_eq, not_and]
      intro hk he
      rcases lt_trichotomy j (up (τ o)) with hl | hl | hl
      · have := upTo_lt K hl h1; omega
      · exact hj hl
      · have := upTo_lt K hl hk; omega
    · intro h; exact absurd (mem_univ _) h
  · rename_i h
    refine sum_eq_zero fun j _ => ?_
    rw [if_neg]
    simp only [Bool.and_eq_true, decide_eq_true_eq, not_and]
    intro hk he
    have hb : Function.Bijective τ := Finite.injective_iff_bijective.mp hτ
    obtain ⟨i, hi⟩ := hb.2 ⟨j.val, hK j hk⟩
    have hup : up (τ i) = j := by rw [hi]; rfl
    have hm : mark K (τ i) < 600 := by unfold mark; rw [hup, if_pos hk]; exact (τ i).isLt
    have := (upTo_sorted K hK τ hτ hs i hm).2.2
    rw [hup] at this
    have : i = o := Fin.ext (by omega)
    subst this
    exact h hm

end Sorted
end Cert.Proof.Choice
end
-- ==== Proof.NmsValue.lean ====
/-
  The suppression kernel's payloads at the ideal instance, entry by entry: the ranks as counts, the boxes in the order of
  the ranks, the overlaps as zeros and ones, a pass as the specification's, and a row of the result as the kept boxes by count.
-/
module

public import proofs.«01_k».proof.Proof.NmsFiled
public import proofs.«01_k».proof.Proof.NmsSpec
public import Idealize.ShloMosaic.Lib.Pointwise

@[expose] public section

set_option maxRecDepth 16384

noncomputable section

namespace Cert.SuppressIdeal.Hand

open Cert.SuppressIdeal Cert.SuppressIdeal.Gen Cert.Proof.Choice
open Idealize.ShloMosaic Finset

/-- A truth value, as the kernel makes a number of it. -/
theorem number_of_bit (b : Bool) : (FloatOps.sitofp (F := Ideal) FTy.f32 (BitVec.setWidth 32 (BitVec.ofBool b)) : EReal) = if b = true then 1 else 0 := by
  cases b
  · show (((BitVec.setWidth 32 (BitVec.ofBool false)).toInt : ℝ) : EReal) = _
    rw [show (BitVec.setWidth 32 (BitVec.ofBool false)).toInt = 0 by decide]; simp
  · show (((BitVec.setWidth 32 (BitVec.ofBool true)).toInt : ℝ) : EReal) = _
    rw [show (BitVec.setWidth 32 (BitVec.ofBool true)).toInt = 1 by decide]; simp

/-- A small index, as a number. -/
theorem number_of_index (n : ℕ) (h : n < 1000) : (FloatOps.sitofp (F := Ideal) FTy.f32 (BitVec.ofNat 32 n) : EReal) = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat]; congr 1; omega
  rw [this]; norm_cast

theorem ori_bits (a b : Bool) : IntOp.ori (BitVec.ofBool a) (BitVec.ofBool b) = BitVec.ofBool (a || b) := by cases a <;> cases b <;> rfl
theorem andi_bits (a b : Bool) : IntOp.andi (BitVec.ofBool a) (BitVec.ofBool b) = BitVec.ofBool (a && b) := by cases a <;> cases b <;> rfl
theorem slt_bit (a b : BitVec 32) : IntOp.cmpi .slt a b = BitVec.ofBool (a.slt b) := rfl
theorem slt_index (a b : ℕ) (ha : a < 1000) (hb : b < 1000) : IntOp.cmpi .slt (BitVec.ofNat 32 a) (BitVec.ofNat 32 b) = BitVec.ofBool (decide (a < b)) := by
  rw [slt_bit]; congr 1
  rw [BitVec.slt, BitVec.toInt_eq_toNat_of_lt (by rw [BitVec.toNat_ofNat]; omega), BitVec.toInt_eq_toNat_of_lt (by rw [BitVec.toNat_ofNat]; omega),
    BitVec.toNat_ofNat, BitVec.toNat_ofNat, decide_eq_decide]; omega
theorem sgt_index (a b : ℕ) (ha : a < 1000) (hb : b < 1000) : IntOp.cmpi .sgt (BitVec.ofNat 32 a) (BitVec.ofNat 32 b) = BitVec.ofBool (decide (b < a)) :=
  slt_index b a hb ha
theorem sle_index (a b : ℕ) (ha : a < 1000) (hb : b < 1000) : IntOp.cmpi .sle (BitVec.ofNat 32 a) (BitVec.ofNat 32 b) = BitVec.ofBool (decide (a ≤ b)) := by
  show BitVec.ofBool ((BitVec.ofNat 32 a).sle _) = _
  congr 1
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat, decide_eq_decide]; omega
theorem eq_index (a b : ℕ) (ha : a < 1000) (hb : b < 1000) : IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_eq, ← BitVec.toNat_inj, BitVec.toNat_ofNat, BitVec.toNat_ofNat]; omega

section batch
variable (X1 : Vec Ideal S1x1x640 .f32) (X2 : Vec Ideal S1x640x1 .f32) (X3 : Vec Ideal S1x1x640 .i32) (X4 : Vec Ideal S1x640x1 .i32)
  (X5 : Vec Ideal S1x640x4 .f32) (X6 : Vec Ideal S1x4x640 .f32) (s : Fin 640 → EReal) (p : Fin 640 → BitVec 32) (x : Fin 4 → Fin 640 → EReal)
  (h1 : ∀ k, X1 (ix3 0 0 k) = s k) (h2 : ∀ k, X2 (ix3 0 k 0) = s k) (h3 : ∀ k, X3 (ix3 0 0 k) = p k) (h4 : ∀ k, X4 (ix3 0 k 0) = p k)
  (h5 : ∀ k c, X5 (ix3 0 k c) = x c k) (h6 : ∀ c k, X6 (ix3 0 c k) = x c k)

include h1 h2 h3 h4 in
theorem ranks_apply (o : Fin 640) : k0_pay21 X1 X2 X3 X4 (ix2 o 0) = ((rank s p o : ℝ) : EReal) := by
  pointwise [k0_pay21, k0_pay15, k0_pay16, k0_pay17, k0_pay18]
  simp only [h1, h2, h3, h4, slt_bit, andi_bits, ori_bits, number_of_bit]
  exact sum_bits univ fun k => beats s p k o

include h1 h2 h3 h4 h5 in
theorem sorted_apply (o : Fin 640) (c : Fin 4) : k0_pay23 (k0_pay19 X5) (k0_pay22 X1 X2 X3 X4) (ix2 o c)
    = ∑ k, (if decide (o.val = rank s p k) = true then (1 : EReal) else 0) * x c k := by
  pointwise [k0_pay23, k0_pay22, k0_pay19, k0_pay15, k0_pay16, k0_pay17, k0_pay18]
  simp only [h1, h2, h3, h4, h5, slt_bit, andi_bits, ori_bits, number_of_bit]
  refine sum_congr rfl fun k _ => ?_
  rw [number_of_index o.val (by omega)]
  have := sum_bits univ fun i => beats s p i k
  unfold beats at this
  rw [this]
  unfold rank beats
  simp only [EReal.coe_eq_coe_iff, Nat.cast_inj]

include h1 h2 h3 h4 h6 in
theorem sorted_apply' (c : Fin 4) (o : Fin 640) : k0_pay24 (k0_pay20 X6) (k0_pay21 X1 X2 X3 X4) (ix2 c o)
    = ∑ k, x c k * (if decide (rank s p k = o.val) = true then (1 : EReal) else 0) := by
  pointwise [k0_pay24, k0_pay20]
  simp only [h6, number_of_bit, ranks_apply X1 X2 X3 X4 s p h1 h2 h3 h4]
  refine sum_congr rfl fun k _ => ?_
  rw [number_of_index o.val (by omega)]
  simp only [EReal.coe_eq_coe_iff, Nat.cast_inj]

variable (σ : Fin 640 → Fin 640) (hσ : Function.Injective σ) (hr : ∀ i j, i < j → beats s p (σ i) (σ j) = true)

include hσ hr in
theorem rank_eq_iff (o k : Fin 640) : rank s p k = o.val ↔ k = σ o := by
  constructor
  · intro h
    obtain ⟨j, rfl⟩ := (Finite.injective_iff_bijective.mp hσ).2 k
    rw [rank_of_order s p σ hσ hr] at h
    rw [Fin.ext h]
  · rintro rfl; exact rank_of_order s p σ hσ hr o

include h1 h2 h3 h4 h5 hσ hr in
theorem ranked_apply (o : Fin 640) (c : Fin 4) : ranked X1 X2 X3 X4 X5 (ix2 o c) = x c (σ o) := by
  unfold ranked
  rw [sorted_apply X1 X2 X3 X4 X5 s p x h1 h2 h3 h4 h5, sum_eq_single (σ o)]
  · rw [if_pos (decide_eq_true (rank_of_order s p σ hσ hr o).symm), one_mul]
  · intro k _ hk
    rw [if_neg, zero_mul]
    rw [decide_eq_true_eq]
    exact fun h => hk ((rank_eq_iff s p σ hσ hr o k).mp h.symm)
  · intro h; exact absurd (mem_univ _) h

include h1 h2 h3 h4 h6 hσ hr in
theorem ranked_apply' (c : Fin 4) (o : Fin 640) : k0_pay24 (k0_pay20 X6) (k0_pay21 X1 X2 X3 X4) (ix2 c o) = x c (σ o) := by
  rw [sorted_apply' X1 X2 X3 X4 X6 s p x h1 h2 h3 h4 h6, sum_eq_single (σ o)]
  · rw [if_pos (decide_eq_true (rank_of_order s p σ hσ hr o)), mul_one]
  · intro k _ hk
    rw [if_neg, mul_zero]
    rw [decide_eq_true_eq]
    exact fun h => hk ((rank_eq_iff s p σ hσ hr o k).mp h)
  · intro h; exact absurd (mem_univ _) h

/-- The intersection and the union of two boxes, and whether they overlap by more than the threshold. -/
def meetOf (a b : Fin 4 → EReal) : EReal := max (min (a 2) (b 2) - max (a 0) (b 0)) 0 * max (min (a 3) (b 3) - max (a 1) (b 1)) 0
def joinOf (a b : Fin 4 → EReal) : EReal := (a 2 - a 0) * (a 3 - a 1) + (b 2 - b 0) * (b 3 - b 1) - meetOf a b
def overlapOf (a b : Fin 4 → EReal) : Bool :=
  decide (Ideal.ofBits FTy.f32 1060320051#32 < if 0 < joinOf a b then Ideal.div (meetOf a b) (if 0 < joinOf a b then joinOf a b else 1) else 0)

include h1 h2 h3 h4 h5 h6 hσ hr in
theorem inters_apply (i j : Fin 640) : inters X1 X2 X3 X4 X5 X6 (ix2 i j) = meetOf (fun c => x c (σ i)) (fun c => x c (σ j)) := by
  have hc := ranked_apply X1 X2 X3 X4 X5 s p x h1 h2 h3 h4 h5 σ hσ hr
  have hw := ranked_apply' X1 X2 X3 X4 X6 s p x h1 h2 h3 h4 h6 σ hσ hr
  unfold ranked at hc
  pointwise [inters, k0_pay33, k0_pay25, k0_pay26, k0_pay27, k0_pay28, k0_pay29, k0_pay30, k0_pay31, k0_pay32]
  simp only [hc, hw]
  rfl

include h1 h2 h3 h4 h5 h6 hσ hr in
theorem unions_apply (i j : Fin 640) : unions X1 X2 X3 X4 X5 X6 (ix2 i j) = joinOf (fun c => x c (σ i)) (fun c => x c (σ j)) := by
  have hc := ranked_apply X1 X2 X3 X4 X5 s p x h1 h2 h3 h4 h5 σ hσ hr
  have hw := ranked_apply' X1 X2 X3 X4 X6 s p x h1 h2 h3 h4 h6 σ hσ hr
  have hi := inters_apply X1 X2 X3 X4 X5 X6 s p x h1 h2 h3 h4 h5 h6 σ hσ hr i j
  unfold ranked at hc
  unfold inters at hi
  pointwise [unions, k0_pay34, k0_pay25, k0_pay26, k0_pay27, k0_pay28, k0_pay29, k0_pay30, k0_pay31, k0_pay32]
  simp only [hc, hw, hi]
  rfl

include h1 h2 h3 h4 h5 h6 hσ hr in
theorem overlaps_apply (i j : Fin 640) : overlaps X1 X2 X3 X4 X5 X6 (ix3 0 i j)
    = if overlapOf (fun c => x c (σ i)) (fun c => x c (σ j)) = true then 1 else 0 := by
  pointwise [overlaps, k0_pay1]
  simp only [number_of_bit, inters_apply X1 X2 X3 X4 X5 X6 s p x h1 h2 h3 h4 h5 h6 σ hσ hr, unions_apply X1 X2 X3 X4 X5 X6 s p x h1 h2 h3 h4 h5 h6 σ hσ hr]
  rfl

include h1 h2 h3 h4 h5 hσ hr in
theorem boxes_apply (i : Fin 640) (c : Fin 4) : boxes X1 X2 X3 X4 X5 (ix3 0 i c) = x c (σ i) := by
  pointwise [boxes, k0_pay2]
  exact ranked_apply X1 X2 X3 X4 X5 s p x h1 h2 h3 h4 h5 σ hσ hr i c
end batch

section passes
variable (X : Vec Ideal S4x640x640 .f32) (b : Fin 4) (O : Fin 640 → Fin 640 → Bool) (hX : ∀ i j, X (ix3 b i j) = if O i j = true then 1 else 0)

theorem first_apply (j : Fin 640) : k0_pay4 (F := Ideal) (ix2 b j) = if decide (j.val < 600) = true then 1 else 0 := by
  pointwise [k0_pay4]
  rw [slt_index _ _ (by omega) (by omega), number_of_bit]

theorem iv_small (k : ℕ) : Scf.iv (0#32) (1#32) k = BitVec.ofNat 32 k := by
  unfold Scf.iv; simp

theorem pass_apply (k : Fin k0_t1_loop.trips) (hk : k.val < 640) (a : FVec Ideal S4x640 .f32) (v : Vec Ideal S4x1x640 .f32) (K R : Fin 640 → Bool)
    (ha : ∀ j, a (ix2 b j) = if K j = true then 1 else 0) (hv : ∀ j, v (ix3 b 0 j) = if R j = true then 1 else 0) (j : Fin 640) :
    k0_pay5 k a v (ix2 b j) = if (K j && !((K ⟨k.val, hk⟩ && R j) && decide (k.val < j.val))) = true then 1 else 0 := by
  pointwise [k0_pay5]
  have hs : (∑ i, (if K i = true then (1 : EReal) else 0) * (FloatOps.sitofp (F := Ideal) FTy.f32 (BitVec.setWidth 32 (IntOp.cmpi CmpIPredicate.eq (BitVec.ofNat 32 (i : Fin 640).val) (Scf.iv 0#32 1#32 k.val))) : EReal))
      = if K ⟨k.val, hk⟩ = true then 1 else 0 := by
    rw [sum_eq_single ⟨k.val, hk⟩]
    · rw [iv_small, eq_index _ _ (by omega) (by omega), number_of_bit]
      simp
    · intro i _ hi
      rw [iv_small, eq_index _ _ (by omega) (by omega), number_of_bit, decide_eq_false (fun h => hi (Fin.ext h)), if_neg (by simp : ¬ false = true), mul_zero]
    · intro h; exact absurd (mem_univ _) h
  simp only [ha, hv]
  rw [hs, iv_small, sgt_index _ _ (by omega) (by omega), number_of_bit]
  have e : (1 : EReal) - 1 = 0 := by rw [← EReal.coe_one, ← EReal.coe_sub]; simp
  cases K j <;> cases K ⟨k.val, hk⟩ <;> cases R j <;> cases decide (k.val < j.val) <;> simp [e]

include hX in
theorem keep_apply (k : ℕ) (hk : k ≤ k0_t1_loop.trips) (j : Fin 640) : keepAt X k (ix2 b j) = if kept O k j = true then 1 else 0 := by
  have ht : k0_t1_loop.trips ≤ 640 := k0_t1_abs.2.1.trans (by decide)
  induction k generalizing j with
  | zero => exact first_apply b j
  | succ k ih =>
    have hk' : k < k0_t1_loop.trips := hk
    have hk6 : k < 640 := by omega
    rw [keepAt, dif_pos hk', pass_apply b ⟨k, hk'⟩ hk6 _ _ (kept O k) (O ⟨k, hk6⟩) (ih hk'.le) ?_ j]
    · rw [kept, dif_pos hk6]
    · intro i
      rw [← hX]
      unfold rowOf
      rw [ix3_eq_valueIdx, ix3_eq_valueIdx]

theorem sums_apply (K : FVec Ideal S4x640 .f32) (R : Fin 640 → Bool) (hK : ∀ j, K (ix2 b j) = if R j = true then 1 else 0) (j : Fin 640) :
    k0_pay6 K (ix2 b j) = ((upTo R j : ℝ) : EReal) := by
  pointwise [k0_pay6]
  simp only [hK]
  unfold upTo; rw [← sum_bits]
  refine sum_congr rfl fun i _ => ?_
  rw [sle_index _ _ (by omega) (by omega), number_of_bit]
  simp only [Fin.le_def]
  cases R i <;> cases decide (i.val ≤ j.val) <;> simp

theorem before_iff (o n : ℕ) : (((o : ℝ) : EReal) = ((n : ℝ) : EReal) - 1) ↔ n = o + 1 := by
  rw [← EReal.coe_one, ← EReal.coe_sub, EReal.coe_eq_coe_iff, eq_sub_iff_add_eq]
  constructor
  · intro h; exact_mod_cast h.symm
  · intro h; rw [h]; push_cast; rfl

theorem row_sum (K : FVec Ideal S4x640 .f32) (R : Fin 640 → Bool) (hK : ∀ j, K (ix2 b j) = if R j = true then 1 else 0) (x : Fin 640 → EReal) (o : ℕ) (ho : o < 104) :
    (∑ j, (FloatOps.sitofp (F := Ideal) FTy.f32 (BitVec.setWidth 32 (BitVec.ofBool (decide ((FloatOps.sitofp (F := Ideal) FTy.f32 (BitVec.ofNat 32 o) : EReal) = k0_pay6 K (ix2 b j) - 1)))) : EReal)
      * K (ix2 b j) * x j) = nth R x o := by
  unfold nth
  refine sum_congr rfl fun j _ => ?_
  rw [number_of_bit, number_of_index _ (by omega), sums_apply b K R hK, hK]
  simp only [before_iff]
  cases R j <;> by_cases h : upTo R j = o + 1 <;> simp [h]
end passes

/-- A row of the result: the kept boxes by count. -/
theorem outRow_apply (K : FVec Ideal S4x640 .f32) (b : Fin 4) (v : Vec Ideal S1x640x4 .f32) (R : Fin 640 → Bool)
    (hK : ∀ j, K (ix2 b j) = if R j = true then 1 else 0) (x : Fin 4 → Fin 640 → EReal) (hv : ∀ j c, v (ix3 0 j c) = x c j) (o : Fin 104) (c : Fin 4) :
    outRow K b v (ix3 0 o c) = nth R (x c) o.val := by
  rw [← row_sum b K R hK (x c) o.val o.isLt]
  have h4 := b.isLt
  have hb : b = 0 ∨ b = 1 ∨ b = 2 ∨ b = 3 := by omega
  rcases hb with rfl | rfl | rfl | rfl
  · show k0_pay8 K v _ = _
    pointwise [k0_pay8, k0_pay7]
    simp only [hv]
  · show k0_pay11 (k0_pay9 K) (k0_pay10 K) v _ = _
    pointwise [k0_pay11, k0_pay10, k0_pay9, k0_pay7]
    simp only [hv]
  · show k0_pay12 K (k0_pay6 K) k0_pay7 v _ = _
    pointwise [k0_pay12, k0_pay7]
    simp only [hv]
  · show k0_pay3 (k0_pay13 K (k0_pay6 K) k0_pay7) (k0_pay14 v) (constant S104x4 .f32 0x00000000#32) _ = _
    pointwise [k0_pay3, k0_pay13, k0_pay14, k0_pay7]
    simp only [hv]

end Cert.SuppressIdeal.Hand
end
-- ==== Proof.NmsResult.lean ====
/-
  What the suppression program leaves in its result's array, from its arguments: the block of all four batches cut to the
  first hundred places, and a batch's blocks as rows of the arguments.
-/
module

public import proofs.«01_k».proof.Proof.NmsRegion
public import proofs.«01_k».proof.Proof.NmsValue
public import Idealize.ShloMosaic.Lib.Pipeline.ValueKit
public import Idealize.ShloMosaic.Lib.Pipeline.Value

@[expose] public section

set_option maxRecDepth 16384

noncomputable section

namespace Cert.SuppressIdeal.Hand

open Cert.SuppressIdeal Cert.SuppressIdeal.Gen

open Idealize.ShloMosaic Idealize.ShloMosaic.TcCoe Idealize.ShloMosaic.Tactic
open Idealize.SL Idealize.SL.Sem
open Idealize.ShloMosaic.StableHlo
open Idealize.ShloMosaic.Pipeline (Dat Cfg Window)

variable {F : FTy → Type} [FloatOps F]
variable (m : (ℓ : Loc nD τ sig) → Buf (Elt F) ℓ) (ρ : Dev nD → PrngReg) (c : Dev nD)

/-- The result's array after the run. -/
theorem array_eq : (dat m c).arrAt 6 cfg0.N = outAll (allOverlaps m c) (allBoxes m c) := by
  refine (dat m c).arrAt_eq_of_after_last 6 (point 3) (by decide +kernel) _ fun j => ?_
  blk_simp
  rfl

/-- The place of a batch's block in its array. -/
theorem index0 : ∀ t : Fin cfg0.N, win0_0.index t = ![(grid0.coords t 0).val, 0, 0] := (by decide +kernel : ∀ t : Fin grid0.N, _)
theorem index1 : ∀ t : Fin cfg0.N, win0_1.index t = ![(grid0.coords t 0).val, 0, 0] := (by decide +kernel : ∀ t : Fin grid0.N, _)
theorem index2 : ∀ t : Fin cfg0.N, win0_2.index t = ![(grid0.coords t 0).val, 0, 0] := (by decide +kernel : ∀ t : Fin grid0.N, _)
theorem index3 : ∀ t : Fin cfg0.N, win0_3.index t = ![(grid0.coords t 0).val, 0, 0] := (by decide +kernel : ∀ t : Fin grid0.N, _)
theorem index4 : ∀ t : Fin cfg0.N, win0_4.index t = ![(grid0.coords t 0).val, 0, 0] := (by decide +kernel : ∀ t : Fin grid0.N, _)
theorem index5 : ∀ t : Fin cfg0.N, win0_5.index t = ![(grid0.coords t 0).val, 0, 0] := (by decide +kernel : ∀ t : Fin grid0.N, _)

theorem coord_point (b : Fin 4) : (grid0.coords (point b) 0).val = b.val := coord_val (point b)

theorem iblk0 (b : Fin 4) (k : Fin 640) : (iblk m c 0 (point b) : Vec F S1x1x640 .f32) (ix3 0 0 k) = (V m c main_v6 : FVec F S4x1x640 .f32) (ix3 b 0 k) := by
  blk_ext [iblk, index0 (point b), coord_point b]
theorem iblk1 (b : Fin 4) (k : Fin 640) : (iblk m c 1 (point b) : Vec F S1x640x1 .f32) (ix3 0 k 0) = (V m c main_v7 : FVec F S4x640x1 .f32) (ix3 b k 0) := by
  blk_ext [iblk, index1 (point b), coord_point b]
theorem iblk2 (b : Fin 4) (k : Fin 640) : (iblk m c 2 (point b) : Vec F S1x1x640 .i32) (ix3 0 0 k) = (V m c main_v8 : IVec S4x1x640 32) (ix3 b 0 k) := by
  blk_ext [iblk, index2 (point b), coord_point b]
theorem iblk3 (b : Fin 4) (k : Fin 640) : (iblk m c 3 (point b) : Vec F S1x640x1 .i32) (ix3 0 k 0) = (V m c main_v9 : IVec S4x640x1 32) (ix3 b k 0) := by
  blk_ext [iblk, index3 (point b), coord_point b]
theorem iblk4 (b : Fin 4) (k : Fin 640) (q : Fin 4) : (iblk m c 4 (point b) : Vec F S1x640x4 .f32) (ix3 0 k q) = (V m c main_v4 : FVec F S4x640x4 .f32) (ix3 b k q) := by
  blk_ext [iblk, index4 (point b), coord_point b]
theorem iblk5 (b : Fin 4) (q : Fin 4) (k : Fin 640) : (iblk m c 5 (point b) : Vec F S1x4x640 .f32) (ix3 0 q k) = (V m c main_v5 : FVec F S4x4x640 .f32) (ix3 b q k) := by
  blk_ext [iblk, index5 (point b), coord_point b]

theorem V6 : (V m c main_v6 : FVec F S4x1x640 .f32) = broadcastInDim S4x1x640 ![0, 2] bcast_S4x640_S4x1x640_0_2 (m ((c.tc : Thread nD τ).loc main_arg0) : FVec F S4x640 .f32) := by
  unfold V V0
  simp only [hostOps0, List.flatten_cons, List.flatten_nil, List.append_nil, List.cons_append, List.nil_append]
  after_results
theorem V7 : (V m c main_v7 : FVec F S4x640x1 .f32) = broadcastInDim S4x640x1 ![0, 1] bcast_S4x640_S4x640x1_0_1 (m ((c.tc : Thread nD τ).loc main_arg0) : FVec F S4x640 .f32) := by
  unfold V V0
  simp only [hostOps0, List.flatten_cons, List.flatten_nil, List.append_nil, List.cons_append, List.nil_append]
  after_results
theorem V8 : (V m c main_v8 : IVec S4x1x640 32) = broadcastInDim S4x1x640 ![0, 2] bcast_S4x640_S4x1x640_0_2 (m ((c.tc : Thread nD τ).loc main_arg1) : IVec S4x640 32) := by
  unfold V V0
  simp only [hostOps0, List.flatten_cons, List.flatten_nil, List.append_nil, List.cons_append, List.nil_append]
  after_results
theorem V9 : (V m c main_v9 : IVec S4x640x1 32) = broadcastInDim S4x640x1 ![0, 1] bcast_S4x640_S4x640x1_0_1 (m ((c.tc : Thread nD τ).loc main_arg1) : IVec S4x640 32) := by
  unfold V V0
  simp only [hostOps0, List.flatten_cons, List.flatten_nil, List.append_nil, List.cons_append, List.nil_append]
  after_results

/-- An argument with an axis of one behind. -/
def column (x : FVec F S4x640 .f32) : FVec F S4x640x1 .f32 := broadcastInDim S4x640x1 ![0, 1] bcast_S4x640_S4x640x1_0_1 x

/-- The four coordinates side by side. -/
def stacked (x1 y1 x2 y2 : FVec F S4x640 .f32) : FVec F S4x640x4 .f32 :=
  concatenate S4x640x4 2 [⟨S4x640x1, column x1⟩, ⟨S4x640x1, column y1⟩, ⟨S4x640x1, column x2⟩, ⟨S4x640x1, column y2⟩] concatenates_S4x640x1_S4x640x1_S4x640x1_S4x640x1_S4x640x4_d2

theorem V4 : (V m c main_v4 : FVec F S4x640x4 .f32) = stacked (m ((c.tc : Thread nD τ).loc main_arg2)) (m ((c.tc : Thread nD τ).loc main_arg3))
    (m ((c.tc : Thread nD τ).loc main_arg4)) (m ((c.tc : Thread nD τ).loc main_arg5)) := by
  unfold V V0
  simp only [hostOps0, List.flatten_cons, List.flatten_nil, List.append_nil, List.cons_append, List.nil_append]
  after_results
  rfl
theorem V5 : (V m c main_v5 : FVec F S4x4x640 .f32) = transpose S4x4x640 [0, 2, 1] (stacked (m ((c.tc : Thread nD τ).loc main_arg2)) (m ((c.tc : Thread nD τ).loc main_arg3))
    (m ((c.tc : Thread nD τ).loc main_arg4)) (m ((c.tc : Thread nD τ).loc main_arg5))) transposes_S4x640x4_S4x4x640_0_2_1 := by
  unfold V V0
  simp only [hostOps0, List.flatten_cons, List.flatten_nil, List.append_nil, List.cons_append, List.nil_append]
  after_results
  rfl

/-- The result at the end, from the region's array. -/
theorem result_eq : Pipeline.afterTail₀ cfgs (dats m) 0 (V0 m) [hostOps1] c main_v11
    = extractStridedSlice S4x100x4 ![0, 0, 0] (outAll (allOverlaps m c) (allBoxes m c)) slices_S4x104x4_S4x100x4_0_0_0 := by
  unfold Pipeline.afterTail₀
  simp only [hostOps1, List.flatten_cons, List.flatten_nil, List.append_nil]
  after_results
  refine congrArg (fun z : FVec F S4x104x4 .f32 => extractStridedSlice S4x100x4 ![0, 0, 0] z slices_S4x104x4_S4x100x4_0_0_0) ?_
  refine (Pipeline.withArrays_arr spec0 (by decide) c _ _ 6).trans ?_
  exact array_eq m c

/-- The run leaves the arguments as they were, the counters at zero, and the block cut in the result. -/
theorem run_result : θ_run defs (onTc (τ := τ) (main (F := F))) ⟨m, fun _ => 0, ρ⟩ (fun r => (∀ c : Dev nD,
      r.2.mem ((c.tc : Thread nD τ).loc main_v11)
        = extractStridedSlice S4x100x4 ![0, 0, 0] (outAll (allOverlaps m c) (allBoxes m c)) slices_S4x104x4_S4x100x4_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ⟨?_, args_kept m r h.1 c⟩, h.2⟩) (run m ρ)
  exact ((h.1 c).2 main_v11 (Pipeline.mem_restRefs_of main_v11 (by decide) (by decide))).trans (result_eq m c)

section ideal
variable (m : (ℓ : Loc nD τ sig) → Buf (Elt Ideal) ℓ) (b : Fin 4)

/-- Row `b` of the scores, of the positions and of the four coordinates. -/
def scoreRow : Fin 640 → EReal := fun k => (m ((c.tc : Thread nD τ).loc main_arg0) : FVec Ideal S4x640 .f32) (ix2 b k)
def placeRow : Fin 640 → BitVec 32 := fun k => (m ((c.tc : Thread nD τ).loc main_arg1) : IVec S4x640 32) (ix2 b k)
def boxRow : Fin 4 → Fin 640 → EReal
  | 0 => fun k => (m ((c.tc : Thread nD τ).loc main_arg2) : FVec Ideal S4x640 .f32) (ix2 b k)
  | 1 => fun k => (m ((c.tc : Thread nD τ).loc main_arg3) : FVec Ideal S4x640 .f32) (ix2 b k)
  | 2 => fun k => (m ((c.tc : Thread nD τ).loc main_arg4) : FVec Ideal S4x640 .f32) (ix2 b k)
  | 3 => fun k => (m ((c.tc : Thread nD τ).loc main_arg5) : FVec Ideal S4x640 .f32) (ix2 b k)

theorem stacked_apply (k : Fin 640) (q : Fin 4) : stacked (F := Ideal) (m ((c.tc : Thread nD τ).loc main_arg2)) (m ((c.tc : Thread nD τ).loc main_arg3))
    (m ((c.tc : Thread nD τ).loc main_arg4)) (m ((c.tc : Thread nD τ).loc main_arg5)) (ix3 b k q) = boxRow c m b q k := by
  have h4 := q.isLt
  have hq : q = 0 ∨ q = 1 ∨ q = 2 ∨ q = 3 := by omega
  rcases hq with rfl | rfl | rfl | rfl
  all_goals
    pointwise [stacked, column]
    rfl

theorem block0 (k : Fin 640) : (iblk m c 0 (point b) : Vec Ideal S1x1x640 .f32) (ix3 0 0 k) = scoreRow c m b k := by
  rw [iblk0, V6]; pointwise; rfl
theorem block1 (k : Fin 640) : (iblk m c 1 (point b) : Vec Ideal S1x640x1 .f32) (ix3 0 k 0) = scoreRow c m b k := by
  rw [iblk1, V7]; pointwise; rfl
theorem block2 (k : Fin 640) : (iblk m c 2 (point b) : Vec Ideal S1x1x640 .i32) (ix3 0 0 k) = placeRow c m b k := by
  rw [iblk2, V8]; pointwise; rfl
theorem block3 (k : Fin 640) : (iblk m c 3 (point b) : Vec Ideal S1x640x1 .i32) (ix3 0 k 0) = placeRow c m b k := by
  rw [iblk3, V9]; pointwise; rfl
theorem block4 (k : Fin 640) (q : Fin 4) : (iblk m c 4 (point b) : Vec Ideal S1x640x4 .f32) (ix3 0 k q) = boxRow c m b q k := by
  rw [iblk4, V4]; exact stacked_apply c m b k q
theorem block5 (q : Fin 4) (k : Fin 640) : (iblk m c 5 (point b) : Vec Ideal S1x4x640 .f32) (ix3 0 q k) = boxRow c m b q k := by
  rw [iblk5, V5]; pointwise; exact stacked_apply c m b k q

open Cert.Proof.Choice

/-- The result's entries, of candidates listed so that each beats those behind it. -/
theorem result_apply (σ : Fin 640 → Fin 640) (hσ : Function.Injective σ)
    (hr : ∀ i j, i < j → beats (scoreRow c m b) (placeRow c m b) (σ i) (σ j) = true) (o : Fin 100) (q : Fin 4) :
    extractStridedSlice S4x100x4 ![0, 0, 0] (outAll (allOverlaps m c) (allBoxes m c)) slices_S4x104x4_S4x100x4_0_0_0 (ix3 b o q)
      = nth (kept (fun i j => overlapOf (fun e => boxRow c m b e (σ i)) (fun e => boxRow c m b e (σ j))) k0_t1_loop.trips) (fun j => boxRow c m b q (σ j)) o.val := by
  pointwise
  have hX : ∀ i j : Fin 640, allOverlaps m c (ix3 b i j)
      = if overlapOf (fun e => boxRow c m b e (σ i)) (fun e => boxRow c m b e (σ j)) = true then 1 else 0 := fun i j => by
    have := overlaps_apply _ _ _ _ _ _ _ _ _ (block0 c m b) (block1 c m b) (block2 c m b) (block3 c m b) (block4 c m b) (block5 c m b) σ hσ hr i j
    rw [← this, ix3_eq_valueIdx, ix3_eq_valueIdx]
    rfl
  have hY : ∀ (i : Fin 640) (e : Fin 4), allBoxes m c (ix3 b i e) = boxRow c m b e (σ i) := fun i e => by
    have := boxes_apply _ _ _ _ _ _ _ _ (block0 c m b) (block1 c m b) (block2 c m b) (block3 c m b) (block4 c m b) σ hσ hr i e
    rw [← this, ix3_eq_valueIdx, ix3_eq_valueIdx]
    rfl
  have hO := outRow_apply (keepAt (allOverlaps m c) k0_t1_loop.trips) b (batchOf (allBoxes m c) b) _
    (keep_apply (allOverlaps m c) b _ hX k0_t1_loop.trips le_rfl) (fun e j => boxRow c m b e (σ j))
    (fun j e => by rw [← hY]; rw [ix3_eq_valueIdx, ix3_eq_valueIdx]; rfl) ⟨o.val, by omega⟩ q
  refine Eq.trans ?_ hO
  exact congrArg (outRow (keepAt (allOverlaps m c) k0_t1_loop.trips) b (batchOf (allBoxes m c) b)) (ix3_eq_valueIdx (0 : Fin 1) (⟨o.val, by omega⟩ : Fin 104) q).symm
end ideal

end Cert.SuppressIdeal.Hand
end
-- ==== Proof.GreedyKeeps.lean ====
/-
  What the greedy reference never writes, its arguments among it, ends as it was.
-/
module

public import proofs.«01_k».proof.Proof.Gen.GreedyIdeal
public import proofs.«01_k».proof.Proof.Gen.GreedyIdeal.Run
public import Idealize.ShloMosaic.Lib.Quiescent

@[expose] public section

set_option maxRecDepth 16384

noncomputable section

namespace Cert.Proof.Greedy

open Cert.GreedyIdeal Cert.GreedyIdeal.Gen Cert.GreedyIdeal.Value
open Idealize.ShloMosaic Idealize.ShloMosaic.TcCoe Idealize.ShloMosaic.Tactic
open Idealize.SL Idealize.SL.Sem
open Idealize.ShloMosaic.StableHlo

variable {F : FTy → Type} [FloatOps F] (V : Valuation τ sig (Elt F))

/-- What each stretch behind the loop writes. -/
abbrev w15 : List (Ref sig .tc) := [main_v57, main_v58, main_c_8]
abbrev w16 : List (Ref sig .tc) := [main_call12_v0, main_call12_v1, main_call12_v2, main_v59]
abbrev w17 : List (Ref sig .tc) := [main_v60]
abbrev w18 : List (Ref sig .tc) := [main_v61, main_c_9, main_v62, main_v63, main_v64, main_c_10, main_v65, main_v66]
abbrev w19 : List (Ref sig .tc) := [main_call14_c, main_call14_v0, main_call14_v1, main_call14_c_0, main_call14_v2, main_call14_v3, main_call14_v4, main_call14_v5, main_v67]
abbrev w20 : List (Ref sig .tc) := [main_v68]
abbrev w21 : List (Ref sig .tc) := [main_call15_c, main_call15_v0, main_call15_v1, main_call15_c_0, main_call15_v2, main_call15_v3, main_call15_v4, main_call15_v5, main_v69]
abbrev w22 : List (Ref sig .tc) := [main_v70]
abbrev w23 : List (Ref sig .tc) := [main_call16_c, main_call16_v0, main_call16_v1, main_call16_c_0, main_call16_v2, main_call16_v3, main_call16_v4, main_call16_v5, main_v71]
abbrev w24 : List (Ref sig .tc) := [main_v72]
abbrev w25 : List (Ref sig .tc) := [main_call17_c, main_call17_v0, main_call17_v1, main_call17_c_0, main_call17_v2, main_call17_v3, main_call17_v4, main_call17_v5, main_v73]
abbrev w26 : List (Ref sig .tc) := [main_v74, main_v75, main_v76, main_v77, main_v78, main_v79]

/-- Stretches that each keep an array keep it together. -/
theorem afterL_keeps {r : Ref sig .tc} (L : List (List (HloOp τ sig (Elt F))))
    (hL : L.Forall fun ops => ∀ V : Valuation τ sig (Elt F), after ops V (Proc.devRef .tc r) = V (Proc.devRef .tc r)) :
    ∀ V : Valuation τ sig (Elt F), afterL L V (Proc.devRef .tc r) = V (Proc.devRef .tc r) := by
  induction L with
  | nil => intro V; rfl
  | cons ops L ih =>
    intro V
    rw [List.forall_cons] at hL
    rw [afterL_cons, ih hL.2, hL.1]

/-- Everything written before, in and behind the loop. -/
abbrev written : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, w15, w16, w17, w18, w19, w20, w21, w22, w23, w24, w25, w26, while0Ops0_W, while0Ops0_1_W, while0Ops0_2_W, while0Ops0_3_W, condOps_W]

variable {r : Ref sig .tc} (h : ∀ W ∈ written, r ∉ W)
include h

theorem before_keeps : afterL preI V (Proc.devRef .tc r) = V (Proc.devRef .tc r) :=
  afterL_keeps preI ⟨fun V => after_of_writes_sub hostOps0 V hostOps0_writes (h _ (by simp [written])),
    fun V => after_of_writes_sub hostOps0_1 V hostOps0_1_writes (h _ (by simp [written])),
    fun V => after_of_writes_sub hostOps0_2 V hostOps0_2_writes (h _ (by simp [written])),
    fun V => after_of_writes_sub hostOps0_3 V hostOps0_3_writes (h _ (by simp [written])),
    fun V => after_of_writes_sub hostOps0_4 V hostOps0_4_writes (h _ (by simp [written])),
    fun V => after_of_writes_sub hostOps0_5 V hostOps0_5_writes (h _ (by simp [written])),
    fun V => after_of_writes_sub hostOps0_6 V hostOps0_6_writes (h _ (by simp [written])),
    fun V => after_of_writes_sub hostOps0_7 V hostOps0_7_writes (h _ (by simp [written])),
    fun V => after_of_writes_sub hostOps0_8 V hostOps0_8_writes (h _ (by simp [written])),
    fun V => after_of_writes_sub hostOps0_9 V hostOps0_9_writes (h _ (by simp [written])),
    fun V => after_of_writes_sub hostOps0_10 V hostOps0_10_writes (h _ (by simp [written])),
    fun V => after_of_writes_sub hostOps0_11 V hostOps0_11_writes (h _ (by simp [written])),
    fun V => after_of_writes_sub hostOps0_12 V hostOps0_12_writes (h _ (by simp [written])),
    fun V => after_of_writes_sub hostOps0_13 V hostOps0_13_writes (h _ (by simp [written])),
    fun V => after_of_writes_sub hostOps0_14 V hostOps0_14_writes (h _ (by simp [written]))⟩ V

theorem body_keeps : afterL bodyI V (Proc.devRef .tc r) = V (Proc.devRef .tc r) :=
  afterL_keeps bodyI ⟨fun V => after_of_writes_sub while0Ops0 V while0Ops0_writes (h _ (by simp [written])),
    fun V => after_of_writes_sub while0Ops0_1 V while0Ops0_1_writes (h _ (by simp [written])),
    fun V => after_of_writes_sub while0Ops0_2 V while0Ops0_2_writes (h _ (by simp [written])),
    fun V => after_of_writes_sub while0Ops0_3 V while0Ops0_3_writes (h _ (by simp [written]))⟩ V

theorem behind_keeps : afterL postI V (Proc.devRef .tc r) = V (Proc.devRef .tc r) :=
  afterL_keeps postI ⟨fun V => after_of_writes_sub hostOps0_15 V (forall_writes_sub_of_map rfl : (hostOps0_15 : List (HloOp τ sig (Elt F))).Forall fun op => op.writes ⊆ (w15.map (Proc.devRef (τ := τ) .tc)).toFinset) (h _ (by simp [written])),
    fun V => after_of_writes_sub hostOps0_16 V (forall_writes_sub_of_map rfl : (hostOps0_16 : List (HloOp τ sig (Elt F))).Forall fun op => op.writes ⊆ (w16.map (Proc.devRef (τ := τ) .tc)).toFinset) (h _ (by simp [written])),
    fun V => after_of_writes_sub hostOps0_17 V (forall_writes_sub_of_map rfl : (hostOps0_17 : List (HloOp τ sig (Elt F))).Forall fun op => op.writes ⊆ (w17.map (Proc.devRef (τ := τ) .tc)).toFinset) (h _ (by simp [written])),
    fun V => after_of_writes_sub hostOps0_18 V (forall_writes_sub_of_map rfl : (hostOps0_18 : List (HloOp τ sig (Elt F))).Forall fun op => op.writes ⊆ (w18.map (Proc.devRef (τ := τ) .tc)).toFinset) (h _ (by simp [written])),
    fun V => after_of_writes_sub hostOps0_19 V (forall_writes_sub_of_map rfl : (hostOps0_19 : List (HloOp τ sig (Elt F))).Forall fun op => op.writes ⊆ (w19.map (Proc.devRef (τ := τ) .tc)).toFinset) (h _ (by simp [written])),
    fun V => after_of_writes_sub hostOps0_20 V (forall_writes_sub_of_map rfl : (hostOps0_20 : List (HloOp τ sig (Elt F))).Forall fun op => op.writes ⊆ (w20.map (Proc.devRef (τ := τ) .tc)).toFinset) (h _ (by simp [written])),
    fun V => after_of_writes_sub hostOps0_21 V (forall_writes_sub_of_map rfl : (hostOps0_21 : List (HloOp τ sig (Elt F))).Forall fun op => op.writes ⊆ (w21.map (Proc.devRef (τ := τ) .tc)).toFinset) (h _ (by simp [written])),
    fun V => after_of_writes_sub hostOps0_22 V (forall_writes_sub_of_map rfl : (hostOps0_22 : List (HloOp τ sig (Elt F))).Forall fun op => op.writes ⊆ (w22.map (Proc.devRef (τ := τ) .tc)).toFinset) (h _ (by simp [written])),
    fun V => after_of_writes_sub hostOps0_23 V (forall_writes_sub_of_map rfl : (hostOps0_23 : List (HloOp τ sig (Elt F))).Forall fun op => op.writes ⊆ (w23.map (Proc.devRef (τ := τ) .tc)).toFinset) (h _ (by simp [written])),
    fun V => after_of_writes_sub hostOps0_24 V (forall_writes_sub_of_map rfl : (hostOps0_24 : List (HloOp τ sig (Elt F))).Forall fun op => op.writes ⊆ (w24.map (Proc.devRef (τ := τ) .tc)).toFinset) (h _ (by simp [written])),
    fun V => after_of_writes_sub hostOps0_25 V (forall_writes_sub_of_map rfl : (hostOps0_25 : List (HloOp τ sig (Elt F))).Forall fun op => op.writes ⊆ (w25.map (Proc.devRef (τ := τ) .tc)).toFinset) (h _ (by simp [written])),
    fun V => after_of_writes_sub hostOps0_26 V (forall_writes_sub_of_map rfl : (hostOps0_26 : List (HloOp τ sig (Elt F))).Forall fun op => op.writes ⊆ (w26.map (Proc.devRef (τ := τ) .tc)).toFinset) (h _ (by simp [written]))⟩ V

theorem cond_keeps_all : after condOps V (Proc.devRef .tc r) = V (Proc.devRef .tc r) :=
  after_of_writes_sub condOps V condOps_writes (h _ (by simp [written]))

/-- It ends as it was. -/
theorem final_keeps (m : (ℓ : Loc nD τ sig) → Buf (Elt F) ℓ) (c : Dev nD) :
    finalContents condOps preI bodyI postI 600 m c (Proc.devRef .tc r) = m ((c.tc : Thread nD τ).loc r) := by
  have hk : ∀ k, atK m k c (Proc.devRef .tc r) = m ((c.tc : Thread nD τ).loc r) := by
    intro k
    induction k with
    | zero => exact before_keeps _ h
    | succ k ih => exact (body_keeps _ h).trans ((cond_keeps_all _ h).trans ih)
  exact (behind_keeps _ h).trans ((cond_keeps_all _ h).trans (hk 600))

omit h

/-- The arguments end as they were, and no counter is left. -/
theorem quiet (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := F)) _ _).mono (fun r h =>
    ⟨fun c => ⟨(h c main_arg0 rfl).trans (final_keeps (by decide) m c), (h c main_arg1 rfl).trans (final_keeps (by decide) m c),
      (h c main_arg2 rfl).trans (final_keeps (by decide) m c), (h c main_arg3 rfl).trans (final_keeps (by decide) m c),
      (h c main_arg4 rfl).trans (final_keeps (by decide) m c), (h c main_arg5 rfl).trans (final_keeps (by decide) m c)⟩,
      sem_eq_zero_of_no_sems (by decide) r.2⟩) (run_fold m g)

end Cert.Proof.Greedy
-- ==== Proof.GreedyReads.lean ====
/-
  What each stretch of the greedy reference's operations leaves in the array it is for, from what it finds: the two orders,
  the takes along a row, the pairwise overlaps, and after the loop the list of the kept places.
-/
module

public import proofs.«01_k».proof.Proof.Gen.GreedyIdeal
public import proofs.«01_k».proof.Proof.Gen.GreedyIdeal.Run

@[expose] public section

set_option maxRecDepth 16384

noncomputable section

namespace Cert.Proof.Greedy

open Cert.GreedyIdeal Cert.GreedyIdeal.Gen Cert.GreedyIdeal.Value
open Idealize.ShloMosaic Idealize.ShloMosaic.TcCoe Idealize.ShloMosaic.Tactic
open Idealize.SL Idealize.SL.Sem
open Idealize.ShloMosaic.StableHlo

variable {F : FTy → Type} [FloatOps F] (V : Valuation τ sig (Elt F))

/-! ## A take along a row -/

/-- Four rows of `n`, and those one deep. -/
abbrev Rows (n : ℕ) : Shape := ⟨2, ![4, n]⟩
abbrev Deep (n : ℕ) : Shape := ⟨3, ![4, n, 1]⟩

/-- Where a take starts: a position below zero counts from the row's end. -/
def startsOf {n : ℕ} (hb : S_.BroadcastsInDim (Rows n) ![]) (hc : (Rows n).ShapeCasts (Deep n)) (len : BitVec 32) (i : IVec (Rows n) 32) :
    IVec (Deep n) 32 :=
  shapeCast (Deep n) (select (cmpi .slt i (broadcastInDim (Rows n) ![] hb (constantI S_ 32 0#32)))
    (addi i (broadcastInDim (Rows n) ![] hb (constantI S_ 32 len))) i) hc

/-- The takes from 640 at 640, from 640 at 600 and from 600 at 100. -/
def takeAll {α : Type} (x : S4x640.Idx → α) (i : IVec S4x640 32) : S4x640.Idx → α :=
  Host.gather gather_S4x640_S4x640x1_S4x640_n_1_0_0_1_2_11 x (startsOf bcast_S_S4x640 shapeCasts_S4x640_S4x640x1 640#32 i)
def takeFirst {α : Type} (x : S4x640.Idx → α) (i : IVec S4x600 32) : S4x600.Idx → α :=
  Host.gather gather_S4x640_S4x600x1_S4x600_n_1_0_0_1_2_11 x (startsOf bcast_S_S4x600 shapeCasts_S4x600_S4x600x1 640#32 i)
def takeKept {α : Type} (x : S4x600.Idx → α) (i : IVec S4x100 32) : S4x100.Idx → α :=
  Host.gather gather_S4x600_S4x100x1_S4x100_n_1_0_0_1_2_11 x (startsOf bcast_S_S4x100 shapeCasts_S4x100_S4x100x1 600#32 i)

/-- The places of a row in the order of its positions, and in the order of its numbers. -/
def byPosition (p : IVec S4x640 32) : IVec S4x640 32 := (Host.sort2 S4x640 1 comparator_i32_i32_d1 p (iotaInDim S4x640 32 1)).2
def byNumber (s : FVec F S4x640 .f32) : IVec S4x640 32 := (Host.sort2 S4x640 1 comparator_f32_i32_d1 s (iotaInDim S4x640 32 1)).2

theorem read0 : after hostOps0 V (Proc.devRef .tc main_v0) = byPosition (V (Proc.devRef .tc main_arg1)) := by
  unfold byPosition; after_results; rfl
theorem read1 : after hostOps0_1 V (Proc.devRef .tc main_v1) = takeAll (V (Proc.devRef .tc main_arg0)) (V (Proc.devRef .tc main_v0)) := by
  unfold takeAll startsOf; after_results; rfl
theorem read2 : after hostOps0_2 V (Proc.devRef .tc main_v2) = Host.negf (F := F) (s := S4x640) (φ := .f32) (V (Proc.devRef .tc main_v1)) := by
  after_results
theorem read3 : after hostOps0_3 V (Proc.devRef .tc main_v3) = byNumber (F := F) (V (Proc.devRef .tc main_v2)) := by
  unfold byNumber; after_results; rfl
theorem read4 : after hostOps0_4 V (Proc.devRef .tc main_v4) = takeAll (V (Proc.devRef .tc main_v0)) (V (Proc.devRef .tc main_v3)) := by
  unfold takeAll startsOf; after_results; rfl
theorem read5 : after hostOps0_5 V (Proc.devRef .tc main_v5)
    = extractStridedSlice S4x600 ![0, 0] (V (Proc.devRef .tc main_v4) : IVec S4x640 32) slices_S4x640_S4x600_0_0 := by
  after_results
theorem read6 : after hostOps0_6 V (Proc.devRef .tc main_v6) = takeFirst (V (Proc.devRef .tc main_arg2)) (V (Proc.devRef .tc main_v5)) := by
  unfold takeFirst startsOf; after_results; rfl
theorem read7 : after hostOps0_7 V (Proc.devRef .tc main_v7) = takeFirst (V (Proc.devRef .tc main_arg3)) (V (Proc.devRef .tc main_v5)) := by
  unfold takeFirst startsOf; after_results; rfl
theorem read8 : after hostOps0_8 V (Proc.devRef .tc main_v8) = takeFirst (V (Proc.devRef .tc main_arg4)) (V (Proc.devRef .tc main_v5)) := by
  unfold takeFirst startsOf; after_results; rfl
theorem read9 : after hostOps0_9 V (Proc.devRef .tc main_v9) = takeFirst (V (Proc.devRef .tc main_arg5)) (V (Proc.devRef .tc main_v5)) := by
  unfold takeFirst startsOf; after_results; rfl

/-! ## The pairwise overlaps -/

section Overlaps

variable (x1 y1 x2 y2 : FVec F S4x600 .f32)

/-- A row's numbers down and across the pairs. -/
def downs (x : FVec F S4x600 .f32) : FVec F S4x600x600 .f32 :=
  broadcastInDim S4x600x600 ![0, 1, 2] bcast_S4x600x1_S4x600x600_0_1_2 (broadcastInDim S4x600x1 ![0, 1] bcast_S4x600_S4x600x1_0_1 x)
def acrosses (x : FVec F S4x600 .f32) : FVec F S4x600x600 .f32 :=
  broadcastInDim S4x600x600 ![0, 1, 2] bcast_S4x1x600_S4x600x600_0_1_2 (broadcastInDim S4x1x600 ![0, 2] bcast_S4x600_S4x1x600_0_2 x)
/-- One number everywhere. -/
def everywhere (b : BitVec 32) : FVec F S4x600x600 .f32 := broadcastInDim S4x600x600 ![] bcast_S_S4x600x600 (constant S_ .f32 b)

/-- What each pair of boxes has in common, and what it covers together. -/
def meets : FVec F S4x600x600 .f32 :=
  mulf (maximumf (subf (minimumf (downs x2) (acrosses x2)) (maximumf (downs x1) (acrosses x1))) (everywhere 0x00000000#32))
    (maximumf (subf (minimumf (downs y2) (acrosses y2)) (maximumf (downs y1) (acrosses y1))) (everywhere 0x00000000#32))
def areas : FVec F S4x600 .f32 := mulf (subf x2 x1) (subf y2 y1)
def joins : FVec F S4x600x600 .f32 := subf (addf (downs (areas x1 y1 x2 y2)) (acrosses (areas x1 y1 x2 y2))) (meets x1 y1 x2 y2)
def overSome : IVec S4x600x600 1 := cmpf .ogt (joins x1 y1 x2 y2) (everywhere 0x00000000#32)
/-- Which pairs overlap by more than the threshold. -/
def pairs : IVec S4x600x600 1 :=
  cmpf .ogt (select (overSome x1 y1 x2 y2) (Host.divf (meets x1 y1 x2 y2)
    (select (overSome x1 y1 x2 y2) (joins x1 y1 x2 y2) (everywhere 0x3F800000#32))) (everywhere 0x00000000#32)) (everywhere 0x3F333333#32)

end Overlaps

theorem read10_39 : after hostOps0_10 V (Proc.devRef .tc main_v39) = meets (F := F) (V (Proc.devRef .tc main_v6))
    (V (Proc.devRef .tc main_v7)) (V (Proc.devRef .tc main_v8)) (V (Proc.devRef .tc main_v9)) := by
  unfold meets downs acrosses everywhere; after_results
theorem read10_45 : after hostOps0_10 V (Proc.devRef .tc main_v45) = joins (F := F) (V (Proc.devRef .tc main_v6))
    (V (Proc.devRef .tc main_v7)) (V (Proc.devRef .tc main_v8)) (V (Proc.devRef .tc main_v9)) := by
  unfold joins areas meets downs acrosses everywhere; after_results
theorem read10_47 : after hostOps0_10 V (Proc.devRef .tc main_v47) = overSome (F := F) (V (Proc.devRef .tc main_v6))
    (V (Proc.devRef .tc main_v7)) (V (Proc.devRef .tc main_v8)) (V (Proc.devRef .tc main_v9)) := by
  unfold overSome joins areas meets downs acrosses everywhere; after_results
theorem read10_49 : after hostOps0_10 V (Proc.devRef .tc main_v49) = overSome (F := F) (V (Proc.devRef .tc main_v6))
    (V (Proc.devRef .tc main_v7)) (V (Proc.devRef .tc main_v8)) (V (Proc.devRef .tc main_v9)) := by
  unfold overSome joins areas meets downs acrosses everywhere; after_results
theorem read10_cst_3 : after hostOps0_10 V (Proc.devRef .tc main_cst_3) = constant S_ .f32 0x3F800000#32 := by
  after_results
theorem read11 (h : V (Proc.devRef .tc main_cst_3) = constant (F := F) S_ .f32 0x3F800000#32) : after hostOps0_11 V (Proc.devRef .tc main_v50)
    = select (V (Proc.devRef .tc main_v49) : IVec S4x600x600 1) (V (Proc.devRef .tc main_v45) : FVec F S4x600x600 .f32) (everywhere 0x3F800000#32) := by
  unfold everywhere; after_results; rw [← h]; rfl
theorem read12_51 : after hostOps0_12 V (Proc.devRef .tc main_v51)
    = Host.divf (F := F) (s := S4x600x600) (φ := .f32) (V (Proc.devRef .tc main_v39)) (V (Proc.devRef .tc main_v50)) := by
  after_results
theorem read12_cst_4 : after hostOps0_12 V (Proc.devRef .tc main_cst_4) = constant S_ .f32 0x00000000#32 := by
  after_results
theorem read13 (h : V (Proc.devRef .tc main_cst_4) = constant (F := F) S_ .f32 0x00000000#32) : after hostOps0_13 V (Proc.devRef .tc main_v52)
    = select (V (Proc.devRef .tc main_v47) : IVec S4x600x600 1) (V (Proc.devRef .tc main_v51) : FVec F S4x600x600 .f32) (everywhere 0x00000000#32) := by
  unfold everywhere; after_results; rw [← h]; rfl
theorem read14_pairs : after hostOps0_14 V (Proc.devRef .tc main_v56_4)
    = cmpf (F := F) (s := S4x600x600) (φ := .f32) .ogt (V (Proc.devRef .tc main_v52)) (everywhere 0x3F333333#32) := by
  unfold everywhere; after_results; rfl
theorem read14_ctr : after hostOps0_14 V (Proc.devRef .tc main_v56_6) = constantI S_ 32 0#32 := by
  after_results; rfl
theorem read14_keep : after hostOps0_14 V (Proc.devRef .tc main_v56_7) = broadcastInDim S4x600 ![] bcast_S_S4x600 (constantI S_ 1 1#1) := by
  after_results; rfl

/-! ## After the loop -/

/-- A kept place's number, and six hundred at every other. -/
def marks (k : IVec S4x600 1) : IVec S4x600 32 :=
  select k (broadcastInDim S4x600 ![0, 1] bcast_S1x600_S4x600_0_1 (broadcastInDim S1x600 ![1] bcast_S600_S1x600_1 (iotaInDim S600 32 0)))
    (broadcastInDim S4x600 ![] bcast_S_S4x600 (constantI S_ 32 600#32))
/-- The first hundred of the marks in order. -/
def firsts (k : IVec S4x600 1) : IVec S4x100 32 :=
  extractStridedSlice S4x100 ![0, 0] (Host.sort S4x600 1 comparator_i32_d1 (marks k)) slices_S4x600_S4x100_0_0
/-- One at a place that is filled, zero at the rest; and the place to read there. -/
def filled (k : IVec S4x600 1) : FVec F S4x100 .f32 :=
  uitofp .f32 (cmpi .slt (firsts k) (broadcastInDim S4x100 ![] bcast_S_S4x100 (constantI S_ 32 600#32)))
def places (k : IVec S4x600 1) : IVec S4x100 32 := minsi (firsts k) (broadcastInDim S4x100 ![] bcast_S_S4x100 (constantI S_ 32 599#32))
/-- One coordinate of the kept boxes. -/
def keptOf (k : IVec S4x600 1) (x : FVec F S4x600 .f32) : FVec F S4x100x1 .f32 :=
  broadcastInDim S4x100x1 ![0, 1] bcast_S4x100_S4x100x1_0_1 (mulf (takeKept x (places k)) (filled k))

theorem read15_58 : after hostOps0_15 V (Proc.devRef .tc main_v58) = broadcastInDim S1x600 ![1] bcast_S600_S1x600_1 (iotaInDim S600 32 0) := by
  after_results
theorem read15_c8 : after hostOps0_15 V (Proc.devRef .tc main_c_8) = constantI S_ 32 600#32 := by
  after_results
theorem read16 (h8 : V (Proc.devRef .tc main_c_8) = constantI S_ 32 600#32)
    (h58 : V (Proc.devRef .tc main_v58) = broadcastInDim S1x600 ![1] bcast_S600_S1x600_1 (iotaInDim S600 32 0)) :
    after hostOps0_16 V (Proc.devRef .tc main_v59) = marks (V (Proc.devRef .tc main_v56_7)) := by
  unfold marks; after_results; rw [← h8, ← h58]; rfl
theorem read17 : after hostOps0_17 V (Proc.devRef .tc main_v60) = Host.sort S4x600 1 comparator_i32_d1 (V (Proc.devRef .tc main_v59) : IVec S4x600 32) := by
  after_results; rfl
theorem read18_64 (k : IVec S4x600 1) (h : V (Proc.devRef .tc main_v60) = Host.sort S4x600 1 comparator_i32_d1 (marks k)) :
    after hostOps0_18 V (Proc.devRef .tc main_v64) = filled (F := F) k := by
  unfold filled firsts; after_results; rw [← h]
theorem read18_66 (k : IVec S4x600 1) (h : V (Proc.devRef .tc main_v60) = Host.sort S4x600 1 comparator_i32_d1 (marks k)) :
    after hostOps0_18 V (Proc.devRef .tc main_v66) = places k := by
  unfold places firsts; after_results; rw [← h]
theorem read19 : after hostOps0_19 V (Proc.devRef .tc main_v67) = takeKept (V (Proc.devRef .tc main_v6)) (V (Proc.devRef .tc main_v66)) := by
  unfold takeKept startsOf; after_results; rfl
theorem read20 : after hostOps0_20 V (Proc.devRef .tc main_v68)
    = mulf (F := F) (s := S4x100) (φ := .f32) (V (Proc.devRef .tc main_v67)) (V (Proc.devRef .tc main_v64)) := by
  after_results
theorem read21 : after hostOps0_21 V (Proc.devRef .tc main_v69) = takeKept (V (Proc.devRef .tc main_v7)) (V (Proc.devRef .tc main_v66)) := by
  unfold takeKept startsOf; after_results; rfl
theorem read22 : after hostOps0_22 V (Proc.devRef .tc main_v70)
    = mulf (F := F) (s := S4x100) (φ := .f32) (V (Proc.devRef .tc main_v69)) (V (Proc.devRef .tc main_v64)) := by
  after_results
theorem read23 : after hostOps0_23 V (Proc.devRef .tc main_v71) = takeKept (V (Proc.devRef .tc main_v8)) (V (Proc.devRef .tc main_v66)) := by
  unfold takeKept startsOf; after_results; rfl
theorem read24 : after hostOps0_24 V (Proc.devRef .tc main_v72)
    = mulf (F := F) (s := S4x100) (φ := .f32) (V (Proc.devRef .tc main_v71)) (V (Proc.devRef .tc main_v64)) := by
  after_results
theorem read25 : after hostOps0_25 V (Proc.devRef .tc main_v73) = takeKept (V (Proc.devRef .tc main_v9)) (V (Proc.devRef .tc main_v66)) := by
  unfold takeKept startsOf; after_results; rfl
/-- The four coordinates side by side. -/
def together (a b c d : FVec F S4x100x1 .f32) : FVec F S4x100x4 .f32 :=
  concatenate S4x100x4 2 [⟨S4x100x1, a⟩, ⟨S4x100x1, b⟩, ⟨S4x100x1, c⟩, ⟨S4x100x1, d⟩] concatenates_S4x100x1_S4x100x1_S4x100x1_S4x100x1_S4x100x4_d2
def column (a : FVec F S4x100 .f32) : FVec F S4x100x1 .f32 := broadcastInDim S4x100x1 ![0, 1] bcast_S4x100_S4x100x1_0_1 a
theorem read26 : after hostOps0_26 V (Proc.devRef .tc main_v79)
    = together (F := F) (column (V (Proc.devRef .tc main_v68))) (column (V (Proc.devRef .tc main_v70))) (column (V (Proc.devRef .tc main_v72)))
      (column (mulf (V (Proc.devRef .tc main_v73) : FVec F S4x100 .f32) (V (Proc.devRef .tc main_v64)))) := by
  unfold together column; after_results; rfl

end Cert.Proof.Greedy
-- ==== Proof.GreedyStretches.lean ====
/-
  The greedy reference's operations before and after its loop, as wholes: what they leave in the arrays the loop and the
  result read, from the arguments.
-/
module

public import proofs.«01_k».proof.Proof.GreedyReads
public import proofs.«01_k».proof.Proof.GreedyKeeps

@[expose] public section

set_option maxRecDepth 16384

noncomputable section

namespace Cert.Proof.Greedy

open Cert.GreedyIdeal Cert.GreedyIdeal.Gen Cert.GreedyIdeal.Value
open Idealize.ShloMosaic Idealize.ShloMosaic.TcCoe Idealize.ShloMosaic.Tactic
open Idealize.SL Idealize.SL.Sem
open Idealize.ShloMosaic.StableHlo

variable {F : FTy → Type} [FloatOps F] (V : Valuation τ sig (Elt F))

/-! ## The stretches, one after another: each keeps what it does not write -/

def s0 : Valuation τ sig (Elt F) := after hostOps0 V
def s1 : Valuation τ sig (Elt F) := after hostOps0_1 V
def s2 : Valuation τ sig (Elt F) := after hostOps0_2 V
def s3 : Valuation τ sig (Elt F) := after hostOps0_3 V
def s4 : Valuation τ sig (Elt F) := after hostOps0_4 V
def s5 : Valuation τ sig (Elt F) := after hostOps0_5 V
def s6 : Valuation τ sig (Elt F) := after hostOps0_6 V
def s7 : Valuation τ sig (Elt F) := after hostOps0_7 V
def s8 : Valuation τ sig (Elt F) := after hostOps0_8 V
def s9 : Valuation τ sig (Elt F) := after hostOps0_9 V
def s10 : Valuation τ sig (Elt F) := after hostOps0_10 V
def s11 : Valuation τ sig (Elt F) := after hostOps0_11 V
def s12 : Valuation τ sig (Elt F) := after hostOps0_12 V
def s13 : Valuation τ sig (Elt F) := after hostOps0_13 V
def s14 : Valuation τ sig (Elt F) := after hostOps0_14 V
def s15 : Valuation τ sig (Elt F) := after hostOps0_15 V
def s16 : Valuation τ sig (Elt F) := after hostOps0_16 V
def s17 : Valuation τ sig (Elt F) := after hostOps0_17 V
def s18 : Valuation τ sig (Elt F) := after hostOps0_18 V
def s19 : Valuation τ sig (Elt F) := after hostOps0_19 V
def s20 : Valuation τ sig (Elt F) := after hostOps0_20 V
def s21 : Valuation τ sig (Elt F) := after hostOps0_21 V
def s22 : Valuation τ sig (Elt F) := after hostOps0_22 V
def s23 : Valuation τ sig (Elt F) := after hostOps0_23 V
def s24 : Valuation τ sig (Elt F) := after hostOps0_24 V
def s25 : Valuation τ sig (Elt F) := after hostOps0_25 V
def s26 : Valuation τ sig (Elt F) := after hostOps0_26 V

theorem keep0 {r : Ref sig .tc} (h : r ∉ hostOps0_W) : s0 V (Proc.devRef .tc r) = V (Proc.devRef .tc r) :=
  after_of_writes_sub hostOps0 V hostOps0_writes h
theorem keep1 {r : Ref sig .tc} (h : r ∉ hostOps0_1_W) : s1 V (Proc.devRef .tc r) = V (Proc.devRef .tc r) :=
  after_of_writes_sub hostOps0_1 V hostOps0_1_writes h
theorem keep2 {r : Ref sig .tc} (h : r ∉ hostOps0_2_W) : s2 V (Proc.devRef .tc r) = V (Proc.devRef .tc r) :=
  after_of_writes_sub hostOps0_2 V hostOps0_2_writes h
theorem keep3 {r : Ref sig .tc} (h : r ∉ hostOps0_3_W) : s3 V (Proc.devRef .tc r) = V (Proc.devRef .tc r) :=
  after_of_writes_sub hostOps0_3 V hostOps0_3_writes h
theorem keep4 {r : Ref sig .tc} (h : r ∉ hostOps0_4_W) : s4 V (Proc.devRef .tc r) = V (Proc.devRef .tc r) :=
  after_of_writes_sub hostOps0_4 V hostOps0_4_writes h
theorem keep5 {r : Ref sig .tc} (h : r ∉ hostOps0_5_W) : s5 V (Proc.devRef .tc r) = V (Proc.devRef .tc r) :=
  after_of_writes_sub hostOps0_5 V hostOps0_5_writes h
theorem keep6 {r : Ref sig .tc} (h : r ∉ hostOps0_6_W) : s6 V (Proc.devRef .tc r) = V (Proc.devRef .tc r) :=
  after_of_writes_sub hostOps0_6 V hostOps0_6_writes h
theorem keep7 {r : Ref sig .tc} (h : r ∉ hostOps0_7_W) : s7 V (Proc.devRef .tc r) = V (Proc.devRef .tc r) :=
  after_of_writes_sub hostOps0_7 V hostOps0_7_writes h
theorem keep8 {r : Ref sig .tc} (h : r ∉ hostOps0_8_W) : s8 V (Proc.devRef .tc r) = V (Proc.devRef .tc r) :=
  after_of_writes_sub hostOps0_8 V hostOps0_8_writes h
theorem keep9 {r : Ref sig .tc} (h : r ∉ hostOps0_9_W) : s9 V (Proc.devRef .tc r) = V (Proc.devRef .tc r) :=
  after_of_writes_sub hostOps0_9 V hostOps0_9_writes h
theorem keep10 {r : Ref sig .tc} (h : r ∉ hostOps0_10_W) : s10 V (Proc.devRef .tc r) = V (Proc.devRef .tc r) :=
  after_of_writes_sub hostOps0_10 V hostOps0_10_writes h
theorem keep11 {r : Ref sig .tc} (h : r ∉ hostOps0_11_W) : s11 V (Proc.devRef .tc r) = V (Proc.devRef .tc r) :=
  after_of_writes_sub hostOps0_11 V hostOps0_11_writes h
theorem keep12 {r : Ref sig .tc} (h : r ∉ hostOps0_12_W) : s12 V (Proc.devRef .tc r) = V (Proc.devRef .tc r) :=
  after_of_writes_sub hostOps0_12 V hostOps0_12_writes h
theorem keep13 {r : Ref sig .tc} (h : r ∉ hostOps0_13_W) : s13 V (Proc.devRef .tc r) = V (Proc.devRef .tc r) :=
  after_of_writes_sub hostOps0_13 V hostOps0_13_writes h
theorem keep14 {r : Ref sig .tc} (h : r ∉ hostOps0_14_W) : s14 V (Proc.devRef .tc r) = V (Proc.devRef .tc r) :=
  after_of_writes_sub hostOps0_14 V hostOps0_14_writes h
theorem keep15 {r : Ref sig .tc} (h : r ∉ w15) : s15 V (Proc.devRef .tc r) = V (Proc.devRef .tc r) :=
  after_of_writes_sub hostOps0_15 V (forall_writes_sub_of_map rfl : (hostOps0_15 : List (HloOp τ sig (Elt F))).Forall fun op => op.writes ⊆ (w15.map (Proc.devRef (τ := τ) .tc)).toFinset) h
theorem keep16 {r : Ref sig .tc} (h : r ∉ w16) : s16 V (Proc.devRef .tc r) = V (Proc.devRef .tc r) :=
  after_of_writes_sub hostOps0_16 V (forall_writes_sub_of_map rfl : (hostOps0_16 : List (HloOp τ sig (Elt F))).Forall fun op => op.writes ⊆ (w16.map (Proc.devRef (τ := τ) .tc)).toFinset) h
theorem keep17 {r : Ref sig .tc} (h : r ∉ w17) : s17 V (Proc.devRef .tc r) = V (Proc.devRef .tc r) :=
  after_of_writes_sub hostOps0_17 V (forall_writes_sub_of_map rfl : (hostOps0_17 : List (HloOp τ sig (Elt F))).Forall fun op => op.writes ⊆ (w17.map (Proc.devRef (τ := τ) .tc)).toFinset) h
theorem keep18 {r : Ref sig .tc} (h : r ∉ w18) : s18 V (Proc.devRef .tc r) = V (Proc.devRef .tc r) :=
  after_of_writes_sub hostOps0_18 V (forall_writes_sub_of_map rfl : (hostOps0_18 : List (HloOp τ sig (Elt F))).Forall fun op => op.writes ⊆ (w18.map (Proc.devRef (τ := τ) .tc)).toFinset) h
theorem keep19 {r : Ref sig .tc} (h : r ∉ w19) : s19 V (Proc.devRef .tc r) = V (Proc.devRef .tc r) :=
  after_of_writes_sub hostOps0_19 V (forall_writes_sub_of_map rfl : (hostOps0_19 : List (HloOp τ sig (Elt F))).Forall fun op => op.writes ⊆ (w19.map (Proc.devRef (τ := τ) .tc)).toFinset) h
theorem keep20 {r : Ref sig .tc} (h : r ∉ w20) : s20 V (Proc.devRef .tc r) = V (Proc.devRef .tc r) :=
  after_of_writes_sub hostOps0_20 V (forall_writes_sub_of_map rfl : (hostOps0_20 : List (HloOp τ sig (Elt F))).Forall fun op => op.writes ⊆ (w20.map (Proc.devRef (τ := τ) .tc)).toFinset) h
theorem keep21 {r : Ref sig .tc} (h : r ∉ w21) : s21 V (Proc.devRef .tc r) = V (Proc.devRef .tc r) :=
  after_of_writes_sub hostOps0_21 V (forall_writes_sub_of_map rfl : (hostOps0_21 : List (HloOp τ sig (Elt F))).Forall fun op => op.writes ⊆ (w21.map (Proc.devRef (τ := τ) .tc)).toFinset) h
theorem keep22 {r : Ref sig .tc} (h : r ∉ w22) : s22 V (Proc.devRef .tc r) = V (Proc.devRef .tc r) :=
  after_of_writes_sub hostOps0_22 V (forall_writes_sub_of_map rfl : (hostOps0_22 : List (HloOp τ sig (Elt F))).Forall fun op => op.writes ⊆ (w22.map (Proc.devRef (τ := τ) .tc)).toFinset) h
theorem keep23 {r : Ref sig .tc} (h : r ∉ w23) : s23 V (Proc.devRef .tc r) = V (Proc.devRef .tc r) :=
  after_of_writes_sub hostOps0_23 V (forall_writes_sub_of_map rfl : (hostOps0_23 : List (HloOp τ sig (Elt F))).Forall fun op => op.writes ⊆ (w23.map (Proc.devRef (τ := τ) .tc)).toFinset) h
theorem keep24 {r : Ref sig .tc} (h : r ∉ w24) : s24 V (Proc.devRef .tc r) = V (Proc.devRef .tc r) :=
  after_of_writes_sub hostOps0_24 V (forall_writes_sub_of_map rfl : (hostOps0_24 : List (HloOp τ sig (Elt F))).Forall fun op => op.writes ⊆ (w24.map (Proc.devRef (τ := τ) .tc)).toFinset) h
theorem keep25 {r : Ref sig .tc} (h : r ∉ w25) : s25 V (Proc.devRef .tc r) = V (Proc.devRef .tc r) :=
  after_of_writes_sub hostOps0_25 V (forall_writes_sub_of_map rfl : (hostOps0_25 : List (HloOp τ sig (Elt F))).Forall fun op => op.writes ⊆ (w25.map (Proc.devRef (τ := τ) .tc)).toFinset) h
theorem keep26 {r : Ref sig .tc} (h : r ∉ w26) : s26 V (Proc.devRef .tc r) = V (Proc.devRef .tc r) :=
  after_of_writes_sub hostOps0_26 V (forall_writes_sub_of_map rfl : (hostOps0_26 : List (HloOp τ sig (Elt F))).Forall fun op => op.writes ⊆ (w26.map (Proc.devRef (τ := τ) .tc)).toFinset) h

/-! ## Before the loop -/

/-- The candidates in their order: by position first, then by falling score, which keeps the former order among equals. -/
def order (s : FVec F S4x640 .f32) (p : IVec S4x640 32) : IVec S4x640 32 :=
  takeAll (byPosition p) (byNumber (F := F) (Host.negf (takeAll s (byPosition p))))
/-- The first six hundred of them. -/
def head (s : FVec F S4x640 .f32) (p : IVec S4x640 32) : IVec S4x600 32 := extractStridedSlice S4x600 ![0, 0] (order s p) slices_S4x640_S4x600_0_0

/-- Everything before the loop, and everything after it. -/
def before : Valuation τ sig (Elt F) := s14 (s13 (s12 (s11 (s10 (s9 (s8 (s7 (s6 (s5 (s4 (s3 (s2 (s1 (s0 V))))))))))))))
def behind : Valuation τ sig (Elt F) := s26 (s25 (s24 (s23 (s22 (s21 (s20 (s19 (s18 (s17 (s16 (s15 V)))))))))))

/-- The scores, the positions and the coordinates the reference is given. -/
abbrev scores : FVec F S4x640 .f32 := V (Proc.devRef .tc main_arg0)
abbrev positions : IVec S4x640 32 := V (Proc.devRef .tc main_arg1)

theorem at0 : s0 V (Proc.devRef .tc main_v0) = byPosition (positions V) := read0 V
theorem at1 : s1 (s0 V) (Proc.devRef .tc main_v1) = takeAll (scores V) (byPosition (positions V)) := by
  refine (read1 _).trans ?_
  rw [at0, keep0 V (r := main_arg0) (by decide)]
theorem at3 : s3 (s2 (s1 (s0 V))) (Proc.devRef .tc main_v3) = byNumber (F := F) (Host.negf (takeAll (scores V) (byPosition (positions V)))) := by
  refine (read3 _).trans ?_
  refine congrArg (byNumber (F := F)) ((read2 _).trans ?_)
  rw [at1]
theorem at4 : s4 (s3 (s2 (s1 (s0 V)))) (Proc.devRef .tc main_v4) = order (scores V) (positions V) := by
  refine (read4 _).trans ?_
  rw [at3, keep3 _ (r := main_v0) (by decide), keep2 _ (r := main_v0) (by decide), keep1 _ (r := main_v0) (by decide), at0]
  rfl
theorem at5 : s5 (s4 (s3 (s2 (s1 (s0 V))))) (Proc.devRef .tc main_v5) = head (scores V) (positions V) := by
  refine (read5 _).trans ?_
  rw [at4]
  rfl
theorem at6 : s6 (s5 (s4 (s3 (s2 (s1 (s0 V)))))) (Proc.devRef .tc main_v6) = takeFirst (V (Proc.devRef .tc main_arg2)) (head (scores V) (positions V)) := by
  refine (read6 _).trans ?_
  rw [at5, keep5 _ (r := main_arg2) (by decide), keep4 _ (r := main_arg2) (by decide), keep3 _ (r := main_arg2) (by decide), keep2 _ (r := main_arg2) (by decide), keep1 _ (r := main_arg2) (by decide), keep0 _ (r := main_arg2) (by decide)]
theorem at7 : s7 (s6 (s5 (s4 (s3 (s2 (s1 (s0 V))))))) (Proc.devRef .tc main_v7) = takeFirst (V (Proc.devRef .tc main_arg3)) (head (scores V) (positions V)) := by
  refine (read7 _).trans ?_
  rw [keep6 _ (r := main_v5) (by decide), at5, keep6 _ (r := main_arg3) (by decide), keep5 _ (r := main_arg3) (by decide), keep4 _ (r := main_arg3) (by decide), keep3 _ (r := main_arg3) (by decide), keep2 _ (r := main_arg3) (by decide), keep1 _ (r := main_arg3) (by decide), keep0 _ (r := main_arg3) (by decide)]
theorem at8 : s8 (s7 (s6 (s5 (s4 (s3 (s2 (s1 (s0 V)))))))) (Proc.devRef .tc main_v8) = takeFirst (V (Proc.devRef .tc main_arg4)) (head (scores V) (positions V)) := by
  refine (read8 _).trans ?_
  rw [keep7 _ (r := main_v5) (by decide), keep6 _ (r := main_v5) (by decide), at5, keep7 _ (r := main_arg4) (by decide), keep6 _ (r := main_arg4) (by decide), keep5 _ (r := main_arg4) (by decide), keep4 _ (r := main_arg4) (by decide), keep3 _ (r := main_arg4) (by decide), keep2 _ (r := main_arg4) (by decide), keep1 _ (r := main_arg4) (by decide), keep0 _ (r := main_arg4) (by decide)]
theorem at9 : s9 (s8 (s7 (s6 (s5 (s4 (s3 (s2 (s1 (s0 V))))))))) (Proc.devRef .tc main_v9) = takeFirst (V (Proc.devRef .tc main_arg5)) (head (scores V) (positions V)) := by
  refine (read9 _).trans ?_
  rw [keep8 _ (r := main_v5) (by decide), keep7 _ (r := main_v5) (by decide), keep6 _ (r := main_v5) (by decide), at5, keep8 _ (r := main_arg5) (by decide), keep7 _ (r := main_arg5) (by decide), keep6 _ (r := main_arg5) (by decide), keep5 _ (r := main_arg5) (by decide), keep4 _ (r := main_arg5) (by decide), keep3 _ (r := main_arg5) (by decide), keep2 _ (r := main_arg5) (by decide), keep1 _ (r := main_arg5) (by decide), keep0 _ (r := main_arg5) (by decide)]
theorem before_v6 : before V (Proc.devRef .tc main_v6) = takeFirst (V (Proc.devRef .tc main_arg2)) (head (scores V) (positions V)) := by
  unfold before
  rw [keep14 _ (r := main_v6) (by decide), keep13 _ (r := main_v6) (by decide), keep12 _ (r := main_v6) (by decide), keep11 _ (r := main_v6) (by decide), keep10 _ (r := main_v6) (by decide), keep9 _ (r := main_v6) (by decide), keep8 _ (r := main_v6) (by decide), keep7 _ (r := main_v6) (by decide), at6]
theorem before_v7 : before V (Proc.devRef .tc main_v7) = takeFirst (V (Proc.devRef .tc main_arg3)) (head (scores V) (positions V)) := by
  unfold before
  rw [keep14 _ (r := main_v7) (by decide), keep13 _ (r := main_v7) (by decide), keep12 _ (r := main_v7) (by decide), keep11 _ (r := main_v7) (by decide), keep10 _ (r := main_v7) (by decide), keep9 _ (r := main_v7) (by decide), keep8 _ (r := main_v7) (by decide), at7]
theorem before_v8 : before V (Proc.devRef .tc main_v8) = takeFirst (V (Proc.devRef .tc main_arg4)) (head (scores V) (positions V)) := by
  unfold before
  rw [keep14 _ (r := main_v8) (by decide), keep13 _ (r := main_v8) (by decide), keep12 _ (r := main_v8) (by decide), keep11 _ (r := main_v8) (by decide), keep10 _ (r := main_v8) (by decide), keep9 _ (r := main_v8) (by decide), at8]
theorem before_v9 : before V (Proc.devRef .tc main_v9) = takeFirst (V (Proc.devRef .tc main_arg5)) (head (scores V) (positions V)) := by
  unfold before
  rw [keep14 _ (r := main_v9) (by decide), keep13 _ (r := main_v9) (by decide), keep12 _ (r := main_v9) (by decide), keep11 _ (r := main_v9) (by decide), keep10 _ (r := main_v9) (by decide), at9]
theorem at10_39 : s10 (s9 (s8 (s7 (s6 (s5 (s4 (s3 (s2 (s1 (s0 V)))))))))) (Proc.devRef .tc main_v39) = meets (F := F) (takeFirst (V (Proc.devRef .tc main_arg2)) (head (scores V) (positions V))) (takeFirst (V (Proc.devRef .tc main_arg3)) (head (scores V) (positions V)))
      (takeFirst (V (Proc.devRef .tc main_arg4)) (head (scores V) (positions V))) (takeFirst (V (Proc.devRef .tc main_arg5)) (head (scores V) (positions V))) := by
  refine (read10_39 _).trans ?_
  rw [keep9 _ (r := main_v6) (by decide), keep8 _ (r := main_v6) (by decide), keep7 _ (r := main_v6) (by decide), at6, keep9 _ (r := main_v7) (by decide), keep8 _ (r := main_v7) (by decide), at7, keep9 _ (r := main_v8) (by decide), at8, at9]
theorem at10_45 : s10 (s9 (s8 (s7 (s6 (s5 (s4 (s3 (s2 (s1 (s0 V)))))))))) (Proc.devRef .tc main_v45) = joins (F := F) (takeFirst (V (Proc.devRef .tc main_arg2)) (head (scores V) (positions V))) (takeFirst (V (Proc.devRef .tc main_arg3)) (head (scores V) (positions V)))
      (takeFirst (V (Proc.devRef .tc main_arg4)) (head (scores V) (positions V))) (takeFirst (V (Proc.devRef .tc main_arg5)) (head (scores V) (positions V))) := by
  refine (read10_45 _).trans ?_
  rw [keep9 _ (r := main_v6) (by decide), keep8 _ (r := main_v6) (by decide), keep7 _ (r := main_v6) (by decide), at6, keep9 _ (r := main_v7) (by decide), keep8 _ (r := main_v7) (by decide), at7, keep9 _ (r := main_v8) (by decide), at8, at9]
theorem at10_47 : s10 (s9 (s8 (s7 (s6 (s5 (s4 (s3 (s2 (s1 (s0 V)))))))))) (Proc.devRef .tc main_v47) = overSome (F := F) (takeFirst (V (Proc.devRef .tc main_arg2)) (head (scores V) (positions V))) (takeFirst (V (Proc.devRef .tc main_arg3)) (head (scores V) (positions V)))
      (takeFirst (V (Proc.devRef .tc main_arg4)) (head (scores V) (positions V))) (takeFirst (V (Proc.devRef .tc main_arg5)) (head (scores V) (positions V))) := by
  refine (read10_47 _).trans ?_
  rw [keep9 _ (r := main_v6) (by decide), keep8 _ (r := main_v6) (by decide), keep7 _ (r := main_v6) (by decide), at6, keep9 _ (r := main_v7) (by decide), keep8 _ (r := main_v7) (by decide), at7, keep9 _ (r := main_v8) (by decide), at8, at9]
theorem at10_49 : s10 (s9 (s8 (s7 (s6 (s5 (s4 (s3 (s2 (s1 (s0 V)))))))))) (Proc.devRef .tc main_v49) = overSome (F := F) (takeFirst (V (Proc.devRef .tc main_arg2)) (head (scores V) (positions V))) (takeFirst (V (Proc.devRef .tc main_arg3)) (head (scores V) (positions V)))
      (takeFirst (V (Proc.devRef .tc main_arg4)) (head (scores V) (positions V))) (takeFirst (V (Proc.devRef .tc main_arg5)) (head (scores V) (positions V))) := by
  refine (read10_49 _).trans ?_
  rw [keep9 _ (r := main_v6) (by decide), keep8 _ (r := main_v6) (by decide), keep7 _ (r := main_v6) (by decide), at6, keep9 _ (r := main_v7) (by decide), keep8 _ (r := main_v7) (by decide), at7, keep9 _ (r := main_v8) (by decide), at8, at9]
theorem at13 : s13 (s12 (s11 (s10 (s9 (s8 (s7 (s6 (s5 (s4 (s3 (s2 (s1 (s0 V))))))))))))) (Proc.devRef .tc main_v52)
    = select (overSome (F := F) (takeFirst (V (Proc.devRef .tc main_arg2)) (head (scores V) (positions V))) (takeFirst (V (Proc.devRef .tc main_arg3)) (head (scores V) (positions V)))
      (takeFirst (V (Proc.devRef .tc main_arg4)) (head (scores V) (positions V))) (takeFirst (V (Proc.devRef .tc main_arg5)) (head (scores V) (positions V))))
      (Host.divf (meets (takeFirst (V (Proc.devRef .tc main_arg2)) (head (scores V) (positions V))) (takeFirst (V (Proc.devRef .tc main_arg3)) (head (scores V) (positions V)))
      (takeFirst (V (Proc.devRef .tc main_arg4)) (head (scores V) (positions V))) (takeFirst (V (Proc.devRef .tc main_arg5)) (head (scores V) (positions V))))
        (select (overSome (takeFirst (V (Proc.devRef .tc main_arg2)) (head (scores V) (positions V))) (takeFirst (V (Proc.devRef .tc main_arg3)) (head (scores V) (positions V)))
      (takeFirst (V (Proc.devRef .tc main_arg4)) (head (scores V) (positions V))) (takeFirst (V (Proc.devRef .tc main_arg5)) (head (scores V) (positions V))))
          (joins (takeFirst (V (Proc.devRef .tc main_arg2)) (head (scores V) (positions V))) (takeFirst (V (Proc.devRef .tc main_arg3)) (head (scores V) (positions V)))
      (takeFirst (V (Proc.devRef .tc main_arg4)) (head (scores V) (positions V))) (takeFirst (V (Proc.devRef .tc main_arg5)) (head (scores V) (positions V)))) (everywhere 0x3F800000#32)))
      (everywhere 0x00000000#32) := by
  refine (read13 (s12 (s11 (s10 (s9 (s8 (s7 (s6 (s5 (s4 (s3 (s2 (s1 (s0 V))))))))))))) (read12_cst_4 _)).trans ?_
  rw [keep12 _ (r := main_v47) (by decide), keep11 _ (r := main_v47) (by decide), at10_47]
  refine congrArg (fun z => select _ z _) ((read12_51 (s11 (s10 (s9 (s8 (s7 (s6 (s5 (s4 (s3 (s2 (s1 (s0 V))))))))))))).trans ?_)
  rw [keep11 _ (r := main_v39) (by decide), at10_39]
  refine congrArg (Host.divf _) ((read11 (s10 (s9 (s8 (s7 (s6 (s5 (s4 (s3 (s2 (s1 (s0 V))))))))))) (read10_cst_3 _)).trans ?_)
  rw [at10_49, at10_45]
theorem before_pairs : before V (Proc.devRef .tc main_v56_4) = pairs (F := F) (takeFirst (V (Proc.devRef .tc main_arg2)) (head (scores V) (positions V))) (takeFirst (V (Proc.devRef .tc main_arg3)) (head (scores V) (positions V)))
      (takeFirst (V (Proc.devRef .tc main_arg4)) (head (scores V) (positions V))) (takeFirst (V (Proc.devRef .tc main_arg5)) (head (scores V) (positions V))) := by
  refine (read14_pairs _).trans ?_
  rw [at13]
  rfl
theorem before_ctr : before V (Proc.devRef .tc main_v56_6) = constantI S_ 32 0#32 := read14_ctr _
theorem before_keep : before V (Proc.devRef .tc main_v56_7) = broadcastInDim S4x600 ![] bcast_S_S4x600 (constantI S_ 1 1#1) := read14_keep _

/-! ## After the loop -/

/-- Which places are kept. -/
abbrev keepOf : IVec S4x600 1 := V (Proc.devRef .tc main_v56_7)

theorem at17 : s17 (s16 (s15 V)) (Proc.devRef .tc main_v60) = Host.sort S4x600 1 comparator_i32_d1 (marks (keepOf V)) := by
  refine (read17 _).trans ?_
  refine congrArg (Host.sort S4x600 1 comparator_i32_d1) ((read16 (s15 V) (read15_c8 _) (read15_58 _)).trans ?_)
  rw [keep15 _ (r := main_v56_7) (by decide)]
theorem at18_64 : s18 (s17 (s16 (s15 V))) (Proc.devRef .tc main_v64) = filled (F := F) (keepOf V) := read18_64 _ _ (at17 V)
theorem at18_66 : s18 (s17 (s16 (s15 V))) (Proc.devRef .tc main_v66) = places (keepOf V) := read18_66 _ _ (at17 V)
theorem at19 : s19 (s18 (s17 (s16 (s15 V)))) (Proc.devRef .tc main_v67) = takeKept (V (Proc.devRef .tc main_v6)) (places (keepOf V)) := by
  refine (read19 _).trans ?_
  rw [at18_66, keep18 _ (r := main_v6) (by decide), keep17 _ (r := main_v6) (by decide), keep16 _ (r := main_v6) (by decide), keep15 _ (r := main_v6) (by decide)]
theorem at20 : s20 (s19 (s18 (s17 (s16 (s15 V))))) (Proc.devRef .tc main_v68)
    = mulf (F := F) (takeKept (V (Proc.devRef .tc main_v6)) (places (keepOf V))) (filled (keepOf V)) := by
  refine (read20 _).trans ?_
  rw [at19, keep19 _ (r := main_v64) (by decide), at18_64]
theorem at21 : s21 (s20 (s19 (s18 (s17 (s16 (s15 V)))))) (Proc.devRef .tc main_v69) = takeKept (V (Proc.devRef .tc main_v7)) (places (keepOf V)) := by
  refine (read21 _).trans ?_
  rw [keep20 _ (r := main_v66) (by decide), keep19 _ (r := main_v66) (by decide), at18_66, keep20 _ (r := main_v7) (by decide), keep19 _ (r := main_v7) (by decide), keep18 _ (r := main_v7) (by decide), keep17 _ (r := main_v7) (by decide), keep16 _ (r := main_v7) (by decide), keep15 _ (r := main_v7) (by decide)]
theorem at22 : s22 (s21 (s20 (s19 (s18 (s17 (s16 (s15 V))))))) (Proc.devRef .tc main_v70)
    = mulf (F := F) (takeKept (V (Proc.devRef .tc main_v7)) (places (keepOf V))) (filled (keepOf V)) := by
  refine (read22 _).trans ?_
  rw [at21, keep21 _ (r := main_v64) (by decide), keep20 _ (r := main_v64) (by decide), keep19 _ (r := main_v64) (by decide), at18_64]
theorem at23 : s23 (s22 (s21 (s20 (s19 (s18 (s17 (s16 (s15 V)))))))) (Proc.devRef .tc main_v71) = takeKept (V (Proc.devRef .tc main_v8)) (places (keepOf V)) := by
  refine (read23 _).trans ?_
  rw [keep22 _ (r := main_v66) (by decide), keep21 _ (r := main_v66) (by decide), keep20 _ (r := main_v66) (by decide), keep19 _ (r := main_v66) (by decide), at18_66, keep22 _ (r := main_v8) (by decide), keep21 _ (r := main_v8) (by decide), keep20 _ (r := main_v8) (by decide), keep19 _ (r := main_v8) (by decide), keep18 _ (r := main_v8) (by decide), keep17 _ (r := main_v8) (by decide), keep16 _ (r := main_v8) (by decide), keep15 _ (r := main_v8) (by decide)]
theorem at24 : s24 (s23 (s22 (s21 (s20 (s19 (s18 (s17 (s16 (s15 V))))))))) (Proc.devRef .tc main_v72)
    = mulf (F := F) (takeKept (V (Proc.devRef .tc main_v8)) (places (keepOf V))) (filled (keepOf V)) := by
  refine (read24 _).trans ?_
  rw [at23, keep23 _ (r := main_v64) (by decide), keep22 _ (r := main_v64) (by decide), keep21 _ (r := main_v64) (by decide), keep20 _ (r := main_v64) (by decide), keep19 _ (r := main_v64) (by decide), at18_64]
theorem at25 : s25 (s24 (s23 (s22 (s21 (s20 (s19 (s18 (s17 (s16 (s15 V)))))))))) (Proc.devRef .tc main_v73) = takeKept (V (Proc.devRef .tc main_v9)) (places (keepOf V)) := by
  refine (read25 _).trans ?_
  rw [keep24 _ (r := main_v66) (by decide), keep23 _ (r := main_v66) (by decide), keep22 _ (r := main_v66) (by decide), keep21 _ (r := main_v66) (by decide), keep20 _ (r := main_v66) (by decide), keep19 _ (r := main_v66) (by decide), at18_66, keep24 _ (r := main_v9) (by decide), keep23 _ (r := main_v9) (by decide), keep22 _ (r := main_v9) (by decide), keep21 _ (r := main_v9) (by decide), keep20 _ (r := main_v9) (by decide), keep19 _ (r := main_v9) (by decide), keep18 _ (r := main_v9) (by decide), keep17 _ (r := main_v9) (by decide), keep16 _ (r := main_v9) (by decide), keep15 _ (r := main_v9) (by decide)]
theorem behind_result : behind V (Proc.devRef .tc main_v79)
    = together (F := F) (keptOf (keepOf V) (V (Proc.devRef .tc main_v6))) (keptOf (keepOf V) (V (Proc.devRef .tc main_v7)))
      (keptOf (keepOf V) (V (Proc.devRef .tc main_v8))) (keptOf (keepOf V) (V (Proc.devRef .tc main_v9))) := by
  refine (read26 _).trans ?_
  rw [at25, keep25 _ (r := main_v68) (by decide), keep24 _ (r := main_v68) (by decide), keep23 _ (r := main_v68) (by decide), keep22 _ (r := main_v68) (by decide), keep21 _ (r := main_v68) (by decide), at20, keep25 _ (r := main_v70) (by decide), keep24 _ (r := main_v70) (by decide), keep23 _ (r := main_v70) (by decide), at22, keep25 _ (r := main_v72) (by decide), at24, keep25 _ (r := main_v64) (by decide), keep24 _ (r := main_v64) (by decide), keep23 _ (r := main_v64) (by decide), keep22 _ (r := main_v64) (by decide), keep21 _ (r := main_v64) (by decide), keep20 _ (r := main_v64) (by decide), keep19 _ (r := main_v64) (by decide), at18_64]
  rfl

end Cert.Proof.Greedy
-- ==== Proof.GreedyOrder.lean ====
/-
  The greedy reference's order of the candidates: its takes along a row read at the position named, its two sorts one after
  the other list the candidates so that each beats every later one.
-/
module

public import proofs.«01_k».proof.Proof.GreedyStretches
public import proofs.«01_k».proof.Proof.NmsSpec
public import Idealize.ShloMosaic.Lib.SortPrefix
public import Idealize.ShloMosaic.Lib.StableHlo.Predicate
public import Idealize.ShloMosaic.PureOps.Ideal.Laws
public import Idealize.ShloMosaic.Lib.ValueIdx
public import Idealize.ShloMosaic.Lib.Pipeline.Value
public import Idealize.ShloMosaic.Lib.ReduceAll

@[expose] public section

set_option maxRecDepth 16384

noncomputable section

namespace Cert.Proof.Greedy

open Cert.GreedyIdeal Cert.GreedyIdeal.Gen Cert.GreedyIdeal.Value
open Idealize.ShloMosaic Idealize.SL.Sem
open Idealize.ShloMosaic.ValueIdx
open Idealize.ShloMosaic.StableHlo
open Idealize.ShloMosaic.StableHlo.Predicate
open Cert.Proof.Choice

theorem word_everywhere {α : Type} {t : Shape} (h : (⟨0, ![]⟩ : Shape).BroadcastsInDim t ![]) (v : (⟨0, ![]⟩ : Shape).Idx → α)
    (j : t.Idx) (c : α) (hc : ∀ i, v i = c) : broadcastInDim t ![] h v j = c := by
  rw [bcast_scalar h (by decide)]; exact hc _

/-! ## A take along a row -/

section Take

variable {n len : ℕ}

/-- A take along the rows: at a place of row `b`, row `b`'s entry at the position the place's start names. -/
def rowTake (wf : GatherDims.WF (Rows n) (Deep len) (Rows len) [] [1] [0] [1] [0] 2 ![1, 1]) : GatherDims (Rows n) (Deep len) (Rows len) where
  offsetDims := []
  collapsedSliceDims := [1]
  operandBatchingDims := [0]
  startIndicesBatchingDims := [0]
  startIndexMap := [1]
  indexVectorDim := 2
  sliceSizes := ![1, 1]
  wf := wf

theorem startsOf_apply (hb : S_.BroadcastsInDim (Rows len) ![]) (hc : (Rows len).ShapeCasts (Deep len)) (l : BitVec 32)
    (i : IVec (Rows len) 32) (b : Fin 4) (j : Fin len) (t : ℕ) (ht : t < 1000) (hi : i (ix2 b j) = BitVec.ofNat 32 t)
    (z : (Deep len).Idx) (h0 : (z 0).val = b.val) (h1 : (z 1).val = j.val) : startsOf hb hc l i z = BitVec.ofNat 32 t := by
  unfold startsOf
  refine (shapeCast_apply _ _ z (ix2 b j) ?_).trans ?_
  · rw [Shape.rowMajor_val_two, Shape.rowMajor_val_three]
    have h2 : (z 2).val = 0 := by have := (z 2).isLt; change (z 2).val < 1 at this; omega
    show b.val * len + j.val = ((z 0).val * len + (z 1).val) * 1 + (z 2).val
    rw [h0, h1, h2, Nat.mul_one, Nat.add_zero]
  · refine (if_neg fun h => ?_).trans hi
    have hz : broadcastInDim (Rows len) ![] hb (constantI S_ 32 0#32) (ix2 b j) = BitVec.ofNat 32 0 := word_everywhere _ _ _ _ fun _ => rfl
    have h' : IntOp.cmpi .slt (i (ix2 b j)) (broadcastInDim (Rows len) ![] hb (constantI S_ 32 0#32) (ix2 b j)) = 1#1 := h
    rw [hz, hi] at h'
    have := (slt_ofNat_iff _ _ (by omega) (by omega)).mp h'
    omega

theorem rowTake_apply {α : Type} (wf) (x : (Rows n).Idx → α) (st : IVec (Deep len) 32) (b : Fin 4) (j : Fin len) (t : Fin n) (hn : n < 1000)
    (hs : ∀ z : (Deep len).Idx, (z 0).val = b.val → (z 1).val = j.val → st z = BitVec.ofNat 32 t.val) :
    Host.gather (rowTake (n := n) (len := len) wf) x st (ix2 b j) = x (ix2 b t) := by
  unfold Host.gather
  refine congrArg x ?_
  have ht := t.isLt
  funext a
  refine Fin.ext ?_
  show GatherDims.start _ (ix2 b j) st a + GatherDims.batchCoord _ (ix2 b j) a + GatherDims.offCoord _ (ix2 b j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rowTake (n := n) (len := len) wf).operandBatchingDims from List.mem_singleton.mpr rfl)]
    rfl
  · rw [GatherDims.batchCoord_eq_zero _ _ _ (fun h => absurd (List.mem_singleton.mp h) (show ¬ (1 : Fin 2) = 0 by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTake (n := n) (len := len) wf).startIndexMap from List.mem_singleton.mpr rfl),
      hs _ rfl rfl, toInt_ofNat_small _ (by omega)]
    show min t.val (n - 1) = t.val
    omega

end Take

theorem takeAll_apply {α : Type} (x : S4x640.Idx → α) (i : IVec S4x640 32) (b : Fin 4) (j t : Fin 640)
    (hi : i (ix2 b j) = BitVec.ofNat 32 t.val) : takeAll x i (ix2 b j) = x (ix2 b t) :=
  rowTake_apply gather_S4x640_S4x640x1_S4x640_n_1_0_0_1_2_11_wf x _ b j t (by decide)
    fun z h0 h1 => startsOf_apply _ _ _ i b j t.val (by omega) hi z h0 h1

theorem takeFirst_apply {α : Type} (x : S4x640.Idx → α) (i : IVec S4x600 32) (b : Fin 4) (j : Fin 600) (t : Fin 640)
    (hi : i (ix2 b j) = BitVec.ofNat 32 t.val) : takeFirst x i (ix2 b j) = x (ix2 b t) :=
  rowTake_apply gather_S4x640_S4x600x1_S4x600_n_1_0_0_1_2_11_wf x _ b j t (by decide)
    fun z h0 h1 => startsOf_apply _ _ _ i b j t.val (by omega) hi z h0 h1

theorem takeKept_apply {α : Type} (x : S4x600.Idx → α) (i : IVec S4x100 32) (b : Fin 4) (j : Fin 100) (t : Fin 600)
    (hi : i (ix2 b j) = BitVec.ofNat 32 t.val) : takeKept x i (ix2 b j) = x (ix2 b t) :=
  rowTake_apply gather_S4x600_S4x100x1_S4x100_n_1_0_0_1_2_11_wf x _ b j t (by decide)
    fun z h0 h1 => startsOf_apply _ _ _ i b j t.val (by omega) hi z h0 h1

/-! ## A sort by a key, which keeps the order of equals -/

theorem stable_of_later {n : ℕ} (B B' : Fin n → Fin n → Bool) (h : ∀ a b, a < b → B b a = B' b a) (l : List (Fin n))
    (hl : l.Pairwise (· < ·)) : stableSort B l = stableSort B' l := by
  induction l with
  | nil => rfl
  | cons a l ih =>
    obtain ⟨ha, hl'⟩ := List.pairwise_cons.mp hl
    unfold stableSort
    rw [ih hl']
    exact insertBefore_congr B B' a _ fun b hb => h a b (ha b ((perm_stableSort B' l).mem_iff.mp hb))

theorem sorted_by {n : ℕ} {κ : Type} [LinearOrder κ] (key : Fin n → κ) (B : Fin n → Fin n → Bool)
    (hB : ∀ a b, B a b = decide (key a < key b)) {i j : Fin n} (hij : i < j) :
    key (sortedFrom B i) < key (sortedFrom B j) ∨ (key (sortedFrom B i) = key (sortedFrom B j) ∧ sortedFrom B i < sortedFrom B j) := by
  have hT := StrictTotalBefore.of_key_then_position (n := n) (fun a b : κ => decide (a < b)) key
    (by intro a; simp) (by intro a b c; simp only [decide_eq_true_eq]; exact lt_trans)
    (by intro a b; simp only [decide_eq_true_eq]; exact lt_trichotomy a b)
  have hs : sortedFrom B = sortedFrom fun a b : Fin n => decide (key a < key b) || (decide (key a = key b) && decide (a < b)) := by
    have h : sortPositions n B = sortPositions n fun a b : Fin n => decide (key a < key b) || (decide (key a = key b) && decide (a < b)) := by
      refine stable_of_later _ _ (fun a b hab => ?_) _ (List.pairwise_lt_finRange n)
      have hn : decide (b < a) = false := decide_eq_false (by omega)
      rw [hB, hn, Bool.and_false, Bool.or_false]
    funext k
    exact List.getElem_of_eq h _
  rw [hs]
  let B' : Fin n → Fin n → Bool := fun a b => decide (key a < key b) || (decide (key a = key b) && decide (a < b))
  have hno := sortedFrom_noInversion B' B' (fun a b h => hT.asymm a b h) (fun _ _ h => h) hT.negTrans i j hij
  have hne := fun e => hij.ne (sortedFrom_injective B' e)
  rcases hT.total _ _ hne with h | h
  · simpa only [Bool.or_eq_true, Bool.and_eq_true, decide_eq_true_eq] using h
  · exact absurd (h.symm.trans hno) (by decide)

/-! ## The two sorts -/

section Order

variable (s : FVec Ideal S4x640 .f32) (p : IVec S4x640 32) (b : Fin 4)

/-- A row of the scores and of the positions. -/
def scoreOf : Fin 640 → EReal := fun i => s (ix2 b i)
def placeOf : Fin 640 → BitVec 32 := fun i => p (ix2 b i)

/-- The candidates of a row by their positions. -/
def lower : Fin 640 → Fin 640 → Bool := fun k k' => (placeOf p b k).slt (placeOf p b k')
def placed : Fin 640 → Fin 640 := sortedFrom (lower p b)
/-- And the places of that order by falling score. -/
def higher : Fin 640 → Fin 640 → Bool := fun k k' => decide (- scoreOf s b (placed p b k) < - scoreOf s b (placed p b k'))
def scored : Fin 640 → Fin 640 := sortedFrom (higher s p b)
/-- The candidate at each place of the whole order. -/
def choice (j : Fin 640) : Fin 640 := placed p b (scored s p b j)

theorem along_row (b : Fin 4) (j k : Fin 640) : (ix2 b j : S4x640.Idx).along 1 k = ix2 b k := by
  funext a; match a with | ⟨0, _⟩ => rfl | ⟨1, _⟩ => rfl

theorem iota_row (b : Fin 4) (k : Fin 640) : iotaInDim S4x640 32 1 (ix2 b k) = BitVec.ofNat 32 k.val := rfl

theorem byPosition_apply (j : Fin 640) : byPosition p (ix2 b j) = BitVec.ofNat 32 (placed p b j).val := by
  unfold byPosition Host.sort2
  rw [dif_pos (show 1 < S4x640.rank by decide)]
  have hb : (fun k k' : Fin 640 => comparator_i32_i32_d1
        (p ((ix2 b j : S4x640.Idx).along 1 k), iotaInDim S4x640 32 1 ((ix2 b j : S4x640.Idx).along 1 k))
        (p ((ix2 b j : S4x640.Idx).along 1 k'), iotaInDim S4x640 32 1 ((ix2 b j : S4x640.Idx).along 1 k')) == 1#1) = lower p b := by
    funext k k'
    rw [along_row, along_row]
    unfold comparator_i32_i32_d1 lower placeOf
    show (IntOp.cmpi .slt _ _ == 1#1) = _
    cases h : (p (ix2 b k)).slt (p (ix2 b k')) <;> simp [IntOp.cmpi, h]
  show iotaInDim S4x640 32 1 ((ix2 b j : S4x640.Idx).along 1 (sortedFrom (fun k k' : Fin 640 => comparator_i32_i32_d1
        (p ((ix2 b j : S4x640.Idx).along 1 k), iotaInDim S4x640 32 1 ((ix2 b j : S4x640.Idx).along 1 k))
        (p ((ix2 b j : S4x640.Idx).along 1 k'), iotaInDim S4x640 32 1 ((ix2 b j : S4x640.Idx).along 1 k')) == 1#1) j)) = _
  rw [hb]
  exact (congrArg (iotaInDim S4x640 32 1) (along_row b j _)).trans (iota_row b _)

/-- The comparison of two numbers of the sort is that of the numbers. -/
theorem comparator_apply (l r : EReal × BitVec 32) : (comparator_f32_i32_d1 (F := Ideal) l r == 1#1) = decide (l.1 < r.1) := by
  unfold comparator_f32_i32_d1
  have hz : (FloatOps.ofBits (F := Ideal) .f32 0x00000000#32 : EReal) = 0 := Ideal.ofBits_zero_f32
  have hs : ∀ x : EReal, Scalar.select (FloatOps.cmpf (F := Ideal) (φ := .f32) .oeq x 0) (0 : EReal) x = x := by
    intro x
    rw [Ideal.cmpf_def]
    by_cases h : x = 0 <;> simp [Scalar.select, Ideal.cmp, h]
  have hn : ∀ x y z : EReal, Scalar.select (FloatOps.cmpf (F := Ideal) (φ := .f32) .une x x) y z = z := by
    intro x y z
    rw [Ideal.cmpf_def]
    simp [Scalar.select, Ideal.cmp]
  simp only [hz, hs, hn, Ideal.cmpfTotal_def]
  by_cases h : l.1 < r.1 <;> simp [Ideal.cmp, CmpDirection.ordered, h]

theorem byNumber_apply (q : FVec Ideal S4x640 .f32) (t : Fin 640 → EReal) (ht : ∀ k, q (ix2 b k) = t k) (j : Fin 640) :
    byNumber (F := Ideal) q (ix2 b j) = BitVec.ofNat 32 (sortedFrom (fun k k' => decide (t k < t k')) j).val := by
  unfold byNumber Host.sort2
  rw [dif_pos (show 1 < S4x640.rank by decide)]
  have hb : (fun k k' : Fin 640 => comparator_f32_i32_d1 (F := Ideal)
        (q ((ix2 b j : S4x640.Idx).along 1 k), iotaInDim S4x640 32 1 ((ix2 b j : S4x640.Idx).along 1 k))
        (q ((ix2 b j : S4x640.Idx).along 1 k'), iotaInDim S4x640 32 1 ((ix2 b j : S4x640.Idx).along 1 k')) == 1#1)
      = fun k k' => decide (t k < t k') := by
    funext k k'
    rw [along_row, along_row, comparator_apply, ← ht k, ← ht k']
  show iotaInDim S4x640 32 1 ((ix2 b j : S4x640.Idx).along 1 (sortedFrom (fun k k' : Fin 640 => comparator_f32_i32_d1 (F := Ideal)
        (q ((ix2 b j : S4x640.Idx).along 1 k), iotaInDim S4x640 32 1 ((ix2 b j : S4x640.Idx).along 1 k))
        (q ((ix2 b j : S4x640.Idx).along 1 k'), iotaInDim S4x640 32 1 ((ix2 b j : S4x640.Idx).along 1 k')) == 1#1) j)) = _
  rw [hb]
  exact (congrArg (iotaInDim S4x640 32 1) (along_row b j _)).trans (iota_row b _)

theorem order_apply (j : Fin 640) : order s p (ix2 b j) = BitVec.ofNat 32 (choice s p b j).val := by
  unfold order
  rw [takeAll_apply _ _ b j (scored s p b j) ?_]
  · exact byPosition_apply p b _
  · refine byNumber_apply b _ (fun k => - scoreOf s b (placed p b k)) (fun k => ?_) j
    show (- takeAll s (byPosition p) (ix2 b k) : EReal) = _
    rw [takeAll_apply _ _ b k (placed p b k) (byPosition_apply p b k)]
    rfl

/-- A place among the first six hundred, as a place of the row. -/
theorem head_apply (j : Fin 600) : head s p (ix2 b j) = BitVec.ofNat 32 (choice s p b (up j)).val := by
  unfold head
  rw [← order_apply]
  unfold extractStridedSlice
  refine congrArg _ ?_
  funext a
  match a with
  | ⟨0, _⟩ => exact Fin.ext (Nat.zero_add _)
  | ⟨1, _⟩ => exact Fin.ext (Nat.zero_add _)

theorem choice_injective : Function.Injective (choice s p b) := by
  intro i j h
  have h2 : scored s p b i = scored s p b j := sortedFrom_injective (lower p b) h
  exact sortedFrom_injective (higher s p b) h2

/-- Each candidate of the order beats every later one, if no two agree in both score and position. -/
theorem choice_beats (hd : ∀ i j, scoreOf s b i = scoreOf s b j → placeOf p b i = placeOf p b j → i = j) (i j : Fin 640) (hij : i < j) :
    beats (scoreOf s b) (placeOf p b) (choice s p b i) (choice s p b j) = true := by
  have h := sorted_by (fun k => - scoreOf s b (placed p b k)) (higher s p b) (fun _ _ => rfl) hij
  unfold beats
  rw [Bool.or_eq_true, Bool.and_eq_true, decide_eq_true_eq, decide_eq_true_eq]
  rcases h with h | ⟨h, hl⟩
  · exact Or.inl (EReal.neg_lt_neg_iff.mp h)
  · have he : scoreOf s b (choice s p b i) = scoreOf s b (choice s p b j) := neg_inj.mp h
    refine Or.inr ⟨he, ?_⟩
    have h2 := sorted_by (fun k => (placeOf p b k).toInt) (lower p b) (fun x y => by
      unfold lower; rfl) hl
    rcases h2 with h2 | ⟨h2, _⟩
    · exact decide_eq_true h2
    · exact absurd (choice_injective s p b (hd _ _ he (BitVec.eq_of_toInt_eq h2))) hij.ne

end Order

end Cert.Proof.Greedy
-- ==== Proof.GreedyLoop.lean ====
/-
  One visit of the greedy reference's loop, entry by entry, and the kept places after any number of visits.
-/
module

public import proofs.«01_k».proof.Proof.GreedyOrder
public import Idealize.ShloMosaic.Lib.WordCmp

@[expose] public section

set_option maxRecDepth 16384

noncomputable section

namespace Cert.Proof.Greedy

open Cert.GreedyIdeal Cert.GreedyIdeal.Gen Cert.GreedyIdeal.Value
open Idealize.ShloMosaic Idealize.SL.Sem
open Idealize.ShloMosaic.ValueIdx
open Idealize.ShloMosaic.StableHlo
open Idealize.ShloMosaic.StableHlo.Predicate
open Cert.Proof.Choice

/-! ## One visit -/

/-- The place visited: a counter below zero would count from the end. -/
def visited (c : IVec S_ 32) : IVec S_ 32 := select (cmpi .slt c (constantI S_ 32 0#32)) (addi (id c) (constantI S_ 32 600#32)) c

theorem visited_apply (k : ℕ) (hk : k < 1000) (i : S_.Idx) : visited (fun _ => BitVec.ofNat 32 k) i = BitVec.ofNat 32 k := by
  unfold visited
  refine if_neg fun h => ?_
  have h' : IntOp.cmpi .slt (BitVec.ofNat 32 k) (BitVec.ofNat 32 0) = 1#1 := h
  have := (slt_ofNat_iff _ _ (by omega) (by omega)).mp h'
  omega

/-- The visited place's own mark, its pairs, and whether a place is later than it: at every place of the row. -/
def ownMark (K : IVec S4x600 1) (c : IVec S_ 32) : IVec S4x600 1 :=
  broadcastInDim S4x600 ![0, 1] bcast_S4x1_S4x600_0_1 (Host.dynamicSlice S4x1 K
    (fun k => (((![constantI S_ 32 0#32, visited c] : Fin 2 → IVec S_ 32)) k (Shape.Idx.first h_S_)).toInt) sliceFits_S4x600_S4x1)
def ownPairs (P : IVec S4x600x600 1) (c : IVec S_ 32) : IVec S4x600 1 :=
  shapeCast S4x600 (Host.dynamicSlice S4x1x600 P
    (fun k => (((![constantI S_ 32 0#32, visited c, constantI S_ 32 0#32] : Fin 3 → IVec S_ 32)) k (Shape.Idx.first h_S_)).toInt)
    sliceFits_S4x600x600_S4x1x600) shapeCasts_S4x1x600_S4x600
def isLater (c : IVec S_ 32) : IVec S4x600 1 :=
  broadcastInDim S4x600 ![0, 1] bcast_S1x600_S4x600_0_1 (broadcastInDim S1x600 ![1] bcast_S600_S1x600_1
    (cmpi .sgt (iotaInDim S600 32 0) (broadcastInDim S600 ![] bcast_S_S600 (id c))))
/-- What is kept after a visit. -/
def visit (K : IVec S4x600 1) (P : IVec S4x600x600 1) (c : IVec S_ 32) : IVec S4x600 1 :=
  andi K (noti (andi (andi (ownMark K c) (ownPairs P c)) (isLater c)))

theorem row_of (K : IVec S4x600 1) (k : Fin 600) (b : Fin 4) (j : Fin 600) :
    ownMark K (fun _ => BitVec.ofNat 32 k.val) (ix2 b j) = K (ix2 b k) := by
  unfold ownMark
  have hs : S4x600.Slices (![0, k.val] : Fin 2 → ℕ) S4x1 := ⟨rfl, fun a => by
    match a with
    | ⟨0, _⟩ => show 0 + 4 ≤ 4; omega
    | ⟨1, _⟩ => show k.val + 1 ≤ 600; omega⟩
  rw [WordCmp.dynamicSlice_eq_extract S4x1 K _ _ ![0, k.val] hs (fun a => by
    match a with
    | ⟨0, _⟩ => rfl
    | ⟨1, _⟩ =>
      show (visited (fun _ => BitVec.ofNat 32 k.val) (Shape.Idx.first h_S_)).toInt = (k.val : ℤ)
      rw [visited_apply _ (by omega), toInt_ofNat_small _ (by omega)])]
  unfold broadcastInDim extractStridedSlice
  refine congrArg K ?_
  funext a
  match a with
  | ⟨0, _⟩ => exact Fin.ext (Nat.zero_add _)
  | ⟨1, _⟩ => exact Fin.ext (Nat.add_zero _)

theorem pair_of (P : IVec S4x600x600 1) (k : Fin 600) (b : Fin 4) (j : Fin 600) :
    ownPairs P (fun _ => BitVec.ofNat 32 k.val) (ix2 b j) = P (ix3 b k j) := by
  unfold ownPairs
  have hs : S4x600x600.Slices (![0, k.val, 0] : Fin 3 → ℕ) S4x1x600 := ⟨rfl, fun a => by
    match a with
    | ⟨0, _⟩ => show 0 + 4 ≤ 4; omega
    | ⟨1, _⟩ => show k.val + 1 ≤ 600; omega
    | ⟨2, _⟩ => show 0 + 600 ≤ 600; omega⟩
  rw [WordCmp.dynamicSlice_eq_extract S4x1x600 P _ _ ![0, k.val, 0] hs (fun a => by
    match a with
    | ⟨0, _⟩ => rfl
    | ⟨1, _⟩ =>
      show (visited (fun _ => BitVec.ofNat 32 k.val) (Shape.Idx.first h_S_)).toInt = (k.val : ℤ)
      rw [visited_apply _ (by omega), toInt_ofNat_small _ (by omega)]
    | ⟨2, _⟩ => rfl)]
  refine (shapeCast_apply _ _ (ix2 b j) (ix3 b 0 j) ?_).trans ?_
  · rw [Shape.rowMajor_val_two, Shape.rowMajor_val_three]
    show (b.val * 1 + 0) * 600 + j.val = b.val * 600 + j.val
    omega
  · unfold extractStridedSlice
    refine congrArg P ?_
    funext a
    match a with
    | ⟨0, _⟩ => exact Fin.ext (Nat.zero_add _)
    | ⟨1, _⟩ => exact Fin.ext (Nat.add_zero _)
    | ⟨2, _⟩ => exact Fin.ext (Nat.zero_add _)

theorem later_of (k : Fin 600) (b : Fin 4) (j : Fin 600) :
    isLater (fun _ => BitVec.ofNat 32 k.val) (ix2 b j) = BitVec.ofBool (decide (k.val < j.val)) := by
  show IntOp.cmpi .slt (BitVec.ofNat 32 k.val) (BitVec.ofNat 32 j.val) = _
  rcases Nat.lt_or_ge k.val j.val with h | h
  · rw [decide_eq_true h]
    exact (slt_ofNat_iff _ _ (by omega) (by omega)).mpr h
  · rw [decide_eq_false (by omega)]
    have hn : ¬ IntOp.cmpi .slt (BitVec.ofNat 32 k.val) (BitVec.ofNat 32 j.val) = 1#1 := fun e => by
      have := (slt_ofNat_iff _ _ (by omega) (by omega)).mp e
      omega
    revert hn
    generalize IntOp.cmpi .slt (BitVec.ofNat 32 k.val) (BitVec.ofNat 32 j.val) = w
    revert w; decide

theorem visit_apply (K : IVec S4x600 1) (P : IVec S4x600x600 1) (k : Fin 600) (b : Fin 4) (R : Fin 600 → Bool) (Q : Fin 600 → Fin 600 → Bool)
    (hK : ∀ j, K (ix2 b j) = BitVec.ofBool (R j)) (hP : ∀ i j, P (ix3 b i j) = BitVec.ofBool (Q i j)) (j : Fin 600) :
    visit K P (fun _ => BitVec.ofNat 32 k.val) (ix2 b j) = BitVec.ofBool (R j && !((R k && Q k j) && decide (k.val < j.val))) := by
  unfold visit
  show IntOp.andi (K (ix2 b j)) (~~~ (IntOp.andi (IntOp.andi (ownMark K _ (ix2 b j)) (ownPairs P _ (ix2 b j))) (isLater _ (ix2 b j)))) = _
  rw [row_of, pair_of, later_of, hK, hK, hP]
  cases R j <;> cases R k <;> cases Q k j <;> cases decide (k.val < j.val) <;> rfl

/-! ## Any number of visits -/

variable (V0 : Valuation τ sig (Elt Ideal))

theorem step_keep : step_main_v56_7 V0 = visit (V0 (Proc.devRef .tc main_v56_7)) (V0 (Proc.devRef .tc main_v56_4)) (V0 (Proc.devRef .tc main_v56_6)) := rfl

theorem counter_after (k : ℕ) (h0 : V0 (Proc.devRef .tc main_v56_6) = constantI S_ 32 0#32) :
    STEP^[k] V0 (Proc.devRef .tc main_v56_6) = fun _ => BitVec.ofNat 32 k := by
  induction k with
  | zero => exact h0
  | succ k ih =>
    rw [Function.iterate_succ_apply', STEP_main_v56_6]
    unfold step_main_v56_6
    rw [ih]
    funext i
    show BitVec.ofNat 32 k + 1#32 = BitVec.ofNat 32 (k + 1)
    rw [BitVec.ofNat_add]

theorem pairs_after (k : ℕ) : STEP^[k] V0 (Proc.devRef .tc main_v56_4) = V0 (Proc.devRef .tc main_v56_4) := by
  induction k with
  | zero => rfl
  | succ k ih => rw [Function.iterate_succ_apply', STEP_main_v56_4, ih]

theorem keep_after (b : Fin 4) (O : Fin 640 → Fin 640 → Bool) (h0 : V0 (Proc.devRef .tc main_v56_6) = constantI S_ 32 0#32)
    (h1 : V0 (Proc.devRef .tc main_v56_7) = broadcastInDim S4x600 ![] bcast_S_S4x600 (constantI S_ 1 1#1))
    (hP : ∀ i j : Fin 600, (V0 (Proc.devRef .tc main_v56_4) : IVec S4x600x600 1) (ix3 b i j) = BitVec.ofBool (O (up i) (up j))) (k : ℕ) (hk : k ≤ 600) (j : Fin 600) :
    (STEP^[k] V0 (Proc.devRef .tc main_v56_7) : IVec S4x600 1) (ix2 b j) = BitVec.ofBool (kept O k (up j)) := by
  induction k generalizing j with
  | zero =>
    rw [Function.iterate_zero, id, h1]
    refine (word_everywhere bcast_S_S4x600 (constantI S_ 1 1#1) (ix2 b j) 1#1 (fun _ => rfl)).trans ?_
    have : kept O 0 (up j) = true := by
      unfold kept up
      exact decide_eq_true j.isLt
    rw [this]
    rfl
  | succ k ih =>
    rw [Function.iterate_succ_apply', STEP_main_v56_7, step_keep, counter_after _ _ h0, pairs_after]
    have hv := visit_apply (STEP^[k] V0 (Proc.devRef .tc main_v56_7)) (V0 (Proc.devRef .tc main_v56_4)) ⟨k, by omega⟩ b
      (fun j => kept O k (up j)) (fun i j => O (up i) (up j)) (fun j => ih (by omega) j) hP j
    refine hv.trans ?_
    conv_rhs => unfold kept
    rw [dif_pos (show k < 640 by omega)]
    rfl

end Cert.Proof.Greedy
-- ==== Proof.GreedyPairs.lean ====
/-
  The greedy reference's pairwise overlaps, its kept coordinates and its result, entry by entry.
-/
module

public import proofs.«01_k».proof.Proof.GreedyReads
public import proofs.«01_k».proof.Proof.NmsValue
public import Idealize.ShloMosaic.Lib.Pointwise

@[expose] public section

set_option maxRecDepth 16384

noncomputable section

namespace Cert.Proof.Greedy

open Cert.GreedyIdeal Cert.GreedyIdeal.Gen
open Idealize.ShloMosaic
open Cert.SuppressIdeal.Hand (meetOf joinOf overlapOf)

section Pairs

variable (x1 y1 x2 y2 : FVec Ideal S4x600 .f32) (b : Fin 4) (y : Fin 4 → Fin 600 → EReal)
variable (h0 : ∀ j, x1 (ix2 b j) = y 0 j) (h1 : ∀ j, y1 (ix2 b j) = y 1 j) (h2 : ∀ j, x2 (ix2 b j) = y 2 j) (h3 : ∀ j, y2 (ix2 b j) = y 3 j)

include h0 h1 h2 h3 in
theorem meets_apply (i j : Fin 600) : meets x1 y1 x2 y2 (ix3 b i j) = meetOf (fun q => y q i) (fun q => y q j) := by
  pointwise [meets, downs, acrosses, everywhere]
  simp only [h0, h1, h2, h3]
  rfl

include h0 h1 h2 h3 in
theorem joins_apply (i j : Fin 600) : joins x1 y1 x2 y2 (ix3 b i j) = joinOf (fun q => y q i) (fun q => y q j) := by
  have hm := meets_apply x1 y1 x2 y2 b y h0 h1 h2 h3 i j
  pointwise [joins, areas, downs, acrosses]
  simp only [h0, h1, h2, h3, hm]
  rfl

include h0 h1 h2 h3 in
theorem pairs_apply (i j : Fin 600) : pairs x1 y1 x2 y2 (ix3 b i j) = BitVec.ofBool (overlapOf (fun q => y q i) (fun q => y q j)) := by
  have hm := meets_apply x1 y1 x2 y2 b y h0 h1 h2 h3 i j
  have hj := joins_apply x1 y1 x2 y2 b y h0 h1 h2 h3 i j
  pointwise [pairs, overSome, everywhere]
  simp only [hm, hj]
  unfold overlapOf
  rfl

end Pairs

theorem together_apply (k : IVec S4x600 1) (x1 y1 x2 y2 : FVec Ideal S4x600 .f32) (b : Fin 4) (o : Fin 100) (q : Fin 4) (f : Fin 4 → EReal)
    (h0 : takeKept x1 (places k) (ix2 b o) * filled (F := Ideal) k (ix2 b o) = f 0) (h1 : takeKept y1 (places k) (ix2 b o) * filled (F := Ideal) k (ix2 b o) = f 1)
    (h2 : takeKept x2 (places k) (ix2 b o) * filled (F := Ideal) k (ix2 b o) = f 2) (h3 : takeKept y2 (places k) (ix2 b o) * filled (F := Ideal) k (ix2 b o) = f 3) :
    together (keptOf k x1) (keptOf k y1) (keptOf k x2) (keptOf k y2) (ix3 b o q) = f q := by
  fin_cases q
  · pointwise [together, keptOf]
    exact h0
  · pointwise [together, keptOf]
    exact h1
  · pointwise [together, keptOf]
    exact h2
  · pointwise [together, keptOf]
    exact h3

end Cert.Proof.Greedy
-- ==== Proof.GreedyValue.lean ====
/-
  The greedy reference's result: sorted by the marks the kept places come first, so that a place of the result holds the
  kept box before which stand as many others, or zeros.
-/
module

public import proofs.«01_k».proof.Proof.GreedyOrder

@[expose] public section

set_option maxRecDepth 16384

noncomputable section

namespace Cert.Proof.Greedy

open Cert.GreedyIdeal Cert.GreedyIdeal.Gen Cert.GreedyIdeal.Value
open Idealize.ShloMosaic Idealize.SL.Sem
open Idealize.ShloMosaic.ValueIdx
open Idealize.ShloMosaic.StableHlo
open Idealize.ShloMosaic.StableHlo.Predicate
open Cert.Proof.Choice

section Kept

variable (k : IVec S4x600 1) (b : Fin 4) (K : Fin 640 → Bool) (hk : ∀ j : Fin 600, k (ix2 b j) = BitVec.ofBool (K (up j)))

theorem number_apply (j : Fin 600) : broadcastInDim S4x600 ![0, 1] bcast_S1x600_S4x600_0_1
    (broadcastInDim S1x600 ![1] bcast_S600_S1x600_1 (iotaInDim S600 32 0)) (ix2 b j) = BitVec.ofNat 32 j.val := rfl

include hk

theorem marks_apply (j : Fin 600) : marks k (ix2 b j) = BitVec.ofNat 32 (mark K j) := by
  unfold marks mark
  refine (show select k _ _ (ix2 b j) = if k (ix2 b j) = 1#1 then _ else _ from rfl).trans ?_
  rw [hk]
  cases K (up j)
  · exact (if_neg (by decide)).trans ((word_everywhere bcast_S_S4x600 (constantI S_ 32 600#32) (ix2 b j) 600#32 (fun _ => rfl)).trans rfl)
  · exact (if_pos rfl).trans (number_apply b j)

theorem mark_le (j : Fin 600) : mark K j ≤ 600 := by
  have := j.isLt
  unfold mark; split <;> omega

/-- The places of a row by their marks. -/
def sortedMarks (K : Fin 640 → Bool) : Fin 600 → Fin 600 := sortedFrom fun i j => decide (mark K i < mark K j)

omit hk in
theorem along_marks (j i : Fin 600) : (ix2 b j : S4x600.Idx).along 1 i = ix2 b i := by
  funext a; match a with | ⟨0, _⟩ => rfl | ⟨1, _⟩ => rfl

theorem sort_apply (j : Fin 600) : Host.sort S4x600 1 comparator_i32_d1 (marks k) (ix2 b j) = BitVec.ofNat 32 (mark K (sortedMarks K j)) := by
  unfold Host.sort
  rw [dif_pos (show 1 < S4x600.rank by decide)]
  have hb : (fun i i' : Fin 600 => comparator_i32_d1 (marks k ((ix2 b j : S4x600.Idx).along 1 i)) (marks k ((ix2 b j : S4x600.Idx).along 1 i')) == 1#1)
      = fun i i' => decide (mark K i < mark K i') := by
    funext i i'
    rw [along_marks, along_marks, marks_apply k b K hk, marks_apply k b K hk]
    have h1 := mark_le k b K hk i
    have h2 := mark_le k b K hk i'
    have h := slt_ofNat_iff (mark K i) (mark K i') (by omega) (by omega)
    show (IntOp.cmpi .slt _ _ == 1#1) = _
    rw [Bool.eq_iff_iff, beq_iff_eq, decide_eq_true_eq]
    exact h
  show marks k ((ix2 b j : S4x600.Idx).along 1 (sortedFrom (fun i i' : Fin 600 => comparator_i32_d1
    (marks k ((ix2 b j : S4x600.Idx).along 1 i)) (marks k ((ix2 b j : S4x600.Idx).along 1 i')) == 1#1) j)) = _
  rw [hb]
  exact (congrArg (marks k) (along_marks b j _)).trans (marks_apply k b K hk _)

/-- A place of the result as one of the first 600. -/
def wide (o : Fin 100) : Fin 600 := ⟨o.val, by omega⟩

theorem firsts_apply (o : Fin 100) : firsts k (ix2 b o) = BitVec.ofNat 32 (mark K (sortedMarks K (wide o))) := by
  rw [← sort_apply k b K hk]
  unfold firsts extractStridedSlice
  refine congrArg _ ?_
  funext a
  match a with
  | ⟨0, _⟩ => exact Fin.ext (Nat.zero_add _)
  | ⟨1, _⟩ => exact Fin.ext (Nat.zero_add _)

/-- The sorted mark at a place of the result. -/
abbrev markAt (K : Fin 640 → Bool) (o : Fin 100) : ℕ := mark K (sortedMarks K (wide o))

theorem filled_apply (o : Fin 100) : filled (F := Ideal) k (ix2 b o) = if markAt K o < 600 then (1 : EReal) else 0 := by
  have hm := mark_le k b K hk (sortedMarks K (wide o))
  have h : IntOp.cmpi .slt (BitVec.ofNat 32 (mark K (sortedMarks K (wide o)))) 600#32 = 1#1 ↔ markAt K o < 600 :=
    slt_ofNat_iff (markAt K o) 600 (by unfold markAt; omega) (by omega)
  have h600 : broadcastInDim S4x100 ![] bcast_S_S4x100 (constantI S_ 32 600#32) (ix2 b o) = BitVec.ofNat 32 600 :=
    word_everywhere _ _ _ _ fun _ => rfl
  have hf := firsts_apply k b K hk o
  unfold filled
  refine (show (uitofp .f32 (cmpi .slt (firsts k) _) : FVec Ideal S4x100 .f32) (ix2 b o)
    = (((IntOp.cmpi .slt (firsts k (ix2 b o)) (broadcastInDim S4x100 ![] bcast_S_S4x100 (constantI S_ 32 600#32) (ix2 b o))).toNat : ℝ) : EReal)
    from rfl).trans ?_
  rw [hf, h600]
  by_cases hlt : markAt K o < 600
  · rw [if_pos hlt, h.mpr hlt]
    simp
  · rw [if_neg hlt, eq_zero_of_ne_one (fun e => hlt (h.mp e))]
    simp

theorem mark_of_lt (a : Fin 600) (h : mark K a < 600) : mark K a = a.val := by
  unfold mark at *
  split at h
  · rename_i e; exact if_pos e
  · omega

theorem places_apply (o : Fin 100) (ho : markAt K o < 600) : places k (ix2 b o) = BitVec.ofNat 32 (sortedMarks K (wide o)).val := by
  have hf := firsts_apply k b K hk o
  have h599 : broadcastInDim S4x100 ![] bcast_S_S4x100 (constantI S_ 32 599#32) (ix2 b o) = BitVec.ofNat 32 599 :=
    word_everywhere _ _ _ _ fun _ => rfl
  have hv := mark_of_lt k b K hk _ ho
  unfold places
  refine (show minsi (firsts k) _ (ix2 b o)
    = IntOp.minsi (firsts k (ix2 b o)) (broadcastInDim S4x100 ![] bcast_S_S4x100 (constantI S_ 32 599#32) (ix2 b o)) from rfl).trans ?_
  rw [hf, h599, hv]
  unfold IntOp.minsi
  have ht := (sortedMarks K (wide o)).isLt
  by_cases hl : (sortedMarks K (wide o)).val < 599
  · have hs := (slt_ofNat_iff (sortedMarks K (wide o)).val 599 (by omega) (by omega)).mpr hl
    exact if_pos (by simpa [ofBool_eq_one_iff] using hs)
  · have : (sortedMarks K (wide o)).val = 599 := by omega
    rw [this]
    split <;> rfl

/-- One coordinate at a place of the result. -/
theorem kept_apply (hK : ∀ j, K j = true → j.val < 600) (x : FVec Ideal S4x600 .f32) (y : Fin 640 → EReal)
    (hx : ∀ j, x (ix2 b j) = y (up j)) (o : Fin 100) : takeKept x (places k) (ix2 b o) * filled (F := Ideal) k (ix2 b o) = nth K y o.val := by
  have hn := nth_sorted K hK (sortedMarks K) (sortedFrom_injective _) (fun i j hij => by
    rcases sorted_by (fun a => mark K a) (fun i j => decide (mark K i < mark K j)) (fun _ _ => rfl) hij with h | ⟨h, _⟩
    · exact h.le
    · exact h.le) y (wide o)
  refine Eq.trans ?_ hn.symm
  rw [filled_apply k b K hk]
  by_cases h : markAt K o < 600
  · rw [if_pos h, mul_one, takeKept_apply x _ b o _ (places_apply k b K hk o h), hx]
    exact (if_pos h).symm
  · rw [if_neg h, mul_zero]
    exact (if_neg h).symm

end Kept

end Cert.Proof.Greedy
-- ==== Proof.GreedyResult.lean ====
/-
  The greedy reference's run: its result is the listing of the kept boxes of every row, and its arguments end as they were.
-/
module

public import proofs.«01_k».proof.Proof.GreedyKeeps
public import proofs.«01_k».proof.Proof.GreedyLoop
public import proofs.«01_k».proof.Proof.GreedyPairs
public import proofs.«01_k».proof.Proof.GreedyValue

@[expose] public section

set_option maxRecDepth 16384

noncomputable section

namespace Cert.Proof.Greedy

open Cert.GreedyIdeal Cert.GreedyIdeal.Gen Cert.GreedyIdeal.Value
open Idealize.ShloMosaic Idealize.ShloMosaic.TcCoe Idealize.SL.Sem
open Idealize.ShloMosaic.StableHlo
open Cert.Proof.Choice
open Cert.SuppressIdeal.Hand (overlapOf)

section Whole

variable (m : (ℓ : Loc nD τ sig) → Buf (Elt Ideal) ℓ) (c : Dev nD)

/-- What the reference is given, and what it has when it enters its loop and when it has left it. -/
abbrev given : Valuation τ sig (Elt Ideal) := fun r => m (c, r)
abbrev entered : Valuation τ sig (Elt Ideal) := before (given m c)
abbrev left : Valuation τ sig (Elt Ideal) := after condOps (atK m 600 c)

theorem entered_eq : entryContents preI m c = entered m c := rfl

theorem final_eq : finalContents condOps preI bodyI postI 600 m c = behind (left m c) := rfl

theorem keep_left : keepOf (left m c) = (STEP^[600] (entered m c) (Proc.devRef .tc main_v56_7) : IVec S4x600 1) :=
  (cond_keeps (atK m 600 c) main_v56_7 (by decide)).trans (atK_agree m c 600 main_v56_7 (by decide))

/-- The loop writes none of the ordered coordinates. -/
theorem left_keeps {r : Ref sig .tc} (hc : r ∉ condOps_W)
    (h0 : r ∉ while0Ops0_W) (h1 : r ∉ while0Ops0_1_W) (h2 : r ∉ while0Ops0_2_W) (h3 : r ∉ while0Ops0_3_W) :
    left m c (Proc.devRef .tc r) = entered m c (Proc.devRef .tc r) := by
  have hcond := fun V : Valuation τ sig (Elt Ideal) => after_of_writes_sub condOps V condOps_writes hc
  have hbody : ∀ V : Valuation τ sig (Elt Ideal), afterL bodyI V (Proc.devRef .tc r) = V (Proc.devRef .tc r) :=
    afterL_keeps bodyI ⟨fun V => after_of_writes_sub while0Ops0 V while0Ops0_writes h0,
      fun V => after_of_writes_sub while0Ops0_1 V while0Ops0_1_writes h1,
      fun V => after_of_writes_sub while0Ops0_2 V while0Ops0_2_writes h2,
      fun V => after_of_writes_sub while0Ops0_3 V while0Ops0_3_writes h3⟩
  have hk : ∀ k, atK m k c (Proc.devRef .tc r) = entered m c (Proc.devRef .tc r) := by
    intro k
    induction k with
    | zero => rfl
    | succ k ih => exact (hbody _).trans ((hcond _).trans ih)
  exact (hcond _).trans (hk 600)

section Row

variable (b : Fin 4)

/-- A row of the coordinates given, and the row's order. -/
def coordOf : Fin 4 → Fin 640 → EReal
  | 0 => fun k => (m ((c.tc : Thread nD τ).loc main_arg2) : FVec Ideal S4x640 .f32) (ValueIdx.ix2 b k)
  | 1 => fun k => (m ((c.tc : Thread nD τ).loc main_arg3) : FVec Ideal S4x640 .f32) (ValueIdx.ix2 b k)
  | 2 => fun k => (m ((c.tc : Thread nD τ).loc main_arg4) : FVec Ideal S4x640 .f32) (ValueIdx.ix2 b k)
  | 3 => fun k => (m ((c.tc : Thread nD τ).loc main_arg5) : FVec Ideal S4x640 .f32) (ValueIdx.ix2 b k)
def orderOf : Fin 640 → Fin 640 := choice (scores (given m c)) (positions (given m c)) b

/-- The pairs of the order that overlap, and what is kept. -/
def overOf : Fin 640 → Fin 640 → Bool :=
  fun i j => overlapOf (fun e => coordOf m c b e (orderOf m c b i)) (fun e => coordOf m c b e (orderOf m c b j))
def keptRow : Fin 640 → Bool := kept (overOf m c b) 600

theorem ordered_apply (x : FVec Ideal S4x640 .f32) (j : Fin 600) :
    takeFirst x (head (scores (given m c)) (positions (given m c))) (ValueIdx.ix2 b j) = x (ValueIdx.ix2 b (orderOf m c b (up j))) :=
  takeFirst_apply x _ b j _ (head_apply _ _ b j)

theorem pairs_entered (i j : Fin 600) : (entered m c (Proc.devRef .tc main_v56_4) : IVec S4x600x600 1) (ValueIdx.ix3 b i j)
    = BitVec.ofBool (overOf m c b (up i) (up j)) := by
  rw [entered, before_pairs, ← ix3_eq_valueIdx]
  refine (pairs_apply _ _ _ _ b (fun q j => coordOf m c b q (orderOf m c b (up j))) (fun j => ?_) (fun j => ?_) (fun j => ?_) (fun j => ?_) i j).trans rfl
  · rw [ix2_eq_valueIdx]; exact ordered_apply m c b _ j
  · rw [ix2_eq_valueIdx]; exact ordered_apply m c b _ j
  · rw [ix2_eq_valueIdx]; exact ordered_apply m c b _ j
  · rw [ix2_eq_valueIdx]; exact ordered_apply m c b _ j

theorem keep_apply (j : Fin 600) : keepOf (left m c) (ValueIdx.ix2 b j) = BitVec.ofBool (keptRow m c b (up j)) := by
  rw [keep_left]
  exact keep_after (entered m c) b (overOf m c b) (before_ctr _) (before_keep _) (pairs_entered m c b) 600 le_rfl j

theorem left_v6 : left m c (Proc.devRef .tc main_v6) = takeFirst (given m c (Proc.devRef .tc main_arg2)) (head (scores (given m c)) (positions (given m c))) :=
  (left_keeps m c (by decide) (by decide) (by decide) (by decide) (by decide)).trans (before_v6 _)
theorem left_v7 : left m c (Proc.devRef .tc main_v7) = takeFirst (given m c (Proc.devRef .tc main_arg3)) (head (scores (given m c)) (positions (given m c))) :=
  (left_keeps m c (by decide) (by decide) (by decide) (by decide) (by decide)).trans (before_v7 _)
theorem left_v8 : left m c (Proc.devRef .tc main_v8) = takeFirst (given m c (Proc.devRef .tc main_arg4)) (head (scores (given m c)) (positions (given m c))) :=
  (left_keeps m c (by decide) (by decide) (by decide) (by decide) (by decide)).trans (before_v8 _)
theorem left_v9 : left m c (Proc.devRef .tc main_v9) = takeFirst (given m c (Proc.devRef .tc main_arg5)) (head (scores (given m c)) (positions (given m c))) :=
  (left_keeps m c (by decide) (by decide) (by decide) (by decide) (by decide)).trans (before_v9 _)

theorem keptRow_lt (j : Fin 640) (h : keptRow m c b j = true) : j.val < 600 := by
  unfold keptRow at h
  exact kept_lt (overOf m c b) 600 j h

theorem listed_apply (x : FVec Ideal S4x640 .f32) (q : Fin 4) (hq : ∀ k, x (ValueIdx.ix2 b k) = coordOf m c b q k) (o : Fin 100) :
    takeKept (takeFirst x (head (scores (given m c)) (positions (given m c)))) (places (keepOf (left m c))) (ValueIdx.ix2 b o)
        * filled (F := Ideal) (keepOf (left m c)) (ValueIdx.ix2 b o)
      = nth (keptRow m c b) (fun j => coordOf m c b q (orderOf m c b j)) o.val :=
  kept_apply (keepOf (left m c)) b (keptRow m c b) (keep_apply m c b) (keptRow_lt m c b)
    (takeFirst x (head (scores (given m c)) (positions (given m c)))) (fun j => coordOf m c b q (orderOf m c b j))
    (fun j => (ordered_apply m c b x j).trans (hq _)) o

/-- The result at a place of a row. -/
theorem final_apply (o : Fin 100) (q : Fin 4) : (finalContents condOps preI bodyI postI 600 m c (Proc.devRef .tc main_v79) : FVec Ideal S4x100x4 .f32) (ix3 b o q)
    = nth (keptRow m c b) (fun j => coordOf m c b q (orderOf m c b j)) o.val := by
  rw [final_eq, behind_result, left_v6, left_v7, left_v8, left_v9]
  refine together_apply _ _ _ _ _ b o q (fun q => nth (keptRow m c b) (fun j => coordOf m c b q (orderOf m c b j)) o.val) ?_ ?_ ?_ ?_
  · rw [ix2_eq_valueIdx]; exact listed_apply m c b _ 0 (fun _ => rfl) o
  · rw [ix2_eq_valueIdx]; exact listed_apply m c b _ 1 (fun _ => rfl) o
  · rw [ix2_eq_valueIdx]; exact listed_apply m c b _ 2 (fun _ => rfl) o
  · rw [ix2_eq_valueIdx]; exact listed_apply m c b _ 3 (fun _ => rfl) o

end Row

end Whole

/-- The run: the result, and the arguments as they were. -/
theorem run_greedy (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v79) = finalContents condOps preI bodyI postI 600 m c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c =>
    ⟨h c main_v79 rfl, (h c main_arg0 rfl).trans (final_keeps (by decide) m c), (h c main_arg1 rfl).trans (final_keeps (by decide) m c),
      (h c main_arg2 rfl).trans (final_keeps (by decide) m c), (h c main_arg3 rfl).trans (final_keeps (by decide) m c),
      (h c main_arg4 rfl).trans (final_keeps (by decide) m c), (h c main_arg5 rfl).trans (final_keeps (by decide) m c)⟩) (run_fold m g)

end Cert.Proof.Greedy
-- ==== Proof.NmsClaims.lean ====
/-
  The suppression kernel against the greedy reference: both list, of every row, the kept boxes in the order of the
  candidates, so their results agree.
-/
module

public import proofs.«01_k».proof.Defs
public import proofs.«01_k».proof.Proof.NmsResult
public import proofs.«01_k».proof.Proof.GreedyResult
public import proofs.«01_k».proof.Proof.Gen.Pre_candidates_differ
public import proofs.«01_k».proof.Proof.Gen.Suppress.Frame
public import proofs.«01_k».proof.Proof.Gen.Greedy
public import Idealize.ShloMosaic.Lib.ReduceAll
public import Idealize.ShloMosaic.Lib.Pointwise

@[expose] public section

set_option maxRecDepth 16384

noncomputable section

namespace Cert.Proof.Suppression

open Idealize.ShloMosaic Idealize.ShloMosaic.TcCoe Idealize.SL.Sem
open Idealize.ShloMosaic.StableHlo
open Cert.Proof.Choice
open Cert.SuppressIdeal.Hand (overlapOf scoreRow placeRow boxRow)

/-! ## The precondition -/

section Differ

open Cert.Pre_candidates_differ Cert.Pre_candidates_differ.Facts

variable (s : FVec Ideal S4x640 .f32) (p : IVec S4x640 32)

/-- Which pairs of candidates agree in score and position, and which are one candidate. -/
def same : IVec S4x640x640 1 :=
  andi (cmpf .oeq (broadcastInDim S4x640x640 ![0, 1, 2] bcast_S4x640x1_S4x640x640_0_1_2 (broadcastInDim S4x640x1 ![0, 1] bcast_S4x640_S4x640x1_0_1 s))
      (broadcastInDim S4x640x640 ![0, 1, 2] bcast_S4x1x640_S4x640x640_0_1_2 (broadcastInDim S4x1x640 ![0, 2] bcast_S4x640_S4x1x640_0_2 s)))
    (cmpi .eq (broadcastInDim S4x640x640 ![0, 1, 2] bcast_S4x640x1_S4x640x640_0_1_2 (broadcastInDim S4x640x1 ![0, 1] bcast_S4x640_S4x640x1_0_1 p))
      (broadcastInDim S4x640x640 ![0, 1, 2] bcast_S4x1x640_S4x640x640_0_1_2 (broadcastInDim S4x1x640 ![0, 2] bcast_S4x640_S4x1x640_0_2 p)))
def diagonal : IVec S4x640x640 1 :=
  broadcastInDim S4x640x640 ![0, 1, 2] bcast_S1x640x640_S4x640x640_0_1_2 (broadcastInDim S1x640x640 ![1, 2] bcast_S640x640_S1x640x640_1_2
    (cmpi .eq (addi (iotaInDim S640x640 32 0) (broadcastInDim S640x640 ![] bcast_S_S640x640 (constantI S_ 32 0#32))) (iotaInDim S640x640 32 1)))

theorem same_apply (b : Fin 4) (i j : Fin 640) (hs : s (ix2 b i) = s (ix2 b j)) (hp : p (ix2 b i) = p (ix2 b j)) : same s p (ix3 b i j) = 1#1 := by
  pointwise [same]
  rw [hs, hp]
  simp [IntOp.cmpi, IntOp.andi, Ideal.cmpf_def, Ideal.cmp]

theorem diagonal_apply (b : Fin 4) (i j : Fin 640) (h : diagonal (ix3 b i j) = 1#1) : i = j := by
  have e : diagonal (ix3 b i j) = IntOp.cmpi .eq (IntOp.addi (BitVec.ofNat 32 i.val) 0#32) (BitVec.ofNat 32 j.val) := by
    pointwise [diagonal]
  rw [e] at h
  have hi := i.isLt
  have hj := j.isLt
  have h' : BitVec.ofNat 32 i.val = BitVec.ofNat 32 j.val := by
    have h2 := StableHlo.Predicate.cmpi_eq_iff.mp h
    simpa [IntOp.addi] using h2
  have := congrArg BitVec.toNat h'
  simp only [BitVec.toNat_ofNat] at this
  exact Fin.ext (by omega)

/-- No two candidates of a row agree in both score and position. -/
theorem differ_read (x1 y1 x2 y2 : FVec Ideal S4x640 .f32)
    (h : Cert.Pre_candidates_differ.fn s p x1 y1 x2 y2 = fun _ => 1#1) (b : Fin 4) (i j : Fin 640)
    (hs : s (ix2 b i) = s (ix2 b j)) (hp : p (ix2 b i) = p (ix2 b j)) : i = j := by
  have h' : Host.reduce IntOp.andi (ori (noti (same s p)) diagonal) (constantI S_ 1 1#1) reducesTo_S4x640x640_S_d0_1_2 h_S_ = fun _ => 1#1 := h
  haveI : Subsingleton S_.Idx := ⟨fun a b => funext fun i => i.elim0⟩
  have e := Host.reduce_andi_all _ _ _ _ _ (congrFun h' (fun i => i.elim0)) (ix3 b i j)
  have e' : IntOp.ori (~~~ (same s p (ix3 b i j))) (diagonal (ix3 b i j)) = 1#1 := e
  rw [same_apply s p b i j hs hp] at e'
  refine diagonal_apply b i j ?_
  simpa [IntOp.ori] using e'

end Differ

/-! ## The two results -/

section Agree

variable (m : (ℓ : Loc Cert.SuppressIdeal.nD Cert.SuppressIdeal.τ Cert.SuppressIdeal.sig) → Buf (Elt Ideal) ℓ)
  (m' : (ℓ : Loc Cert.GreedyIdeal.nD Cert.GreedyIdeal.τ Cert.GreedyIdeal.sig) → Buf (Elt Ideal) ℓ) (c : Dev Cert.SuppressIdeal.nD)
  (hp : Cert.Pre_candidates_differ.fn (F := Ideal)
    (m ((c.tc : Thread Cert.SuppressIdeal.nD Cert.SuppressIdeal.τ).loc Cert.SuppressIdeal.main_arg0))
    (m ((c.tc : Thread Cert.SuppressIdeal.nD Cert.SuppressIdeal.τ).loc Cert.SuppressIdeal.main_arg1))
    (m ((c.tc : Thread Cert.SuppressIdeal.nD Cert.SuppressIdeal.τ).loc Cert.SuppressIdeal.main_arg2))
    (m ((c.tc : Thread Cert.SuppressIdeal.nD Cert.SuppressIdeal.τ).loc Cert.SuppressIdeal.main_arg3))
    (m ((c.tc : Thread Cert.SuppressIdeal.nD Cert.SuppressIdeal.τ).loc Cert.SuppressIdeal.main_arg4))
    (m ((c.tc : Thread Cert.SuppressIdeal.nD Cert.SuppressIdeal.τ).loc Cert.SuppressIdeal.main_arg5)) = (fun _ => 1#1))
  (ha : m' ((c.tc : Thread Cert.GreedyIdeal.nD Cert.GreedyIdeal.τ).loc Cert.GreedyIdeal.main_arg0) = m ((c.tc : Thread Cert.SuppressIdeal.nD Cert.SuppressIdeal.τ).loc Cert.SuppressIdeal.main_arg0)
    ∧ m' ((c.tc : Thread Cert.GreedyIdeal.nD Cert.GreedyIdeal.τ).loc Cert.GreedyIdeal.main_arg1) = m ((c.tc : Thread Cert.SuppressIdeal.nD Cert.SuppressIdeal.τ).loc Cert.SuppressIdeal.main_arg1)
    ∧ m' ((c.tc : Thread Cert.GreedyIdeal.nD Cert.GreedyIdeal.τ).loc Cert.GreedyIdeal.main_arg2) = m ((c.tc : Thread Cert.SuppressIdeal.nD Cert.SuppressIdeal.τ).loc Cert.SuppressIdeal.main_arg2)
    ∧ m' ((c.tc : Thread Cert.GreedyIdeal.nD Cert.GreedyIdeal.τ).loc Cert.GreedyIdeal.main_arg3) = m ((c.tc : Thread Cert.SuppressIdeal.nD Cert.SuppressIdeal.τ).loc Cert.SuppressIdeal.main_arg3)
    ∧ m' ((c.tc : Thread Cert.GreedyIdeal.nD Cert.GreedyIdeal.τ).loc Cert.GreedyIdeal.main_arg4) = m ((c.tc : Thread Cert.SuppressIdeal.nD Cert.SuppressIdeal.τ).loc Cert.SuppressIdeal.main_arg4)
    ∧ m' ((c.tc : Thread Cert.GreedyIdeal.nD Cert.GreedyIdeal.τ).loc Cert.GreedyIdeal.main_arg5) = m ((c.tc : Thread Cert.SuppressIdeal.nD Cert.SuppressIdeal.τ).loc Cert.SuppressIdeal.main_arg5))

open Cert.Proof.Greedy (scoreOf placeOf coordOf orderOf given final_apply choice_injective choice_beats)

include ha

theorem score_eq (b : Fin 4) : scoreOf (Cert.Proof.Greedy.scores (given m' c)) b = scoreRow c m b := by
  funext k
  unfold scoreOf scoreRow
  rw [ix2_eq_valueIdx]
  exact congrFun ha.1 _

theorem place_eq (b : Fin 4) : placeOf (Cert.Proof.Greedy.positions (given m' c)) b = placeRow c m b := by
  funext k
  unfold placeOf placeRow
  rw [ix2_eq_valueIdx]
  exact congrFun ha.2.1 _

theorem box_eq (b : Fin 4) (q : Fin 4) : coordOf m' c b q = boxRow c m b q := by
  obtain ⟨-, -, h2, h3, h4, h5⟩ := ha
  funext k
  match q with
  | 0 => exact (congrFun h2 _).trans (congrArg (m ((c.tc : Thread Cert.SuppressIdeal.nD Cert.SuppressIdeal.τ).loc Cert.SuppressIdeal.main_arg2) : FVec Ideal Cert.SuppressIdeal.S4x640 .f32) (ix2_eq_valueIdx b k).symm)
  | 1 => exact (congrFun h3 _).trans (congrArg (m ((c.tc : Thread Cert.SuppressIdeal.nD Cert.SuppressIdeal.τ).loc Cert.SuppressIdeal.main_arg3) : FVec Ideal Cert.SuppressIdeal.S4x640 .f32) (ix2_eq_valueIdx b k).symm)
  | 2 => exact (congrFun h4 _).trans (congrArg (m ((c.tc : Thread Cert.SuppressIdeal.nD Cert.SuppressIdeal.τ).loc Cert.SuppressIdeal.main_arg4) : FVec Ideal Cert.SuppressIdeal.S4x640 .f32) (ix2_eq_valueIdx b k).symm)
  | 3 => exact (congrFun h5 _).trans (congrArg (m ((c.tc : Thread Cert.SuppressIdeal.nD Cert.SuppressIdeal.τ).loc Cert.SuppressIdeal.main_arg5) : FVec Ideal Cert.SuppressIdeal.S4x640 .f32) (ix2_eq_valueIdx b k).symm)

include hp

theorem order_beats (b : Fin 4) (i j : Fin 640) (hij : i < j) :
    beats (scoreRow c m b) (placeRow c m b) (orderOf m' c b i) (orderOf m' c b j) = true := by
  rw [← score_eq m m' c ha b, ← place_eq m m' c ha b]
  refine choice_beats _ _ b (fun i j hs hq => ?_) i j hij
  rw [score_eq m m' c ha b] at hs
  rw [place_eq m m' c ha b] at hq
  exact differ_read _ _ _ _ _ _ hp b i j hs hq

/-- What the kernel leaves, as an array. -/
abbrev left : FVec Ideal Cert.SuppressIdeal.S4x100x4 .f32 :=
  extractStridedSlice Cert.SuppressIdeal.S4x100x4 ![0, 0, 0] (Cert.SuppressIdeal.Hand.outAll (Cert.SuppressIdeal.Hand.allOverlaps m c) (Cert.SuppressIdeal.Hand.allBoxes m c))
    Cert.SuppressIdeal.Gen.slices_S4x104x4_S4x100x4_0_0_0

theorem results_eq : (finalContents Cert.GreedyIdeal.Value.condOps Cert.GreedyIdeal.Value.preI Cert.GreedyIdeal.Value.bodyI Cert.GreedyIdeal.Value.postI 600 m' c
    (Proc.devRef .tc Cert.GreedyIdeal.main_v79) : FVec Ideal Cert.SuppressIdeal.S4x100x4 .f32) = left m c := by
  have h : ∀ (b : Fin 4) (o : Fin 100) (q : Fin 4), (finalContents Cert.GreedyIdeal.Value.condOps Cert.GreedyIdeal.Value.preI Cert.GreedyIdeal.Value.bodyI
      Cert.GreedyIdeal.Value.postI 600 m' c (Proc.devRef .tc Cert.GreedyIdeal.main_v79) : FVec Ideal Cert.SuppressIdeal.S4x100x4 .f32) (ix3 b o q) = left m c (ix3 b o q) := by
    intro b o q
    refine (final_apply m' c b o q).trans ?_
    refine Eq.trans ?_ (Cert.SuppressIdeal.Hand.result_apply c m b (orderOf m' c b) (choice_injective _ _ _) (order_beats m m' c hp ha b) o q).symm
    have ht : Cert.SuppressIdeal.k0_t1_loop.trips = 600 := by decide
    unfold Cert.Proof.Greedy.keptRow Cert.Proof.Greedy.overOf
    simp only [box_eq m m' c ha, ht]
  funext x
  have hx : x = ix3 (x 0) (x 1) (x 2) := by
    funext a; match a with | ⟨0, _⟩ => rfl | ⟨1, _⟩ => rfl | ⟨2, _⟩ => rfl
  rw [hx]
  exact h (x 0) (x 1) (x 2)

end Agree

/-! ## The claims -/

/-- The printed program and its reading at the ideal numbers are one text, so one run serves both. -/
theorem labels_eq {F : FTy → Type} [FloatOps F] : Cert.Suppress.defs₀ (F := F) = Cert.SuppressIdeal.defs₀ (F := F) := by
  unfold Cert.Suppress.defs₀ Cert.SuppressIdeal.defs₀
  refine congrArg Defs.onTc ?_
  funext l a
  match l, a with
  | 0, (t, s) => rfl
  | ⟨_ + 1, h⟩, _ => exact absurd h (Nat.not_lt.2 (Nat.le_add_left _ _))

theorem defs_eq {F : FTy → Type} [FloatOps F] : Cert.Suppress.defs (F := F) = Cert.SuppressIdeal.defs (F := F) :=
  congrArg (Pipeline.defs Cert.SuppressIdeal.pcfgs) labels_eq

theorem frame_suppress : Cert.quiescent_Suppress (hSuppress := Cert.Suppress.Gen.facts) := fun m ρ _ => by
  rw [defs_eq]
  refine (θ_run (Cert.SuppressIdeal.defs (F := Bits)) _ _).mono
    (fun _ h => ⟨fun c => ?_, h.2⟩) (Cert.SuppressIdeal.Hand.run_result (F := Bits) m ρ)
  obtain ⟨_, a0, a1, a2, a3, a4, a5⟩ := h.1 c
  exact ⟨a0, a1, a2, a3, a4, a5⟩

theorem frame_suppressIdeal : Cert.quiescent_SuppressIdeal (hSuppressIdeal := Cert.SuppressIdeal.Gen.facts) := fun m ρ _ =>
  (θ_run (Cert.SuppressIdeal.defs (F := Ideal)) _ _).mono (fun _ h => ⟨fun c => (h.1 c).2, h.2⟩)
    (Cert.SuppressIdeal.Hand.run_result (F := Ideal) m ρ)

theorem frame_suppressIdeal_differ : Cert.quiescent_SuppressIdeal_pre_candidates_differ (hSuppressIdeal := Cert.SuppressIdeal.Gen.facts)
    (hPre_candidates_differ := Cert.Pre_candidates_differ.Gen.facts) := fun m ρ _ => frame_suppressIdeal m ρ trivial

theorem frame_greedyIdeal : Cert.quiescent_GreedyIdeal (hGreedyIdeal := Cert.GreedyIdeal.Gen.facts) := fun m ρ _ =>
  Cert.Proof.Greedy.quiet (F := Ideal) m ρ

theorem frame_greedyIdeal_differ : Cert.quiescent_GreedyIdeal_pre_candidates_differ (hGreedyIdeal := Cert.GreedyIdeal.Gen.facts)
    (hPre_candidates_differ := Cert.Pre_candidates_differ.Gen.facts) := fun m ρ _ => frame_greedyIdeal m ρ trivial

theorem frame_greedy : Cert.quiescent_Greedy (hGreedy := Cert.Greedy.Gen.facts) := fun m ρ _ =>
  Cert.Proof.Greedy.quiet (F := Bits) m ρ

theorem algebraic : Cert.algebraic_SuppressIdeal_GreedyIdeal_pre_candidates_differ (hSuppressIdeal := Cert.SuppressIdeal.Gen.facts)
    (hGreedyIdeal := Cert.GreedyIdeal.Gen.facts) (hPre_candidates_differ := Cert.Pre_candidates_differ.Gen.facts) := fun m ρ m' ρ' hp ha =>
  ⟨fun c => left m c,
    (θ_run (Cert.SuppressIdeal.defs (F := Ideal)) _ _).mono (fun _ h => h.1) (Cert.SuppressIdeal.Hand.run_result (F := Ideal) m ρ),
    (θ_run (Cert.GreedyIdeal.defs (F := Ideal)) _ _).mono (fun _ h c => ⟨(h c).1.trans (results_eq m m' c (hp c) (ha c)), (h c).2⟩)
      (Cert.Proof.Greedy.run_greedy m' ρ')⟩

end Cert.Proof.Suppression
-- ==== Proof.DenseSpec.lean ====
/-
  The convolution and the boxes in plain sums: a picture with a rim of zeros, the nine taps of a pixel, the two heads and
  the corners of a box, and each shifted and masked row of the flattened picture as a tap.
-/
module

public import Idealize.ShloMosaic.Lib.Pointwise

@[expose] public section

set_option maxRecDepth 16384

noncomputable section

namespace Cert.Proof.Dense

open Idealize.ShloMosaic Finset

/-- A picture of many channels with a rim of zeros, a pixel wide. -/
def rim (f : Fin 384 → Fin 32 → Fin 32 → EReal) (c : Fin 384) (i j : ℕ) : EReal :=
  if h : (1 ≤ i ∧ i - 1 < 32) ∧ 1 ≤ j ∧ j - 1 < 32 then f c ⟨i - 1, h.1.2⟩ ⟨j - 1, h.2.2⟩ else 0

/-- One tap of a pixel: the channels of the neighbour times their weights. -/
def tap (f : Fin 384 → Fin 32 → Fin 32 → EReal) (w : Fin 384 → Fin 9 → EReal) (y x : ℕ) (k : Fin 9) : EReal :=
  ∑ c, rim f c (y + k.val / 3) (x + k.val % 3) * w c k

/-- The convolution at a pixel, by channels and taps, and the same by taps. -/
def conv (f : Fin 384 → Fin 32 → Fin 32 → EReal) (w : Fin 384 → Fin 9 → EReal) (y x : ℕ) : EReal :=
  ∑ c, ∑ k : Fin 9, rim f c (y + k.val / 3) (x + k.val % 3) * w c k

theorem conv_eq_taps (f : Fin 384 → Fin 32 → Fin 32 → EReal) (w : Fin 384 → Fin 9 → EReal) (y x : ℕ) :
    conv f w y x = tap f w y x 0 + tap f w y x 1 + tap f w y x 2 + tap f w y x 3 + tap f w y x 4 + tap f w y x 5 + tap f w y x 6
      + tap f w y x 7 + tap f w y x 8 := by
  unfold conv
  rw [sum_comm]
  show ∑ k : Fin 9, tap f w y x k = _
  simp only [Fin.sum_univ_succ, Fin.sum_univ_zero, add_zero]
  simp only [← add_assoc]
  rfl

/-- A pixel's hidden numbers, and a head's number of them. -/
def hidden (f : Fin 384 → Fin 32 → Fin 32 → EReal) (w : Fin 256 → Fin 384 → Fin 9 → EReal) (bias : Fin 256 → EReal) (y x : ℕ) (o : Fin 256) : EReal :=
  max (conv f (w o) y x + bias o) 0
def head (h : Fin 256 → EReal) (row : Fin 256 → EReal) (bias : EReal) : EReal := ∑ o, h o * row o + bias

/-- The lower and the upper end of a box along one axis: the anchor's centre moved and its extent scaled, then clipped. -/
def centre (ctr size d : EReal) : EReal := ctr + d * size
def extent (size d : EReal) : EReal := size * Ideal.exp d
def half : EReal := Ideal.ofBits FTy.f32 1056964608#32
def lower (ctr size d e hi : EReal) : EReal := min (max (centre ctr size d - half * extent size e) 0) hi
def upper (ctr size d e hi : EReal) : EReal := min (max (centre ctr size d + half * extent size e) 0) hi

/-! ## The rows of the flattened picture as taps -/

/-- The row and the column of a pixel of the flattened picture. -/
def rowOf (q : Fin 1024) : Fin 32 := ⟨q.val / 32, by have := q.isLt; omega⟩
def columnOf (q : Fin 1024) : Fin 32 := ⟨q.val % 32, by have := q.isLt; omega⟩

section taps
variable (f : Fin 384 → Fin 32 → Fin 32 → EReal) (X : Fin 1024 → Fin 384 → EReal)
  (hX : ∀ (q : Fin 1024) c, X q c = f c (rowOf q) (columnOf q)) (p : Fin 1024) (c : Fin 384)
include hX

theorem tap0 (h' : ∀ _ : ¬ p.val < 33, p.val - 33 < 1024) : (if h : p.val < 33 then 0 else X ⟨p.val - 33, h' h⟩ c) * (if 1 ≤ p.val % 32 then 1 else 0) = rim f c (p.val / 32 + 0) (p.val % 32 + 0) := by
  unfold rim; simp only [hX, rowOf, columnOf]
  split_ifs <;> first | (exfalso; omega) | ((try simp only [mul_one, mul_zero, zero_mul]) <;> (try (congr 1 <;> exact Fin.ext (by show _ = _; simp only []; omega))))
theorem tap1 (h' : ∀ _ : ¬ p.val < 32, p.val - 32 < 1024) : (if h : p.val < 32 then 0 else X ⟨p.val - 32, h' h⟩ c) = rim f c (p.val / 32 + 0) (p.val % 32 + 1) := by
  unfold rim; simp only [hX, rowOf, columnOf]
  split_ifs <;> first | (exfalso; omega) | ((try simp only [mul_one, mul_zero, zero_mul]) <;> (try (congr 1 <;> exact Fin.ext (by show _ = _; simp only []; omega))))
theorem tap2 (h' : ∀ _ : ¬ p.val < 31, p.val - 31 < 1024) : (if h : p.val < 31 then 0 else X ⟨p.val - 31, h' h⟩ c) * (if p.val % 32 ≤ 30 then 1 else 0) = rim f c (p.val / 32 + 0) (p.val % 32 + 2) := by
  unfold rim; simp only [hX, rowOf, columnOf]
  split_ifs <;> first | (exfalso; omega) | ((try simp only [mul_one, mul_zero, zero_mul]) <;> (try (congr 1 <;> exact Fin.ext (by show _ = _; simp only []; omega))))
theorem tap3 (h' : ∀ _ : ¬ p.val < 1, p.val - 1 < 1024) : (if h : p.val < 1 then 0 else X ⟨p.val - 1, h' h⟩ c) * (if 1 ≤ p.val % 32 then 1 else 0) = rim f c (p.val / 32 + 1) (p.val % 32 + 0) := by
  unfold rim; simp only [hX, rowOf, columnOf]
  split_ifs <;> first | (exfalso; omega) | ((try simp only [mul_one, mul_zero, zero_mul]) <;> (try (congr 1 <;> exact Fin.ext (by show _ = _; simp only []; omega))))
theorem tap4 : X p c = rim f c (p.val / 32 + 1) (p.val % 32 + 1) := by
  unfold rim; simp only [hX, rowOf, columnOf]
  split_ifs <;> first | (exfalso; omega) | ((try simp only [mul_one, mul_zero, zero_mul]) <;> (try (congr 1 <;> exact Fin.ext (by show _ = _; simp only []; omega))))
theorem tap5 (h' : ∀ _ : p.val < 1023, 1 + p.val < 1024) : (if h : p.val < 1023 then X ⟨1 + p.val, h' h⟩ c else 0) * (if p.val % 32 ≤ 30 then 1 else 0) = rim f c (p.val / 32 + 1) (p.val % 32 + 2) := by
  unfold rim; simp only [hX, rowOf, columnOf]
  split_ifs <;> first | (exfalso; omega) | ((try simp only [mul_one, mul_zero, zero_mul]) <;> (try (congr 1 <;> exact Fin.ext (by show _ = _; simp only []; omega))))
theorem tap6 (h' : ∀ _ : p.val < 993, 31 + p.val < 1024) : (if h : p.val < 993 then X ⟨31 + p.val, h' h⟩ c else 0) * (if 1 ≤ p.val % 32 then 1 else 0) = rim f c (p.val / 32 + 2) (p.val % 32 + 0) := by
  unfold rim; simp only [hX, rowOf, columnOf]
  split_ifs <;> first | (exfalso; omega) | ((try simp only [mul_one, mul_zero, zero_mul]) <;> (try (congr 1 <;> exact Fin.ext (by show _ = _; simp only []; omega))))
theorem tap7 (h' : ∀ _ : p.val < 992, 32 + p.val < 1024) : (if h : p.val < 992 then X ⟨32 + p.val, h' h⟩ c else 0) = rim f c (p.val / 32 + 2) (p.val % 32 + 1) := by
  unfold rim; simp only [hX, rowOf, columnOf]
  split_ifs <;> first | (exfalso; omega) | ((try simp only [mul_one, mul_zero, zero_mul]) <;> (try (congr 1 <;> exact Fin.ext (by show _ = _; simp only []; omega))))
theorem tap8 (h' : ∀ _ : p.val < 991, 33 + p.val < 1024) : (if h : p.val < 991 then X ⟨33 + p.val, h' h⟩ c else 0) * (if p.val % 32 ≤ 30 then 1 else 0) = rim f c (p.val / 32 + 2) (p.val % 32 + 2) := by
  unfold rim; simp only [hX, rowOf, columnOf]
  split_ifs <;> first | (exfalso; omega) | ((try simp only [mul_one, mul_zero, zero_mul]) <;> (try (congr 1 <;> exact Fin.ext (by show _ = _; simp only []; omega))))
end taps

/-! ## The masks -/

theorem number_of_bit (b : Bool) : (FloatOps.sitofp (F := Ideal) FTy.f32 (BitVec.setWidth 32 (BitVec.ofBool b)) : EReal) = if b = true then 1 else 0 := by
  cases b
  · show (((BitVec.setWidth 32 (BitVec.ofBool false)).toInt : ℝ) : EReal) = _
    rw [show (BitVec.setWidth 32 (BitVec.ofBool false)).toInt = 0 by decide]; simp
  · show (((BitVec.setWidth 32 (BitVec.ofBool true)).toInt : ℝ) : EReal) = _
    rw [show (BitVec.setWidth 32 (BitVec.ofBool true)).toInt = 1 by decide]; simp

/-- A pixel's place in its row. -/
theorem column_of (n : ℕ) (h : n < 1024) : IntOp.andi (BitVec.ofNat 32 n) 31#32 = BitVec.ofNat 32 (n % 32) := by
  apply BitVec.eq_of_toNat_eq
  show (BitVec.ofNat 32 n &&& 31#32).toNat = _
  rw [BitVec.toNat_and, BitVec.toNat_ofNat, BitVec.toNat_ofNat, BitVec.toNat_ofNat]
  have : n % 2 ^ 32 = n := Nat.mod_eq_of_lt (by omega)
  rw [this, show (31 % 2 ^ 32 : ℕ) = 2 ^ 5 - 1 by decide, Nat.and_two_pow_sub_one_eq_mod]
  omega

theorem sge_index (a b : ℕ) (ha : a < 1024) (hb : b < 1024) : IntOp.cmpi .sge (BitVec.ofNat 32 a) (BitVec.ofNat 32 b) = BitVec.ofBool (decide (b ≤ a)) := by
  show BitVec.ofBool ((BitVec.ofNat 32 b).sle _) = _
  congr 1
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat, decide_eq_decide]; omega
theorem sle_index (a b : ℕ) (ha : a < 1024) (hb : b < 1024) : IntOp.cmpi .sle (BitVec.ofNat 32 a) (BitVec.ofNat 32 b) = BitVec.ofBool (decide (a ≤ b)) :=
  sge_index b a hb ha

/-- Not the first of a row, as a number; not the last of a row, as a number. -/
theorem not_first (p : Fin 1024) : (FloatOps.sitofp (F := Ideal) FTy.f32 (BitVec.setWidth 32 (IntOp.cmpi CmpIPredicate.sge (IntOp.andi (BitVec.ofNat 32 p.val) 31#32) 1#32)) : EReal)
    = if 1 ≤ p.val % 32 then 1 else 0 := by
  rw [column_of p.val p.isLt, sge_index _ 1 (by omega) (by omega), number_of_bit]; simp only [decide_eq_true_eq]
theorem not_last (p : Fin 1024) : (FloatOps.sitofp (F := Ideal) FTy.f32 (BitVec.setWidth 32 (IntOp.cmpi CmpIPredicate.sle (IntOp.andi (BitVec.ofNat 32 p.val) 31#32) 30#32)) : EReal)
    = if p.val % 32 ≤ 30 then 1 else 0 := by
  rw [column_of p.val p.isLt, sle_index _ 30 (by omega) (by omega), number_of_bit]; simp only [decide_eq_true_eq]

end Cert.Proof.Dense
end
-- ==== Proof.DenseConv.lean ====
/-
  The kernel's payloads entry by entry: the nine products of shifted rows as the convolution's taps, the two heads as one
  product, and the corners of the boxes.
-/
module

public import proofs.«01_k».proof.Proof.DenseSpec
public import proofs.«01_k».proof.Proof.Gen.TrunkIdeal.Skeleton

@[expose] public section

set_option maxRecDepth 16384

noncomputable section

namespace Cert.TrunkIdeal.Hand

open Cert.TrunkIdeal Cert.TrunkIdeal.Gen Cert.Proof.Dense
open Idealize.ShloMosaic Finset

section conv
variable (x0 : Vec Ideal S1x1024x384 .f32) (w0 w1 w2 w3 w4 w5 w6 w7 w8 : Vec Ideal S1x384x256 .f32)

/-- The nine products added up. -/
def taps6 : FVec Ideal S1024x256 .f32 :=
  k0_pay9 (k0_pay4 x0) k0_pay5 (k0_pay6 x0 w0 w1) (k0_pay7 x0) (k0_pay8 w2) (constant S1024x256 .f32 0x00000000#32) w3 w4 w5
/-- The two heads' numbers of every pixel, side by side. -/
def heads (b : Vec Ideal S1x256 .f32) (W : Vec Ideal S256x80 .f32) (B : Vec Ideal S1x80 .f32) : FVec Ideal S1024x80 .f32 :=
  k0_pay11 (k0_pay4 x0) k0_pay5 (taps6 x0 w0 w1 w2 w3 w4 w5) (k0_pay10 (k0_pay4 x0) k0_pay5) w6 w7 w8 b W B

variable (f : Fin 384 → Fin 32 → Fin 32 → EReal) (w : Fin 256 → Fin 384 → Fin 9 → EReal)
  (hX : ∀ (q : Fin 1024) c, x0 (ix3 0 q c) = f c (rowOf q) (columnOf q))
  (h0 : ∀ c o, w0 (ix3 0 c o) = w o c 0) (h1 : ∀ c o, w1 (ix3 0 c o) = w o c 1) (h2 : ∀ c o, w2 (ix3 0 c o) = w o c 2)
  (h3 : ∀ c o, w3 (ix3 0 c o) = w o c 3) (h4 : ∀ c o, w4 (ix3 0 c o) = w o c 4) (h5 : ∀ c o, w5 (ix3 0 c o) = w o c 5)
  (h6 : ∀ c o, w6 (ix3 0 c o) = w o c 6) (h7 : ∀ c o, w7 (ix3 0 c o) = w o c 7) (h8 : ∀ c o, w8 (ix3 0 c o) = w o c 8)
  (p : Fin 1024) (o : Fin 256)

include hX h0 h1 in
theorem first_taps : k0_pay6 x0 w0 w1 (ix2 p o) = tap f (w o) (p.val / 32) (p.val % 32) 0 + tap f (w o) (p.val / 32) (p.val % 32) 1 := by
  pointwise [k0_pay6, k0_pay4, k0_pay5]
  unfold tap
  congr 1
  · refine sum_congr rfl fun c _ => ?_
    rw [not_first, h0]
    exact congrArg (· * w o c 0) (tap0 f (fun q c => x0 (ix3 0 q c)) hX p c _)
  · refine sum_congr rfl fun c _ => ?_
    rw [h1]
    exact congrArg (· * w o c 1) (tap1 f (fun q c => x0 (ix3 0 q c)) hX p c _)

include hX h0 h1 h2 h3 h4 h5 in
theorem six_taps : taps6 x0 w0 w1 w2 w3 w4 w5 (ix2 p o) = tap f (w o) (p.val / 32) (p.val % 32) 0 + tap f (w o) (p.val / 32) (p.val % 32) 1
    + tap f (w o) (p.val / 32) (p.val % 32) 2 + tap f (w o) (p.val / 32) (p.val % 32) 3 + tap f (w o) (p.val / 32) (p.val % 32) 4
    + tap f (w o) (p.val / 32) (p.val % 32) 5 := by
  have hA := first_taps x0 w0 w1 f w hX h0 h1 p o
  unfold taps6
  generalize k0_pay6 x0 w0 w1 = A at hA ⊢
  pointwise [k0_pay9, k0_pay4, k0_pay5, k0_pay7, k0_pay8]
  rw [hA]
  unfold tap
  congr 1
  · congr 1
    · congr 1
      · congr 1
        refine sum_congr rfl fun c _ => ?_
        rw [not_last, h2]
        exact congrArg (· * w o c 2) (tap2 f (fun q c => x0 (ix3 0 q c)) hX p c _)
      · refine sum_congr rfl fun c _ => ?_
        rw [not_first, h3]
        exact congrArg (· * w o c 3) (tap3 f (fun q c => x0 (ix3 0 q c)) hX p c _)
    · refine sum_congr rfl fun c _ => ?_
      rw [h4]
      exact congrArg (· * w o c 4) (tap4 f (fun q c => x0 (ix3 0 q c)) hX p c)
  · refine sum_congr rfl fun c _ => ?_
    rw [not_last, h5]
    exact congrArg (· * w o c 5) (tap5 f (fun q c => x0 (ix3 0 q c)) hX p c _)

variable (b : Vec Ideal S1x256 .f32) (W : Vec Ideal S256x80 .f32) (B : Vec Ideal S1x80 .f32)

include hX h0 h1 h2 h3 h4 h5 h6 h7 h8 in
theorem heads_apply (n : Fin 80) : heads x0 w0 w1 w2 w3 w4 w5 w6 w7 w8 b W B (ix2 p n)
    = head (Cert.Proof.Dense.hidden f w (fun o => b (ix2 0 o)) (p.val / 32) (p.val % 32)) (fun o => W (ix2 o n)) (B (ix2 0 n)) := by
  have hA := six_taps x0 w0 w1 w2 w3 w4 w5 f w hX h0 h1 h2 h3 h4 h5 p
  unfold heads
  generalize taps6 x0 w0 w1 w2 w3 w4 w5 = A at hA ⊢
  pointwise [k0_pay11, k0_pay10, k0_pay4, k0_pay5]
  unfold head Cert.Proof.Dense.hidden
  congr 1
  refine sum_congr rfl fun o _ => ?_
  congr 3
  rw [hA, conv_eq_taps]
  unfold tap
  congr 1
  · congr 1
    · congr 1
      refine sum_congr rfl fun c _ => ?_
      rw [not_first, h6]
      exact congrArg (· * w o c 6) (tap6 f (fun q c => x0 (ix3 0 q c)) hX p c _)
    · refine sum_congr rfl fun c _ => ?_
      rw [h7]
      exact congrArg (· * w o c 7) (tap7 f (fun q c => x0 (ix3 0 q c)) hX p c _)
  · refine sum_congr rfl fun c _ => ?_
    rw [not_last, h8]
    exact congrArg (· * w o c 8) (tap8 f (fun q c => x0 (ix3 0 q c)) hX p c _)

/-- The scores are the first nine columns. -/
theorem scores_apply (a : Fin 9) : k0_pay19 (k0_pay12 (k0_pay4 x0) k0_pay5 (taps6 x0 w0 w1 w2 w3 w4 w5) (k0_pay10 (k0_pay4 x0) k0_pay5) w6 w7 w8 b W B) (ix3 0 p a)
    = heads x0 w0 w1 w2 w3 w4 w5 w6 w7 w8 b W B (ix2 p ⟨a.val, by omega⟩) := by
  unfold heads
  generalize taps6 x0 w0 w1 w2 w3 w4 w5 = A
  unfold k0_pay12 k0_pay19
  generalize k0_pay11 (k0_pay4 x0) k0_pay5 A (k0_pay10 (k0_pay4 x0) k0_pay5) w6 w7 w8 b W B = H
  pointwise
end conv

/-! ## The payloads stored, from the heads' numbers -/

section boxes
variable (H : FVec Ideal S1024x80 .f32) (aw ah : Vec Ideal S1x9 .f32) (cx cy : Vec Ideal S1024x9 .f32) (height width : BitVec 32) (p : Fin 1024) (a : Fin 9)

theorem left_apply : k0_pay20 H aw cx width (ix3 0 p a)
    = lower (cx (ix2 p a)) (aw (ix2 0 a)) (H (ix2 p ⟨16 + a.val, by omega⟩)) (H (ix2 p ⟨48 + a.val, by omega⟩)) (FloatOps.sitofp (F := Ideal) FTy.f32 width) := by
  pointwise [k0_pay20, k0_pay13, k0_pay15, k0_pay18]
  rfl
theorem top_apply : k0_pay1 (k0_pay14 H ah cy) (k0_pay17 height) (k0_pay21 H ah) (ix3 0 p a)
    = lower (cy (ix2 p a)) (ah (ix2 0 a)) (H (ix2 p ⟨32 + a.val, by omega⟩)) (H (ix2 p ⟨64 + a.val, by omega⟩)) (FloatOps.sitofp (F := Ideal) FTy.f32 height) := by
  pointwise [k0_pay1, k0_pay14, k0_pay17, k0_pay21, k0_pay16]
  rfl
theorem right_apply : k0_pay2 (k0_pay13 H aw cx) (k0_pay15 H aw) (k0_pay18 width) (ix3 0 p a)
    = upper (cx (ix2 p a)) (aw (ix2 0 a)) (H (ix2 p ⟨16 + a.val, by omega⟩)) (H (ix2 p ⟨48 + a.val, by omega⟩)) (FloatOps.sitofp (F := Ideal) FTy.f32 width) := by
  pointwise [k0_pay2, k0_pay13, k0_pay15, k0_pay18]
  rfl
theorem bottom_apply : k0_pay3 (k0_pay14 H ah cy) (k0_pay16 H ah) (k0_pay17 height) (ix3 0 p a)
    = upper (cy (ix2 p a)) (ah (ix2 0 a)) (H (ix2 p ⟨32 + a.val, by omega⟩)) (H (ix2 p ⟨64 + a.val, by omega⟩)) (FloatOps.sitofp (F := Ideal) FTy.f32 height) := by
  pointwise [k0_pay3, k0_pay14, k0_pay16, k0_pay17]
  rfl
end boxes

end Cert.TrunkIdeal.Hand
end
-- ==== Proof.DenseRef.lean ====
/-
  The reference of the convolution and the boxes, entry by entry: its results as the plain sums.
-/
module

public import proofs.«01_k».proof.Proof.DenseSpec
public import proofs.«01_k».proof.Proof.Gen.ProposalsIdeal.Read

@[expose] public section

set_option maxRecDepth 16384

noncomputable section

namespace Cert.Proof.Dense

open Cert.ProposalsIdeal Cert.ProposalsIdeal.Gen Cert.ProposalsIdeal.Read
open Idealize.ShloMosaic Finset

/-- A picture of the batch, the convolution's weights by taps, and a vector of numbers. -/
def picture (x0 : FVec Ideal S4x384x32x32 .f32) (b : Fin 4) : Fin 384 → Fin 32 → Fin 32 → EReal := fun c i j => x0 (ix4 b c i j)
def weights (x2 : FVec Ideal S256x384x3x3 .f32) : Fin 256 → Fin 384 → Fin 9 → EReal :=
  fun o c k => x2 (ix4 o c ⟨k.val / 3, by omega⟩ ⟨k.val % 3, by omega⟩)
def hiddenOf (x0 : FVec Ideal S4x384x32x32 .f32) (x2 : FVec Ideal S256x384x3x3 .f32) (x3 : FVec Ideal S256 .f32) (b : Fin 4) (p : Fin 1024) : Fin 256 → EReal :=
  hidden (picture x0 b) (weights x2) (fun o => x3 (ix1 o)) (p.val / 32) (p.val % 32)
/-- A pixel's score of an anchor, and the four numbers that move and scale the anchor. -/
def scoreAt (x0 : FVec Ideal S4x384x32x32 .f32) (x2 : FVec Ideal S256x384x3x3 .f32) (x3 : FVec Ideal S256 .f32) (x4 : FVec Ideal S9x256x1x1 .f32)
    (x5 : FVec Ideal S9 .f32) (b : Fin 4) (p : Fin 1024) (a : Fin 9) : EReal :=
  head (hiddenOf x0 x2 x3 b p) (fun o => x4 (ix4 a o 0 0)) (x5 (ix1 a))
def deltaAt (x0 : FVec Ideal S4x384x32x32 .f32) (x2 : FVec Ideal S256x384x3x3 .f32) (x3 : FVec Ideal S256 .f32) (x6 : FVec Ideal S36x256x1x1 .f32)
    (x7 : FVec Ideal S36 .f32) (b : Fin 4) (p : Fin 1024) (a : Fin 9) (k : Fin 4) : EReal :=
  head (hiddenOf x0 x2 x3 b p) (fun o => x6 (ix4 ⟨a.val * 4 + k.val, by omega⟩ o 0 0)) (x7 (ix1 ⟨a.val * 4 + k.val, by omega⟩))

theorem rim_at (x0 : FVec Ideal S4x384x32x32 .f32) (b : Fin 4) (q : Fin 384) (i j : Fin 34) :
    val_main_v0 (F := Ideal) x0 (ix4 b q i j) = rim (picture x0 b) q i.val j.val := by
  pointwise [val_main_v0, val_main_cst]
  rfl

theorem window_at (x0 : FVec Ideal S4x384x32x32 .f32) (b : Fin 4) (q : Fin 384) (k : Fin 9) (y x : Fin 32) :
    val_main_v19 (F := Ideal) x0 (ix5 b q k y x) = rim (picture x0 b) q (y.val + k.val / 3) (x.val + k.val % 3) := by
  unfold val_main_v19
  fin_vals k with hk
  all_goals pointwise [val_main_v10, val_main_v11, val_main_v12, val_main_v13, val_main_v14, val_main_v15, val_main_v16, val_main_v17, val_main_v18,
    val_main_v1, val_main_v2, val_main_v3, val_main_v4, val_main_v5, val_main_v6, val_main_v7, val_main_v8, val_main_v9]
  all_goals simp only [hk, Nat.reduceSub, Nat.reduceLT, ↓reduceDIte, rim_at]
  all_goals congr 1
  all_goals omega

theorem conv_at (x0 : FVec Ideal S4x384x32x32 .f32) (x2 : FVec Ideal S256x384x3x3 .f32) (b : Fin 4) (y x : Fin 32) (o : Fin 256) :
    val_main_v21 (F := Ideal) x0 x2 (ix4 b y x o) = conv (picture x0 b) (weights x2 o) y.val x.val := by
  unfold val_main_v21
  have hA := window_at x0 b
  generalize val_main_v19 (F := Ideal) x0 = A at hA ⊢
  pointwise [val_main_v20]
  simp only [hA]
  rfl

theorem hidden_at (x0 : FVec Ideal S4x384x32x32 .f32) (x2 : FVec Ideal S256x384x3x3 .f32) (x3 : FVec Ideal S256 .f32) (b : Fin 4) (p : Fin 1024) (o : Fin 256) :
    val_main_v27 (F := Ideal) x0 x2 x3 (ix3 b p o) = hiddenOf x0 x2 x3 b p o := by
  have h := conv_at x0 x2 b
  unfold val_main_v27 val_main_v26 val_main_v24
  generalize val_main_v21 (F := Ideal) x0 x2 = A at h ⊢
  pointwise [val_main_v25, val_main_v23, val_main_v22, val_main_cst_0]
  simp only [h]
  rfl

theorem score_at (x0 : FVec Ideal S4x384x32x32 .f32) (x2 : FVec Ideal S256x384x3x3 .f32) (x3 : FVec Ideal S256 .f32) (x4 : FVec Ideal S9x256x1x1 .f32)
    (x5 : FVec Ideal S9 .f32) (b : Fin 4) (p : Fin 1024) (a : Fin 9) :
    val_main_v32 (F := Ideal) x0 x2 x3 x4 x5 (ix3 b p a) = scoreAt x0 x2 x3 x4 x5 b p a := by
  have h := hidden_at x0 x2 x3 b
  unfold val_main_v32 val_main_v29
  generalize val_main_v27 (F := Ideal) x0 x2 x3 = A at h ⊢
  pointwise [val_main_v31, val_main_v30, val_main_v28]
  simp only [h]
  rfl

theorem delta_at (x0 : FVec Ideal S4x384x32x32 .f32) (x2 : FVec Ideal S256x384x3x3 .f32) (x3 : FVec Ideal S256 .f32) (x6 : FVec Ideal S36x256x1x1 .f32)
    (x7 : FVec Ideal S36 .f32) (b : Fin 4) (p : Fin 1024) (a : Fin 9) (k : Fin 4) :
    val_main_v38 (F := Ideal) x0 x2 x3 x6 x7 (ix4 b p a k) = deltaAt x0 x2 x3 x6 x7 b p a k := by
  have h := hidden_at x0 x2 x3 b
  unfold val_main_v38 val_main_v37 val_main_v34
  generalize val_main_v27 (F := Ideal) x0 x2 x3 = A at h ⊢
  pointwise [val_main_v36, val_main_v35, val_main_v33]
  simp only [h]
  rfl

section corners
variable (x0 : FVec Ideal S4x384x32x32 .f32) (x1 : IVec S2 32) (x2 : FVec Ideal S256x384x3x3 .f32) (x3 : FVec Ideal S256 .f32) (x6 : FVec Ideal S36x256x1x1 .f32)
  (x7 : FVec Ideal S36 .f32) (b : Fin 4) (p : Fin 1024) (a : Fin 9)

theorem left_at (x8 : FVec Ideal S1x9 .f32) (x10 : FVec Ideal S1024x9 .f32) : val_main_v79 (F := Ideal) x0 x1 x2 x3 x6 x7 x8 x10 (ix3 b p a)
    = lower (x10 (ix2 p a)) (x8 (ix2 0 a)) (deltaAt x0 x2 x3 x6 x7 b p a 0) (deltaAt x0 x2 x3 x6 x7 b p a 2) (FloatOps.sitofp (F := Ideal) FTy.f32 (x1 (ix1 1))) := by
  pointwise [val_main_v79, val_main_v78, val_main_v77, val_main_v76, val_main_v75, val_main_v74, val_main_v73, val_main_v62, val_main_v61, val_main_v60,
    val_main_v59, val_main_v52, val_main_v51, val_main_v50, val_main_v49, val_main_v48, val_main_v47, val_main_v40, val_main_v39, val_main_v44, val_main_v43,
    val_main_v69, val_main_v68, val_main_v67, val_main_cst_1, val_main_cst_2]
  simp only [delta_at]
  rfl
theorem top_at (x9 : FVec Ideal S1x9 .f32) (x11 : FVec Ideal S1024x9 .f32) : val_main_v86 (F := Ideal) x0 x1 x2 x3 x6 x7 x9 x11 (ix3 b p a)
    = lower (x11 (ix2 p a)) (x9 (ix2 0 a)) (deltaAt x0 x2 x3 x6 x7 b p a 1) (deltaAt x0 x2 x3 x6 x7 b p a 3) (FloatOps.sitofp (F := Ideal) FTy.f32 (x1 (ix1 0))) := by
  pointwise [val_main_v86, val_main_v85, val_main_v84, val_main_v83, val_main_v82, val_main_v81, val_main_v80, val_main_v66, val_main_v65, val_main_v64,
    val_main_v63, val_main_v58, val_main_v57, val_main_v56, val_main_v55, val_main_v54, val_main_v53, val_main_v42, val_main_v41, val_main_v46, val_main_v45,
    val_main_v72, val_main_v71, val_main_v70, val_main_cst_3, val_main_cst_4]
  simp only [delta_at]
  rfl
theorem right_at (x8 : FVec Ideal S1x9 .f32) (x10 : FVec Ideal S1024x9 .f32) : val_main_v93 (F := Ideal) x0 x1 x2 x3 x6 x7 x8 x10 (ix3 b p a)
    = upper (x10 (ix2 p a)) (x8 (ix2 0 a)) (deltaAt x0 x2 x3 x6 x7 b p a 0) (deltaAt x0 x2 x3 x6 x7 b p a 2) (FloatOps.sitofp (F := Ideal) FTy.f32 (x1 (ix1 1))) := by
  pointwise [val_main_v93, val_main_v92, val_main_v91, val_main_v90, val_main_v89, val_main_v88, val_main_v87, val_main_v62, val_main_v61, val_main_v60,
    val_main_v59, val_main_v52, val_main_v51, val_main_v50, val_main_v49, val_main_v48, val_main_v47, val_main_v40, val_main_v39, val_main_v44, val_main_v43,
    val_main_v69, val_main_v68, val_main_v67, val_main_cst_5, val_main_cst_6]
  simp only [delta_at]
  rfl
theorem bottom_at (x9 : FVec Ideal S1x9 .f32) (x11 : FVec Ideal S1024x9 .f32) : val_main_v100 (F := Ideal) x0 x1 x2 x3 x6 x7 x9 x11 (ix3 b p a)
    = upper (x11 (ix2 p a)) (x9 (ix2 0 a)) (deltaAt x0 x2 x3 x6 x7 b p a 1) (deltaAt x0 x2 x3 x6 x7 b p a 3) (FloatOps.sitofp (F := Ideal) FTy.f32 (x1 (ix1 0))) := by
  pointwise [val_main_v100, val_main_v99, val_main_v98, val_main_v97, val_main_v96, val_main_v95, val_main_v94, val_main_v66, val_main_v65, val_main_v64,
    val_main_v63, val_main_v58, val_main_v57, val_main_v56, val_main_v55, val_main_v54, val_main_v53, val_main_v42, val_main_v41, val_main_v46, val_main_v45,
    val_main_v72, val_main_v71, val_main_v70, val_main_cst_7, val_main_cst_8]
  simp only [delta_at]
  rfl
end corners

end Cert.Proof.Dense
end
-- ==== Proof.DenseResult.lean ====
/-
  What the kernel of the convolutions and the boxes leaves in its five arrays, from its arguments: the host's transposes and
  concatenations read back as the weights of the heads, the blocks of a picture, and the body's five values at a pixel
  and an anchor.
-/
module

public import proofs.«01_k».proof.Proof.DenseConv
public import proofs.«01_k».proof.Proof.DenseRef
public import proofs.«01_k».proof.Proof.Gen.TrunkIdeal.Value
public import Idealize.ShloMosaic.Lib.Pipeline.ValueKit
public import Idealize.ShloMosaic.Lib.Pointwise

@[expose] public section

set_option maxRecDepth 16384

noncomputable section

namespace Cert.TrunkIdeal.Hand

open Cert.TrunkIdeal Cert.TrunkIdeal.Gen Cert.TrunkIdeal.Value Cert.Proof.Dense
open Idealize.ShloMosaic Idealize.ShloMosaic.TcCoe Idealize.ShloMosaic.Tactic
open Idealize.ShloMosaic.StableHlo
open Idealize.ShloMosaic.Pipeline (Dat Cfg Window)

/-! ## The arrays the host hands to the kernel -/

section host
variable (x0 : FVec Ideal S4x384x32x32 .f32) (x2 : FVec Ideal S256x384x3x3 .f32) (x4 : FVec Ideal S9x256x1x1 .f32) (x5 : FVec Ideal S9 .f32)
  (x6 : FVec Ideal S36x256x1x1 .f32) (x7 : FVec Ideal S36 .f32)

/-- The pixels in rows, channels last. -/
def pixels : FVec Ideal S4x1024x384 .f32 :=
  shapeCast S4x1024x384 (transpose S4x32x32x384 [0, 2, 3, 1] x0 transposes_S4x384x32x32_S4x32x32x384_0_2_3_1) shapeCasts_S4x32x32x384_S4x1024x384
/-- The nine matrices of the convolution. -/
def matrices : FVec Ideal S9x384x256 .f32 :=
  shapeCast S9x384x256 (transpose S3x3x384x256 [2, 3, 1, 0] x2 transposes_S256x384x3x3_S3x3x384x256_2_3_1_0) shapeCasts_S3x3x384x256_S9x384x256

theorem pixels_apply (b : Fin 4) (q : Fin 1024) (ch : Fin 384) : pixels x0 (ix3 b q ch) = x0 (ix4 b ch (rowOf q) (columnOf q)) := by
  pointwise [pixels]
  rfl
theorem matrices_apply (k : Fin 9) (ch : Fin 384) (o : Fin 256) : matrices x2 (ix3 k ch o) = x2 (ix4 o ch ⟨k.val / 3, by omega⟩ ⟨k.val % 3, by omega⟩) := by
  pointwise [matrices]
/-- Seven columns of zeros. -/
def noColumns : FVec Ideal S256x7 .f32 := broadcastInDim S256x7 ![] bcast_S_S256x7 (constant S_ .f32 0x00000000#32)
/-- The columns of one of the four numbers of the nine boxes. -/
def columns0 : FVec Ideal S256x9 .f32 := transpose S256x9 [1, 0] (shapeCast S9x256 (extractStridedSlice S9x1x256 ![0, 0, 0] (shapeCast S9x4x256 x6
      shapeCasts_S36x256x1x1_S9x4x256) slices_S9x4x256_S9x1x256_0_0_0) shapeCasts_S9x1x256_S9x256) transposes_S9x256_S256x9_1_0
def columns1 : FVec Ideal S256x9 .f32 := transpose S256x9 [1, 0] (shapeCast S9x256 (extractStridedSlice S9x1x256 ![0, 1, 0] (shapeCast S9x4x256 x6
      shapeCasts_S36x256x1x1_S9x4x256) slices_S9x4x256_S9x1x256_0_1_0) shapeCasts_S9x1x256_S9x256) transposes_S9x256_S256x9_1_0
def columns2 : FVec Ideal S256x9 .f32 := transpose S256x9 [1, 0] (shapeCast S9x256 (extractStridedSlice S9x1x256 ![0, 2, 0] (shapeCast S9x4x256 x6
      shapeCasts_S36x256x1x1_S9x4x256) slices_S9x4x256_S9x1x256_0_2_0) shapeCasts_S9x1x256_S9x256) transposes_S9x256_S256x9_1_0
def columns3 : FVec Ideal S256x9 .f32 := transpose S256x9 [1, 0] (shapeCast S9x256 (extractStridedSlice S9x1x256 ![0, 3, 0] (shapeCast S9x4x256 x6
      shapeCasts_S36x256x1x1_S9x4x256) slices_S9x4x256_S9x1x256_0_3_0) shapeCasts_S9x1x256_S9x256) transposes_S9x256_S256x9_1_0
/-- The columns of the nine scores. -/
def columnsS : FVec Ideal S256x9 .f32 := transpose S256x9 [1, 0] (shapeCast S9x256 x4 shapeCasts_S9x256x1x1_S9x256) transposes_S9x256_S256x9_1_0
/-- The two heads' matrix. -/
def matrix : FVec Ideal S256x80 .f32 :=
  concatenate S256x80 1 [⟨S256x9, columnsS x4⟩, ⟨S256x7, noColumns⟩, ⟨S256x9, columns0 x6⟩, ⟨S256x7, noColumns⟩, ⟨S256x9, columns1 x6⟩, ⟨S256x7, noColumns⟩,
        ⟨S256x9, columns2 x6⟩, ⟨S256x7, noColumns⟩, ⟨S256x9, columns3 x6⟩, ⟨S256x7, noColumns⟩]
    concatenates_S256x9_S256x7_S256x9_S256x7_S256x9_S256x7_S256x9_S256x7_S256x9_S256x7_S256x80_d1

/-- Seven zeros. -/
def noBiases : FVec Ideal S7 .f32 := broadcastInDim S7 ![] bcast_S_S7 (constant S_ .f32 0x00000000#32)
/-- The biases of one of the four numbers of the nine boxes. -/
def biases0 : FVec Ideal S9 .f32 := shapeCast S9 (extractStridedSlice S9x1 ![0, 0] (shapeCast S9x4 x7 shapeCasts_S36_S9x4) slices_S9x4_S9x1_0_0) shapeCasts_S9x1_S9
def biases1 : FVec Ideal S9 .f32 := shapeCast S9 (extractStridedSlice S9x1 ![0, 1] (shapeCast S9x4 x7 shapeCasts_S36_S9x4) slices_S9x4_S9x1_0_1) shapeCasts_S9x1_S9
def biases2 : FVec Ideal S9 .f32 := shapeCast S9 (extractStridedSlice S9x1 ![0, 2] (shapeCast S9x4 x7 shapeCasts_S36_S9x4) slices_S9x4_S9x1_0_2) shapeCasts_S9x1_S9
def biases3 : FVec Ideal S9 .f32 := shapeCast S9 (extractStridedSlice S9x1 ![0, 3] (shapeCast S9x4 x7 shapeCasts_S36_S9x4) slices_S9x4_S9x1_0_3) shapeCasts_S9x1_S9
/-- The two heads' biases. -/
def biases : FVec Ideal S1x80 .f32 :=
  broadcastInDim S1x80 ![1] bcast_S80_S1x80_1 (concatenate S80 0 [⟨S9, x5⟩, ⟨S7, noBiases⟩, ⟨S9, biases0 x7⟩, ⟨S7, noBiases⟩, ⟨S9, biases1 x7⟩, ⟨S7, noBiases⟩,
        ⟨S9, biases2 x7⟩, ⟨S7, noBiases⟩, ⟨S9, biases3 x7⟩, ⟨S7, noBiases⟩]
    concatenates_S9_S7_S9_S7_S9_S7_S9_S7_S9_S7_S80_d0)

theorem matrixS_apply (o : Fin 256) (a : Fin 9) : matrix x4 x6 (ix2 o ⟨0 + a.val, by omega⟩) = x4 (ix4 a o 0 0) := by
  pointwise [matrix, columnsS]
theorem biasesS_apply (a : Fin 9) : biases x5 x7 (ix2 0 ⟨0 + a.val, by omega⟩) = x5 (ix1 a) := by
  pointwise [biases]
theorem matrix0_apply (o : Fin 256) (a : Fin 9) : matrix x4 x6 (ix2 o ⟨16 + a.val, by omega⟩) = x6 (ix4 ⟨a.val * 4 + 0, by omega⟩ o 0 0) := by
  pointwise [matrix, columns0]
  repeat' first | rw [dif_neg (by omega)] | rw [dif_pos (by omega)]
  exact congrArg (fun j => x6 (ix4 j o 0 0)) (Fin.ext (by simp only []; omega))
theorem biases0_apply (a : Fin 9) : biases x5 x7 (ix2 0 ⟨16 + a.val, by omega⟩) = x7 (ix1 ⟨a.val * 4 + 0, by omega⟩) := by
  pointwise [biases, biases0]
  repeat' first | rw [dif_neg (by omega)] | rw [dif_pos (by omega)]
  exact congrArg (fun j => x7 (ix1 j)) (Fin.ext (by simp only []; omega))
theorem matrix1_apply (o : Fin 256) (a : Fin 9) : matrix x4 x6 (ix2 o ⟨32 + a.val, by omega⟩) = x6 (ix4 ⟨a.val * 4 + 1, by omega⟩ o 0 0) := by
  pointwise [matrix, columns1]
  repeat' first | rw [dif_neg (by omega)] | rw [dif_pos (by omega)]
  exact congrArg (fun j => x6 (ix4 j o 0 0)) (Fin.ext (by simp only []; omega))
theorem biases1_apply (a : Fin 9) : biases x5 x7 (ix2 0 ⟨32 + a.val, by omega⟩) = x7 (ix1 ⟨a.val * 4 + 1, by omega⟩) := by
  pointwise [biases, biases1]
  repeat' first | rw [dif_neg (by omega)] | rw [dif_pos (by omega)]
  exact congrArg (fun j => x7 (ix1 j)) (Fin.ext (by simp only []; omega))
theorem matrix2_apply (o : Fin 256) (a : Fin 9) : matrix x4 x6 (ix2 o ⟨48 + a.val, by omega⟩) = x6 (ix4 ⟨a.val * 4 + 2, by omega⟩ o 0 0) := by
  pointwise [matrix, columns2]
  repeat' first | rw [dif_neg (by omega)] | rw [dif_pos (by omega)]
  exact congrArg (fun j => x6 (ix4 j o 0 0)) (Fin.ext (by simp only []; omega))
theorem biases2_apply (a : Fin 9) : biases x5 x7 (ix2 0 ⟨48 + a.val, by omega⟩) = x7 (ix1 ⟨a.val * 4 + 2, by omega⟩) := by
  pointwise [biases, biases2]
  repeat' first | rw [dif_neg (by omega)] | rw [dif_pos (by omega)]
  exact congrArg (fun j => x7 (ix1 j)) (Fin.ext (by simp only []; omega))
theorem matrix3_apply (o : Fin 256) (a : Fin 9) : matrix x4 x6 (ix2 o ⟨64 + a.val, by omega⟩) = x6 (ix4 ⟨a.val * 4 + 3, by omega⟩ o 0 0) := by
  pointwise [matrix, columns3]
  repeat' first | rw [dif_neg (by omega)] | rw [dif_pos (by omega)]
  exact congrArg (fun j => x6 (ix4 j o 0 0)) (Fin.ext (by simp only []; omega))
theorem biases3_apply (a : Fin 9) : biases x5 x7 (ix2 0 ⟨64 + a.val, by omega⟩) = x7 (ix1 ⟨a.val * 4 + 3, by omega⟩) := by
  pointwise [biases, biases3]
  repeat' first | rw [dif_neg (by omega)] | rw [dif_pos (by omega)]
  exact congrArg (fun j => x7 (ix1 j)) (Fin.ext (by simp only []; omega))
end host

variable (m : (ℓ : Loc nD τ sig) → Buf (Elt Ideal) ℓ) (c : Dev nD)

/-- The grid's point for a batch. -/
def point (b : Fin 4) : Fin cfg0.N := ⟨b.val, b.isLt⟩
theorem coord_point (b : Fin 4) : (grid0.coords (point b) 0).val = b.val := by revert b; decide +kernel

/-! ## The blocks of a picture -/

theorem index0 : ∀ t : Fin cfg0.N, win0_0.index t = ![(grid0.coords t 0).val, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![(grid0.coords t 0).val, 0, 0] := (by decide +kernel : ∀ t : Fin grid0.N, _)
theorem index11 : ∀ t : Fin cfg0.N, win0_11.index t = ![(grid0.coords t 0).val, 0, 0] := (by decide +kernel : ∀ t : Fin grid0.N, _)
theorem index12 : ∀ t : Fin cfg0.N, win0_12.index t = ![(grid0.coords t 0).val, 0, 0] := (by decide +kernel : ∀ t : Fin grid0.N, _)
theorem index13 : ∀ t : Fin cfg0.N, win0_13.index t = ![(grid0.coords t 0).val, 0, 0] := (by decide +kernel : ∀ t : Fin grid0.N, _)
theorem index14 : ∀ t : Fin cfg0.N, win0_14.index t = ![(grid0.coords t 0).val, 0, 0] := (by decide +kernel : ∀ t : Fin grid0.N, _)

theorem iblk0 (b : Fin 4) (q : Fin 1024) (ch : Fin 384) : (iblk m c 0 (point b) : Vec Ideal S1x1024x384 .f32) (ix3 0 q ch) = (V m c main_v1 : FVec Ideal
      S4x1024x384 .f32) (ix3 b q ch) := by
  blk_ext [iblk, index0 (point b), coord_point b]
theorem iblk1 (b : Fin 4) (k : Fin 9) (ch : Fin 384) (o : Fin 256) : (iblk m c 1 (point b) : Vec Ideal S9x384x256 .f32) (ix3 k ch o) = (V m c main_v3 : FVec
      Ideal S9x384x256 .f32) (ix3 k ch o) := by
  blk_ext [iblk, index1 (point b), coord_point b]
theorem iblk2 (b : Fin 4) (o : Fin 256) (n : Fin 80) : (iblk m c 2 (point b) : Vec Ideal S256x80 .f32) (ix2 o n) = (V m c main_v20 : FVec Ideal S256x80 .f32)
      (ix2 o n) := by
  blk_ext [iblk, index2 (point b), coord_point b]
theorem iblk3 (b : Fin 4) (o : Fin 256) : (iblk m c 3 (point b) : Vec Ideal S1x256 .f32) (ix2 0 o) = (V m c main_v33 : FVec Ideal S1x256 .f32) (ix2 0 o) := by
  blk_ext [iblk, index3 (point b), coord_point b]
theorem iblk4 (b : Fin 4) (n : Fin 80) : (iblk m c 4 (point b) : Vec Ideal S1x80 .f32) (ix2 0 n) = (V m c main_v32 : FVec Ideal S1x80 .f32) (ix2 0 n) := by
  blk_ext [iblk, index4 (point b), coord_point b]
theorem iblk5 (b : Fin 4) (e : Fin 2) : (iblk m c 5 (point b) : Vec Ideal S2 .i32) (ix1 e) = (V m c main_arg1 : IVec S2 32) (ix1 e) := by
  blk_ext [iblk, index5 (point b), coord_point b]
theorem iblk6 (b : Fin 4) (a : Fin 9) : (iblk m c 6 (point b) : Vec Ideal S1x9 .f32) (ix2 0 a) = (V m c main_arg8 : FVec Ideal S1x9 .f32) (ix2 0 a) := by
  blk_ext [iblk, index6 (point b), coord_point b]
theorem iblk7 (b : Fin 4) (a : Fin 9) : (iblk m c 7 (point b) : Vec Ideal S1x9 .f32) (ix2 0 a) = (V m c main_arg9 : FVec Ideal S1x9 .f32) (ix2 0 a) := by
  blk_ext [iblk, index7 (point b), coord_point b]
theorem iblk8 (b : Fin 4) (p : Fin 1024) (a : Fin 9) : (iblk m c 8 (point b) : Vec Ideal S1024x9 .f32) (ix2 p a) = (V m c main_arg10 : FVec Ideal S1024x9 .f32)
      (ix2 p a) := by
  blk_ext [iblk, index8 (point b), coord_point b]
theorem iblk9 (b : Fin 4) (p : Fin 1024) (a : Fin 9) : (iblk m c 9 (point b) : Vec Ideal S1024x9 .f32) (ix2 p a) = (V m c main_arg11 : FVec Ideal S1024x9 .f32)
      (ix2 p a) := by
  blk_ext [iblk, index9 (point b), coord_point b]

/-! ## What the host has computed before the call -/

theorem V1 : (V m c main_v1 : FVec Ideal S4x1024x384 .f32) = pixels (m ((c.tc : Thread nD τ).loc main_arg0)) := by
  unfold V
  after_results
  rfl
theorem V3 : (V m c main_v3 : FVec Ideal S9x384x256 .f32) = matrices (m ((c.tc : Thread nD τ).loc main_arg2)) := by
  unfold V
  after_results
  rfl
theorem V33 : (V m c main_v33 : FVec Ideal S1x256 .f32) = broadcastInDim S1x256 ![1] bcast_S256_S1x256_1
      (m ((c.tc : Thread nD τ).loc main_arg3) : FVec Ideal S256 .f32) := by
  unfold V
  after_results

theorem V20 : (V m c main_v20 : FVec Ideal S256x80 .f32) = matrix (m ((c.tc : Thread nD τ).loc main_arg4)) (m ((c.tc : Thread nD τ).loc main_arg6)) := by
  unfold V
  after_results
  rfl
theorem V32 : (V m c main_v32 : FVec Ideal S1x80 .f32) = biases (m ((c.tc : Thread nD τ).loc main_arg5)) (m ((c.tc : Thread nD τ).loc main_arg7)) := by
  unfold V
  after_results
  rfl

/-! ## What a point leaves, in the arrays -/

theorem array10 (b : Fin 4) (p : Fin 1024) (a : Fin 9) :
    ((dats m 0 c).arrAt 10 cfg0.N : FVec Ideal S4x1024x9 .f32) (ix3 b p a) = ((dats m 0 c).flushed 10 (point b) : FVec Ideal S1x1024x9 .f32) (ix3 0 p a) := by
  rw [← blocks10 m c (point b) (flush0_10 (point b))]
  blk_ext [index10 (point b), coord_point b]
theorem array11 (b : Fin 4) (p : Fin 1024) (a : Fin 9) :
    ((dats m 0 c).arrAt 11 cfg0.N : FVec Ideal S4x1024x9 .f32) (ix3 b p a) = ((dats m 0 c).flushed 11 (point b) : FVec Ideal S1x1024x9 .f32) (ix3 0 p a) := by
  rw [← blocks11 m c (point b) (flush0_11 (point b))]
  blk_ext [index11 (point b), coord_point b]
theorem array12 (b : Fin 4) (p : Fin 1024) (a : Fin 9) :
    ((dats m 0 c).arrAt 12 cfg0.N : FVec Ideal S4x1024x9 .f32) (ix3 b p a) = ((dats m 0 c).flushed 12 (point b) : FVec Ideal S1x1024x9 .f32) (ix3 0 p a) := by
  rw [← blocks12 m c (point b) (flush0_12 (point b))]
  blk_ext [index12 (point b), coord_point b]
theorem array13 (b : Fin 4) (p : Fin 1024) (a : Fin 9) :
    ((dats m 0 c).arrAt 13 cfg0.N : FVec Ideal S4x1024x9 .f32) (ix3 b p a) = ((dats m 0 c).flushed 13 (point b) : FVec Ideal S1x1024x9 .f32) (ix3 0 p a) := by
  rw [← blocks13 m c (point b) (flush0_13 (point b))]
  blk_ext [index13 (point b), coord_point b]
theorem array14 (b : Fin 4) (p : Fin 1024) (a : Fin 9) :
    ((dats m 0 c).arrAt 14 cfg0.N : FVec Ideal S4x1024x9 .f32) (ix3 b p a) = ((dats m 0 c).flushed 14 (point b) : FVec Ideal S1x1024x9 .f32) (ix3 0 p a) := by
  rw [← blocks14 m c (point b) (flush0_14 (point b))]
  blk_ext [index14 (point b), coord_point b]

/-- The two heads' numbers of a picture, from the kernel's blocks. -/
def headsAt (b : Fin 4) : FVec Ideal S1024x80 .f32 :=
  heads (iblk m c 0 (point b))
    (View.ld (iblk m c 1 (point b)) (Rect.unit ![0, 0, 0] ![1, 384, 256] inb_S9x384x256_S1x384x256_0_0_0))
    (View.ld (iblk m c 1 (point b)) (Rect.unit ![1, 0, 0] ![1, 384, 256] inb_S9x384x256_S1x384x256_1_0_0))
    (View.ld (iblk m c 1 (point b)) (Rect.unit ![2, 0, 0] ![1, 384, 256] inb_S9x384x256_S1x384x256_2_0_0))
    (View.ld (iblk m c 1 (point b)) (Rect.unit ![3, 0, 0] ![1, 384, 256] inb_S9x384x256_S1x384x256_3_0_0))
    (View.ld (iblk m c 1 (point b)) (Rect.unit ![4, 0, 0] ![1, 384, 256] inb_S9x384x256_S1x384x256_4_0_0))
    (View.ld (iblk m c 1 (point b)) (Rect.unit ![5, 0, 0] ![1, 384, 256] inb_S9x384x256_S1x384x256_5_0_0))
    (View.ld (iblk m c 1 (point b)) (Rect.unit ![6, 0, 0] ![1, 384, 256] inb_S9x384x256_S1x384x256_6_0_0))
    (View.ld (iblk m c 1 (point b)) (Rect.unit ![7, 0, 0] ![1, 384, 256] inb_S9x384x256_S1x384x256_7_0_0))
    (View.ld (iblk m c 1 (point b)) (Rect.unit ![8, 0, 0] ![1, 384, 256] inb_S9x384x256_S1x384x256_8_0_0))
    (iblk m c 3 (point b)) (iblk m c 2 (point b)) (iblk m c 4 (point b))

/-- A load of one of the nine matrices. -/
theorem slab (b : Fin 4) (k : Fin 9) (off : Fin 3 → Nat) (hoff : off = ![k.val, 0, 0]) (h : ∀ a : Fin S9x384x256.rank, off a + ![1, 384, 256] a ≤ S9x384x256.size a)
    (ch : Fin 384) (o : Fin 256) :
    View.ld (iblk m c 1 (point b) : Vec Ideal S9x384x256 .f32) (Rect.unit off ![1, 384, 256] h) (ix3 (0 : Fin 1) ch o)
      = weights (m ((c.tc : Thread nD τ).loc main_arg2)) o ch k := by
  subst hoff
  refine (View.ld_unit_apply_of _ _ _ _ _ (ix3 k ch o) fun a => ?_).trans ((iblk1 m c b k ch o).trans ?_)
  · match a with
    | ⟨0, _⟩ => rfl
    | ⟨1, _⟩ => exact (Nat.zero_add _).symm
    | ⟨2, _⟩ => exact (Nat.zero_add _).symm
  · rw [V3]
    exact matrices_apply _ k ch o

/-- The heads' numbers at a pixel, from the arguments. -/
theorem heads_at (b : Fin 4) (p : Fin 1024) (n : Fin 80) : headsAt m c b (ix2 p n)
    = head (hiddenOf (m ((c.tc : Thread nD τ).loc main_arg0)) (m ((c.tc : Thread nD τ).loc main_arg2))
          (m ((c.tc : Thread nD τ).loc main_arg3)) b p) (fun o => matrix (m ((c.tc : Thread nD τ).loc main_arg4))
          (m ((c.tc : Thread nD τ).loc main_arg6)) (ix2 o n)) (biases (m ((c.tc : Thread nD τ).loc main_arg5))
          (m ((c.tc : Thread nD τ).loc main_arg7)) (ix2 0 n)) := by
  refine (heads_apply _ _ _ _ _ _ _ _ _ _ (picture (m ((c.tc : Thread nD τ).loc main_arg0)) b) (weights (m ((c.tc : Thread nD τ).loc main_arg2))) (fun q ch => ?_)
    (fun ch o => slab m c b 0 _ rfl _ ch o) (fun ch o => slab m c b 1 _ rfl _ ch o) (fun ch o => slab m c b 2 _ rfl _ ch o)
    (fun ch o => slab m c b 3 _ rfl _ ch o) (fun ch o => slab m c b 4 _ rfl _ ch o) (fun ch o => slab m c b 5 _ rfl _ ch o)
    (fun ch o => slab m c b 6 _ rfl _ ch o) (fun ch o => slab m c b 7 _ rfl _ ch o) (fun ch o => slab m c b 8 _ rfl _ ch o)
    p _ _ _ n).trans ?_
  · rw [iblk0, V1]
    exact pixels_apply _ b q ch
  · have h3 : ∀ o, (iblk m c 3 (point b) : Vec Ideal S1x256 .f32) (ix2 0 o) = ((m ((c.tc : Thread nD τ).loc main_arg3)) : FVec Ideal S256 .f32) (ix1 o) := fun
        o => by
      rw [iblk3, V33]; pointwise
    have h2 : ∀ o, (iblk m c 2 (point b) : Vec Ideal S256x80 .f32) (ix2 o n) = matrix (m ((c.tc : Thread nD τ).loc main_arg4))
          (m ((c.tc : Thread nD τ).loc main_arg6)) (ix2 o n) := fun o => by rw [iblk2, V20]
    have h4 : (iblk m c 4 (point b) : Vec Ideal S1x80 .f32) (ix2 0 n) = biases (m ((c.tc : Thread nD τ).loc main_arg5))
          (m ((c.tc : Thread nD τ).loc main_arg7)) (ix2 0 n) := by rw [iblk4, V32]
    simp only [h2, h3, h4]
    rfl

theorem score_head (b : Fin 4) (p : Fin 1024) (a : Fin 9) : headsAt m c b (ix2 p ⟨a.val, by omega⟩)
    = scoreAt (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) b p a := by
  have e : (⟨a.val, by omega⟩ : Fin 80) = ⟨0 + a.val, by omega⟩ := Fin.ext (Nat.zero_add _).symm
  rw [e, heads_at]
  simp only [matrixS_apply, biasesS_apply]
  rfl
theorem delta0_head (b : Fin 4) (p : Fin 1024) (a : Fin 9) : headsAt m c b (ix2 p ⟨16 + a.val, by omega⟩)
    = deltaAt (m ((c.tc : Thread nD τ).loc main_arg0)) (m ((c.tc : Thread nD τ).loc main_arg2)) (m ((c.tc : Thread nD τ).loc main_arg3))
          (m ((c.tc : Thread nD τ).loc main_arg6)) (m ((c.tc : Thread nD τ).loc main_arg7)) b p a 0 := by
  rw [heads_at]
  simp only [matrix0_apply, biases0_apply]
  rfl
theorem delta1_head (b : Fin 4) (p : Fin 1024) (a : Fin 9) : headsAt m c b (ix2 p ⟨32 + a.val, by omega⟩)
    = deltaAt (m ((c.tc : Thread nD τ).loc main_arg0)) (m ((c.tc : Thread nD τ).loc main_arg2)) (m ((c.tc : Thread nD τ).loc main_arg3))
          (m ((c.tc : Thread nD τ).loc main_arg6)) (m ((c.tc : Thread nD τ).loc main_arg7)) b p a 1 := by
  rw [heads_at]
  simp only [matrix1_apply, biases1_apply]
  rfl
theorem delta2_head (b : Fin 4) (p : Fin 1024) (a : Fin 9) : headsAt m c b (ix2 p ⟨48 + a.val, by omega⟩)
    = deltaAt (m ((c.tc : Thread nD τ).loc main_arg0)) (m ((c.tc : Thread nD τ).loc main_arg2)) (m ((c.tc : Thread nD τ).loc main_arg3))
          (m ((c.tc : Thread nD τ).loc main_arg6)) (m ((c.tc : Thread nD τ).loc main_arg7)) b p a 2 := by
  rw [heads_at]
  simp only [matrix2_apply, biases2_apply]
  rfl
theorem delta3_head (b : Fin 4) (p : Fin 1024) (a : Fin 9) : headsAt m c b (ix2 p ⟨64 + a.val, by omega⟩)
    = deltaAt (m ((c.tc : Thread nD τ).loc main_arg0)) (m ((c.tc : Thread nD τ).loc main_arg2)) (m ((c.tc : Thread nD τ).loc main_arg3))
          (m ((c.tc : Thread nD τ).loc main_arg6)) (m ((c.tc : Thread nD τ).loc main_arg7)) b p a 3 := by
  rw [heads_at]
  simp only [matrix3_apply, biases3_apply]
  rfl

/-- The image's height and width, as the kernel's scalars. -/
theorem word_at (b : Fin 4) (e : Fin 2) (off : Fin 1 → Nat) (hoff : off = ![e.val]) (h : ∀ a : Fin S2.rank, off a + ![1] a ≤ S2.size a) (x : (Rect.unit (s :=
      S2) off ![1] h).shape.Idx) :
    View.ld (iblk m c 5 (point b) : Vec Ideal S2 .i32) (Rect.unit off ![1] h) x = ((m ((c.tc : Thread nD τ).loc main_arg1)) : IVec S2 32) (ix1 e) := by
  subst hoff
  refine (View.ld_unit_apply_of _ _ _ _ _ (ix1 e) fun a => ?_).trans ((iblk5 m c b e).trans ?_)
  · match a with
    | ⟨0, _⟩ =>
      have h0 : (x 0).val < 1 := (x 0).isLt
      show e.val = e.val + (x 0).val
      omega
  · rw [V_main_arg1]

/-! ## The five arrays at a picture, a pixel and an anchor -/

theorem scores_left (b : Fin 4) (p : Fin 1024) (a : Fin 9) :
    ((dats m 0 c).arrAt 10 cfg0.N : FVec Ideal S4x1024x9 .f32) (ix3 b p a) = scoreAt (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) b p a := by
  rw [array10, flushed10_A]
  frame_out
  refine Eq.trans ?_ (score_head m c b p a)
  exact scores_apply _ _ _ _ _ _ _ _ _ _ p _ _ _ a

theorem left_left (b : Fin 4) (p : Fin 1024) (a : Fin 9) :
    ((dats m 0 c).arrAt 11 cfg0.N : FVec Ideal S4x1024x9 .f32) (ix3 b p a)
      = lower (((m ((c.tc : Thread nD τ).loc main_arg10)) : FVec Ideal S1024x9 .f32) (ix2 p a)) (((m ((c.tc : Thread nD τ).loc main_arg8)) : FVec Ideal S1x9
            .f32) (ix2 0 a)) (deltaAt (m ((c.tc : Thread nD τ).loc main_arg0)) (m ((c.tc : Thread nD τ).loc main_arg2))
            (m ((c.tc : Thread nD τ).loc main_arg3)) (m ((c.tc : Thread nD τ).loc main_arg6))
            (m ((c.tc : Thread nD τ).loc main_arg7)) b p a 0) (deltaAt (m ((c.tc : Thread nD τ).loc main_arg0))
            (m ((c.tc : Thread nD τ).loc main_arg2)) (m ((c.tc : Thread nD τ).loc main_arg3)) (m ((c.tc : Thread nD τ).loc main_arg6))
            (m ((c.tc : Thread nD τ).loc main_arg7)) b p a 2)
        (FloatOps.sitofp (F := Ideal) FTy.f32 (((m ((c.tc : Thread nD τ).loc main_arg1)) : IVec S2 32) (ix1 1))) := by
  rw [array11, flushed11_A]
  frame_out
  refine Eq.trans (left_apply (headsAt m c b) _ _ _ p a) ?_
  rw [delta0_head, delta2_head, iblk6, iblk8, word_at m c b 1 ![1] rfl, V_main_arg8, V_main_arg10]

theorem top_left (b : Fin 4) (p : Fin 1024) (a : Fin 9) :
    ((dats m 0 c).arrAt 12 cfg0.N : FVec Ideal S4x1024x9 .f32) (ix3 b p a)
      = lower (((m ((c.tc : Thread nD τ).loc main_arg11)) : FVec Ideal S1024x9 .f32) (ix2 p a)) (((m ((c.tc : Thread nD τ).loc main_arg9)) : FVec Ideal S1x9
            .f32) (ix2 0 a)) (deltaAt (m ((c.tc : Thread nD τ).loc main_arg0)) (m ((c.tc : Thread nD τ).loc main_arg2))
            (m ((c.tc : Thread nD τ).loc main_arg3)) (m ((c.tc : Thread nD τ).loc main_arg6))
            (m ((c.tc : Thread nD τ).loc main_arg7)) b p a 1) (deltaAt (m ((c.tc : Thread nD τ).loc main_arg0))
            (m ((c.tc : Thread nD τ).loc main_arg2)) (m ((c.tc : Thread nD τ).loc main_arg3)) (m ((c.tc : Thread nD τ).loc main_arg6))
            (m ((c.tc : Thread nD τ).loc main_arg7)) b p a 3)
        (FloatOps.sitofp (F := Ideal) FTy.f32 (((m ((c.tc : Thread nD τ).loc main_arg1)) : IVec S2 32) (ix1 0))) := by
  rw [array12, flushed12_A]
  frame_out
  refine Eq.trans (top_apply (headsAt m c b) _ _ _ p a) ?_
  rw [delta1_head, delta3_head, iblk7, iblk9, word_at m c b 0 ![0] rfl, V_main_arg9, V_main_arg11]

theorem right_left (b : Fin 4) (p : Fin 1024) (a : Fin 9) :
    ((dats m 0 c).arrAt 13 cfg0.N : FVec Ideal S4x1024x9 .f32) (ix3 b p a)
      = upper (((m ((c.tc : Thread nD τ).loc main_arg10)) : FVec Ideal S1024x9 .f32) (ix2 p a)) (((m ((c.tc : Thread nD τ).loc main_arg8)) : FVec Ideal S1x9
            .f32) (ix2 0 a)) (deltaAt (m ((c.tc : Thread nD τ).loc main_arg0)) (m ((c.tc : Thread nD τ).loc main_arg2))
            (m ((c.tc : Thread nD τ).loc main_arg3)) (m ((c.tc : Thread nD τ).loc main_arg6))
            (m ((c.tc : Thread nD τ).loc main_arg7)) b p a 0) (deltaAt (m ((c.tc : Thread nD τ).loc main_arg0))
            (m ((c.tc : Thread nD τ).loc main_arg2)) (m ((c.tc : Thread nD τ).loc main_arg3)) (m ((c.tc : Thread nD τ).loc main_arg6))
            (m ((c.tc : Thread nD τ).loc main_arg7)) b p a 2)
        (FloatOps.sitofp (F := Ideal) FTy.f32 (((m ((c.tc : Thread nD τ).loc main_arg1)) : IVec S2 32) (ix1 1))) := by
  rw [array13, flushed13_A]
  frame_out
  refine Eq.trans (right_apply (headsAt m c b) _ _ _ p a) ?_
  rw [delta0_head, delta2_head, iblk6, iblk8, word_at m c b 1 ![1] rfl, V_main_arg8, V_main_arg10]

theorem bottom_left (b : Fin 4) (p : Fin 1024) (a : Fin 9) :
    ((dats m 0 c).arrAt 14 cfg0.N : FVec Ideal S4x1024x9 .f32) (ix3 b p a)
      = upper (((m ((c.tc : Thread nD τ).loc main_arg11)) : FVec Ideal S1024x9 .f32) (ix2 p a)) (((m ((c.tc : Thread nD τ).loc main_arg9)) : FVec Ideal S1x9
            .f32) (ix2 0 a)) (deltaAt (m ((c.tc : Thread nD τ).loc main_arg0)) (m ((c.tc : Thread nD τ).loc main_arg2))
            (m ((c.tc : Thread nD τ).loc main_arg3)) (m ((c.tc : Thread nD τ).loc main_arg6))
            (m ((c.tc : Thread nD τ).loc main_arg7)) b p a 1) (deltaAt (m ((c.tc : Thread nD τ).loc main_arg0))
            (m ((c.tc : Thread nD τ).loc main_arg2)) (m ((c.tc : Thread nD τ).loc main_arg3)) (m ((c.tc : Thread nD τ).loc main_arg6))
            (m ((c.tc : Thread nD τ).loc main_arg7)) b p a 3)
        (FloatOps.sitofp (F := Ideal) FTy.f32 (((m ((c.tc : Thread nD τ).loc main_arg1)) : IVec S2 32) (ix1 0))) := by
  rw [array14, flushed14_A]
  frame_out
  refine Eq.trans (bottom_apply (headsAt m c b) _ _ _ p a) ?_
  rw [delta1_head, delta3_head, iblk7, iblk9, word_at m c b 0 ![0] rfl, V_main_arg9, V_main_arg11]

end Cert.TrunkIdeal.Hand
end
-- ==== Proof.DenseClaims.lean ====
/-
  The kernel of the convolutions and the boxes against its reference: pixel by pixel and anchor by anchor both leave the
  same head of the same hidden numbers, and the same box of an anchor from the same four numbers.
-/
module

public import proofs.«01_k».proof.Defs
public import proofs.«01_k».proof.Proof.DenseResult
public import proofs.«01_k».proof.Proof.Gen.Trunk.Frame
public import proofs.«01_k».proof.Proof.Gen.Proposals.Run
public import proofs.«01_k».proof.Proof.Gen.ProposalsIdeal.Run

@[expose] public section

set_option maxRecDepth 16384

noncomputable section

namespace Cert.Proof.Dense

open Idealize.ShloMosaic Idealize.ShloMosaic.TcCoe Idealize.SL.Sem
open Idealize.ShloMosaic.StableHlo

/-- Two arrays of the results' shape that agree at every picture, pixel and anchor. -/
theorem same_array (x y : FVec Ideal Cert.TrunkIdeal.S4x1024x9 .f32) (h : ∀ b p a, x (ix3 b p a) = y (ix3 b p a)) : x = y := by
  funext i
  have hi : i = ix3 (i 0) (i 1) (i 2) := by
    funext a; match a with | ⟨0, _⟩ => rfl | ⟨1, _⟩ => rfl | ⟨2, _⟩ => rfl
  rw [hi]
  exact h (i 0) (i 1) (i 2)

section agree
variable (m : (ℓ : Loc Cert.TrunkIdeal.nD Cert.TrunkIdeal.τ Cert.TrunkIdeal.sig) → Buf (Elt Ideal) ℓ)
  (m' : (ℓ : Loc Cert.ProposalsIdeal.nD Cert.ProposalsIdeal.τ Cert.ProposalsIdeal.sig) → Buf (Elt Ideal) ℓ) (c : Dev Cert.TrunkIdeal.nD)
  (ha : m' ((c.tc : Thread Cert.ProposalsIdeal.nD Cert.ProposalsIdeal.τ).loc Cert.ProposalsIdeal.main_arg0) = m ((c.tc : Thread Cert.TrunkIdeal.nD
        Cert.TrunkIdeal.τ).loc Cert.TrunkIdeal.main_arg0)
    ∧ m' ((c.tc : Thread Cert.ProposalsIdeal.nD Cert.ProposalsIdeal.τ).loc Cert.ProposalsIdeal.main_arg1) = m ((c.tc : Thread Cert.TrunkIdeal.nD
          Cert.TrunkIdeal.τ).loc Cert.TrunkIdeal.main_arg1)
    ∧ m' ((c.tc : Thread Cert.ProposalsIdeal.nD Cert.ProposalsIdeal.τ).loc Cert.ProposalsIdeal.main_arg2) = m ((c.tc : Thread Cert.TrunkIdeal.nD
          Cert.TrunkIdeal.τ).loc Cert.TrunkIdeal.main_arg2)
    ∧ m' ((c.tc : Thread Cert.ProposalsIdeal.nD Cert.ProposalsIdeal.τ).loc Cert.ProposalsIdeal.main_arg3) = m ((c.tc : Thread Cert.TrunkIdeal.nD
          Cert.TrunkIdeal.τ).loc Cert.TrunkIdeal.main_arg3)
    ∧ m' ((c.tc : Thread Cert.ProposalsIdeal.nD Cert.ProposalsIdeal.τ).loc Cert.ProposalsIdeal.main_arg4) = m ((c.tc : Thread Cert.TrunkIdeal.nD
          Cert.TrunkIdeal.τ).loc Cert.TrunkIdeal.main_arg4)
    ∧ m' ((c.tc : Thread Cert.ProposalsIdeal.nD Cert.ProposalsIdeal.τ).loc Cert.ProposalsIdeal.main_arg5) = m ((c.tc : Thread Cert.TrunkIdeal.nD
          Cert.TrunkIdeal.τ).loc Cert.TrunkIdeal.main_arg5)
    ∧ m' ((c.tc : Thread Cert.ProposalsIdeal.nD Cert.ProposalsIdeal.τ).loc Cert.ProposalsIdeal.main_arg6) = m ((c.tc : Thread Cert.TrunkIdeal.nD
          Cert.TrunkIdeal.τ).loc Cert.TrunkIdeal.main_arg6)
    ∧ m' ((c.tc : Thread Cert.ProposalsIdeal.nD Cert.ProposalsIdeal.τ).loc Cert.ProposalsIdeal.main_arg7) = m ((c.tc : Thread Cert.TrunkIdeal.nD
          Cert.TrunkIdeal.τ).loc Cert.TrunkIdeal.main_arg7)
    ∧ m' ((c.tc : Thread Cert.ProposalsIdeal.nD Cert.ProposalsIdeal.τ).loc Cert.ProposalsIdeal.main_arg8) = m ((c.tc : Thread Cert.TrunkIdeal.nD
          Cert.TrunkIdeal.τ).loc Cert.TrunkIdeal.main_arg8)
    ∧ m' ((c.tc : Thread Cert.ProposalsIdeal.nD Cert.ProposalsIdeal.τ).loc Cert.ProposalsIdeal.main_arg9) = m ((c.tc : Thread Cert.TrunkIdeal.nD
          Cert.TrunkIdeal.τ).loc Cert.TrunkIdeal.main_arg9)
    ∧ m' ((c.tc : Thread Cert.ProposalsIdeal.nD Cert.ProposalsIdeal.τ).loc Cert.ProposalsIdeal.main_arg10) = m ((c.tc : Thread Cert.TrunkIdeal.nD
          Cert.TrunkIdeal.τ).loc Cert.TrunkIdeal.main_arg10)
    ∧ m' ((c.tc : Thread Cert.ProposalsIdeal.nD Cert.ProposalsIdeal.τ).loc Cert.ProposalsIdeal.main_arg11) = m ((c.tc : Thread Cert.TrunkIdeal.nD
          Cert.TrunkIdeal.τ).loc Cert.TrunkIdeal.main_arg11))

include ha

theorem scores_eq : Cert.ProposalsIdeal.Value.res_main_v32 m' c = (Cert.TrunkIdeal.Gen.dats m 0 c).arrAt 10 Cert.TrunkIdeal.cfg0.N := by
  obtain ⟨h0, -, h2, h3, h4, h5, -, -, -, -, -, -⟩ := ha
  refine (Cert.ProposalsIdeal.Read.val_main_v32_eq m' c).trans (same_array _ _ fun b p a => ?_)
  refine Eq.trans ?_ (Cert.TrunkIdeal.Hand.scores_left m c b p a).symm
  rw [score_at, h0, h2, h3, h4, h5]
theorem left_eq : Cert.ProposalsIdeal.Value.res_main_v79 m' c = (Cert.TrunkIdeal.Gen.dats m 0 c).arrAt 11 Cert.TrunkIdeal.cfg0.N := by
  obtain ⟨h0, h1, h2, h3, -, -, h6, h7, h8, -, h10, -⟩ := ha
  refine (Cert.ProposalsIdeal.Read.val_main_v79_eq m' c).trans (same_array _ _ fun b p a => ?_)
  refine Eq.trans ?_ (Cert.TrunkIdeal.Hand.left_left m c b p a).symm
  rw [left_at, h0, h1, h2, h3, h6, h7, h8, h10]
theorem top_eq : Cert.ProposalsIdeal.Value.res_main_v86 m' c = (Cert.TrunkIdeal.Gen.dats m 0 c).arrAt 12 Cert.TrunkIdeal.cfg0.N := by
  obtain ⟨h0, h1, h2, h3, -, -, h6, h7, -, h9, -, h11⟩ := ha
  refine (Cert.ProposalsIdeal.Read.val_main_v86_eq m' c).trans (same_array _ _ fun b p a => ?_)
  refine Eq.trans ?_ (Cert.TrunkIdeal.Hand.top_left m c b p a).symm
  rw [top_at, h0, h1, h2, h3, h6, h7, h9, h11]
theorem right_eq : Cert.ProposalsIdeal.Value.res_main_v93 m' c = (Cert.TrunkIdeal.Gen.dats m 0 c).arrAt 13 Cert.TrunkIdeal.cfg0.N := by
  obtain ⟨h0, h1, h2, h3, -, -, h6, h7, h8, -, h10, -⟩ := ha
  refine (Cert.ProposalsIdeal.Read.val_main_v93_eq m' c).trans (same_array _ _ fun b p a => ?_)
  refine Eq.trans ?_ (Cert.TrunkIdeal.Hand.right_left m c b p a).symm
  rw [right_at, h0, h1, h2, h3, h6, h7, h8, h10]
theorem bottom_eq : Cert.ProposalsIdeal.Value.res_main_v100 m' c = (Cert.TrunkIdeal.Gen.dats m 0 c).arrAt 14 Cert.TrunkIdeal.cfg0.N := by
  obtain ⟨h0, h1, h2, h3, -, -, h6, h7, -, h9, -, h11⟩ := ha
  refine (Cert.ProposalsIdeal.Read.val_main_v100_eq m' c).trans (same_array _ _ fun b p a => ?_)
  refine Eq.trans ?_ (Cert.TrunkIdeal.Hand.bottom_left m c b p a).symm
  rw [bottom_at, h0, h1, h2, h3, h6, h7, h9, h11]

end agree

theorem frame_trunk : Cert.quiescent_Trunk (hTrunk := Cert.Trunk.Gen.facts) := fun m ρ _ => Cert.Trunk.Gen.frame m ρ

theorem frame_trunkIdeal : Cert.quiescent_TrunkIdeal (hTrunkIdeal := Cert.TrunkIdeal.Gen.facts) := fun m ρ _ => Cert.TrunkIdeal.Gen.frame m ρ

theorem frame_proposalsIdeal : Cert.quiescent_ProposalsIdeal (hProposalsIdeal := Cert.ProposalsIdeal.Gen.facts) := fun m ρ _ =>
  (θ_run (Cert.ProposalsIdeal.defs (F := Ideal)) _ _).mono
    (fun r h => ⟨fun c => by
      obtain ⟨_, _, _, _, _, hargs⟩ := h c
      exact hargs, sem_eq_zero_of_no_sems (by decide) r.2⟩)
    (Cert.ProposalsIdeal.Value.run (F := Ideal) m ρ)

theorem frame_proposals : Cert.quiescent_Proposals (hProposals := Cert.Proposals.Gen.facts) := fun m ρ _ =>
  (θ_run (Cert.Proposals.defs (F := Bits)) _ _).mono
    (fun r h => ⟨fun c => by
      obtain ⟨_, _, _, _, _, hargs⟩ := h c
      exact hargs, sem_eq_zero_of_no_sems (by decide) r.2⟩)
    (Cert.Proposals.Value.run (F := Bits) m ρ)

theorem algebraic : Cert.algebraic_TrunkIdeal_ProposalsIdeal (hTrunkIdeal := Cert.TrunkIdeal.Gen.facts) (hProposalsIdeal := Cert.ProposalsIdeal.Gen.facts) := by
  intro m ρ m' ρ' _ ha
  refine ⟨fun c => (Cert.TrunkIdeal.Gen.dats m 0 c).arrAt 10 Cert.TrunkIdeal.cfg0.N, fun c => (Cert.TrunkIdeal.Gen.dats m 0 c).arrAt 11 Cert.TrunkIdeal.cfg0.N,
        fun c => (Cert.TrunkIdeal.Gen.dats m 0 c).arrAt 12 Cert.TrunkIdeal.cfg0.N, fun c => (Cert.TrunkIdeal.Gen.dats m 0 c).arrAt 13 Cert.TrunkIdeal.cfg0.N,
        fun c => (Cert.TrunkIdeal.Gen.dats m 0 c).arrAt 14 Cert.TrunkIdeal.cfg0.N,
    Cert.TrunkIdeal.Value.run_blocks (F := Ideal) m ρ, ?_⟩
  refine (θ_run (Cert.ProposalsIdeal.defs (F := Ideal)) _ _).mono (fun r h => ?_) (Cert.ProposalsIdeal.Value.run (F := Ideal) m' ρ')
  intro c
  obtain ⟨r0, r1, r2, r3, r4, hargs⟩ := h c
  have e0 := scores_eq m m' c (ha c)
  have e1 := left_eq m m' c (ha c)
  have e2 := top_eq m m' c (ha c)
  have e3 := right_eq m m' c (ha c)
  have e4 := bottom_eq m m' c (ha c)
  exact ⟨r0.trans e0, r1.trans e1, r2.trans e2, r3.trans e3, r4.trans e4, hargs⟩

end Cert.Proof.Dense
end
-- ==== Proof.TauSearch.lean ====
/-
  The search of a threshold bit by bit, in numbers: of a family of words the largest word that at least so many of the
  family reach is found from the top bit down, one bit a step.
-/
module

public import Idealize.ShloMosaic.Lib.WordSum

@[expose] public section

noncomputable section

namespace Cert.Proof.Tau

open Idealize.ShloMosaic

/-- How many words of the family reach `x`. -/
def reach {n : ℕ} (u : Fin n → BitVec 32) (x : ℕ) : ℕ := (Finset.univ.filter fun q => x ≤ (u q).toNat).card

theorem reach_anti {n : ℕ} (u : Fin n → BitVec 32) {x y : ℕ} (h : x ≤ y) : reach u y ≤ reach u x :=
  Finset.card_le_card fun q hq => by
    rw [Finset.mem_filter] at hq ⊢
    exact ⟨hq.1, h.trans hq.2⟩

/-- One step: bit `j` is kept if, with it, enough words reach the bits found so far. -/
def step {n : ℕ} (k : ℕ) (u : Fin n → BitVec 32) (j : ℕ) (v : BitVec 32) : BitVec 32 :=
  if k ≤ reach u (v.toNat + 2 ^ j) then v ||| BitVec.ofNat 32 (2 ^ j) else v

/-- A new low bit is an addition. -/
theorem toNat_or (v : BitVec 32) (j : ℕ) (hj : j < 32) (hv : 2 ^ (j + 1) ∣ v.toNat) : (v ||| BitVec.ofNat 32 (2 ^ j)).toNat = v.toNat + 2 ^ j := by
  obtain ⟨a, ha⟩ := hv
  have h2 : 2 ^ j < 2 ^ (j + 1) := Nat.pow_lt_pow_right (by decide) (by omega)
  have h3 : 2 ^ j < 2 ^ 32 := Nat.pow_lt_pow_right (by decide) hj
  rw [BitVec.toNat_or, BitVec.toNat_ofNat, Nat.mod_eq_of_lt h3, ha, Nat.two_pow_add_eq_or_of_lt h2]

/-- What is known after the bits from the top down to bit `j` are found: the word has no lower bits, enough words reach
    it, and not enough reach the next word without lower bits. -/
def Found {n : ℕ} (k : ℕ) (u : Fin n → BitVec 32) (j : ℕ) (v : BitVec 32) : Prop :=
  2 ^ j ∣ v.toNat ∧ k ≤ reach u v.toNat ∧ reach u (v.toNat + 2 ^ j) < k

theorem found_step {n : ℕ} (k : ℕ) (u : Fin n → BitVec 32) (j : ℕ) (hj : j < 32) (v : BitVec 32) (h : Found k u (j + 1) v) :
    Found k u j (step k u j v) := by
  obtain ⟨hd, hk, hn⟩ := h
  have hd' : 2 ^ j ∣ v.toNat := (pow_dvd_pow 2 (Nat.le_succ j)).trans hd
  unfold step
  split
  · next hc =>
    refine ⟨?_, ?_, ?_⟩ <;> rw [toNat_or v j hj hd]
    · exact dvd_add hd' dvd_rfl
    · exact hc
    · rwa [add_assoc, ← two_mul, ← pow_succ']
  · next hc => exact ⟨hd', hk, not_le.mp hc⟩

/-- The bits found in the first `t` steps. -/
def search {n : ℕ} (k : ℕ) (u : Fin n → BitVec 32) : ℕ → BitVec 32
  | 0 => 0#32
  | t + 1 => step k u (31 - t) (search k u t)

theorem found_search {n : ℕ} (k : ℕ) (hk : k ≤ n) (hk0 : 0 < k) (u : Fin n → BitVec 32) (t : ℕ) (ht : t ≤ 32) : Found k u (32 - t) (search k u t) := by
  induction t with
  | zero =>
    refine ⟨dvd_zero _, ?_, ?_⟩
    · refine hk.trans (le_of_eq ?_)
      unfold reach search
      rw [Finset.filter_true_of_mem fun q _ => by simp, Finset.card_univ, Fintype.card_fin]
    · refine lt_of_eq_of_lt ?_ hk0
      unfold reach search
      rw [Finset.card_eq_zero, Finset.filter_eq_empty_iff]
      intro q _
      have := (u q).isLt
      simp only [BitVec.toNat_ofNat, Nat.zero_mod, zero_add, Nat.sub_zero, not_le]
      exact this
  | succ t ih =>
    have h := ih (by omega)
    rw [show 32 - t = (31 - t) + 1 by omega] at h
    rw [show 32 - (t + 1) = 31 - t by omega]
    exact found_step k u (31 - t) (by omega) _ h

/-- The word found is the one word that enough words reach and not enough exceed. -/
theorem search_eq {n : ℕ} (k : ℕ) (hk : k ≤ n) (hk0 : 0 < k) (u : Fin n → BitVec 32) (w : BitVec 32) (h1 : k ≤ reach u w.toNat)
    (h2 : reach u (w.toNat + 1) < k) : search k u 32 = w := by
  obtain ⟨-, g1, g2⟩ := found_search k hk hk0 u 32 le_rfl
  apply BitVec.eq_of_toNat_eq
  rw [Nat.sub_self, pow_zero] at g2
  rcases lt_trichotomy (search k u 32).toNat w.toNat with h | h | h
  · have := reach_anti u (show (search k u 32).toNat + 1 ≤ w.toNat from h)
    omega
  · exact h
  · have := reach_anti u (show w.toNat + 1 ≤ (search k u 32).toNat from h)
    omega

/-- A set that holds what stands from place `p` on has at least so many. -/
theorem card_from {n : ℕ} (p : Fin n) (r : Fin n → Fin n) (hr : Function.Injective r) (S : Finset (Fin n)) (h : ∀ j, p ≤ j → r j ∈ S) :
    n - p.val ≤ S.card := by
  have : ((Finset.Ici p).map ⟨r, hr⟩).card ≤ S.card := Finset.card_le_card fun q hq => by
    obtain ⟨j, hj, rfl⟩ := Finset.mem_map.mp hq
    exact h j (Finset.mem_Ici.mp hj)
  rwa [Finset.card_map, Fin.card_Ici] at this

/-- A set that holds only what stands after place `p` has at most so many. -/
theorem card_after {n : ℕ} (p : Fin n) (r : Fin n → Fin n) (hr : Function.Bijective r) (S : Finset (Fin n)) (h : ∀ j, r j ∈ S → p < j) :
    S.card ≤ n - 1 - p.val := by
  have : S.card ≤ ((Finset.Ioi p).map ⟨r, hr.1⟩).card := Finset.card_le_card fun q hq => by
    obtain ⟨j, rfl⟩ := hr.2 q
    exact Finset.mem_map.mpr ⟨j, Finset.mem_Ioi.mpr (h j hq), rfl⟩
  rwa [Finset.card_map, Fin.card_Ioi] at this

/-! ## The words' operations -/

/-- A word less its lowest `j` bits. -/
theorem toNat_high (u : BitVec 32) (j : ℕ) : (u &&& (BitVec.allOnes 32 <<< j)).toNat = u.toNat / 2 ^ j * 2 ^ j := by
  have h : u &&& (BitVec.allOnes 32 <<< j) = (u >>> j) <<< j := by
    ext i hi
    simp only [BitVec.getElem_and, BitVec.getElem_shiftLeft, BitVec.getElem_allOnes, BitVec.getLsbD_ushiftRight]
    by_cases hij : i < j
    · simp [hij]
    · simp [hij, show j + (i - j) = i by omega, BitVec.getLsbD_eq_getElem hi]
  rw [h, BitVec.toNat_shiftLeft, BitVec.toNat_ushiftRight, Nat.shiftLeft_eq, Nat.shiftRight_eq_div_pow]
  exact Nat.mod_eq_of_lt (lt_of_le_of_lt (Nat.div_mul_le_self _ _) u.isLt)

/-- A word without lower bits is reached by a word exactly if it is reached by that word's higher bits. -/
theorem reached_high (x u p : ℕ) (hp : p ∣ x) (hp0 : 0 < p) : x ≤ u / p * p ↔ x ≤ u := by
  obtain ⟨a, rfl⟩ := hp
  constructor
  · exact fun h => h.trans (Nat.div_mul_le_self _ _)
  · intro h
    rw [mul_comm p a]
    exact Nat.mul_le_mul_right p ((Nat.le_div_iff_mul_le hp0).mpr (by rwa [mul_comm]))

/-- The sign's bit inverted: the signed order becomes that of the numbers. -/
theorem toInt_flip (x : BitVec 32) : (x ^^^ 2147483648#32).toInt = (x.toNat : ℤ) - 2 ^ 31 := by
  have h : (x ^^^ 2147483648#32).toNat = if x.toNat < 2 ^ 31 then x.toNat + 2 ^ 31 else x.toNat - 2 ^ 31 := by
    rw [BitVec.toNat_xor, show (2147483648#32 : BitVec 32).toNat = 2 ^ 31 by decide]
    have h1 : (x.toNat ^^^ 2 ^ 31) / 2 ^ 31 = x.toNat / 2 ^ 31 ^^^ 1 := by
      rw [Nat.xor_div_two_pow, Nat.div_self (by decide)]
    have h2 : (x.toNat ^^^ 2 ^ 31) % 2 ^ 31 = x.toNat % 2 ^ 31 := by
      rw [Nat.xor_mod_two_pow, Nat.mod_self, Nat.xor_zero]
    have hx := x.isLt
    have h3 := Nat.div_add_mod (x.toNat ^^^ 2 ^ 31) (2 ^ 31)
    rw [h1, h2] at h3
    split
    · next hlt =>
      rw [Nat.div_eq_of_lt hlt, Nat.mod_eq_of_lt hlt, show 0 ^^^ 1 = 1 from rfl] at h3
      omega
    · next hge =>
      have h4 : x.toNat / 2 ^ 31 = 1 := by omega
      rw [h4, show 1 ^^^ 1 = 0 from rfl] at h3
      omega
  have hx := x.isLt
  rw [BitVec.toInt_eq_toNat_cond, h]
  split <;> split <;> omega

theorem flip_flip (x : BitVec 32) : (x ^^^ 2147483648#32) ^^^ 2147483648#32 = x := by
  rw [BitVec.xor_assoc, BitVec.xor_self, BitVec.xor_zero]

/-- So of a word `K` whose flipped word is `x`. -/
theorem toNat_flip (K : BitVec 32) : ((K ^^^ 2147483648#32).toNat : ℤ) = K.toInt + 2 ^ 31 := by
  have := toInt_flip (K ^^^ 2147483648#32)
  rw [flip_flip] at this
  omega

theorem sle_flip (x y : BitVec 32) : (x ^^^ 2147483648#32).sle (y ^^^ 2147483648#32) = decide (x.toNat ≤ y.toNat) := by
  rw [BitVec.sle, toInt_flip, toInt_flip, decide_eq_decide]
  omega

end Cert.Proof.Tau
-- ==== Proof.TauRead.lean ====
/-
  The threshold kernel's values, entry by entry: its keys, one step of its search as a step in numbers, and all thirty-two
  steps; the reference's keys, and its sorted row at the place of the 600th largest.
-/
module

public import proofs.«01_k».proof.Proof.TauSearch
public import proofs.«01_k».proof.Proof.Gen.ThresholdIdeal.Value
public import proofs.«01_k».proof.Proof.Gen.RankedIdeal.Read
public import Idealize.ShloMosaic.Lib.Pipeline.ValueKit
public import Idealize.ShloMosaic.Lib.Pointwise
public import Idealize.ShloMosaic.Lib.SortFacts
public import Idealize.ShloMosaic.Lib.WordSum

@[expose] public section

set_option maxRecDepth 16384

noncomputable section

namespace Cert.Proof.Tau

open Idealize.ShloMosaic

variable {F : FTy → Type} [FloatOps F]

/-- The key of a score's bits: of a negative score all bits but the sign's inverted. -/
def keyOf (x : BitVec 32) : BitVec 32 := if x.slt 0#32 then x ^^^ 2147483647#32 else x

/-- The keys of a row with the sign's bit inverted, which order by their numbers as the keys do by their signed values. -/
def flipped (x : Fin 9216 → BitVec 32) : Fin 9216 → BitVec 32 := fun q => keyOf (x q) ^^^ 2147483648#32

/-! ## The kernel -/

section kernel

open Cert.ThresholdIdeal Cert.ThresholdIdeal.Gen

theorem smear (x : BitVec 32) : x.sshiftRight 31 = if x.slt 0#32 then 4294967295#32 else 0#32 := by
  have hs : x.slt 0#32 = x.msb := by rw [BitVec.slt_zero_eq_msb]
  rw [hs]
  ext i hi
  rw [BitVec.getElem_sshiftRight]
  cases hm : x.msb
  · by_cases h0 : i = 0
    · subst h0
      have : x.getLsbD 31 = false := by rw [← hm, BitVec.msb_eq_getLsbD_last]
      simpa using this
    · simp [show ¬ (31 + i < 32) by omega]
  · rw [if_pos rfl, show (4294967295#32 : BitVec 32) = BitVec.allOnes 32 by decide, BitVec.getElem_allOnes]
    by_cases h0 : i = 0
    · subst h0
      have : x.getLsbD 31 = true := by rw [← hm, BitVec.msb_eq_getLsbD_last]
      simpa using this
    · simp [show ¬ (31 + i < 32) by omega]

theorem key_word (x : BitVec 32) : IntOp.xori x (IntOp.andi (IntOp.shrsi .vector x 31#32) 2147483647#32) = keyOf x := by
  have h : IntOp.shrsi .vector x 31#32 = x.sshiftRight 31 := rfl
  rw [h, smear]
  unfold keyOf
  cases x.slt 0#32
  · show x ^^^ (0#32 &&& _) = x
    rw [BitVec.zero_and, BitVec.xor_zero]
  · rfl

theorem key_apply (x : Vec F S4x9216 .i32) (b : Fin 4) (q : Fin 9216) : k0_pay1 x (ix2 b q) = keyOf (x (ix2 b q)) := key_word _

/-- The scalars of trip `t`: the bit, and the mask of the bits from it up. -/
theorem bit_word (t : Fin k0_t1_loop.trips) : Scalar.shli 1#32 (Scalar.subi 31#32 (Scf.iv 0#32 1#32 t)) = BitVec.ofNat 32 (2 ^ (31 - t.val)) := by
  revert t; decide +kernel
theorem mask_word (t : Fin k0_t1_loop.trips) :
    Scalar.xori (Scalar.subi (Scalar.shli 1#32 (Scalar.subi 31#32 (Scf.iv 0#32 1#32 t))) 1#32) 4294967295#32 = BitVec.allOnes 32 <<< (31 - t.val) := by
  revert t; decide +kernel

/-- A sum of widened bits along a row is the count of the bits that are set. -/
theorem count_word (x : IVec S4x9216 1) (hw : 1 < 32) (h : S4x9216.Reduces [1] S4) (hacc : (0#32 : BitVec 32) = IKind.add.neutral) (b : Fin 4) :
    (multiReductionI .add [1] S4 (extui 32 x hw) 0#32 h hacc (ix1 b)).toNat = (Finset.univ.filter fun q : Fin 9216 => x (ix2 b q) = 1#1).card := by
  classical
  have hsum : ∑ i ∈ Finset.univ.filter (fun i : S4x9216.Idx => h.drop i = ix1 b), (extui 32 x hw i).toNat
      = (Finset.univ.filter fun q : Fin 9216 => x (ix2 b q) = 1#1).card := by
    rw [Finset.card_filter]
    have hdrop : ∀ i : S4x9216.Idx, h.drop i = ix1 b ↔ i 0 = b := by
      intro i
      have hv : (h.drop i 0 : Nat) = i 0 := Shape.Reduces.drop_apply_val h i 0
      constructor
      · intro e; rw [e] at hv; exact Fin.ext hv.symm
      · intro e; funext a; match a with | ⟨0, _⟩ => exact Fin.ext (hv.trans (congrArg Fin.val e))
    have hback : ∀ i : S4x9216.Idx, i 0 = b → ix2 b (i 1) = i := fun i h0 => by
      funext a; match a with
      | ⟨0, _⟩ => exact h0.symm
      | ⟨1, _⟩ => rfl
    refine Finset.sum_bij' (fun i _ => i 1) (fun q _ => ix2 b q) (fun _ _ => Finset.mem_univ _)
      (fun q _ => Finset.mem_filter.2 ⟨Finset.mem_univ _, (hdrop _).2 rfl⟩)
      (fun i hi => hback i ((hdrop i).1 (Finset.mem_filter.1 hi).2)) (fun _ _ => rfl) ?_
    intro i hi
    have e : x (ix2 b (i 1)) = x i := congrArg x (hback i ((hdrop i).1 (Finset.mem_filter.1 hi).2))
    refine Eq.trans ?_ (congrArg (fun y : BitVec 1 => if y = 1#1 then 1 else 0) e.symm)
    show ((x i).setWidth 32).toNat = _
    generalize x i = y
    revert y; decide
  rw [WordSum.toNat_multiReductionI_add _ h hacc (ix1 b) ?_, hsum]
  rw [hsum]
  exact lt_of_le_of_lt (Finset.card_le_univ _) (by rw [Fintype.card_fin]; decide)

/-- Which keys a trip counts: those whose higher bits reach the bits found so far with the next one. -/
def marks (x : Vec F S4x9216 .i32) (t : Fin k0_t1_loop.trips) (v : IVec S4x1 32) : IVec S4x9216 1 :=
  cmpi .sge
    (xori (andi (xori (k0_pay1 x) (broadcast S4x9216 2147483648#32))
      (broadcast S4x9216 (Scalar.xori (Scalar.subi (Scalar.shli 1#32 (Scalar.subi 31#32 (Scf.iv 0#32 1#32 t))) 1#32) 4294967295#32)))
      (broadcast S4x9216 2147483648#32))
    (broadcastTo S4x9216 (xori (ori v (broadcast S4x1 (Scalar.shli 1#32 (Scalar.subi 31#32 (Scf.iv 0#32 1#32 t))))) (broadcast S4x1 2147483648#32))
      broadcasts_S4x1_S4x9216)

theorem column_apply (y : IVec S4x1 32) (b : Fin 4) (q : Fin 9216) : broadcastTo S4x9216 y broadcasts_S4x1_S4x9216 (ix2 b q) = y (ix2 b 0) := by
  pointwise

theorem marks_apply (x : Vec F S4x9216 .i32) (t : Fin k0_t1_loop.trips) (v : IVec S4x1 32) (b : Fin 4) (q : Fin 9216)
    (hv : 2 ^ (31 - t.val + 1) ∣ (v (ix2 b 0)).toNat) :
    marks x t v (ix2 b q) = 1#1 ↔ (v (ix2 b 0)).toNat + 2 ^ (31 - t.val) ≤ (flipped (fun q => x (ix2 b q)) q).toNat := by
  unfold marks
  show IntOp.cmpi .sge ((((k0_pay1 x (ix2 b q)) ^^^ 2147483648#32) &&&
    (Scalar.xori (Scalar.subi (Scalar.shli 1#32 (Scalar.subi 31#32 (Scf.iv 0#32 1#32 t))) 1#32) 4294967295#32)) ^^^ 2147483648#32)
    (broadcastTo S4x9216 _ broadcasts_S4x1_S4x9216 (ix2 b q)) = 1#1 ↔ _
  rw [column_apply]
  show BitVec.ofBool (BitVec.sle ((v (ix2 b 0) ||| (Scalar.shli 1#32 (Scalar.subi 31#32 (Scf.iv 0#32 1#32 t)))) ^^^ 2147483648#32) _) = 1#1 ↔ _
  rw [mask_word, bit_word, key_apply, sle_flip, toNat_high, toNat_or _ _ (by omega) hv]
  have hp : 2 ^ (31 - t.val) ∣ (v (ix2 b 0)).toNat + 2 ^ (31 - t.val) := dvd_add ((pow_dvd_pow 2 (Nat.le_succ _)).trans hv) dvd_rfl
  refine Iff.trans ?_ (reached_high _ (keyOf (x (ix2 b q)) ^^^ 2147483648#32).toNat _ hp (Nat.two_pow_pos _))
  cases h : decide ((v (ix2 b 0)).toNat + 2 ^ (31 - t.val) ≤ (keyOf (x (ix2 b q)) ^^^ 2147483648#32).toNat / 2 ^ (31 - t.val) * 2 ^ (31 - t.val))
  · exact ⟨fun e => absurd e (by decide), fun e => absurd e (of_decide_eq_false h)⟩
  · exact ⟨fun _ => of_decide_eq_true h, fun _ => rfl⟩

/-- One trip is one step of the search, where the bits found so far leave room. -/
theorem trip_apply (x : Vec F S4x9216 .i32) (t : Fin k0_t1_loop.trips) (v : IVec S4x1 32) (b : Fin 4)
    (hv : 2 ^ (31 - t.val + 1) ∣ (v (ix2 b 0)).toNat) :
    k0_pay3 x t v (ix2 b 0) = step 600 (flipped fun q => x (ix2 b q)) (31 - t.val) (v (ix2 b 0)) := by
  have hc : (shapeCast S4x1 (multiReductionI .add [1] S4 (extui 32 (marks x t v) natLt_1_32) 0#32 reduces_S4x9216_S4 rfl) shapeCasts_S4_S4x1 (ix2 b 0)).toNat
      = reach (flipped fun q => x (ix2 b q)) ((v (ix2 b 0)).toNat + 2 ^ (31 - t.val)) := by
    rw [shapeCast_apply _ _ (ix2 b 0) (ix1 b) (by
      rw [Shape.rowMajor_val_one, Shape.rowMajor_val_two]; show b.val = b.val * 1 + 0; omega)]
    refine (count_word (marks x t v) natLt_1_32 reduces_S4x9216_S4 rfl b).trans ?_
    unfold reach
    exact congrArg Finset.card (Finset.filter_congr fun q _ => marks_apply x t v b q hv)
  have hle : reach (flipped fun q => x (ix2 b q)) ((v (ix2 b 0)).toNat + 2 ^ (31 - t.val)) ≤ 9216 :=
    (Finset.card_le_univ _).trans (by rw [Fintype.card_fin])
  show Scalar.select (BitVec.ofBool (BitVec.sle 600#32
      (shapeCast S4x1 (multiReductionI .add [1] S4 (extui 32 (marks x t v) natLt_1_32) 0#32 reduces_S4x9216_S4 rfl) shapeCasts_S4_S4x1 (ix2 b 0))))
    (v (ix2 b 0) ||| (Scalar.shli 1#32 (Scalar.subi 31#32 (Scf.iv 0#32 1#32 t)))) (v (ix2 b 0)) = _
  rw [bit_word]
  unfold step
  have hs : ∀ c : BitVec 32, c.toNat ≤ 9216 → BitVec.sle 600#32 c = decide (600 ≤ c.toNat) := by
    intro c h
    rw [BitVec.sle, decide_eq_decide, show (600#32 : BitVec 32).toInt = 600 by decide, BitVec.toInt_eq_toNat_of_lt (x := c) (by omega)]
    omega
  rw [hs _ (by rw [hc]; exact hle), hc]
  by_cases h : 600 ≤ reach (flipped fun q => x (ix2 b q)) ((v (ix2 b 0)).toNat + 2 ^ (31 - t.val))
  · rw [decide_eq_true h, if_pos h]; rfl
  · rw [decide_eq_false h, if_neg h]; rfl

/-- A fold over the trips, by what holds after each. -/
theorem fold_along {σ : Type} (n : ℕ) (f : Fin n → σ → σ) (P : ℕ → σ → Prop) (s : σ) (h0 : P 0 s)
    (hs : ∀ (k : Fin n) (acc : σ), P k.val acc → P (k.val + 1) (f k acc)) : P n ((List.finRange n).foldl (fun acc k => f k acc) s) := by
  induction n with
  | zero => exact h0
  | succ n ih =>
    rw [List.finRange_succ_last, List.foldl_append, List.foldl_map]
    exact hs (Fin.last n) _ (ih (fun k => f k.castSucc) fun k acc h => hs k.castSucc acc h)

/-- All thirty-two trips: of each row the word the search finds. -/
theorem trips_apply (x : Vec F S4x9216 .i32) (b : Fin 4) :
    (Scf.fold (k0_pay3 x) k0_pay2) (ix2 b 0) = search 600 (flipped fun q => x (ix2 b q)) 32 := by
  rw [Scf.fold_eq]
  have hn : k0_t1_loop.trips = 32 := by decide +kernel
  have h := fold_along k0_t1_loop.trips (k0_pay3 x) (fun t v => v (ix2 b 0) = search 600 (flipped fun q => x (ix2 b q)) t) k0_pay2 rfl
    (fun t v hv => by
      have ht : t.val < 32 := lt_of_lt_of_eq t.isLt hn
      obtain ⟨hd, -, -⟩ := found_search 600 (by omega) (by omega) (flipped fun q => x (ix2 b q)) t.val (by omega)
      rw [trip_apply x t v b (by rw [hv, show 31 - t.val + 1 = 32 - t.val by omega]; exact hd), hv]
      rfl)
  exact h.trans (congrArg (search 600 (flipped fun q => x (ix2 b q))) hn)

end kernel

/-! ## The reference -/

section reference

open Cert.RankedIdeal Cert.RankedIdeal.Read

theorem keys_apply (x : IVec S4x9216 32) (b : Fin 4) (q : Fin 9216) : val_main_v4 (F := F) x (ix2 b q) = keyOf (x (ix2 b q)) := by
  show Scalar.select (BitVec.ofBool ((x (ix2 b q)).slt (val_main_v0 (F := F) (ix2 b q)))) (x (ix2 b q) ^^^ val_main_v2 (F := F) (ix2 b q)) (x (ix2 b q)) = _
  rw [val_main_v0_apply, val_main_v2_apply]
  show Scalar.select (BitVec.ofBool ((x (ix2 b q)).slt 0#32)) (x (ix2 b q) ^^^ 2147483647#32) (x (ix2 b q)) = _
  unfold keyOf
  cases (x (ix2 b q)).slt 0#32 <;> rfl

/-- Where the keys of a row stand when they are sorted. -/
def ranks (k : Fin 9216 → BitVec 32) : Fin 9216 → Fin 9216 := sortedFrom fun i j => (k i).slt (k j)

theorem ranks_mono (k : Fin 9216 → BitVec 32) {i j : Fin 9216} (h : i ≤ j) : (k (ranks k i)).toInt ≤ (k (ranks k j)).toInt := by
  rcases h.lt_or_eq with h | rfl
  · have := sortedFrom_noInversion (fun i j => (k i).slt (k j)) (fun i j => (k i).slt (k j))
      (fun a b h => by simp only [BitVec.slt, decide_eq_true_eq, decide_eq_false_iff_not] at h ⊢; omega) (fun _ _ h => h)
      (fun a b c h1 h2 => by simp only [BitVec.slt, decide_eq_false_iff_not] at h1 h2 ⊢; omega) i j h
    simp only [BitVec.slt, decide_eq_false_iff_not, not_lt] at this
    exact this
  · exact le_rfl

theorem along_row (b : Fin 4) (j k : Fin 9216) : (ix2 b j : S4x9216.Idx).along 1 k = ix2 b k := by
  funext a; match a with | ⟨0, _⟩ => rfl | ⟨1, _⟩ => rfl

theorem sorted_apply (x : IVec S4x9216 32) (b : Fin 4) (j : Fin 9216) :
    val_main_v5 (F := F) x (ix2 b j) = keyOf (x (ix2 b (ranks (fun q => keyOf (x (ix2 b q))) j))) := by
  unfold val_main_v5 Host.sort
  have hb : (fun k k' : Fin 9216 => comparator_i32_d1 (val_main_v4 (F := F) x ((ix2 b j : S4x9216.Idx).along 1 k))
        (val_main_v4 (F := F) x ((ix2 b j : S4x9216.Idx).along 1 k')) == 1#1) = fun i j => (keyOf (x (ix2 b i))).slt (keyOf (x (ix2 b j))) := by
    funext k k'
    rw [along_row, along_row, keys_apply, keys_apply]
    show (BitVec.ofBool _ == 1#1) = _
    cases (keyOf (x (ix2 b k))).slt (keyOf (x (ix2 b k'))) <;> rfl
  rw [dif_pos (show 1 < S4x9216.rank by decide)]
  show val_main_v4 (F := F) x ((ix2 b j : S4x9216.Idx).along 1 (sortedFrom (fun k k' : Fin 9216 => comparator_i32_d1 (val_main_v4 (F := F) x ((ix2 b j :
      S4x9216.Idx).along 1 k)) (val_main_v4 (F := F) x ((ix2 b j : S4x9216.Idx).along 1 k')) == 1#1) j)) = _
  rw [hb]
  exact (congrArg (val_main_v4 (F := F) x) (along_row b j _)).trans (keys_apply x b _)

/-- The place of the 600th largest of a sorted row. -/
def place : Fin 9216 := ⟨8616, by omega⟩

theorem ranked_apply (x : IVec S4x9216 32) (b : Fin 4) :
    val_main_v6 (F := F) x (ix2 b 0) = keyOf (x (ix2 b (ranks (fun q => keyOf (x (ix2 b q))) place))) := by
  rw [val_main_v6_apply]
  refine Eq.trans (congrArg (val_main_v5 (F := F) x) ?_) (sorted_apply x b place)
  funext a; match a with | ⟨0, _⟩ => rfl | ⟨1, _⟩ => rfl

end reference

/-- The 600th largest key of a row is what the search finds, its sign's bit inverted back. -/
theorem search_ranks (x : Fin 9216 → BitVec 32) :
    search 600 (flipped x) 32 ^^^ 2147483648#32 = keyOf (x (ranks (fun q => keyOf (x q)) place)) := by
  let r := ranks fun q => keyOf (x q)
  have hr : Function.Injective r := sortedFrom_injective _
  have hf : ∀ q q' : Fin 9216, (keyOf (x q)).toInt ≤ (keyOf (x q')).toInt ↔ (flipped x q).toNat ≤ (flipped x q').toNat := by
    intro q q'
    have h1 := toNat_flip (keyOf (x q))
    have h2 := toNat_flip (keyOf (x q'))
    unfold flipped
    omega
  have hs : search 600 (flipped x) 32 = flipped x (r place) := by
    refine search_eq 600 (by omega) (by omega) _ _ ?_ ?_
    · refine (show 600 = 9216 - place.val from rfl).trans_le (card_from place r hr _ fun j hj => ?_)
      exact Finset.mem_filter.mpr ⟨Finset.mem_univ _, (hf (r place) (r j)).mp (ranks_mono (fun q => keyOf (x q)) hj)⟩
    · refine (card_after place r ⟨hr, sortedFrom_surjective _⟩ _ fun j hj => ?_).trans_lt (show 9216 - 1 - place.val < 600 from Nat.lt_of_sub_eq_succ rfl)
      have hj' := (Finset.mem_filter.mp hj).2
      by_contra hn
      have h1 := (hf _ _).mp (ranks_mono (fun q => keyOf (x q)) (not_lt.mp hn))
      change (flipped x (r j)).toNat ≤ (flipped x (r place)).toNat at h1
      omega
  rw [hs]
  exact flip_flip _

end Cert.Proof.Tau
-- ==== Proof.TauValue.lean ====
/-
  What the threshold's kernel leaves in its two arrays, from the scores' bits, at either instance: per image the word its
  search finds, and the keys.
-/
module

public import proofs.«01_k».proof.Proof.TauRead
public import proofs.«01_k».proof.Proof.Gen.ThresholdIdeal.Value
public import proofs.«01_k».proof.Proof.Gen.RankedIdeal.Read
public import proofs.«01_k».proof.Proof.Gen.RankedIdeal.Run
public import proofs.«01_k».proof.Proof.Gen.Threshold.Value
public import proofs.«01_k».proof.Proof.Gen.Ranked.Read
public import proofs.«01_k».proof.Proof.Gen.Ranked.Run
public import Idealize.ShloMosaic.Lib.Pipeline.ValueKit
public import Idealize.ShloMosaic.Lib.Pointwise

@[expose] public section

set_option maxRecDepth 16384

noncomputable section

/-! ## What the kernel leaves, at the ideal instance -/

namespace Cert.ThresholdIdeal.Hand

open Cert.ThresholdIdeal Cert.ThresholdIdeal.Gen Cert.ThresholdIdeal.Value Cert.Proof.Tau
open Idealize.ShloMosaic Idealize.ShloMosaic.TcCoe Idealize.ShloMosaic.Tactic
open Idealize.ShloMosaic.Pipeline (Dat Cfg Window)

section
variable {F : FTy → Type} [FloatOps F] (m : (ℓ : Loc nD τ sig) → Buf (Elt F) ℓ) (c : Dev nD)

/-- The grid's one point. -/
def point : Fin cfg0.N := ⟨0, by decide⟩

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

theorem block_apply (b : Fin 4) (q : Fin 9216) : (iblk m c 0 point : Vec F S4x9216 .i32) (ix2 b q)
    = (m ((c.tc : Thread nD τ).loc main_arg0) : IVec S4x9216 32) (ix2 b q) := by
  rw [← V_main_arg0 m c]
  blk_ext [iblk, index0 point]

theorem array1 (b : Fin 4) : ((dats m 0 c).arrAt 1 cfg0.N : IVec S4x1 32) (ix2 b 0) = ((dats m 0 c).flushed 1 point : IVec S4x1 32) (ix2 b 0) := by
  rw [← blocks1 m c point (flush0_1 point)]
  blk_ext [index1 point]
theorem array2 (b : Fin 4) (q : Fin 9216) :
    ((dats m 0 c).arrAt 2 cfg0.N : IVec S4x9216 32) (ix2 b q) = ((dats m 0 c).flushed 2 point : IVec S4x9216 32) (ix2 b q) := by
  rw [← blocks2 m c point (flush0_2 point)]
  blk_ext [index2 point]

theorem out2 : (dats m 0 c).flushed 2 point = k0_pay1 (iblk m c 0 point : Vec F S4x9216 .i32) := by
  rw [flushed2_A]
  frame_out
  exact congrArg k0_pay1 ((hs0_0 point).read_unread _)

theorem out1 : (dats m 0 c).flushed 1 point = k0_pay4 (Scf.fold (k0_pay3 (iblk m c 0 point : Vec F S4x9216 .i32)) k0_pay2) := by
  rw [flushed1_A]
  frame_out
  exact congrArg (fun x : Vec F S4x9216 .i32 => k0_pay4 (Scf.fold (k0_pay3 x) k0_pay2)) ((hs0_0 point).read_unread _)

theorem keys_left (b : Fin 4) (q : Fin 9216) : ((dats m 0 c).arrAt 2 cfg0.N : IVec S4x9216 32) (ix2 b q)
    = keyOf ((m ((c.tc : Thread nD τ).loc main_arg0) : IVec S4x9216 32) (ix2 b q)) := by
  rw [array2, out2]
  exact (key_apply (iblk m c 0 point : Vec F S4x9216 .i32) b q).trans (congrArg keyOf (block_apply m c b q))

theorem threshold_left (b : Fin 4) : ((dats m 0 c).arrAt 1 cfg0.N : IVec S4x1 32) (ix2 b 0)
    = search 600 (flipped fun q => (m ((c.tc : Thread nD τ).loc main_arg0) : IVec S4x9216 32) (ix2 b q)) 32 ^^^ 2147483648#32 := by
  rw [array1, out1]
  refine (congrArg (· ^^^ 2147483648#32) (trips_apply (iblk m c 0 point : Vec F S4x9216 .i32) b)).trans ?_
  exact congrArg (fun x => search 600 (flipped x) 32 ^^^ 2147483648#32) (funext fun q => block_apply m c b q)

end

end Cert.ThresholdIdeal.Hand

/-! ## What the kernel leaves, at the hardware's -/

namespace Cert.Threshold.Hand

open Cert.Threshold Cert.Threshold.Gen Cert.Threshold.Value Cert.Proof.Tau
open Idealize.ShloMosaic Idealize.ShloMosaic.TcCoe Idealize.ShloMosaic.Tactic
open Idealize.ShloMosaic.Pipeline (Dat Cfg Window)

section
variable {F : FTy → Type} [FloatOps F] (m : (ℓ : Loc nD τ sig) → Buf (Elt F) ℓ) (c : Dev nD)

/-- The grid's one point. -/
def point : Fin cfg0.N := ⟨0, by decide⟩

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

theorem block_apply (b : Fin 4) (q : Fin 9216) : (iblk m c 0 point : Vec F S4x9216 .i32) (ix2 b q)
    = (m ((c.tc : Thread nD τ).loc main_arg0) : IVec S4x9216 32) (ix2 b q) := by
  rw [← V_main_arg0 m c]
  blk_ext [iblk, index0 point]

theorem array1 (b : Fin 4) : ((dats m 0 c).arrAt 1 cfg0.N : IVec S4x1 32) (ix2 b 0) = ((dats m 0 c).flushed 1 point : IVec S4x1 32) (ix2 b 0) := by
  rw [← blocks1 m c point (flush0_1 point)]
  blk_ext [index1 point]
theorem array2 (b : Fin 4) (q : Fin 9216) :
    ((dats m 0 c).arrAt 2 cfg0.N : IVec S4x9216 32) (ix2 b q) = ((dats m 0 c).flushed 2 point : IVec S4x9216 32) (ix2 b q) := by
  rw [← blocks2 m c point (flush0_2 point)]
  blk_ext [index2 point]

theorem out2 : (dats m 0 c).flushed 2 point = k0_pay1 (iblk m c 0 point : Vec F S4x9216 .i32) := by
  rw [flushed2_A]
  frame_out
  exact congrArg k0_pay1 ((hs0_0 point).read_unread _)

theorem out1 : (dats m 0 c).flushed 1 point = k0_pay4 (Scf.fold (k0_pay3 (iblk m c 0 point : Vec F S4x9216 .i32)) k0_pay2) := by
  rw [flushed1_A]
  frame_out
  exact congrArg (fun x : Vec F S4x9216 .i32 => k0_pay4 (Scf.fold (k0_pay3 x) k0_pay2)) ((hs0_0 point).read_unread _)

theorem keys_left (b : Fin 4) (q : Fin 9216) : ((dats m 0 c).arrAt 2 cfg0.N : IVec S4x9216 32) (ix2 b q)
    = keyOf ((m ((c.tc : Thread nD τ).loc main_arg0) : IVec S4x9216 32) (ix2 b q)) := by
  rw [array2, out2]
  exact (key_apply (iblk m c 0 point : Vec F S4x9216 .i32) b q).trans (congrArg keyOf (block_apply m c b q))

theorem threshold_left (b : Fin 4) : ((dats m 0 c).arrAt 1 cfg0.N : IVec S4x1 32) (ix2 b 0)
    = search 600 (flipped fun q => (m ((c.tc : Thread nD τ).loc main_arg0) : IVec S4x9216 32) (ix2 b q)) 32 ^^^ 2147483648#32 := by
  rw [array1, out1]
  refine (congrArg (· ^^^ 2147483648#32) (trips_apply (iblk m c 0 point : Vec F S4x9216 .i32) b)).trans ?_
  exact congrArg (fun x => search 600 (flipped x) 32 ^^^ 2147483648#32) (funext fun q => block_apply m c b q)

end

end Cert.Threshold.Hand
-- ==== Proof.TauClaims.lean ====
/-
  The kernel of the threshold against its reference: the word the search finds is the 600th largest key of the sorted row,
  and the keys are the same.
-/
module

public import proofs.«01_k».proof.Defs
public import proofs.«01_k».proof.Proof.TauValue
public import proofs.«01_k».proof.Proof.Gen.Threshold.Frame
public import proofs.«01_k».proof.Proof.Gen.Ranked.Run
public import proofs.«01_k».proof.Proof.Gen.RankedIdeal.Run

@[expose] public section

set_option maxRecDepth 16384

noncomputable section

namespace Cert.Proof.Tau

open Idealize.ShloMosaic Idealize.ShloMosaic.TcCoe Idealize.SL.Sem

/-! ## At the ideal instance -/

namespace AtIdeal

open Cert.RankedIdeal.Read

variable (m : (ℓ : Loc Cert.ThresholdIdeal.nD Cert.ThresholdIdeal.τ Cert.ThresholdIdeal.sig) → Buf (Elt Ideal) ℓ)
  (m' : (ℓ : Loc Cert.RankedIdeal.nD Cert.RankedIdeal.τ Cert.RankedIdeal.sig) → Buf (Elt Ideal) ℓ) (c : Dev Cert.ThresholdIdeal.nD)
  (ha : m' ((c.tc : Thread Cert.RankedIdeal.nD Cert.RankedIdeal.τ).loc Cert.RankedIdeal.main_arg0)
    = m ((c.tc : Thread Cert.ThresholdIdeal.nD Cert.ThresholdIdeal.τ).loc Cert.ThresholdIdeal.main_arg0))

include ha

theorem keys_eq : val_main_v4 (F := Ideal) (m' ((c.tc : Thread Cert.RankedIdeal.nD Cert.RankedIdeal.τ).loc Cert.RankedIdeal.main_arg0)) = (Cert.ThresholdIdeal.Gen.dats m 0 c).arrAt 2 Cert.ThresholdIdeal.cfg0.N := by
  funext i
  have hi : i = ix2 (i 0) (i 1) := by
    funext a; match a with | ⟨0, _⟩ => rfl | ⟨1, _⟩ => rfl
  rw [hi]
  refine Eq.trans ?_ (Cert.ThresholdIdeal.Hand.keys_left m c (i 0) (i 1)).symm
  rw [← ha]
  exact keys_apply (F := Ideal) _ (i 0) (i 1)

theorem threshold_eq : val_main_v6 (F := Ideal) (m' ((c.tc : Thread Cert.RankedIdeal.nD Cert.RankedIdeal.τ).loc Cert.RankedIdeal.main_arg0)) = (Cert.ThresholdIdeal.Gen.dats m 0 c).arrAt 1 Cert.ThresholdIdeal.cfg0.N := by
  funext i
  have hi : i = ix2 (i 0) 0 := by
    funext a
    match a with
    | ⟨0, _⟩ => rfl
    | ⟨1, _⟩ => exact Fin.ext (by have := (i 1).isLt; change (i 1).val < 1 at this; show (i 1).val = 0; omega)
  rw [hi]
  refine Eq.trans ?_ (Cert.ThresholdIdeal.Hand.threshold_left m c (i 0)).symm
  rw [← ha, search_ranks]
  exact ranked_apply (F := Ideal) _ (i 0)

end AtIdeal

/-! ## At the hardware's instance -/

namespace AtBits

open Cert.Ranked.Read

variable (m : (ℓ : Loc Cert.Threshold.nD Cert.Threshold.τ Cert.Threshold.sig) → Buf (Elt Bits) ℓ)
  (m' : (ℓ : Loc Cert.Ranked.nD Cert.Ranked.τ Cert.Ranked.sig) → Buf (Elt Bits) ℓ) (c : Dev Cert.Threshold.nD)
  (ha : m' ((c.tc : Thread Cert.Ranked.nD Cert.Ranked.τ).loc Cert.Ranked.main_arg0)
    = m ((c.tc : Thread Cert.Threshold.nD Cert.Threshold.τ).loc Cert.Threshold.main_arg0))

include ha

theorem keys_eq : val_main_v4 (F := Bits) (m' ((c.tc : Thread Cert.Ranked.nD Cert.Ranked.τ).loc Cert.Ranked.main_arg0)) = (Cert.Threshold.Gen.dats m 0 c).arrAt 2 Cert.Threshold.cfg0.N := by
  funext i
  have hi : i = ix2 (i 0) (i 1) := by
    funext a; match a with | ⟨0, _⟩ => rfl | ⟨1, _⟩ => rfl
  rw [hi]
  refine Eq.trans ?_ (Cert.Threshold.Hand.keys_left m c (i 0) (i 1)).symm
  rw [← ha]
  exact keys_apply (F := Bits) _ (i 0) (i 1)

theorem threshold_eq : val_main_v6 (F := Bits) (m' ((c.tc : Thread Cert.Ranked.nD Cert.Ranked.τ).loc Cert.Ranked.main_arg0)) = (Cert.Threshold.Gen.dats m 0 c).arrAt 1 Cert.Threshold.cfg0.N := by
  funext i
  have hi : i = ix2 (i 0) 0 := by
    funext a
    match a with
    | ⟨0, _⟩ => rfl
    | ⟨1, _⟩ => exact Fin.ext (by have := (i 1).isLt; change (i 1).val < 1 at this; show (i 1).val = 0; omega)
  rw [hi]
  refine Eq.trans ?_ (Cert.Threshold.Hand.threshold_left m c (i 0)).symm
  rw [← ha, search_ranks]
  exact ranked_apply (F := Bits) _ (i 0)

end AtBits

/-! ## The claims -/

theorem frame_threshold : Cert.quiescent_Threshold (hThreshold := Cert.Threshold.Gen.facts) := fun m ρ _ => Cert.Threshold.Gen.frame m ρ

theorem frame_thresholdIdeal : Cert.quiescent_ThresholdIdeal (hThresholdIdeal := Cert.ThresholdIdeal.Gen.facts) := fun m ρ _ =>
  Cert.ThresholdIdeal.Gen.frame m ρ

theorem frame_rankedIdeal : Cert.quiescent_RankedIdeal (hRankedIdeal := Cert.RankedIdeal.Gen.facts) := fun m ρ _ =>
  (θ_run (Cert.RankedIdeal.defs (F := Ideal)) _ _).mono
    (fun r h => ⟨fun c => by
      obtain ⟨_, _, hargs⟩ := h c
      exact hargs, sem_eq_zero_of_no_sems (by decide) r.2⟩)
    (Cert.RankedIdeal.Value.run (F := Ideal) m ρ)

theorem frame_ranked : Cert.quiescent_Ranked (hRanked := Cert.Ranked.Gen.facts) := fun m ρ _ =>
  (θ_run (Cert.Ranked.defs (F := Bits)) _ _).mono
    (fun r h => ⟨fun c => by
      obtain ⟨_, _, hargs⟩ := h c
      exact hargs, sem_eq_zero_of_no_sems (by decide) r.2⟩)
    (Cert.Ranked.Value.run (F := Bits) m ρ)

theorem algebraic : Cert.algebraic_ThresholdIdeal_RankedIdeal (hThresholdIdeal := Cert.ThresholdIdeal.Gen.facts)
    (hRankedIdeal := Cert.RankedIdeal.Gen.facts) := by
  intro m ρ m' ρ' _ ha
  refine ⟨fun c => (Cert.ThresholdIdeal.Gen.dats m 0 c).arrAt 1 Cert.ThresholdIdeal.cfg0.N, fun c => (Cert.ThresholdIdeal.Gen.dats m 0 c).arrAt 2 Cert.ThresholdIdeal.cfg0.N,
    Cert.ThresholdIdeal.Value.run_blocks (F := Ideal) m ρ, ?_⟩
  refine (θ_run (Cert.RankedIdeal.defs (F := Ideal)) _ _).mono (fun r h => ?_) (Cert.RankedIdeal.Value.run (F := Ideal) m' ρ')
  intro c
  obtain ⟨r0, r1, hargs⟩ := h c
  exact ⟨r0.trans (AtIdeal.threshold_eq m m' c (ha c)), r1.trans (AtIdeal.keys_eq m m' c (ha c)), hargs⟩

theorem bitexact : Cert.bitexact_Threshold_Ranked (hThreshold := Cert.Threshold.Gen.facts)
    (hRanked := Cert.Ranked.Gen.facts) := by
  intro m ρ m' ρ' _ ha
  refine ⟨fun c => (Cert.Threshold.Gen.dats m 0 c).arrAt 1 Cert.Threshold.cfg0.N, fun c => (Cert.Threshold.Gen.dats m 0 c).arrAt 2 Cert.Threshold.cfg0.N,
    Cert.Threshold.Value.run_blocks (F := Bits) m ρ, ?_⟩
  refine (θ_run (Cert.Ranked.defs (F := Bits)) _ _).mono (fun r h => ?_) (Cert.Ranked.Value.run (F := Bits) m' ρ')
  intro c
  obtain ⟨r0, r1, hargs⟩ := h c
  exact ⟨r0.trans (AtBits.threshold_eq m m' c (ha c)), r1.trans (AtBits.keys_eq m m' c (ha c)), hargs⟩

end Cert.Proof.Tau
end
-- ==== Proof.lean ====
/-
  The proof of `Cert.Claim`: what is proved of the selection, of the suppression, of the convolutions and of the threshold, put together.
-/
module

public import proofs.«01_k».proof.Defs
public import proofs.«01_k».proof.Proof.SelectClaims
public import proofs.«01_k».proof.Proof.NmsClaims
public import proofs.«01_k».proof.Proof.DenseClaims
public import proofs.«01_k».proof.Proof.TauClaims

@[expose] public section

noncomputable section

namespace Cert.Proof

open Idealize.ShloMosaic

theorem claim : Cert.Claim :=
  ⟨Cert.Kernel.Gen.facts, Cert.KernelIdeal.Gen.facts, Cert.ReferenceIdeal.Gen.facts, Cert.Reference.Gen.facts,
    Cert.Suppress.Gen.facts, Cert.SuppressIdeal.Gen.facts, Cert.GreedyIdeal.Gen.facts, Cert.Greedy.Gen.facts,
    Cert.Trunk.Gen.facts, Cert.TrunkIdeal.Gen.facts, Cert.ProposalsIdeal.Gen.facts, Cert.Proposals.Gen.facts,
    Cert.Threshold.Gen.facts, Cert.ThresholdIdeal.Gen.facts, Cert.RankedIdeal.Gen.facts, Cert.Ranked.Gen.facts,
    Cert.Pre_counts_fit.Gen.facts, Cert.Pre_candidates_differ.Gen.facts,
    frame_kernel, frame_kernelIdeal, frame_referenceIdeal, fun m ρ _ => frame_referenceIdeal m ρ trivial, frame_reference,
    Suppression.frame_suppress, Suppression.frame_suppressIdeal, Suppression.frame_suppressIdeal_differ,
    Suppression.frame_greedyIdeal, Suppression.frame_greedyIdeal_differ, Suppression.frame_greedy,
    Dense.frame_trunk, Dense.frame_trunkIdeal, Dense.frame_proposalsIdeal, Dense.frame_proposals,
    Tau.frame_threshold, Tau.frame_thresholdIdeal, Tau.frame_rankedIdeal, Tau.frame_ranked,
    trivial, algebraic, bitexact, trivial, Suppression.algebraic, trivial, Dense.algebraic, trivial,
    Tau.algebraic, Tau.bitexact⟩

end Cert.Proof

end
